-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_value_side [hPre_finite_value_side : Cert.Pre_finite_value_side.Facts] (m : (ℓ : Loc Cert.KernelIdeal.nD Cert.KernelIdeal.τ Cert.KernelIdeal.sig) → Buf (Elt Ideal) ℓ) : Prop :=
  ∀ c : Dev Cert.KernelIdeal.nD,
    (Cert.Pre_finite_value_side.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_value_side.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_value_side.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_value_side.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_value_side [hPre_finite_value_side : Cert.Pre_finite_value_side.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_value_side.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_value_side.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_value_side.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_value_side.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaRefIdeal (m : (ℓ : Loc Cert.UpDaRefIdeal.nD Cert.UpDaRefIdeal.τ Cert.UpDaRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerRefIdeal (m : (ℓ : Loc Cert.InnerRefIdeal.nD Cert.InnerRefIdeal.τ Cert.InnerRefIdeal.sig) → Buf (Elt Ideal) ℓ) : Prop :=
  True

def Pre_Outer (m : (ℓ : Loc Cert.Outer.nD Cert.Outer.τ Cert.Outer.sig) → Buf (Elt Bits) ℓ) : Prop :=
  True

def Pre_OuterIdeal (m : (ℓ : Loc Cert.OuterIdeal.nD Cert.OuterIdeal.τ Cert.OuterIdeal.sig) → Buf (Elt Ideal) ℓ) : Prop :=
  True

def Pre_OuterRefIdeal (m : (ℓ : Loc Cert.OuterRefIdeal.nD Cert.OuterRefIdeal.τ Cert.OuterRefIdeal.sig) → Buf (Elt Ideal) ℓ) : Prop :=
  True

def Pre_OuterDa (m : (ℓ : Loc Cert.OuterDa.nD Cert.OuterDa.τ Cert.OuterDa.sig) → Buf (Elt Bits) ℓ) : Prop :=
  True

def Pre_OuterDaIdeal (m : (ℓ : Loc Cert.OuterDaIdeal.nD Cert.OuterDaIdeal.τ Cert.OuterDaIdeal.sig) → Buf (Elt Ideal) ℓ) : Prop :=
  True

def Pre_OuterDaRefIdeal (m : (ℓ : Loc Cert.OuterDaRefIdeal.nD Cert.OuterDaRefIdeal.τ Cert.OuterDaRefIdeal.sig) → Buf (Elt Ideal) ℓ) : Prop :=
  True

def Pre_OuterDw (m : (ℓ : Loc Cert.OuterDw.nD Cert.OuterDw.τ Cert.OuterDw.sig) → Buf (Elt Bits) ℓ) : Prop :=
  True

def Pre_OuterDwIdeal (m : (ℓ : Loc Cert.OuterDwIdeal.nD Cert.OuterDwIdeal.τ Cert.OuterDwIdeal.sig) → Buf (Elt Ideal) ℓ) : Prop :=
  True

def Pre_OuterDwRefIdeal (m : (ℓ : Loc Cert.OuterDwRefIdeal.nD Cert.OuterDwRefIdeal.τ Cert.OuterDwRefIdeal.sig) → Buf (Elt Ideal) ℓ) : Prop :=
  True

def Pre_InnerDa (m : (ℓ : Loc Cert.InnerDa.nD Cert.InnerDa.τ Cert.InnerDa.sig) → Buf (Elt Bits) ℓ) : Prop :=
  True

def Pre_InnerDaIdeal (m : (ℓ : Loc Cert.InnerDaIdeal.nD Cert.InnerDaIdeal.τ Cert.InnerDaIdeal.sig) → Buf (Elt Ideal) ℓ) : Prop :=
  True

def Pre_InnerDaRefIdeal (m : (ℓ : Loc Cert.InnerDaRefIdeal.nD Cert.InnerDaRefIdeal.τ Cert.InnerDaRefIdeal.sig) → Buf (Elt Ideal) ℓ) : Prop :=
  True

def Pre_InnerDw (m : (ℓ : Loc Cert.InnerDw.nD Cert.InnerDw.τ Cert.InnerDw.sig) → Buf (Elt Bits) ℓ) : Prop :=
  True

def Pre_InnerDwIdeal (m : (ℓ : Loc Cert.InnerDwIdeal.nD Cert.InnerDwIdeal.τ Cert.InnerDwIdeal.sig) → Buf (Elt Ideal) ℓ) : Prop :=
  True

def Pre_InnerDwRefIdeal (m : (ℓ : Loc Cert.InnerDwRefIdeal.nD Cert.InnerDwRefIdeal.τ Cert.InnerDwRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def Pre_StateDa (m : (ℓ : Loc Cert.StateDa.nD Cert.StateDa.τ Cert.StateDa.sig) → Buf (Elt Bits) ℓ) : Prop :=
  True

def Pre_StateDaIdeal (m : (ℓ : Loc Cert.StateDaIdeal.nD Cert.StateDaIdeal.τ Cert.StateDaIdeal.sig) → Buf (Elt Ideal) ℓ) : Prop :=
  True

def Pre_StateDaRefIdeal (m : (ℓ : Loc Cert.StateDaRefIdeal.nD Cert.StateDaRefIdeal.τ Cert.StateDaRefIdeal.sig) → Buf (Elt Ideal) ℓ) : Prop :=
  True

def Pre_StateDw (m : (ℓ : Loc Cert.StateDw.nD Cert.StateDw.τ Cert.StateDw.sig) → Buf (Elt Bits) ℓ) : Prop :=
  True

def Pre_StateDwIdeal (m : (ℓ : Loc Cert.StateDwIdeal.nD Cert.StateDwIdeal.τ Cert.StateDwIdeal.sig) → Buf (Elt Ideal) ℓ) : Prop :=
  True

def Pre_StateDwRefIdeal (m : (ℓ : Loc Cert.StateDwRefIdeal.nD Cert.StateDwRefIdeal.τ Cert.StateDwRefIdeal.sig) → Buf (Elt Ideal) ℓ) : Prop :=
  True

def Pre_HeadDa (m : (ℓ : Loc Cert.HeadDa.nD Cert.HeadDa.τ Cert.HeadDa.sig) → Buf (Elt Bits) ℓ) : Prop :=
  True

def Pre_HeadDaIdeal (m : (ℓ : Loc Cert.HeadDaIdeal.nD Cert.HeadDaIdeal.τ Cert.HeadDaIdeal.sig) → Buf (Elt Ideal) ℓ) : Prop :=
  True

def Pre_HeadDaRefIdeal (m : (ℓ : Loc Cert.HeadDaRefIdeal.nD Cert.HeadDaRefIdeal.τ Cert.HeadDaRefIdeal.sig) → Buf (Elt Ideal) ℓ) : Prop :=
  True

def Pre_HeadDw (m : (ℓ : Loc Cert.HeadDw.nD Cert.HeadDw.τ Cert.HeadDw.sig) → Buf (Elt Bits) ℓ) : Prop :=
  True

def Pre_HeadDwIdeal (m : (ℓ : Loc Cert.HeadDwIdeal.nD Cert.HeadDwIdeal.τ Cert.HeadDwIdeal.sig) → Buf (Elt Ideal) ℓ) : Prop :=
  True

def Pre_HeadDwRefIdeal (m : (ℓ : Loc Cert.HeadDwRefIdeal.nD Cert.HeadDwRefIdeal.τ Cert.HeadDwRefIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearRefIdeal (m : (ℓ : Loc Cert.NearRefIdeal.nD Cert.NearRefIdeal.τ Cert.NearRefIdeal.sig) → Buf (Elt Ideal) ℓ) : Prop :=
  True

def Pre_MixDa (m : (ℓ : Loc Cert.MixDa.nD Cert.MixDa.τ Cert.MixDa.sig) → Buf (Elt Bits) ℓ) : Prop :=
  True

def Pre_MixDaIdeal (m : (ℓ : Loc Cert.MixDaIdeal.nD Cert.MixDaIdeal.τ Cert.MixDaIdeal.sig) → Buf (Elt Ideal) ℓ) : Prop :=
  True

def Pre_MixDaRefIdeal (m : (ℓ : Loc Cert.MixDaRefIdeal.nD Cert.MixDaRefIdeal.τ Cert.MixDaRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamAbIn (m : (ℓ : Loc Cert.AdamAbIn.nD Cert.AdamAbIn.τ Cert.AdamAbIn.sig) → Buf (Elt Bits) ℓ) : Prop :=
  True

def Pre_AdamAbInIdeal (m : (ℓ : Loc Cert.AdamAbInIdeal.nD Cert.AdamAbInIdeal.τ Cert.AdamAbInIdeal.sig) → Buf (Elt Ideal) ℓ) : Prop :=
  True

def Pre_AdamAbInRefIdeal (m : (ℓ : Loc Cert.AdamAbInRefIdeal.nD Cert.AdamAbInRefIdeal.τ Cert.AdamAbInRefIdeal.sig) → Buf (Elt Ideal) ℓ) : Prop :=
  True

def Pre_AdamDecay (m : (ℓ : Loc Cert.AdamDecay.nD Cert.AdamDecay.τ Cert.AdamDecay.sig) → Buf (Elt Bits) ℓ) : Prop :=
  True

def Pre_AdamDecayIdeal (m : (ℓ : Loc Cert.AdamDecayIdeal.nD Cert.AdamDecayIdeal.τ Cert.AdamDecayIdeal.sig) → Buf (Elt Ideal) ℓ) : Prop :=
  True

def Pre_AdamDecayRefIdeal (m : (ℓ : Loc Cert.AdamDecayRefIdeal.nD Cert.AdamDecayRefIdeal.τ Cert.AdamDecayRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamRpb (m : (ℓ : Loc Cert.AdamRpb.nD Cert.AdamRpb.τ Cert.AdamRpb.sig) → Buf (Elt Bits) ℓ) : Prop :=
  True

def Pre_AdamRpbIdeal (m : (ℓ : Loc Cert.AdamRpbIdeal.nD Cert.AdamRpbIdeal.τ Cert.AdamRpbIdeal.sig) → Buf (Elt Ideal) ℓ) : Prop :=
  True

def Pre_AdamRpbRefIdeal (m : (ℓ : Loc Cert.AdamRpbRefIdeal.nD Cert.AdamRpbRefIdeal.τ Cert.AdamRpbRefIdeal.sig) → Buf (Elt Ideal) ℓ) : Prop :=
  True

def Pre_AdamAbOut (m : (ℓ : Loc Cert.AdamAbOut.nD Cert.AdamAbOut.τ Cert.AdamAbOut.sig) → Buf (Elt Bits) ℓ) : Prop :=
  True

def Pre_AdamAbOutIdeal (m : (ℓ : Loc Cert.AdamAbOutIdeal.nD Cert.AdamAbOutIdeal.τ Cert.AdamAbOutIdeal.sig) → Buf (Elt Ideal) ℓ) : Prop :=
  True

def Pre_AdamAbOutRefIdeal (m : (ℓ : Loc Cert.AdamAbOutRefIdeal.nD Cert.AdamAbOutRefIdeal.τ Cert.AdamAbOutRefIdeal.sig) → Buf (Elt Ideal) ℓ) : Prop :=
  True

def Pre_AdamCIn (m : (ℓ : Loc Cert.AdamCIn.nD Cert.AdamCIn.τ Cert.AdamCIn.sig) → Buf (Elt Bits) ℓ) : Prop :=
  True

def Pre_AdamCInIdeal (m : (ℓ : Loc Cert.AdamCInIdeal.nD Cert.AdamCInIdeal.τ Cert.AdamCInIdeal.sig) → Buf (Elt Ideal) ℓ) : Prop :=
  True

def Pre_AdamCInRefIdeal (m : (ℓ : Loc Cert.AdamCInRefIdeal.nD Cert.AdamCInRefIdeal.τ Cert.AdamCInRefIdeal.sig) → Buf (Elt Ideal) ℓ) : Prop :=
  True

def Pre_AdamCConv (m : (ℓ : Loc Cert.AdamCConv.nD Cert.AdamCConv.τ Cert.AdamCConv.sig) → Buf (Elt Bits) ℓ) : Prop :=
  True

def Pre_AdamCConvIdeal (m : (ℓ : Loc Cert.AdamCConvIdeal.nD Cert.AdamCConvIdeal.τ Cert.AdamCConvIdeal.sig) → Buf (Elt Ideal) ℓ) : Prop :=
  True

def Pre_AdamCConvRefIdeal (m : (ℓ : Loc Cert.AdamCConvRefIdeal.nD Cert.AdamCConvRefIdeal.τ Cert.AdamCConvRefIdeal.sig) → Buf (Elt Ideal) ℓ) : Prop :=
  True

def Pre_AdamCBias (m : (ℓ : Loc Cert.AdamCBias.nD Cert.AdamCBias.τ Cert.AdamCBias.sig) → Buf (Elt Bits) ℓ) : Prop :=
  True

def Pre_AdamCBiasIdeal (m : (ℓ : Loc Cert.AdamCBiasIdeal.nD Cert.AdamCBiasIdeal.τ Cert.AdamCBiasIdeal.sig) → Buf (Elt Ideal) ℓ) : Prop :=
  True

def Pre_AdamCBiasRefIdeal (m : (ℓ : Loc Cert.AdamCBiasRefIdeal.nD Cert.AdamCBiasRefIdeal.τ Cert.AdamCBiasRefIdeal.sig) → Buf (Elt Ideal) ℓ) : Prop :=
  True

def Pre_AdamDt (m : (ℓ : Loc Cert.AdamDt.nD Cert.AdamDt.τ Cert.AdamDt.sig) → Buf (Elt Bits) ℓ) : Prop :=
  True

def Pre_AdamDtIdeal (m : (ℓ : Loc Cert.AdamDtIdeal.nD Cert.AdamDtIdeal.τ Cert.AdamDtIdeal.sig) → Buf (Elt Ideal) ℓ) : Prop :=
  True

def Pre_AdamDtRefIdeal (m : (ℓ : Loc Cert.AdamDtRefIdeal.nD Cert.AdamDtRefIdeal.τ Cert.AdamDtRefIdeal.sig) → Buf (Elt Ideal) ℓ) : Prop :=
  True

def Pre_AdamSkip (m : (ℓ : Loc Cert.AdamSkip.nD Cert.AdamSkip.τ Cert.AdamSkip.sig) → Buf (Elt Bits) ℓ) : Prop :=
  True

def Pre_AdamSkipIdeal (m : (ℓ : Loc Cert.AdamSkipIdeal.nD Cert.AdamSkipIdeal.τ Cert.AdamSkipIdeal.sig) → Buf (Elt Ideal) ℓ) : Prop :=
  True

def Pre_AdamSkipRefIdeal (m : (ℓ : Loc Cert.AdamSkipRefIdeal.nD Cert.AdamSkipRefIdeal.τ Cert.AdamSkipRefIdeal.sig) → Buf (Elt Ideal) ℓ) : Prop :=
  True

def Pre_AdamCOut (m : (ℓ : Loc Cert.AdamCOut.nD Cert.AdamCOut.τ Cert.AdamCOut.sig) → Buf (Elt Bits) ℓ) : Prop :=
  True

def Pre_AdamCOutIdeal (m : (ℓ : Loc Cert.AdamCOutIdeal.nD Cert.AdamCOutIdeal.τ Cert.AdamCOutIdeal.sig) → Buf (Elt Ideal) ℓ) : Prop :=
  True

def Pre_AdamCOutRefIdeal (m : (ℓ : Loc Cert.AdamCOutRefIdeal.nD Cert.AdamCOutRefIdeal.τ Cert.AdamCOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamFConv (m : (ℓ : Loc Cert.AdamFConv.nD Cert.AdamFConv.τ Cert.AdamFConv.sig) → Buf (Elt Bits) ℓ) : Prop :=
  True

def Pre_AdamFConvIdeal (m : (ℓ : Loc Cert.AdamFConvIdeal.nD Cert.AdamFConvIdeal.τ Cert.AdamFConvIdeal.sig) → Buf (Elt Ideal) ℓ) : Prop :=
  True

def Pre_AdamFConvRefIdeal (m : (ℓ : Loc Cert.AdamFConvRefIdeal.nD Cert.AdamFConvRefIdeal.τ Cert.AdamFConvRefIdeal.sig) → Buf (Elt Ideal) ℓ) : Prop :=
  True

def Pre_AdamFBias (m : (ℓ : Loc Cert.AdamFBias.nD Cert.AdamFBias.τ Cert.AdamFBias.sig) → Buf (Elt Bits) ℓ) : Prop :=
  True

def Pre_AdamFBiasIdeal (m : (ℓ : Loc Cert.AdamFBiasIdeal.nD Cert.AdamFBiasIdeal.τ Cert.AdamFBiasIdeal.sig) → Buf (Elt Ideal) ℓ) : Prop :=
  True

def Pre_AdamFBiasRefIdeal (m : (ℓ : Loc Cert.AdamFBiasRefIdeal.nD Cert.AdamFBiasRefIdeal.τ Cert.AdamFBiasRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_StepDa (m : (ℓ : Loc Cert.StepDa.nD Cert.StepDa.τ Cert.StepDa.sig) → Buf (Elt Bits) ℓ) : Prop :=
  True

def Pre_StepDaIdeal (m : (ℓ : Loc Cert.StepDaIdeal.nD Cert.StepDaIdeal.τ Cert.StepDaIdeal.sig) → Buf (Elt Ideal) ℓ) : Prop :=
  True

def Pre_StepDaRefIdeal (m : (ℓ : Loc Cert.StepDaRefIdeal.nD Cert.StepDaRefIdeal.τ Cert.StepDaRefIdeal.sig) → Buf (Elt Ideal) ℓ) : Prop :=
  True

def Pre_StepDw (m : (ℓ : Loc Cert.StepDw.nD Cert.StepDw.τ Cert.StepDw.sig) → Buf (Elt Bits) ℓ) : Prop :=
  True

def Pre_StepDwIdeal (m : (ℓ : Loc Cert.StepDwIdeal.nD Cert.StepDwIdeal.τ Cert.StepDwIdeal.sig) → Buf (Elt Ideal) ℓ) : Prop :=
  True

def Pre_StepDwRefIdeal (m : (ℓ : Loc Cert.StepDwRefIdeal.nD Cert.StepDwRefIdeal.τ Cert.StepDwRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_LossDy (m : (ℓ : Loc Cert.LossDy.nD Cert.LossDy.τ Cert.LossDy.sig) → Buf (Elt Bits) ℓ) : Prop :=
  True

def Pre_LossDyIdeal (m : (ℓ : Loc Cert.LossDyIdeal.nD Cert.LossDyIdeal.τ Cert.LossDyIdeal.sig) → Buf (Elt Ideal) ℓ) : Prop :=
  True

def Pre_LossDyRefIdeal (m : (ℓ : Loc Cert.LossDyRefIdeal.nD Cert.LossDyRefIdeal.τ Cert.LossDyRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_Joined (m : (ℓ : Loc Cert.Joined.nD Cert.Joined.τ Cert.Joined.sig) → Buf (Elt Bits) ℓ) : Prop :=
  True

def Pre_JoinedIdeal (m : (ℓ : Loc Cert.JoinedIdeal.nD Cert.JoinedIdeal.τ Cert.JoinedIdeal.sig) → Buf (Elt Ideal) ℓ) : Prop :=
  True

def Pre_JoinedRefIdeal (m : (ℓ : Loc Cert.JoinedRefIdeal.nD Cert.JoinedRefIdeal.τ Cert.JoinedRefIdeal.sig) → Buf (Elt Ideal) ℓ) : Prop :=
  True

def Pre_RmsDx (m : (ℓ : Loc Cert.RmsDx.nD Cert.RmsDx.τ Cert.RmsDx.sig) → Buf (Elt Bits) ℓ) : Prop :=
  True

def Pre_RmsDxIdeal (m : (ℓ : Loc Cert.RmsDxIdeal.nD Cert.RmsDxIdeal.τ Cert.RmsDxIdeal.sig) → Buf (Elt Ideal) ℓ) : Prop :=
  True

def Pre_RmsDxRefIdeal (m : (ℓ : Loc Cert.RmsDxRefIdeal.nD Cert.RmsDxRefIdeal.τ Cert.RmsDxRefIdeal.sig) → Buf (Elt Ideal) ℓ) : Prop :=
  True

def Pre_ResidualDx (m : (ℓ : Loc Cert.ResidualDx.nD Cert.ResidualDx.τ Cert.ResidualDx.sig) → Buf (Elt Bits) ℓ) : Prop :=
  True

def Pre_ResidualDxIdeal (m : (ℓ : Loc Cert.ResidualDxIdeal.nD Cert.ResidualDxIdeal.τ Cert.ResidualDxIdeal.sig) → Buf (Elt Ideal) ℓ) : Prop :=
  True

def Pre_ResidualDxRefIdeal (m : (ℓ : Loc Cert.ResidualDxRefIdeal.nD Cert.ResidualDxRefIdeal.τ Cert.ResidualDxRefIdeal.sig) → Buf (Elt Ideal) ℓ) : Prop :=
  True

def Pre_JoinedDx (m : (ℓ : Loc Cert.JoinedDx.nD Cert.JoinedDx.τ Cert.JoinedDx.sig) → Buf (Elt Bits) ℓ) : Prop :=
  True

def Pre_JoinedDxIdeal (m : (ℓ : Loc Cert.JoinedDxIdeal.nD Cert.JoinedDxIdeal.τ Cert.JoinedDxIdeal.sig) → Buf (Elt Ideal) ℓ) : Prop :=
  True

def Pre_JoinedDxRefIdeal (m : (ℓ : Loc Cert.JoinedDxRefIdeal.nD Cert.JoinedDxRefIdeal.τ Cert.JoinedDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_value_side [hKernelIdeal : Cert.KernelIdeal.Facts] [hPre_finite_value_side : Cert.Pre_finite_value_side.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_value_side m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_value_side [hReferenceIdeal : Cert.ReferenceIdeal.Facts] [hPre_finite_value_side : Cert.Pre_finite_value_side.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_value_side m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ r.2.sem = fun _ => 0)

def quiescent_UpDaRefIdeal [hUpDaRefIdeal : Cert.UpDaRefIdeal.Facts] : Prop :=
  ∀ (m : (ℓ : Loc Cert.UpDaRefIdeal.nD Cert.UpDaRefIdeal.τ Cert.UpDaRefIdeal.sig) → Buf (Elt Ideal) ℓ) (g : Dev Cert.UpDaRefIdeal.nD → PrngReg), Pre_UpDaRefIdeal m →
    θ_run (Cert.UpDaRefIdeal.defs (F := Ideal)) (onTc (τ := Cert.UpDaRefIdeal.τ) (Cert.UpDaRefIdeal.main (F := Ideal))) ⟨m, fun _ => 0, g⟩ (fun r => (∀ c : Dev Cert.UpDaRefIdeal.nD,
      r.2.mem ((c.tc : Thread Cert.UpDaRefIdeal.nD Cert.UpDaRefIdeal.τ).loc Cert.UpDaRefIdeal.main_arg0) = m ((c.tc : Thread Cert.UpDaRefIdeal.nD Cert.UpDaRefIdeal.τ).loc Cert.UpDaRefIdeal.main_arg0)
      ∧ r.2.mem ((c.tc : Thread Cert.UpDaRefIdeal.nD Cert.UpDaRefIdeal.τ).loc Cert.UpDaRefIdeal.main_arg1) = m ((c.tc : Thread Cert.UpDaRefIdeal.nD Cert.UpDaRefIdeal.τ).loc Cert.UpDaRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1))
      ∧ r.2.sem = fun _ => 0)

def quiescent_Outer [hOuter : Cert.Outer.Facts] : Prop :=
  ∀ (m : (ℓ : Loc Cert.Outer.nD Cert.Outer.τ Cert.Outer.sig) → Buf (Elt Bits) ℓ) (g : Dev Cert.Outer.nD → PrngReg), Pre_Outer m →
    θ_run (Cert.Outer.defs (F := Bits)) (onTc (τ := Cert.Outer.τ) (Cert.Outer.main (F := Bits))) ⟨m, fun _ => 0, g⟩ (fun r => (∀ c : Dev Cert.Outer.nD,
      r.2.mem ((c.tc : Thread Cert.Outer.nD Cert.Outer.τ).loc Cert.Outer.main_arg0) = m ((c.tc : Thread Cert.Outer.nD Cert.Outer.τ).loc Cert.Outer.main_arg0)
      ∧ r.2.mem ((c.tc : Thread Cert.Outer.nD Cert.Outer.τ).loc Cert.Outer.main_arg1) = m ((c.tc : Thread Cert.Outer.nD Cert.Outer.τ).loc Cert.Outer.main_arg1))
      ∧ r.2.sem = fun _ => 0)

def quiescent_OuterIdeal [hOuterIdeal : Cert.OuterIdeal.Facts] : Prop :=
  ∀ (m : (ℓ : Loc Cert.OuterIdeal.nD Cert.OuterIdeal.τ Cert.OuterIdeal.sig) → Buf (Elt Ideal) ℓ) (g : Dev Cert.OuterIdeal.nD → PrngReg), Pre_OuterIdeal m →
    θ_run (Cert.OuterIdeal.defs (F := Ideal)) (onTc (τ := Cert.OuterIdeal.τ) (Cert.OuterIdeal.main (F := Ideal))) ⟨m, fun _ => 0, g⟩ (fun r => (∀ c : Dev Cert.OuterIdeal.nD,
      r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
      ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ r.2.sem = fun _ => 0)

def quiescent_OuterRefIdeal [hOuterRefIdeal : Cert.OuterRefIdeal.Facts] : Prop :=
  ∀ (m : (ℓ : Loc Cert.OuterRefIdeal.nD Cert.OuterRefIdeal.τ Cert.OuterRefIdeal.sig) → Buf (Elt Ideal) ℓ) (g : Dev Cert.OuterRefIdeal.nD → PrngReg), Pre_OuterRefIdeal m →
    θ_run (Cert.OuterRefIdeal.defs (F := Ideal)) (onTc (τ := Cert.OuterRefIdeal.τ) (Cert.OuterRefIdeal.main (F := Ideal))) ⟨m, fun _ => 0, g⟩ (fun r => (∀ c : Dev Cert.OuterRefIdeal.nD,
      r.2.mem ((c.tc : Thread Cert.OuterRefIdeal.nD Cert.OuterRefIdeal.τ).loc Cert.OuterRefIdeal.main_arg0) = m ((c.tc : Thread Cert.OuterRefIdeal.nD Cert.OuterRefIdeal.τ).loc Cert.OuterRefIdeal.main_arg0)
      ∧ r.2.mem ((c.tc : Thread Cert.OuterRefIdeal.nD Cert.OuterRefIdeal.τ).loc Cert.OuterRefIdeal.main_arg1) = m ((c.tc : Thread Cert.OuterRefIdeal.nD Cert.OuterRefIdeal.τ).loc Cert.OuterRefIdeal.main_arg1))
      ∧ r.2.sem = fun _ => 0)

def quiescent_OuterDa [hOuterDa : Cert.OuterDa.Facts] : Prop :=
  ∀ (m : (ℓ : Loc Cert.OuterDa.nD Cert.OuterDa.τ Cert.OuterDa.sig) → Buf (Elt Bits) ℓ) (g : Dev Cert.OuterDa.nD → PrngReg), Pre_OuterDa m →
    θ_run (Cert.OuterDa.defs (F := Bits)) (onTc (τ := Cert.OuterDa.τ) (Cert.OuterDa.main (F := Bits))) ⟨m, fun _ => 0, g⟩ (fun r => (∀ c : Dev Cert.OuterDa.nD,
      r.2.mem ((c.tc : Thread Cert.OuterDa.nD Cert.OuterDa.τ).loc Cert.OuterDa.main_arg0) = m ((c.tc : Thread Cert.OuterDa.nD Cert.OuterDa.τ).loc Cert.OuterDa.main_arg0)
      ∧ r.2.mem ((c.tc : Thread Cert.OuterDa.nD Cert.OuterDa.τ).loc Cert.OuterDa.main_arg1) = m ((c.tc : Thread Cert.OuterDa.nD Cert.OuterDa.τ).loc Cert.OuterDa.main_arg1))
      ∧ r.2.sem = fun _ => 0)

def quiescent_OuterDaIdeal [hOuterDaIdeal : Cert.OuterDaIdeal.Facts] : Prop :=
  ∀ (m : (ℓ : Loc Cert.OuterDaIdeal.nD Cert.OuterDaIdeal.τ Cert.OuterDaIdeal.sig) → Buf (Elt Ideal) ℓ) (g : Dev Cert.OuterDaIdeal.nD → PrngReg), Pre_OuterDaIdeal m →
    θ_run (Cert.OuterDaIdeal.defs (F := Ideal)) (onTc (τ := Cert.OuterDaIdeal.τ) (Cert.OuterDaIdeal.main (F := Ideal))) ⟨m, fun _ => 0, g⟩ (fun r => (∀ c : Dev Cert.OuterDaIdeal.nD,
      r.2.mem ((c.tc : Thread Cert.OuterDaIdeal.nD Cert.OuterDaIdeal.τ).loc Cert.OuterDaIdeal.main_arg0) = m ((c.tc : Thread Cert.OuterDaIdeal.nD Cert.OuterDaIdeal.τ).loc Cert.OuterDaIdeal.main_arg0)
      ∧ r.2.mem ((c.tc : Thread Cert.OuterDaIdeal.nD Cert.OuterDaIdeal.τ).loc Cert.OuterDaIdeal.main_arg1) = m ((c.tc : Thread Cert.OuterDaIdeal.nD Cert.OuterDaIdeal.τ).loc Cert.OuterDaIdeal.main_arg1))
      ∧ r.2.sem = fun _ => 0)

def quiescent_OuterDaRefIdeal [hOuterDaRefIdeal : Cert.OuterDaRefIdeal.Facts] : Prop :=
  ∀ (m : (ℓ : Loc Cert.OuterDaRefIdeal.nD Cert.OuterDaRefIdeal.τ Cert.OuterDaRefIdeal.sig) → Buf (Elt Ideal) ℓ) (g : Dev Cert.OuterDaRefIdeal.nD → PrngReg), Pre_OuterDaRefIdeal m →
    θ_run (Cert.OuterDaRefIdeal.defs (F := Ideal)) (onTc (τ := Cert.OuterDaRefIdeal.τ) (Cert.OuterDaRefIdeal.main (F := Ideal))) ⟨m, fun _ => 0, g⟩ (fun r => (∀ c : Dev Cert.OuterDaRefIdeal.nD,
      r.2.mem ((c.tc : Thread Cert.OuterDaRefIdeal.nD Cert.OuterDaRefIdeal.τ).loc Cert.OuterDaRefIdeal.main_arg0) = m ((c.tc : Thread Cert.OuterDaRefIdeal.nD Cert.OuterDaRefIdeal.τ).loc Cert.OuterDaRefIdeal.main_arg0)
      ∧ r.2.mem ((c.tc : Thread Cert.OuterDaRefIdeal.nD Cert.OuterDaRefIdeal.τ).loc Cert.OuterDaRefIdeal.main_arg1) = m ((c.tc : Thread Cert.OuterDaRefIdeal.nD Cert.OuterDaRefIdeal.τ).loc Cert.OuterDaRefIdeal.main_arg1))
      ∧ r.2.sem = fun _ => 0)

def quiescent_OuterDw [hOuterDw : Cert.OuterDw.Facts] : Prop :=
  ∀ (m : (ℓ : Loc Cert.OuterDw.nD Cert.OuterDw.τ Cert.OuterDw.sig) → Buf (Elt Bits) ℓ) (g : Dev Cert.OuterDw.nD → PrngReg), Pre_OuterDw m →
    θ_run (Cert.OuterDw.defs (F := Bits)) (onTc (τ := Cert.OuterDw.τ) (Cert.OuterDw.main (F := Bits))) ⟨m, fun _ => 0, g⟩ (fun r => (∀ c : Dev Cert.OuterDw.nD,
      r.2.mem ((c.tc : Thread Cert.OuterDw.nD Cert.OuterDw.τ).loc Cert.OuterDw.main_arg0) = m ((c.tc : Thread Cert.OuterDw.nD Cert.OuterDw.τ).loc Cert.OuterDw.main_arg0)
      ∧ r.2.mem ((c.tc : Thread Cert.OuterDw.nD Cert.OuterDw.τ).loc Cert.OuterDw.main_arg1) = m ((c.tc : Thread Cert.OuterDw.nD Cert.OuterDw.τ).loc Cert.OuterDw.main_arg1))
      ∧ r.2.sem = fun _ => 0)

def quiescent_OuterDwIdeal [hOuterDwIdeal : Cert.OuterDwIdeal.Facts] : Prop :=
  ∀ (m : (ℓ : Loc Cert.OuterDwIdeal.nD Cert.OuterDwIdeal.τ Cert.OuterDwIdeal.sig) → Buf (Elt Ideal) ℓ) (g : Dev Cert.OuterDwIdeal.nD → PrngReg), Pre_OuterDwIdeal m →
    θ_run (Cert.OuterDwIdeal.defs (F := Ideal)) (onTc (τ := Cert.OuterDwIdeal.τ) (Cert.OuterDwIdeal.main (F := Ideal))) ⟨m, fun _ => 0, g⟩ (fun r => (∀ c : Dev Cert.OuterDwIdeal.nD,
      r.2.mem ((c.tc : Thread Cert.OuterDwIdeal.nD Cert.OuterDwIdeal.τ).loc Cert.OuterDwIdeal.main_arg0) = m ((c.tc : Thread Cert.OuterDwIdeal.nD Cert.OuterDwIdeal.τ).loc Cert.OuterDwIdeal.main_arg0)
      ∧ r.2.mem ((c.tc : Thread Cert.OuterDwIdeal.nD Cert.OuterDwIdeal.τ).loc Cert.OuterDwIdeal.main_arg1) = m ((c.tc : Thread Cert.OuterDwIdeal.nD Cert.OuterDwIdeal.τ).loc Cert.OuterDwIdeal.main_arg1))
      ∧ r.2.sem = fun _ => 0)

def quiescent_OuterDwRefIdeal [hOuterDwRefIdeal : Cert.OuterDwRefIdeal.Facts] : Prop :=
  ∀ (m : (ℓ : Loc Cert.OuterDwRefIdeal.nD Cert.OuterDwRefIdeal.τ Cert.OuterDwRefIdeal.sig) → Buf (Elt Ideal) ℓ) (g : Dev Cert.OuterDwRefIdeal.nD → PrngReg), Pre_OuterDwRefIdeal m →
    θ_run (Cert.OuterDwRefIdeal.defs (F := Ideal)) (onTc (τ := Cert.OuterDwRefIdeal.τ) (Cert.OuterDwRefIdeal.main (F := Ideal))) ⟨m, fun _ => 0, g⟩ (fun r => (∀ c : Dev Cert.OuterDwRefIdeal.nD,
      r.2.mem ((c.tc : Thread Cert.OuterDwRefIdeal.nD Cert.OuterDwRefIdeal.τ).loc Cert.OuterDwRefIdeal.main_arg0) = m ((c.tc : Thread Cert.OuterDwRefIdeal.nD Cert.OuterDwRefIdeal.τ).loc Cert.OuterDwRefIdeal.main_arg0)
      ∧ r.2.mem ((c.tc : Thread Cert.OuterDwRefIdeal.nD Cert.OuterDwRefIdeal.τ).loc Cert.OuterDwRefIdeal.main_arg1) = m ((c.tc : Thread Cert.OuterDwRefIdeal.nD Cert.OuterDwRefIdeal.τ).loc Cert.OuterDwRefIdeal.main_arg1))
      ∧ r.2.sem = fun _ => 0)

def quiescent_InnerDa [hInnerDa : Cert.InnerDa.Facts] : Prop :=
  ∀ (m : (ℓ : Loc Cert.InnerDa.nD Cert.InnerDa.τ Cert.InnerDa.sig) → Buf (Elt Bits) ℓ) (g : Dev Cert.InnerDa.nD → PrngReg), Pre_InnerDa m →
    θ_run (Cert.InnerDa.defs (F := Bits)) (onTc (τ := Cert.InnerDa.τ) (Cert.InnerDa.main (F := Bits))) ⟨m, fun _ => 0, g⟩ (fun r => (∀ c : Dev Cert.InnerDa.nD,
      r.2.mem ((c.tc : Thread Cert.InnerDa.nD Cert.InnerDa.τ).loc Cert.InnerDa.main_arg0) = m ((c.tc : Thread Cert.InnerDa.nD Cert.InnerDa.τ).loc Cert.InnerDa.main_arg0)
      ∧ r.2.mem ((c.tc : Thread Cert.InnerDa.nD Cert.InnerDa.τ).loc Cert.InnerDa.main_arg1) = m ((c.tc : Thread Cert.InnerDa.nD Cert.InnerDa.τ).loc Cert.InnerDa.main_arg1))
      ∧ r.2.sem = fun _ => 0)

def quiescent_InnerDaIdeal [hInnerDaIdeal : Cert.InnerDaIdeal.Facts] : Prop :=
  ∀ (m : (ℓ : Loc Cert.InnerDaIdeal.nD Cert.InnerDaIdeal.τ Cert.InnerDaIdeal.sig) → Buf (Elt Ideal) ℓ) (g : Dev Cert.InnerDaIdeal.nD → PrngReg), Pre_InnerDaIdeal m →
    θ_run (Cert.InnerDaIdeal.defs (F := Ideal)) (onTc (τ := Cert.InnerDaIdeal.τ) (Cert.InnerDaIdeal.main (F := Ideal))) ⟨m, fun _ => 0, g⟩ (fun r => (∀ c : Dev Cert.InnerDaIdeal.nD,
      r.2.mem ((c.tc : Thread Cert.InnerDaIdeal.nD Cert.InnerDaIdeal.τ).loc Cert.InnerDaIdeal.main_arg0) = m ((c.tc : Thread Cert.InnerDaIdeal.nD Cert.InnerDaIdeal.τ).loc Cert.InnerDaIdeal.main_arg0)
      ∧ r.2.mem ((c.tc : Thread Cert.InnerDaIdeal.nD Cert.InnerDaIdeal.τ).loc Cert.InnerDaIdeal.main_arg1) = m ((c.tc : Thread Cert.InnerDaIdeal.nD Cert.InnerDaIdeal.τ).loc Cert.InnerDaIdeal.main_arg1))
      ∧ r.2.sem = fun _ => 0)

def quiescent_InnerDaRefIdeal [hInnerDaRefIdeal : Cert.InnerDaRefIdeal.Facts] : Prop :=
  ∀ (m : (ℓ : Loc Cert.InnerDaRefIdeal.nD Cert.InnerDaRefIdeal.τ Cert.InnerDaRefIdeal.sig) → Buf (Elt Ideal) ℓ) (g : Dev Cert.InnerDaRefIdeal.nD → PrngReg), Pre_InnerDaRefIdeal m →
    θ_run (Cert.InnerDaRefIdeal.defs (F := Ideal)) (onTc (τ := Cert.InnerDaRefIdeal.τ) (Cert.InnerDaRefIdeal.main (F := Ideal))) ⟨m, fun _ => 0, g⟩ (fun r => (∀ c : Dev Cert.InnerDaRefIdeal.nD,
      r.2.mem ((c.tc : Thread Cert.InnerDaRefIdeal.nD Cert.InnerDaRefIdeal.τ).loc Cert.InnerDaRefIdeal.main_arg0) = m ((c.tc : Thread Cert.InnerDaRefIdeal.nD Cert.InnerDaRefIdeal.τ).loc Cert.InnerDaRefIdeal.main_arg0)
      ∧ r.2.mem ((c.tc : Thread Cert.InnerDaRefIdeal.nD Cert.InnerDaRefIdeal.τ).loc Cert.InnerDaRefIdeal.main_arg1) = m ((c.tc : Thread Cert.InnerDaRefIdeal.nD Cert.InnerDaRefIdeal.τ).loc Cert.InnerDaRefIdeal.main_arg1))
      ∧ r.2.sem = fun _ => 0)

def quiescent_InnerDw [hInnerDw : Cert.InnerDw.Facts] : Prop :=
  ∀ (m : (ℓ : Loc Cert.InnerDw.nD Cert.InnerDw.τ Cert.InnerDw.sig) → Buf (Elt Bits) ℓ) (g : Dev Cert.InnerDw.nD → PrngReg), Pre_InnerDw m →
    θ_run (Cert.InnerDw.defs (F := Bits)) (onTc (τ := Cert.InnerDw.τ) (Cert.InnerDw.main (F := Bits))) ⟨m, fun _ => 0, g⟩ (fun r => (∀ c : Dev Cert.InnerDw.nD,
      r.2.mem ((c.tc : Thread Cert.InnerDw.nD Cert.InnerDw.τ).loc Cert.InnerDw.main_arg0) = m ((c.tc : Thread Cert.InnerDw.nD Cert.InnerDw.τ).loc Cert.InnerDw.main_arg0)
      ∧ r.2.mem ((c.tc : Thread Cert.InnerDw.nD Cert.InnerDw.τ).loc Cert.InnerDw.main_arg1) = m ((c.tc : Thread Cert.InnerDw.nD Cert.InnerDw.τ).loc Cert.InnerDw.main_arg1))
      ∧ r.2.sem = fun _ => 0)

def quiescent_InnerDwIdeal [hInnerDwIdeal : Cert.InnerDwIdeal.Facts] : Prop :=
  ∀ (m : (ℓ : Loc Cert.InnerDwIdeal.nD Cert.InnerDwIdeal.τ Cert.InnerDwIdeal.sig) → Buf (Elt Ideal) ℓ) (g : Dev Cert.InnerDwIdeal.nD → PrngReg), Pre_InnerDwIdeal m →
    θ_run (Cert.InnerDwIdeal.defs (F := Ideal)) (onTc (τ := Cert.InnerDwIdeal.τ) (Cert.InnerDwIdeal.main (F := Ideal))) ⟨m, fun _ => 0, g⟩ (fun r => (∀ c : Dev Cert.InnerDwIdeal.nD,
      r.2.mem ((c.tc : Thread Cert.InnerDwIdeal.nD Cert.InnerDwIdeal.τ).loc Cert.InnerDwIdeal.main_arg0) = m ((c.tc : Thread Cert.InnerDwIdeal.nD Cert.InnerDwIdeal.τ).loc Cert.InnerDwIdeal.main_arg0)
      ∧ r.2.mem ((c.tc : Thread Cert.InnerDwIdeal.nD Cert.InnerDwIdeal.τ).loc Cert.InnerDwIdeal.main_arg1) = m ((c.tc : Thread Cert.InnerDwIdeal.nD Cert.InnerDwIdeal.τ).loc Cert.InnerDwIdeal.main_arg1))
      ∧ r.2.sem = fun _ => 0)

def quiescent_InnerDwRefIdeal [hInnerDwRefIdeal : Cert.InnerDwRefIdeal.Facts] : Prop :=
  ∀ (m : (ℓ : Loc Cert.InnerDwRefIdeal.nD Cert.InnerDwRefIdeal.τ Cert.InnerDwRefIdeal.sig) → Buf (Elt Ideal) ℓ) (g : Dev Cert.InnerDwRefIdeal.nD → PrngReg), Pre_InnerDwRefIdeal m →
    θ_run (Cert.InnerDwRefIdeal.defs (F := Ideal)) (onTc (τ := Cert.InnerDwRefIdeal.τ) (Cert.InnerDwRefIdeal.main (F := Ideal))) ⟨m, fun _ => 0, g⟩ (fun r => (∀ c : Dev Cert.InnerDwRefIdeal.nD,
      r.2.mem ((c.tc : Thread Cert.InnerDwRefIdeal.nD Cert.InnerDwRefIdeal.τ).loc Cert.InnerDwRefIdeal.main_arg0) = m ((c.tc : Thread Cert.InnerDwRefIdeal.nD Cert.InnerDwRefIdeal.τ).loc Cert.InnerDwRefIdeal.main_arg0)
      ∧ r.2.mem ((c.tc : Thread Cert.InnerDwRefIdeal.nD Cert.InnerDwRefIdeal.τ).loc Cert.InnerDwRefIdeal.main_arg1) = m ((c.tc : Thread Cert.InnerDwRefIdeal.nD Cert.InnerDwRefIdeal.τ).loc Cert.InnerDwRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1))
      ∧ r.2.sem = fun _ => 0)

def quiescent_StateDa [hStateDa : Cert.StateDa.Facts] : Prop :=
  ∀ (m : (ℓ : Loc Cert.StateDa.nD Cert.StateDa.τ Cert.StateDa.sig) → Buf (Elt Bits) ℓ) (g : Dev Cert.StateDa.nD → PrngReg), Pre_StateDa m →
    θ_run (Cert.StateDa.defs (F := Bits)) (onTc (τ := Cert.StateDa.τ) (Cert.StateDa.main (F := Bits))) ⟨m, fun _ => 0, g⟩ (fun r => (∀ c : Dev Cert.StateDa.nD,
      r.2.mem ((c.tc : Thread Cert.StateDa.nD Cert.StateDa.τ).loc Cert.StateDa.main_arg0) = m ((c.tc : Thread Cert.StateDa.nD Cert.StateDa.τ).loc Cert.StateDa.main_arg0)
      ∧ r.2.mem ((c.tc : Thread Cert.StateDa.nD Cert.StateDa.τ).loc Cert.StateDa.main_arg1) = m ((c.tc : Thread Cert.StateDa.nD Cert.StateDa.τ).loc Cert.StateDa.main_arg1))
      ∧ r.2.sem = fun _ => 0)

def quiescent_StateDaIdeal [hStateDaIdeal : Cert.StateDaIdeal.Facts] : Prop :=
  ∀ (m : (ℓ : Loc Cert.StateDaIdeal.nD Cert.StateDaIdeal.τ Cert.StateDaIdeal.sig) → Buf (Elt Ideal) ℓ) (g : Dev Cert.StateDaIdeal.nD → PrngReg), Pre_StateDaIdeal m →
    θ_run (Cert.StateDaIdeal.defs (F := Ideal)) (onTc (τ := Cert.StateDaIdeal.τ) (Cert.StateDaIdeal.main (F := Ideal))) ⟨m, fun _ => 0, g⟩ (fun r => (∀ c : Dev Cert.StateDaIdeal.nD,
      r.2.mem ((c.tc : Thread Cert.StateDaIdeal.nD Cert.StateDaIdeal.τ).loc Cert.StateDaIdeal.main_arg0) = m ((c.tc : Thread Cert.StateDaIdeal.nD Cert.StateDaIdeal.τ).loc Cert.StateDaIdeal.main_arg0)
      ∧ r.2.mem ((c.tc : Thread Cert.StateDaIdeal.nD Cert.StateDaIdeal.τ).loc Cert.StateDaIdeal.main_arg1) = m ((c.tc : Thread Cert.StateDaIdeal.nD Cert.StateDaIdeal.τ).loc Cert.StateDaIdeal.main_arg1))
      ∧ r.2.sem = fun _ => 0)

def quiescent_StateDaRefIdeal [hStateDaRefIdeal : Cert.StateDaRefIdeal.Facts] : Prop :=
  ∀ (m : (ℓ : Loc Cert.StateDaRefIdeal.nD Cert.StateDaRefIdeal.τ Cert.StateDaRefIdeal.sig) → Buf (Elt Ideal) ℓ) (g : Dev Cert.StateDaRefIdeal.nD → PrngReg), Pre_StateDaRefIdeal m →
    θ_run (Cert.StateDaRefIdeal.defs (F := Ideal)) (onTc (τ := Cert.StateDaRefIdeal.τ) (Cert.StateDaRefIdeal.main (F := Ideal))) ⟨m, fun _ => 0, g⟩ (fun r => (∀ c : Dev Cert.StateDaRefIdeal.nD,
      r.2.mem ((c.tc : Thread Cert.StateDaRefIdeal.nD Cert.StateDaRefIdeal.τ).loc Cert.StateDaRefIdeal.main_arg0) = m ((c.tc : Thread Cert.StateDaRefIdeal.nD Cert.StateDaRefIdeal.τ).loc Cert.StateDaRefIdeal.main_arg0)
      ∧ r.2.mem ((c.tc : Thread Cert.StateDaRefIdeal.nD Cert.StateDaRefIdeal.τ).loc Cert.StateDaRefIdeal.main_arg1) = m ((c.tc : Thread Cert.StateDaRefIdeal.nD Cert.StateDaRefIdeal.τ).loc Cert.StateDaRefIdeal.main_arg1))
      ∧ r.2.sem = fun _ => 0)

def quiescent_StateDw [hStateDw : Cert.StateDw.Facts] : Prop :=
  ∀ (m : (ℓ : Loc Cert.StateDw.nD Cert.StateDw.τ Cert.StateDw.sig) → Buf (Elt Bits) ℓ) (g : Dev Cert.StateDw.nD → PrngReg), Pre_StateDw m →
    θ_run (Cert.StateDw.defs (F := Bits)) (onTc (τ := Cert.StateDw.τ) (Cert.StateDw.main (F := Bits))) ⟨m, fun _ => 0, g⟩ (fun r => (∀ c : Dev Cert.StateDw.nD,
      r.2.mem ((c.tc : Thread Cert.StateDw.nD Cert.StateDw.τ).loc Cert.StateDw.main_arg0) = m ((c.tc : Thread Cert.StateDw.nD Cert.StateDw.τ).loc Cert.StateDw.main_arg0)
      ∧ r.2.mem ((c.tc : Thread Cert.StateDw.nD Cert.StateDw.τ).loc Cert.StateDw.main_arg1) = m ((c.tc : Thread Cert.StateDw.nD Cert.StateDw.τ).loc Cert.StateDw.main_arg1))
      ∧ r.2.sem = fun _ => 0)

def quiescent_StateDwIdeal [hStateDwIdeal : Cert.StateDwIdeal.Facts] : Prop :=
  ∀ (m : (ℓ : Loc Cert.StateDwIdeal.nD Cert.StateDwIdeal.τ Cert.StateDwIdeal.sig) → Buf (Elt Ideal) ℓ) (g : Dev Cert.StateDwIdeal.nD → PrngReg), Pre_StateDwIdeal m →
    θ_run (Cert.StateDwIdeal.defs (F := Ideal)) (onTc (τ := Cert.StateDwIdeal.τ) (Cert.StateDwIdeal.main (F := Ideal))) ⟨m, fun _ => 0, g⟩ (fun r => (∀ c : Dev Cert.StateDwIdeal.nD,
      r.2.mem ((c.tc : Thread Cert.StateDwIdeal.nD Cert.StateDwIdeal.τ).loc Cert.StateDwIdeal.main_arg0) = m ((c.tc : Thread Cert.StateDwIdeal.nD Cert.StateDwIdeal.τ).loc Cert.StateDwIdeal.main_arg0)
      ∧ r.2.mem ((c.tc : Thread Cert.StateDwIdeal.nD Cert.StateDwIdeal.τ).loc Cert.StateDwIdeal.main_arg1) = m ((c.tc : Thread Cert.StateDwIdeal.nD Cert.StateDwIdeal.τ).loc Cert.StateDwIdeal.main_arg1))
      ∧ r.2.sem = fun _ => 0)

def quiescent_StateDwRefIdeal [hStateDwRefIdeal : Cert.StateDwRefIdeal.Facts] : Prop :=
  ∀ (m : (ℓ : Loc Cert.StateDwRefIdeal.nD Cert.StateDwRefIdeal.τ Cert.StateDwRefIdeal.sig) → Buf (Elt Ideal) ℓ) (g : Dev Cert.StateDwRefIdeal.nD → PrngReg), Pre_StateDwRefIdeal m →
    θ_run (Cert.StateDwRefIdeal.defs (F := Ideal)) (onTc (τ := Cert.StateDwRefIdeal.τ) (Cert.StateDwRefIdeal.main (F := Ideal))) ⟨m, fun _ => 0, g⟩ (fun r => (∀ c : Dev Cert.StateDwRefIdeal.nD,
      r.2.mem ((c.tc : Thread Cert.StateDwRefIdeal.nD Cert.StateDwRefIdeal.τ).loc Cert.StateDwRefIdeal.main_arg0) = m ((c.tc : Thread Cert.StateDwRefIdeal.nD Cert.StateDwRefIdeal.τ).loc Cert.StateDwRefIdeal.main_arg0)
      ∧ r.2.mem ((c.tc : Thread Cert.StateDwRefIdeal.nD Cert.StateDwRefIdeal.τ).loc Cert.StateDwRefIdeal.main_arg1) = m ((c.tc : Thread Cert.StateDwRefIdeal.nD Cert.StateDwRefIdeal.τ).loc Cert.StateDwRefIdeal.main_arg1))
      ∧ r.2.sem = fun _ => 0)

def quiescent_HeadDa [hHeadDa : Cert.HeadDa.Facts] : Prop :=
  ∀ (m : (ℓ : Loc Cert.HeadDa.nD Cert.HeadDa.τ Cert.HeadDa.sig) → Buf (Elt Bits) ℓ) (g : Dev Cert.HeadDa.nD → PrngReg), Pre_HeadDa m →
    θ_run (Cert.HeadDa.defs (F := Bits)) (onTc (τ := Cert.HeadDa.τ) (Cert.HeadDa.main (F := Bits))) ⟨m, fun _ => 0, g⟩ (fun r => (∀ c : Dev Cert.HeadDa.nD,
      r.2.mem ((c.tc : Thread Cert.HeadDa.nD Cert.HeadDa.τ).loc Cert.HeadDa.main_arg0) = m ((c.tc : Thread Cert.HeadDa.nD Cert.HeadDa.τ).loc Cert.HeadDa.main_arg0)
      ∧ r.2.mem ((c.tc : Thread Cert.HeadDa.nD Cert.HeadDa.τ).loc Cert.HeadDa.main_arg1) = m ((c.tc : Thread Cert.HeadDa.nD Cert.HeadDa.τ).loc Cert.HeadDa.main_arg1))
      ∧ r.2.sem = fun _ => 0)

def quiescent_HeadDaIdeal [hHeadDaIdeal : Cert.HeadDaIdeal.Facts] : Prop :=
  ∀ (m : (ℓ : Loc Cert.HeadDaIdeal.nD Cert.HeadDaIdeal.τ Cert.HeadDaIdeal.sig) → Buf (Elt Ideal) ℓ) (g : Dev Cert.HeadDaIdeal.nD → PrngReg), Pre_HeadDaIdeal m →
    θ_run (Cert.HeadDaIdeal.defs (F := Ideal)) (onTc (τ := Cert.HeadDaIdeal.τ) (Cert.HeadDaIdeal.main (F := Ideal))) ⟨m, fun _ => 0, g⟩ (fun r => (∀ c : Dev Cert.HeadDaIdeal.nD,
      r.2.mem ((c.tc : Thread Cert.HeadDaIdeal.nD Cert.HeadDaIdeal.τ).loc Cert.HeadDaIdeal.main_arg0) = m ((c.tc : Thread Cert.HeadDaIdeal.nD Cert.HeadDaIdeal.τ).loc Cert.HeadDaIdeal.main_arg0)
      ∧ r.2.mem ((c.tc : Thread Cert.HeadDaIdeal.nD Cert.HeadDaIdeal.τ).loc Cert.HeadDaIdeal.main_arg1) = m ((c.tc : Thread Cert.HeadDaIdeal.nD Cert.HeadDaIdeal.τ).loc Cert.HeadDaIdeal.main_arg1))
      ∧ r.2.sem = fun _ => 0)

def quiescent_HeadDaRefIdeal [hHeadDaRefIdeal : Cert.HeadDaRefIdeal.Facts] : Prop :=
  ∀ (m : (ℓ : Loc Cert.HeadDaRefIdeal.nD Cert.HeadDaRefIdeal.τ Cert.HeadDaRefIdeal.sig) → Buf (Elt Ideal) ℓ) (g : Dev Cert.HeadDaRefIdeal.nD → PrngReg), Pre_HeadDaRefIdeal m →
    θ_run (Cert.HeadDaRefIdeal.defs (F := Ideal)) (onTc (τ := Cert.HeadDaRefIdeal.τ) (Cert.HeadDaRefIdeal.main (F := Ideal))) ⟨m, fun _ => 0, g⟩ (fun r => (∀ c : Dev Cert.HeadDaRefIdeal.nD,
      r.2.mem ((c.tc : Thread Cert.HeadDaRefIdeal.nD Cert.HeadDaRefIdeal.τ).loc Cert.HeadDaRefIdeal.main_arg0) = m ((c.tc : Thread Cert.HeadDaRefIdeal.nD Cert.HeadDaRefIdeal.τ).loc Cert.HeadDaRefIdeal.main_arg0)
      ∧ r.2.mem ((c.tc : Thread Cert.HeadDaRefIdeal.nD Cert.HeadDaRefIdeal.τ).loc Cert.HeadDaRefIdeal.main_arg1) = m ((c.tc : Thread Cert.HeadDaRefIdeal.nD Cert.HeadDaRefIdeal.τ).loc Cert.HeadDaRefIdeal.main_arg1))
      ∧ r.2.sem = fun _ => 0)

def quiescent_HeadDw [hHeadDw : Cert.HeadDw.Facts] : Prop :=
  ∀ (m : (ℓ : Loc Cert.HeadDw.nD Cert.HeadDw.τ Cert.HeadDw.sig) → Buf (Elt Bits) ℓ) (g : Dev Cert.HeadDw.nD → PrngReg), Pre_HeadDw m →
    θ_run (Cert.HeadDw.defs (F := Bits)) (onTc (τ := Cert.HeadDw.τ) (Cert.HeadDw.main (F := Bits))) ⟨m, fun _ => 0, g⟩ (fun r => (∀ c : Dev Cert.HeadDw.nD,
      r.2.mem ((c.tc : Thread Cert.HeadDw.nD Cert.HeadDw.τ).loc Cert.HeadDw.main_arg0) = m ((c.tc : Thread Cert.HeadDw.nD Cert.HeadDw.τ).loc Cert.HeadDw.main_arg0)
      ∧ r.2.mem ((c.tc : Thread Cert.HeadDw.nD Cert.HeadDw.τ).loc Cert.HeadDw.main_arg1) = m ((c.tc : Thread Cert.HeadDw.nD Cert.HeadDw.τ).loc Cert.HeadDw.main_arg1))
      ∧ r.2.sem = fun _ => 0)

def quiescent_HeadDwIdeal [hHeadDwIdeal : Cert.HeadDwIdeal.Facts] : Prop :=
  ∀ (m : (ℓ : Loc Cert.HeadDwIdeal.nD Cert.HeadDwIdeal.τ Cert.HeadDwIdeal.sig) → Buf (Elt Ideal) ℓ) (g : Dev Cert.HeadDwIdeal.nD → PrngReg), Pre_HeadDwIdeal m →
    θ_run (Cert.HeadDwIdeal.defs (F := Ideal)) (onTc (τ := Cert.HeadDwIdeal.τ) (Cert.HeadDwIdeal.main (F := Ideal))) ⟨m, fun _ => 0, g⟩ (fun r => (∀ c : Dev Cert.HeadDwIdeal.nD,
      r.2.mem ((c.tc : Thread Cert.HeadDwIdeal.nD Cert.HeadDwIdeal.τ).loc Cert.HeadDwIdeal.main_arg0) = m ((c.tc : Thread Cert.HeadDwIdeal.nD Cert.HeadDwIdeal.τ).loc Cert.HeadDwIdeal.main_arg0)
      ∧ r.2.mem ((c.tc : Thread Cert.HeadDwIdeal.nD Cert.HeadDwIdeal.τ).loc Cert.HeadDwIdeal.main_arg1) = m ((c.tc : Thread Cert.HeadDwIdeal.nD Cert.HeadDwIdeal.τ).loc Cert.HeadDwIdeal.main_arg1))
      ∧ r.2.sem = fun _ => 0)

def quiescent_HeadDwRefIdeal [hHeadDwRefIdeal : Cert.HeadDwRefIdeal.Facts] : Prop :=
  ∀ (m : (ℓ : Loc Cert.HeadDwRefIdeal.nD Cert.HeadDwRefIdeal.τ Cert.HeadDwRefIdeal.sig) → Buf (Elt Ideal) ℓ) (g : Dev Cert.HeadDwRefIdeal.nD → PrngReg), Pre_HeadDwRefIdeal m →
    θ_run (Cert.HeadDwRefIdeal.defs (F := Ideal)) (onTc (τ := Cert.HeadDwRefIdeal.τ) (Cert.HeadDwRefIdeal.main (F := Ideal))) ⟨m, fun _ => 0, g⟩ (fun r => (∀ c : Dev Cert.HeadDwRefIdeal.nD,
      r.2.mem ((c.tc : Thread Cert.HeadDwRefIdeal.nD Cert.HeadDwRefIdeal.τ).loc Cert.HeadDwRefIdeal.main_arg0) = m ((c.tc : Thread Cert.HeadDwRefIdeal.nD Cert.HeadDwRefIdeal.τ).loc Cert.HeadDwRefIdeal.main_arg0)
      ∧ r.2.mem ((c.tc : Thread Cert.HeadDwRefIdeal.nD Cert.HeadDwRefIdeal.τ).loc Cert.HeadDwRefIdeal.main_arg1) = m ((c.tc : Thread Cert.HeadDwRefIdeal.nD Cert.HeadDwRefIdeal.τ).loc Cert.HeadDwRefIdeal.main_arg1))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearRefIdeal [hNearRefIdeal : Cert.NearRefIdeal.Facts] : Prop :=
  ∀ (m : (ℓ : Loc Cert.NearRefIdeal.nD Cert.NearRefIdeal.τ Cert.NearRefIdeal.sig) → Buf (Elt Ideal) ℓ) (g : Dev Cert.NearRefIdeal.nD → PrngReg), Pre_NearRefIdeal m →
    θ_run (Cert.NearRefIdeal.defs (F := Ideal)) (onTc (τ := Cert.NearRefIdeal.τ) (Cert.NearRefIdeal.main (F := Ideal))) ⟨m, fun _ => 0, g⟩ (fun r => (∀ c : Dev Cert.NearRefIdeal.nD,
      r.2.mem ((c.tc : Thread Cert.NearRefIdeal.nD Cert.NearRefIdeal.τ).loc Cert.NearRefIdeal.main_arg0) = m ((c.tc : Thread Cert.NearRefIdeal.nD Cert.NearRefIdeal.τ).loc Cert.NearRefIdeal.main_arg0)
      ∧ r.2.mem ((c.tc : Thread Cert.NearRefIdeal.nD Cert.NearRefIdeal.τ).loc Cert.NearRefIdeal.main_arg1) = m ((c.tc : Thread Cert.NearRefIdeal.nD Cert.NearRefIdeal.τ).loc Cert.NearRefIdeal.main_arg1))
      ∧ r.2.sem = fun _ => 0)

def quiescent_MixDa [hMixDa : Cert.MixDa.Facts] : Prop :=
  ∀ (m : (ℓ : Loc Cert.MixDa.nD Cert.MixDa.τ Cert.MixDa.sig) → Buf (Elt Bits) ℓ) (g : Dev Cert.MixDa.nD → PrngReg), Pre_MixDa m →
    θ_run (Cert.MixDa.defs (F := Bits)) (onTc (τ := Cert.MixDa.τ) (Cert.MixDa.main (F := Bits))) ⟨m, fun _ => 0, g⟩ (fun r => (∀ c : Dev Cert.MixDa.nD,
      r.2.mem ((c.tc : Thread Cert.MixDa.nD Cert.MixDa.τ).loc Cert.MixDa.main_arg0) = m ((c.tc : Thread Cert.MixDa.nD Cert.MixDa.τ).loc Cert.MixDa.main_arg0)
      ∧ r.2.mem ((c.tc : Thread Cert.MixDa.nD Cert.MixDa.τ).loc Cert.MixDa.main_arg1) = m ((c.tc : Thread Cert.MixDa.nD Cert.MixDa.τ).loc Cert.MixDa.main_arg1))
      ∧ r.2.sem = fun _ => 0)

def quiescent_MixDaIdeal [hMixDaIdeal : Cert.MixDaIdeal.Facts] : Prop :=
  ∀ (m : (ℓ : Loc Cert.MixDaIdeal.nD Cert.MixDaIdeal.τ Cert.MixDaIdeal.sig) → Buf (Elt Ideal) ℓ) (g : Dev Cert.MixDaIdeal.nD → PrngReg), Pre_MixDaIdeal m →
    θ_run (Cert.MixDaIdeal.defs (F := Ideal)) (onTc (τ := Cert.MixDaIdeal.τ) (Cert.MixDaIdeal.main (F := Ideal))) ⟨m, fun _ => 0, g⟩ (fun r => (∀ c : Dev Cert.MixDaIdeal.nD,
      r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
      ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ r.2.sem = fun _ => 0)

def quiescent_MixDaRefIdeal [hMixDaRefIdeal : Cert.MixDaRefIdeal.Facts] : Prop :=
  ∀ (m : (ℓ : Loc Cert.MixDaRefIdeal.nD Cert.MixDaRefIdeal.τ Cert.MixDaRefIdeal.sig) → Buf (Elt Ideal) ℓ) (g : Dev Cert.MixDaRefIdeal.nD → PrngReg), Pre_MixDaRefIdeal m →
    θ_run (Cert.MixDaRefIdeal.defs (F := Ideal)) (onTc (τ := Cert.MixDaRefIdeal.τ) (Cert.MixDaRefIdeal.main (F := Ideal))) ⟨m, fun _ => 0, g⟩ (fun r => (∀ c : Dev Cert.MixDaRefIdeal.nD,
      r.2.mem ((c.tc : Thread Cert.MixDaRefIdeal.nD Cert.MixDaRefIdeal.τ).loc Cert.MixDaRefIdeal.main_arg0) = m ((c.tc : Thread Cert.MixDaRefIdeal.nD Cert.MixDaRefIdeal.τ).loc Cert.MixDaRefIdeal.main_arg0)
      ∧ r.2.mem ((c.tc : Thread Cert.MixDaRefIdeal.nD Cert.MixDaRefIdeal.τ).loc Cert.MixDaRefIdeal.main_arg1) = m ((c.tc : Thread Cert.MixDaRefIdeal.nD Cert.MixDaRefIdeal.τ).loc Cert.MixDaRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamAbIn [hAdamAbIn : Cert.AdamAbIn.Facts] : Prop :=
  ∀ (m : (ℓ : Loc Cert.AdamAbIn.nD Cert.AdamAbIn.τ Cert.AdamAbIn.sig) → Buf (Elt Bits) ℓ) (g : Dev Cert.AdamAbIn.nD → PrngReg), Pre_AdamAbIn m →
    θ_run (Cert.AdamAbIn.defs (F := Bits)) (onTc (τ := Cert.AdamAbIn.τ) (Cert.AdamAbIn.main (F := Bits))) ⟨m, fun _ => 0, g⟩ (fun r => (∀ c : Dev Cert.AdamAbIn.nD,
      r.2.mem ((c.tc : Thread Cert.AdamAbIn.nD Cert.AdamAbIn.τ).loc Cert.AdamAbIn.main_arg0) = m ((c.tc : Thread Cert.AdamAbIn.nD Cert.AdamAbIn.τ).loc Cert.AdamAbIn.main_arg0)
      ∧ r.2.mem ((c.tc : Thread Cert.AdamAbIn.nD Cert.AdamAbIn.τ).loc Cert.AdamAbIn.main_arg1) = m ((c.tc : Thread Cert.AdamAbIn.nD Cert.AdamAbIn.τ).loc Cert.AdamAbIn.main_arg1)
      ∧ r.2.mem ((c.tc : Thread Cert.AdamAbIn.nD Cert.AdamAbIn.τ).loc Cert.AdamAbIn.main_arg2) = m ((c.tc : Thread Cert.AdamAbIn.nD Cert.AdamAbIn.τ).loc Cert.AdamAbIn.main_arg2)
      ∧ r.2.mem ((c.tc : Thread Cert.AdamAbIn.nD Cert.AdamAbIn.τ).loc Cert.AdamAbIn.main_arg3) = m ((c.tc : Thread Cert.AdamAbIn.nD Cert.AdamAbIn.τ).loc Cert.AdamAbIn.main_arg3))
      ∧ r.2.sem = fun _ => 0)

def quiescent_AdamAbInIdeal [hAdamAbInIdeal : Cert.AdamAbInIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg), Pre_AdamAbInIdeal m →
    θ_run (Cert.AdamAbInIdeal.defs (F := Ideal)) (onTc (τ := Cert.AdamAbInIdeal.τ) (Cert.AdamAbInIdeal.main (F := Ideal))) ⟨m, fun _ => 0, g⟩ (fun r => (∀ c : Dev Cert.AdamAbInIdeal.nD,
      r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
      ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
      ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
      ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ r.2.sem = fun _ => 0)

def quiescent_AdamAbInRefIdeal [hAdamAbInRefIdeal : Cert.AdamAbInRefIdeal.Facts] : Prop :=
  ∀ (m : (ℓ : Loc Cert.AdamAbInRefIdeal.nD Cert.AdamAbInRefIdeal.τ Cert.AdamAbInRefIdeal.sig) → Buf (Elt Ideal) ℓ) (g : Dev Cert.AdamAbInRefIdeal.nD → PrngReg), Pre_AdamAbInRefIdeal m →
    θ_run (Cert.AdamAbInRefIdeal.defs (F := Ideal)) (onTc (τ := Cert.AdamAbInRefIdeal.τ) (Cert.AdamAbInRefIdeal.main (F := Ideal))) ⟨m, fun _ => 0, g⟩ (fun r => (∀ c : Dev Cert.AdamAbInRefIdeal.nD,
      r.2.mem ((c.tc : Thread Cert.AdamAbInRefIdeal.nD Cert.AdamAbInRefIdeal.τ).loc Cert.AdamAbInRefIdeal.main_arg0) = m ((c.tc : Thread Cert.AdamAbInRefIdeal.nD Cert.AdamAbInRefIdeal.τ).loc Cert.AdamAbInRefIdeal.main_arg0)
      ∧ r.2.mem ((c.tc : Thread Cert.AdamAbInRefIdeal.nD Cert.AdamAbInRefIdeal.τ).loc Cert.AdamAbInRefIdeal.main_arg1) = m ((c.tc : Thread Cert.AdamAbInRefIdeal.nD Cert.AdamAbInRefIdeal.τ).loc Cert.AdamAbInRefIdeal.main_arg1)
      ∧ r.2.mem ((c.tc : Thread Cert.AdamAbInRefIdeal.nD Cert.AdamAbInRefIdeal.τ).loc Cert.AdamAbInRefIdeal.main_arg2) = m ((c.tc : Thread Cert.AdamAbInRefIdeal.nD Cert.AdamAbInRefIdeal.τ).loc Cert.AdamAbInRefIdeal.main_arg2)
      ∧ r.2.mem ((c.tc : Thread Cert.AdamAbInRefIdeal.nD Cert.AdamAbInRefIdeal.τ).loc Cert.AdamAbInRefIdeal.main_arg3) = m ((c.tc : Thread Cert.AdamAbInRefIdeal.nD Cert.AdamAbInRefIdeal.τ).loc Cert.AdamAbInRefIdeal.main_arg3))
      ∧ r.2.sem = fun _ => 0)

def quiescent_AdamDecay [hAdamDecay : Cert.AdamDecay.Facts] : Prop :=
  ∀ (m : (ℓ : Loc Cert.AdamDecay.nD Cert.AdamDecay.τ Cert.AdamDecay.sig) → Buf (Elt Bits) ℓ) (g : Dev Cert.AdamDecay.nD → PrngReg), Pre_AdamDecay m →
    θ_run (Cert.AdamDecay.defs (F := Bits)) (onTc (τ := Cert.AdamDecay.τ) (Cert.AdamDecay.main (F := Bits))) ⟨m, fun _ => 0, g⟩ (fun r => (∀ c : Dev Cert.AdamDecay.nD,
      r.2.mem ((c.tc : Thread Cert.AdamDecay.nD Cert.AdamDecay.τ).loc Cert.AdamDecay.main_arg0) = m ((c.tc : Thread Cert.AdamDecay.nD Cert.AdamDecay.τ).loc Cert.AdamDecay.main_arg0)
      ∧ r.2.mem ((c.tc : Thread Cert.AdamDecay.nD Cert.AdamDecay.τ).loc Cert.AdamDecay.main_arg1) = m ((c.tc : Thread Cert.AdamDecay.nD Cert.AdamDecay.τ).loc Cert.AdamDecay.main_arg1)
      ∧ r.2.mem ((c.tc : Thread Cert.AdamDecay.nD Cert.AdamDecay.τ).loc Cert.AdamDecay.main_arg2) = m ((c.tc : Thread Cert.AdamDecay.nD Cert.AdamDecay.τ).loc Cert.AdamDecay.main_arg2)
      ∧ r.2.mem ((c.tc : Thread Cert.AdamDecay.nD Cert.AdamDecay.τ).loc Cert.AdamDecay.main_arg3) = m ((c.tc : Thread Cert.AdamDecay.nD Cert.AdamDecay.τ).loc Cert.AdamDecay.main_arg3))
      ∧ r.2.sem = fun _ => 0)

def quiescent_AdamDecayIdeal [hAdamDecayIdeal : Cert.AdamDecayIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg), Pre_AdamDecayIdeal m →
    θ_run (Cert.AdamDecayIdeal.defs (F := Ideal)) (onTc (τ := Cert.AdamDecayIdeal.τ) (Cert.AdamDecayIdeal.main (F := Ideal))) ⟨m, fun _ => 0, g⟩ (fun r => (∀ c : Dev Cert.AdamDecayIdeal.nD,
      r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
      ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
      ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
      ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ r.2.sem = fun _ => 0)

def quiescent_AdamDecayRefIdeal [hAdamDecayRefIdeal : Cert.AdamDecayRefIdeal.Facts] : Prop :=
  ∀ (m : (ℓ : Loc Cert.AdamDecayRefIdeal.nD Cert.AdamDecayRefIdeal.τ Cert.AdamDecayRefIdeal.sig) → Buf (Elt Ideal) ℓ) (g : Dev Cert.AdamDecayRefIdeal.nD → PrngReg), Pre_AdamDecayRefIdeal m →
    θ_run (Cert.AdamDecayRefIdeal.defs (F := Ideal)) (onTc (τ := Cert.AdamDecayRefIdeal.τ) (Cert.AdamDecayRefIdeal.main (F := Ideal))) ⟨m, fun _ => 0, g⟩ (fun r => (∀ c : Dev Cert.AdamDecayRefIdeal.nD,
      r.2.mem ((c.tc : Thread Cert.AdamDecayRefIdeal.nD Cert.AdamDecayRefIdeal.τ).loc Cert.AdamDecayRefIdeal.main_arg0) = m ((c.tc : Thread Cert.AdamDecayRefIdeal.nD Cert.AdamDecayRefIdeal.τ).loc Cert.AdamDecayRefIdeal.main_arg0)
      ∧ r.2.mem ((c.tc : Thread Cert.AdamDecayRefIdeal.nD Cert.AdamDecayRefIdeal.τ).loc Cert.AdamDecayRefIdeal.main_arg1) = m ((c.tc : Thread Cert.AdamDecayRefIdeal.nD Cert.AdamDecayRefIdeal.τ).loc Cert.AdamDecayRefIdeal.main_arg1)
      ∧ r.2.mem ((c.tc : Thread Cert.AdamDecayRefIdeal.nD Cert.AdamDecayRefIdeal.τ).loc Cert.AdamDecayRefIdeal.main_arg2) = m ((c.tc : Thread Cert.AdamDecayRefIdeal.nD Cert.AdamDecayRefIdeal.τ).loc Cert.AdamDecayRefIdeal.main_arg2)
      ∧ r.2.mem ((c.tc : Thread Cert.AdamDecayRefIdeal.nD Cert.AdamDecayRefIdeal.τ).loc Cert.AdamDecayRefIdeal.main_arg3) = m ((c.tc : Thread Cert.AdamDecayRefIdeal.nD Cert.AdamDecayRefIdeal.τ).loc Cert.AdamDecayRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamRpb [hAdamRpb : Cert.AdamRpb.Facts] : Prop :=
  ∀ (m : (ℓ : Loc Cert.AdamRpb.nD Cert.AdamRpb.τ Cert.AdamRpb.sig) → Buf (Elt Bits) ℓ) (g : Dev Cert.AdamRpb.nD → PrngReg), Pre_AdamRpb m →
    θ_run (Cert.AdamRpb.defs (F := Bits)) (onTc (τ := Cert.AdamRpb.τ) (Cert.AdamRpb.main (F := Bits))) ⟨m, fun _ => 0, g⟩ (fun r => (∀ c : Dev Cert.AdamRpb.nD,
      r.2.mem ((c.tc : Thread Cert.AdamRpb.nD Cert.AdamRpb.τ).loc Cert.AdamRpb.main_arg0) = m ((c.tc : Thread Cert.AdamRpb.nD Cert.AdamRpb.τ).loc Cert.AdamRpb.main_arg0)
      ∧ r.2.mem ((c.tc : Thread Cert.AdamRpb.nD Cert.AdamRpb.τ).loc Cert.AdamRpb.main_arg1) = m ((c.tc : Thread Cert.AdamRpb.nD Cert.AdamRpb.τ).loc Cert.AdamRpb.main_arg1)
      ∧ r.2.mem ((c.tc : Thread Cert.AdamRpb.nD Cert.AdamRpb.τ).loc Cert.AdamRpb.main_arg2) = m ((c.tc : Thread Cert.AdamRpb.nD Cert.AdamRpb.τ).loc Cert.AdamRpb.main_arg2)
      ∧ r.2.mem ((c.tc : Thread Cert.AdamRpb.nD Cert.AdamRpb.τ).loc Cert.AdamRpb.main_arg3) = m ((c.tc : Thread Cert.AdamRpb.nD Cert.AdamRpb.τ).loc Cert.AdamRpb.main_arg3))
      ∧ r.2.sem = fun _ => 0)

def quiescent_AdamRpbIdeal [hAdamRpbIdeal : Cert.AdamRpbIdeal.Facts] : Prop :=
  ∀ (m : (ℓ : Loc Cert.AdamRpbIdeal.nD Cert.AdamRpbIdeal.τ Cert.AdamRpbIdeal.sig) → Buf (Elt Ideal) ℓ) (g : Dev Cert.AdamRpbIdeal.nD → PrngReg), Pre_AdamRpbIdeal m →
    θ_run (Cert.AdamRpbIdeal.defs (F := Ideal)) (onTc (τ := Cert.AdamRpbIdeal.τ) (Cert.AdamRpbIdeal.main (F := Ideal))) ⟨m, fun _ => 0, g⟩ (fun r => (∀ c : Dev Cert.AdamRpbIdeal.nD,
      r.2.mem ((c.tc : Thread Cert.AdamRpbIdeal.nD Cert.AdamRpbIdeal.τ).loc Cert.AdamRpbIdeal.main_arg0) = m ((c.tc : Thread Cert.AdamRpbIdeal.nD Cert.AdamRpbIdeal.τ).loc Cert.AdamRpbIdeal.main_arg0)
      ∧ r.2.mem ((c.tc : Thread Cert.AdamRpbIdeal.nD Cert.AdamRpbIdeal.τ).loc Cert.AdamRpbIdeal.main_arg1) = m ((c.tc : Thread Cert.AdamRpbIdeal.nD Cert.AdamRpbIdeal.τ).loc Cert.AdamRpbIdeal.main_arg1)
      ∧ r.2.mem ((c.tc : Thread Cert.AdamRpbIdeal.nD Cert.AdamRpbIdeal.τ).loc Cert.AdamRpbIdeal.main_arg2) = m ((c.tc : Thread Cert.AdamRpbIdeal.nD Cert.AdamRpbIdeal.τ).loc Cert.AdamRpbIdeal.main_arg2)
      ∧ r.2.mem ((c.tc : Thread Cert.AdamRpbIdeal.nD Cert.AdamRpbIdeal.τ).loc Cert.AdamRpbIdeal.main_arg3) = m ((c.tc : Thread Cert.AdamRpbIdeal.nD Cert.AdamRpbIdeal.τ).loc Cert.AdamRpbIdeal.main_arg3))
      ∧ r.2.sem = fun _ => 0)

def quiescent_AdamRpbRefIdeal [hAdamRpbRefIdeal : Cert.AdamRpbRefIdeal.Facts] : Prop :=
  ∀ (m : (ℓ : Loc Cert.AdamRpbRefIdeal.nD Cert.AdamRpbRefIdeal.τ Cert.AdamRpbRefIdeal.sig) → Buf (Elt Ideal) ℓ) (g : Dev Cert.AdamRpbRefIdeal.nD → PrngReg), Pre_AdamRpbRefIdeal m →
    θ_run (Cert.AdamRpbRefIdeal.defs (F := Ideal)) (onTc (τ := Cert.AdamRpbRefIdeal.τ) (Cert.AdamRpbRefIdeal.main (F := Ideal))) ⟨m, fun _ => 0, g⟩ (fun r => (∀ c : Dev Cert.AdamRpbRefIdeal.nD,
      r.2.mem ((c.tc : Thread Cert.AdamRpbRefIdeal.nD Cert.AdamRpbRefIdeal.τ).loc Cert.AdamRpbRefIdeal.main_arg0) = m ((c.tc : Thread Cert.AdamRpbRefIdeal.nD Cert.AdamRpbRefIdeal.τ).loc Cert.AdamRpbRefIdeal.main_arg0)
      ∧ r.2.mem ((c.tc : Thread Cert.AdamRpbRefIdeal.nD Cert.AdamRpbRefIdeal.τ).loc Cert.AdamRpbRefIdeal.main_arg1) = m ((c.tc : Thread Cert.AdamRpbRefIdeal.nD Cert.AdamRpbRefIdeal.τ).loc Cert.AdamRpbRefIdeal.main_arg1)
      ∧ r.2.mem ((c.tc : Thread Cert.AdamRpbRefIdeal.nD Cert.AdamRpbRefIdeal.τ).loc Cert.AdamRpbRefIdeal.main_arg2) = m ((c.tc : Thread Cert.AdamRpbRefIdeal.nD Cert.AdamRpbRefIdeal.τ).loc Cert.AdamRpbRefIdeal.main_arg2)
      ∧ r.2.mem ((c.tc : Thread Cert.AdamRpbRefIdeal.nD Cert.AdamRpbRefIdeal.τ).loc Cert.AdamRpbRefIdeal.main_arg3) = m ((c.tc : Thread Cert.AdamRpbRefIdeal.nD Cert.AdamRpbRefIdeal.τ).loc Cert.AdamRpbRefIdeal.main_arg3))
      ∧ r.2.sem = fun _ => 0)

def quiescent_AdamAbOut [hAdamAbOut : Cert.AdamAbOut.Facts] : Prop :=
  ∀ (m : (ℓ : Loc Cert.AdamAbOut.nD Cert.AdamAbOut.τ Cert.AdamAbOut.sig) → Buf (Elt Bits) ℓ) (g : Dev Cert.AdamAbOut.nD → PrngReg), Pre_AdamAbOut m →
    θ_run (Cert.AdamAbOut.defs (F := Bits)) (onTc (τ := Cert.AdamAbOut.τ) (Cert.AdamAbOut.main (F := Bits))) ⟨m, fun _ => 0, g⟩ (fun r => (∀ c : Dev Cert.AdamAbOut.nD,
      r.2.mem ((c.tc : Thread Cert.AdamAbOut.nD Cert.AdamAbOut.τ).loc Cert.AdamAbOut.main_arg0) = m ((c.tc : Thread Cert.AdamAbOut.nD Cert.AdamAbOut.τ).loc Cert.AdamAbOut.main_arg0)
      ∧ r.2.mem ((c.tc : Thread Cert.AdamAbOut.nD Cert.AdamAbOut.τ).loc Cert.AdamAbOut.main_arg1) = m ((c.tc : Thread Cert.AdamAbOut.nD Cert.AdamAbOut.τ).loc Cert.AdamAbOut.main_arg1)
      ∧ r.2.mem ((c.tc : Thread Cert.AdamAbOut.nD Cert.AdamAbOut.τ).loc Cert.AdamAbOut.main_arg2) = m ((c.tc : Thread Cert.AdamAbOut.nD Cert.AdamAbOut.τ).loc Cert.AdamAbOut.main_arg2)
      ∧ r.2.mem ((c.tc : Thread Cert.AdamAbOut.nD Cert.AdamAbOut.τ).loc Cert.AdamAbOut.main_arg3) = m ((c.tc : Thread Cert.AdamAbOut.nD Cert.AdamAbOut.τ).loc Cert.AdamAbOut.main_arg3))
      ∧ r.2.sem = fun _ => 0)

def quiescent_AdamAbOutIdeal [hAdamAbOutIdeal : Cert.AdamAbOutIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg), Pre_AdamAbOutIdeal m →
    θ_run (Cert.AdamAbOutIdeal.defs (F := Ideal)) (onTc (τ := Cert.AdamAbOutIdeal.τ) (Cert.AdamAbOutIdeal.main (F := Ideal))) ⟨m, fun _ => 0, g⟩ (fun r => (∀ c : Dev Cert.AdamAbOutIdeal.nD,
      r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
      ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
      ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
      ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ r.2.sem = fun _ => 0)

def quiescent_AdamAbOutRefIdeal [hAdamAbOutRefIdeal : Cert.AdamAbOutRefIdeal.Facts] : Prop :=
  ∀ (m : (ℓ : Loc Cert.AdamAbOutRefIdeal.nD Cert.AdamAbOutRefIdeal.τ Cert.AdamAbOutRefIdeal.sig) → Buf (Elt Ideal) ℓ) (g : Dev Cert.AdamAbOutRefIdeal.nD → PrngReg), Pre_AdamAbOutRefIdeal m →
    θ_run (Cert.AdamAbOutRefIdeal.defs (F := Ideal)) (onTc (τ := Cert.AdamAbOutRefIdeal.τ) (Cert.AdamAbOutRefIdeal.main (F := Ideal))) ⟨m, fun _ => 0, g⟩ (fun r => (∀ c : Dev Cert.AdamAbOutRefIdeal.nD,
      r.2.mem ((c.tc : Thread Cert.AdamAbOutRefIdeal.nD Cert.AdamAbOutRefIdeal.τ).loc Cert.AdamAbOutRefIdeal.main_arg0) = m ((c.tc : Thread Cert.AdamAbOutRefIdeal.nD Cert.AdamAbOutRefIdeal.τ).loc Cert.AdamAbOutRefIdeal.main_arg0)
      ∧ r.2.mem ((c.tc : Thread Cert.AdamAbOutRefIdeal.nD Cert.AdamAbOutRefIdeal.τ).loc Cert.AdamAbOutRefIdeal.main_arg1) = m ((c.tc : Thread Cert.AdamAbOutRefIdeal.nD Cert.AdamAbOutRefIdeal.τ).loc Cert.AdamAbOutRefIdeal.main_arg1)
      ∧ r.2.mem ((c.tc : Thread Cert.AdamAbOutRefIdeal.nD Cert.AdamAbOutRefIdeal.τ).loc Cert.AdamAbOutRefIdeal.main_arg2) = m ((c.tc : Thread Cert.AdamAbOutRefIdeal.nD Cert.AdamAbOutRefIdeal.τ).loc Cert.AdamAbOutRefIdeal.main_arg2)
      ∧ r.2.mem ((c.tc : Thread Cert.AdamAbOutRefIdeal.nD Cert.AdamAbOutRefIdeal.τ).loc Cert.AdamAbOutRefIdeal.main_arg3) = m ((c.tc : Thread Cert.AdamAbOutRefIdeal.nD Cert.AdamAbOutRefIdeal.τ).loc Cert.AdamAbOutRefIdeal.main_arg3))
      ∧ r.2.sem = fun _ => 0)

def quiescent_AdamCIn [hAdamCIn : Cert.AdamCIn.Facts] : Prop :=
  ∀ (m : (ℓ : Loc Cert.AdamCIn.nD Cert.AdamCIn.τ Cert.AdamCIn.sig) → Buf (Elt Bits) ℓ) (g : Dev Cert.AdamCIn.nD → PrngReg), Pre_AdamCIn m →
    θ_run (Cert.AdamCIn.defs (F := Bits)) (onTc (τ := Cert.AdamCIn.τ) (Cert.AdamCIn.main (F := Bits))) ⟨m, fun _ => 0, g⟩ (fun r => (∀ c : Dev Cert.AdamCIn.nD,
      r.2.mem ((c.tc : Thread Cert.AdamCIn.nD Cert.AdamCIn.τ).loc Cert.AdamCIn.main_arg0) = m ((c.tc : Thread Cert.AdamCIn.nD Cert.AdamCIn.τ).loc Cert.AdamCIn.main_arg0)
      ∧ r.2.mem ((c.tc : Thread Cert.AdamCIn.nD Cert.AdamCIn.τ).loc Cert.AdamCIn.main_arg1) = m ((c.tc : Thread Cert.AdamCIn.nD Cert.AdamCIn.τ).loc Cert.AdamCIn.main_arg1)
      ∧ r.2.mem ((c.tc : Thread Cert.AdamCIn.nD Cert.AdamCIn.τ).loc Cert.AdamCIn.main_arg2) = m ((c.tc : Thread Cert.AdamCIn.nD Cert.AdamCIn.τ).loc Cert.AdamCIn.main_arg2)
      ∧ r.2.mem ((c.tc : Thread Cert.AdamCIn.nD Cert.AdamCIn.τ).loc Cert.AdamCIn.main_arg3) = m ((c.tc : Thread Cert.AdamCIn.nD Cert.AdamCIn.τ).loc Cert.AdamCIn.main_arg3))
      ∧ r.2.sem = fun _ => 0)

def quiescent_AdamCInIdeal [hAdamCInIdeal : Cert.AdamCInIdeal.Facts] : Prop :=
  ∀ (m : (ℓ : Loc Cert.AdamCInIdeal.nD Cert.AdamCInIdeal.τ Cert.AdamCInIdeal.sig) → Buf (Elt Ideal) ℓ) (g : Dev Cert.AdamCInIdeal.nD → PrngReg), Pre_AdamCInIdeal m →
    θ_run (Cert.AdamCInIdeal.defs (F := Ideal)) (onTc (τ := Cert.AdamCInIdeal.τ) (Cert.AdamCInIdeal.main (F := Ideal))) ⟨m, fun _ => 0, g⟩ (fun r => (∀ c : Dev Cert.AdamCInIdeal.nD,
      r.2.mem ((c.tc : Thread Cert.AdamCInIdeal.nD Cert.AdamCInIdeal.τ).loc Cert.AdamCInIdeal.main_arg0) = m ((c.tc : Thread Cert.AdamCInIdeal.nD Cert.AdamCInIdeal.τ).loc Cert.AdamCInIdeal.main_arg0)
      ∧ r.2.mem ((c.tc : Thread Cert.AdamCInIdeal.nD Cert.AdamCInIdeal.τ).loc Cert.AdamCInIdeal.main_arg1) = m ((c.tc : Thread Cert.AdamCInIdeal.nD Cert.AdamCInIdeal.τ).loc Cert.AdamCInIdeal.main_arg1)
      ∧ r.2.mem ((c.tc : Thread Cert.AdamCInIdeal.nD Cert.AdamCInIdeal.τ).loc Cert.AdamCInIdeal.main_arg2) = m ((c.tc : Thread Cert.AdamCInIdeal.nD Cert.AdamCInIdeal.τ).loc Cert.AdamCInIdeal.main_arg2)
      ∧ r.2.mem ((c.tc : Thread Cert.AdamCInIdeal.nD Cert.AdamCInIdeal.τ).loc Cert.AdamCInIdeal.main_arg3) = m ((c.tc : Thread Cert.AdamCInIdeal.nD Cert.AdamCInIdeal.τ).loc Cert.AdamCInIdeal.main_arg3))
      ∧ r.2.sem = fun _ => 0)

def quiescent_AdamCInRefIdeal [hAdamCInRefIdeal : Cert.AdamCInRefIdeal.Facts] : Prop :=
  ∀ (m : (ℓ : Loc Cert.AdamCInRefIdeal.nD Cert.AdamCInRefIdeal.τ Cert.AdamCInRefIdeal.sig) → Buf (Elt Ideal) ℓ) (g : Dev Cert.AdamCInRefIdeal.nD → PrngReg), Pre_AdamCInRefIdeal m →
    θ_run (Cert.AdamCInRefIdeal.defs (F := Ideal)) (onTc (τ := Cert.AdamCInRefIdeal.τ) (Cert.AdamCInRefIdeal.main (F := Ideal))) ⟨m, fun _ => 0, g⟩ (fun r => (∀ c : Dev Cert.AdamCInRefIdeal.nD,
      r.2.mem ((c.tc : Thread Cert.AdamCInRefIdeal.nD Cert.AdamCInRefIdeal.τ).loc Cert.AdamCInRefIdeal.main_arg0) = m ((c.tc : Thread Cert.AdamCInRefIdeal.nD Cert.AdamCInRefIdeal.τ).loc Cert.AdamCInRefIdeal.main_arg0)
      ∧ r.2.mem ((c.tc : Thread Cert.AdamCInRefIdeal.nD Cert.AdamCInRefIdeal.τ).loc Cert.AdamCInRefIdeal.main_arg1) = m ((c.tc : Thread Cert.AdamCInRefIdeal.nD Cert.AdamCInRefIdeal.τ).loc Cert.AdamCInRefIdeal.main_arg1)
      ∧ r.2.mem ((c.tc : Thread Cert.AdamCInRefIdeal.nD Cert.AdamCInRefIdeal.τ).loc Cert.AdamCInRefIdeal.main_arg2) = m ((c.tc : Thread Cert.AdamCInRefIdeal.nD Cert.AdamCInRefIdeal.τ).loc Cert.AdamCInRefIdeal.main_arg2)
      ∧ r.2.mem ((c.tc : Thread Cert.AdamCInRefIdeal.nD Cert.AdamCInRefIdeal.τ).loc Cert.AdamCInRefIdeal.main_arg3) = m ((c.tc : Thread Cert.AdamCInRefIdeal.nD Cert.AdamCInRefIdeal.τ).loc Cert.AdamCInRefIdeal.main_arg3))
      ∧ r.2.sem = fun _ => 0)

def quiescent_AdamCConv [hAdamCConv : Cert.AdamCConv.Facts] : Prop :=
  ∀ (m : (ℓ : Loc Cert.AdamCConv.nD Cert.AdamCConv.τ Cert.AdamCConv.sig) → Buf (Elt Bits) ℓ) (g : Dev Cert.AdamCConv.nD → PrngReg), Pre_AdamCConv m →
    θ_run (Cert.AdamCConv.defs (F := Bits)) (onTc (τ := Cert.AdamCConv.τ) (Cert.AdamCConv.main (F := Bits))) ⟨m, fun _ => 0, g⟩ (fun r => (∀ c : Dev Cert.AdamCConv.nD,
      r.2.mem ((c.tc : Thread Cert.AdamCConv.nD Cert.AdamCConv.τ).loc Cert.AdamCConv.main_arg0) = m ((c.tc : Thread Cert.AdamCConv.nD Cert.AdamCConv.τ).loc Cert.AdamCConv.main_arg0)
      ∧ r.2.mem ((c.tc : Thread Cert.AdamCConv.nD Cert.AdamCConv.τ).loc Cert.AdamCConv.main_arg1) = m ((c.tc : Thread Cert.AdamCConv.nD Cert.AdamCConv.τ).loc Cert.AdamCConv.main_arg1)
      ∧ r.2.mem ((c.tc : Thread Cert.AdamCConv.nD Cert.AdamCConv.τ).loc Cert.AdamCConv.main_arg2) = m ((c.tc : Thread Cert.AdamCConv.nD Cert.AdamCConv.τ).loc Cert.AdamCConv.main_arg2)
      ∧ r.2.mem ((c.tc : Thread Cert.AdamCConv.nD Cert.AdamCConv.τ).loc Cert.AdamCConv.main_arg3) = m ((c.tc : Thread Cert.AdamCConv.nD Cert.AdamCConv.τ).loc Cert.AdamCConv.main_arg3))
      ∧ r.2.sem = fun _ => 0)

def quiescent_AdamCConvIdeal [hAdamCConvIdeal : Cert.AdamCConvIdeal.Facts] : Prop :=
  ∀ (m : (ℓ : Loc Cert.AdamCConvIdeal.nD Cert.AdamCConvIdeal.τ Cert.AdamCConvIdeal.sig) → Buf (Elt Ideal) ℓ) (g : Dev Cert.AdamCConvIdeal.nD → PrngReg), Pre_AdamCConvIdeal m →
    θ_run (Cert.AdamCConvIdeal.defs (F := Ideal)) (onTc (τ := Cert.AdamCConvIdeal.τ) (Cert.AdamCConvIdeal.main (F := Ideal))) ⟨m, fun _ => 0, g⟩ (fun r => (∀ c : Dev Cert.AdamCConvIdeal.nD,
      r.2.mem ((c.tc : Thread Cert.AdamCConvIdeal.nD Cert.AdamCConvIdeal.τ).loc Cert.AdamCConvIdeal.main_arg0) = m ((c.tc : Thread Cert.AdamCConvIdeal.nD Cert.AdamCConvIdeal.τ).loc Cert.AdamCConvIdeal.main_arg0)
      ∧ r.2.mem ((c.tc : Thread Cert.AdamCConvIdeal.nD Cert.AdamCConvIdeal.τ).loc Cert.AdamCConvIdeal.main_arg1) = m ((c.tc : Thread Cert.AdamCConvIdeal.nD Cert.AdamCConvIdeal.τ).loc Cert.AdamCConvIdeal.main_arg1)
      ∧ r.2.mem ((c.tc : Thread Cert.AdamCConvIdeal.nD Cert.AdamCConvIdeal.τ).loc Cert.AdamCConvIdeal.main_arg2) = m ((c.tc : Thread Cert.AdamCConvIdeal.nD Cert.AdamCConvIdeal.τ).loc Cert.AdamCConvIdeal.main_arg2)
      ∧ r.2.mem ((c.tc : Thread Cert.AdamCConvIdeal.nD Cert.AdamCConvIdeal.τ).loc Cert.AdamCConvIdeal.main_arg3) = m ((c.tc : Thread Cert.AdamCConvIdeal.nD Cert.AdamCConvIdeal.τ).loc Cert.AdamCConvIdeal.main_arg3))
      ∧ r.2.sem = fun _ => 0)

def quiescent_AdamCConvRefIdeal [hAdamCConvRefIdeal : Cert.AdamCConvRefIdeal.Facts] : Prop :=
  ∀ (m : (ℓ : Loc Cert.AdamCConvRefIdeal.nD Cert.AdamCConvRefIdeal.τ Cert.AdamCConvRefIdeal.sig) → Buf (Elt Ideal) ℓ) (g : Dev Cert.AdamCConvRefIdeal.nD → PrngReg), Pre_AdamCConvRefIdeal m →
    θ_run (Cert.AdamCConvRefIdeal.defs (F := Ideal)) (onTc (τ := Cert.AdamCConvRefIdeal.τ) (Cert.AdamCConvRefIdeal.main (F := Ideal))) ⟨m, fun _ => 0, g⟩ (fun r => (∀ c : Dev Cert.AdamCConvRefIdeal.nD,
      r.2.mem ((c.tc : Thread Cert.AdamCConvRefIdeal.nD Cert.AdamCConvRefIdeal.τ).loc Cert.AdamCConvRefIdeal.main_arg0) = m ((c.tc : Thread Cert.AdamCConvRefIdeal.nD Cert.AdamCConvRefIdeal.τ).loc Cert.AdamCConvRefIdeal.main_arg0)
      ∧ r.2.mem ((c.tc : Thread Cert.AdamCConvRefIdeal.nD Cert.AdamCConvRefIdeal.τ).loc Cert.AdamCConvRefIdeal.main_arg1) = m ((c.tc : Thread Cert.AdamCConvRefIdeal.nD Cert.AdamCConvRefIdeal.τ).loc Cert.AdamCConvRefIdeal.main_arg1)
      ∧ r.2.mem ((c.tc : Thread Cert.AdamCConvRefIdeal.nD Cert.AdamCConvRefIdeal.τ).loc Cert.AdamCConvRefIdeal.main_arg2) = m ((c.tc : Thread Cert.AdamCConvRefIdeal.nD Cert.AdamCConvRefIdeal.τ).loc Cert.AdamCConvRefIdeal.main_arg2)
      ∧ r.2.mem ((c.tc : Thread Cert.AdamCConvRefIdeal.nD Cert.AdamCConvRefIdeal.τ).loc Cert.AdamCConvRefIdeal.main_arg3) = m ((c.tc : Thread Cert.AdamCConvRefIdeal.nD Cert.AdamCConvRefIdeal.τ).loc Cert.AdamCConvRefIdeal.main_arg3))
      ∧ r.2.sem = fun _ => 0)

def quiescent_AdamCBias [hAdamCBias : Cert.AdamCBias.Facts] : Prop :=
  ∀ (m : (ℓ : Loc Cert.AdamCBias.nD Cert.AdamCBias.τ Cert.AdamCBias.sig) → Buf (Elt Bits) ℓ) (g : Dev Cert.AdamCBias.nD → PrngReg), Pre_AdamCBias m →
    θ_run (Cert.AdamCBias.defs (F := Bits)) (onTc (τ := Cert.AdamCBias.τ) (Cert.AdamCBias.main (F := Bits))) ⟨m, fun _ => 0, g⟩ (fun r => (∀ c : Dev Cert.AdamCBias.nD,
      r.2.mem ((c.tc : Thread Cert.AdamCBias.nD Cert.AdamCBias.τ).loc Cert.AdamCBias.main_arg0) = m ((c.tc : Thread Cert.AdamCBias.nD Cert.AdamCBias.τ).loc Cert.AdamCBias.main_arg0)
      ∧ r.2.mem ((c.tc : Thread Cert.AdamCBias.nD Cert.AdamCBias.τ).loc Cert.AdamCBias.main_arg1) = m ((c.tc : Thread Cert.AdamCBias.nD Cert.AdamCBias.τ).loc Cert.AdamCBias.main_arg1)
      ∧ r.2.mem ((c.tc : Thread Cert.AdamCBias.nD Cert.AdamCBias.τ).loc Cert.AdamCBias.main_arg2) = m ((c.tc : Thread Cert.AdamCBias.nD Cert.AdamCBias.τ).loc Cert.AdamCBias.main_arg2)
      ∧ r.2.mem ((c.tc : Thread Cert.AdamCBias.nD Cert.AdamCBias.τ).loc Cert.AdamCBias.main_arg3) = m ((c.tc : Thread Cert.AdamCBias.nD Cert.AdamCBias.τ).loc Cert.AdamCBias.main_arg3))
      ∧ r.2.sem = fun _ => 0)

def quiescent_AdamCBiasIdeal [hAdamCBiasIdeal : Cert.AdamCBiasIdeal.Facts] : Prop :=
  ∀ (m : (ℓ : Loc Cert.AdamCBiasIdeal.nD Cert.AdamCBiasIdeal.τ Cert.AdamCBiasIdeal.sig) → Buf (Elt Ideal) ℓ) (g : Dev Cert.AdamCBiasIdeal.nD → PrngReg), Pre_AdamCBiasIdeal m →
    θ_run (Cert.AdamCBiasIdeal.defs (F := Ideal)) (onTc (τ := Cert.AdamCBiasIdeal.τ) (Cert.AdamCBiasIdeal.main (F := Ideal))) ⟨m, fun _ => 0, g⟩ (fun r => (∀ c : Dev Cert.AdamCBiasIdeal.nD,
      r.2.mem ((c.tc : Thread Cert.AdamCBiasIdeal.nD Cert.AdamCBiasIdeal.τ).loc Cert.AdamCBiasIdeal.main_arg0) = m ((c.tc : Thread Cert.AdamCBiasIdeal.nD Cert.AdamCBiasIdeal.τ).loc Cert.AdamCBiasIdeal.main_arg0)
      ∧ r.2.mem ((c.tc : Thread Cert.AdamCBiasIdeal.nD Cert.AdamCBiasIdeal.τ).loc Cert.AdamCBiasIdeal.main_arg1) = m ((c.tc : Thread Cert.AdamCBiasIdeal.nD Cert.AdamCBiasIdeal.τ).loc Cert.AdamCBiasIdeal.main_arg1)
      ∧ r.2.mem ((c.tc : Thread Cert.AdamCBiasIdeal.nD Cert.AdamCBiasIdeal.τ).loc Cert.AdamCBiasIdeal.main_arg2) = m ((c.tc : Thread Cert.AdamCBiasIdeal.nD Cert.AdamCBiasIdeal.τ).loc Cert.AdamCBiasIdeal.main_arg2)
      ∧ r.2.mem ((c.tc : Thread Cert.AdamCBiasIdeal.nD Cert.AdamCBiasIdeal.τ).loc Cert.AdamCBiasIdeal.main_arg3) = m ((c.tc : Thread Cert.AdamCBiasIdeal.nD Cert.AdamCBiasIdeal.τ).loc Cert.AdamCBiasIdeal.main_arg3))
      ∧ r.2.sem = fun _ => 0)

def quiescent_AdamCBiasRefIdeal [hAdamCBiasRefIdeal : Cert.AdamCBiasRefIdeal.Facts] : Prop :=
  ∀ (m : (ℓ : Loc Cert.AdamCBiasRefIdeal.nD Cert.AdamCBiasRefIdeal.τ Cert.AdamCBiasRefIdeal.sig) → Buf (Elt Ideal) ℓ) (g : Dev Cert.AdamCBiasRefIdeal.nD → PrngReg), Pre_AdamCBiasRefIdeal m →
    θ_run (Cert.AdamCBiasRefIdeal.defs (F := Ideal)) (onTc (τ := Cert.AdamCBiasRefIdeal.τ) (Cert.AdamCBiasRefIdeal.main (F := Ideal))) ⟨m, fun _ => 0, g⟩ (fun r => (∀ c : Dev Cert.AdamCBiasRefIdeal.nD,
      r.2.mem ((c.tc : Thread Cert.AdamCBiasRefIdeal.nD Cert.AdamCBiasRefIdeal.τ).loc Cert.AdamCBiasRefIdeal.main_arg0) = m ((c.tc : Thread Cert.AdamCBiasRefIdeal.nD Cert.AdamCBiasRefIdeal.τ).loc Cert.AdamCBiasRefIdeal.main_arg0)
      ∧ r.2.mem ((c.tc : Thread Cert.AdamCBiasRefIdeal.nD Cert.AdamCBiasRefIdeal.τ).loc Cert.AdamCBiasRefIdeal.main_arg1) = m ((c.tc : Thread Cert.AdamCBiasRefIdeal.nD Cert.AdamCBiasRefIdeal.τ).loc Cert.AdamCBiasRefIdeal.main_arg1)
      ∧ r.2.mem ((c.tc : Thread Cert.AdamCBiasRefIdeal.nD Cert.AdamCBiasRefIdeal.τ).loc Cert.AdamCBiasRefIdeal.main_arg2) = m ((c.tc : Thread Cert.AdamCBiasRefIdeal.nD Cert.AdamCBiasRefIdeal.τ).loc Cert.AdamCBiasRefIdeal.main_arg2)
      ∧ r.2.mem ((c.tc : Thread Cert.AdamCBiasRefIdeal.nD Cert.AdamCBiasRefIdeal.τ).loc Cert.AdamCBiasRefIdeal.main_arg3) = m ((c.tc : Thread Cert.AdamCBiasRefIdeal.nD Cert.AdamCBiasRefIdeal.τ).loc Cert.AdamCBiasRefIdeal.main_arg3))
      ∧ r.2.sem = fun _ => 0)

def quiescent_AdamDt [hAdamDt : Cert.AdamDt.Facts] : Prop :=
  ∀ (m : (ℓ : Loc Cert.AdamDt.nD Cert.AdamDt.τ Cert.AdamDt.sig) → Buf (Elt Bits) ℓ) (g : Dev Cert.AdamDt.nD → PrngReg), Pre_AdamDt m →
    θ_run (Cert.AdamDt.defs (F := Bits)) (onTc (τ := Cert.AdamDt.τ) (Cert.AdamDt.main (F := Bits))) ⟨m, fun _ => 0, g⟩ (fun r => (∀ c : Dev Cert.AdamDt.nD,
      r.2.mem ((c.tc : Thread Cert.AdamDt.nD Cert.AdamDt.τ).loc Cert.AdamDt.main_arg0) = m ((c.tc : Thread Cert.AdamDt.nD Cert.AdamDt.τ).loc Cert.AdamDt.main_arg0)
      ∧ r.2.mem ((c.tc : Thread Cert.AdamDt.nD Cert.AdamDt.τ).loc Cert.AdamDt.main_arg1) = m ((c.tc : Thread Cert.AdamDt.nD Cert.AdamDt.τ).loc Cert.AdamDt.main_arg1)
      ∧ r.2.mem ((c.tc : Thread Cert.AdamDt.nD Cert.AdamDt.τ).loc Cert.AdamDt.main_arg2) = m ((c.tc : Thread Cert.AdamDt.nD Cert.AdamDt.τ).loc Cert.AdamDt.main_arg2)
      ∧ r.2.mem ((c.tc : Thread Cert.AdamDt.nD Cert.AdamDt.τ).loc Cert.AdamDt.main_arg3) = m ((c.tc : Thread Cert.AdamDt.nD Cert.AdamDt.τ).loc Cert.AdamDt.main_arg3))
      ∧ r.2.sem = fun _ => 0)

def quiescent_AdamDtIdeal [hAdamDtIdeal : Cert.AdamDtIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg), Pre_AdamDtIdeal m →
    θ_run (Cert.AdamDtIdeal.defs (F := Ideal)) (onTc (τ := Cert.AdamDtIdeal.τ) (Cert.AdamDtIdeal.main (F := Ideal))) ⟨m, fun _ => 0, g⟩ (fun r => (∀ c : Dev Cert.AdamDtIdeal.nD,
      r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
      ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
      ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
      ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ r.2.sem = fun _ => 0)

def quiescent_AdamDtRefIdeal [hAdamDtRefIdeal : Cert.AdamDtRefIdeal.Facts] : Prop :=
  ∀ (m : (ℓ : Loc Cert.AdamDtRefIdeal.nD Cert.AdamDtRefIdeal.τ Cert.AdamDtRefIdeal.sig) → Buf (Elt Ideal) ℓ) (g : Dev Cert.AdamDtRefIdeal.nD → PrngReg), Pre_AdamDtRefIdeal m →
    θ_run (Cert.AdamDtRefIdeal.defs (F := Ideal)) (onTc (τ := Cert.AdamDtRefIdeal.τ) (Cert.AdamDtRefIdeal.main (F := Ideal))) ⟨m, fun _ => 0, g⟩ (fun r => (∀ c : Dev Cert.AdamDtRefIdeal.nD,
      r.2.mem ((c.tc : Thread Cert.AdamDtRefIdeal.nD Cert.AdamDtRefIdeal.τ).loc Cert.AdamDtRefIdeal.main_arg0) = m ((c.tc : Thread Cert.AdamDtRefIdeal.nD Cert.AdamDtRefIdeal.τ).loc Cert.AdamDtRefIdeal.main_arg0)
      ∧ r.2.mem ((c.tc : Thread Cert.AdamDtRefIdeal.nD Cert.AdamDtRefIdeal.τ).loc Cert.AdamDtRefIdeal.main_arg1) = m ((c.tc : Thread Cert.AdamDtRefIdeal.nD Cert.AdamDtRefIdeal.τ).loc Cert.AdamDtRefIdeal.main_arg1)
      ∧ r.2.mem ((c.tc : Thread Cert.AdamDtRefIdeal.nD Cert.AdamDtRefIdeal.τ).loc Cert.AdamDtRefIdeal.main_arg2) = m ((c.tc : Thread Cert.AdamDtRefIdeal.nD Cert.AdamDtRefIdeal.τ).loc Cert.AdamDtRefIdeal.main_arg2)
      ∧ r.2.mem ((c.tc : Thread Cert.AdamDtRefIdeal.nD Cert.AdamDtRefIdeal.τ).loc Cert.AdamDtRefIdeal.main_arg3) = m ((c.tc : Thread Cert.AdamDtRefIdeal.nD Cert.AdamDtRefIdeal.τ).loc Cert.AdamDtRefIdeal.main_arg3))
      ∧ r.2.sem = fun _ => 0)

def quiescent_AdamSkip [hAdamSkip : Cert.AdamSkip.Facts] : Prop :=
  ∀ (m : (ℓ : Loc Cert.AdamSkip.nD Cert.AdamSkip.τ Cert.AdamSkip.sig) → Buf (Elt Bits) ℓ) (g : Dev Cert.AdamSkip.nD → PrngReg), Pre_AdamSkip m →
    θ_run (Cert.AdamSkip.defs (F := Bits)) (onTc (τ := Cert.AdamSkip.τ) (Cert.AdamSkip.main (F := Bits))) ⟨m, fun _ => 0, g⟩ (fun r => (∀ c : Dev Cert.AdamSkip.nD,
      r.2.mem ((c.tc : Thread Cert.AdamSkip.nD Cert.AdamSkip.τ).loc Cert.AdamSkip.main_arg0) = m ((c.tc : Thread Cert.AdamSkip.nD Cert.AdamSkip.τ).loc Cert.AdamSkip.main_arg0)
      ∧ r.2.mem ((c.tc : Thread Cert.AdamSkip.nD Cert.AdamSkip.τ).loc Cert.AdamSkip.main_arg1) = m ((c.tc : Thread Cert.AdamSkip.nD Cert.AdamSkip.τ).loc Cert.AdamSkip.main_arg1)
      ∧ r.2.mem ((c.tc : Thread Cert.AdamSkip.nD Cert.AdamSkip.τ).loc Cert.AdamSkip.main_arg2) = m ((c.tc : Thread Cert.AdamSkip.nD Cert.AdamSkip.τ).loc Cert.AdamSkip.main_arg2)
      ∧ r.2.mem ((c.tc : Thread Cert.AdamSkip.nD Cert.AdamSkip.τ).loc Cert.AdamSkip.main_arg3) = m ((c.tc : Thread Cert.AdamSkip.nD Cert.AdamSkip.τ).loc Cert.AdamSkip.main_arg3))
      ∧ r.2.sem = fun _ => 0)

def quiescent_AdamSkipIdeal [hAdamSkipIdeal : Cert.AdamSkipIdeal.Facts] : Prop :=
  ∀ (m : (ℓ : Loc Cert.AdamSkipIdeal.nD Cert.AdamSkipIdeal.τ Cert.AdamSkipIdeal.sig) → Buf (Elt Ideal) ℓ) (g : Dev Cert.AdamSkipIdeal.nD → PrngReg), Pre_AdamSkipIdeal m →
    θ_run (Cert.AdamSkipIdeal.defs (F := Ideal)) (onTc (τ := Cert.AdamSkipIdeal.τ) (Cert.AdamSkipIdeal.main (F := Ideal))) ⟨m, fun _ => 0, g⟩ (fun r => (∀ c : Dev Cert.AdamSkipIdeal.nD,
      r.2.mem ((c.tc : Thread Cert.AdamSkipIdeal.nD Cert.AdamSkipIdeal.τ).loc Cert.AdamSkipIdeal.main_arg0) = m ((c.tc : Thread Cert.AdamSkipIdeal.nD Cert.AdamSkipIdeal.τ).loc Cert.AdamSkipIdeal.main_arg0)
      ∧ r.2.mem ((c.tc : Thread Cert.AdamSkipIdeal.nD Cert.AdamSkipIdeal.τ).loc Cert.AdamSkipIdeal.main_arg1) = m ((c.tc : Thread Cert.AdamSkipIdeal.nD Cert.AdamSkipIdeal.τ).loc Cert.AdamSkipIdeal.main_arg1)
      ∧ r.2.mem ((c.tc : Thread Cert.AdamSkipIdeal.nD Cert.AdamSkipIdeal.τ).loc Cert.AdamSkipIdeal.main_arg2) = m ((c.tc : Thread Cert.AdamSkipIdeal.nD Cert.AdamSkipIdeal.τ).loc Cert.AdamSkipIdeal.main_arg2)
      ∧ r.2.mem ((c.tc : Thread Cert.AdamSkipIdeal.nD Cert.AdamSkipIdeal.τ).loc Cert.AdamSkipIdeal.main_arg3) = m ((c.tc : Thread Cert.AdamSkipIdeal.nD Cert.AdamSkipIdeal.τ).loc Cert.AdamSkipIdeal.main_arg3))
      ∧ r.2.sem = fun _ => 0)

def quiescent_AdamSkipRefIdeal [hAdamSkipRefIdeal : Cert.AdamSkipRefIdeal.Facts] : Prop :=
  ∀ (m : (ℓ : Loc Cert.AdamSkipRefIdeal.nD Cert.AdamSkipRefIdeal.τ Cert.AdamSkipRefIdeal.sig) → Buf (Elt Ideal) ℓ) (g : Dev Cert.AdamSkipRefIdeal.nD → PrngReg), Pre_AdamSkipRefIdeal m →
    θ_run (Cert.AdamSkipRefIdeal.defs (F := Ideal)) (onTc (τ := Cert.AdamSkipRefIdeal.τ) (Cert.AdamSkipRefIdeal.main (F := Ideal))) ⟨m, fun _ => 0, g⟩ (fun r => (∀ c : Dev Cert.AdamSkipRefIdeal.nD,
      r.2.mem ((c.tc : Thread Cert.AdamSkipRefIdeal.nD Cert.AdamSkipRefIdeal.τ).loc Cert.AdamSkipRefIdeal.main_arg0) = m ((c.tc : Thread Cert.AdamSkipRefIdeal.nD Cert.AdamSkipRefIdeal.τ).loc Cert.AdamSkipRefIdeal.main_arg0)
      ∧ r.2.mem ((c.tc : Thread Cert.AdamSkipRefIdeal.nD Cert.AdamSkipRefIdeal.τ).loc Cert.AdamSkipRefIdeal.main_arg1) = m ((c.tc : Thread Cert.AdamSkipRefIdeal.nD Cert.AdamSkipRefIdeal.τ).loc Cert.AdamSkipRefIdeal.main_arg1)
      ∧ r.2.mem ((c.tc : Thread Cert.AdamSkipRefIdeal.nD Cert.AdamSkipRefIdeal.τ).loc Cert.AdamSkipRefIdeal.main_arg2) = m ((c.tc : Thread Cert.AdamSkipRefIdeal.nD Cert.AdamSkipRefIdeal.τ).loc Cert.AdamSkipRefIdeal.main_arg2)
      ∧ r.2.mem ((c.tc : Thread Cert.AdamSkipRefIdeal.nD Cert.AdamSkipRefIdeal.τ).loc Cert.AdamSkipRefIdeal.main_arg3) = m ((c.tc : Thread Cert.AdamSkipRefIdeal.nD Cert.AdamSkipRefIdeal.τ).loc Cert.AdamSkipRefIdeal.main_arg3))
      ∧ r.2.sem = fun _ => 0)

def quiescent_AdamCOut [hAdamCOut : Cert.AdamCOut.Facts] : Prop :=
  ∀ (m : (ℓ : Loc Cert.AdamCOut.nD Cert.AdamCOut.τ Cert.AdamCOut.sig) → Buf (Elt Bits) ℓ) (g : Dev Cert.AdamCOut.nD → PrngReg), Pre_AdamCOut m →
    θ_run (Cert.AdamCOut.defs (F := Bits)) (onTc (τ := Cert.AdamCOut.τ) (Cert.AdamCOut.main (F := Bits))) ⟨m, fun _ => 0, g⟩ (fun r => (∀ c : Dev Cert.AdamCOut.nD,
      r.2.mem ((c.tc : Thread Cert.AdamCOut.nD Cert.AdamCOut.τ).loc Cert.AdamCOut.main_arg0) = m ((c.tc : Thread Cert.AdamCOut.nD Cert.AdamCOut.τ).loc Cert.AdamCOut.main_arg0)
      ∧ r.2.mem ((c.tc : Thread Cert.AdamCOut.nD Cert.AdamCOut.τ).loc Cert.AdamCOut.main_arg1) = m ((c.tc : Thread Cert.AdamCOut.nD Cert.AdamCOut.τ).loc Cert.AdamCOut.main_arg1)
      ∧ r.2.mem ((c.tc : Thread Cert.AdamCOut.nD Cert.AdamCOut.τ).loc Cert.AdamCOut.main_arg2) = m ((c.tc : Thread Cert.AdamCOut.nD Cert.AdamCOut.τ).loc Cert.AdamCOut.main_arg2)
      ∧ r.2.mem ((c.tc : Thread Cert.AdamCOut.nD Cert.AdamCOut.τ).loc Cert.AdamCOut.main_arg3) = m ((c.tc : Thread Cert.AdamCOut.nD Cert.AdamCOut.τ).loc Cert.AdamCOut.main_arg3))
      ∧ r.2.sem = fun _ => 0)

def quiescent_AdamCOutIdeal [hAdamCOutIdeal : Cert.AdamCOutIdeal.Facts] : Prop :=
  ∀ (m : (ℓ : Loc Cert.AdamCOutIdeal.nD Cert.AdamCOutIdeal.τ Cert.AdamCOutIdeal.sig) → Buf (Elt Ideal) ℓ) (g : Dev Cert.AdamCOutIdeal.nD → PrngReg), Pre_AdamCOutIdeal m →
    θ_run (Cert.AdamCOutIdeal.defs (F := Ideal)) (onTc (τ := Cert.AdamCOutIdeal.τ) (Cert.AdamCOutIdeal.main (F := Ideal))) ⟨m, fun _ => 0, g⟩ (fun r => (∀ c : Dev Cert.AdamCOutIdeal.nD,
      r.2.mem ((c.tc : Thread Cert.AdamCOutIdeal.nD Cert.AdamCOutIdeal.τ).loc Cert.AdamCOutIdeal.main_arg0) = m ((c.tc : Thread Cert.AdamCOutIdeal.nD Cert.AdamCOutIdeal.τ).loc Cert.AdamCOutIdeal.main_arg0)
      ∧ r.2.mem ((c.tc : Thread Cert.AdamCOutIdeal.nD Cert.AdamCOutIdeal.τ).loc Cert.AdamCOutIdeal.main_arg1) = m ((c.tc : Thread Cert.AdamCOutIdeal.nD Cert.AdamCOutIdeal.τ).loc Cert.AdamCOutIdeal.main_arg1)
      ∧ r.2.mem ((c.tc : Thread Cert.AdamCOutIdeal.nD Cert.AdamCOutIdeal.τ).loc Cert.AdamCOutIdeal.main_arg2) = m ((c.tc : Thread Cert.AdamCOutIdeal.nD Cert.AdamCOutIdeal.τ).loc Cert.AdamCOutIdeal.main_arg2)
      ∧ r.2.mem ((c.tc : Thread Cert.AdamCOutIdeal.nD Cert.AdamCOutIdeal.τ).loc Cert.AdamCOutIdeal.main_arg3) = m ((c.tc : Thread Cert.AdamCOutIdeal.nD Cert.AdamCOutIdeal.τ).loc Cert.AdamCOutIdeal.main_arg3))
      ∧ r.2.sem = fun _ => 0)

def quiescent_AdamCOutRefIdeal [hAdamCOutRefIdeal : Cert.AdamCOutRefIdeal.Facts] : Prop :=
  ∀ (m : (ℓ : Loc Cert.AdamCOutRefIdeal.nD Cert.AdamCOutRefIdeal.τ Cert.AdamCOutRefIdeal.sig) → Buf (Elt Ideal) ℓ) (g : Dev Cert.AdamCOutRefIdeal.nD → PrngReg), Pre_AdamCOutRefIdeal m →
    θ_run (Cert.AdamCOutRefIdeal.defs (F := Ideal)) (onTc (τ := Cert.AdamCOutRefIdeal.τ) (Cert.AdamCOutRefIdeal.main (F := Ideal))) ⟨m, fun _ => 0, g⟩ (fun r => (∀ c : Dev Cert.AdamCOutRefIdeal.nD,
      r.2.mem ((c.tc : Thread Cert.AdamCOutRefIdeal.nD Cert.AdamCOutRefIdeal.τ).loc Cert.AdamCOutRefIdeal.main_arg0) = m ((c.tc : Thread Cert.AdamCOutRefIdeal.nD Cert.AdamCOutRefIdeal.τ).loc Cert.AdamCOutRefIdeal.main_arg0)
      ∧ r.2.mem ((c.tc : Thread Cert.AdamCOutRefIdeal.nD Cert.AdamCOutRefIdeal.τ).loc Cert.AdamCOutRefIdeal.main_arg1) = m ((c.tc : Thread Cert.AdamCOutRefIdeal.nD Cert.AdamCOutRefIdeal.τ).loc Cert.AdamCOutRefIdeal.main_arg1)
      ∧ r.2.mem ((c.tc : Thread Cert.AdamCOutRefIdeal.nD Cert.AdamCOutRefIdeal.τ).loc Cert.AdamCOutRefIdeal.main_arg2) = m ((c.tc : Thread Cert.AdamCOutRefIdeal.nD Cert.AdamCOutRefIdeal.τ).loc Cert.AdamCOutRefIdeal.main_arg2)
      ∧ r.2.mem ((c.tc : Thread Cert.AdamCOutRefIdeal.nD Cert.AdamCOutRefIdeal.τ).loc Cert.AdamCOutRefIdeal.main_arg3) = m ((c.tc : Thread Cert.AdamCOutRefIdeal.nD Cert.AdamCOutRefIdeal.τ).loc Cert.AdamCOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamFConv [hAdamFConv : Cert.AdamFConv.Facts] : Prop :=
  ∀ (m : (ℓ : Loc Cert.AdamFConv.nD Cert.AdamFConv.τ Cert.AdamFConv.sig) → Buf (Elt Bits) ℓ) (g : Dev Cert.AdamFConv.nD → PrngReg), Pre_AdamFConv m →
    θ_run (Cert.AdamFConv.defs (F := Bits)) (onTc (τ := Cert.AdamFConv.τ) (Cert.AdamFConv.main (F := Bits))) ⟨m, fun _ => 0, g⟩ (fun r => (∀ c : Dev Cert.AdamFConv.nD,
      r.2.mem ((c.tc : Thread Cert.AdamFConv.nD Cert.AdamFConv.τ).loc Cert.AdamFConv.main_arg0) = m ((c.tc : Thread Cert.AdamFConv.nD Cert.AdamFConv.τ).loc Cert.AdamFConv.main_arg0)
      ∧ r.2.mem ((c.tc : Thread Cert.AdamFConv.nD Cert.AdamFConv.τ).loc Cert.AdamFConv.main_arg1) = m ((c.tc : Thread Cert.AdamFConv.nD Cert.AdamFConv.τ).loc Cert.AdamFConv.main_arg1)
      ∧ r.2.mem ((c.tc : Thread Cert.AdamFConv.nD Cert.AdamFConv.τ).loc Cert.AdamFConv.main_arg2) = m ((c.tc : Thread Cert.AdamFConv.nD Cert.AdamFConv.τ).loc Cert.AdamFConv.main_arg2)
      ∧ r.2.mem ((c.tc : Thread Cert.AdamFConv.nD Cert.AdamFConv.τ).loc Cert.AdamFConv.main_arg3) = m ((c.tc : Thread Cert.AdamFConv.nD Cert.AdamFConv.τ).loc Cert.AdamFConv.main_arg3))
      ∧ r.2.sem = fun _ => 0)

def quiescent_AdamFConvIdeal [hAdamFConvIdeal : Cert.AdamFConvIdeal.Facts] : Prop :=
  ∀ (m : (ℓ : Loc Cert.AdamFConvIdeal.nD Cert.AdamFConvIdeal.τ Cert.AdamFConvIdeal.sig) → Buf (Elt Ideal) ℓ) (g : Dev Cert.AdamFConvIdeal.nD → PrngReg), Pre_AdamFConvIdeal m →
    θ_run (Cert.AdamFConvIdeal.defs (F := Ideal)) (onTc (τ := Cert.AdamFConvIdeal.τ) (Cert.AdamFConvIdeal.main (F := Ideal))) ⟨m, fun _ => 0, g⟩ (fun r => (∀ c : Dev Cert.AdamFConvIdeal.nD,
      r.2.mem ((c.tc : Thread Cert.AdamFConvIdeal.nD Cert.AdamFConvIdeal.τ).loc Cert.AdamFConvIdeal.main_arg0) = m ((c.tc : Thread Cert.AdamFConvIdeal.nD Cert.AdamFConvIdeal.τ).loc Cert.AdamFConvIdeal.main_arg0)
      ∧ r.2.mem ((c.tc : Thread Cert.AdamFConvIdeal.nD Cert.AdamFConvIdeal.τ).loc Cert.AdamFConvIdeal.main_arg1) = m ((c.tc : Thread Cert.AdamFConvIdeal.nD Cert.AdamFConvIdeal.τ).loc Cert.AdamFConvIdeal.main_arg1)
      ∧ r.2.mem ((c.tc : Thread Cert.AdamFConvIdeal.nD Cert.AdamFConvIdeal.τ).loc Cert.AdamFConvIdeal.main_arg2) = m ((c.tc : Thread Cert.AdamFConvIdeal.nD Cert.AdamFConvIdeal.τ).loc Cert.AdamFConvIdeal.main_arg2)
      ∧ r.2.mem ((c.tc : Thread Cert.AdamFConvIdeal.nD Cert.AdamFConvIdeal.τ).loc Cert.AdamFConvIdeal.main_arg3) = m ((c.tc : Thread Cert.AdamFConvIdeal.nD Cert.AdamFConvIdeal.τ).loc Cert.AdamFConvIdeal.main_arg3))
      ∧ r.2.sem = fun _ => 0)

def quiescent_AdamFConvRefIdeal [hAdamFConvRefIdeal : Cert.AdamFConvRefIdeal.Facts] : Prop :=
  ∀ (m : (ℓ : Loc Cert.AdamFConvRefIdeal.nD Cert.AdamFConvRefIdeal.τ Cert.AdamFConvRefIdeal.sig) → Buf (Elt Ideal) ℓ) (g : Dev Cert.AdamFConvRefIdeal.nD → PrngReg), Pre_AdamFConvRefIdeal m →
    θ_run (Cert.AdamFConvRefIdeal.defs (F := Ideal)) (onTc (τ := Cert.AdamFConvRefIdeal.τ) (Cert.AdamFConvRefIdeal.main (F := Ideal))) ⟨m, fun _ => 0, g⟩ (fun r => (∀ c : Dev Cert.AdamFConvRefIdeal.nD,
      r.2.mem ((c.tc : Thread Cert.AdamFConvRefIdeal.nD Cert.AdamFConvRefIdeal.τ).loc Cert.AdamFConvRefIdeal.main_arg0) = m ((c.tc : Thread Cert.AdamFConvRefIdeal.nD Cert.AdamFConvRefIdeal.τ).loc Cert.AdamFConvRefIdeal.main_arg0)
      ∧ r.2.mem ((c.tc : Thread Cert.AdamFConvRefIdeal.nD Cert.AdamFConvRefIdeal.τ).loc Cert.AdamFConvRefIdeal.main_arg1) = m ((c.tc : Thread Cert.AdamFConvRefIdeal.nD Cert.AdamFConvRefIdeal.τ).loc Cert.AdamFConvRefIdeal.main_arg1)
      ∧ r.2.mem ((c.tc : Thread Cert.AdamFConvRefIdeal.nD Cert.AdamFConvRefIdeal.τ).loc Cert.AdamFConvRefIdeal.main_arg2) = m ((c.tc : Thread Cert.AdamFConvRefIdeal.nD Cert.AdamFConvRefIdeal.τ).loc Cert.AdamFConvRefIdeal.main_arg2)
      ∧ r.2.mem ((c.tc : Thread Cert.AdamFConvRefIdeal.nD Cert.AdamFConvRefIdeal.τ).loc Cert.AdamFConvRefIdeal.main_arg3) = m ((c.tc : Thread Cert.AdamFConvRefIdeal.nD Cert.AdamFConvRefIdeal.τ).loc Cert.AdamFConvRefIdeal.main_arg3))
      ∧ r.2.sem = fun _ => 0)

def quiescent_AdamFBias [hAdamFBias : Cert.AdamFBias.Facts] : Prop :=
  ∀ (m : (ℓ : Loc Cert.AdamFBias.nD Cert.AdamFBias.τ Cert.AdamFBias.sig) → Buf (Elt Bits) ℓ) (g : Dev Cert.AdamFBias.nD → PrngReg), Pre_AdamFBias m →
    θ_run (Cert.AdamFBias.defs (F := Bits)) (onTc (τ := Cert.AdamFBias.τ) (Cert.AdamFBias.main (F := Bits))) ⟨m, fun _ => 0, g⟩ (fun r => (∀ c : Dev Cert.AdamFBias.nD,
      r.2.mem ((c.tc : Thread Cert.AdamFBias.nD Cert.AdamFBias.τ).loc Cert.AdamFBias.main_arg0) = m ((c.tc : Thread Cert.AdamFBias.nD Cert.AdamFBias.τ).loc Cert.AdamFBias.main_arg0)
      ∧ r.2.mem ((c.tc : Thread Cert.AdamFBias.nD Cert.AdamFBias.τ).loc Cert.AdamFBias.main_arg1) = m ((c.tc : Thread Cert.AdamFBias.nD Cert.AdamFBias.τ).loc Cert.AdamFBias.main_arg1)
      ∧ r.2.mem ((c.tc : Thread Cert.AdamFBias.nD Cert.AdamFBias.τ).loc Cert.AdamFBias.main_arg2) = m ((c.tc : Thread Cert.AdamFBias.nD Cert.AdamFBias.τ).loc Cert.AdamFBias.main_arg2)
      ∧ r.2.mem ((c.tc : Thread Cert.AdamFBias.nD Cert.AdamFBias.τ).loc Cert.AdamFBias.main_arg3) = m ((c.tc : Thread Cert.AdamFBias.nD Cert.AdamFBias.τ).loc Cert.AdamFBias.main_arg3))
      ∧ r.2.sem = fun _ => 0)

def quiescent_AdamFBiasIdeal [hAdamFBiasIdeal : Cert.AdamFBiasIdeal.Facts] : Prop :=
  ∀ (m : (ℓ : Loc Cert.AdamFBiasIdeal.nD Cert.AdamFBiasIdeal.τ Cert.AdamFBiasIdeal.sig) → Buf (Elt Ideal) ℓ) (g : Dev Cert.AdamFBiasIdeal.nD → PrngReg), Pre_AdamFBiasIdeal m →
    θ_run (Cert.AdamFBiasIdeal.defs (F := Ideal)) (onTc (τ := Cert.AdamFBiasIdeal.τ) (Cert.AdamFBiasIdeal.main (F := Ideal))) ⟨m, fun _ => 0, g⟩ (fun r => (∀ c : Dev Cert.AdamFBiasIdeal.nD,
      r.2.mem ((c.tc : Thread Cert.AdamFBiasIdeal.nD Cert.AdamFBiasIdeal.τ).loc Cert.AdamFBiasIdeal.main_arg0) = m ((c.tc : Thread Cert.AdamFBiasIdeal.nD Cert.AdamFBiasIdeal.τ).loc Cert.AdamFBiasIdeal.main_arg0)
      ∧ r.2.mem ((c.tc : Thread Cert.AdamFBiasIdeal.nD Cert.AdamFBiasIdeal.τ).loc Cert.AdamFBiasIdeal.main_arg1) = m ((c.tc : Thread Cert.AdamFBiasIdeal.nD Cert.AdamFBiasIdeal.τ).loc Cert.AdamFBiasIdeal.main_arg1)
      ∧ r.2.mem ((c.tc : Thread Cert.AdamFBiasIdeal.nD Cert.AdamFBiasIdeal.τ).loc Cert.AdamFBiasIdeal.main_arg2) = m ((c.tc : Thread Cert.AdamFBiasIdeal.nD Cert.AdamFBiasIdeal.τ).loc Cert.AdamFBiasIdeal.main_arg2)
      ∧ r.2.mem ((c.tc : Thread Cert.AdamFBiasIdeal.nD Cert.AdamFBiasIdeal.τ).loc Cert.AdamFBiasIdeal.main_arg3) = m ((c.tc : Thread Cert.AdamFBiasIdeal.nD Cert.AdamFBiasIdeal.τ).loc Cert.AdamFBiasIdeal.main_arg3))
      ∧ r.2.sem = fun _ => 0)

def quiescent_AdamFBiasRefIdeal [hAdamFBiasRefIdeal : Cert.AdamFBiasRefIdeal.Facts] : Prop :=
  ∀ (m : (ℓ : Loc Cert.AdamFBiasRefIdeal.nD Cert.AdamFBiasRefIdeal.τ Cert.AdamFBiasRefIdeal.sig) → Buf (Elt Ideal) ℓ) (g : Dev Cert.AdamFBiasRefIdeal.nD → PrngReg), Pre_AdamFBiasRefIdeal m →
    θ_run (Cert.AdamFBiasRefIdeal.defs (F := Ideal)) (onTc (τ := Cert.AdamFBiasRefIdeal.τ) (Cert.AdamFBiasRefIdeal.main (F := Ideal))) ⟨m, fun _ => 0, g⟩ (fun r => (∀ c : Dev Cert.AdamFBiasRefIdeal.nD,
      r.2.mem ((c.tc : Thread Cert.AdamFBiasRefIdeal.nD Cert.AdamFBiasRefIdeal.τ).loc Cert.AdamFBiasRefIdeal.main_arg0) = m ((c.tc : Thread Cert.AdamFBiasRefIdeal.nD Cert.AdamFBiasRefIdeal.τ).loc Cert.AdamFBiasRefIdeal.main_arg0)
      ∧ r.2.mem ((c.tc : Thread Cert.AdamFBiasRefIdeal.nD Cert.AdamFBiasRefIdeal.τ).loc Cert.AdamFBiasRefIdeal.main_arg1) = m ((c.tc : Thread Cert.AdamFBiasRefIdeal.nD Cert.AdamFBiasRefIdeal.τ).loc Cert.AdamFBiasRefIdeal.main_arg1)
      ∧ r.2.mem ((c.tc : Thread Cert.AdamFBiasRefIdeal.nD Cert.AdamFBiasRefIdeal.τ).loc Cert.AdamFBiasRefIdeal.main_arg2) = m ((c.tc : Thread Cert.AdamFBiasRefIdeal.nD Cert.AdamFBiasRefIdeal.τ).loc Cert.AdamFBiasRefIdeal.main_arg2)
      ∧ r.2.mem ((c.tc : Thread Cert.AdamFBiasRefIdeal.nD Cert.AdamFBiasRefIdeal.τ).loc Cert.AdamFBiasRefIdeal.main_arg3) = m ((c.tc : Thread Cert.AdamFBiasRefIdeal.nD Cert.AdamFBiasRefIdeal.τ).loc Cert.AdamFBiasRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1))
      ∧ r.2.sem = fun _ => 0)

def quiescent_StepDa [hStepDa : Cert.StepDa.Facts] : Prop :=
  ∀ (m : (ℓ : Loc Cert.StepDa.nD Cert.StepDa.τ Cert.StepDa.sig) → Buf (Elt Bits) ℓ) (g : Dev Cert.StepDa.nD → PrngReg), Pre_StepDa m →
    θ_run (Cert.StepDa.defs (F := Bits)) (onTc (τ := Cert.StepDa.τ) (Cert.StepDa.main (F := Bits))) ⟨m, fun _ => 0, g⟩ (fun r => (∀ c : Dev Cert.StepDa.nD,
      r.2.mem ((c.tc : Thread Cert.StepDa.nD Cert.StepDa.τ).loc Cert.StepDa.main_arg0) = m ((c.tc : Thread Cert.StepDa.nD Cert.StepDa.τ).loc Cert.StepDa.main_arg0)
      ∧ r.2.mem ((c.tc : Thread Cert.StepDa.nD Cert.StepDa.τ).loc Cert.StepDa.main_arg1) = m ((c.tc : Thread Cert.StepDa.nD Cert.StepDa.τ).loc Cert.StepDa.main_arg1))
      ∧ r.2.sem = fun _ => 0)

def quiescent_StepDaIdeal [hStepDaIdeal : Cert.StepDaIdeal.Facts] : Prop :=
  ∀ (m : (ℓ : Loc Cert.StepDaIdeal.nD Cert.StepDaIdeal.τ Cert.StepDaIdeal.sig) → Buf (Elt Ideal) ℓ) (g : Dev Cert.StepDaIdeal.nD → PrngReg), Pre_StepDaIdeal m →
    θ_run (Cert.StepDaIdeal.defs (F := Ideal)) (onTc (τ := Cert.StepDaIdeal.τ) (Cert.StepDaIdeal.main (F := Ideal))) ⟨m, fun _ => 0, g⟩ (fun r => (∀ c : Dev Cert.StepDaIdeal.nD,
      r.2.mem ((c.tc : Thread Cert.StepDaIdeal.nD Cert.StepDaIdeal.τ).loc Cert.StepDaIdeal.main_arg0) = m ((c.tc : Thread Cert.StepDaIdeal.nD Cert.StepDaIdeal.τ).loc Cert.StepDaIdeal.main_arg0)
      ∧ r.2.mem ((c.tc : Thread Cert.StepDaIdeal.nD Cert.StepDaIdeal.τ).loc Cert.StepDaIdeal.main_arg1) = m ((c.tc : Thread Cert.StepDaIdeal.nD Cert.StepDaIdeal.τ).loc Cert.StepDaIdeal.main_arg1))
      ∧ r.2.sem = fun _ => 0)

def quiescent_StepDaRefIdeal [hStepDaRefIdeal : Cert.StepDaRefIdeal.Facts] : Prop :=
  ∀ (m : (ℓ : Loc Cert.StepDaRefIdeal.nD Cert.StepDaRefIdeal.τ Cert.StepDaRefIdeal.sig) → Buf (Elt Ideal) ℓ) (g : Dev Cert.StepDaRefIdeal.nD → PrngReg), Pre_StepDaRefIdeal m →
    θ_run (Cert.StepDaRefIdeal.defs (F := Ideal)) (onTc (τ := Cert.StepDaRefIdeal.τ) (Cert.StepDaRefIdeal.main (F := Ideal))) ⟨m, fun _ => 0, g⟩ (fun r => (∀ c : Dev Cert.StepDaRefIdeal.nD,
      r.2.mem ((c.tc : Thread Cert.StepDaRefIdeal.nD Cert.StepDaRefIdeal.τ).loc Cert.StepDaRefIdeal.main_arg0) = m ((c.tc : Thread Cert.StepDaRefIdeal.nD Cert.StepDaRefIdeal.τ).loc Cert.StepDaRefIdeal.main_arg0)
      ∧ r.2.mem ((c.tc : Thread Cert.StepDaRefIdeal.nD Cert.StepDaRefIdeal.τ).loc Cert.StepDaRefIdeal.main_arg1) = m ((c.tc : Thread Cert.StepDaRefIdeal.nD Cert.StepDaRefIdeal.τ).loc Cert.StepDaRefIdeal.main_arg1))
      ∧ r.2.sem = fun _ => 0)

def quiescent_StepDw [hStepDw : Cert.StepDw.Facts] : Prop :=
  ∀ (m : (ℓ : Loc Cert.StepDw.nD Cert.StepDw.τ Cert.StepDw.sig) → Buf (Elt Bits) ℓ) (g : Dev Cert.StepDw.nD → PrngReg), Pre_StepDw m →
    θ_run (Cert.StepDw.defs (F := Bits)) (onTc (τ := Cert.StepDw.τ) (Cert.StepDw.main (F := Bits))) ⟨m, fun _ => 0, g⟩ (fun r => (∀ c : Dev Cert.StepDw.nD,
      r.2.mem ((c.tc : Thread Cert.StepDw.nD Cert.StepDw.τ).loc Cert.StepDw.main_arg0) = m ((c.tc : Thread Cert.StepDw.nD Cert.StepDw.τ).loc Cert.StepDw.main_arg0)
      ∧ r.2.mem ((c.tc : Thread Cert.StepDw.nD Cert.StepDw.τ).loc Cert.StepDw.main_arg1) = m ((c.tc : Thread Cert.StepDw.nD Cert.StepDw.τ).loc Cert.StepDw.main_arg1))
      ∧ r.2.sem = fun _ => 0)

def quiescent_StepDwIdeal [hStepDwIdeal : Cert.StepDwIdeal.Facts] : Prop :=
  ∀ (m : (ℓ : Loc Cert.StepDwIdeal.nD Cert.StepDwIdeal.τ Cert.StepDwIdeal.sig) → Buf (Elt Ideal) ℓ) (g : Dev Cert.StepDwIdeal.nD → PrngReg), Pre_StepDwIdeal m →
    θ_run (Cert.StepDwIdeal.defs (F := Ideal)) (onTc (τ := Cert.StepDwIdeal.τ) (Cert.StepDwIdeal.main (F := Ideal))) ⟨m, fun _ => 0, g⟩ (fun r => (∀ c : Dev Cert.StepDwIdeal.nD,
      r.2.mem ((c.tc : Thread Cert.StepDwIdeal.nD Cert.StepDwIdeal.τ).loc Cert.StepDwIdeal.main_arg0) = m ((c.tc : Thread Cert.StepDwIdeal.nD Cert.StepDwIdeal.τ).loc Cert.StepDwIdeal.main_arg0)
      ∧ r.2.mem ((c.tc : Thread Cert.StepDwIdeal.nD Cert.StepDwIdeal.τ).loc Cert.StepDwIdeal.main_arg1) = m ((c.tc : Thread Cert.StepDwIdeal.nD Cert.StepDwIdeal.τ).loc Cert.StepDwIdeal.main_arg1))
      ∧ r.2.sem = fun _ => 0)

def quiescent_StepDwRefIdeal [hStepDwRefIdeal : Cert.StepDwRefIdeal.Facts] : Prop :=
  ∀ (m : (ℓ : Loc Cert.StepDwRefIdeal.nD Cert.StepDwRefIdeal.τ Cert.StepDwRefIdeal.sig) → Buf (Elt Ideal) ℓ) (g : Dev Cert.StepDwRefIdeal.nD → PrngReg), Pre_StepDwRefIdeal m →
    θ_run (Cert.StepDwRefIdeal.defs (F := Ideal)) (onTc (τ := Cert.StepDwRefIdeal.τ) (Cert.StepDwRefIdeal.main (F := Ideal))) ⟨m, fun _ => 0, g⟩ (fun r => (∀ c : Dev Cert.StepDwRefIdeal.nD,
      r.2.mem ((c.tc : Thread Cert.StepDwRefIdeal.nD Cert.StepDwRefIdeal.τ).loc Cert.StepDwRefIdeal.main_arg0) = m ((c.tc : Thread Cert.StepDwRefIdeal.nD Cert.StepDwRefIdeal.τ).loc Cert.StepDwRefIdeal.main_arg0)
      ∧ r.2.mem ((c.tc : Thread Cert.StepDwRefIdeal.nD Cert.StepDwRefIdeal.τ).loc Cert.StepDwRefIdeal.main_arg1) = m ((c.tc : Thread Cert.StepDwRefIdeal.nD Cert.StepDwRefIdeal.τ).loc Cert.StepDwRefIdeal.main_arg1))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_LossDy [hLossDy : Cert.LossDy.Facts] : Prop :=
  ∀ (m : (ℓ : Loc Cert.LossDy.nD Cert.LossDy.τ Cert.LossDy.sig) → Buf (Elt Bits) ℓ) (g : Dev Cert.LossDy.nD → PrngReg), Pre_LossDy m →
    θ_run (Cert.LossDy.defs (F := Bits)) (onTc (τ := Cert.LossDy.τ) (Cert.LossDy.main (F := Bits))) ⟨m, fun _ => 0, g⟩ (fun r => (∀ c : Dev Cert.LossDy.nD,
      r.2.mem ((c.tc : Thread Cert.LossDy.nD Cert.LossDy.τ).loc Cert.LossDy.main_arg0) = m ((c.tc : Thread Cert.LossDy.nD Cert.LossDy.τ).loc Cert.LossDy.main_arg0)
      ∧ r.2.mem ((c.tc : Thread Cert.LossDy.nD Cert.LossDy.τ).loc Cert.LossDy.main_arg1) = m ((c.tc : Thread Cert.LossDy.nD Cert.LossDy.τ).loc Cert.LossDy.main_arg1)
      ∧ r.2.mem ((c.tc : Thread Cert.LossDy.nD Cert.LossDy.τ).loc Cert.LossDy.main_arg2) = m ((c.tc : Thread Cert.LossDy.nD Cert.LossDy.τ).loc Cert.LossDy.main_arg2))
      ∧ r.2.sem = fun _ => 0)

def quiescent_LossDyIdeal [hLossDyIdeal : Cert.LossDyIdeal.Facts] : Prop :=
  ∀ (m : (ℓ : Loc Cert.LossDyIdeal.nD Cert.LossDyIdeal.τ Cert.LossDyIdeal.sig) → Buf (Elt Ideal) ℓ) (g : Dev Cert.LossDyIdeal.nD → PrngReg), Pre_LossDyIdeal m →
    θ_run (Cert.LossDyIdeal.defs (F := Ideal)) (onTc (τ := Cert.LossDyIdeal.τ) (Cert.LossDyIdeal.main (F := Ideal))) ⟨m, fun _ => 0, g⟩ (fun r => (∀ c : Dev Cert.LossDyIdeal.nD,
      r.2.mem ((c.tc : Thread Cert.LossDyIdeal.nD Cert.LossDyIdeal.τ).loc Cert.LossDyIdeal.main_arg0) = m ((c.tc : Thread Cert.LossDyIdeal.nD Cert.LossDyIdeal.τ).loc Cert.LossDyIdeal.main_arg0)
      ∧ r.2.mem ((c.tc : Thread Cert.LossDyIdeal.nD Cert.LossDyIdeal.τ).loc Cert.LossDyIdeal.main_arg1) = m ((c.tc : Thread Cert.LossDyIdeal.nD Cert.LossDyIdeal.τ).loc Cert.LossDyIdeal.main_arg1)
      ∧ r.2.mem ((c.tc : Thread Cert.LossDyIdeal.nD Cert.LossDyIdeal.τ).loc Cert.LossDyIdeal.main_arg2) = m ((c.tc : Thread Cert.LossDyIdeal.nD Cert.LossDyIdeal.τ).loc Cert.LossDyIdeal.main_arg2))
      ∧ r.2.sem = fun _ => 0)

def quiescent_LossDyRefIdeal [hLossDyRefIdeal : Cert.LossDyRefIdeal.Facts] : Prop :=
  ∀ (m : (ℓ : Loc Cert.LossDyRefIdeal.nD Cert.LossDyRefIdeal.τ Cert.LossDyRefIdeal.sig) → Buf (Elt Ideal) ℓ) (g : Dev Cert.LossDyRefIdeal.nD → PrngReg), Pre_LossDyRefIdeal m →
    θ_run (Cert.LossDyRefIdeal.defs (F := Ideal)) (onTc (τ := Cert.LossDyRefIdeal.τ) (Cert.LossDyRefIdeal.main (F := Ideal))) ⟨m, fun _ => 0, g⟩ (fun r => (∀ c : Dev Cert.LossDyRefIdeal.nD,
      r.2.mem ((c.tc : Thread Cert.LossDyRefIdeal.nD Cert.LossDyRefIdeal.τ).loc Cert.LossDyRefIdeal.main_arg0) = m ((c.tc : Thread Cert.LossDyRefIdeal.nD Cert.LossDyRefIdeal.τ).loc Cert.LossDyRefIdeal.main_arg0)
      ∧ r.2.mem ((c.tc : Thread Cert.LossDyRefIdeal.nD Cert.LossDyRefIdeal.τ).loc Cert.LossDyRefIdeal.main_arg1) = m ((c.tc : Thread Cert.LossDyRefIdeal.nD Cert.LossDyRefIdeal.τ).loc Cert.LossDyRefIdeal.main_arg1)
      ∧ r.2.mem ((c.tc : Thread Cert.LossDyRefIdeal.nD Cert.LossDyRefIdeal.τ).loc Cert.LossDyRefIdeal.main_arg2) = m ((c.tc : Thread Cert.LossDyRefIdeal.nD Cert.LossDyRefIdeal.τ).loc Cert.LossDyRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2))
      ∧ r.2.sem = fun _ => 0)

def quiescent_Joined [hJoined : Cert.Joined.Facts] : Prop :=
  ∀ (m : (ℓ : Loc Cert.Joined.nD Cert.Joined.τ Cert.Joined.sig) → Buf (Elt Bits) ℓ) (g : Dev Cert.Joined.nD → PrngReg), Pre_Joined m →
    θ_run (Cert.Joined.defs (F := Bits)) (onTc (τ := Cert.Joined.τ) (Cert.Joined.main (F := Bits))) ⟨m, fun _ => 0, g⟩ (fun r => (∀ c : Dev Cert.Joined.nD,
      r.2.mem ((c.tc : Thread Cert.Joined.nD Cert.Joined.τ).loc Cert.Joined.main_arg0) = m ((c.tc : Thread Cert.Joined.nD Cert.Joined.τ).loc Cert.Joined.main_arg0)
      ∧ r.2.mem ((c.tc : Thread Cert.Joined.nD Cert.Joined.τ).loc Cert.Joined.main_arg1) = m ((c.tc : Thread Cert.Joined.nD Cert.Joined.τ).loc Cert.Joined.main_arg1)
      ∧ r.2.mem ((c.tc : Thread Cert.Joined.nD Cert.Joined.τ).loc Cert.Joined.main_arg2) = m ((c.tc : Thread Cert.Joined.nD Cert.Joined.τ).loc Cert.Joined.main_arg2)
      ∧ r.2.mem ((c.tc : Thread Cert.Joined.nD Cert.Joined.τ).loc Cert.Joined.main_arg3) = m ((c.tc : Thread Cert.Joined.nD Cert.Joined.τ).loc Cert.Joined.main_arg3))
      ∧ r.2.sem = fun _ => 0)

def quiescent_JoinedIdeal [hJoinedIdeal : Cert.JoinedIdeal.Facts] : Prop :=
  ∀ (m : (ℓ : Loc Cert.JoinedIdeal.nD Cert.JoinedIdeal.τ Cert.JoinedIdeal.sig) → Buf (Elt Ideal) ℓ) (g : Dev Cert.JoinedIdeal.nD → PrngReg), Pre_JoinedIdeal m →
    θ_run (Cert.JoinedIdeal.defs (F := Ideal)) (onTc (τ := Cert.JoinedIdeal.τ) (Cert.JoinedIdeal.main (F := Ideal))) ⟨m, fun _ => 0, g⟩ (fun r => (∀ c : Dev Cert.JoinedIdeal.nD,
      r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
      ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1)
      ∧ r.2.mem ((c.tc : Thread Cert.JoinedIdeal.nD Cert.JoinedIdeal.τ).loc Cert.JoinedIdeal.main_arg2) = m ((c.tc : Thread Cert.JoinedIdeal.nD Cert.JoinedIdeal.τ).loc Cert.JoinedIdeal.main_arg2)
      ∧ r.2.mem ((c.tc : Thread Cert.JoinedIdeal.nD Cert.JoinedIdeal.τ).loc Cert.JoinedIdeal.main_arg3) = m ((c.tc : Thread Cert.JoinedIdeal.nD Cert.JoinedIdeal.τ).loc Cert.JoinedIdeal.main_arg3))
      ∧ r.2.sem = fun _ => 0)

def quiescent_JoinedRefIdeal [hJoinedRefIdeal : Cert.JoinedRefIdeal.Facts] : Prop :=
  ∀ (m : (ℓ : Loc Cert.JoinedRefIdeal.nD Cert.JoinedRefIdeal.τ Cert.JoinedRefIdeal.sig) → Buf (Elt Ideal) ℓ) (g : Dev Cert.JoinedRefIdeal.nD → PrngReg), Pre_JoinedRefIdeal m →
    θ_run (Cert.JoinedRefIdeal.defs (F := Ideal)) (onTc (τ := Cert.JoinedRefIdeal.τ) (Cert.JoinedRefIdeal.main (F := Ideal))) ⟨m, fun _ => 0, g⟩ (fun r => (∀ c : Dev Cert.JoinedRefIdeal.nD,
      r.2.mem ((c.tc : Thread Cert.JoinedRefIdeal.nD Cert.JoinedRefIdeal.τ).loc Cert.JoinedRefIdeal.main_arg0) = m ((c.tc : Thread Cert.JoinedRefIdeal.nD Cert.JoinedRefIdeal.τ).loc Cert.JoinedRefIdeal.main_arg0)
      ∧ r.2.mem ((c.tc : Thread Cert.JoinedRefIdeal.nD Cert.JoinedRefIdeal.τ).loc Cert.JoinedRefIdeal.main_arg1) = m ((c.tc : Thread Cert.JoinedRefIdeal.nD Cert.JoinedRefIdeal.τ).loc Cert.JoinedRefIdeal.main_arg1)
      ∧ r.2.mem ((c.tc : Thread Cert.JoinedRefIdeal.nD Cert.JoinedRefIdeal.τ).loc Cert.JoinedRefIdeal.main_arg2) = m ((c.tc : Thread Cert.JoinedRefIdeal.nD Cert.JoinedRefIdeal.τ).loc Cert.JoinedRefIdeal.main_arg2)
      ∧ r.2.mem ((c.tc : Thread Cert.JoinedRefIdeal.nD Cert.JoinedRefIdeal.τ).loc Cert.JoinedRefIdeal.main_arg3) = m ((c.tc : Thread Cert.JoinedRefIdeal.nD Cert.JoinedRefIdeal.τ).loc Cert.JoinedRefIdeal.main_arg3))
      ∧ r.2.sem = fun _ => 0)

def quiescent_RmsDx [hRmsDx : Cert.RmsDx.Facts] : Prop :=
  ∀ (m : (ℓ : Loc Cert.RmsDx.nD Cert.RmsDx.τ Cert.RmsDx.sig) → Buf (Elt Bits) ℓ) (g : Dev Cert.RmsDx.nD → PrngReg), Pre_RmsDx m →
    θ_run (Cert.RmsDx.defs (F := Bits)) (onTc (τ := Cert.RmsDx.τ) (Cert.RmsDx.main (F := Bits))) ⟨m, fun _ => 0, g⟩ (fun r => (∀ c : Dev Cert.RmsDx.nD,
      r.2.mem ((c.tc : Thread Cert.RmsDx.nD Cert.RmsDx.τ).loc Cert.RmsDx.main_arg0) = m ((c.tc : Thread Cert.RmsDx.nD Cert.RmsDx.τ).loc Cert.RmsDx.main_arg0)
      ∧ r.2.mem ((c.tc : Thread Cert.RmsDx.nD Cert.RmsDx.τ).loc Cert.RmsDx.main_arg1) = m ((c.tc : Thread Cert.RmsDx.nD Cert.RmsDx.τ).loc Cert.RmsDx.main_arg1)
      ∧ r.2.mem ((c.tc : Thread Cert.RmsDx.nD Cert.RmsDx.τ).loc Cert.RmsDx.main_arg2) = m ((c.tc : Thread Cert.RmsDx.nD Cert.RmsDx.τ).loc Cert.RmsDx.main_arg2))
      ∧ r.2.sem = fun _ => 0)

def quiescent_RmsDxIdeal [hRmsDxIdeal : Cert.RmsDxIdeal.Facts] : Prop :=
  ∀ (m : (ℓ : Loc Cert.RmsDxIdeal.nD Cert.RmsDxIdeal.τ Cert.RmsDxIdeal.sig) → Buf (Elt Ideal) ℓ) (g : Dev Cert.RmsDxIdeal.nD → PrngReg), Pre_RmsDxIdeal m →
    θ_run (Cert.RmsDxIdeal.defs (F := Ideal)) (onTc (τ := Cert.RmsDxIdeal.τ) (Cert.RmsDxIdeal.main (F := Ideal))) ⟨m, fun _ => 0, g⟩ (fun r => (∀ c : Dev Cert.RmsDxIdeal.nD,
      r.2.mem ((c.tc : Thread Cert.RmsDxIdeal.nD Cert.RmsDxIdeal.τ).loc Cert.RmsDxIdeal.main_arg0) = m ((c.tc : Thread Cert.RmsDxIdeal.nD Cert.RmsDxIdeal.τ).loc Cert.RmsDxIdeal.main_arg0)
      ∧ r.2.mem ((c.tc : Thread Cert.RmsDxIdeal.nD Cert.RmsDxIdeal.τ).loc Cert.RmsDxIdeal.main_arg1) = m ((c.tc : Thread Cert.RmsDxIdeal.nD Cert.RmsDxIdeal.τ).loc Cert.RmsDxIdeal.main_arg1)
      ∧ r.2.mem ((c.tc : Thread Cert.RmsDxIdeal.nD Cert.RmsDxIdeal.τ).loc Cert.RmsDxIdeal.main_arg2) = m ((c.tc : Thread Cert.RmsDxIdeal.nD Cert.RmsDxIdeal.τ).loc Cert.RmsDxIdeal.main_arg2))
      ∧ r.2.sem = fun _ => 0)

def quiescent_RmsDxRefIdeal [hRmsDxRefIdeal : Cert.RmsDxRefIdeal.Facts] : Prop :=
  ∀ (m : (ℓ : Loc Cert.RmsDxRefIdeal.nD Cert.RmsDxRefIdeal.τ Cert.RmsDxRefIdeal.sig) → Buf (Elt Ideal) ℓ) (g : Dev Cert.RmsDxRefIdeal.nD → PrngReg), Pre_RmsDxRefIdeal m →
    θ_run (Cert.RmsDxRefIdeal.defs (F := Ideal)) (onTc (τ := Cert.RmsDxRefIdeal.τ) (Cert.RmsDxRefIdeal.main (F := Ideal))) ⟨m, fun _ => 0, g⟩ (fun r => (∀ c : Dev Cert.RmsDxRefIdeal.nD,
      r.2.mem ((c.tc : Thread Cert.RmsDxRefIdeal.nD Cert.RmsDxRefIdeal.τ).loc Cert.RmsDxRefIdeal.main_arg0) = m ((c.tc : Thread Cert.RmsDxRefIdeal.nD Cert.RmsDxRefIdeal.τ).loc Cert.RmsDxRefIdeal.main_arg0)
      ∧ r.2.mem ((c.tc : Thread Cert.RmsDxRefIdeal.nD Cert.RmsDxRefIdeal.τ).loc Cert.RmsDxRefIdeal.main_arg1) = m ((c.tc : Thread Cert.RmsDxRefIdeal.nD Cert.RmsDxRefIdeal.τ).loc Cert.RmsDxRefIdeal.main_arg1)
      ∧ r.2.mem ((c.tc : Thread Cert.RmsDxRefIdeal.nD Cert.RmsDxRefIdeal.τ).loc Cert.RmsDxRefIdeal.main_arg2) = m ((c.tc : Thread Cert.RmsDxRefIdeal.nD Cert.RmsDxRefIdeal.τ).loc Cert.RmsDxRefIdeal.main_arg2))
      ∧ r.2.sem = fun _ => 0)

def quiescent_ResidualDx [hResidualDx : Cert.ResidualDx.Facts] : Prop :=
  ∀ (m : (ℓ : Loc Cert.ResidualDx.nD Cert.ResidualDx.τ Cert.ResidualDx.sig) → Buf (Elt Bits) ℓ) (g : Dev Cert.ResidualDx.nD → PrngReg), Pre_ResidualDx m →
    θ_run (Cert.ResidualDx.defs (F := Bits)) (onTc (τ := Cert.ResidualDx.τ) (Cert.ResidualDx.main (F := Bits))) ⟨m, fun _ => 0, g⟩ (fun r => (∀ c : Dev Cert.ResidualDx.nD,
      r.2.mem ((c.tc : Thread Cert.ResidualDx.nD Cert.ResidualDx.τ).loc Cert.ResidualDx.main_arg0) = m ((c.tc : Thread Cert.ResidualDx.nD Cert.ResidualDx.τ).loc Cert.ResidualDx.main_arg0)
      ∧ r.2.mem ((c.tc : Thread Cert.ResidualDx.nD Cert.ResidualDx.τ).loc Cert.ResidualDx.main_arg1) = m ((c.tc : Thread Cert.ResidualDx.nD Cert.ResidualDx.τ).loc Cert.ResidualDx.main_arg1)
      ∧ r.2.mem ((c.tc : Thread Cert.ResidualDx.nD Cert.ResidualDx.τ).loc Cert.ResidualDx.main_arg2) = m ((c.tc : Thread Cert.ResidualDx.nD Cert.ResidualDx.τ).loc Cert.ResidualDx.main_arg2)
      ∧ r.2.mem ((c.tc : Thread Cert.ResidualDx.nD Cert.ResidualDx.τ).loc Cert.ResidualDx.main_arg3) = m ((c.tc : Thread Cert.ResidualDx.nD Cert.ResidualDx.τ).loc Cert.ResidualDx.main_arg3))
      ∧ r.2.sem = fun _ => 0)

def quiescent_ResidualDxIdeal [hResidualDxIdeal : Cert.ResidualDxIdeal.Facts] : Prop :=
  ∀ (m : (ℓ : Loc Cert.ResidualDxIdeal.nD Cert.ResidualDxIdeal.τ Cert.ResidualDxIdeal.sig) → Buf (Elt Ideal) ℓ) (g : Dev Cert.ResidualDxIdeal.nD → PrngReg), Pre_ResidualDxIdeal m →
    θ_run (Cert.ResidualDxIdeal.defs (F := Ideal)) (onTc (τ := Cert.ResidualDxIdeal.τ) (Cert.ResidualDxIdeal.main (F := Ideal))) ⟨m, fun _ => 0, g⟩ (fun r => (∀ c : Dev Cert.ResidualDxIdeal.nD,
      r.2.mem ((c.tc : Thread Cert.ResidualDxIdeal.nD Cert.ResidualDxIdeal.τ).loc Cert.ResidualDxIdeal.main_arg0) = m ((c.tc : Thread Cert.ResidualDxIdeal.nD Cert.ResidualDxIdeal.τ).loc Cert.ResidualDxIdeal.main_arg0)
      ∧ r.2.mem ((c.tc : Thread Cert.ResidualDxIdeal.nD Cert.ResidualDxIdeal.τ).loc Cert.ResidualDxIdeal.main_arg1) = m ((c.tc : Thread Cert.ResidualDxIdeal.nD Cert.ResidualDxIdeal.τ).loc Cert.ResidualDxIdeal.main_arg1)
      ∧ r.2.mem ((c.tc : Thread Cert.ResidualDxIdeal.nD Cert.ResidualDxIdeal.τ).loc Cert.ResidualDxIdeal.main_arg2) = m ((c.tc : Thread Cert.ResidualDxIdeal.nD Cert.ResidualDxIdeal.τ).loc Cert.ResidualDxIdeal.main_arg2)
      ∧ r.2.mem ((c.tc : Thread Cert.ResidualDxIdeal.nD Cert.ResidualDxIdeal.τ).loc Cert.ResidualDxIdeal.main_arg3) = m ((c.tc : Thread Cert.ResidualDxIdeal.nD Cert.ResidualDxIdeal.τ).loc Cert.ResidualDxIdeal.main_arg3))
      ∧ r.2.sem = fun _ => 0)

def quiescent_ResidualDxRefIdeal [hResidualDxRefIdeal : Cert.ResidualDxRefIdeal.Facts] : Prop :=
  ∀ (m : (ℓ : Loc Cert.ResidualDxRefIdeal.nD Cert.ResidualDxRefIdeal.τ Cert.ResidualDxRefIdeal.sig) → Buf (Elt Ideal) ℓ) (g : Dev Cert.ResidualDxRefIdeal.nD → PrngReg), Pre_ResidualDxRefIdeal m →
    θ_run (Cert.ResidualDxRefIdeal.defs (F := Ideal)) (onTc (τ := Cert.ResidualDxRefIdeal.τ) (Cert.ResidualDxRefIdeal.main (F := Ideal))) ⟨m, fun _ => 0, g⟩ (fun r => (∀ c : Dev Cert.ResidualDxRefIdeal.nD,
      r.2.mem ((c.tc : Thread Cert.ResidualDxRefIdeal.nD Cert.ResidualDxRefIdeal.τ).loc Cert.ResidualDxRefIdeal.main_arg0) = m ((c.tc : Thread Cert.ResidualDxRefIdeal.nD Cert.ResidualDxRefIdeal.τ).loc Cert.ResidualDxRefIdeal.main_arg0)
      ∧ r.2.mem ((c.tc : Thread Cert.ResidualDxRefIdeal.nD Cert.ResidualDxRefIdeal.τ).loc Cert.ResidualDxRefIdeal.main_arg1) = m ((c.tc : Thread Cert.ResidualDxRefIdeal.nD Cert.ResidualDxRefIdeal.τ).loc Cert.ResidualDxRefIdeal.main_arg1)
      ∧ r.2.mem ((c.tc : Thread Cert.ResidualDxRefIdeal.nD Cert.ResidualDxRefIdeal.τ).loc Cert.ResidualDxRefIdeal.main_arg2) = m ((c.tc : Thread Cert.ResidualDxRefIdeal.nD Cert.ResidualDxRefIdeal.τ).loc Cert.ResidualDxRefIdeal.main_arg2)
      ∧ r.2.mem ((c.tc : Thread Cert.ResidualDxRefIdeal.nD Cert.ResidualDxRefIdeal.τ).loc Cert.ResidualDxRefIdeal.main_arg3) = m ((c.tc : Thread Cert.ResidualDxRefIdeal.nD Cert.ResidualDxRefIdeal.τ).loc Cert.ResidualDxRefIdeal.main_arg3))
      ∧ r.2.sem = fun _ => 0)

def quiescent_JoinedDx [hJoinedDx : Cert.JoinedDx.Facts] : Prop :=
  ∀ (m : (ℓ : Loc Cert.JoinedDx.nD Cert.JoinedDx.τ Cert.JoinedDx.sig) → Buf (Elt Bits) ℓ) (g : Dev Cert.JoinedDx.nD → PrngReg), Pre_JoinedDx m →
    θ_run (Cert.JoinedDx.defs (F := Bits)) (onTc (τ := Cert.JoinedDx.τ) (Cert.JoinedDx.main (F := Bits))) ⟨m, fun _ => 0, g⟩ (fun r => (∀ c : Dev Cert.JoinedDx.nD,
      r.2.mem ((c.tc : Thread Cert.JoinedDx.nD Cert.JoinedDx.τ).loc Cert.JoinedDx.main_arg0) = m ((c.tc : Thread Cert.JoinedDx.nD Cert.JoinedDx.τ).loc Cert.JoinedDx.main_arg0)
      ∧ r.2.mem ((c.tc : Thread Cert.JoinedDx.nD Cert.JoinedDx.τ).loc Cert.JoinedDx.main_arg1) = m ((c.tc : Thread Cert.JoinedDx.nD Cert.JoinedDx.τ).loc Cert.JoinedDx.main_arg1)
      ∧ r.2.mem ((c.tc : Thread Cert.JoinedDx.nD Cert.JoinedDx.τ).loc Cert.JoinedDx.main_arg2) = m ((c.tc : Thread Cert.JoinedDx.nD Cert.JoinedDx.τ).loc Cert.JoinedDx.main_arg2)
      ∧ r.2.mem ((c.tc : Thread Cert.JoinedDx.nD Cert.JoinedDx.τ).loc Cert.JoinedDx.main_arg3) = m ((c.tc : Thread Cert.JoinedDx.nD Cert.JoinedDx.τ).loc Cert.JoinedDx.main_arg3)
      ∧ r.2.mem ((c.tc : Thread Cert.JoinedDx.nD Cert.JoinedDx.τ).loc Cert.JoinedDx.main_arg4) = m ((c.tc : Thread Cert.JoinedDx.nD Cert.JoinedDx.τ).loc Cert.JoinedDx.main_arg4)
      ∧ r.2.mem ((c.tc : Thread Cert.JoinedDx.nD Cert.JoinedDx.τ).loc Cert.JoinedDx.main_arg5) = m ((c.tc : Thread Cert.JoinedDx.nD Cert.JoinedDx.τ).loc Cert.JoinedDx.main_arg5))
      ∧ r.2.sem = fun _ => 0)

def quiescent_JoinedDxIdeal [hJoinedDxIdeal : Cert.JoinedDxIdeal.Facts] : Prop :=
  ∀ (m : (ℓ : Loc Cert.JoinedDxIdeal.nD Cert.JoinedDxIdeal.τ Cert.JoinedDxIdeal.sig) → Buf (Elt Ideal) ℓ) (g : Dev Cert.JoinedDxIdeal.nD → PrngReg), Pre_JoinedDxIdeal m →
    θ_run (Cert.JoinedDxIdeal.defs (F := Ideal)) (onTc (τ := Cert.JoinedDxIdeal.τ) (Cert.JoinedDxIdeal.main (F := Ideal))) ⟨m, fun _ => 0, g⟩ (fun r => (∀ c : Dev Cert.JoinedDxIdeal.nD,
      r.2.mem ((c.tc : Thread Cert.JoinedDxIdeal.nD Cert.JoinedDxIdeal.τ).loc Cert.JoinedDxIdeal.main_arg0) = m ((c.tc : Thread Cert.JoinedDxIdeal.nD Cert.JoinedDxIdeal.τ).loc Cert.JoinedDxIdeal.main_arg0)
      ∧ r.2.mem ((c.tc : Thread Cert.JoinedDxIdeal.nD Cert.JoinedDxIdeal.τ).loc Cert.JoinedDxIdeal.main_arg1) = m ((c.tc : Thread Cert.JoinedDxIdeal.nD Cert.JoinedDxIdeal.τ).loc Cert.JoinedDxIdeal.main_arg1)
      ∧ r.2.mem ((c.tc : Thread Cert.JoinedDxIdeal.nD Cert.JoinedDxIdeal.τ).loc Cert.JoinedDxIdeal.main_arg2) = m ((c.tc : Thread Cert.JoinedDxIdeal.nD Cert.JoinedDxIdeal.τ).loc Cert.JoinedDxIdeal.main_arg2)
      ∧ r.2.mem ((c.tc : Thread Cert.JoinedDxIdeal.nD Cert.JoinedDxIdeal.τ).loc Cert.JoinedDxIdeal.main_arg3) = m ((c.tc : Thread Cert.JoinedDxIdeal.nD Cert.JoinedDxIdeal.τ).loc Cert.JoinedDxIdeal.main_arg3)
      ∧ r.2.mem ((c.tc : Thread Cert.JoinedDxIdeal.nD Cert.JoinedDxIdeal.τ).loc Cert.JoinedDxIdeal.main_arg4) = m ((c.tc : Thread Cert.JoinedDxIdeal.nD Cert.JoinedDxIdeal.τ).loc Cert.JoinedDxIdeal.main_arg4)
      ∧ r.2.mem ((c.tc : Thread Cert.JoinedDxIdeal.nD Cert.JoinedDxIdeal.τ).loc Cert.JoinedDxIdeal.main_arg5) = m ((c.tc : Thread Cert.JoinedDxIdeal.nD Cert.JoinedDxIdeal.τ).loc Cert.JoinedDxIdeal.main_arg5))
      ∧ r.2.sem = fun _ => 0)

def quiescent_JoinedDxRefIdeal [hJoinedDxRefIdeal : Cert.JoinedDxRefIdeal.Facts] : Prop :=
  ∀ (m : (ℓ : Loc Cert.JoinedDxRefIdeal.nD Cert.JoinedDxRefIdeal.τ Cert.JoinedDxRefIdeal.sig) → Buf (Elt Ideal) ℓ) (g : Dev Cert.JoinedDxRefIdeal.nD → PrngReg), Pre_JoinedDxRefIdeal m →
    θ_run (Cert.JoinedDxRefIdeal.defs (F := Ideal)) (onTc (τ := Cert.JoinedDxRefIdeal.τ) (Cert.JoinedDxRefIdeal.main (F := Ideal))) ⟨m, fun _ => 0, g⟩ (fun r => (∀ c : Dev Cert.JoinedDxRefIdeal.nD,
      r.2.mem ((c.tc : Thread Cert.JoinedDxRefIdeal.nD Cert.JoinedDxRefIdeal.τ).loc Cert.JoinedDxRefIdeal.main_arg0) = m ((c.tc : Thread Cert.JoinedDxRefIdeal.nD Cert.JoinedDxRefIdeal.τ).loc Cert.JoinedDxRefIdeal.main_arg0)
      ∧ r.2.mem ((c.tc : Thread Cert.JoinedDxRefIdeal.nD Cert.JoinedDxRefIdeal.τ).loc Cert.JoinedDxRefIdeal.main_arg1) = m ((c.tc : Thread Cert.JoinedDxRefIdeal.nD Cert.JoinedDxRefIdeal.τ).loc Cert.JoinedDxRefIdeal.main_arg1)
      ∧ r.2.mem ((c.tc : Thread Cert.JoinedDxRefIdeal.nD Cert.JoinedDxRefIdeal.τ).loc Cert.JoinedDxRefIdeal.main_arg2) = m ((c.tc : Thread Cert.JoinedDxRefIdeal.nD Cert.JoinedDxRefIdeal.τ).loc Cert.JoinedDxRefIdeal.main_arg2)
      ∧ r.2.mem ((c.tc : Thread Cert.JoinedDxRefIdeal.nD Cert.JoinedDxRefIdeal.τ).loc Cert.JoinedDxRefIdeal.main_arg3) = m ((c.tc : Thread Cert.JoinedDxRefIdeal.nD Cert.JoinedDxRefIdeal.τ).loc Cert.JoinedDxRefIdeal.main_arg3)
      ∧ r.2.mem ((c.tc : Thread Cert.JoinedDxRefIdeal.nD Cert.JoinedDxRefIdeal.τ).loc Cert.JoinedDxRefIdeal.main_arg4) = m ((c.tc : Thread Cert.JoinedDxRefIdeal.nD Cert.JoinedDxRefIdeal.τ).loc Cert.JoinedDxRefIdeal.main_arg4)
      ∧ r.2.mem ((c.tc : Thread Cert.JoinedDxRefIdeal.nD Cert.JoinedDxRefIdeal.τ).loc Cert.JoinedDxRefIdeal.main_arg5) = m ((c.tc : Thread Cert.JoinedDxRefIdeal.nD Cert.JoinedDxRefIdeal.τ).loc Cert.JoinedDxRefIdeal.main_arg5))
      ∧ r.2.sem = fun _ => 0)

def preserves_Kernel_KernelIdeal : Prop :=
  IdealRules.named_const.Statement Cert.KernelIdeal.κ "a" .f32 0x3D372713#32 ((8943 / 200000 : ℝ) : EReal)
  ∧ IdealRules.named_const.Statement Cert.KernelIdeal.κ "three_a" .f32 0x3E095D4F#32 ((26829 / 200000 : ℝ) : EReal)

def algebraic_KernelIdeal_ReferenceIdeal_pre_finite_value_side [hKernelIdeal : Cert.KernelIdeal.Facts] [hReferenceIdeal : Cert.ReferenceIdeal.Facts] [hPre_finite_value_side : Cert.Pre_finite_value_side.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_value_side m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v119) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v3) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDa_UpDaIdeal : Prop :=
  True

def algebraic_UpDaIdeal_UpDaRefIdeal [hUpDaIdeal : Cert.UpDaIdeal.Facts] [hUpDaRefIdeal : Cert.UpDaRefIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaRefIdeal.nD Cert.UpDaRefIdeal.τ Cert.UpDaRefIdeal.sig) → Buf (Elt Ideal) ℓ) (g' : Dev Cert.UpDaRefIdeal.nD → PrngReg), Pre_UpDaIdeal m →
    (∀ c : Dev Cert.UpDaIdeal.nD,
      m' ((c.tc : Thread Cert.UpDaRefIdeal.nD Cert.UpDaRefIdeal.τ).loc Cert.UpDaRefIdeal.main_arg0) = m ((c.tc : Thread Cert.UpDaIdeal.nD Cert.UpDaIdeal.τ).loc Cert.UpDaIdeal.main_arg0)
      ∧ m' ((c.tc : Thread Cert.UpDaRefIdeal.nD Cert.UpDaRefIdeal.τ).loc Cert.UpDaRefIdeal.main_arg1) = m ((c.tc : Thread Cert.UpDaIdeal.nD Cert.UpDaIdeal.τ).loc Cert.UpDaIdeal.main_arg1)) →
    ∃ (v0 : (c : Dev Cert.UpDaIdeal.nD) → Buf (Elt Ideal) ((c.tc : Thread Cert.UpDaIdeal.nD Cert.UpDaIdeal.τ).loc Cert.UpDaIdeal.main_v0)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v0) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ θ_run (Cert.UpDaRefIdeal.defs (F := Ideal)) (onTc (τ := Cert.UpDaRefIdeal.τ) (Cert.UpDaRefIdeal.main (F := Ideal))) ⟨m', fun _ => 0, g'⟩ (fun r => ∀ c : Dev Cert.UpDaRefIdeal.nD,
          r.2.mem ((c.tc : Thread Cert.UpDaRefIdeal.nD Cert.UpDaRefIdeal.τ).loc Cert.UpDaRefIdeal.main_v2) = v0 c
          ∧ r.2.mem ((c.tc : Thread Cert.UpDaRefIdeal.nD Cert.UpDaRefIdeal.τ).loc Cert.UpDaRefIdeal.main_arg0) = m' ((c.tc : Thread Cert.UpDaRefIdeal.nD Cert.UpDaRefIdeal.τ).loc Cert.UpDaRefIdeal.main_arg0)
          ∧ r.2.mem ((c.tc : Thread Cert.UpDaRefIdeal.nD Cert.UpDaRefIdeal.τ).loc Cert.UpDaRefIdeal.main_arg1) = m' ((c.tc : Thread Cert.UpDaRefIdeal.nD Cert.UpDaRefIdeal.τ).loc Cert.UpDaRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Inner_InnerIdeal : Prop :=
  True

def algebraic_InnerIdeal_InnerRefIdeal [hInnerIdeal : Cert.InnerIdeal.Facts] [hInnerRefIdeal : Cert.InnerRefIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)) →
    ∃ (v0 : (c : Dev Cert.InnerIdeal.nD) → Buf (Elt Ideal) ((c.tc : Thread Cert.InnerIdeal.nD Cert.InnerIdeal.τ).loc Cert.InnerIdeal.main_v0)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v0) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v2) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1))

def preserves_Outer_OuterIdeal : Prop :=
  True

def algebraic_OuterIdeal_OuterRefIdeal [hOuterIdeal : Cert.OuterIdeal.Facts] [hOuterRefIdeal : Cert.OuterRefIdeal.Facts] : Prop :=
  ∀ (m : (ℓ : Loc Cert.OuterIdeal.nD Cert.OuterIdeal.τ Cert.OuterIdeal.sig) → Buf (Elt Ideal) ℓ) (g : Dev Cert.OuterIdeal.nD → PrngReg)
    (m' : (ℓ : Loc Cert.OuterRefIdeal.nD Cert.OuterRefIdeal.τ Cert.OuterRefIdeal.sig) → Buf (Elt Ideal) ℓ) (g' : Dev Cert.OuterRefIdeal.nD → PrngReg), Pre_OuterIdeal m →
    (∀ c : Dev Cert.OuterIdeal.nD,
      m' ((c.tc : Thread Cert.OuterRefIdeal.nD Cert.OuterRefIdeal.τ).loc Cert.OuterRefIdeal.main_arg0) = m ((c.tc : Thread Cert.OuterIdeal.nD Cert.OuterIdeal.τ).loc Cert.OuterIdeal.main_arg0)
      ∧ m' ((c.tc : Thread Cert.OuterRefIdeal.nD Cert.OuterRefIdeal.τ).loc Cert.OuterRefIdeal.main_arg1) = m ((c.tc : Thread Cert.OuterIdeal.nD Cert.OuterIdeal.τ).loc Cert.OuterIdeal.main_arg1)) →
    ∃ (v0 : (c : Dev Cert.OuterIdeal.nD) → Buf (Elt Ideal) ((c.tc : Thread Cert.OuterIdeal.nD Cert.OuterIdeal.τ).loc Cert.OuterIdeal.main_v0)),
      θ_run (Cert.OuterIdeal.defs (F := Ideal)) (onTc (τ := Cert.OuterIdeal.τ) (Cert.OuterIdeal.main (F := Ideal))) ⟨m, fun _ => 0, g⟩ (fun r => ∀ c : Dev Cert.OuterIdeal.nD,
          r.2.mem ((c.tc : Thread Cert.OuterIdeal.nD Cert.OuterIdeal.τ).loc Cert.OuterIdeal.main_v0) = v0 c
          ∧ r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
          ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ θ_run (Cert.OuterRefIdeal.defs (F := Ideal)) (onTc (τ := Cert.OuterRefIdeal.τ) (Cert.OuterRefIdeal.main (F := Ideal))) ⟨m', fun _ => 0, g'⟩ (fun r => ∀ c : Dev Cert.OuterRefIdeal.nD,
          r.2.mem ((c.tc : Thread Cert.OuterRefIdeal.nD Cert.OuterRefIdeal.τ).loc Cert.OuterRefIdeal.main_v2) = v0 c
          ∧ r.2.mem ((c.tc : Thread Cert.OuterRefIdeal.nD Cert.OuterRefIdeal.τ).loc Cert.OuterRefIdeal.main_arg0) = m' ((c.tc : Thread Cert.OuterRefIdeal.nD Cert.OuterRefIdeal.τ).loc Cert.OuterRefIdeal.main_arg0)
          ∧ r.2.mem ((c.tc : Thread Cert.OuterRefIdeal.nD Cert.OuterRefIdeal.τ).loc Cert.OuterRefIdeal.main_arg1) = m' ((c.tc : Thread Cert.OuterRefIdeal.nD Cert.OuterRefIdeal.τ).loc Cert.OuterRefIdeal.main_arg1))

def preserves_OuterDa_OuterDaIdeal : Prop :=
  True

def algebraic_OuterDaIdeal_OuterDaRefIdeal [hOuterDaIdeal : Cert.OuterDaIdeal.Facts] [hOuterDaRefIdeal : Cert.OuterDaRefIdeal.Facts] : Prop :=
  ∀ (m : (ℓ : Loc Cert.OuterDaIdeal.nD Cert.OuterDaIdeal.τ Cert.OuterDaIdeal.sig) → Buf (Elt Ideal) ℓ) (g : Dev Cert.OuterDaIdeal.nD → PrngReg)
    (m' : (ℓ : Loc Cert.OuterDaRefIdeal.nD Cert.OuterDaRefIdeal.τ Cert.OuterDaRefIdeal.sig) → Buf (Elt Ideal) ℓ) (g' : Dev Cert.OuterDaRefIdeal.nD → PrngReg), Pre_OuterDaIdeal m →
    (∀ c : Dev Cert.OuterDaIdeal.nD,
      m' ((c.tc : Thread Cert.OuterDaRefIdeal.nD Cert.OuterDaRefIdeal.τ).loc Cert.OuterDaRefIdeal.main_arg0) = m ((c.tc : Thread Cert.OuterDaIdeal.nD Cert.OuterDaIdeal.τ).loc Cert.OuterDaIdeal.main_arg0)
      ∧ m' ((c.tc : Thread Cert.OuterDaRefIdeal.nD Cert.OuterDaRefIdeal.τ).loc Cert.OuterDaRefIdeal.main_arg1) = m ((c.tc : Thread Cert.OuterDaIdeal.nD Cert.OuterDaIdeal.τ).loc Cert.OuterDaIdeal.main_arg1)) →
    ∃ (v0 : (c : Dev Cert.OuterDaIdeal.nD) → Buf (Elt Ideal) ((c.tc : Thread Cert.OuterDaIdeal.nD Cert.OuterDaIdeal.τ).loc Cert.OuterDaIdeal.main_v0)),
      θ_run (Cert.OuterDaIdeal.defs (F := Ideal)) (onTc (τ := Cert.OuterDaIdeal.τ) (Cert.OuterDaIdeal.main (F := Ideal))) ⟨m, fun _ => 0, g⟩ (fun r => ∀ c : Dev Cert.OuterDaIdeal.nD,
          r.2.mem ((c.tc : Thread Cert.OuterDaIdeal.nD Cert.OuterDaIdeal.τ).loc Cert.OuterDaIdeal.main_v0) = v0 c
          ∧ r.2.mem ((c.tc : Thread Cert.OuterDaIdeal.nD Cert.OuterDaIdeal.τ).loc Cert.OuterDaIdeal.main_arg0) = m ((c.tc : Thread Cert.OuterDaIdeal.nD Cert.OuterDaIdeal.τ).loc Cert.OuterDaIdeal.main_arg0)
          ∧ r.2.mem ((c.tc : Thread Cert.OuterDaIdeal.nD Cert.OuterDaIdeal.τ).loc Cert.OuterDaIdeal.main_arg1) = m ((c.tc : Thread Cert.OuterDaIdeal.nD Cert.OuterDaIdeal.τ).loc Cert.OuterDaIdeal.main_arg1))
      ∧ θ_run (Cert.OuterDaRefIdeal.defs (F := Ideal)) (onTc (τ := Cert.OuterDaRefIdeal.τ) (Cert.OuterDaRefIdeal.main (F := Ideal))) ⟨m', fun _ => 0, g'⟩ (fun r => ∀ c : Dev Cert.OuterDaRefIdeal.nD,
          r.2.mem ((c.tc : Thread Cert.OuterDaRefIdeal.nD Cert.OuterDaRefIdeal.τ).loc Cert.OuterDaRefIdeal.main_v3) = v0 c
          ∧ r.2.mem ((c.tc : Thread Cert.OuterDaRefIdeal.nD Cert.OuterDaRefIdeal.τ).loc Cert.OuterDaRefIdeal.main_arg0) = m' ((c.tc : Thread Cert.OuterDaRefIdeal.nD Cert.OuterDaRefIdeal.τ).loc Cert.OuterDaRefIdeal.main_arg0)
          ∧ r.2.mem ((c.tc : Thread Cert.OuterDaRefIdeal.nD Cert.OuterDaRefIdeal.τ).loc Cert.OuterDaRefIdeal.main_arg1) = m' ((c.tc : Thread Cert.OuterDaRefIdeal.nD Cert.OuterDaRefIdeal.τ).loc Cert.OuterDaRefIdeal.main_arg1))

def preserves_OuterDw_OuterDwIdeal : Prop :=
  True

def algebraic_OuterDwIdeal_OuterDwRefIdeal [hOuterDwIdeal : Cert.OuterDwIdeal.Facts] [hOuterDwRefIdeal : Cert.OuterDwRefIdeal.Facts] : Prop :=
  ∀ (m : (ℓ : Loc Cert.OuterDwIdeal.nD Cert.OuterDwIdeal.τ Cert.OuterDwIdeal.sig) → Buf (Elt Ideal) ℓ) (g : Dev Cert.OuterDwIdeal.nD → PrngReg)
    (m' : (ℓ : Loc Cert.OuterDwRefIdeal.nD Cert.OuterDwRefIdeal.τ Cert.OuterDwRefIdeal.sig) → Buf (Elt Ideal) ℓ) (g' : Dev Cert.OuterDwRefIdeal.nD → PrngReg), Pre_OuterDwIdeal m →
    (∀ c : Dev Cert.OuterDwIdeal.nD,
      m' ((c.tc : Thread Cert.OuterDwRefIdeal.nD Cert.OuterDwRefIdeal.τ).loc Cert.OuterDwRefIdeal.main_arg0) = m ((c.tc : Thread Cert.OuterDwIdeal.nD Cert.OuterDwIdeal.τ).loc Cert.OuterDwIdeal.main_arg0)
      ∧ m' ((c.tc : Thread Cert.OuterDwRefIdeal.nD Cert.OuterDwRefIdeal.τ).loc Cert.OuterDwRefIdeal.main_arg1) = m ((c.tc : Thread Cert.OuterDwIdeal.nD Cert.OuterDwIdeal.τ).loc Cert.OuterDwIdeal.main_arg1)) →
    ∃ (v0 : (c : Dev Cert.OuterDwIdeal.nD) → Buf (Elt Ideal) ((c.tc : Thread Cert.OuterDwIdeal.nD Cert.OuterDwIdeal.τ).loc Cert.OuterDwIdeal.main_v0)),
      θ_run (Cert.OuterDwIdeal.defs (F := Ideal)) (onTc (τ := Cert.OuterDwIdeal.τ) (Cert.OuterDwIdeal.main (F := Ideal))) ⟨m, fun _ => 0, g⟩ (fun r => ∀ c : Dev Cert.OuterDwIdeal.nD,
          r.2.mem ((c.tc : Thread Cert.OuterDwIdeal.nD Cert.OuterDwIdeal.τ).loc Cert.OuterDwIdeal.main_v0) = v0 c
          ∧ r.2.mem ((c.tc : Thread Cert.OuterDwIdeal.nD Cert.OuterDwIdeal.τ).loc Cert.OuterDwIdeal.main_arg0) = m ((c.tc : Thread Cert.OuterDwIdeal.nD Cert.OuterDwIdeal.τ).loc Cert.OuterDwIdeal.main_arg0)
          ∧ r.2.mem ((c.tc : Thread Cert.OuterDwIdeal.nD Cert.OuterDwIdeal.τ).loc Cert.OuterDwIdeal.main_arg1) = m ((c.tc : Thread Cert.OuterDwIdeal.nD Cert.OuterDwIdeal.τ).loc Cert.OuterDwIdeal.main_arg1))
      ∧ θ_run (Cert.OuterDwRefIdeal.defs (F := Ideal)) (onTc (τ := Cert.OuterDwRefIdeal.τ) (Cert.OuterDwRefIdeal.main (F := Ideal))) ⟨m', fun _ => 0, g'⟩ (fun r => ∀ c : Dev Cert.OuterDwRefIdeal.nD,
          r.2.mem ((c.tc : Thread Cert.OuterDwRefIdeal.nD Cert.OuterDwRefIdeal.τ).loc Cert.OuterDwRefIdeal.main_v4) = v0 c
          ∧ r.2.mem ((c.tc : Thread Cert.OuterDwRefIdeal.nD Cert.OuterDwRefIdeal.τ).loc Cert.OuterDwRefIdeal.main_arg0) = m' ((c.tc : Thread Cert.OuterDwRefIdeal.nD Cert.OuterDwRefIdeal.τ).loc Cert.OuterDwRefIdeal.main_arg0)
          ∧ r.2.mem ((c.tc : Thread Cert.OuterDwRefIdeal.nD Cert.OuterDwRefIdeal.τ).loc Cert.OuterDwRefIdeal.main_arg1) = m' ((c.tc : Thread Cert.OuterDwRefIdeal.nD Cert.OuterDwRefIdeal.τ).loc Cert.OuterDwRefIdeal.main_arg1))

def preserves_InnerDa_InnerDaIdeal : Prop :=
  True

def algebraic_InnerDaIdeal_InnerDaRefIdeal [hInnerDaIdeal : Cert.InnerDaIdeal.Facts] [hInnerDaRefIdeal : Cert.InnerDaRefIdeal.Facts] : Prop :=
  ∀ (m : (ℓ : Loc Cert.InnerDaIdeal.nD Cert.InnerDaIdeal.τ Cert.InnerDaIdeal.sig) → Buf (Elt Ideal) ℓ) (g : Dev Cert.InnerDaIdeal.nD → PrngReg)
    (m' : (ℓ : Loc Cert.InnerDaRefIdeal.nD Cert.InnerDaRefIdeal.τ Cert.InnerDaRefIdeal.sig) → Buf (Elt Ideal) ℓ) (g' : Dev Cert.InnerDaRefIdeal.nD → PrngReg), Pre_InnerDaIdeal m →
    (∀ c : Dev Cert.InnerDaIdeal.nD,
      m' ((c.tc : Thread Cert.InnerDaRefIdeal.nD Cert.InnerDaRefIdeal.τ).loc Cert.InnerDaRefIdeal.main_arg0) = m ((c.tc : Thread Cert.InnerDaIdeal.nD Cert.InnerDaIdeal.τ).loc Cert.InnerDaIdeal.main_arg0)
      ∧ m' ((c.tc : Thread Cert.InnerDaRefIdeal.nD Cert.InnerDaRefIdeal.τ).loc Cert.InnerDaRefIdeal.main_arg1) = m ((c.tc : Thread Cert.InnerDaIdeal.nD Cert.InnerDaIdeal.τ).loc Cert.InnerDaIdeal.main_arg1)) →
    ∃ (v0 : (c : Dev Cert.InnerDaIdeal.nD) → Buf (Elt Ideal) ((c.tc : Thread Cert.InnerDaIdeal.nD Cert.InnerDaIdeal.τ).loc Cert.InnerDaIdeal.main_v0)),
      θ_run (Cert.InnerDaIdeal.defs (F := Ideal)) (onTc (τ := Cert.InnerDaIdeal.τ) (Cert.InnerDaIdeal.main (F := Ideal))) ⟨m, fun _ => 0, g⟩ (fun r => ∀ c : Dev Cert.InnerDaIdeal.nD,
          r.2.mem ((c.tc : Thread Cert.InnerDaIdeal.nD Cert.InnerDaIdeal.τ).loc Cert.InnerDaIdeal.main_v0) = v0 c
          ∧ r.2.mem ((c.tc : Thread Cert.InnerDaIdeal.nD Cert.InnerDaIdeal.τ).loc Cert.InnerDaIdeal.main_arg0) = m ((c.tc : Thread Cert.InnerDaIdeal.nD Cert.InnerDaIdeal.τ).loc Cert.InnerDaIdeal.main_arg0)
          ∧ r.2.mem ((c.tc : Thread Cert.InnerDaIdeal.nD Cert.InnerDaIdeal.τ).loc Cert.InnerDaIdeal.main_arg1) = m ((c.tc : Thread Cert.InnerDaIdeal.nD Cert.InnerDaIdeal.τ).loc Cert.InnerDaIdeal.main_arg1))
      ∧ θ_run (Cert.InnerDaRefIdeal.defs (F := Ideal)) (onTc (τ := Cert.InnerDaRefIdeal.τ) (Cert.InnerDaRefIdeal.main (F := Ideal))) ⟨m', fun _ => 0, g'⟩ (fun r => ∀ c : Dev Cert.InnerDaRefIdeal.nD,
          r.2.mem ((c.tc : Thread Cert.InnerDaRefIdeal.nD Cert.InnerDaRefIdeal.τ).loc Cert.InnerDaRefIdeal.main_v2) = v0 c
          ∧ r.2.mem ((c.tc : Thread Cert.InnerDaRefIdeal.nD Cert.InnerDaRefIdeal.τ).loc Cert.InnerDaRefIdeal.main_arg0) = m' ((c.tc : Thread Cert.InnerDaRefIdeal.nD Cert.InnerDaRefIdeal.τ).loc Cert.InnerDaRefIdeal.main_arg0)
          ∧ r.2.mem ((c.tc : Thread Cert.InnerDaRefIdeal.nD Cert.InnerDaRefIdeal.τ).loc Cert.InnerDaRefIdeal.main_arg1) = m' ((c.tc : Thread Cert.InnerDaRefIdeal.nD Cert.InnerDaRefIdeal.τ).loc Cert.InnerDaRefIdeal.main_arg1))

def preserves_InnerDw_InnerDwIdeal : Prop :=
  True

def algebraic_InnerDwIdeal_InnerDwRefIdeal [hInnerDwIdeal : Cert.InnerDwIdeal.Facts] [hInnerDwRefIdeal : Cert.InnerDwRefIdeal.Facts] : Prop :=
  ∀ (m : (ℓ : Loc Cert.InnerDwIdeal.nD Cert.InnerDwIdeal.τ Cert.InnerDwIdeal.sig) → Buf (Elt Ideal) ℓ) (g : Dev Cert.InnerDwIdeal.nD → PrngReg)
    (m' : (ℓ : Loc Cert.InnerDwRefIdeal.nD Cert.InnerDwRefIdeal.τ Cert.InnerDwRefIdeal.sig) → Buf (Elt Ideal) ℓ) (g' : Dev Cert.InnerDwRefIdeal.nD → PrngReg), Pre_InnerDwIdeal m →
    (∀ c : Dev Cert.InnerDwIdeal.nD,
      m' ((c.tc : Thread Cert.InnerDwRefIdeal.nD Cert.InnerDwRefIdeal.τ).loc Cert.InnerDwRefIdeal.main_arg0) = m ((c.tc : Thread Cert.InnerDwIdeal.nD Cert.InnerDwIdeal.τ).loc Cert.InnerDwIdeal.main_arg0)
      ∧ m' ((c.tc : Thread Cert.InnerDwRefIdeal.nD Cert.InnerDwRefIdeal.τ).loc Cert.InnerDwRefIdeal.main_arg1) = m ((c.tc : Thread Cert.InnerDwIdeal.nD Cert.InnerDwIdeal.τ).loc Cert.InnerDwIdeal.main_arg1)) →
    ∃ (v0 : (c : Dev Cert.InnerDwIdeal.nD) → Buf (Elt Ideal) ((c.tc : Thread Cert.InnerDwIdeal.nD Cert.InnerDwIdeal.τ).loc Cert.InnerDwIdeal.main_v0)),
      θ_run (Cert.InnerDwIdeal.defs (F := Ideal)) (onTc (τ := Cert.InnerDwIdeal.τ) (Cert.InnerDwIdeal.main (F := Ideal))) ⟨m, fun _ => 0, g⟩ (fun r => ∀ c : Dev Cert.InnerDwIdeal.nD,
          r.2.mem ((c.tc : Thread Cert.InnerDwIdeal.nD Cert.InnerDwIdeal.τ).loc Cert.InnerDwIdeal.main_v0) = v0 c
          ∧ r.2.mem ((c.tc : Thread Cert.InnerDwIdeal.nD Cert.InnerDwIdeal.τ).loc Cert.InnerDwIdeal.main_arg0) = m ((c.tc : Thread Cert.InnerDwIdeal.nD Cert.InnerDwIdeal.τ).loc Cert.InnerDwIdeal.main_arg0)
          ∧ r.2.mem ((c.tc : Thread Cert.InnerDwIdeal.nD Cert.InnerDwIdeal.τ).loc Cert.InnerDwIdeal.main_arg1) = m ((c.tc : Thread Cert.InnerDwIdeal.nD Cert.InnerDwIdeal.τ).loc Cert.InnerDwIdeal.main_arg1))
      ∧ θ_run (Cert.InnerDwRefIdeal.defs (F := Ideal)) (onTc (τ := Cert.InnerDwRefIdeal.τ) (Cert.InnerDwRefIdeal.main (F := Ideal))) ⟨m', fun _ => 0, g'⟩ (fun r => ∀ c : Dev Cert.InnerDwRefIdeal.nD,
          r.2.mem ((c.tc : Thread Cert.InnerDwRefIdeal.nD Cert.InnerDwRefIdeal.τ).loc Cert.InnerDwRefIdeal.main_v3) = v0 c
          ∧ r.2.mem ((c.tc : Thread Cert.InnerDwRefIdeal.nD Cert.InnerDwRefIdeal.τ).loc Cert.InnerDwRefIdeal.main_arg0) = m' ((c.tc : Thread Cert.InnerDwRefIdeal.nD Cert.InnerDwRefIdeal.τ).loc Cert.InnerDwRefIdeal.main_arg0)
          ∧ r.2.mem ((c.tc : Thread Cert.InnerDwRefIdeal.nD Cert.InnerDwRefIdeal.τ).loc Cert.InnerDwRefIdeal.main_arg1) = m' ((c.tc : Thread Cert.InnerDwRefIdeal.nD Cert.InnerDwRefIdeal.τ).loc Cert.InnerDwRefIdeal.main_arg1))

def preserves_GateDa_GateDaIdeal : Prop :=
  True

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)) →
    ∃ (v0 : (c : Dev Cert.GateDaIdeal.nD) → Buf (Elt Ideal) ((c.tc : Thread Cert.GateDaIdeal.nD Cert.GateDaIdeal.τ).loc Cert.GateDaIdeal.main_v0)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v0) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v3) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v4) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)) →
    ∃ (v0 : (c : Dev Cert.StateIdeal.nD) → Buf (Elt Ideal) ((c.tc : Thread Cert.StateIdeal.nD Cert.StateIdeal.τ).loc Cert.StateIdeal.main_v0)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v0) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v2) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1))

def preserves_StateDa_StateDaIdeal : Prop :=
  True

def algebraic_StateDaIdeal_StateDaRefIdeal [hStateDaIdeal : Cert.StateDaIdeal.Facts] [hStateDaRefIdeal : Cert.StateDaRefIdeal.Facts] : Prop :=
  ∀ (m : (ℓ : Loc Cert.StateDaIdeal.nD Cert.StateDaIdeal.τ Cert.StateDaIdeal.sig) → Buf (Elt Ideal) ℓ) (g : Dev Cert.StateDaIdeal.nD → PrngReg)
    (m' : (ℓ : Loc Cert.StateDaRefIdeal.nD Cert.StateDaRefIdeal.τ Cert.StateDaRefIdeal.sig) → Buf (Elt Ideal) ℓ) (g' : Dev Cert.StateDaRefIdeal.nD → PrngReg), Pre_StateDaIdeal m →
    (∀ c : Dev Cert.StateDaIdeal.nD,
      m' ((c.tc : Thread Cert.StateDaRefIdeal.nD Cert.StateDaRefIdeal.τ).loc Cert.StateDaRefIdeal.main_arg0) = m ((c.tc : Thread Cert.StateDaIdeal.nD Cert.StateDaIdeal.τ).loc Cert.StateDaIdeal.main_arg0)
      ∧ m' ((c.tc : Thread Cert.StateDaRefIdeal.nD Cert.StateDaRefIdeal.τ).loc Cert.StateDaRefIdeal.main_arg1) = m ((c.tc : Thread Cert.StateDaIdeal.nD Cert.StateDaIdeal.τ).loc Cert.StateDaIdeal.main_arg1)) →
    ∃ (v0 : (c : Dev Cert.StateDaIdeal.nD) → Buf (Elt Ideal) ((c.tc : Thread Cert.StateDaIdeal.nD Cert.StateDaIdeal.τ).loc Cert.StateDaIdeal.main_v0)),
      θ_run (Cert.StateDaIdeal.defs (F := Ideal)) (onTc (τ := Cert.StateDaIdeal.τ) (Cert.StateDaIdeal.main (F := Ideal))) ⟨m, fun _ => 0, g⟩ (fun r => ∀ c : Dev Cert.StateDaIdeal.nD,
          r.2.mem ((c.tc : Thread Cert.StateDaIdeal.nD Cert.StateDaIdeal.τ).loc Cert.StateDaIdeal.main_v0) = v0 c
          ∧ r.2.mem ((c.tc : Thread Cert.StateDaIdeal.nD Cert.StateDaIdeal.τ).loc Cert.StateDaIdeal.main_arg0) = m ((c.tc : Thread Cert.StateDaIdeal.nD Cert.StateDaIdeal.τ).loc Cert.StateDaIdeal.main_arg0)
          ∧ r.2.mem ((c.tc : Thread Cert.StateDaIdeal.nD Cert.StateDaIdeal.τ).loc Cert.StateDaIdeal.main_arg1) = m ((c.tc : Thread Cert.StateDaIdeal.nD Cert.StateDaIdeal.τ).loc Cert.StateDaIdeal.main_arg1))
      ∧ θ_run (Cert.StateDaRefIdeal.defs (F := Ideal)) (onTc (τ := Cert.StateDaRefIdeal.τ) (Cert.StateDaRefIdeal.main (F := Ideal))) ⟨m', fun _ => 0, g'⟩ (fun r => ∀ c : Dev Cert.StateDaRefIdeal.nD,
          r.2.mem ((c.tc : Thread Cert.StateDaRefIdeal.nD Cert.StateDaRefIdeal.τ).loc Cert.StateDaRefIdeal.main_v2) = v0 c
          ∧ r.2.mem ((c.tc : Thread Cert.StateDaRefIdeal.nD Cert.StateDaRefIdeal.τ).loc Cert.StateDaRefIdeal.main_arg0) = m' ((c.tc : Thread Cert.StateDaRefIdeal.nD Cert.StateDaRefIdeal.τ).loc Cert.StateDaRefIdeal.main_arg0)
          ∧ r.2.mem ((c.tc : Thread Cert.StateDaRefIdeal.nD Cert.StateDaRefIdeal.τ).loc Cert.StateDaRefIdeal.main_arg1) = m' ((c.tc : Thread Cert.StateDaRefIdeal.nD Cert.StateDaRefIdeal.τ).loc Cert.StateDaRefIdeal.main_arg1))

def preserves_StateDw_StateDwIdeal : Prop :=
  True

def algebraic_StateDwIdeal_StateDwRefIdeal [hStateDwIdeal : Cert.StateDwIdeal.Facts] [hStateDwRefIdeal : Cert.StateDwRefIdeal.Facts] : Prop :=
  ∀ (m : (ℓ : Loc Cert.StateDwIdeal.nD Cert.StateDwIdeal.τ Cert.StateDwIdeal.sig) → Buf (Elt Ideal) ℓ) (g : Dev Cert.StateDwIdeal.nD → PrngReg)
    (m' : (ℓ : Loc Cert.StateDwRefIdeal.nD Cert.StateDwRefIdeal.τ Cert.StateDwRefIdeal.sig) → Buf (Elt Ideal) ℓ) (g' : Dev Cert.StateDwRefIdeal.nD → PrngReg), Pre_StateDwIdeal m →
    (∀ c : Dev Cert.StateDwIdeal.nD,
      m' ((c.tc : Thread Cert.StateDwRefIdeal.nD Cert.StateDwRefIdeal.τ).loc Cert.StateDwRefIdeal.main_arg0) = m ((c.tc : Thread Cert.StateDwIdeal.nD Cert.StateDwIdeal.τ).loc Cert.StateDwIdeal.main_arg0)
      ∧ m' ((c.tc : Thread Cert.StateDwRefIdeal.nD Cert.StateDwRefIdeal.τ).loc Cert.StateDwRefIdeal.main_arg1) = m ((c.tc : Thread Cert.StateDwIdeal.nD Cert.StateDwIdeal.τ).loc Cert.StateDwIdeal.main_arg1)) →
    ∃ (v0 : (c : Dev Cert.StateDwIdeal.nD) → Buf (Elt Ideal) ((c.tc : Thread Cert.StateDwIdeal.nD Cert.StateDwIdeal.τ).loc Cert.StateDwIdeal.main_v0)),
      θ_run (Cert.StateDwIdeal.defs (F := Ideal)) (onTc (τ := Cert.StateDwIdeal.τ) (Cert.StateDwIdeal.main (F := Ideal))) ⟨m, fun _ => 0, g⟩ (fun r => ∀ c : Dev Cert.StateDwIdeal.nD,
          r.2.mem ((c.tc : Thread Cert.StateDwIdeal.nD Cert.StateDwIdeal.τ).loc Cert.StateDwIdeal.main_v0) = v0 c
          ∧ r.2.mem ((c.tc : Thread Cert.StateDwIdeal.nD Cert.StateDwIdeal.τ).loc Cert.StateDwIdeal.main_arg0) = m ((c.tc : Thread Cert.StateDwIdeal.nD Cert.StateDwIdeal.τ).loc Cert.StateDwIdeal.main_arg0)
          ∧ r.2.mem ((c.tc : Thread Cert.StateDwIdeal.nD Cert.StateDwIdeal.τ).loc Cert.StateDwIdeal.main_arg1) = m ((c.tc : Thread Cert.StateDwIdeal.nD Cert.StateDwIdeal.τ).loc Cert.StateDwIdeal.main_arg1))
      ∧ θ_run (Cert.StateDwRefIdeal.defs (F := Ideal)) (onTc (τ := Cert.StateDwRefIdeal.τ) (Cert.StateDwRefIdeal.main (F := Ideal))) ⟨m', fun _ => 0, g'⟩ (fun r => ∀ c : Dev Cert.StateDwRefIdeal.nD,
          r.2.mem ((c.tc : Thread Cert.StateDwRefIdeal.nD Cert.StateDwRefIdeal.τ).loc Cert.StateDwRefIdeal.main_v3) = v0 c
          ∧ r.2.mem ((c.tc : Thread Cert.StateDwRefIdeal.nD Cert.StateDwRefIdeal.τ).loc Cert.StateDwRefIdeal.main_arg0) = m' ((c.tc : Thread Cert.StateDwRefIdeal.nD Cert.StateDwRefIdeal.τ).loc Cert.StateDwRefIdeal.main_arg0)
          ∧ r.2.mem ((c.tc : Thread Cert.StateDwRefIdeal.nD Cert.StateDwRefIdeal.τ).loc Cert.StateDwRefIdeal.main_arg1) = m' ((c.tc : Thread Cert.StateDwRefIdeal.nD Cert.StateDwRefIdeal.τ).loc Cert.StateDwRefIdeal.main_arg1))

def preserves_HeadDa_HeadDaIdeal : Prop :=
  True

def algebraic_HeadDaIdeal_HeadDaRefIdeal [hHeadDaIdeal : Cert.HeadDaIdeal.Facts] [hHeadDaRefIdeal : Cert.HeadDaRefIdeal.Facts] : Prop :=
  ∀ (m : (ℓ : Loc Cert.HeadDaIdeal.nD Cert.HeadDaIdeal.τ Cert.HeadDaIdeal.sig) → Buf (Elt Ideal) ℓ) (g : Dev Cert.HeadDaIdeal.nD → PrngReg)
    (m' : (ℓ : Loc Cert.HeadDaRefIdeal.nD Cert.HeadDaRefIdeal.τ Cert.HeadDaRefIdeal.sig) → Buf (Elt Ideal) ℓ) (g' : Dev Cert.HeadDaRefIdeal.nD → PrngReg), Pre_HeadDaIdeal m →
    (∀ c : Dev Cert.HeadDaIdeal.nD,
      m' ((c.tc : Thread Cert.HeadDaRefIdeal.nD Cert.HeadDaRefIdeal.τ).loc Cert.HeadDaRefIdeal.main_arg0) = m ((c.tc : Thread Cert.HeadDaIdeal.nD Cert.HeadDaIdeal.τ).loc Cert.HeadDaIdeal.main_arg0)
      ∧ m' ((c.tc : Thread Cert.HeadDaRefIdeal.nD Cert.HeadDaRefIdeal.τ).loc Cert.HeadDaRefIdeal.main_arg1) = m ((c.tc : Thread Cert.HeadDaIdeal.nD Cert.HeadDaIdeal.τ).loc Cert.HeadDaIdeal.main_arg1)) →
    ∃ (v0 : (c : Dev Cert.HeadDaIdeal.nD) → Buf (Elt Ideal) ((c.tc : Thread Cert.HeadDaIdeal.nD Cert.HeadDaIdeal.τ).loc Cert.HeadDaIdeal.main_v0)),
      θ_run (Cert.HeadDaIdeal.defs (F := Ideal)) (onTc (τ := Cert.HeadDaIdeal.τ) (Cert.HeadDaIdeal.main (F := Ideal))) ⟨m, fun _ => 0, g⟩ (fun r => ∀ c : Dev Cert.HeadDaIdeal.nD,
          r.2.mem ((c.tc : Thread Cert.HeadDaIdeal.nD Cert.HeadDaIdeal.τ).loc Cert.HeadDaIdeal.main_v0) = v0 c
          ∧ r.2.mem ((c.tc : Thread Cert.HeadDaIdeal.nD Cert.HeadDaIdeal.τ).loc Cert.HeadDaIdeal.main_arg0) = m ((c.tc : Thread Cert.HeadDaIdeal.nD Cert.HeadDaIdeal.τ).loc Cert.HeadDaIdeal.main_arg0)
          ∧ r.2.mem ((c.tc : Thread Cert.HeadDaIdeal.nD Cert.HeadDaIdeal.τ).loc Cert.HeadDaIdeal.main_arg1) = m ((c.tc : Thread Cert.HeadDaIdeal.nD Cert.HeadDaIdeal.τ).loc Cert.HeadDaIdeal.main_arg1))
      ∧ θ_run (Cert.HeadDaRefIdeal.defs (F := Ideal)) (onTc (τ := Cert.HeadDaRefIdeal.τ) (Cert.HeadDaRefIdeal.main (F := Ideal))) ⟨m', fun _ => 0, g'⟩ (fun r => ∀ c : Dev Cert.HeadDaRefIdeal.nD,
          r.2.mem ((c.tc : Thread Cert.HeadDaRefIdeal.nD Cert.HeadDaRefIdeal.τ).loc Cert.HeadDaRefIdeal.main_v3) = v0 c
          ∧ r.2.mem ((c.tc : Thread Cert.HeadDaRefIdeal.nD Cert.HeadDaRefIdeal.τ).loc Cert.HeadDaRefIdeal.main_arg0) = m' ((c.tc : Thread Cert.HeadDaRefIdeal.nD Cert.HeadDaRefIdeal.τ).loc Cert.HeadDaRefIdeal.main_arg0)
          ∧ r.2.mem ((c.tc : Thread Cert.HeadDaRefIdeal.nD Cert.HeadDaRefIdeal.τ).loc Cert.HeadDaRefIdeal.main_arg1) = m' ((c.tc : Thread Cert.HeadDaRefIdeal.nD Cert.HeadDaRefIdeal.τ).loc Cert.HeadDaRefIdeal.main_arg1))

def preserves_HeadDw_HeadDwIdeal : Prop :=
  True

def algebraic_HeadDwIdeal_HeadDwRefIdeal [hHeadDwIdeal : Cert.HeadDwIdeal.Facts] [hHeadDwRefIdeal : Cert.HeadDwRefIdeal.Facts] : Prop :=
  ∀ (m : (ℓ : Loc Cert.HeadDwIdeal.nD Cert.HeadDwIdeal.τ Cert.HeadDwIdeal.sig) → Buf (Elt Ideal) ℓ) (g : Dev Cert.HeadDwIdeal.nD → PrngReg)
    (m' : (ℓ : Loc Cert.HeadDwRefIdeal.nD Cert.HeadDwRefIdeal.τ Cert.HeadDwRefIdeal.sig) → Buf (Elt Ideal) ℓ) (g' : Dev Cert.HeadDwRefIdeal.nD → PrngReg), Pre_HeadDwIdeal m →
    (∀ c : Dev Cert.HeadDwIdeal.nD,
      m' ((c.tc : Thread Cert.HeadDwRefIdeal.nD Cert.HeadDwRefIdeal.τ).loc Cert.HeadDwRefIdeal.main_arg0) = m ((c.tc : Thread Cert.HeadDwIdeal.nD Cert.HeadDwIdeal.τ).loc Cert.HeadDwIdeal.main_arg0)
      ∧ m' ((c.tc : Thread Cert.HeadDwRefIdeal.nD Cert.HeadDwRefIdeal.τ).loc Cert.HeadDwRefIdeal.main_arg1) = m ((c.tc : Thread Cert.HeadDwIdeal.nD Cert.HeadDwIdeal.τ).loc Cert.HeadDwIdeal.main_arg1)) →
    ∃ (v0 : (c : Dev Cert.HeadDwIdeal.nD) → Buf (Elt Ideal) ((c.tc : Thread Cert.HeadDwIdeal.nD Cert.HeadDwIdeal.τ).loc Cert.HeadDwIdeal.main_v0)),
      θ_run (Cert.HeadDwIdeal.defs (F := Ideal)) (onTc (τ := Cert.HeadDwIdeal.τ) (Cert.HeadDwIdeal.main (F := Ideal))) ⟨m, fun _ => 0, g⟩ (fun r => ∀ c : Dev Cert.HeadDwIdeal.nD,
          r.2.mem ((c.tc : Thread Cert.HeadDwIdeal.nD Cert.HeadDwIdeal.τ).loc Cert.HeadDwIdeal.main_v0) = v0 c
          ∧ r.2.mem ((c.tc : Thread Cert.HeadDwIdeal.nD Cert.HeadDwIdeal.τ).loc Cert.HeadDwIdeal.main_arg0) = m ((c.tc : Thread Cert.HeadDwIdeal.nD Cert.HeadDwIdeal.τ).loc Cert.HeadDwIdeal.main_arg0)
          ∧ r.2.mem ((c.tc : Thread Cert.HeadDwIdeal.nD Cert.HeadDwIdeal.τ).loc Cert.HeadDwIdeal.main_arg1) = m ((c.tc : Thread Cert.HeadDwIdeal.nD Cert.HeadDwIdeal.τ).loc Cert.HeadDwIdeal.main_arg1))
      ∧ θ_run (Cert.HeadDwRefIdeal.defs (F := Ideal)) (onTc (τ := Cert.HeadDwRefIdeal.τ) (Cert.HeadDwRefIdeal.main (F := Ideal))) ⟨m', fun _ => 0, g'⟩ (fun r => ∀ c : Dev Cert.HeadDwRefIdeal.nD,
          r.2.mem ((c.tc : Thread Cert.HeadDwRefIdeal.nD Cert.HeadDwRefIdeal.τ).loc Cert.HeadDwRefIdeal.main_v4) = v0 c
          ∧ r.2.mem ((c.tc : Thread Cert.HeadDwRefIdeal.nD Cert.HeadDwRefIdeal.τ).loc Cert.HeadDwRefIdeal.main_arg0) = m' ((c.tc : Thread Cert.HeadDwRefIdeal.nD Cert.HeadDwRefIdeal.τ).loc Cert.HeadDwRefIdeal.main_arg0)
          ∧ r.2.mem ((c.tc : Thread Cert.HeadDwRefIdeal.nD Cert.HeadDwRefIdeal.τ).loc Cert.HeadDwRefIdeal.main_arg1) = m' ((c.tc : Thread Cert.HeadDwRefIdeal.nD Cert.HeadDwRefIdeal.τ).loc Cert.HeadDwRefIdeal.main_arg1))

def preserves_Near_NearIdeal : Prop :=
  True

def algebraic_NearIdeal_NearRefIdeal [hNearIdeal : Cert.NearIdeal.Facts] [hNearRefIdeal : Cert.NearRefIdeal.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearRefIdeal.nD Cert.NearRefIdeal.τ Cert.NearRefIdeal.sig) → Buf (Elt Ideal) ℓ) (g' : Dev Cert.NearRefIdeal.nD → PrngReg), Pre_NearIdeal m →
    (∀ c : Dev Cert.NearIdeal.nD,
      m' ((c.tc : Thread Cert.NearRefIdeal.nD Cert.NearRefIdeal.τ).loc Cert.NearRefIdeal.main_arg0) = m ((c.tc : Thread Cert.NearIdeal.nD Cert.NearIdeal.τ).loc Cert.NearIdeal.main_arg0)
      ∧ m' ((c.tc : Thread Cert.NearRefIdeal.nD Cert.NearRefIdeal.τ).loc Cert.NearRefIdeal.main_arg1) = m ((c.tc : Thread Cert.NearIdeal.nD Cert.NearIdeal.τ).loc Cert.NearIdeal.main_arg1)) →
    ∃ (v0 : (c : Dev Cert.NearIdeal.nD) → Buf (Elt Ideal) ((c.tc : Thread Cert.NearIdeal.nD Cert.NearIdeal.τ).loc Cert.NearIdeal.main_v0)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v0) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ θ_run (Cert.NearRefIdeal.defs (F := Ideal)) (onTc (τ := Cert.NearRefIdeal.τ) (Cert.NearRefIdeal.main (F := Ideal))) ⟨m', fun _ => 0, g'⟩ (fun r => ∀ c : Dev Cert.NearRefIdeal.nD,
          r.2.mem ((c.tc : Thread Cert.NearRefIdeal.nD Cert.NearRefIdeal.τ).loc Cert.NearRefIdeal.main_v1) = v0 c
          ∧ r.2.mem ((c.tc : Thread Cert.NearRefIdeal.nD Cert.NearRefIdeal.τ).loc Cert.NearRefIdeal.main_arg0) = m' ((c.tc : Thread Cert.NearRefIdeal.nD Cert.NearRefIdeal.τ).loc Cert.NearRefIdeal.main_arg0)
          ∧ r.2.mem ((c.tc : Thread Cert.NearRefIdeal.nD Cert.NearRefIdeal.τ).loc Cert.NearRefIdeal.main_arg1) = m' ((c.tc : Thread Cert.NearRefIdeal.nD Cert.NearRefIdeal.τ).loc Cert.NearRefIdeal.main_arg1))

def preserves_MixDa_MixDaIdeal : Prop :=
  True

def algebraic_MixDaIdeal_MixDaRefIdeal [hMixDaIdeal : Cert.MixDaIdeal.Facts] [hMixDaRefIdeal : Cert.MixDaRefIdeal.Facts] : Prop :=
  ∀ (m : (ℓ : Loc Cert.MixDaIdeal.nD Cert.MixDaIdeal.τ Cert.MixDaIdeal.sig) → Buf (Elt Ideal) ℓ) (g : Dev Cert.MixDaIdeal.nD → PrngReg)
    (m' : (ℓ : Loc Cert.MixDaRefIdeal.nD Cert.MixDaRefIdeal.τ Cert.MixDaRefIdeal.sig) → Buf (Elt Ideal) ℓ) (g' : Dev Cert.MixDaRefIdeal.nD → PrngReg), Pre_MixDaIdeal m →
    (∀ c : Dev Cert.MixDaIdeal.nD,
      m' ((c.tc : Thread Cert.MixDaRefIdeal.nD Cert.MixDaRefIdeal.τ).loc Cert.MixDaRefIdeal.main_arg0) = m ((c.tc : Thread Cert.MixDaIdeal.nD Cert.MixDaIdeal.τ).loc Cert.MixDaIdeal.main_arg0)
      ∧ m' ((c.tc : Thread Cert.MixDaRefIdeal.nD Cert.MixDaRefIdeal.τ).loc Cert.MixDaRefIdeal.main_arg1) = m ((c.tc : Thread Cert.MixDaIdeal.nD Cert.MixDaIdeal.τ).loc Cert.MixDaIdeal.main_arg1)) →
    ∃ (v0 : (c : Dev Cert.MixDaIdeal.nD) → Buf (Elt Ideal) ((c.tc : Thread Cert.MixDaIdeal.nD Cert.MixDaIdeal.τ).loc Cert.MixDaIdeal.main_v0)),
      θ_run (Cert.MixDaIdeal.defs (F := Ideal)) (onTc (τ := Cert.MixDaIdeal.τ) (Cert.MixDaIdeal.main (F := Ideal))) ⟨m, fun _ => 0, g⟩ (fun r => ∀ c : Dev Cert.MixDaIdeal.nD,
          r.2.mem ((c.tc : Thread Cert.MixDaIdeal.nD Cert.MixDaIdeal.τ).loc Cert.MixDaIdeal.main_v0) = v0 c
          ∧ r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
          ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ θ_run (Cert.MixDaRefIdeal.defs (F := Ideal)) (onTc (τ := Cert.MixDaRefIdeal.τ) (Cert.MixDaRefIdeal.main (F := Ideal))) ⟨m', fun _ => 0, g'⟩ (fun r => ∀ c : Dev Cert.MixDaRefIdeal.nD,
          r.2.mem ((c.tc : Thread Cert.MixDaRefIdeal.nD Cert.MixDaRefIdeal.τ).loc Cert.MixDaRefIdeal.main_v3) = v0 c
          ∧ r.2.mem ((c.tc : Thread Cert.MixDaRefIdeal.nD Cert.MixDaRefIdeal.τ).loc Cert.MixDaRefIdeal.main_arg0) = m' ((c.tc : Thread Cert.MixDaRefIdeal.nD Cert.MixDaRefIdeal.τ).loc Cert.MixDaRefIdeal.main_arg0)
          ∧ r.2.mem ((c.tc : Thread Cert.MixDaRefIdeal.nD Cert.MixDaRefIdeal.τ).loc Cert.MixDaRefIdeal.main_arg1) = m' ((c.tc : Thread Cert.MixDaRefIdeal.nD Cert.MixDaRefIdeal.τ).loc Cert.MixDaRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamAbIn_AdamAbInIdeal : Prop :=
  True

def algebraic_AdamAbInIdeal_AdamAbInRefIdeal [hAdamAbInIdeal : Cert.AdamAbInIdeal.Facts] [hAdamAbInRefIdeal : Cert.AdamAbInRefIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg)
    (m' : (ℓ : Loc Cert.AdamAbInRefIdeal.nD Cert.AdamAbInRefIdeal.τ Cert.AdamAbInRefIdeal.sig) → Buf (Elt Ideal) ℓ) (g' : Dev Cert.AdamAbInRefIdeal.nD → PrngReg), Pre_AdamAbInIdeal m →
    (∀ c : Dev Cert.AdamAbInIdeal.nD,
      m' ((c.tc : Thread Cert.AdamAbInRefIdeal.nD Cert.AdamAbInRefIdeal.τ).loc Cert.AdamAbInRefIdeal.main_arg0) = m ((c.tc : Thread Cert.AdamAbInIdeal.nD Cert.AdamAbInIdeal.τ).loc Cert.AdamAbInIdeal.main_arg0)
      ∧ m' ((c.tc : Thread Cert.AdamAbInRefIdeal.nD Cert.AdamAbInRefIdeal.τ).loc Cert.AdamAbInRefIdeal.main_arg1) = m ((c.tc : Thread Cert.AdamAbInIdeal.nD Cert.AdamAbInIdeal.τ).loc Cert.AdamAbInIdeal.main_arg1)
      ∧ m' ((c.tc : Thread Cert.AdamAbInRefIdeal.nD Cert.AdamAbInRefIdeal.τ).loc Cert.AdamAbInRefIdeal.main_arg2) = m ((c.tc : Thread Cert.AdamAbInIdeal.nD Cert.AdamAbInIdeal.τ).loc Cert.AdamAbInIdeal.main_arg2)
      ∧ m' ((c.tc : Thread Cert.AdamAbInRefIdeal.nD Cert.AdamAbInRefIdeal.τ).loc Cert.AdamAbInRefIdeal.main_arg3) = m ((c.tc : Thread Cert.AdamAbInIdeal.nD Cert.AdamAbInIdeal.τ).loc Cert.AdamAbInIdeal.main_arg3)) →
    ∃ (v0 : (c : Dev Cert.AdamAbInIdeal.nD) → Buf (Elt Ideal) ((c.tc : Thread Cert.AdamAbInIdeal.nD Cert.AdamAbInIdeal.τ).loc Cert.AdamAbInIdeal.main_v0_0)) (v1 : (c : Dev Cert.AdamAbInIdeal.nD) → Buf (Elt Ideal) ((c.tc : Thread Cert.AdamAbInIdeal.nD Cert.AdamAbInIdeal.τ).loc Cert.AdamAbInIdeal.main_v0_1)) (v2 : (c : Dev Cert.AdamAbInIdeal.nD) → Buf (Elt Ideal) ((c.tc : Thread Cert.AdamAbInIdeal.nD Cert.AdamAbInIdeal.τ).loc Cert.AdamAbInIdeal.main_v0_2)),
      θ_run (Cert.AdamAbInIdeal.defs (F := Ideal)) (onTc (τ := Cert.AdamAbInIdeal.τ) (Cert.AdamAbInIdeal.main (F := Ideal))) ⟨m, fun _ => 0, g⟩ (fun r => ∀ c : Dev Cert.AdamAbInIdeal.nD,
          r.2.mem ((c.tc : Thread Cert.AdamAbInIdeal.nD Cert.AdamAbInIdeal.τ).loc Cert.AdamAbInIdeal.main_v0_0) = v0 c
          ∧ r.2.mem ((c.tc : Thread Cert.AdamAbInIdeal.nD Cert.AdamAbInIdeal.τ).loc Cert.AdamAbInIdeal.main_v0_1) = v1 c
          ∧ r.2.mem ((c.tc : Thread Cert.AdamAbInIdeal.nD Cert.AdamAbInIdeal.τ).loc Cert.AdamAbInIdeal.main_v0_2) = v2 c
          ∧ r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
          ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
          ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
          ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ θ_run (Cert.AdamAbInRefIdeal.defs (F := Ideal)) (onTc (τ := Cert.AdamAbInRefIdeal.τ) (Cert.AdamAbInRefIdeal.main (F := Ideal))) ⟨m', fun _ => 0, g'⟩ (fun r => ∀ c : Dev Cert.AdamAbInRefIdeal.nD,
          r.2.mem ((c.tc : Thread Cert.AdamAbInRefIdeal.nD Cert.AdamAbInRefIdeal.τ).loc Cert.AdamAbInRefIdeal.main_v23) = v0 c
          ∧ r.2.mem ((c.tc : Thread Cert.AdamAbInRefIdeal.nD Cert.AdamAbInRefIdeal.τ).loc Cert.AdamAbInRefIdeal.main_v4) = v1 c
          ∧ r.2.mem ((c.tc : Thread Cert.AdamAbInRefIdeal.nD Cert.AdamAbInRefIdeal.τ).loc Cert.AdamAbInRefIdeal.main_v10) = v2 c
          ∧ r.2.mem ((c.tc : Thread Cert.AdamAbInRefIdeal.nD Cert.AdamAbInRefIdeal.τ).loc Cert.AdamAbInRefIdeal.main_arg0) = m' ((c.tc : Thread Cert.AdamAbInRefIdeal.nD Cert.AdamAbInRefIdeal.τ).loc Cert.AdamAbInRefIdeal.main_arg0)
          ∧ r.2.mem ((c.tc : Thread Cert.AdamAbInRefIdeal.nD Cert.AdamAbInRefIdeal.τ).loc Cert.AdamAbInRefIdeal.main_arg1) = m' ((c.tc : Thread Cert.AdamAbInRefIdeal.nD Cert.AdamAbInRefIdeal.τ).loc Cert.AdamAbInRefIdeal.main_arg1)
          ∧ r.2.mem ((c.tc : Thread Cert.AdamAbInRefIdeal.nD Cert.AdamAbInRefIdeal.τ).loc Cert.AdamAbInRefIdeal.main_arg2) = m' ((c.tc : Thread Cert.AdamAbInRefIdeal.nD Cert.AdamAbInRefIdeal.τ).loc Cert.AdamAbInRefIdeal.main_arg2)
          ∧ r.2.mem ((c.tc : Thread Cert.AdamAbInRefIdeal.nD Cert.AdamAbInRefIdeal.τ).loc Cert.AdamAbInRefIdeal.main_arg3) = m' ((c.tc : Thread Cert.AdamAbInRefIdeal.nD Cert.AdamAbInRefIdeal.τ).loc Cert.AdamAbInRefIdeal.main_arg3))

def preserves_AdamDecay_AdamDecayIdeal : Prop :=
  True

def algebraic_AdamDecayIdeal_AdamDecayRefIdeal [hAdamDecayIdeal : Cert.AdamDecayIdeal.Facts] [hAdamDecayRefIdeal : Cert.AdamDecayRefIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg)
    (m' : (ℓ : Loc Cert.AdamDecayRefIdeal.nD Cert.AdamDecayRefIdeal.τ Cert.AdamDecayRefIdeal.sig) → Buf (Elt Ideal) ℓ) (g' : Dev Cert.AdamDecayRefIdeal.nD → PrngReg), Pre_AdamDecayIdeal m →
    (∀ c : Dev Cert.AdamDecayIdeal.nD,
      m' ((c.tc : Thread Cert.AdamDecayRefIdeal.nD Cert.AdamDecayRefIdeal.τ).loc Cert.AdamDecayRefIdeal.main_arg0) = m ((c.tc : Thread Cert.AdamDecayIdeal.nD Cert.AdamDecayIdeal.τ).loc Cert.AdamDecayIdeal.main_arg0)
      ∧ m' ((c.tc : Thread Cert.AdamDecayRefIdeal.nD Cert.AdamDecayRefIdeal.τ).loc Cert.AdamDecayRefIdeal.main_arg1) = m ((c.tc : Thread Cert.AdamDecayIdeal.nD Cert.AdamDecayIdeal.τ).loc Cert.AdamDecayIdeal.main_arg1)
      ∧ m' ((c.tc : Thread Cert.AdamDecayRefIdeal.nD Cert.AdamDecayRefIdeal.τ).loc Cert.AdamDecayRefIdeal.main_arg2) = m ((c.tc : Thread Cert.AdamDecayIdeal.nD Cert.AdamDecayIdeal.τ).loc Cert.AdamDecayIdeal.main_arg2)
      ∧ m' ((c.tc : Thread Cert.AdamDecayRefIdeal.nD Cert.AdamDecayRefIdeal.τ).loc Cert.AdamDecayRefIdeal.main_arg3) = m ((c.tc : Thread Cert.AdamDecayIdeal.nD Cert.AdamDecayIdeal.τ).loc Cert.AdamDecayIdeal.main_arg3)) →
    ∃ (v0 : (c : Dev Cert.AdamDecayIdeal.nD) → Buf (Elt Ideal) ((c.tc : Thread Cert.AdamDecayIdeal.nD Cert.AdamDecayIdeal.τ).loc Cert.AdamDecayIdeal.main_v0_0)) (v1 : (c : Dev Cert.AdamDecayIdeal.nD) → Buf (Elt Ideal) ((c.tc : Thread Cert.AdamDecayIdeal.nD Cert.AdamDecayIdeal.τ).loc Cert.AdamDecayIdeal.main_v0_1)) (v2 : (c : Dev Cert.AdamDecayIdeal.nD) → Buf (Elt Ideal) ((c.tc : Thread Cert.AdamDecayIdeal.nD Cert.AdamDecayIdeal.τ).loc Cert.AdamDecayIdeal.main_v0_2)),
      θ_run (Cert.AdamDecayIdeal.defs (F := Ideal)) (onTc (τ := Cert.AdamDecayIdeal.τ) (Cert.AdamDecayIdeal.main (F := Ideal))) ⟨m, fun _ => 0, g⟩ (fun r => ∀ c : Dev Cert.AdamDecayIdeal.nD,
          r.2.mem ((c.tc : Thread Cert.AdamDecayIdeal.nD Cert.AdamDecayIdeal.τ).loc Cert.AdamDecayIdeal.main_v0_0) = v0 c
          ∧ r.2.mem ((c.tc : Thread Cert.AdamDecayIdeal.nD Cert.AdamDecayIdeal.τ).loc Cert.AdamDecayIdeal.main_v0_1) = v1 c
          ∧ r.2.mem ((c.tc : Thread Cert.AdamDecayIdeal.nD Cert.AdamDecayIdeal.τ).loc Cert.AdamDecayIdeal.main_v0_2) = v2 c
          ∧ r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
          ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
          ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
          ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ θ_run (Cert.AdamDecayRefIdeal.defs (F := Ideal)) (onTc (τ := Cert.AdamDecayRefIdeal.τ) (Cert.AdamDecayRefIdeal.main (F := Ideal))) ⟨m', fun _ => 0, g'⟩ (fun r => ∀ c : Dev Cert.AdamDecayRefIdeal.nD,
          r.2.mem ((c.tc : Thread Cert.AdamDecayRefIdeal.nD Cert.AdamDecayRefIdeal.τ).loc Cert.AdamDecayRefIdeal.main_v23) = v0 c
          ∧ r.2.mem ((c.tc : Thread Cert.AdamDecayRefIdeal.nD Cert.AdamDecayRefIdeal.τ).loc Cert.AdamDecayRefIdeal.main_v4) = v1 c
          ∧ r.2.mem ((c.tc : Thread Cert.AdamDecayRefIdeal.nD Cert.AdamDecayRefIdeal.τ).loc Cert.AdamDecayRefIdeal.main_v10) = v2 c
          ∧ r.2.mem ((c.tc : Thread Cert.AdamDecayRefIdeal.nD Cert.AdamDecayRefIdeal.τ).loc Cert.AdamDecayRefIdeal.main_arg0) = m' ((c.tc : Thread Cert.AdamDecayRefIdeal.nD Cert.AdamDecayRefIdeal.τ).loc Cert.AdamDecayRefIdeal.main_arg0)
          ∧ r.2.mem ((c.tc : Thread Cert.AdamDecayRefIdeal.nD Cert.AdamDecayRefIdeal.τ).loc Cert.AdamDecayRefIdeal.main_arg1) = m' ((c.tc : Thread Cert.AdamDecayRefIdeal.nD Cert.AdamDecayRefIdeal.τ).loc Cert.AdamDecayRefIdeal.main_arg1)
          ∧ r.2.mem ((c.tc : Thread Cert.AdamDecayRefIdeal.nD Cert.AdamDecayRefIdeal.τ).loc Cert.AdamDecayRefIdeal.main_arg2) = m' ((c.tc : Thread Cert.AdamDecayRefIdeal.nD Cert.AdamDecayRefIdeal.τ).loc Cert.AdamDecayRefIdeal.main_arg2)
          ∧ r.2.mem ((c.tc : Thread Cert.AdamDecayRefIdeal.nD Cert.AdamDecayRefIdeal.τ).loc Cert.AdamDecayRefIdeal.main_arg3) = m' ((c.tc : Thread Cert.AdamDecayRefIdeal.nD Cert.AdamDecayRefIdeal.τ).loc Cert.AdamDecayRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamRpb_AdamRpbIdeal : Prop :=
  True

def algebraic_AdamRpbIdeal_AdamRpbRefIdeal [hAdamRpbIdeal : Cert.AdamRpbIdeal.Facts] [hAdamRpbRefIdeal : Cert.AdamRpbRefIdeal.Facts] : Prop :=
  ∀ (m : (ℓ : Loc Cert.AdamRpbIdeal.nD Cert.AdamRpbIdeal.τ Cert.AdamRpbIdeal.sig) → Buf (Elt Ideal) ℓ) (g : Dev Cert.AdamRpbIdeal.nD → PrngReg)
    (m' : (ℓ : Loc Cert.AdamRpbRefIdeal.nD Cert.AdamRpbRefIdeal.τ Cert.AdamRpbRefIdeal.sig) → Buf (Elt Ideal) ℓ) (g' : Dev Cert.AdamRpbRefIdeal.nD → PrngReg), Pre_AdamRpbIdeal m →
    (∀ c : Dev Cert.AdamRpbIdeal.nD,
      m' ((c.tc : Thread Cert.AdamRpbRefIdeal.nD Cert.AdamRpbRefIdeal.τ).loc Cert.AdamRpbRefIdeal.main_arg0) = m ((c.tc : Thread Cert.AdamRpbIdeal.nD Cert.AdamRpbIdeal.τ).loc Cert.AdamRpbIdeal.main_arg0)
      ∧ m' ((c.tc : Thread Cert.AdamRpbRefIdeal.nD Cert.AdamRpbRefIdeal.τ).loc Cert.AdamRpbRefIdeal.main_arg1) = m ((c.tc : Thread Cert.AdamRpbIdeal.nD Cert.AdamRpbIdeal.τ).loc Cert.AdamRpbIdeal.main_arg1)
      ∧ m' ((c.tc : Thread Cert.AdamRpbRefIdeal.nD Cert.AdamRpbRefIdeal.τ).loc Cert.AdamRpbRefIdeal.main_arg2) = m ((c.tc : Thread Cert.AdamRpbIdeal.nD Cert.AdamRpbIdeal.τ).loc Cert.AdamRpbIdeal.main_arg2)
      ∧ m' ((c.tc : Thread Cert.AdamRpbRefIdeal.nD Cert.AdamRpbRefIdeal.τ).loc Cert.AdamRpbRefIdeal.main_arg3) = m ((c.tc : Thread Cert.AdamRpbIdeal.nD Cert.AdamRpbIdeal.τ).loc Cert.AdamRpbIdeal.main_arg3)) →
    ∃ (v0 : (c : Dev Cert.AdamRpbIdeal.nD) → Buf (Elt Ideal) ((c.tc : Thread Cert.AdamRpbIdeal.nD Cert.AdamRpbIdeal.τ).loc Cert.AdamRpbIdeal.main_v0_0)) (v1 : (c : Dev Cert.AdamRpbIdeal.nD) → Buf (Elt Ideal) ((c.tc : Thread Cert.AdamRpbIdeal.nD Cert.AdamRpbIdeal.τ).loc Cert.AdamRpbIdeal.main_v0_1)) (v2 : (c : Dev Cert.AdamRpbIdeal.nD) → Buf (Elt Ideal) ((c.tc : Thread Cert.AdamRpbIdeal.nD Cert.AdamRpbIdeal.τ).loc Cert.AdamRpbIdeal.main_v0_2)),
      θ_run (Cert.AdamRpbIdeal.defs (F := Ideal)) (onTc (τ := Cert.AdamRpbIdeal.τ) (Cert.AdamRpbIdeal.main (F := Ideal))) ⟨m, fun _ => 0, g⟩ (fun r => ∀ c : Dev Cert.AdamRpbIdeal.nD,
          r.2.mem ((c.tc : Thread Cert.AdamRpbIdeal.nD Cert.AdamRpbIdeal.τ).loc Cert.AdamRpbIdeal.main_v0_0) = v0 c
          ∧ r.2.mem ((c.tc : Thread Cert.AdamRpbIdeal.nD Cert.AdamRpbIdeal.τ).loc Cert.AdamRpbIdeal.main_v0_1) = v1 c
          ∧ r.2.mem ((c.tc : Thread Cert.AdamRpbIdeal.nD Cert.AdamRpbIdeal.τ).loc Cert.AdamRpbIdeal.main_v0_2) = v2 c
          ∧ r.2.mem ((c.tc : Thread Cert.AdamRpbIdeal.nD Cert.AdamRpbIdeal.τ).loc Cert.AdamRpbIdeal.main_arg0) = m ((c.tc : Thread Cert.AdamRpbIdeal.nD Cert.AdamRpbIdeal.τ).loc Cert.AdamRpbIdeal.main_arg0)
          ∧ r.2.mem ((c.tc : Thread Cert.AdamRpbIdeal.nD Cert.AdamRpbIdeal.τ).loc Cert.AdamRpbIdeal.main_arg1) = m ((c.tc : Thread Cert.AdamRpbIdeal.nD Cert.AdamRpbIdeal.τ).loc Cert.AdamRpbIdeal.main_arg1)
          ∧ r.2.mem ((c.tc : Thread Cert.AdamRpbIdeal.nD Cert.AdamRpbIdeal.τ).loc Cert.AdamRpbIdeal.main_arg2) = m ((c.tc : Thread Cert.AdamRpbIdeal.nD Cert.AdamRpbIdeal.τ).loc Cert.AdamRpbIdeal.main_arg2)
          ∧ r.2.mem ((c.tc : Thread Cert.AdamRpbIdeal.nD Cert.AdamRpbIdeal.τ).loc Cert.AdamRpbIdeal.main_arg3) = m ((c.tc : Thread Cert.AdamRpbIdeal.nD Cert.AdamRpbIdeal.τ).loc Cert.AdamRpbIdeal.main_arg3))
      ∧ θ_run (Cert.AdamRpbRefIdeal.defs (F := Ideal)) (onTc (τ := Cert.AdamRpbRefIdeal.τ) (Cert.AdamRpbRefIdeal.main (F := Ideal))) ⟨m', fun _ => 0, g'⟩ (fun r => ∀ c : Dev Cert.AdamRpbRefIdeal.nD,
          r.2.mem ((c.tc : Thread Cert.AdamRpbRefIdeal.nD Cert.AdamRpbRefIdeal.τ).loc Cert.AdamRpbRefIdeal.main_v23) = v0 c
          ∧ r.2.mem ((c.tc : Thread Cert.AdamRpbRefIdeal.nD Cert.AdamRpbRefIdeal.τ).loc Cert.AdamRpbRefIdeal.main_v4) = v1 c
          ∧ r.2.mem ((c.tc : Thread Cert.AdamRpbRefIdeal.nD Cert.AdamRpbRefIdeal.τ).loc Cert.AdamRpbRefIdeal.main_v10) = v2 c
          ∧ r.2.mem ((c.tc : Thread Cert.AdamRpbRefIdeal.nD Cert.AdamRpbRefIdeal.τ).loc Cert.AdamRpbRefIdeal.main_arg0) = m' ((c.tc : Thread Cert.AdamRpbRefIdeal.nD Cert.AdamRpbRefIdeal.τ).loc Cert.AdamRpbRefIdeal.main_arg0)
          ∧ r.2.mem ((c.tc : Thread Cert.AdamRpbRefIdeal.nD Cert.AdamRpbRefIdeal.τ).loc Cert.AdamRpbRefIdeal.main_arg1) = m' ((c.tc : Thread Cert.AdamRpbRefIdeal.nD Cert.AdamRpbRefIdeal.τ).loc Cert.AdamRpbRefIdeal.main_arg1)
          ∧ r.2.mem ((c.tc : Thread Cert.AdamRpbRefIdeal.nD Cert.AdamRpbRefIdeal.τ).loc Cert.AdamRpbRefIdeal.main_arg2) = m' ((c.tc : Thread Cert.AdamRpbRefIdeal.nD Cert.AdamRpbRefIdeal.τ).loc Cert.AdamRpbRefIdeal.main_arg2)
          ∧ r.2.mem ((c.tc : Thread Cert.AdamRpbRefIdeal.nD Cert.AdamRpbRefIdeal.τ).loc Cert.AdamRpbRefIdeal.main_arg3) = m' ((c.tc : Thread Cert.AdamRpbRefIdeal.nD Cert.AdamRpbRefIdeal.τ).loc Cert.AdamRpbRefIdeal.main_arg3))

def preserves_AdamAbOut_AdamAbOutIdeal : Prop :=
  True

def algebraic_AdamAbOutIdeal_AdamAbOutRefIdeal [hAdamAbOutIdeal : Cert.AdamAbOutIdeal.Facts] [hAdamAbOutRefIdeal : Cert.AdamAbOutRefIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg)
    (m' : (ℓ : Loc Cert.AdamAbOutRefIdeal.nD Cert.AdamAbOutRefIdeal.τ Cert.AdamAbOutRefIdeal.sig) → Buf (Elt Ideal) ℓ) (g' : Dev Cert.AdamAbOutRefIdeal.nD → PrngReg), Pre_AdamAbOutIdeal m →
    (∀ c : Dev Cert.AdamAbOutIdeal.nD,
      m' ((c.tc : Thread Cert.AdamAbOutRefIdeal.nD Cert.AdamAbOutRefIdeal.τ).loc Cert.AdamAbOutRefIdeal.main_arg0) = m ((c.tc : Thread Cert.AdamAbOutIdeal.nD Cert.AdamAbOutIdeal.τ).loc Cert.AdamAbOutIdeal.main_arg0)
      ∧ m' ((c.tc : Thread Cert.AdamAbOutRefIdeal.nD Cert.AdamAbOutRefIdeal.τ).loc Cert.AdamAbOutRefIdeal.main_arg1) = m ((c.tc : Thread Cert.AdamAbOutIdeal.nD Cert.AdamAbOutIdeal.τ).loc Cert.AdamAbOutIdeal.main_arg1)
      ∧ m' ((c.tc : Thread Cert.AdamAbOutRefIdeal.nD Cert.AdamAbOutRefIdeal.τ).loc Cert.AdamAbOutRefIdeal.main_arg2) = m ((c.tc : Thread Cert.AdamAbOutIdeal.nD Cert.AdamAbOutIdeal.τ).loc Cert.AdamAbOutIdeal.main_arg2)
      ∧ m' ((c.tc : Thread Cert.AdamAbOutRefIdeal.nD Cert.AdamAbOutRefIdeal.τ).loc Cert.AdamAbOutRefIdeal.main_arg3) = m ((c.tc : Thread Cert.AdamAbOutIdeal.nD Cert.AdamAbOutIdeal.τ).loc Cert.AdamAbOutIdeal.main_arg3)) →
    ∃ (v0 : (c : Dev Cert.AdamAbOutIdeal.nD) → Buf (Elt Ideal) ((c.tc : Thread Cert.AdamAbOutIdeal.nD Cert.AdamAbOutIdeal.τ).loc Cert.AdamAbOutIdeal.main_v0_0)) (v1 : (c : Dev Cert.AdamAbOutIdeal.nD) → Buf (Elt Ideal) ((c.tc : Thread Cert.AdamAbOutIdeal.nD Cert.AdamAbOutIdeal.τ).loc Cert.AdamAbOutIdeal.main_v0_1)) (v2 : (c : Dev Cert.AdamAbOutIdeal.nD) → Buf (Elt Ideal) ((c.tc : Thread Cert.AdamAbOutIdeal.nD Cert.AdamAbOutIdeal.τ).loc Cert.AdamAbOutIdeal.main_v0_2)),
      θ_run (Cert.AdamAbOutIdeal.defs (F := Ideal)) (onTc (τ := Cert.AdamAbOutIdeal.τ) (Cert.AdamAbOutIdeal.main (F := Ideal))) ⟨m, fun _ => 0, g⟩ (fun r => ∀ c : Dev Cert.AdamAbOutIdeal.nD,
          r.2.mem ((c.tc : Thread Cert.AdamAbOutIdeal.nD Cert.AdamAbOutIdeal.τ).loc Cert.AdamAbOutIdeal.main_v0_0) = v0 c
          ∧ r.2.mem ((c.tc : Thread Cert.AdamAbOutIdeal.nD Cert.AdamAbOutIdeal.τ).loc Cert.AdamAbOutIdeal.main_v0_1) = v1 c
          ∧ r.2.mem ((c.tc : Thread Cert.AdamAbOutIdeal.nD Cert.AdamAbOutIdeal.τ).loc Cert.AdamAbOutIdeal.main_v0_2) = v2 c
          ∧ r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
          ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
          ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
          ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ θ_run (Cert.AdamAbOutRefIdeal.defs (F := Ideal)) (onTc (τ := Cert.AdamAbOutRefIdeal.τ) (Cert.AdamAbOutRefIdeal.main (F := Ideal))) ⟨m', fun _ => 0, g'⟩ (fun r => ∀ c : Dev Cert.AdamAbOutRefIdeal.nD,
          r.2.mem ((c.tc : Thread Cert.AdamAbOutRefIdeal.nD Cert.AdamAbOutRefIdeal.τ).loc Cert.AdamAbOutRefIdeal.main_v23) = v0 c
          ∧ r.2.mem ((c.tc : Thread Cert.AdamAbOutRefIdeal.nD Cert.AdamAbOutRefIdeal.τ).loc Cert.AdamAbOutRefIdeal.main_v4) = v1 c
          ∧ r.2.mem ((c.tc : Thread Cert.AdamAbOutRefIdeal.nD Cert.AdamAbOutRefIdeal.τ).loc Cert.AdamAbOutRefIdeal.main_v10) = v2 c
          ∧ r.2.mem ((c.tc : Thread Cert.AdamAbOutRefIdeal.nD Cert.AdamAbOutRefIdeal.τ).loc Cert.AdamAbOutRefIdeal.main_arg0) = m' ((c.tc : Thread Cert.AdamAbOutRefIdeal.nD Cert.AdamAbOutRefIdeal.τ).loc Cert.AdamAbOutRefIdeal.main_arg0)
          ∧ r.2.mem ((c.tc : Thread Cert.AdamAbOutRefIdeal.nD Cert.AdamAbOutRefIdeal.τ).loc Cert.AdamAbOutRefIdeal.main_arg1) = m' ((c.tc : Thread Cert.AdamAbOutRefIdeal.nD Cert.AdamAbOutRefIdeal.τ).loc Cert.AdamAbOutRefIdeal.main_arg1)
          ∧ r.2.mem ((c.tc : Thread Cert.AdamAbOutRefIdeal.nD Cert.AdamAbOutRefIdeal.τ).loc Cert.AdamAbOutRefIdeal.main_arg2) = m' ((c.tc : Thread Cert.AdamAbOutRefIdeal.nD Cert.AdamAbOutRefIdeal.τ).loc Cert.AdamAbOutRefIdeal.main_arg2)
          ∧ r.2.mem ((c.tc : Thread Cert.AdamAbOutRefIdeal.nD Cert.AdamAbOutRefIdeal.τ).loc Cert.AdamAbOutRefIdeal.main_arg3) = m' ((c.tc : Thread Cert.AdamAbOutRefIdeal.nD Cert.AdamAbOutRefIdeal.τ).loc Cert.AdamAbOutRefIdeal.main_arg3))

def preserves_AdamCIn_AdamCInIdeal : Prop :=
  True

def algebraic_AdamCInIdeal_AdamCInRefIdeal [hAdamCInIdeal : Cert.AdamCInIdeal.Facts] [hAdamCInRefIdeal : Cert.AdamCInRefIdeal.Facts] : Prop :=
  ∀ (m : (ℓ : Loc Cert.AdamCInIdeal.nD Cert.AdamCInIdeal.τ Cert.AdamCInIdeal.sig) → Buf (Elt Ideal) ℓ) (g : Dev Cert.AdamCInIdeal.nD → PrngReg)
    (m' : (ℓ : Loc Cert.AdamCInRefIdeal.nD Cert.AdamCInRefIdeal.τ Cert.AdamCInRefIdeal.sig) → Buf (Elt Ideal) ℓ) (g' : Dev Cert.AdamCInRefIdeal.nD → PrngReg), Pre_AdamCInIdeal m →
    (∀ c : Dev Cert.AdamCInIdeal.nD,
      m' ((c.tc : Thread Cert.AdamCInRefIdeal.nD Cert.AdamCInRefIdeal.τ).loc Cert.AdamCInRefIdeal.main_arg0) = m ((c.tc : Thread Cert.AdamCInIdeal.nD Cert.AdamCInIdeal.τ).loc Cert.AdamCInIdeal.main_arg0)
      ∧ m' ((c.tc : Thread Cert.AdamCInRefIdeal.nD Cert.AdamCInRefIdeal.τ).loc Cert.AdamCInRefIdeal.main_arg1) = m ((c.tc : Thread Cert.AdamCInIdeal.nD Cert.AdamCInIdeal.τ).loc Cert.AdamCInIdeal.main_arg1)
      ∧ m' ((c.tc : Thread Cert.AdamCInRefIdeal.nD Cert.AdamCInRefIdeal.τ).loc Cert.AdamCInRefIdeal.main_arg2) = m ((c.tc : Thread Cert.AdamCInIdeal.nD Cert.AdamCInIdeal.τ).loc Cert.AdamCInIdeal.main_arg2)
      ∧ m' ((c.tc : Thread Cert.AdamCInRefIdeal.nD Cert.AdamCInRefIdeal.τ).loc Cert.AdamCInRefIdeal.main_arg3) = m ((c.tc : Thread Cert.AdamCInIdeal.nD Cert.AdamCInIdeal.τ).loc Cert.AdamCInIdeal.main_arg3)) →
    ∃ (v0 : (c : Dev Cert.AdamCInIdeal.nD) → Buf (Elt Ideal) ((c.tc : Thread Cert.AdamCInIdeal.nD Cert.AdamCInIdeal.τ).loc Cert.AdamCInIdeal.main_v0_0)) (v1 : (c : Dev Cert.AdamCInIdeal.nD) → Buf (Elt Ideal) ((c.tc : Thread Cert.AdamCInIdeal.nD Cert.AdamCInIdeal.τ).loc Cert.AdamCInIdeal.main_v0_1)) (v2 : (c : Dev Cert.AdamCInIdeal.nD) → Buf (Elt Ideal) ((c.tc : Thread Cert.AdamCInIdeal.nD Cert.AdamCInIdeal.τ).loc Cert.AdamCInIdeal.main_v0_2)),
      θ_run (Cert.AdamCInIdeal.defs (F := Ideal)) (onTc (τ := Cert.AdamCInIdeal.τ) (Cert.AdamCInIdeal.main (F := Ideal))) ⟨m, fun _ => 0, g⟩ (fun r => ∀ c : Dev Cert.AdamCInIdeal.nD,
          r.2.mem ((c.tc : Thread Cert.AdamCInIdeal.nD Cert.AdamCInIdeal.τ).loc Cert.AdamCInIdeal.main_v0_0) = v0 c
          ∧ r.2.mem ((c.tc : Thread Cert.AdamCInIdeal.nD Cert.AdamCInIdeal.τ).loc Cert.AdamCInIdeal.main_v0_1) = v1 c
          ∧ r.2.mem ((c.tc : Thread Cert.AdamCInIdeal.nD Cert.AdamCInIdeal.τ).loc Cert.AdamCInIdeal.main_v0_2) = v2 c
          ∧ r.2.mem ((c.tc : Thread Cert.AdamCInIdeal.nD Cert.AdamCInIdeal.τ).loc Cert.AdamCInIdeal.main_arg0) = m ((c.tc : Thread Cert.AdamCInIdeal.nD Cert.AdamCInIdeal.τ).loc Cert.AdamCInIdeal.main_arg0)
          ∧ r.2.mem ((c.tc : Thread Cert.AdamCInIdeal.nD Cert.AdamCInIdeal.τ).loc Cert.AdamCInIdeal.main_arg1) = m ((c.tc : Thread Cert.AdamCInIdeal.nD Cert.AdamCInIdeal.τ).loc Cert.AdamCInIdeal.main_arg1)
          ∧ r.2.mem ((c.tc : Thread Cert.AdamCInIdeal.nD Cert.AdamCInIdeal.τ).loc Cert.AdamCInIdeal.main_arg2) = m ((c.tc : Thread Cert.AdamCInIdeal.nD Cert.AdamCInIdeal.τ).loc Cert.AdamCInIdeal.main_arg2)
          ∧ r.2.mem ((c.tc : Thread Cert.AdamCInIdeal.nD Cert.AdamCInIdeal.τ).loc Cert.AdamCInIdeal.main_arg3) = m ((c.tc : Thread Cert.AdamCInIdeal.nD Cert.AdamCInIdeal.τ).loc Cert.AdamCInIdeal.main_arg3))
      ∧ θ_run (Cert.AdamCInRefIdeal.defs (F := Ideal)) (onTc (τ := Cert.AdamCInRefIdeal.τ) (Cert.AdamCInRefIdeal.main (F := Ideal))) ⟨m', fun _ => 0, g'⟩ (fun r => ∀ c : Dev Cert.AdamCInRefIdeal.nD,
          r.2.mem ((c.tc : Thread Cert.AdamCInRefIdeal.nD Cert.AdamCInRefIdeal.τ).loc Cert.AdamCInRefIdeal.main_v23) = v0 c
          ∧ r.2.mem ((c.tc : Thread Cert.AdamCInRefIdeal.nD Cert.AdamCInRefIdeal.τ).loc Cert.AdamCInRefIdeal.main_v4) = v1 c
          ∧ r.2.mem ((c.tc : Thread Cert.AdamCInRefIdeal.nD Cert.AdamCInRefIdeal.τ).loc Cert.AdamCInRefIdeal.main_v10) = v2 c
          ∧ r.2.mem ((c.tc : Thread Cert.AdamCInRefIdeal.nD Cert.AdamCInRefIdeal.τ).loc Cert.AdamCInRefIdeal.main_arg0) = m' ((c.tc : Thread Cert.AdamCInRefIdeal.nD Cert.AdamCInRefIdeal.τ).loc Cert.AdamCInRefIdeal.main_arg0)
          ∧ r.2.mem ((c.tc : Thread Cert.AdamCInRefIdeal.nD Cert.AdamCInRefIdeal.τ).loc Cert.AdamCInRefIdeal.main_arg1) = m' ((c.tc : Thread Cert.AdamCInRefIdeal.nD Cert.AdamCInRefIdeal.τ).loc Cert.AdamCInRefIdeal.main_arg1)
          ∧ r.2.mem ((c.tc : Thread Cert.AdamCInRefIdeal.nD Cert.AdamCInRefIdeal.τ).loc Cert.AdamCInRefIdeal.main_arg2) = m' ((c.tc : Thread Cert.AdamCInRefIdeal.nD Cert.AdamCInRefIdeal.τ).loc Cert.AdamCInRefIdeal.main_arg2)
          ∧ r.2.mem ((c.tc : Thread Cert.AdamCInRefIdeal.nD Cert.AdamCInRefIdeal.τ).loc Cert.AdamCInRefIdeal.main_arg3) = m' ((c.tc : Thread Cert.AdamCInRefIdeal.nD Cert.AdamCInRefIdeal.τ).loc Cert.AdamCInRefIdeal.main_arg3))

def preserves_AdamCConv_AdamCConvIdeal : Prop :=
  True

def algebraic_AdamCConvIdeal_AdamCConvRefIdeal [hAdamCConvIdeal : Cert.AdamCConvIdeal.Facts] [hAdamCConvRefIdeal : Cert.AdamCConvRefIdeal.Facts] : Prop :=
  ∀ (m : (ℓ : Loc Cert.AdamCConvIdeal.nD Cert.AdamCConvIdeal.τ Cert.AdamCConvIdeal.sig) → Buf (Elt Ideal) ℓ) (g : Dev Cert.AdamCConvIdeal.nD → PrngReg)
    (m' : (ℓ : Loc Cert.AdamCConvRefIdeal.nD Cert.AdamCConvRefIdeal.τ Cert.AdamCConvRefIdeal.sig) → Buf (Elt Ideal) ℓ) (g' : Dev Cert.AdamCConvRefIdeal.nD → PrngReg), Pre_AdamCConvIdeal m →
    (∀ c : Dev Cert.AdamCConvIdeal.nD,
      m' ((c.tc : Thread Cert.AdamCConvRefIdeal.nD Cert.AdamCConvRefIdeal.τ).loc Cert.AdamCConvRefIdeal.main_arg0) = m ((c.tc : Thread Cert.AdamCConvIdeal.nD Cert.AdamCConvIdeal.τ).loc Cert.AdamCConvIdeal.main_arg0)
      ∧ m' ((c.tc : Thread Cert.AdamCConvRefIdeal.nD Cert.AdamCConvRefIdeal.τ).loc Cert.AdamCConvRefIdeal.main_arg1) = m ((c.tc : Thread Cert.AdamCConvIdeal.nD Cert.AdamCConvIdeal.τ).loc Cert.AdamCConvIdeal.main_arg1)
      ∧ m' ((c.tc : Thread Cert.AdamCConvRefIdeal.nD Cert.AdamCConvRefIdeal.τ).loc Cert.AdamCConvRefIdeal.main_arg2) = m ((c.tc : Thread Cert.AdamCConvIdeal.nD Cert.AdamCConvIdeal.τ).loc Cert.AdamCConvIdeal.main_arg2)
      ∧ m' ((c.tc : Thread Cert.AdamCConvRefIdeal.nD Cert.AdamCConvRefIdeal.τ).loc Cert.AdamCConvRefIdeal.main_arg3) = m ((c.tc : Thread Cert.AdamCConvIdeal.nD Cert.AdamCConvIdeal.τ).loc Cert.AdamCConvIdeal.main_arg3)) →
    ∃ (v0 : (c : Dev Cert.AdamCConvIdeal.nD) → Buf (Elt Ideal) ((c.tc : Thread Cert.AdamCConvIdeal.nD Cert.AdamCConvIdeal.τ).loc Cert.AdamCConvIdeal.main_v0_0)) (v1 : (c : Dev Cert.AdamCConvIdeal.nD) → Buf (Elt Ideal) ((c.tc : Thread Cert.AdamCConvIdeal.nD Cert.AdamCConvIdeal.τ).loc Cert.AdamCConvIdeal.main_v0_1)) (v2 : (c : Dev Cert.AdamCConvIdeal.nD) → Buf (Elt Ideal) ((c.tc : Thread Cert.AdamCConvIdeal.nD Cert.AdamCConvIdeal.τ).loc Cert.AdamCConvIdeal.main_v0_2)),
      θ_run (Cert.AdamCConvIdeal.defs (F := Ideal)) (onTc (τ := Cert.AdamCConvIdeal.τ) (Cert.AdamCConvIdeal.main (F := Ideal))) ⟨m, fun _ => 0, g⟩ (fun r => ∀ c : Dev Cert.AdamCConvIdeal.nD,
          r.2.mem ((c.tc : Thread Cert.AdamCConvIdeal.nD Cert.AdamCConvIdeal.τ).loc Cert.AdamCConvIdeal.main_v0_0) = v0 c
          ∧ r.2.mem ((c.tc : Thread Cert.AdamCConvIdeal.nD Cert.AdamCConvIdeal.τ).loc Cert.AdamCConvIdeal.main_v0_1) = v1 c
          ∧ r.2.mem ((c.tc : Thread Cert.AdamCConvIdeal.nD Cert.AdamCConvIdeal.τ).loc Cert.AdamCConvIdeal.main_v0_2) = v2 c
          ∧ r.2.mem ((c.tc : Thread Cert.AdamCConvIdeal.nD Cert.AdamCConvIdeal.τ).loc Cert.AdamCConvIdeal.main_arg0) = m ((c.tc : Thread Cert.AdamCConvIdeal.nD Cert.AdamCConvIdeal.τ).loc Cert.AdamCConvIdeal.main_arg0)
          ∧ r.2.mem ((c.tc : Thread Cert.AdamCConvIdeal.nD Cert.AdamCConvIdeal.τ).loc Cert.AdamCConvIdeal.main_arg1) = m ((c.tc : Thread Cert.AdamCConvIdeal.nD Cert.AdamCConvIdeal.τ).loc Cert.AdamCConvIdeal.main_arg1)
          ∧ r.2.mem ((c.tc : Thread Cert.AdamCConvIdeal.nD Cert.AdamCConvIdeal.τ).loc Cert.AdamCConvIdeal.main_arg2) = m ((c.tc : Thread Cert.AdamCConvIdeal.nD Cert.AdamCConvIdeal.τ).loc Cert.AdamCConvIdeal.main_arg2)
          ∧ r.2.mem ((c.tc : Thread Cert.AdamCConvIdeal.nD Cert.AdamCConvIdeal.τ).loc Cert.AdamCConvIdeal.main_arg3) = m ((c.tc : Thread Cert.AdamCConvIdeal.nD Cert.AdamCConvIdeal.τ).loc Cert.AdamCConvIdeal.main_arg3))
      ∧ θ_run (Cert.AdamCConvRefIdeal.defs (F := Ideal)) (onTc (τ := Cert.AdamCConvRefIdeal.τ) (Cert.AdamCConvRefIdeal.main (F := Ideal))) ⟨m', fun _ => 0, g'⟩ (fun r => ∀ c : Dev Cert.AdamCConvRefIdeal.nD,
          r.2.mem ((c.tc : Thread Cert.AdamCConvRefIdeal.nD Cert.AdamCConvRefIdeal.τ).loc Cert.AdamCConvRefIdeal.main_v23) = v0 c
          ∧ r.2.mem ((c.tc : Thread Cert.AdamCConvRefIdeal.nD Cert.AdamCConvRefIdeal.τ).loc Cert.AdamCConvRefIdeal.main_v4) = v1 c
          ∧ r.2.mem ((c.tc : Thread Cert.AdamCConvRefIdeal.nD Cert.AdamCConvRefIdeal.τ).loc Cert.AdamCConvRefIdeal.main_v10) = v2 c
          ∧ r.2.mem ((c.tc : Thread Cert.AdamCConvRefIdeal.nD Cert.AdamCConvRefIdeal.τ).loc Cert.AdamCConvRefIdeal.main_arg0) = m' ((c.tc : Thread Cert.AdamCConvRefIdeal.nD Cert.AdamCConvRefIdeal.τ).loc Cert.AdamCConvRefIdeal.main_arg0)
          ∧ r.2.mem ((c.tc : Thread Cert.AdamCConvRefIdeal.nD Cert.AdamCConvRefIdeal.τ).loc Cert.AdamCConvRefIdeal.main_arg1) = m' ((c.tc : Thread Cert.AdamCConvRefIdeal.nD Cert.AdamCConvRefIdeal.τ).loc Cert.AdamCConvRefIdeal.main_arg1)
          ∧ r.2.mem ((c.tc : Thread Cert.AdamCConvRefIdeal.nD Cert.AdamCConvRefIdeal.τ).loc Cert.AdamCConvRefIdeal.main_arg2) = m' ((c.tc : Thread Cert.AdamCConvRefIdeal.nD Cert.AdamCConvRefIdeal.τ).loc Cert.AdamCConvRefIdeal.main_arg2)
          ∧ r.2.mem ((c.tc : Thread Cert.AdamCConvRefIdeal.nD Cert.AdamCConvRefIdeal.τ).loc Cert.AdamCConvRefIdeal.main_arg3) = m' ((c.tc : Thread Cert.AdamCConvRefIdeal.nD Cert.AdamCConvRefIdeal.τ).loc Cert.AdamCConvRefIdeal.main_arg3))

def preserves_AdamCBias_AdamCBiasIdeal : Prop :=
  True

def algebraic_AdamCBiasIdeal_AdamCBiasRefIdeal [hAdamCBiasIdeal : Cert.AdamCBiasIdeal.Facts] [hAdamCBiasRefIdeal : Cert.AdamCBiasRefIdeal.Facts] : Prop :=
  ∀ (m : (ℓ : Loc Cert.AdamCBiasIdeal.nD Cert.AdamCBiasIdeal.τ Cert.AdamCBiasIdeal.sig) → Buf (Elt Ideal) ℓ) (g : Dev Cert.AdamCBiasIdeal.nD → PrngReg)
    (m' : (ℓ : Loc Cert.AdamCBiasRefIdeal.nD Cert.AdamCBiasRefIdeal.τ Cert.AdamCBiasRefIdeal.sig) → Buf (Elt Ideal) ℓ) (g' : Dev Cert.AdamCBiasRefIdeal.nD → PrngReg), Pre_AdamCBiasIdeal m →
    (∀ c : Dev Cert.AdamCBiasIdeal.nD,
      m' ((c.tc : Thread Cert.AdamCBiasRefIdeal.nD Cert.AdamCBiasRefIdeal.τ).loc Cert.AdamCBiasRefIdeal.main_arg0) = m ((c.tc : Thread Cert.AdamCBiasIdeal.nD Cert.AdamCBiasIdeal.τ).loc Cert.AdamCBiasIdeal.main_arg0)
      ∧ m' ((c.tc : Thread Cert.AdamCBiasRefIdeal.nD Cert.AdamCBiasRefIdeal.τ).loc Cert.AdamCBiasRefIdeal.main_arg1) = m ((c.tc : Thread Cert.AdamCBiasIdeal.nD Cert.AdamCBiasIdeal.τ).loc Cert.AdamCBiasIdeal.main_arg1)
      ∧ m' ((c.tc : Thread Cert.AdamCBiasRefIdeal.nD Cert.AdamCBiasRefIdeal.τ).loc Cert.AdamCBiasRefIdeal.main_arg2) = m ((c.tc : Thread Cert.AdamCBiasIdeal.nD Cert.AdamCBiasIdeal.τ).loc Cert.AdamCBiasIdeal.main_arg2)
      ∧ m' ((c.tc : Thread Cert.AdamCBiasRefIdeal.nD Cert.AdamCBiasRefIdeal.τ).loc Cert.AdamCBiasRefIdeal.main_arg3) = m ((c.tc : Thread Cert.AdamCBiasIdeal.nD Cert.AdamCBiasIdeal.τ).loc Cert.AdamCBiasIdeal.main_arg3)) →
    ∃ (v0 : (c : Dev Cert.AdamCBiasIdeal.nD) → Buf (Elt Ideal) ((c.tc : Thread Cert.AdamCBiasIdeal.nD Cert.AdamCBiasIdeal.τ).loc Cert.AdamCBiasIdeal.main_v0_0)) (v1 : (c : Dev Cert.AdamCBiasIdeal.nD) → Buf (Elt Ideal) ((c.tc : Thread Cert.AdamCBiasIdeal.nD Cert.AdamCBiasIdeal.τ).loc Cert.AdamCBiasIdeal.main_v0_1)) (v2 : (c : Dev Cert.AdamCBiasIdeal.nD) → Buf (Elt Ideal) ((c.tc : Thread Cert.AdamCBiasIdeal.nD Cert.AdamCBiasIdeal.τ).loc Cert.AdamCBiasIdeal.main_v0_2)),
      θ_run (Cert.AdamCBiasIdeal.defs (F := Ideal)) (onTc (τ := Cert.AdamCBiasIdeal.τ) (Cert.AdamCBiasIdeal.main (F := Ideal))) ⟨m, fun _ => 0, g⟩ (fun r => ∀ c : Dev Cert.AdamCBiasIdeal.nD,
          r.2.mem ((c.tc : Thread Cert.AdamCBiasIdeal.nD Cert.AdamCBiasIdeal.τ).loc Cert.AdamCBiasIdeal.main_v0_0) = v0 c
          ∧ r.2.mem ((c.tc : Thread Cert.AdamCBiasIdeal.nD Cert.AdamCBiasIdeal.τ).loc Cert.AdamCBiasIdeal.main_v0_1) = v1 c
          ∧ r.2.mem ((c.tc : Thread Cert.AdamCBiasIdeal.nD Cert.AdamCBiasIdeal.τ).loc Cert.AdamCBiasIdeal.main_v0_2) = v2 c
          ∧ r.2.mem ((c.tc : Thread Cert.AdamCBiasIdeal.nD Cert.AdamCBiasIdeal.τ).loc Cert.AdamCBiasIdeal.main_arg0) = m ((c.tc : Thread Cert.AdamCBiasIdeal.nD Cert.AdamCBiasIdeal.τ).loc Cert.AdamCBiasIdeal.main_arg0)
          ∧ r.2.mem ((c.tc : Thread Cert.AdamCBiasIdeal.nD Cert.AdamCBiasIdeal.τ).loc Cert.AdamCBiasIdeal.main_arg1) = m ((c.tc : Thread Cert.AdamCBiasIdeal.nD Cert.AdamCBiasIdeal.τ).loc Cert.AdamCBiasIdeal.main_arg1)
          ∧ r.2.mem ((c.tc : Thread Cert.AdamCBiasIdeal.nD Cert.AdamCBiasIdeal.τ).loc Cert.AdamCBiasIdeal.main_arg2) = m ((c.tc : Thread Cert.AdamCBiasIdeal.nD Cert.AdamCBiasIdeal.τ).loc Cert.AdamCBiasIdeal.main_arg2)
          ∧ r.2.mem ((c.tc : Thread Cert.AdamCBiasIdeal.nD Cert.AdamCBiasIdeal.τ).loc Cert.AdamCBiasIdeal.main_arg3) = m ((c.tc : Thread Cert.AdamCBiasIdeal.nD Cert.AdamCBiasIdeal.τ).loc Cert.AdamCBiasIdeal.main_arg3))
      ∧ θ_run (Cert.AdamCBiasRefIdeal.defs (F := Ideal)) (onTc (τ := Cert.AdamCBiasRefIdeal.τ) (Cert.AdamCBiasRefIdeal.main (F := Ideal))) ⟨m', fun _ => 0, g'⟩ (fun r => ∀ c : Dev Cert.AdamCBiasRefIdeal.nD,
          r.2.mem ((c.tc : Thread Cert.AdamCBiasRefIdeal.nD Cert.AdamCBiasRefIdeal.τ).loc Cert.AdamCBiasRefIdeal.main_v23) = v0 c
          ∧ r.2.mem ((c.tc : Thread Cert.AdamCBiasRefIdeal.nD Cert.AdamCBiasRefIdeal.τ).loc Cert.AdamCBiasRefIdeal.main_v4) = v1 c
          ∧ r.2.mem ((c.tc : Thread Cert.AdamCBiasRefIdeal.nD Cert.AdamCBiasRefIdeal.τ).loc Cert.AdamCBiasRefIdeal.main_v10) = v2 c
          ∧ r.2.mem ((c.tc : Thread Cert.AdamCBiasRefIdeal.nD Cert.AdamCBiasRefIdeal.τ).loc Cert.AdamCBiasRefIdeal.main_arg0) = m' ((c.tc : Thread Cert.AdamCBiasRefIdeal.nD Cert.AdamCBiasRefIdeal.τ).loc Cert.AdamCBiasRefIdeal.main_arg0)
          ∧ r.2.mem ((c.tc : Thread Cert.AdamCBiasRefIdeal.nD Cert.AdamCBiasRefIdeal.τ).loc Cert.AdamCBiasRefIdeal.main_arg1) = m' ((c.tc : Thread Cert.AdamCBiasRefIdeal.nD Cert.AdamCBiasRefIdeal.τ).loc Cert.AdamCBiasRefIdeal.main_arg1)
          ∧ r.2.mem ((c.tc : Thread Cert.AdamCBiasRefIdeal.nD Cert.AdamCBiasRefIdeal.τ).loc Cert.AdamCBiasRefIdeal.main_arg2) = m' ((c.tc : Thread Cert.AdamCBiasRefIdeal.nD Cert.AdamCBiasRefIdeal.τ).loc Cert.AdamCBiasRefIdeal.main_arg2)
          ∧ r.2.mem ((c.tc : Thread Cert.AdamCBiasRefIdeal.nD Cert.AdamCBiasRefIdeal.τ).loc Cert.AdamCBiasRefIdeal.main_arg3) = m' ((c.tc : Thread Cert.AdamCBiasRefIdeal.nD Cert.AdamCBiasRefIdeal.τ).loc Cert.AdamCBiasRefIdeal.main_arg3))

def preserves_AdamDt_AdamDtIdeal : Prop :=
  True

def algebraic_AdamDtIdeal_AdamDtRefIdeal [hAdamDtIdeal : Cert.AdamDtIdeal.Facts] [hAdamDtRefIdeal : Cert.AdamDtRefIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg)
    (m' : (ℓ : Loc Cert.AdamDtRefIdeal.nD Cert.AdamDtRefIdeal.τ Cert.AdamDtRefIdeal.sig) → Buf (Elt Ideal) ℓ) (g' : Dev Cert.AdamDtRefIdeal.nD → PrngReg), Pre_AdamDtIdeal m →
    (∀ c : Dev Cert.AdamDtIdeal.nD,
      m' ((c.tc : Thread Cert.AdamDtRefIdeal.nD Cert.AdamDtRefIdeal.τ).loc Cert.AdamDtRefIdeal.main_arg0) = m ((c.tc : Thread Cert.AdamDtIdeal.nD Cert.AdamDtIdeal.τ).loc Cert.AdamDtIdeal.main_arg0)
      ∧ m' ((c.tc : Thread Cert.AdamDtRefIdeal.nD Cert.AdamDtRefIdeal.τ).loc Cert.AdamDtRefIdeal.main_arg1) = m ((c.tc : Thread Cert.AdamDtIdeal.nD Cert.AdamDtIdeal.τ).loc Cert.AdamDtIdeal.main_arg1)
      ∧ m' ((c.tc : Thread Cert.AdamDtRefIdeal.nD Cert.AdamDtRefIdeal.τ).loc Cert.AdamDtRefIdeal.main_arg2) = m ((c.tc : Thread Cert.AdamDtIdeal.nD Cert.AdamDtIdeal.τ).loc Cert.AdamDtIdeal.main_arg2)
      ∧ m' ((c.tc : Thread Cert.AdamDtRefIdeal.nD Cert.AdamDtRefIdeal.τ).loc Cert.AdamDtRefIdeal.main_arg3) = m ((c.tc : Thread Cert.AdamDtIdeal.nD Cert.AdamDtIdeal.τ).loc Cert.AdamDtIdeal.main_arg3)) →
    ∃ (v0 : (c : Dev Cert.AdamDtIdeal.nD) → Buf (Elt Ideal) ((c.tc : Thread Cert.AdamDtIdeal.nD Cert.AdamDtIdeal.τ).loc Cert.AdamDtIdeal.main_v0_0)) (v1 : (c : Dev Cert.AdamDtIdeal.nD) → Buf (Elt Ideal) ((c.tc : Thread Cert.AdamDtIdeal.nD Cert.AdamDtIdeal.τ).loc Cert.AdamDtIdeal.main_v0_1)) (v2 : (c : Dev Cert.AdamDtIdeal.nD) → Buf (Elt Ideal) ((c.tc : Thread Cert.AdamDtIdeal.nD Cert.AdamDtIdeal.τ).loc Cert.AdamDtIdeal.main_v0_2)),
      θ_run (Cert.AdamDtIdeal.defs (F := Ideal)) (onTc (τ := Cert.AdamDtIdeal.τ) (Cert.AdamDtIdeal.main (F := Ideal))) ⟨m, fun _ => 0, g⟩ (fun r => ∀ c : Dev Cert.AdamDtIdeal.nD,
          r.2.mem ((c.tc : Thread Cert.AdamDtIdeal.nD Cert.AdamDtIdeal.τ).loc Cert.AdamDtIdeal.main_v0_0) = v0 c
          ∧ r.2.mem ((c.tc : Thread Cert.AdamDtIdeal.nD Cert.AdamDtIdeal.τ).loc Cert.AdamDtIdeal.main_v0_1) = v1 c
          ∧ r.2.mem ((c.tc : Thread Cert.AdamDtIdeal.nD Cert.AdamDtIdeal.τ).loc Cert.AdamDtIdeal.main_v0_2) = v2 c
          ∧ r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
          ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
          ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
          ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ θ_run (Cert.AdamDtRefIdeal.defs (F := Ideal)) (onTc (τ := Cert.AdamDtRefIdeal.τ) (Cert.AdamDtRefIdeal.main (F := Ideal))) ⟨m', fun _ => 0, g'⟩ (fun r => ∀ c : Dev Cert.AdamDtRefIdeal.nD,
          r.2.mem ((c.tc : Thread Cert.AdamDtRefIdeal.nD Cert.AdamDtRefIdeal.τ).loc Cert.AdamDtRefIdeal.main_v23) = v0 c
          ∧ r.2.mem ((c.tc : Thread Cert.AdamDtRefIdeal.nD Cert.AdamDtRefIdeal.τ).loc Cert.AdamDtRefIdeal.main_v4) = v1 c
          ∧ r.2.mem ((c.tc : Thread Cert.AdamDtRefIdeal.nD Cert.AdamDtRefIdeal.τ).loc Cert.AdamDtRefIdeal.main_v10) = v2 c
          ∧ r.2.mem ((c.tc : Thread Cert.AdamDtRefIdeal.nD Cert.AdamDtRefIdeal.τ).loc Cert.AdamDtRefIdeal.main_arg0) = m' ((c.tc : Thread Cert.AdamDtRefIdeal.nD Cert.AdamDtRefIdeal.τ).loc Cert.AdamDtRefIdeal.main_arg0)
          ∧ r.2.mem ((c.tc : Thread Cert.AdamDtRefIdeal.nD Cert.AdamDtRefIdeal.τ).loc Cert.AdamDtRefIdeal.main_arg1) = m' ((c.tc : Thread Cert.AdamDtRefIdeal.nD Cert.AdamDtRefIdeal.τ).loc Cert.AdamDtRefIdeal.main_arg1)
          ∧ r.2.mem ((c.tc : Thread Cert.AdamDtRefIdeal.nD Cert.AdamDtRefIdeal.τ).loc Cert.AdamDtRefIdeal.main_arg2) = m' ((c.tc : Thread Cert.AdamDtRefIdeal.nD Cert.AdamDtRefIdeal.τ).loc Cert.AdamDtRefIdeal.main_arg2)
          ∧ r.2.mem ((c.tc : Thread Cert.AdamDtRefIdeal.nD Cert.AdamDtRefIdeal.τ).loc Cert.AdamDtRefIdeal.main_arg3) = m' ((c.tc : Thread Cert.AdamDtRefIdeal.nD Cert.AdamDtRefIdeal.τ).loc Cert.AdamDtRefIdeal.main_arg3))

def preserves_AdamSkip_AdamSkipIdeal : Prop :=
  True

def algebraic_AdamSkipIdeal_AdamSkipRefIdeal [hAdamSkipIdeal : Cert.AdamSkipIdeal.Facts] [hAdamSkipRefIdeal : Cert.AdamSkipRefIdeal.Facts] : Prop :=
  ∀ (m : (ℓ : Loc Cert.AdamSkipIdeal.nD Cert.AdamSkipIdeal.τ Cert.AdamSkipIdeal.sig) → Buf (Elt Ideal) ℓ) (g : Dev Cert.AdamSkipIdeal.nD → PrngReg)
    (m' : (ℓ : Loc Cert.AdamSkipRefIdeal.nD Cert.AdamSkipRefIdeal.τ Cert.AdamSkipRefIdeal.sig) → Buf (Elt Ideal) ℓ) (g' : Dev Cert.AdamSkipRefIdeal.nD → PrngReg), Pre_AdamSkipIdeal m →
    (∀ c : Dev Cert.AdamSkipIdeal.nD,
      m' ((c.tc : Thread Cert.AdamSkipRefIdeal.nD Cert.AdamSkipRefIdeal.τ).loc Cert.AdamSkipRefIdeal.main_arg0) = m ((c.tc : Thread Cert.AdamSkipIdeal.nD Cert.AdamSkipIdeal.τ).loc Cert.AdamSkipIdeal.main_arg0)
      ∧ m' ((c.tc : Thread Cert.AdamSkipRefIdeal.nD Cert.AdamSkipRefIdeal.τ).loc Cert.AdamSkipRefIdeal.main_arg1) = m ((c.tc : Thread Cert.AdamSkipIdeal.nD Cert.AdamSkipIdeal.τ).loc Cert.AdamSkipIdeal.main_arg1)
      ∧ m' ((c.tc : Thread Cert.AdamSkipRefIdeal.nD Cert.AdamSkipRefIdeal.τ).loc Cert.AdamSkipRefIdeal.main_arg2) = m ((c.tc : Thread Cert.AdamSkipIdeal.nD Cert.AdamSkipIdeal.τ).loc Cert.AdamSkipIdeal.main_arg2)
      ∧ m' ((c.tc : Thread Cert.AdamSkipRefIdeal.nD Cert.AdamSkipRefIdeal.τ).loc Cert.AdamSkipRefIdeal.main_arg3) = m ((c.tc : Thread Cert.AdamSkipIdeal.nD Cert.AdamSkipIdeal.τ).loc Cert.AdamSkipIdeal.main_arg3)) →
    ∃ (v0 : (c : Dev Cert.AdamSkipIdeal.nD) → Buf (Elt Ideal) ((c.tc : Thread Cert.AdamSkipIdeal.nD Cert.AdamSkipIdeal.τ).loc Cert.AdamSkipIdeal.main_v0_0)) (v1 : (c : Dev Cert.AdamSkipIdeal.nD) → Buf (Elt Ideal) ((c.tc : Thread Cert.AdamSkipIdeal.nD Cert.AdamSkipIdeal.τ).loc Cert.AdamSkipIdeal.main_v0_1)) (v2 : (c : Dev Cert.AdamSkipIdeal.nD) → Buf (Elt Ideal) ((c.tc : Thread Cert.AdamSkipIdeal.nD Cert.AdamSkipIdeal.τ).loc Cert.AdamSkipIdeal.main_v0_2)),
      θ_run (Cert.AdamSkipIdeal.defs (F := Ideal)) (onTc (τ := Cert.AdamSkipIdeal.τ) (Cert.AdamSkipIdeal.main (F := Ideal))) ⟨m, fun _ => 0, g⟩ (fun r => ∀ c : Dev Cert.AdamSkipIdeal.nD,
          r.2.mem ((c.tc : Thread Cert.AdamSkipIdeal.nD Cert.AdamSkipIdeal.τ).loc Cert.AdamSkipIdeal.main_v0_0) = v0 c
          ∧ r.2.mem ((c.tc : Thread Cert.AdamSkipIdeal.nD Cert.AdamSkipIdeal.τ).loc Cert.AdamSkipIdeal.main_v0_1) = v1 c
          ∧ r.2.mem ((c.tc : Thread Cert.AdamSkipIdeal.nD Cert.AdamSkipIdeal.τ).loc Cert.AdamSkipIdeal.main_v0_2) = v2 c
          ∧ r.2.mem ((c.tc : Thread Cert.AdamSkipIdeal.nD Cert.AdamSkipIdeal.τ).loc Cert.AdamSkipIdeal.main_arg0) = m ((c.tc : Thread Cert.AdamSkipIdeal.nD Cert.AdamSkipIdeal.τ).loc Cert.AdamSkipIdeal.main_arg0)
          ∧ r.2.mem ((c.tc : Thread Cert.AdamSkipIdeal.nD Cert.AdamSkipIdeal.τ).loc Cert.AdamSkipIdeal.main_arg1) = m ((c.tc : Thread Cert.AdamSkipIdeal.nD Cert.AdamSkipIdeal.τ).loc Cert.AdamSkipIdeal.main_arg1)
          ∧ r.2.mem ((c.tc : Thread Cert.AdamSkipIdeal.nD Cert.AdamSkipIdeal.τ).loc Cert.AdamSkipIdeal.main_arg2) = m ((c.tc : Thread Cert.AdamSkipIdeal.nD Cert.AdamSkipIdeal.τ).loc Cert.AdamSkipIdeal.main_arg2)
          ∧ r.2.mem ((c.tc : Thread Cert.AdamSkipIdeal.nD Cert.AdamSkipIdeal.τ).loc Cert.AdamSkipIdeal.main_arg3) = m ((c.tc : Thread Cert.AdamSkipIdeal.nD Cert.AdamSkipIdeal.τ).loc Cert.AdamSkipIdeal.main_arg3))
      ∧ θ_run (Cert.AdamSkipRefIdeal.defs (F := Ideal)) (onTc (τ := Cert.AdamSkipRefIdeal.τ) (Cert.AdamSkipRefIdeal.main (F := Ideal))) ⟨m', fun _ => 0, g'⟩ (fun r => ∀ c : Dev Cert.AdamSkipRefIdeal.nD,
          r.2.mem ((c.tc : Thread Cert.AdamSkipRefIdeal.nD Cert.AdamSkipRefIdeal.τ).loc Cert.AdamSkipRefIdeal.main_v23) = v0 c
          ∧ r.2.mem ((c.tc : Thread Cert.AdamSkipRefIdeal.nD Cert.AdamSkipRefIdeal.τ).loc Cert.AdamSkipRefIdeal.main_v4) = v1 c
          ∧ r.2.mem ((c.tc : Thread Cert.AdamSkipRefIdeal.nD Cert.AdamSkipRefIdeal.τ).loc Cert.AdamSkipRefIdeal.main_v10) = v2 c
          ∧ r.2.mem ((c.tc : Thread Cert.AdamSkipRefIdeal.nD Cert.AdamSkipRefIdeal.τ).loc Cert.AdamSkipRefIdeal.main_arg0) = m' ((c.tc : Thread Cert.AdamSkipRefIdeal.nD Cert.AdamSkipRefIdeal.τ).loc Cert.AdamSkipRefIdeal.main_arg0)
          ∧ r.2.mem ((c.tc : Thread Cert.AdamSkipRefIdeal.nD Cert.AdamSkipRefIdeal.τ).loc Cert.AdamSkipRefIdeal.main_arg1) = m' ((c.tc : Thread Cert.AdamSkipRefIdeal.nD Cert.AdamSkipRefIdeal.τ).loc Cert.AdamSkipRefIdeal.main_arg1)
          ∧ r.2.mem ((c.tc : Thread Cert.AdamSkipRefIdeal.nD Cert.AdamSkipRefIdeal.τ).loc Cert.AdamSkipRefIdeal.main_arg2) = m' ((c.tc : Thread Cert.AdamSkipRefIdeal.nD Cert.AdamSkipRefIdeal.τ).loc Cert.AdamSkipRefIdeal.main_arg2)
          ∧ r.2.mem ((c.tc : Thread Cert.AdamSkipRefIdeal.nD Cert.AdamSkipRefIdeal.τ).loc Cert.AdamSkipRefIdeal.main_arg3) = m' ((c.tc : Thread Cert.AdamSkipRefIdeal.nD Cert.AdamSkipRefIdeal.τ).loc Cert.AdamSkipRefIdeal.main_arg3))

def preserves_AdamCOut_AdamCOutIdeal : Prop :=
  True

def algebraic_AdamCOutIdeal_AdamCOutRefIdeal [hAdamCOutIdeal : Cert.AdamCOutIdeal.Facts] [hAdamCOutRefIdeal : Cert.AdamCOutRefIdeal.Facts] : Prop :=
  ∀ (m : (ℓ : Loc Cert.AdamCOutIdeal.nD Cert.AdamCOutIdeal.τ Cert.AdamCOutIdeal.sig) → Buf (Elt Ideal) ℓ) (g : Dev Cert.AdamCOutIdeal.nD → PrngReg)
    (m' : (ℓ : Loc Cert.AdamCOutRefIdeal.nD Cert.AdamCOutRefIdeal.τ Cert.AdamCOutRefIdeal.sig) → Buf (Elt Ideal) ℓ) (g' : Dev Cert.AdamCOutRefIdeal.nD → PrngReg), Pre_AdamCOutIdeal m →
    (∀ c : Dev Cert.AdamCOutIdeal.nD,
      m' ((c.tc : Thread Cert.AdamCOutRefIdeal.nD Cert.AdamCOutRefIdeal.τ).loc Cert.AdamCOutRefIdeal.main_arg0) = m ((c.tc : Thread Cert.AdamCOutIdeal.nD Cert.AdamCOutIdeal.τ).loc Cert.AdamCOutIdeal.main_arg0)
      ∧ m' ((c.tc : Thread Cert.AdamCOutRefIdeal.nD Cert.AdamCOutRefIdeal.τ).loc Cert.AdamCOutRefIdeal.main_arg1) = m ((c.tc : Thread Cert.AdamCOutIdeal.nD Cert.AdamCOutIdeal.τ).loc Cert.AdamCOutIdeal.main_arg1)
      ∧ m' ((c.tc : Thread Cert.AdamCOutRefIdeal.nD Cert.AdamCOutRefIdeal.τ).loc Cert.AdamCOutRefIdeal.main_arg2) = m ((c.tc : Thread Cert.AdamCOutIdeal.nD Cert.AdamCOutIdeal.τ).loc Cert.AdamCOutIdeal.main_arg2)
      ∧ m' ((c.tc : Thread Cert.AdamCOutRefIdeal.nD Cert.AdamCOutRefIdeal.τ).loc Cert.AdamCOutRefIdeal.main_arg3) = m ((c.tc : Thread Cert.AdamCOutIdeal.nD Cert.AdamCOutIdeal.τ).loc Cert.AdamCOutIdeal.main_arg3)) →
    ∃ (v0 : (c : Dev Cert.AdamCOutIdeal.nD) → Buf (Elt Ideal) ((c.tc : Thread Cert.AdamCOutIdeal.nD Cert.AdamCOutIdeal.τ).loc Cert.AdamCOutIdeal.main_v0_0)) (v1 : (c : Dev Cert.AdamCOutIdeal.nD) → Buf (Elt Ideal) ((c.tc : Thread Cert.AdamCOutIdeal.nD Cert.AdamCOutIdeal.τ).loc Cert.AdamCOutIdeal.main_v0_1)) (v2 : (c : Dev Cert.AdamCOutIdeal.nD) → Buf (Elt Ideal) ((c.tc : Thread Cert.AdamCOutIdeal.nD Cert.AdamCOutIdeal.τ).loc Cert.AdamCOutIdeal.main_v0_2)),
      θ_run (Cert.AdamCOutIdeal.defs (F := Ideal)) (onTc (τ := Cert.AdamCOutIdeal.τ) (Cert.AdamCOutIdeal.main (F := Ideal))) ⟨m, fun _ => 0, g⟩ (fun r => ∀ c : Dev Cert.AdamCOutIdeal.nD,
          r.2.mem ((c.tc : Thread Cert.AdamCOutIdeal.nD Cert.AdamCOutIdeal.τ).loc Cert.AdamCOutIdeal.main_v0_0) = v0 c
          ∧ r.2.mem ((c.tc : Thread Cert.AdamCOutIdeal.nD Cert.AdamCOutIdeal.τ).loc Cert.AdamCOutIdeal.main_v0_1) = v1 c
          ∧ r.2.mem ((c.tc : Thread Cert.AdamCOutIdeal.nD Cert.AdamCOutIdeal.τ).loc Cert.AdamCOutIdeal.main_v0_2) = v2 c
          ∧ r.2.mem ((c.tc : Thread Cert.AdamCOutIdeal.nD Cert.AdamCOutIdeal.τ).loc Cert.AdamCOutIdeal.main_arg0) = m ((c.tc : Thread Cert.AdamCOutIdeal.nD Cert.AdamCOutIdeal.τ).loc Cert.AdamCOutIdeal.main_arg0)
          ∧ r.2.mem ((c.tc : Thread Cert.AdamCOutIdeal.nD Cert.AdamCOutIdeal.τ).loc Cert.AdamCOutIdeal.main_arg1) = m ((c.tc : Thread Cert.AdamCOutIdeal.nD Cert.AdamCOutIdeal.τ).loc Cert.AdamCOutIdeal.main_arg1)
          ∧ r.2.mem ((c.tc : Thread Cert.AdamCOutIdeal.nD Cert.AdamCOutIdeal.τ).loc Cert.AdamCOutIdeal.main_arg2) = m ((c.tc : Thread Cert.AdamCOutIdeal.nD Cert.AdamCOutIdeal.τ).loc Cert.AdamCOutIdeal.main_arg2)
          ∧ r.2.mem ((c.tc : Thread Cert.AdamCOutIdeal.nD Cert.AdamCOutIdeal.τ).loc Cert.AdamCOutIdeal.main_arg3) = m ((c.tc : Thread Cert.AdamCOutIdeal.nD Cert.AdamCOutIdeal.τ).loc Cert.AdamCOutIdeal.main_arg3))
      ∧ θ_run (Cert.AdamCOutRefIdeal.defs (F := Ideal)) (onTc (τ := Cert.AdamCOutRefIdeal.τ) (Cert.AdamCOutRefIdeal.main (F := Ideal))) ⟨m', fun _ => 0, g'⟩ (fun r => ∀ c : Dev Cert.AdamCOutRefIdeal.nD,
          r.2.mem ((c.tc : Thread Cert.AdamCOutRefIdeal.nD Cert.AdamCOutRefIdeal.τ).loc Cert.AdamCOutRefIdeal.main_v23) = v0 c
          ∧ r.2.mem ((c.tc : Thread Cert.AdamCOutRefIdeal.nD Cert.AdamCOutRefIdeal.τ).loc Cert.AdamCOutRefIdeal.main_v4) = v1 c
          ∧ r.2.mem ((c.tc : Thread Cert.AdamCOutRefIdeal.nD Cert.AdamCOutRefIdeal.τ).loc Cert.AdamCOutRefIdeal.main_v10) = v2 c
          ∧ r.2.mem ((c.tc : Thread Cert.AdamCOutRefIdeal.nD Cert.AdamCOutRefIdeal.τ).loc Cert.AdamCOutRefIdeal.main_arg0) = m' ((c.tc : Thread Cert.AdamCOutRefIdeal.nD Cert.AdamCOutRefIdeal.τ).loc Cert.AdamCOutRefIdeal.main_arg0)
          ∧ r.2.mem ((c.tc : Thread Cert.AdamCOutRefIdeal.nD Cert.AdamCOutRefIdeal.τ).loc Cert.AdamCOutRefIdeal.main_arg1) = m' ((c.tc : Thread Cert.AdamCOutRefIdeal.nD Cert.AdamCOutRefIdeal.τ).loc Cert.AdamCOutRefIdeal.main_arg1)
          ∧ r.2.mem ((c.tc : Thread Cert.AdamCOutRefIdeal.nD Cert.AdamCOutRefIdeal.τ).loc Cert.AdamCOutRefIdeal.main_arg2) = m' ((c.tc : Thread Cert.AdamCOutRefIdeal.nD Cert.AdamCOutRefIdeal.τ).loc Cert.AdamCOutRefIdeal.main_arg2)
          ∧ r.2.mem ((c.tc : Thread Cert.AdamCOutRefIdeal.nD Cert.AdamCOutRefIdeal.τ).loc Cert.AdamCOutRefIdeal.main_arg3) = m' ((c.tc : Thread Cert.AdamCOutRefIdeal.nD Cert.AdamCOutRefIdeal.τ).loc Cert.AdamCOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamFConv_AdamFConvIdeal : Prop :=
  True

def algebraic_AdamFConvIdeal_AdamFConvRefIdeal [hAdamFConvIdeal : Cert.AdamFConvIdeal.Facts] [hAdamFConvRefIdeal : Cert.AdamFConvRefIdeal.Facts] : Prop :=
  ∀ (m : (ℓ : Loc Cert.AdamFConvIdeal.nD Cert.AdamFConvIdeal.τ Cert.AdamFConvIdeal.sig) → Buf (Elt Ideal) ℓ) (g : Dev Cert.AdamFConvIdeal.nD → PrngReg)
    (m' : (ℓ : Loc Cert.AdamFConvRefIdeal.nD Cert.AdamFConvRefIdeal.τ Cert.AdamFConvRefIdeal.sig) → Buf (Elt Ideal) ℓ) (g' : Dev Cert.AdamFConvRefIdeal.nD → PrngReg), Pre_AdamFConvIdeal m →
    (∀ c : Dev Cert.AdamFConvIdeal.nD,
      m' ((c.tc : Thread Cert.AdamFConvRefIdeal.nD Cert.AdamFConvRefIdeal.τ).loc Cert.AdamFConvRefIdeal.main_arg0) = m ((c.tc : Thread Cert.AdamFConvIdeal.nD Cert.AdamFConvIdeal.τ).loc Cert.AdamFConvIdeal.main_arg0)
      ∧ m' ((c.tc : Thread Cert.AdamFConvRefIdeal.nD Cert.AdamFConvRefIdeal.τ).loc Cert.AdamFConvRefIdeal.main_arg1) = m ((c.tc : Thread Cert.AdamFConvIdeal.nD Cert.AdamFConvIdeal.τ).loc Cert.AdamFConvIdeal.main_arg1)
      ∧ m' ((c.tc : Thread Cert.AdamFConvRefIdeal.nD Cert.AdamFConvRefIdeal.τ).loc Cert.AdamFConvRefIdeal.main_arg2) = m ((c.tc : Thread Cert.AdamFConvIdeal.nD Cert.AdamFConvIdeal.τ).loc Cert.AdamFConvIdeal.main_arg2)
      ∧ m' ((c.tc : Thread Cert.AdamFConvRefIdeal.nD Cert.AdamFConvRefIdeal.τ).loc Cert.AdamFConvRefIdeal.main_arg3) = m ((c.tc : Thread Cert.AdamFConvIdeal.nD Cert.AdamFConvIdeal.τ).loc Cert.AdamFConvIdeal.main_arg3)) →
    ∃ (v0 : (c : Dev Cert.AdamFConvIdeal.nD) → Buf (Elt Ideal) ((c.tc : Thread Cert.AdamFConvIdeal.nD Cert.AdamFConvIdeal.τ).loc Cert.AdamFConvIdeal.main_v0_0)) (v1 : (c : Dev Cert.AdamFConvIdeal.nD) → Buf (Elt Ideal) ((c.tc : Thread Cert.AdamFConvIdeal.nD Cert.AdamFConvIdeal.τ).loc Cert.AdamFConvIdeal.main_v0_1)) (v2 : (c : Dev Cert.AdamFConvIdeal.nD) → Buf (Elt Ideal) ((c.tc : Thread Cert.AdamFConvIdeal.nD Cert.AdamFConvIdeal.τ).loc Cert.AdamFConvIdeal.main_v0_2)),
      θ_run (Cert.AdamFConvIdeal.defs (F := Ideal)) (onTc (τ := Cert.AdamFConvIdeal.τ) (Cert.AdamFConvIdeal.main (F := Ideal))) ⟨m, fun _ => 0, g⟩ (fun r => ∀ c : Dev Cert.AdamFConvIdeal.nD,
          r.2.mem ((c.tc : Thread Cert.AdamFConvIdeal.nD Cert.AdamFConvIdeal.τ).loc Cert.AdamFConvIdeal.main_v0_0) = v0 c
          ∧ r.2.mem ((c.tc : Thread Cert.AdamFConvIdeal.nD Cert.AdamFConvIdeal.τ).loc Cert.AdamFConvIdeal.main_v0_1) = v1 c
          ∧ r.2.mem ((c.tc : Thread Cert.AdamFConvIdeal.nD Cert.AdamFConvIdeal.τ).loc Cert.AdamFConvIdeal.main_v0_2) = v2 c
          ∧ r.2.mem ((c.tc : Thread Cert.AdamFConvIdeal.nD Cert.AdamFConvIdeal.τ).loc Cert.AdamFConvIdeal.main_arg0) = m ((c.tc : Thread Cert.AdamFConvIdeal.nD Cert.AdamFConvIdeal.τ).loc Cert.AdamFConvIdeal.main_arg0)
          ∧ r.2.mem ((c.tc : Thread Cert.AdamFConvIdeal.nD Cert.AdamFConvIdeal.τ).loc Cert.AdamFConvIdeal.main_arg1) = m ((c.tc : Thread Cert.AdamFConvIdeal.nD Cert.AdamFConvIdeal.τ).loc Cert.AdamFConvIdeal.main_arg1)
          ∧ r.2.mem ((c.tc : Thread Cert.AdamFConvIdeal.nD Cert.AdamFConvIdeal.τ).loc Cert.AdamFConvIdeal.main_arg2) = m ((c.tc : Thread Cert.AdamFConvIdeal.nD Cert.AdamFConvIdeal.τ).loc Cert.AdamFConvIdeal.main_arg2)
          ∧ r.2.mem ((c.tc : Thread Cert.AdamFConvIdeal.nD Cert.AdamFConvIdeal.τ).loc Cert.AdamFConvIdeal.main_arg3) = m ((c.tc : Thread Cert.AdamFConvIdeal.nD Cert.AdamFConvIdeal.τ).loc Cert.AdamFConvIdeal.main_arg3))
      ∧ θ_run (Cert.AdamFConvRefIdeal.defs (F := Ideal)) (onTc (τ := Cert.AdamFConvRefIdeal.τ) (Cert.AdamFConvRefIdeal.main (F := Ideal))) ⟨m', fun _ => 0, g'⟩ (fun r => ∀ c : Dev Cert.AdamFConvRefIdeal.nD,
          r.2.mem ((c.tc : Thread Cert.AdamFConvRefIdeal.nD Cert.AdamFConvRefIdeal.τ).loc Cert.AdamFConvRefIdeal.main_v23) = v0 c
          ∧ r.2.mem ((c.tc : Thread Cert.AdamFConvRefIdeal.nD Cert.AdamFConvRefIdeal.τ).loc Cert.AdamFConvRefIdeal.main_v4) = v1 c
          ∧ r.2.mem ((c.tc : Thread Cert.AdamFConvRefIdeal.nD Cert.AdamFConvRefIdeal.τ).loc Cert.AdamFConvRefIdeal.main_v10) = v2 c
          ∧ r.2.mem ((c.tc : Thread Cert.AdamFConvRefIdeal.nD Cert.AdamFConvRefIdeal.τ).loc Cert.AdamFConvRefIdeal.main_arg0) = m' ((c.tc : Thread Cert.AdamFConvRefIdeal.nD Cert.AdamFConvRefIdeal.τ).loc Cert.AdamFConvRefIdeal.main_arg0)
          ∧ r.2.mem ((c.tc : Thread Cert.AdamFConvRefIdeal.nD Cert.AdamFConvRefIdeal.τ).loc Cert.AdamFConvRefIdeal.main_arg1) = m' ((c.tc : Thread Cert.AdamFConvRefIdeal.nD Cert.AdamFConvRefIdeal.τ).loc Cert.AdamFConvRefIdeal.main_arg1)
          ∧ r.2.mem ((c.tc : Thread Cert.AdamFConvRefIdeal.nD Cert.AdamFConvRefIdeal.τ).loc Cert.AdamFConvRefIdeal.main_arg2) = m' ((c.tc : Thread Cert.AdamFConvRefIdeal.nD Cert.AdamFConvRefIdeal.τ).loc Cert.AdamFConvRefIdeal.main_arg2)
          ∧ r.2.mem ((c.tc : Thread Cert.AdamFConvRefIdeal.nD Cert.AdamFConvRefIdeal.τ).loc Cert.AdamFConvRefIdeal.main_arg3) = m' ((c.tc : Thread Cert.AdamFConvRefIdeal.nD Cert.AdamFConvRefIdeal.τ).loc Cert.AdamFConvRefIdeal.main_arg3))

def preserves_AdamFBias_AdamFBiasIdeal : Prop :=
  True

def algebraic_AdamFBiasIdeal_AdamFBiasRefIdeal [hAdamFBiasIdeal : Cert.AdamFBiasIdeal.Facts] [hAdamFBiasRefIdeal : Cert.AdamFBiasRefIdeal.Facts] : Prop :=
  ∀ (m : (ℓ : Loc Cert.AdamFBiasIdeal.nD Cert.AdamFBiasIdeal.τ Cert.AdamFBiasIdeal.sig) → Buf (Elt Ideal) ℓ) (g : Dev Cert.AdamFBiasIdeal.nD → PrngReg)
    (m' : (ℓ : Loc Cert.AdamFBiasRefIdeal.nD Cert.AdamFBiasRefIdeal.τ Cert.AdamFBiasRefIdeal.sig) → Buf (Elt Ideal) ℓ) (g' : Dev Cert.AdamFBiasRefIdeal.nD → PrngReg), Pre_AdamFBiasIdeal m →
    (∀ c : Dev Cert.AdamFBiasIdeal.nD,
      m' ((c.tc : Thread Cert.AdamFBiasRefIdeal.nD Cert.AdamFBiasRefIdeal.τ).loc Cert.AdamFBiasRefIdeal.main_arg0) = m ((c.tc : Thread Cert.AdamFBiasIdeal.nD Cert.AdamFBiasIdeal.τ).loc Cert.AdamFBiasIdeal.main_arg0)
      ∧ m' ((c.tc : Thread Cert.AdamFBiasRefIdeal.nD Cert.AdamFBiasRefIdeal.τ).loc Cert.AdamFBiasRefIdeal.main_arg1) = m ((c.tc : Thread Cert.AdamFBiasIdeal.nD Cert.AdamFBiasIdeal.τ).loc Cert.AdamFBiasIdeal.main_arg1)
      ∧ m' ((c.tc : Thread Cert.AdamFBiasRefIdeal.nD Cert.AdamFBiasRefIdeal.τ).loc Cert.AdamFBiasRefIdeal.main_arg2) = m ((c.tc : Thread Cert.AdamFBiasIdeal.nD Cert.AdamFBiasIdeal.τ).loc Cert.AdamFBiasIdeal.main_arg2)
      ∧ m' ((c.tc : Thread Cert.AdamFBiasRefIdeal.nD Cert.AdamFBiasRefIdeal.τ).loc Cert.AdamFBiasRefIdeal.main_arg3) = m ((c.tc : Thread Cert.AdamFBiasIdeal.nD Cert.AdamFBiasIdeal.τ).loc Cert.AdamFBiasIdeal.main_arg3)) →
    ∃ (v0 : (c : Dev Cert.AdamFBiasIdeal.nD) → Buf (Elt Ideal) ((c.tc : Thread Cert.AdamFBiasIdeal.nD Cert.AdamFBiasIdeal.τ).loc Cert.AdamFBiasIdeal.main_v0_0)) (v1 : (c : Dev Cert.AdamFBiasIdeal.nD) → Buf (Elt Ideal) ((c.tc : Thread Cert.AdamFBiasIdeal.nD Cert.AdamFBiasIdeal.τ).loc Cert.AdamFBiasIdeal.main_v0_1)) (v2 : (c : Dev Cert.AdamFBiasIdeal.nD) → Buf (Elt Ideal) ((c.tc : Thread Cert.AdamFBiasIdeal.nD Cert.AdamFBiasIdeal.τ).loc Cert.AdamFBiasIdeal.main_v0_2)),
      θ_run (Cert.AdamFBiasIdeal.defs (F := Ideal)) (onTc (τ := Cert.AdamFBiasIdeal.τ) (Cert.AdamFBiasIdeal.main (F := Ideal))) ⟨m, fun _ => 0, g⟩ (fun r => ∀ c : Dev Cert.AdamFBiasIdeal.nD,
          r.2.mem ((c.tc : Thread Cert.AdamFBiasIdeal.nD Cert.AdamFBiasIdeal.τ).loc Cert.AdamFBiasIdeal.main_v0_0) = v0 c
          ∧ r.2.mem ((c.tc : Thread Cert.AdamFBiasIdeal.nD Cert.AdamFBiasIdeal.τ).loc Cert.AdamFBiasIdeal.main_v0_1) = v1 c
          ∧ r.2.mem ((c.tc : Thread Cert.AdamFBiasIdeal.nD Cert.AdamFBiasIdeal.τ).loc Cert.AdamFBiasIdeal.main_v0_2) = v2 c
          ∧ r.2.mem ((c.tc : Thread Cert.AdamFBiasIdeal.nD Cert.AdamFBiasIdeal.τ).loc Cert.AdamFBiasIdeal.main_arg0) = m ((c.tc : Thread Cert.AdamFBiasIdeal.nD Cert.AdamFBiasIdeal.τ).loc Cert.AdamFBiasIdeal.main_arg0)
          ∧ r.2.mem ((c.tc : Thread Cert.AdamFBiasIdeal.nD Cert.AdamFBiasIdeal.τ).loc Cert.AdamFBiasIdeal.main_arg1) = m ((c.tc : Thread Cert.AdamFBiasIdeal.nD Cert.AdamFBiasIdeal.τ).loc Cert.AdamFBiasIdeal.main_arg1)
          ∧ r.2.mem ((c.tc : Thread Cert.AdamFBiasIdeal.nD Cert.AdamFBiasIdeal.τ).loc Cert.AdamFBiasIdeal.main_arg2) = m ((c.tc : Thread Cert.AdamFBiasIdeal.nD Cert.AdamFBiasIdeal.τ).loc Cert.AdamFBiasIdeal.main_arg2)
          ∧ r.2.mem ((c.tc : Thread Cert.AdamFBiasIdeal.nD Cert.AdamFBiasIdeal.τ).loc Cert.AdamFBiasIdeal.main_arg3) = m ((c.tc : Thread Cert.AdamFBiasIdeal.nD Cert.AdamFBiasIdeal.τ).loc Cert.AdamFBiasIdeal.main_arg3))
      ∧ θ_run (Cert.AdamFBiasRefIdeal.defs (F := Ideal)) (onTc (τ := Cert.AdamFBiasRefIdeal.τ) (Cert.AdamFBiasRefIdeal.main (F := Ideal))) ⟨m', fun _ => 0, g'⟩ (fun r => ∀ c : Dev Cert.AdamFBiasRefIdeal.nD,
          r.2.mem ((c.tc : Thread Cert.AdamFBiasRefIdeal.nD Cert.AdamFBiasRefIdeal.τ).loc Cert.AdamFBiasRefIdeal.main_v23) = v0 c
          ∧ r.2.mem ((c.tc : Thread Cert.AdamFBiasRefIdeal.nD Cert.AdamFBiasRefIdeal.τ).loc Cert.AdamFBiasRefIdeal.main_v4) = v1 c
          ∧ r.2.mem ((c.tc : Thread Cert.AdamFBiasRefIdeal.nD Cert.AdamFBiasRefIdeal.τ).loc Cert.AdamFBiasRefIdeal.main_v10) = v2 c
          ∧ r.2.mem ((c.tc : Thread Cert.AdamFBiasRefIdeal.nD Cert.AdamFBiasRefIdeal.τ).loc Cert.AdamFBiasRefIdeal.main_arg0) = m' ((c.tc : Thread Cert.AdamFBiasRefIdeal.nD Cert.AdamFBiasRefIdeal.τ).loc Cert.AdamFBiasRefIdeal.main_arg0)
          ∧ r.2.mem ((c.tc : Thread Cert.AdamFBiasRefIdeal.nD Cert.AdamFBiasRefIdeal.τ).loc Cert.AdamFBiasRefIdeal.main_arg1) = m' ((c.tc : Thread Cert.AdamFBiasRefIdeal.nD Cert.AdamFBiasRefIdeal.τ).loc Cert.AdamFBiasRefIdeal.main_arg1)
          ∧ r.2.mem ((c.tc : Thread Cert.AdamFBiasRefIdeal.nD Cert.AdamFBiasRefIdeal.τ).loc Cert.AdamFBiasRefIdeal.main_arg2) = m' ((c.tc : Thread Cert.AdamFBiasRefIdeal.nD Cert.AdamFBiasRefIdeal.τ).loc Cert.AdamFBiasRefIdeal.main_arg2)
          ∧ r.2.mem ((c.tc : Thread Cert.AdamFBiasRefIdeal.nD Cert.AdamFBiasRefIdeal.τ).loc Cert.AdamFBiasRefIdeal.main_arg3) = m' ((c.tc : Thread Cert.AdamFBiasRefIdeal.nD Cert.AdamFBiasRefIdeal.τ).loc Cert.AdamFBiasRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)) →
    ∃ (v0 : (c : Dev Cert.StepIdeal.nD) → Buf (Elt Ideal) ((c.tc : Thread Cert.StepIdeal.nD Cert.StepIdeal.τ).loc Cert.StepIdeal.main_v0)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v2) = v0 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1))

def preserves_StepDa_StepDaIdeal : Prop :=
  True

def algebraic_StepDaIdeal_StepDaRefIdeal [hStepDaIdeal : Cert.StepDaIdeal.Facts] [hStepDaRefIdeal : Cert.StepDaRefIdeal.Facts] : Prop :=
  ∀ (m : (ℓ : Loc Cert.StepDaIdeal.nD Cert.StepDaIdeal.τ Cert.StepDaIdeal.sig) → Buf (Elt Ideal) ℓ) (g : Dev Cert.StepDaIdeal.nD → PrngReg)
    (m' : (ℓ : Loc Cert.StepDaRefIdeal.nD Cert.StepDaRefIdeal.τ Cert.StepDaRefIdeal.sig) → Buf (Elt Ideal) ℓ) (g' : Dev Cert.StepDaRefIdeal.nD → PrngReg), Pre_StepDaIdeal m →
    (∀ c : Dev Cert.StepDaIdeal.nD,
      m' ((c.tc : Thread Cert.StepDaRefIdeal.nD Cert.StepDaRefIdeal.τ).loc Cert.StepDaRefIdeal.main_arg0) = m ((c.tc : Thread Cert.StepDaIdeal.nD Cert.StepDaIdeal.τ).loc Cert.StepDaIdeal.main_arg0)
      ∧ m' ((c.tc : Thread Cert.StepDaRefIdeal.nD Cert.StepDaRefIdeal.τ).loc Cert.StepDaRefIdeal.main_arg1) = m ((c.tc : Thread Cert.StepDaIdeal.nD Cert.StepDaIdeal.τ).loc Cert.StepDaIdeal.main_arg1)) →
    ∃ (v0 : (c : Dev Cert.StepDaIdeal.nD) → Buf (Elt Ideal) ((c.tc : Thread Cert.StepDaIdeal.nD Cert.StepDaIdeal.τ).loc Cert.StepDaIdeal.main_v0)),
      θ_run (Cert.StepDaIdeal.defs (F := Ideal)) (onTc (τ := Cert.StepDaIdeal.τ) (Cert.StepDaIdeal.main (F := Ideal))) ⟨m, fun _ => 0, g⟩ (fun r => ∀ c : Dev Cert.StepDaIdeal.nD,
          r.2.mem ((c.tc : Thread Cert.StepDaIdeal.nD Cert.StepDaIdeal.τ).loc Cert.StepDaIdeal.main_v0) = v0 c
          ∧ r.2.mem ((c.tc : Thread Cert.StepDaIdeal.nD Cert.StepDaIdeal.τ).loc Cert.StepDaIdeal.main_arg0) = m ((c.tc : Thread Cert.StepDaIdeal.nD Cert.StepDaIdeal.τ).loc Cert.StepDaIdeal.main_arg0)
          ∧ r.2.mem ((c.tc : Thread Cert.StepDaIdeal.nD Cert.StepDaIdeal.τ).loc Cert.StepDaIdeal.main_arg1) = m ((c.tc : Thread Cert.StepDaIdeal.nD Cert.StepDaIdeal.τ).loc Cert.StepDaIdeal.main_arg1))
      ∧ θ_run (Cert.StepDaRefIdeal.defs (F := Ideal)) (onTc (τ := Cert.StepDaRefIdeal.τ) (Cert.StepDaRefIdeal.main (F := Ideal))) ⟨m', fun _ => 0, g'⟩ (fun r => ∀ c : Dev Cert.StepDaRefIdeal.nD,
          r.2.mem ((c.tc : Thread Cert.StepDaRefIdeal.nD Cert.StepDaRefIdeal.τ).loc Cert.StepDaRefIdeal.main_v3) = v0 c
          ∧ r.2.mem ((c.tc : Thread Cert.StepDaRefIdeal.nD Cert.StepDaRefIdeal.τ).loc Cert.StepDaRefIdeal.main_arg0) = m' ((c.tc : Thread Cert.StepDaRefIdeal.nD Cert.StepDaRefIdeal.τ).loc Cert.StepDaRefIdeal.main_arg0)
          ∧ r.2.mem ((c.tc : Thread Cert.StepDaRefIdeal.nD Cert.StepDaRefIdeal.τ).loc Cert.StepDaRefIdeal.main_arg1) = m' ((c.tc : Thread Cert.StepDaRefIdeal.nD Cert.StepDaRefIdeal.τ).loc Cert.StepDaRefIdeal.main_arg1))

def preserves_StepDw_StepDwIdeal : Prop :=
  True

def algebraic_StepDwIdeal_StepDwRefIdeal [hStepDwIdeal : Cert.StepDwIdeal.Facts] [hStepDwRefIdeal : Cert.StepDwRefIdeal.Facts] : Prop :=
  ∀ (m : (ℓ : Loc Cert.StepDwIdeal.nD Cert.StepDwIdeal.τ Cert.StepDwIdeal.sig) → Buf (Elt Ideal) ℓ) (g : Dev Cert.StepDwIdeal.nD → PrngReg)
    (m' : (ℓ : Loc Cert.StepDwRefIdeal.nD Cert.StepDwRefIdeal.τ Cert.StepDwRefIdeal.sig) → Buf (Elt Ideal) ℓ) (g' : Dev Cert.StepDwRefIdeal.nD → PrngReg), Pre_StepDwIdeal m →
    (∀ c : Dev Cert.StepDwIdeal.nD,
      m' ((c.tc : Thread Cert.StepDwRefIdeal.nD Cert.StepDwRefIdeal.τ).loc Cert.StepDwRefIdeal.main_arg0) = m ((c.tc : Thread Cert.StepDwIdeal.nD Cert.StepDwIdeal.τ).loc Cert.StepDwIdeal.main_arg0)
      ∧ m' ((c.tc : Thread Cert.StepDwRefIdeal.nD Cert.StepDwRefIdeal.τ).loc Cert.StepDwRefIdeal.main_arg1) = m ((c.tc : Thread Cert.StepDwIdeal.nD Cert.StepDwIdeal.τ).loc Cert.StepDwIdeal.main_arg1)) →
    ∃ (v0 : (c : Dev Cert.StepDwIdeal.nD) → Buf (Elt Ideal) ((c.tc : Thread Cert.StepDwIdeal.nD Cert.StepDwIdeal.τ).loc Cert.StepDwIdeal.main_v0)),
      θ_run (Cert.StepDwIdeal.defs (F := Ideal)) (onTc (τ := Cert.StepDwIdeal.τ) (Cert.StepDwIdeal.main (F := Ideal))) ⟨m, fun _ => 0, g⟩ (fun r => ∀ c : Dev Cert.StepDwIdeal.nD,
          r.2.mem ((c.tc : Thread Cert.StepDwIdeal.nD Cert.StepDwIdeal.τ).loc Cert.StepDwIdeal.main_v0) = v0 c
          ∧ r.2.mem ((c.tc : Thread Cert.StepDwIdeal.nD Cert.StepDwIdeal.τ).loc Cert.StepDwIdeal.main_arg0) = m ((c.tc : Thread Cert.StepDwIdeal.nD Cert.StepDwIdeal.τ).loc Cert.StepDwIdeal.main_arg0)
          ∧ r.2.mem ((c.tc : Thread Cert.StepDwIdeal.nD Cert.StepDwIdeal.τ).loc Cert.StepDwIdeal.main_arg1) = m ((c.tc : Thread Cert.StepDwIdeal.nD Cert.StepDwIdeal.τ).loc Cert.StepDwIdeal.main_arg1))
      ∧ θ_run (Cert.StepDwRefIdeal.defs (F := Ideal)) (onTc (τ := Cert.StepDwRefIdeal.τ) (Cert.StepDwRefIdeal.main (F := Ideal))) ⟨m', fun _ => 0, g'⟩ (fun r => ∀ c : Dev Cert.StepDwRefIdeal.nD,
          r.2.mem ((c.tc : Thread Cert.StepDwRefIdeal.nD Cert.StepDwRefIdeal.τ).loc Cert.StepDwRefIdeal.main_v4) = v0 c
          ∧ r.2.mem ((c.tc : Thread Cert.StepDwRefIdeal.nD Cert.StepDwRefIdeal.τ).loc Cert.StepDwRefIdeal.main_arg0) = m' ((c.tc : Thread Cert.StepDwRefIdeal.nD Cert.StepDwRefIdeal.τ).loc Cert.StepDwRefIdeal.main_arg0)
          ∧ r.2.mem ((c.tc : Thread Cert.StepDwRefIdeal.nD Cert.StepDwRefIdeal.τ).loc Cert.StepDwRefIdeal.main_arg1) = m' ((c.tc : Thread Cert.StepDwRefIdeal.nD Cert.StepDwRefIdeal.τ).loc Cert.StepDwRefIdeal.main_arg1))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)) →
    ∃ (v0 : (c : Dev Cert.PairIdeal.nD) → Buf (Elt Ideal) ((c.tc : Thread Cert.PairIdeal.nD Cert.PairIdeal.τ).loc Cert.PairIdeal.main_v2)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v2) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v3) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v6) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_LossDy_LossDyIdeal : Prop :=
  True

def algebraic_LossDyIdeal_LossDyRefIdeal [hLossDyIdeal : Cert.LossDyIdeal.Facts] [hLossDyRefIdeal : Cert.LossDyRefIdeal.Facts] : Prop :=
  ∀ (m : (ℓ : Loc Cert.LossDyIdeal.nD Cert.LossDyIdeal.τ Cert.LossDyIdeal.sig) → Buf (Elt Ideal) ℓ) (g : Dev Cert.LossDyIdeal.nD → PrngReg)
    (m' : (ℓ : Loc Cert.LossDyRefIdeal.nD Cert.LossDyRefIdeal.τ Cert.LossDyRefIdeal.sig) → Buf (Elt Ideal) ℓ) (g' : Dev Cert.LossDyRefIdeal.nD → PrngReg), Pre_LossDyIdeal m →
    (∀ c : Dev Cert.LossDyIdeal.nD,
      m' ((c.tc : Thread Cert.LossDyRefIdeal.nD Cert.LossDyRefIdeal.τ).loc Cert.LossDyRefIdeal.main_arg0) = m ((c.tc : Thread Cert.LossDyIdeal.nD Cert.LossDyIdeal.τ).loc Cert.LossDyIdeal.main_arg0)
      ∧ m' ((c.tc : Thread Cert.LossDyRefIdeal.nD Cert.LossDyRefIdeal.τ).loc Cert.LossDyRefIdeal.main_arg1) = m ((c.tc : Thread Cert.LossDyIdeal.nD Cert.LossDyIdeal.τ).loc Cert.LossDyIdeal.main_arg1)
      ∧ m' ((c.tc : Thread Cert.LossDyRefIdeal.nD Cert.LossDyRefIdeal.τ).loc Cert.LossDyRefIdeal.main_arg2) = m ((c.tc : Thread Cert.LossDyIdeal.nD Cert.LossDyIdeal.τ).loc Cert.LossDyIdeal.main_arg2)) →
    ∃ (v0 : (c : Dev Cert.LossDyIdeal.nD) → Buf (Elt Ideal) ((c.tc : Thread Cert.LossDyIdeal.nD Cert.LossDyIdeal.τ).loc Cert.LossDyIdeal.main_v1)),
      θ_run (Cert.LossDyIdeal.defs (F := Ideal)) (onTc (τ := Cert.LossDyIdeal.τ) (Cert.LossDyIdeal.main (F := Ideal))) ⟨m, fun _ => 0, g⟩ (fun r => ∀ c : Dev Cert.LossDyIdeal.nD,
          r.2.mem ((c.tc : Thread Cert.LossDyIdeal.nD Cert.LossDyIdeal.τ).loc Cert.LossDyIdeal.main_v1) = v0 c
          ∧ r.2.mem ((c.tc : Thread Cert.LossDyIdeal.nD Cert.LossDyIdeal.τ).loc Cert.LossDyIdeal.main_arg0) = m ((c.tc : Thread Cert.LossDyIdeal.nD Cert.LossDyIdeal.τ).loc Cert.LossDyIdeal.main_arg0)
          ∧ r.2.mem ((c.tc : Thread Cert.LossDyIdeal.nD Cert.LossDyIdeal.τ).loc Cert.LossDyIdeal.main_arg1) = m ((c.tc : Thread Cert.LossDyIdeal.nD Cert.LossDyIdeal.τ).loc Cert.LossDyIdeal.main_arg1)
          ∧ r.2.mem ((c.tc : Thread Cert.LossDyIdeal.nD Cert.LossDyIdeal.τ).loc Cert.LossDyIdeal.main_arg2) = m ((c.tc : Thread Cert.LossDyIdeal.nD Cert.LossDyIdeal.τ).loc Cert.LossDyIdeal.main_arg2))
      ∧ θ_run (Cert.LossDyRefIdeal.defs (F := Ideal)) (onTc (τ := Cert.LossDyRefIdeal.τ) (Cert.LossDyRefIdeal.main (F := Ideal))) ⟨m', fun _ => 0, g'⟩ (fun r => ∀ c : Dev Cert.LossDyRefIdeal.nD,
          r.2.mem ((c.tc : Thread Cert.LossDyRefIdeal.nD Cert.LossDyRefIdeal.τ).loc Cert.LossDyRefIdeal.main_v14) = v0 c
          ∧ r.2.mem ((c.tc : Thread Cert.LossDyRefIdeal.nD Cert.LossDyRefIdeal.τ).loc Cert.LossDyRefIdeal.main_arg0) = m' ((c.tc : Thread Cert.LossDyRefIdeal.nD Cert.LossDyRefIdeal.τ).loc Cert.LossDyRefIdeal.main_arg0)
          ∧ r.2.mem ((c.tc : Thread Cert.LossDyRefIdeal.nD Cert.LossDyRefIdeal.τ).loc Cert.LossDyRefIdeal.main_arg1) = m' ((c.tc : Thread Cert.LossDyRefIdeal.nD Cert.LossDyRefIdeal.τ).loc Cert.LossDyRefIdeal.main_arg1)
          ∧ r.2.mem ((c.tc : Thread Cert.LossDyRefIdeal.nD Cert.LossDyRefIdeal.τ).loc Cert.LossDyRefIdeal.main_arg2) = m' ((c.tc : Thread Cert.LossDyRefIdeal.nD Cert.LossDyRefIdeal.τ).loc Cert.LossDyRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v1) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v13) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2))

def preserves_Joined_JoinedIdeal : Prop :=
  True

def algebraic_JoinedIdeal_JoinedRefIdeal [hJoinedIdeal : Cert.JoinedIdeal.Facts] [hJoinedRefIdeal : Cert.JoinedRefIdeal.Facts] : Prop :=
  ∀ (m : (ℓ : Loc Cert.JoinedIdeal.nD Cert.JoinedIdeal.τ Cert.JoinedIdeal.sig) → Buf (Elt Ideal) ℓ) (g : Dev Cert.JoinedIdeal.nD → PrngReg)
    (m' : (ℓ : Loc Cert.JoinedRefIdeal.nD Cert.JoinedRefIdeal.τ Cert.JoinedRefIdeal.sig) → Buf (Elt Ideal) ℓ) (g' : Dev Cert.JoinedRefIdeal.nD → PrngReg), Pre_JoinedIdeal m →
    (∀ c : Dev Cert.JoinedIdeal.nD,
      m' ((c.tc : Thread Cert.JoinedRefIdeal.nD Cert.JoinedRefIdeal.τ).loc Cert.JoinedRefIdeal.main_arg0) = m ((c.tc : Thread Cert.JoinedIdeal.nD Cert.JoinedIdeal.τ).loc Cert.JoinedIdeal.main_arg0)
      ∧ m' ((c.tc : Thread Cert.JoinedRefIdeal.nD Cert.JoinedRefIdeal.τ).loc Cert.JoinedRefIdeal.main_arg1) = m ((c.tc : Thread Cert.JoinedIdeal.nD Cert.JoinedIdeal.τ).loc Cert.JoinedIdeal.main_arg1)
      ∧ m' ((c.tc : Thread Cert.JoinedRefIdeal.nD Cert.JoinedRefIdeal.τ).loc Cert.JoinedRefIdeal.main_arg2) = m ((c.tc : Thread Cert.JoinedIdeal.nD Cert.JoinedIdeal.τ).loc Cert.JoinedIdeal.main_arg2)
      ∧ m' ((c.tc : Thread Cert.JoinedRefIdeal.nD Cert.JoinedRefIdeal.τ).loc Cert.JoinedRefIdeal.main_arg3) = m ((c.tc : Thread Cert.JoinedIdeal.nD Cert.JoinedIdeal.τ).loc Cert.JoinedIdeal.main_arg3)) →
    ∃ (v0 : (c : Dev Cert.JoinedIdeal.nD) → Buf (Elt Ideal) ((c.tc : Thread Cert.JoinedIdeal.nD Cert.JoinedIdeal.τ).loc Cert.JoinedIdeal.main_v2_0)) (v1 : (c : Dev Cert.JoinedIdeal.nD) → Buf (Elt Ideal) ((c.tc : Thread Cert.JoinedIdeal.nD Cert.JoinedIdeal.τ).loc Cert.JoinedIdeal.main_v2_1)),
      θ_run (Cert.JoinedIdeal.defs (F := Ideal)) (onTc (τ := Cert.JoinedIdeal.τ) (Cert.JoinedIdeal.main (F := Ideal))) ⟨m, fun _ => 0, g⟩ (fun r => ∀ c : Dev Cert.JoinedIdeal.nD,
          r.2.mem ((c.tc : Thread Cert.JoinedIdeal.nD Cert.JoinedIdeal.τ).loc Cert.JoinedIdeal.main_v2_0) = v0 c
          ∧ r.2.mem ((c.tc : Thread Cert.JoinedIdeal.nD Cert.JoinedIdeal.τ).loc Cert.JoinedIdeal.main_v2_1) = v1 c
          ∧ r.2.mem ((c.tc : Thread Cert.JoinedIdeal.nD Cert.JoinedIdeal.τ).loc Cert.JoinedIdeal.main_arg0) = m ((c.tc : Thread Cert.JoinedIdeal.nD Cert.JoinedIdeal.τ).loc Cert.JoinedIdeal.main_arg0)
          ∧ r.2.mem ((c.tc : Thread Cert.JoinedIdeal.nD Cert.JoinedIdeal.τ).loc Cert.JoinedIdeal.main_arg1) = m ((c.tc : Thread Cert.JoinedIdeal.nD Cert.JoinedIdeal.τ).loc Cert.JoinedIdeal.main_arg1)
          ∧ r.2.mem ((c.tc : Thread Cert.JoinedIdeal.nD Cert.JoinedIdeal.τ).loc Cert.JoinedIdeal.main_arg2) = m ((c.tc : Thread Cert.JoinedIdeal.nD Cert.JoinedIdeal.τ).loc Cert.JoinedIdeal.main_arg2)
          ∧ r.2.mem ((c.tc : Thread Cert.JoinedIdeal.nD Cert.JoinedIdeal.τ).loc Cert.JoinedIdeal.main_arg3) = m ((c.tc : Thread Cert.JoinedIdeal.nD Cert.JoinedIdeal.τ).loc Cert.JoinedIdeal.main_arg3))
      ∧ θ_run (Cert.JoinedRefIdeal.defs (F := Ideal)) (onTc (τ := Cert.JoinedRefIdeal.τ) (Cert.JoinedRefIdeal.main (F := Ideal))) ⟨m', fun _ => 0, g'⟩ (fun r => ∀ c : Dev Cert.JoinedRefIdeal.nD,
          r.2.mem ((c.tc : Thread Cert.JoinedRefIdeal.nD Cert.JoinedRefIdeal.τ).loc Cert.JoinedRefIdeal.main_v13) = v0 c
          ∧ r.2.mem ((c.tc : Thread Cert.JoinedRefIdeal.nD Cert.JoinedRefIdeal.τ).loc Cert.JoinedRefIdeal.main_v27) = v1 c
          ∧ r.2.mem ((c.tc : Thread Cert.JoinedRefIdeal.nD Cert.JoinedRefIdeal.τ).loc Cert.JoinedRefIdeal.main_arg0) = m' ((c.tc : Thread Cert.JoinedRefIdeal.nD Cert.JoinedRefIdeal.τ).loc Cert.JoinedRefIdeal.main_arg0)
          ∧ r.2.mem ((c.tc : Thread Cert.JoinedRefIdeal.nD Cert.JoinedRefIdeal.τ).loc Cert.JoinedRefIdeal.main_arg1) = m' ((c.tc : Thread Cert.JoinedRefIdeal.nD Cert.JoinedRefIdeal.τ).loc Cert.JoinedRefIdeal.main_arg1)
          ∧ r.2.mem ((c.tc : Thread Cert.JoinedRefIdeal.nD Cert.JoinedRefIdeal.τ).loc Cert.JoinedRefIdeal.main_arg2) = m' ((c.tc : Thread Cert.JoinedRefIdeal.nD Cert.JoinedRefIdeal.τ).loc Cert.JoinedRefIdeal.main_arg2)
          ∧ r.2.mem ((c.tc : Thread Cert.JoinedRefIdeal.nD Cert.JoinedRefIdeal.τ).loc Cert.JoinedRefIdeal.main_arg3) = m' ((c.tc : Thread Cert.JoinedRefIdeal.nD Cert.JoinedRefIdeal.τ).loc Cert.JoinedRefIdeal.main_arg3))

def preserves_RmsDx_RmsDxIdeal : Prop :=
  True

def algebraic_RmsDxIdeal_RmsDxRefIdeal [hRmsDxIdeal : Cert.RmsDxIdeal.Facts] [hRmsDxRefIdeal : Cert.RmsDxRefIdeal.Facts] : Prop :=
  ∀ (m : (ℓ : Loc Cert.RmsDxIdeal.nD Cert.RmsDxIdeal.τ Cert.RmsDxIdeal.sig) → Buf (Elt Ideal) ℓ) (g : Dev Cert.RmsDxIdeal.nD → PrngReg)
    (m' : (ℓ : Loc Cert.RmsDxRefIdeal.nD Cert.RmsDxRefIdeal.τ Cert.RmsDxRefIdeal.sig) → Buf (Elt Ideal) ℓ) (g' : Dev Cert.RmsDxRefIdeal.nD → PrngReg), Pre_RmsDxIdeal m →
    (∀ c : Dev Cert.RmsDxIdeal.nD,
      m' ((c.tc : Thread Cert.RmsDxRefIdeal.nD Cert.RmsDxRefIdeal.τ).loc Cert.RmsDxRefIdeal.main_arg0) = m ((c.tc : Thread Cert.RmsDxIdeal.nD Cert.RmsDxIdeal.τ).loc Cert.RmsDxIdeal.main_arg0)
      ∧ m' ((c.tc : Thread Cert.RmsDxRefIdeal.nD Cert.RmsDxRefIdeal.τ).loc Cert.RmsDxRefIdeal.main_arg1) = m ((c.tc : Thread Cert.RmsDxIdeal.nD Cert.RmsDxIdeal.τ).loc Cert.RmsDxIdeal.main_arg1)
      ∧ m' ((c.tc : Thread Cert.RmsDxRefIdeal.nD Cert.RmsDxRefIdeal.τ).loc Cert.RmsDxRefIdeal.main_arg2) = m ((c.tc : Thread Cert.RmsDxIdeal.nD Cert.RmsDxIdeal.τ).loc Cert.RmsDxIdeal.main_arg2)) →
    ∃ (v0 : (c : Dev Cert.RmsDxIdeal.nD) → Buf (Elt Ideal) ((c.tc : Thread Cert.RmsDxIdeal.nD Cert.RmsDxIdeal.τ).loc Cert.RmsDxIdeal.main_v1_0)) (v1 : (c : Dev Cert.RmsDxIdeal.nD) → Buf (Elt Ideal) ((c.tc : Thread Cert.RmsDxIdeal.nD Cert.RmsDxIdeal.τ).loc Cert.RmsDxIdeal.main_v1_1)),
      θ_run (Cert.RmsDxIdeal.defs (F := Ideal)) (onTc (τ := Cert.RmsDxIdeal.τ) (Cert.RmsDxIdeal.main (F := Ideal))) ⟨m, fun _ => 0, g⟩ (fun r => ∀ c : Dev Cert.RmsDxIdeal.nD,
          r.2.mem ((c.tc : Thread Cert.RmsDxIdeal.nD Cert.RmsDxIdeal.τ).loc Cert.RmsDxIdeal.main_v1_0) = v0 c
          ∧ r.2.mem ((c.tc : Thread Cert.RmsDxIdeal.nD Cert.RmsDxIdeal.τ).loc Cert.RmsDxIdeal.main_v1_1) = v1 c
          ∧ r.2.mem ((c.tc : Thread Cert.RmsDxIdeal.nD Cert.RmsDxIdeal.τ).loc Cert.RmsDxIdeal.main_arg0) = m ((c.tc : Thread Cert.RmsDxIdeal.nD Cert.RmsDxIdeal.τ).loc Cert.RmsDxIdeal.main_arg0)
          ∧ r.2.mem ((c.tc : Thread Cert.RmsDxIdeal.nD Cert.RmsDxIdeal.τ).loc Cert.RmsDxIdeal.main_arg1) = m ((c.tc : Thread Cert.RmsDxIdeal.nD Cert.RmsDxIdeal.τ).loc Cert.RmsDxIdeal.main_arg1)
          ∧ r.2.mem ((c.tc : Thread Cert.RmsDxIdeal.nD Cert.RmsDxIdeal.τ).loc Cert.RmsDxIdeal.main_arg2) = m ((c.tc : Thread Cert.RmsDxIdeal.nD Cert.RmsDxIdeal.τ).loc Cert.RmsDxIdeal.main_arg2))
      ∧ θ_run (Cert.RmsDxRefIdeal.defs (F := Ideal)) (onTc (τ := Cert.RmsDxRefIdeal.τ) (Cert.RmsDxRefIdeal.main (F := Ideal))) ⟨m', fun _ => 0, g'⟩ (fun r => ∀ c : Dev Cert.RmsDxRefIdeal.nD,
          r.2.mem ((c.tc : Thread Cert.RmsDxRefIdeal.nD Cert.RmsDxRefIdeal.τ).loc Cert.RmsDxRefIdeal.main_v36) = v0 c
          ∧ r.2.mem ((c.tc : Thread Cert.RmsDxRefIdeal.nD Cert.RmsDxRefIdeal.τ).loc Cert.RmsDxRefIdeal.main_v37) = v1 c
          ∧ r.2.mem ((c.tc : Thread Cert.RmsDxRefIdeal.nD Cert.RmsDxRefIdeal.τ).loc Cert.RmsDxRefIdeal.main_arg0) = m' ((c.tc : Thread Cert.RmsDxRefIdeal.nD Cert.RmsDxRefIdeal.τ).loc Cert.RmsDxRefIdeal.main_arg0)
          ∧ r.2.mem ((c.tc : Thread Cert.RmsDxRefIdeal.nD Cert.RmsDxRefIdeal.τ).loc Cert.RmsDxRefIdeal.main_arg1) = m' ((c.tc : Thread Cert.RmsDxRefIdeal.nD Cert.RmsDxRefIdeal.τ).loc Cert.RmsDxRefIdeal.main_arg1)
          ∧ r.2.mem ((c.tc : Thread Cert.RmsDxRefIdeal.nD Cert.RmsDxRefIdeal.τ).loc Cert.RmsDxRefIdeal.main_arg2) = m' ((c.tc : Thread Cert.RmsDxRefIdeal.nD Cert.RmsDxRefIdeal.τ).loc Cert.RmsDxRefIdeal.main_arg2))

def preserves_ResidualDx_ResidualDxIdeal : Prop :=
  True

def algebraic_ResidualDxIdeal_ResidualDxRefIdeal [hResidualDxIdeal : Cert.ResidualDxIdeal.Facts] [hResidualDxRefIdeal : Cert.ResidualDxRefIdeal.Facts] : Prop :=
  ∀ (m : (ℓ : Loc Cert.ResidualDxIdeal.nD Cert.ResidualDxIdeal.τ Cert.ResidualDxIdeal.sig) → Buf (Elt Ideal) ℓ) (g : Dev Cert.ResidualDxIdeal.nD → PrngReg)
    (m' : (ℓ : Loc Cert.ResidualDxRefIdeal.nD Cert.ResidualDxRefIdeal.τ Cert.ResidualDxRefIdeal.sig) → Buf (Elt Ideal) ℓ) (g' : Dev Cert.ResidualDxRefIdeal.nD → PrngReg), Pre_ResidualDxIdeal m →
    (∀ c : Dev Cert.ResidualDxIdeal.nD,
      m' ((c.tc : Thread Cert.ResidualDxRefIdeal.nD Cert.ResidualDxRefIdeal.τ).loc Cert.ResidualDxRefIdeal.main_arg0) = m ((c.tc : Thread Cert.ResidualDxIdeal.nD Cert.ResidualDxIdeal.τ).loc Cert.ResidualDxIdeal.main_arg0)
      ∧ m' ((c.tc : Thread Cert.ResidualDxRefIdeal.nD Cert.ResidualDxRefIdeal.τ).loc Cert.ResidualDxRefIdeal.main_arg1) = m ((c.tc : Thread Cert.ResidualDxIdeal.nD Cert.ResidualDxIdeal.τ).loc Cert.ResidualDxIdeal.main_arg1)
      ∧ m' ((c.tc : Thread Cert.ResidualDxRefIdeal.nD Cert.ResidualDxRefIdeal.τ).loc Cert.ResidualDxRefIdeal.main_arg2) = m ((c.tc : Thread Cert.ResidualDxIdeal.nD Cert.ResidualDxIdeal.τ).loc Cert.ResidualDxIdeal.main_arg2)
      ∧ m' ((c.tc : Thread Cert.ResidualDxRefIdeal.nD Cert.ResidualDxRefIdeal.τ).loc Cert.ResidualDxRefIdeal.main_arg3) = m ((c.tc : Thread Cert.ResidualDxIdeal.nD Cert.ResidualDxIdeal.τ).loc Cert.ResidualDxIdeal.main_arg3)) →
    ∃ (v0 : (c : Dev Cert.ResidualDxIdeal.nD) → Buf (Elt Ideal) ((c.tc : Thread Cert.ResidualDxIdeal.nD Cert.ResidualDxIdeal.τ).loc Cert.ResidualDxIdeal.main_v1_0)) (v1 : (c : Dev Cert.ResidualDxIdeal.nD) → Buf (Elt Ideal) ((c.tc : Thread Cert.ResidualDxIdeal.nD Cert.ResidualDxIdeal.τ).loc Cert.ResidualDxIdeal.main_v1_1)) (v2 : (c : Dev Cert.ResidualDxIdeal.nD) → Buf (Elt Ideal) ((c.tc : Thread Cert.ResidualDxIdeal.nD Cert.ResidualDxIdeal.τ).loc Cert.ResidualDxIdeal.main_v1_2)),
      θ_run (Cert.ResidualDxIdeal.defs (F := Ideal)) (onTc (τ := Cert.ResidualDxIdeal.τ) (Cert.ResidualDxIdeal.main (F := Ideal))) ⟨m, fun _ => 0, g⟩ (fun r => ∀ c : Dev Cert.ResidualDxIdeal.nD,
          r.2.mem ((c.tc : Thread Cert.ResidualDxIdeal.nD Cert.ResidualDxIdeal.τ).loc Cert.ResidualDxIdeal.main_v1_0) = v0 c
          ∧ r.2.mem ((c.tc : Thread Cert.ResidualDxIdeal.nD Cert.ResidualDxIdeal.τ).loc Cert.ResidualDxIdeal.main_v1_1) = v1 c
          ∧ r.2.mem ((c.tc : Thread Cert.ResidualDxIdeal.nD Cert.ResidualDxIdeal.τ).loc Cert.ResidualDxIdeal.main_v1_2) = v2 c
          ∧ r.2.mem ((c.tc : Thread Cert.ResidualDxIdeal.nD Cert.ResidualDxIdeal.τ).loc Cert.ResidualDxIdeal.main_arg0) = m ((c.tc : Thread Cert.ResidualDxIdeal.nD Cert.ResidualDxIdeal.τ).loc Cert.ResidualDxIdeal.main_arg0)
          ∧ r.2.mem ((c.tc : Thread Cert.ResidualDxIdeal.nD Cert.ResidualDxIdeal.τ).loc Cert.ResidualDxIdeal.main_arg1) = m ((c.tc : Thread Cert.ResidualDxIdeal.nD Cert.ResidualDxIdeal.τ).loc Cert.ResidualDxIdeal.main_arg1)
          ∧ r.2.mem ((c.tc : Thread Cert.ResidualDxIdeal.nD Cert.ResidualDxIdeal.τ).loc Cert.ResidualDxIdeal.main_arg2) = m ((c.tc : Thread Cert.ResidualDxIdeal.nD Cert.ResidualDxIdeal.τ).loc Cert.ResidualDxIdeal.main_arg2)
          ∧ r.2.mem ((c.tc : Thread Cert.ResidualDxIdeal.nD Cert.ResidualDxIdeal.τ).loc Cert.ResidualDxIdeal.main_arg3) = m ((c.tc : Thread Cert.ResidualDxIdeal.nD Cert.ResidualDxIdeal.τ).loc Cert.ResidualDxIdeal.main_arg3))
      ∧ θ_run (Cert.ResidualDxRefIdeal.defs (F := Ideal)) (onTc (τ := Cert.ResidualDxRefIdeal.τ) (Cert.ResidualDxRefIdeal.main (F := Ideal))) ⟨m', fun _ => 0, g'⟩ (fun r => ∀ c : Dev Cert.ResidualDxRefIdeal.nD,
          r.2.mem ((c.tc : Thread Cert.ResidualDxRefIdeal.nD Cert.ResidualDxRefIdeal.τ).loc Cert.ResidualDxRefIdeal.main_v37) = v0 c
          ∧ r.2.mem ((c.tc : Thread Cert.ResidualDxRefIdeal.nD Cert.ResidualDxRefIdeal.τ).loc Cert.ResidualDxRefIdeal.main_arg3) = v1 c
          ∧ r.2.mem ((c.tc : Thread Cert.ResidualDxRefIdeal.nD Cert.ResidualDxRefIdeal.τ).loc Cert.ResidualDxRefIdeal.main_v38) = v2 c
          ∧ r.2.mem ((c.tc : Thread Cert.ResidualDxRefIdeal.nD Cert.ResidualDxRefIdeal.τ).loc Cert.ResidualDxRefIdeal.main_arg0) = m' ((c.tc : Thread Cert.ResidualDxRefIdeal.nD Cert.ResidualDxRefIdeal.τ).loc Cert.ResidualDxRefIdeal.main_arg0)
          ∧ r.2.mem ((c.tc : Thread Cert.ResidualDxRefIdeal.nD Cert.ResidualDxRefIdeal.τ).loc Cert.ResidualDxRefIdeal.main_arg1) = m' ((c.tc : Thread Cert.ResidualDxRefIdeal.nD Cert.ResidualDxRefIdeal.τ).loc Cert.ResidualDxRefIdeal.main_arg1)
          ∧ r.2.mem ((c.tc : Thread Cert.ResidualDxRefIdeal.nD Cert.ResidualDxRefIdeal.τ).loc Cert.ResidualDxRefIdeal.main_arg2) = m' ((c.tc : Thread Cert.ResidualDxRefIdeal.nD Cert.ResidualDxRefIdeal.τ).loc Cert.ResidualDxRefIdeal.main_arg2)
          ∧ r.2.mem ((c.tc : Thread Cert.ResidualDxRefIdeal.nD Cert.ResidualDxRefIdeal.τ).loc Cert.ResidualDxRefIdeal.main_arg3) = m' ((c.tc : Thread Cert.ResidualDxRefIdeal.nD Cert.ResidualDxRefIdeal.τ).loc Cert.ResidualDxRefIdeal.main_arg3))

def preserves_JoinedDx_JoinedDxIdeal : Prop :=
  True

def algebraic_JoinedDxIdeal_JoinedDxRefIdeal [hJoinedDxIdeal : Cert.JoinedDxIdeal.Facts] [hJoinedDxRefIdeal : Cert.JoinedDxRefIdeal.Facts] : Prop :=
  ∀ (m : (ℓ : Loc Cert.JoinedDxIdeal.nD Cert.JoinedDxIdeal.τ Cert.JoinedDxIdeal.sig) → Buf (Elt Ideal) ℓ) (g : Dev Cert.JoinedDxIdeal.nD → PrngReg)
    (m' : (ℓ : Loc Cert.JoinedDxRefIdeal.nD Cert.JoinedDxRefIdeal.τ Cert.JoinedDxRefIdeal.sig) → Buf (Elt Ideal) ℓ) (g' : Dev Cert.JoinedDxRefIdeal.nD → PrngReg), Pre_JoinedDxIdeal m →
    (∀ c : Dev Cert.JoinedDxIdeal.nD,
      m' ((c.tc : Thread Cert.JoinedDxRefIdeal.nD Cert.JoinedDxRefIdeal.τ).loc Cert.JoinedDxRefIdeal.main_arg0) = m ((c.tc : Thread Cert.JoinedDxIdeal.nD Cert.JoinedDxIdeal.τ).loc Cert.JoinedDxIdeal.main_arg0)
      ∧ m' ((c.tc : Thread Cert.JoinedDxRefIdeal.nD Cert.JoinedDxRefIdeal.τ).loc Cert.JoinedDxRefIdeal.main_arg1) = m ((c.tc : Thread Cert.JoinedDxIdeal.nD Cert.JoinedDxIdeal.τ).loc Cert.JoinedDxIdeal.main_arg1)
      ∧ m' ((c.tc : Thread Cert.JoinedDxRefIdeal.nD Cert.JoinedDxRefIdeal.τ).loc Cert.JoinedDxRefIdeal.main_arg2) = m ((c.tc : Thread Cert.JoinedDxIdeal.nD Cert.JoinedDxIdeal.τ).loc Cert.JoinedDxIdeal.main_arg2)
      ∧ m' ((c.tc : Thread Cert.JoinedDxRefIdeal.nD Cert.JoinedDxRefIdeal.τ).loc Cert.JoinedDxRefIdeal.main_arg3) = m ((c.tc : Thread Cert.JoinedDxIdeal.nD Cert.JoinedDxIdeal.τ).loc Cert.JoinedDxIdeal.main_arg3)
      ∧ m' ((c.tc : Thread Cert.JoinedDxRefIdeal.nD Cert.JoinedDxRefIdeal.τ).loc Cert.JoinedDxRefIdeal.main_arg4) = m ((c.tc : Thread Cert.JoinedDxIdeal.nD Cert.JoinedDxIdeal.τ).loc Cert.JoinedDxIdeal.main_arg4)
      ∧ m' ((c.tc : Thread Cert.JoinedDxRefIdeal.nD Cert.JoinedDxRefIdeal.τ).loc Cert.JoinedDxRefIdeal.main_arg5) = m ((c.tc : Thread Cert.JoinedDxIdeal.nD Cert.JoinedDxIdeal.τ).loc Cert.JoinedDxIdeal.main_arg5)) →
    ∃ (v0 : (c : Dev Cert.JoinedDxIdeal.nD) → Buf (Elt Ideal) ((c.tc : Thread Cert.JoinedDxIdeal.nD Cert.JoinedDxIdeal.τ).loc Cert.JoinedDxIdeal.main_v2_0)) (v1 : (c : Dev Cert.JoinedDxIdeal.nD) → Buf (Elt Ideal) ((c.tc : Thread Cert.JoinedDxIdeal.nD Cert.JoinedDxIdeal.τ).loc Cert.JoinedDxIdeal.main_v2_1)) (v2 : (c : Dev Cert.JoinedDxIdeal.nD) → Buf (Elt Ideal) ((c.tc : Thread Cert.JoinedDxIdeal.nD Cert.JoinedDxIdeal.τ).loc Cert.JoinedDxIdeal.main_v2_2)) (v3 : (c : Dev Cert.JoinedDxIdeal.nD) → Buf (Elt Ideal) ((c.tc : Thread Cert.JoinedDxIdeal.nD Cert.JoinedDxIdeal.τ).loc Cert.JoinedDxIdeal.main_v2_3)),
      θ_run (Cert.JoinedDxIdeal.defs (F := Ideal)) (onTc (τ := Cert.JoinedDxIdeal.τ) (Cert.JoinedDxIdeal.main (F := Ideal))) ⟨m, fun _ => 0, g⟩ (fun r => ∀ c : Dev Cert.JoinedDxIdeal.nD,
          r.2.mem ((c.tc : Thread Cert.JoinedDxIdeal.nD Cert.JoinedDxIdeal.τ).loc Cert.JoinedDxIdeal.main_v2_0) = v0 c
          ∧ r.2.mem ((c.tc : Thread Cert.JoinedDxIdeal.nD Cert.JoinedDxIdeal.τ).loc Cert.JoinedDxIdeal.main_v2_1) = v1 c
          ∧ r.2.mem ((c.tc : Thread Cert.JoinedDxIdeal.nD Cert.JoinedDxIdeal.τ).loc Cert.JoinedDxIdeal.main_v2_2) = v2 c
          ∧ r.2.mem ((c.tc : Thread Cert.JoinedDxIdeal.nD Cert.JoinedDxIdeal.τ).loc Cert.JoinedDxIdeal.main_v2_3) = v3 c
          ∧ r.2.mem ((c.tc : Thread Cert.JoinedDxIdeal.nD Cert.JoinedDxIdeal.τ).loc Cert.JoinedDxIdeal.main_arg0) = m ((c.tc : Thread Cert.JoinedDxIdeal.nD Cert.JoinedDxIdeal.τ).loc Cert.JoinedDxIdeal.main_arg0)
          ∧ r.2.mem ((c.tc : Thread Cert.JoinedDxIdeal.nD Cert.JoinedDxIdeal.τ).loc Cert.JoinedDxIdeal.main_arg1) = m ((c.tc : Thread Cert.JoinedDxIdeal.nD Cert.JoinedDxIdeal.τ).loc Cert.JoinedDxIdeal.main_arg1)
          ∧ r.2.mem ((c.tc : Thread Cert.JoinedDxIdeal.nD Cert.JoinedDxIdeal.τ).loc Cert.JoinedDxIdeal.main_arg2) = m ((c.tc : Thread Cert.JoinedDxIdeal.nD Cert.JoinedDxIdeal.τ).loc Cert.JoinedDxIdeal.main_arg2)
          ∧ r.2.mem ((c.tc : Thread Cert.JoinedDxIdeal.nD Cert.JoinedDxIdeal.τ).loc Cert.JoinedDxIdeal.main_arg3) = m ((c.tc : Thread Cert.JoinedDxIdeal.nD Cert.JoinedDxIdeal.τ).loc Cert.JoinedDxIdeal.main_arg3)
          ∧ r.2.mem ((c.tc : Thread Cert.JoinedDxIdeal.nD Cert.JoinedDxIdeal.τ).loc Cert.JoinedDxIdeal.main_arg4) = m ((c.tc : Thread Cert.JoinedDxIdeal.nD Cert.JoinedDxIdeal.τ).loc Cert.JoinedDxIdeal.main_arg4)
          ∧ r.2.mem ((c.tc : Thread Cert.JoinedDxIdeal.nD Cert.JoinedDxIdeal.τ).loc Cert.JoinedDxIdeal.main_arg5) = m ((c.tc : Thread Cert.JoinedDxIdeal.nD Cert.JoinedDxIdeal.τ).loc Cert.JoinedDxIdeal.main_arg5))
      ∧ θ_run (Cert.JoinedDxRefIdeal.defs (F := Ideal)) (onTc (τ := Cert.JoinedDxRefIdeal.τ) (Cert.JoinedDxRefIdeal.main (F := Ideal))) ⟨m', fun _ => 0, g'⟩ (fun r => ∀ c : Dev Cert.JoinedDxRefIdeal.nD,
          r.2.mem ((c.tc : Thread Cert.JoinedDxRefIdeal.nD Cert.JoinedDxRefIdeal.τ).loc Cert.JoinedDxRefIdeal.main_v76) = v0 c
          ∧ r.2.mem ((c.tc : Thread Cert.JoinedDxRefIdeal.nD Cert.JoinedDxRefIdeal.τ).loc Cert.JoinedDxRefIdeal.main_v55) = v1 c
          ∧ r.2.mem ((c.tc : Thread Cert.JoinedDxRefIdeal.nD Cert.JoinedDxRefIdeal.τ).loc Cert.JoinedDxRefIdeal.main_v77) = v2 c
          ∧ r.2.mem ((c.tc : Thread Cert.JoinedDxRefIdeal.nD Cert.JoinedDxRefIdeal.τ).loc Cert.JoinedDxRefIdeal.main_v78) = v3 c
          ∧ r.2.mem ((c.tc : Thread Cert.JoinedDxRefIdeal.nD Cert.JoinedDxRefIdeal.τ).loc Cert.JoinedDxRefIdeal.main_arg0) = m' ((c.tc : Thread Cert.JoinedDxRefIdeal.nD Cert.JoinedDxRefIdeal.τ).loc Cert.JoinedDxRefIdeal.main_arg0)
          ∧ r.2.mem ((c.tc : Thread Cert.JoinedDxRefIdeal.nD Cert.JoinedDxRefIdeal.τ).loc Cert.JoinedDxRefIdeal.main_arg1) = m' ((c.tc : Thread Cert.JoinedDxRefIdeal.nD Cert.JoinedDxRefIdeal.τ).loc Cert.JoinedDxRefIdeal.main_arg1)
          ∧ r.2.mem ((c.tc : Thread Cert.JoinedDxRefIdeal.nD Cert.JoinedDxRefIdeal.τ).loc Cert.JoinedDxRefIdeal.main_arg2) = m' ((c.tc : Thread Cert.JoinedDxRefIdeal.nD Cert.JoinedDxRefIdeal.τ).loc Cert.JoinedDxRefIdeal.main_arg2)
          ∧ r.2.mem ((c.tc : Thread Cert.JoinedDxRefIdeal.nD Cert.JoinedDxRefIdeal.τ).loc Cert.JoinedDxRefIdeal.main_arg3) = m' ((c.tc : Thread Cert.JoinedDxRefIdeal.nD Cert.JoinedDxRefIdeal.τ).loc Cert.JoinedDxRefIdeal.main_arg3)
          ∧ r.2.mem ((c.tc : Thread Cert.JoinedDxRefIdeal.nD Cert.JoinedDxRefIdeal.τ).loc Cert.JoinedDxRefIdeal.main_arg4) = m' ((c.tc : Thread Cert.JoinedDxRefIdeal.nD Cert.JoinedDxRefIdeal.τ).loc Cert.JoinedDxRefIdeal.main_arg4)
          ∧ r.2.mem ((c.tc : Thread Cert.JoinedDxRefIdeal.nD Cert.JoinedDxRefIdeal.τ).loc Cert.JoinedDxRefIdeal.main_arg5) = m' ((c.tc : Thread Cert.JoinedDxRefIdeal.nD Cert.JoinedDxRefIdeal.τ).loc Cert.JoinedDxRefIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDa : Cert.DownDa.Facts) (hDownDaIdeal : Cert.DownDaIdeal.Facts) (hDownDaRefIdeal : Cert.DownDaRefIdeal.Facts) (hDownDw : Cert.DownDw.Facts) (hDownDwIdeal : Cert.DownDwIdeal.Facts) (hDownDwRefIdeal : Cert.DownDwRefIdeal.Facts) (hUpDa : Cert.UpDa.Facts) (hUpDaIdeal : Cert.UpDaIdeal.Facts) (hUpDaRefIdeal : Cert.UpDaRefIdeal.Facts) (hUpDw : Cert.UpDw.Facts) (hUpDwIdeal : Cert.UpDwIdeal.Facts) (hUpDwRefIdeal : Cert.UpDwRefIdeal.Facts) (hInner : Cert.Inner.Facts) (hInnerIdeal : Cert.InnerIdeal.Facts) (hInnerRefIdeal : Cert.InnerRefIdeal.Facts) (hOuter : Cert.Outer.Facts) (hOuterIdeal : Cert.OuterIdeal.Facts) (hOuterRefIdeal : Cert.OuterRefIdeal.Facts) (hOuterDa : Cert.OuterDa.Facts) (hOuterDaIdeal : Cert.OuterDaIdeal.Facts) (hOuterDaRefIdeal : Cert.OuterDaRefIdeal.Facts) (hOuterDw : Cert.OuterDw.Facts) (hOuterDwIdeal : Cert.OuterDwIdeal.Facts) (hOuterDwRefIdeal : Cert.OuterDwRefIdeal.Facts) (hInnerDa : Cert.InnerDa.Facts) (hInnerDaIdeal : Cert.InnerDaIdeal.Facts) (hInnerDaRefIdeal : Cert.InnerDaRefIdeal.Facts) (hInnerDw : Cert.InnerDw.Facts) (hInnerDwIdeal : Cert.InnerDwIdeal.Facts) (hInnerDwRefIdeal : Cert.InnerDwRefIdeal.Facts) (hGateDa : Cert.GateDa.Facts) (hGateDaIdeal : Cert.GateDaIdeal.Facts) (hGateDaRefIdeal : Cert.GateDaRefIdeal.Facts) (hGateDw : Cert.GateDw.Facts) (hGateDwIdeal : Cert.GateDwIdeal.Facts) (hGateDwRefIdeal : Cert.GateDwRefIdeal.Facts) (hState : Cert.State.Facts) (hStateIdeal : Cert.StateIdeal.Facts) (hStateRefIdeal : Cert.StateRefIdeal.Facts) (hStateDa : Cert.StateDa.Facts) (hStateDaIdeal : Cert.StateDaIdeal.Facts) (hStateDaRefIdeal : Cert.StateDaRefIdeal.Facts) (hStateDw : Cert.StateDw.Facts) (hStateDwIdeal : Cert.StateDwIdeal.Facts) (hStateDwRefIdeal : Cert.StateDwRefIdeal.Facts) (hHeadDa : Cert.HeadDa.Facts) (hHeadDaIdeal : Cert.HeadDaIdeal.Facts) (hHeadDaRefIdeal : Cert.HeadDaRefIdeal.Facts) (hHeadDw : Cert.HeadDw.Facts) (hHeadDwIdeal : Cert.HeadDwIdeal.Facts) (hHeadDwRefIdeal : Cert.HeadDwRefIdeal.Facts) (hNear : Cert.Near.Facts) (hNearIdeal : Cert.NearIdeal.Facts) (hNearRefIdeal : Cert.NearRefIdeal.Facts) (hMixDa : Cert.MixDa.Facts) (hMixDaIdeal : Cert.MixDaIdeal.Facts) (hMixDaRefIdeal : Cert.MixDaRefIdeal.Facts) (hMixDw : Cert.MixDw.Facts) (hMixDwIdeal : Cert.MixDwIdeal.Facts) (hMixDwRefIdeal : Cert.MixDwRefIdeal.Facts) (hAdamNorm : Cert.AdamNorm.Facts) (hAdamNormIdeal : Cert.AdamNormIdeal.Facts) (hAdamNormRefIdeal : Cert.AdamNormRefIdeal.Facts) (hAdamAbIn : Cert.AdamAbIn.Facts) (hAdamAbInIdeal : Cert.AdamAbInIdeal.Facts) (hAdamAbInRefIdeal : Cert.AdamAbInRefIdeal.Facts) (hAdamDecay : Cert.AdamDecay.Facts) (hAdamDecayIdeal : Cert.AdamDecayIdeal.Facts) (hAdamDecayRefIdeal : Cert.AdamDecayRefIdeal.Facts) (hAdamGain : Cert.AdamGain.Facts) (hAdamGainIdeal : Cert.AdamGainIdeal.Facts) (hAdamGainRefIdeal : Cert.AdamGainRefIdeal.Facts) (hAdamRpb : Cert.AdamRpb.Facts) (hAdamRpbIdeal : Cert.AdamRpbIdeal.Facts) (hAdamRpbRefIdeal : Cert.AdamRpbRefIdeal.Facts) (hAdamAbOut : Cert.AdamAbOut.Facts) (hAdamAbOutIdeal : Cert.AdamAbOutIdeal.Facts) (hAdamAbOutRefIdeal : Cert.AdamAbOutRefIdeal.Facts) (hAdamCIn : Cert.AdamCIn.Facts) (hAdamCInIdeal : Cert.AdamCInIdeal.Facts) (hAdamCInRefIdeal : Cert.AdamCInRefIdeal.Facts) (hAdamCConv : Cert.AdamCConv.Facts) (hAdamCConvIdeal : Cert.AdamCConvIdeal.Facts) (hAdamCConvRefIdeal : Cert.AdamCConvRefIdeal.Facts) (hAdamCBias : Cert.AdamCBias.Facts) (hAdamCBiasIdeal : Cert.AdamCBiasIdeal.Facts) (hAdamCBiasRefIdeal : Cert.AdamCBiasRefIdeal.Facts) (hAdamDt : Cert.AdamDt.Facts) (hAdamDtIdeal : Cert.AdamDtIdeal.Facts) (hAdamDtRefIdeal : Cert.AdamDtRefIdeal.Facts) (hAdamSkip : Cert.AdamSkip.Facts) (hAdamSkipIdeal : Cert.AdamSkipIdeal.Facts) (hAdamSkipRefIdeal : Cert.AdamSkipRefIdeal.Facts) (hAdamCOut : Cert.AdamCOut.Facts) (hAdamCOutIdeal : Cert.AdamCOutIdeal.Facts) (hAdamCOutRefIdeal : Cert.AdamCOutRefIdeal.Facts) (hAdamUp : Cert.AdamUp.Facts) (hAdamUpIdeal : Cert.AdamUpIdeal.Facts) (hAdamUpRefIdeal : Cert.AdamUpRefIdeal.Facts) (hAdamFConv : Cert.AdamFConv.Facts) (hAdamFConvIdeal : Cert.AdamFConvIdeal.Facts) (hAdamFConvRefIdeal : Cert.AdamFConvRefIdeal.Facts) (hAdamFBias : Cert.AdamFBias.Facts) (hAdamFBiasIdeal : Cert.AdamFBiasIdeal.Facts) (hAdamFBiasRefIdeal : Cert.AdamFBiasRefIdeal.Facts) (hAdamDown : Cert.AdamDown.Facts) (hAdamDownIdeal : Cert.AdamDownIdeal.Facts) (hAdamDownRefIdeal : Cert.AdamDownRefIdeal.Facts) (hStep : Cert.Step.Facts) (hStepIdeal : Cert.StepIdeal.Facts) (hStepRefIdeal : Cert.StepRefIdeal.Facts) (hStepDa : Cert.StepDa.Facts) (hStepDaIdeal : Cert.StepDaIdeal.Facts) (hStepDaRefIdeal : Cert.StepDaRefIdeal.Facts) (hStepDw : Cert.StepDw.Facts) (hStepDwIdeal : Cert.StepDwIdeal.Facts) (hStepDwRefIdeal : Cert.StepDwRefIdeal.Facts) (hPair : Cert.Pair.Facts) (hPairIdeal : Cert.PairIdeal.Facts) (hPairRefIdeal : Cert.PairRefIdeal.Facts) (hLoss : Cert.Loss.Facts) (hLossIdeal : Cert.LossIdeal.Facts) (hLossRefIdeal : Cert.LossRefIdeal.Facts) (hLossDy : Cert.LossDy.Facts) (hLossDyIdeal : Cert.LossDyIdeal.Facts) (hLossDyRefIdeal : Cert.LossDyRefIdeal.Facts) (hRms : Cert.Rms.Facts) (hRmsIdeal : Cert.RmsIdeal.Facts) (hRmsRefIdeal : Cert.RmsRefIdeal.Facts) (hResidual : Cert.Residual.Facts) (hResidualIdeal : Cert.ResidualIdeal.Facts) (hResidualRefIdeal : Cert.ResidualRefIdeal.Facts) (hJoined : Cert.Joined.Facts) (hJoinedIdeal : Cert.JoinedIdeal.Facts) (hJoinedRefIdeal : Cert.JoinedRefIdeal.Facts) (hRmsDx : Cert.RmsDx.Facts) (hRmsDxIdeal : Cert.RmsDxIdeal.Facts) (hRmsDxRefIdeal : Cert.RmsDxRefIdeal.Facts) (hResidualDx : Cert.ResidualDx.Facts) (hResidualDxIdeal : Cert.ResidualDxIdeal.Facts) (hResidualDxRefIdeal : Cert.ResidualDxRefIdeal.Facts) (hJoinedDx : Cert.JoinedDx.Facts) (hJoinedDxIdeal : Cert.JoinedDxIdeal.Facts) (hJoinedDxRefIdeal : Cert.JoinedDxRefIdeal.Facts) (hPre_finite_value_side : Cert.Pre_finite_value_side.Facts),
    quiescent_Kernel (hKernel := hKernel)
    ∧ quiescent_KernelIdeal (hKernelIdeal := hKernelIdeal)
    ∧ quiescent_KernelIdeal_pre_finite_value_side (hKernelIdeal := hKernelIdeal) (hPre_finite_value_side := hPre_finite_value_side)
    ∧ quiescent_ReferenceIdeal (hReferenceIdeal := hReferenceIdeal)
    ∧ quiescent_ReferenceIdeal_pre_finite_value_side (hReferenceIdeal := hReferenceIdeal) (hPre_finite_value_side := hPre_finite_value_side)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDa (hUpDa := hUpDa)
    ∧ quiescent_UpDaIdeal (hUpDaIdeal := hUpDaIdeal)
    ∧ quiescent_UpDaRefIdeal (hUpDaRefIdeal := hUpDaRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Inner (hInner := hInner)
    ∧ quiescent_InnerIdeal (hInnerIdeal := hInnerIdeal)
    ∧ quiescent_InnerRefIdeal (hInnerRefIdeal := hInnerRefIdeal)
    ∧ quiescent_Outer (hOuter := hOuter)
    ∧ quiescent_OuterIdeal (hOuterIdeal := hOuterIdeal)
    ∧ quiescent_OuterRefIdeal (hOuterRefIdeal := hOuterRefIdeal)
    ∧ quiescent_OuterDa (hOuterDa := hOuterDa)
    ∧ quiescent_OuterDaIdeal (hOuterDaIdeal := hOuterDaIdeal)
    ∧ quiescent_OuterDaRefIdeal (hOuterDaRefIdeal := hOuterDaRefIdeal)
    ∧ quiescent_OuterDw (hOuterDw := hOuterDw)
    ∧ quiescent_OuterDwIdeal (hOuterDwIdeal := hOuterDwIdeal)
    ∧ quiescent_OuterDwRefIdeal (hOuterDwRefIdeal := hOuterDwRefIdeal)
    ∧ quiescent_InnerDa (hInnerDa := hInnerDa)
    ∧ quiescent_InnerDaIdeal (hInnerDaIdeal := hInnerDaIdeal)
    ∧ quiescent_InnerDaRefIdeal (hInnerDaRefIdeal := hInnerDaRefIdeal)
    ∧ quiescent_InnerDw (hInnerDw := hInnerDw)
    ∧ quiescent_InnerDwIdeal (hInnerDwIdeal := hInnerDwIdeal)
    ∧ quiescent_InnerDwRefIdeal (hInnerDwRefIdeal := hInnerDwRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_State (hState := hState)
    ∧ quiescent_StateIdeal (hStateIdeal := hStateIdeal)
    ∧ quiescent_StateRefIdeal (hStateRefIdeal := hStateRefIdeal)
    ∧ quiescent_StateDa (hStateDa := hStateDa)
    ∧ quiescent_StateDaIdeal (hStateDaIdeal := hStateDaIdeal)
    ∧ quiescent_StateDaRefIdeal (hStateDaRefIdeal := hStateDaRefIdeal)
    ∧ quiescent_StateDw (hStateDw := hStateDw)
    ∧ quiescent_StateDwIdeal (hStateDwIdeal := hStateDwIdeal)
    ∧ quiescent_StateDwRefIdeal (hStateDwRefIdeal := hStateDwRefIdeal)
    ∧ quiescent_HeadDa (hHeadDa := hHeadDa)
    ∧ quiescent_HeadDaIdeal (hHeadDaIdeal := hHeadDaIdeal)
    ∧ quiescent_HeadDaRefIdeal (hHeadDaRefIdeal := hHeadDaRefIdeal)
    ∧ quiescent_HeadDw (hHeadDw := hHeadDw)
    ∧ quiescent_HeadDwIdeal (hHeadDwIdeal := hHeadDwIdeal)
    ∧ quiescent_HeadDwRefIdeal (hHeadDwRefIdeal := hHeadDwRefIdeal)
    ∧ quiescent_Near (hNear := hNear)
    ∧ quiescent_NearIdeal (hNearIdeal := hNearIdeal)
    ∧ quiescent_NearRefIdeal (hNearRefIdeal := hNearRefIdeal)
    ∧ quiescent_MixDa (hMixDa := hMixDa)
    ∧ quiescent_MixDaIdeal (hMixDaIdeal := hMixDaIdeal)
    ∧ quiescent_MixDaRefIdeal (hMixDaRefIdeal := hMixDaRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamAbIn (hAdamAbIn := hAdamAbIn)
    ∧ quiescent_AdamAbInIdeal (hAdamAbInIdeal := hAdamAbInIdeal)
    ∧ quiescent_AdamAbInRefIdeal (hAdamAbInRefIdeal := hAdamAbInRefIdeal)
    ∧ quiescent_AdamDecay (hAdamDecay := hAdamDecay)
    ∧ quiescent_AdamDecayIdeal (hAdamDecayIdeal := hAdamDecayIdeal)
    ∧ quiescent_AdamDecayRefIdeal (hAdamDecayRefIdeal := hAdamDecayRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamRpb (hAdamRpb := hAdamRpb)
    ∧ quiescent_AdamRpbIdeal (hAdamRpbIdeal := hAdamRpbIdeal)
    ∧ quiescent_AdamRpbRefIdeal (hAdamRpbRefIdeal := hAdamRpbRefIdeal)
    ∧ quiescent_AdamAbOut (hAdamAbOut := hAdamAbOut)
    ∧ quiescent_AdamAbOutIdeal (hAdamAbOutIdeal := hAdamAbOutIdeal)
    ∧ quiescent_AdamAbOutRefIdeal (hAdamAbOutRefIdeal := hAdamAbOutRefIdeal)
    ∧ quiescent_AdamCIn (hAdamCIn := hAdamCIn)
    ∧ quiescent_AdamCInIdeal (hAdamCInIdeal := hAdamCInIdeal)
    ∧ quiescent_AdamCInRefIdeal (hAdamCInRefIdeal := hAdamCInRefIdeal)
    ∧ quiescent_AdamCConv (hAdamCConv := hAdamCConv)
    ∧ quiescent_AdamCConvIdeal (hAdamCConvIdeal := hAdamCConvIdeal)
    ∧ quiescent_AdamCConvRefIdeal (hAdamCConvRefIdeal := hAdamCConvRefIdeal)
    ∧ quiescent_AdamCBias (hAdamCBias := hAdamCBias)
    ∧ quiescent_AdamCBiasIdeal (hAdamCBiasIdeal := hAdamCBiasIdeal)
    ∧ quiescent_AdamCBiasRefIdeal (hAdamCBiasRefIdeal := hAdamCBiasRefIdeal)
    ∧ quiescent_AdamDt (hAdamDt := hAdamDt)
    ∧ quiescent_AdamDtIdeal (hAdamDtIdeal := hAdamDtIdeal)
    ∧ quiescent_AdamDtRefIdeal (hAdamDtRefIdeal := hAdamDtRefIdeal)
    ∧ quiescent_AdamSkip (hAdamSkip := hAdamSkip)
    ∧ quiescent_AdamSkipIdeal (hAdamSkipIdeal := hAdamSkipIdeal)
    ∧ quiescent_AdamSkipRefIdeal (hAdamSkipRefIdeal := hAdamSkipRefIdeal)
    ∧ quiescent_AdamCOut (hAdamCOut := hAdamCOut)
    ∧ quiescent_AdamCOutIdeal (hAdamCOutIdeal := hAdamCOutIdeal)
    ∧ quiescent_AdamCOutRefIdeal (hAdamCOutRefIdeal := hAdamCOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamFConv (hAdamFConv := hAdamFConv)
    ∧ quiescent_AdamFConvIdeal (hAdamFConvIdeal := hAdamFConvIdeal)
    ∧ quiescent_AdamFConvRefIdeal (hAdamFConvRefIdeal := hAdamFConvRefIdeal)
    ∧ quiescent_AdamFBias (hAdamFBias := hAdamFBias)
    ∧ quiescent_AdamFBiasIdeal (hAdamFBiasIdeal := hAdamFBiasIdeal)
    ∧ quiescent_AdamFBiasRefIdeal (hAdamFBiasRefIdeal := hAdamFBiasRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Step (hStep := hStep)
    ∧ quiescent_StepIdeal (hStepIdeal := hStepIdeal)
    ∧ quiescent_StepRefIdeal (hStepRefIdeal := hStepRefIdeal)
    ∧ quiescent_StepDa (hStepDa := hStepDa)
    ∧ quiescent_StepDaIdeal (hStepDaIdeal := hStepDaIdeal)
    ∧ quiescent_StepDaRefIdeal (hStepDaRefIdeal := hStepDaRefIdeal)
    ∧ quiescent_StepDw (hStepDw := hStepDw)
    ∧ quiescent_StepDwIdeal (hStepDwIdeal := hStepDwIdeal)
    ∧ quiescent_StepDwRefIdeal (hStepDwRefIdeal := hStepDwRefIdeal)
    ∧ quiescent_Pair (hPair := hPair)
    ∧ quiescent_PairIdeal (hPairIdeal := hPairIdeal)
    ∧ quiescent_PairRefIdeal (hPairRefIdeal := hPairRefIdeal)
    ∧ quiescent_Loss (hLoss := hLoss)
    ∧ quiescent_LossIdeal (hLossIdeal := hLossIdeal)
    ∧ quiescent_LossRefIdeal (hLossRefIdeal := hLossRefIdeal)
    ∧ quiescent_LossDy (hLossDy := hLossDy)
    ∧ quiescent_LossDyIdeal (hLossDyIdeal := hLossDyIdeal)
    ∧ quiescent_LossDyRefIdeal (hLossDyRefIdeal := hLossDyRefIdeal)
    ∧ quiescent_Rms (hRms := hRms)
    ∧ quiescent_RmsIdeal (hRmsIdeal := hRmsIdeal)
    ∧ quiescent_RmsRefIdeal (hRmsRefIdeal := hRmsRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_Joined (hJoined := hJoined)
    ∧ quiescent_JoinedIdeal (hJoinedIdeal := hJoinedIdeal)
    ∧ quiescent_JoinedRefIdeal (hJoinedRefIdeal := hJoinedRefIdeal)
    ∧ quiescent_RmsDx (hRmsDx := hRmsDx)
    ∧ quiescent_RmsDxIdeal (hRmsDxIdeal := hRmsDxIdeal)
    ∧ quiescent_RmsDxRefIdeal (hRmsDxRefIdeal := hRmsDxRefIdeal)
    ∧ quiescent_ResidualDx (hResidualDx := hResidualDx)
    ∧ quiescent_ResidualDxIdeal (hResidualDxIdeal := hResidualDxIdeal)
    ∧ quiescent_ResidualDxRefIdeal (hResidualDxRefIdeal := hResidualDxRefIdeal)
    ∧ quiescent_JoinedDx (hJoinedDx := hJoinedDx)
    ∧ quiescent_JoinedDxIdeal (hJoinedDxIdeal := hJoinedDxIdeal)
    ∧ quiescent_JoinedDxRefIdeal (hJoinedDxRefIdeal := hJoinedDxRefIdeal)
    ∧ preserves_Kernel_KernelIdeal
    ∧ algebraic_KernelIdeal_ReferenceIdeal_pre_finite_value_side (hKernelIdeal := hKernelIdeal) (hReferenceIdeal := hReferenceIdeal) (hPre_finite_value_side := hPre_finite_value_side)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDa_DownDaIdeal
    ∧ algebraic_DownDaIdeal_DownDaRefIdeal (hDownDaIdeal := hDownDaIdeal) (hDownDaRefIdeal := hDownDaRefIdeal)
    ∧ preserves_DownDw_DownDwIdeal
    ∧ algebraic_DownDwIdeal_DownDwRefIdeal (hDownDwIdeal := hDownDwIdeal) (hDownDwRefIdeal := hDownDwRefIdeal)
    ∧ preserves_UpDa_UpDaIdeal
    ∧ algebraic_UpDaIdeal_UpDaRefIdeal (hUpDaIdeal := hUpDaIdeal) (hUpDaRefIdeal := hUpDaRefIdeal)
    ∧ preserves_UpDw_UpDwIdeal
    ∧ algebraic_UpDwIdeal_UpDwRefIdeal (hUpDwIdeal := hUpDwIdeal) (hUpDwRefIdeal := hUpDwRefIdeal)
    ∧ preserves_Inner_InnerIdeal
    ∧ algebraic_InnerIdeal_InnerRefIdeal (hInnerIdeal := hInnerIdeal) (hInnerRefIdeal := hInnerRefIdeal)
    ∧ preserves_Outer_OuterIdeal
    ∧ algebraic_OuterIdeal_OuterRefIdeal (hOuterIdeal := hOuterIdeal) (hOuterRefIdeal := hOuterRefIdeal)
    ∧ preserves_OuterDa_OuterDaIdeal
    ∧ algebraic_OuterDaIdeal_OuterDaRefIdeal (hOuterDaIdeal := hOuterDaIdeal) (hOuterDaRefIdeal := hOuterDaRefIdeal)
    ∧ preserves_OuterDw_OuterDwIdeal
    ∧ algebraic_OuterDwIdeal_OuterDwRefIdeal (hOuterDwIdeal := hOuterDwIdeal) (hOuterDwRefIdeal := hOuterDwRefIdeal)
    ∧ preserves_InnerDa_InnerDaIdeal
    ∧ algebraic_InnerDaIdeal_InnerDaRefIdeal (hInnerDaIdeal := hInnerDaIdeal) (hInnerDaRefIdeal := hInnerDaRefIdeal)
    ∧ preserves_InnerDw_InnerDwIdeal
    ∧ algebraic_InnerDwIdeal_InnerDwRefIdeal (hInnerDwIdeal := hInnerDwIdeal) (hInnerDwRefIdeal := hInnerDwRefIdeal)
    ∧ preserves_GateDa_GateDaIdeal
    ∧ algebraic_GateDaIdeal_GateDaRefIdeal (hGateDaIdeal := hGateDaIdeal) (hGateDaRefIdeal := hGateDaRefIdeal)
    ∧ preserves_GateDw_GateDwIdeal
    ∧ algebraic_GateDwIdeal_GateDwRefIdeal (hGateDwIdeal := hGateDwIdeal) (hGateDwRefIdeal := hGateDwRefIdeal)
    ∧ preserves_State_StateIdeal
    ∧ algebraic_StateIdeal_StateRefIdeal (hStateIdeal := hStateIdeal) (hStateRefIdeal := hStateRefIdeal)
    ∧ preserves_StateDa_StateDaIdeal
    ∧ algebraic_StateDaIdeal_StateDaRefIdeal (hStateDaIdeal := hStateDaIdeal) (hStateDaRefIdeal := hStateDaRefIdeal)
    ∧ preserves_StateDw_StateDwIdeal
    ∧ algebraic_StateDwIdeal_StateDwRefIdeal (hStateDwIdeal := hStateDwIdeal) (hStateDwRefIdeal := hStateDwRefIdeal)
    ∧ preserves_HeadDa_HeadDaIdeal
    ∧ algebraic_HeadDaIdeal_HeadDaRefIdeal (hHeadDaIdeal := hHeadDaIdeal) (hHeadDaRefIdeal := hHeadDaRefIdeal)
    ∧ preserves_HeadDw_HeadDwIdeal
    ∧ algebraic_HeadDwIdeal_HeadDwRefIdeal (hHeadDwIdeal := hHeadDwIdeal) (hHeadDwRefIdeal := hHeadDwRefIdeal)
    ∧ preserves_Near_NearIdeal
    ∧ algebraic_NearIdeal_NearRefIdeal (hNearIdeal := hNearIdeal) (hNearRefIdeal := hNearRefIdeal)
    ∧ preserves_MixDa_MixDaIdeal
    ∧ algebraic_MixDaIdeal_MixDaRefIdeal (hMixDaIdeal := hMixDaIdeal) (hMixDaRefIdeal := hMixDaRefIdeal)
    ∧ preserves_MixDw_MixDwIdeal
    ∧ algebraic_MixDwIdeal_MixDwRefIdeal (hMixDwIdeal := hMixDwIdeal) (hMixDwRefIdeal := hMixDwRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamAbIn_AdamAbInIdeal
    ∧ algebraic_AdamAbInIdeal_AdamAbInRefIdeal (hAdamAbInIdeal := hAdamAbInIdeal) (hAdamAbInRefIdeal := hAdamAbInRefIdeal)
    ∧ preserves_AdamDecay_AdamDecayIdeal
    ∧ algebraic_AdamDecayIdeal_AdamDecayRefIdeal (hAdamDecayIdeal := hAdamDecayIdeal) (hAdamDecayRefIdeal := hAdamDecayRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamRpb_AdamRpbIdeal
    ∧ algebraic_AdamRpbIdeal_AdamRpbRefIdeal (hAdamRpbIdeal := hAdamRpbIdeal) (hAdamRpbRefIdeal := hAdamRpbRefIdeal)
    ∧ preserves_AdamAbOut_AdamAbOutIdeal
    ∧ algebraic_AdamAbOutIdeal_AdamAbOutRefIdeal (hAdamAbOutIdeal := hAdamAbOutIdeal) (hAdamAbOutRefIdeal := hAdamAbOutRefIdeal)
    ∧ preserves_AdamCIn_AdamCInIdeal
    ∧ algebraic_AdamCInIdeal_AdamCInRefIdeal (hAdamCInIdeal := hAdamCInIdeal) (hAdamCInRefIdeal := hAdamCInRefIdeal)
    ∧ preserves_AdamCConv_AdamCConvIdeal
    ∧ algebraic_AdamCConvIdeal_AdamCConvRefIdeal (hAdamCConvIdeal := hAdamCConvIdeal) (hAdamCConvRefIdeal := hAdamCConvRefIdeal)
    ∧ preserves_AdamCBias_AdamCBiasIdeal
    ∧ algebraic_AdamCBiasIdeal_AdamCBiasRefIdeal (hAdamCBiasIdeal := hAdamCBiasIdeal) (hAdamCBiasRefIdeal := hAdamCBiasRefIdeal)
    ∧ preserves_AdamDt_AdamDtIdeal
    ∧ algebraic_AdamDtIdeal_AdamDtRefIdeal (hAdamDtIdeal := hAdamDtIdeal) (hAdamDtRefIdeal := hAdamDtRefIdeal)
    ∧ preserves_AdamSkip_AdamSkipIdeal
    ∧ algebraic_AdamSkipIdeal_AdamSkipRefIdeal (hAdamSkipIdeal := hAdamSkipIdeal) (hAdamSkipRefIdeal := hAdamSkipRefIdeal)
    ∧ preserves_AdamCOut_AdamCOutIdeal
    ∧ algebraic_AdamCOutIdeal_AdamCOutRefIdeal (hAdamCOutIdeal := hAdamCOutIdeal) (hAdamCOutRefIdeal := hAdamCOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamFConv_AdamFConvIdeal
    ∧ algebraic_AdamFConvIdeal_AdamFConvRefIdeal (hAdamFConvIdeal := hAdamFConvIdeal) (hAdamFConvRefIdeal := hAdamFConvRefIdeal)
    ∧ preserves_AdamFBias_AdamFBiasIdeal
    ∧ algebraic_AdamFBiasIdeal_AdamFBiasRefIdeal (hAdamFBiasIdeal := hAdamFBiasIdeal) (hAdamFBiasRefIdeal := hAdamFBiasRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Step_StepIdeal
    ∧ algebraic_StepIdeal_StepRefIdeal (hStepIdeal := hStepIdeal) (hStepRefIdeal := hStepRefIdeal)
    ∧ preserves_StepDa_StepDaIdeal
    ∧ algebraic_StepDaIdeal_StepDaRefIdeal (hStepDaIdeal := hStepDaIdeal) (hStepDaRefIdeal := hStepDaRefIdeal)
    ∧ preserves_StepDw_StepDwIdeal
    ∧ algebraic_StepDwIdeal_StepDwRefIdeal (hStepDwIdeal := hStepDwIdeal) (hStepDwRefIdeal := hStepDwRefIdeal)
    ∧ preserves_Pair_PairIdeal
    ∧ algebraic_PairIdeal_PairRefIdeal (hPairIdeal := hPairIdeal) (hPairRefIdeal := hPairRefIdeal)
    ∧ preserves_Loss_LossIdeal
    ∧ algebraic_LossIdeal_LossRefIdeal (hLossIdeal := hLossIdeal) (hLossRefIdeal := hLossRefIdeal)
    ∧ preserves_LossDy_LossDyIdeal
    ∧ algebraic_LossDyIdeal_LossDyRefIdeal (hLossDyIdeal := hLossDyIdeal) (hLossDyRefIdeal := hLossDyRefIdeal)
    ∧ preserves_Rms_RmsIdeal
    ∧ algebraic_RmsIdeal_RmsRefIdeal (hRmsIdeal := hRmsIdeal) (hRmsRefIdeal := hRmsRefIdeal)
    ∧ preserves_Residual_ResidualIdeal
    ∧ algebraic_ResidualIdeal_ResidualRefIdeal (hResidualIdeal := hResidualIdeal) (hResidualRefIdeal := hResidualRefIdeal)
    ∧ preserves_Joined_JoinedIdeal
    ∧ algebraic_JoinedIdeal_JoinedRefIdeal (hJoinedIdeal := hJoinedIdeal) (hJoinedRefIdeal := hJoinedRefIdeal)
    ∧ preserves_RmsDx_RmsDxIdeal
    ∧ algebraic_RmsDxIdeal_RmsDxRefIdeal (hRmsDxIdeal := hRmsDxIdeal) (hRmsDxRefIdeal := hRmsDxRefIdeal)
    ∧ preserves_ResidualDx_ResidualDxIdeal
    ∧ algebraic_ResidualDxIdeal_ResidualDxRefIdeal (hResidualDxIdeal := hResidualDxIdeal) (hResidualDxRefIdeal := hResidualDxRefIdeal)
    ∧ preserves_JoinedDx_JoinedDxIdeal
    ∧ algebraic_JoinedDxIdeal_JoinedDxRefIdeal (hJoinedDxIdeal := hJoinedDxIdeal) (hJoinedDxRefIdeal := hJoinedDxRefIdeal)
-- ==== Pre_finite_value_side.lean ====
abbrev S8192x2816 : Shape := ⟨2, ![8192, 2816]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S8192x2816 .f32) (main_arg1 : FVec F S8192x2816 .f32) (main_arg2 : FVec F S3x5632 .f32) (main_arg3 : FVec F S5632 .f32) (main_arg4 : FVec F S8192x2816 .bf16) : IVec S8192x2816 1 × IVec S3x5632 1 × IVec S5632 1 × IVec S8192x2816 1 :=
  let main_v0 : FVec F S8192x2816 .f32 := (extf .f32 · bitsLt_bf16_f32) main_arg4
  let main_v1 : FVec F S8192x2816 .f32 := subf main_arg1 main_arg1
  let main_cst : FVec F S_ .f32 := constant S_ .f32 0x00000000#32
  let main_v2 : FVec F S8192x2816 .f32 := broadcastInDim S8192x2816 ![] bcast_S_S8192x2816 main_cst
  let main_v3 : IVec S8192x2816 1 := cmpf .oeq main_v1 main_v2
  let main_v4 : FVec F S3x5632 .f32 := subf main_arg2 main_arg2
  let main_cst_0 : FVec F S_ .f32 := constant S_ .f32 0x00000000#32
  let main_v5 : FVec F S3x5632 .f32 := broadcastInDim S3x5632 ![] bcast_S_S3x5632 main_cst_0
  let main_v6 : IVec S3x5632 1 := cmpf .oeq main_v4 main_v5
  let main_v7 : FVec F S5632 .f32 := subf main_arg3 main_arg3
  let main_cst_1 : FVec F S_ .f32 := constant S_ .f32 0x00000000#32
  let main_v8 : FVec F S5632 .f32 := broadcastInDim S5632 ![] bcast_S_S5632 main_cst_1
  let main_v9 : IVec S5632 1 := cmpf .oeq main_v7 main_v8
  let main_v10 : FVec F S8192x2816 .f32 := subf main_v0 main_v0
  let main_cst_2 : FVec F S_ .f32 := constant S_ .f32 0x00000000#32
  let main_v11 : FVec F S8192x2816 .f32 := broadcastInDim S8192x2816 ![] bcast_S_S8192x2816 main_cst_2
  let main_v12 : IVec S8192x2816 1 := cmpf .oeq main_v10 main_v11
  (main_v3, main_v6, main_v9, main_v12)
-- ==== Kernel.lean ====
abbrev S8192x2816 : Shape := ⟨2, ![8192, 2816]⟩
abbrev S3x5632 : Shape := ⟨2, ![3, 5632]⟩
abbrev S5632 : Shape := ⟨1, ![5632]⟩
abbrev S3x2816 : Shape := ⟨2, ![3, 2816]⟩
abbrev S2816 : Shape := ⟨1, ![2816]⟩
abbrev S1x2816 : Shape := ⟨2, ![1, 2816]⟩
abbrev S8x2816 : Shape := ⟨2, ![8, 2816]⟩
abbrev S8192x128 : Shape := ⟨2, ![8192, 128]⟩
abbrev S3x128 : Shape := ⟨2, ![3, 128]⟩
abbrev S1x128 : Shape := ⟨2, ![1, 128]⟩
abbrev S8x128 : Shape := ⟨2, ![8, 128]⟩
abbrev S256x128 : Shape := ⟨2, ![256, 128]⟩
abbrev S272x128 : Shape := ⟨2, ![272, 128]⟩
abbrev S128 : Shape := ⟨1, ![128]⟩

abbrev nBuf : Space → Nat
  | .hbm => 17
  | .vmem => 28
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S8192x2816, .bf16⟩
  | .hbm, ⟨5, _⟩ => ⟨S3x2816, .f32⟩
  | .hbm, ⟨6, _⟩ => ⟨S3x2816, .f32⟩
  | .hbm, ⟨7, _⟩ => ⟨S2816, .f32⟩
  | .hbm, ⟨8, _⟩ => ⟨S1x2816, .f32⟩
  | .hbm, ⟨9, _⟩ => ⟨S2816, .f32⟩
  | .hbm, ⟨10, _⟩ => ⟨S1x2816, .f32⟩
  | .hbm, ⟨11, _⟩ => ⟨S8192x2816, .bf16⟩
  | .hbm, ⟨12, _⟩ => ⟨S8192x2816, .bf16⟩
  | .hbm, ⟨13, _⟩ => ⟨S8x2816, .f32⟩
  | .hbm, ⟨14, _⟩ => ⟨S8x2816, .f32⟩
  | .hbm, ⟨15, _⟩ => ⟨S1x2816, .f32⟩
  | .hbm, ⟨16, _⟩ => ⟨S1x2816, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S8192x128, .f32⟩
  | .local _ .vmem, ⟨27, _⟩ => ⟨S8192x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v17 : BitVec 32 := Scalar.addi c0_i32 c32_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  v33
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let v35 : Index := Scalar.indexCast v34
  let c0_40 : Index := 0#32
  ![v35.toNat, 0]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c8_i32 : BitVec 32 := 8#32
  let v37 : BitVec 32 := Scalar.subi v34 c8_i32
  let c0_i32_41 : BitVec 32 := 0#32
  let v38 : BitVec 32 := Scalar.maxsi v37 c0_i32_41
  v38
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c8_i32 : BitVec 32 := 8#32
  let v37 : BitVec 32 := Scalar.subi v34 c8_i32
  let c0_i32_41 : BitVec 32 := 0#32
  let v38 : BitVec 32 := Scalar.maxsi v37 c0_i32_41
  let v39 : BitVec 32 := v38
  let v40 : Index := Scalar.indexCast v39
  let c0_42 : Index := 0#32
  ![v40.toNat, 0]
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c256_i32_43 : BitVec 32 := 256#32
  let v42 : BitVec 32 := Scalar.addi v34 c256_i32_43
  let c8184_i32 : BitVec 32 := 8184#32
  let v43 : BitVec 32 := Scalar.minsi v42 c8184_i32
  v43
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c256_i32_43 : BitVec 32 := 256#32
  let v42 : BitVec 32 := Scalar.addi v34 c256_i32_43
  let c8184_i32 : BitVec 32 := 8184#32
  let v43 : BitVec 32 := Scalar.minsi v42 c8184_i32
  let v44 : BitVec 32 := v43
  let v45 : Index := Scalar.indexCast v44
  let c0_44 : Index := 0#32
  ![v45.toNat, 0]
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c8_i32_51 : BitVec 32 := 8#32
  let v72 : BitVec 32 := Scalar.subi v34 c8_i32_51
  let c0_i32_52 : BitVec 32 := 0#32
  let v73 : BitVec 32 := Scalar.maxsi v72 c0_i32_52
  v73
def k0_mult5 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v33 : BitVec 32 := Scalar.muli arg16 c256_i32
  let v34 : BitVec 32 := v33
  let c256_i32_54 : BitVec 32 := 256#32
  let v77 : BitVec 32 := Scalar.addi v34 c256_i32_54
  let c8184_i32_55 : BitVec 32 := 8184#32
  let v78 : BitVec 32 := Scalar.minsi v77 c8184_i32_55
  v78
@[reducible] def k0_t2_loop : Scf.Loop 32 :=
  let c0_i32_14 : BitVec 32 := 0#32
  let c32_i32_15 : BitVec 32 := 32#32
  let v19 : BitVec 32 := Scalar.addi c0_i32_14 c32_i32_15
  let c1_i32_16 : BitVec 32 := 1#32
  ⟨c0_i32_14, v19, c1_i32_16⟩
def k0_mult6 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  v33
def k0_off4 (k0_t2 : Fin k0_t2_loop.trips) : Fin 2 → Nat :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let v35 : Index := Scalar.indexCast v34
  let c0_40 : Index := 0#32
  ![v35.toNat, 0]
def k0_mult7 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c8_i32 : BitVec 32 := 8#32
  let v37 : BitVec 32 := Scalar.subi v34 c8_i32
  let c0_i32_41 : BitVec 32 := 0#32
  let v38 : BitVec 32 := Scalar.maxsi v37 c0_i32_41
  v38
def k0_off5 (k0_t2 : Fin k0_t2_loop.trips) : Fin 2 → Nat :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c8_i32 : BitVec 32 := 8#32
  let v37 : BitVec 32 := Scalar.subi v34 c8_i32
  let c0_i32_41 : BitVec 32 := 0#32
  let v38 : BitVec 32 := Scalar.maxsi v37 c0_i32_41
  let v39 : BitVec 32 := v38
  let v40 : Index := Scalar.indexCast v39
  let c0_42 : Index := 0#32
  ![v40.toNat, 0]
def k0_mult8 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c256_i32_43 : BitVec 32 := 256#32
  let v42 : BitVec 32 := Scalar.addi v34 c256_i32_43
  let c8184_i32 : BitVec 32 := 8184#32
  let v43 : BitVec 32 := Scalar.minsi v42 c8184_i32
  v43
def k0_off6 (k0_t2 : Fin k0_t2_loop.trips) : Fin 2 → Nat :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c256_i32_43 : BitVec 32 := 256#32
  let v42 : BitVec 32 := Scalar.addi v34 c256_i32_43
  let c8184_i32 : BitVec 32 := 8184#32
  let v43 : BitVec 32 := Scalar.minsi v42 c8184_i32
  let v44 : BitVec 32 := v43
  let v45 : Index := Scalar.indexCast v44
  let c0_44 : Index := 0#32
  ![v45.toNat, 0]
def k0_mult9 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c8_i32_50 : BitVec 32 := 8#32
  let v57 : BitVec 32 := Scalar.subi v34 c8_i32_50
  let c0_i32_51 : BitVec 32 := 0#32
  let v58 : BitVec 32 := Scalar.maxsi v57 c0_i32_51
  v58
def k0_mult10 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c256_i32_53 : BitVec 32 := 256#32
  let v62 : BitVec 32 := Scalar.addi v34 c256_i32_53
  let c8184_i32_54 : BitVec 32 := 8184#32
  let v63 : BitVec 32 := Scalar.minsi v62 c8184_i32_54
  v63
def k0_mult11 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c8_i32_70 : BitVec 32 := 8#32
  let v113 : BitVec 32 := Scalar.subi v34 c8_i32_70
  let c0_i32_71 : BitVec 32 := 0#32
  let v114 : BitVec 32 := Scalar.maxsi v113 c0_i32_71
  v114
def k0_mult12 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c256_i32_73 : BitVec 32 := 256#32
  let v118 : BitVec 32 := Scalar.addi v34 c256_i32_73
  let c8184_i32_74 : BitVec 32 := 8184#32
  let v119 : BitVec 32 := Scalar.minsi v118 c8184_i32_74
  v119
def k0_mult13 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c8_i32_82 : BitVec 32 := 8#32
  let v133 : BitVec 32 := Scalar.subi v34 c8_i32_82
  let c0_i32_83 : BitVec 32 := 0#32
  let v134 : BitVec 32 := Scalar.maxsi v133 c0_i32_83
  v134
def k0_mult14 (k0_t2 : Fin k0_t2_loop.trips) : BitVec 32 :=
  let c0_i32_14 : BitVec 32 := 0#32
  let c1_i32_16 : BitVec 32 := 1#32
  let arg16 : BitVec 32 := Scf.iv c0_i32_14 c1_i32_16 k0_t2
  let c256_i32 : BitVec 32 := 256#32
  let v33 : BitVec 32 := Scalar.muli arg16 c256_i32
  let v34 : BitVec 32 := v33
  let c256_i32_85 : BitVec 32 := 256#32
  let v138 : BitVec 32 := Scalar.addi v34 c256_i32_85
  let c8184_i32_86 : BitVec 32 := 8184#32
  let v139 : BitVec 32 := Scalar.minsi v138 c8184_i32_86
  v139
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "a" => some ((8943 / 200000 : ℝ) : EReal)
  | "three_a" => some ((26829 / 200000 : ℝ) : EReal)
  | _ => none
-- ==== ReferenceIdeal.lean ====
abbrev S8192x2816 : Shape := ⟨2, ![8192, 2816]⟩
abbrev S3x5632 : Shape := ⟨2, ![3, 5632]⟩
abbrev S5632 : Shape := ⟨1, ![5632]⟩
abbrev S8192x5632 : Shape := ⟨2, ![8192, 5632]⟩
abbrev S_ : Shape := ⟨0, ![]⟩
abbrev S1x5632 : Shape := ⟨2, ![1, 5632]⟩
abbrev S8194x5632 : Shape := ⟨2, ![8194, 5632]⟩
abbrev S3x2816 : Shape := ⟨2, ![3, 2816]⟩
abbrev S8x2816 : Shape := ⟨2, ![8, 2816]⟩
abbrev S2816 : Shape := ⟨1, ![2816]⟩
abbrev S1x2816 : Shape := ⟨2, ![1, 2816]⟩

abbrev nBuf : Space → Nat
  | .hbm => 157
  | .vmem => 0
  | .smem => 0
  | _ => 0

abbrev hbmTy0_0 (i : Nat) : BufTy := match i % 128 with
  | 0 => ⟨S8192x2816, .f32⟩
  | 1 => ⟨S8192x2816, .f32⟩
  | 2 => ⟨S3x5632, .f32⟩
  | 3 => ⟨S5632, .f32⟩
  | 4 => ⟨S8192x2816, .bf16⟩
  | 5 => ⟨S8192x5632, .f32⟩
  | 6 => ⟨S_, .f32⟩
  | 7 => ⟨S1x5632, .f32⟩
  | 8 => ⟨S8194x5632, .f32⟩
  | 9 => ⟨S_, .f32⟩
  | 10 => ⟨S1x5632, .f32⟩
  | 11 => ⟨S_, .f32⟩
  | 12 => ⟨S1x5632, .f32⟩
  | 13 => ⟨S1x5632, .f32⟩
  | 14 => ⟨S5632, .f32⟩
  | 15 => ⟨S8192x5632, .f32⟩
  | 16 => ⟨S1x5632, .f32⟩
  | 17 => ⟨S8192x5632, .f32⟩
  | 18 => ⟨S8192x5632, .f32⟩
  | 19 => ⟨S_, .f32⟩
  | 20 => ⟨S8192x5632, .f32⟩
  | 21 => ⟨S8192x5632, .f32⟩
  | 22 => ⟨S1x5632, .f32⟩
  | 23 => ⟨S5632, .f32⟩
  | 24 => ⟨S8192x5632, .f32⟩
  | 25 => ⟨S1x5632, .f32⟩
  | 26 => ⟨S8192x5632, .f32⟩
  | 27 => ⟨S8192x5632, .f32⟩
  | 28 => ⟨S8192x5632, .f32⟩
  | 29 => ⟨S1x5632, .f32⟩
  | 30 => ⟨S5632, .f32⟩
  | 31 => ⟨S8192x5632, .f32⟩
  | 32 => ⟨S1x5632, .f32⟩
  | 33 => ⟨S8192x5632, .f32⟩
  | 34 => ⟨S8192x5632, .f32⟩
  | 35 => ⟨S8192x5632, .f32⟩
  | 36 => ⟨S1x5632, .f32⟩
  | 37 => ⟨S8192x5632, .f32⟩
  | 38 => ⟨S8192x5632, .f32⟩
  | 39 => ⟨S8192x2816, .f32⟩
  | 40 => ⟨S8192x2816, .f32⟩
  | 41 => ⟨S_, .f32⟩
  | 42 => ⟨S_, .f32⟩
  | 43 => ⟨S_, .f32⟩
  | 44 => ⟨S8192x2816, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S8192x2816, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S8192x2816, .f32⟩
  | 57 => ⟨S_, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S8192x2816, .f32⟩
  | 81 => ⟨S_, .f32⟩
  | 82 => ⟨S8192x2816, .f32⟩
  | 83 => ⟨S8192x2816, .f32⟩
  | 84 => ⟨S8192x2816, .f32⟩
  | 85 => ⟨S8192x2816, .f32⟩
  | 86 => ⟨S8192x2816, .f32⟩
  | 87 => ⟨S8192x2816, .f32⟩
  | 88 => ⟨S8192x2816, .f32⟩
  | 89 => ⟨S8192x5632, .f32⟩
  | 90 => ⟨S_, .f32⟩
  | 91 => ⟨S5632, .f32⟩
  | 92 => ⟨S1x5632, .f32⟩
  | 93 => ⟨S_, .f32⟩
  | 94 => ⟨S5632, .f32⟩
  | 95 => ⟨S8192x5632, .f32⟩
  | 96 => ⟨S8192x5632, .f32⟩
  | 97 => ⟨S8192x5632, .f32⟩
  | 98 => ⟨S_, .f32⟩
  | 99 => ⟨S5632, .f32⟩
  | 100 => ⟨S1x5632, .f32⟩
  | 101 => ⟨S_, .f32⟩
  | 102 => ⟨S5632, .f32⟩
  | 103 => ⟨S_, .f32⟩
  | 104 => ⟨S8194x5632, .f32⟩
  | 105 => ⟨S1x5632, .f32⟩
  | 106 => ⟨S_, .f32⟩
  | 107 => ⟨S3x5632, .f32⟩
  | 108 => ⟨S8192x5632, .f32⟩
  | 109 => ⟨S8192x5632, .f32⟩
  | 110 => ⟨S8192x5632, .f32⟩
  | 111 => ⟨S_, .f32⟩
  | 112 => ⟨S5632, .f32⟩
  | 113 => ⟨S1x5632, .f32⟩
  | 114 => ⟨S_, .f32⟩
  | 115 => ⟨S5632, .f32⟩
  | 116 => ⟨S_, .f32⟩
  | 117 => ⟨S8194x5632, .f32⟩
  | 118 => ⟨S8194x5632, .f32⟩
  | 119 => ⟨S1x5632, .f32⟩
  | 120 => ⟨S_, .f32⟩
  | 121 => ⟨S3x5632, .f32⟩
  | 122 => ⟨S3x5632, .f32⟩
  | 123 => ⟨S8192x5632, .f32⟩
  | 124 => ⟨S8192x5632, .f32⟩
  | 125 => ⟨S8192x5632, .f32⟩
  | 126 => ⟨S_, .f32⟩
  | 127 => ⟨S5632, .f32⟩
  | _ => ⟨S8192x2816, .f32⟩

abbrev hbmTy0_1 (i : Nat) : BufTy := match i % 128 with
  | 0 => ⟨S1x5632, .f32⟩
  | 1 => ⟨S_, .f32⟩
  | 2 => ⟨S5632, .f32⟩
  | 3 => ⟨S_, .f32⟩
  | 4 => ⟨S8194x5632, .f32⟩
  | 5 => ⟨S8194x5632, .f32⟩
  | 6 => ⟨S1x5632, .f32⟩
  | 7 => ⟨S_, .f32⟩
  | 8 => ⟨S3x5632, .f32⟩
  | 9 => ⟨S3x5632, .f32⟩
  | 10 => ⟨S1x5632, .f32⟩
  | 11 => ⟨S8192x5632, .f32⟩
  | 12 => ⟨S1x5632, .f32⟩
  | 13 => ⟨S8192x2816, .f32⟩
  | 14 => ⟨S8192x2816, .f32⟩
  | 15 => ⟨S8192x2816, .bf16⟩
  | 16 => ⟨S8192x2816, .bf16⟩
  | 17 => ⟨S3x2816, .f32⟩
  | 18 => ⟨S_, .i32⟩
  | 19 => ⟨S_, .f32⟩
  | 20 => ⟨S8x2816, .f32⟩
  | 21 => ⟨S3x2816, .f32⟩
  | 22 => ⟨S_, .i32⟩
  | 23 => ⟨S_, .f32⟩
  | 24 => ⟨S8x2816, .f32⟩
  | 25 => ⟨S2816, .f32⟩
  | 26 => ⟨S1x2816, .f32⟩
  | 27 => ⟨S2816, .f32⟩
  | 28 => ⟨S1x2816, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_cst_16 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_cst_21 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_cst_25 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_26 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c : Ref sig .tc := ⟨.hbm, 146, rfl⟩
abbrev main_call0_v0 : Ref sig .tc := ⟨.hbm, 147, rfl⟩
abbrev main_v113 : Ref sig .tc := ⟨.hbm, 148, rfl⟩
abbrev main_v114 : Ref sig .tc := ⟨.hbm, 149, rfl⟩
abbrev main_c_27 : Ref sig .tc := ⟨.hbm, 150, rfl⟩
abbrev main_call1_v0 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩

abbrev nD : Nat := 1
abbrev τ : Topo := Topo.v7x

variable {F : FTy → Type} [FloatOps F]
-- ==== Up.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .hbm, ⟨3, _⟩ => ⟨S8192x2816, .bf16⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .bf16⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDa.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x1024, .bf16⟩
  | .hbm, ⟨3, _⟩ => ⟨S8192x1024, .f32⟩
  | .hbm, ⟨4, _⟩ => ⟨S8192x2816, .f32⟩
  | .hbm, ⟨5, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDa.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaIdeal.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaRefIdeal.lean ====
abbrev S8192x2816 : Shape := ⟨2, ![8192, 2816]⟩
abbrev S1024x2816 : Shape := ⟨2, ![1024, 2816]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .f32⟩
  | .hbm, ⟨3, _⟩ => ⟨S8192x1024, .f32⟩
  | .hbm, ⟨4, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .f32⟩
  | .hbm, ⟨3, _⟩ => ⟨S2816x1024, .f32⟩
  | .hbm, ⟨4, _⟩ => ⟨S1024x2816, .f32⟩
  | .hbm, ⟨5, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Inner.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerIdeal.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .bf16⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Outer.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterIdeal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .bf16⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OuterDa.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDaIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDaRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x1024, .bf16⟩
  | .hbm, ⟨3, _⟩ => ⟨S8192x1024, .f32⟩
  | .hbm, ⟨4, _⟩ => ⟨S8192x2048, .f32⟩
  | .hbm, ⟨5, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OuterDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDwIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDwRefIdeal.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InnerDa.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerDaIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerDaRefIdeal.lean ====
abbrev S8192x2048 : Shape := ⟨2, ![8192, 2048]⟩
abbrev S1024x2048 : Shape := ⟨2, ![1024, 2048]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S8192x1024, .f32⟩
  | .hbm, ⟨4, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InnerDw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerDwIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InnerDwRefIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x2048, .f32⟩
  | .hbm, ⟨3, _⟩ => ⟨S2048x1024, .f32⟩
  | .hbm, ⟨4, _⟩ => ⟨S1024x2048, .f32⟩
  | .hbm, ⟨5, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDa.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaIdeal.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaRefIdeal.lean ====
abbrev S8192x2048 : Shape := ⟨2, ![8192, 2048]⟩
abbrev S1024x2048 : Shape := ⟨2, ![1024, 2048]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x2048, .bf16⟩
  | .hbm, ⟨3, _⟩ => ⟨S8192x2048, .f32⟩
  | .hbm, ⟨4, _⟩ => ⟨S8192x1024, .f32⟩
  | .hbm, ⟨5, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwIdeal.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x2048, .bf16⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== State.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateIdeal.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .hbm, ⟨3, _⟩ => ⟨S8192x512, .bf16⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StateDa.lean ====
abbrev S8192x512 : Shape := ⟨2, ![8192, 512]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateDaIdeal.lean ====
abbrev S8192x512 : Shape := ⟨2, ![8192, 512]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StateDaRefIdeal.lean ====
abbrev S8192x512 : Shape := ⟨2, ![8192, 512]⟩
abbrev S1024x512 : Shape := ⟨2, ![1024, 512]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .f32⟩
  | .hbm, ⟨3, _⟩ => ⟨S8192x1024, .f32⟩
  | .hbm, ⟨4, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StateDw.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StateDwIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StateDwRefIdeal.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S512x1024, .f32⟩
  | .hbm, ⟨4, _⟩ => ⟨S1024x512, .f32⟩
  | .hbm, ⟨5, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HeadDa.lean ====
abbrev S8192x512 : Shape := ⟨2, ![8192, 512]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HeadDaIdeal.lean ====
abbrev S8192x512 : Shape := ⟨2, ![8192, 512]⟩
abbrev S1024x512 : Shape := ⟨2, ![1024, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HeadDaRefIdeal.lean ====
abbrev S8192x512 : Shape := ⟨2, ![8192, 512]⟩
abbrev S1024x512 : Shape := ⟨2, ![1024, 512]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HeadDw.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== HeadDwIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== HeadDwRefIdeal.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Near.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NearIdeal.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NearRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .hbm, ⟨3, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixDa.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDaRefIdeal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x1024, .bf16⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixDw.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwIdeal.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAbIn.lean ====
abbrev S2x1024x896 : Shape := ⟨3, ![2, 1024, 896]⟩
abbrev S1x256x896 : Shape := ⟨3, ![1, 256, 896]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S2x1024x896, .f32⟩
  | .hbm, ⟨5, _⟩ => ⟨S2x1024x896, .f32⟩
  | .hbm, ⟨6, _⟩ => ⟨S2x1024x896, .f32⟩
  | .local _ .vmem, ⟨0, _⟩ => ⟨S1x256x896, .f32⟩
  | .local _ .vmem, ⟨1, _⟩ => ⟨S1x256x896, .f32⟩
  | .local _ .vmem, ⟨2, _⟩ => ⟨S1x256x896, .f32⟩
  | .local _ .vmem, ⟨3, _⟩ => ⟨S1x256x896, .f32⟩
  | .local _ .vmem, ⟨4, _⟩ => ⟨S1x256x896, .f32⟩
  | .local _ .vmem, ⟨5, _⟩ => ⟨S1x256x896, .f32⟩
  | .local _ .vmem, ⟨6, _⟩ => ⟨S1x256x896, .f32⟩
  | .local _ .vmem, ⟨7, _⟩ => ⟨S1x256x896, .f32⟩
  | .local _ .vmem, ⟨8, _⟩ => ⟨S1x256x896, .f32⟩
  | .local _ .vmem, ⟨9, _⟩ => ⟨S1x256x896, .f32⟩
  | .local _ .vmem, ⟨10, _⟩ => ⟨S1x256x896, .f32⟩
  | .local _ .vmem, ⟨11, _⟩ => ⟨S1x256x896, .f32⟩
  | .local _ .vmem, ⟨12, _⟩ => ⟨S1x256x896, .f32⟩
  | .local _ .vmem, ⟨13, _⟩ => ⟨S1x256x896, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAbInIdeal.lean ====
abbrev S2x1024x896 : Shape := ⟨3, ![2, 1024, 896]⟩
abbrev S1x256x896 : Shape := ⟨3, ![1, 256, 896]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S2x1024x896, .f32⟩
  | .hbm, ⟨5, _⟩ => ⟨S2x1024x896, .f32⟩
  | .hbm, ⟨6, _⟩ => ⟨S2x1024x896, .f32⟩
  | .local _ .vmem, ⟨0, _⟩ => ⟨S1x256x896, .f32⟩
  | .local _ .vmem, ⟨1, _⟩ => ⟨S1x256x896, .f32⟩
  | .local _ .vmem, ⟨2, _⟩ => ⟨S1x256x896, .f32⟩
  | .local _ .vmem, ⟨3, _⟩ => ⟨S1x256x896, .f32⟩
  | .local _ .vmem, ⟨4, _⟩ => ⟨S1x256x896, .f32⟩
  | .local _ .vmem, ⟨5, _⟩ => ⟨S1x256x896, .f32⟩
  | .local _ .vmem, ⟨6, _⟩ => ⟨S1x256x896, .f32⟩
  | .local _ .vmem, ⟨7, _⟩ => ⟨S1x256x896, .f32⟩
  | .local _ .vmem, ⟨8, _⟩ => ⟨S1x256x896, .f32⟩
  | .local _ .vmem, ⟨9, _⟩ => ⟨S1x256x896, .f32⟩
  | .local _ .vmem, ⟨10, _⟩ => ⟨S1x256x896, .f32⟩
  | .local _ .vmem, ⟨11, _⟩ => ⟨S1x256x896, .f32⟩
  | .local _ .vmem, ⟨12, _⟩ => ⟨S1x256x896, .f32⟩
  | .local _ .vmem, ⟨13, _⟩ => ⟨S1x256x896, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAbInRefIdeal.lean ====
abbrev S2x1024x896 : Shape := ⟨3, ![2, 1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S_, .f32⟩
  | .hbm, ⟨5, _⟩ => ⟨S2x1024x896, .f32⟩
  | .hbm, ⟨6, _⟩ => ⟨S2x1024x896, .f32⟩
  | .hbm, ⟨7, _⟩ => ⟨S_, .f32⟩
  | .hbm, ⟨8, _⟩ => ⟨S2x1024x896, .f32⟩
  | .hbm, ⟨9, _⟩ => ⟨S2x1024x896, .f32⟩
  | .hbm, ⟨10, _⟩ => ⟨S2x1024x896, .f32⟩
  | .hbm, ⟨11, _⟩ => ⟨S_, .f32⟩
  | .hbm, ⟨12, _⟩ => ⟨S2x1024x896, .f32⟩
  | .hbm, ⟨13, _⟩ => ⟨S2x1024x896, .f32⟩
  | .hbm, ⟨14, _⟩ => ⟨S2x1024x896, .f32⟩
  | .hbm, ⟨15, _⟩ => ⟨S_, .f32⟩
  | .hbm, ⟨16, _⟩ => ⟨S2x1024x896, .f32⟩
  | .hbm, ⟨17, _⟩ => ⟨S2x1024x896, .f32⟩
  | .hbm, ⟨18, _⟩ => ⟨S2x1024x896, .f32⟩
  | .hbm, ⟨19, _⟩ => ⟨S_, .f32⟩
  | .hbm, ⟨20, _⟩ => ⟨S2x1024x896, .f32⟩
  | .hbm, ⟨21, _⟩ => ⟨S2x1024x896, .f32⟩
  | .hbm, ⟨22, _⟩ => ⟨S_, .f32⟩
  | .hbm, ⟨23, _⟩ => ⟨S2x1024x896, .f32⟩
  | .hbm, ⟨24, _⟩ => ⟨S2x1024x896, .f32⟩
  | .hbm, ⟨25, _⟩ => ⟨S2x1024x896, .f32⟩
  | .hbm, ⟨26, _⟩ => ⟨S_, .f32⟩
  | .hbm, ⟨27, _⟩ => ⟨S2x1024x896, .f32⟩
  | .hbm, ⟨28, _⟩ => ⟨S2x1024x896, .f32⟩
  | .hbm, ⟨29, _⟩ => ⟨S2x1024x896, .f32⟩
  | .hbm, ⟨30, _⟩ => ⟨S_, .f32⟩
  | .hbm, ⟨31, _⟩ => ⟨S2x1024x896, .f32⟩
  | .hbm, ⟨32, _⟩ => ⟨S2x1024x896, .f32⟩
  | .hbm, ⟨33, _⟩ => ⟨S2x1024x896, .f32⟩
  | .hbm, ⟨34, _⟩ => ⟨S_, .f32⟩
  | .hbm, ⟨35, _⟩ => ⟨S2x1024x896, .f32⟩
  | .hbm, ⟨36, _⟩ => ⟨S2x1024x896, .f32⟩
  | _, _ => ⟨S2x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDecay.lean ====
abbrev S2x2x8 : Shape := ⟨3, ![2, 2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x2x8, .f32⟩
  | .hbm, ⟨1, _⟩ => ⟨S2x2x8, .f32⟩
  | .hbm, ⟨2, _⟩ => ⟨S2x2x8, .f32⟩
  | .hbm, ⟨3, _⟩ => ⟨S2x2x8, .f32⟩
  | .hbm, ⟨4, _⟩ => ⟨S2x2x8, .f32⟩
  | .hbm, ⟨5, _⟩ => ⟨S2x2x8, .f32⟩
  | .hbm, ⟨6, _⟩ => ⟨S2x2x8, .f32⟩
  | .local _ .vmem, ⟨0, _⟩ => ⟨S2x2x8, .f32⟩
  | .local _ .vmem, ⟨1, _⟩ => ⟨S2x2x8, .f32⟩
  | .local _ .vmem, ⟨2, _⟩ => ⟨S2x2x8, .f32⟩
  | .local _ .vmem, ⟨3, _⟩ => ⟨S2x2x8, .f32⟩
  | .local _ .vmem, ⟨4, _⟩ => ⟨S2x2x8, .f32⟩
  | .local _ .vmem, ⟨5, _⟩ => ⟨S2x2x8, .f32⟩
  | .local _ .vmem, ⟨6, _⟩ => ⟨S2x2x8, .f32⟩
  | _, _ => ⟨S2x2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamDecayIdeal.lean ====
abbrev S2x2x8 : Shape := ⟨3, ![2, 2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x2x8, .f32⟩
  | .hbm, ⟨1, _⟩ => ⟨S2x2x8, .f32⟩
  | .hbm, ⟨2, _⟩ => ⟨S2x2x8, .f32⟩
  | .hbm, ⟨3, _⟩ => ⟨S2x2x8, .f32⟩
  | .hbm, ⟨4, _⟩ => ⟨S2x2x8, .f32⟩
  | .hbm, ⟨5, _⟩ => ⟨S2x2x8, .f32⟩
  | .hbm, ⟨6, _⟩ => ⟨S2x2x8, .f32⟩
  | .local _ .vmem, ⟨0, _⟩ => ⟨S2x2x8, .f32⟩
  | .local _ .vmem, ⟨1, _⟩ => ⟨S2x2x8, .f32⟩
  | .local _ .vmem, ⟨2, _⟩ => ⟨S2x2x8, .f32⟩
  | .local _ .vmem, ⟨3, _⟩ => ⟨S2x2x8, .f32⟩
  | .local _ .vmem, ⟨4, _⟩ => ⟨S2x2x8, .f32⟩
  | .local _ .vmem, ⟨5, _⟩ => ⟨S2x2x8, .f32⟩
  | .local _ .vmem, ⟨6, _⟩ => ⟨S2x2x8, .f32⟩
  | _, _ => ⟨S2x2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamDecayRefIdeal.lean ====
abbrev S2x2x8 : Shape := ⟨3, ![2, 2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x8, .f32⟩
  | .hbm, ⟨1, _⟩ => ⟨S2x2x8, .f32⟩
  | .hbm, ⟨2, _⟩ => ⟨S2x2x8, .f32⟩
  | .hbm, ⟨3, _⟩ => ⟨S2x2x8, .f32⟩
  | .hbm, ⟨4, _⟩ => ⟨S_, .f32⟩
  | .hbm, ⟨5, _⟩ => ⟨S2x2x8, .f32⟩
  | .hbm, ⟨6, _⟩ => ⟨S2x2x8, .f32⟩
  | .hbm, ⟨7, _⟩ => ⟨S_, .f32⟩
  | .hbm, ⟨8, _⟩ => ⟨S2x2x8, .f32⟩
  | .hbm, ⟨9, _⟩ => ⟨S2x2x8, .f32⟩
  | .hbm, ⟨10, _⟩ => ⟨S2x2x8, .f32⟩
  | .hbm, ⟨11, _⟩ => ⟨S_, .f32⟩
  | .hbm, ⟨12, _⟩ => ⟨S2x2x8, .f32⟩
  | .hbm, ⟨13, _⟩ => ⟨S2x2x8, .f32⟩
  | .hbm, ⟨14, _⟩ => ⟨S2x2x8, .f32⟩
  | .hbm, ⟨15, _⟩ => ⟨S_, .f32⟩
  | .hbm, ⟨16, _⟩ => ⟨S2x2x8, .f32⟩
  | .hbm, ⟨17, _⟩ => ⟨S2x2x8, .f32⟩
  | .hbm, ⟨18, _⟩ => ⟨S2x2x8, .f32⟩
  | .hbm, ⟨19, _⟩ => ⟨S_, .f32⟩
  | .hbm, ⟨20, _⟩ => ⟨S2x2x8, .f32⟩
  | .hbm, ⟨21, _⟩ => ⟨S2x2x8, .f32⟩
  | .hbm, ⟨22, _⟩ => ⟨S_, .f32⟩
  | .hbm, ⟨23, _⟩ => ⟨S2x2x8, .f32⟩
  | .hbm, ⟨24, _⟩ => ⟨S2x2x8, .f32⟩
  | .hbm, ⟨25, _⟩ => ⟨S2x2x8, .f32⟩
  | .hbm, ⟨26, _⟩ => ⟨S_, .f32⟩
  | .hbm, ⟨27, _⟩ => ⟨S2x2x8, .f32⟩
  | .hbm, ⟨28, _⟩ => ⟨S2x2x8, .f32⟩
  | .hbm, ⟨29, _⟩ => ⟨S2x2x8, .f32⟩
  | .hbm, ⟨30, _⟩ => ⟨S_, .f32⟩
  | .hbm, ⟨31, _⟩ => ⟨S2x2x8, .f32⟩
  | .hbm, ⟨32, _⟩ => ⟨S2x2x8, .f32⟩
  | .hbm, ⟨33, _⟩ => ⟨S2x2x8, .f32⟩
  | .hbm, ⟨34, _⟩ => ⟨S_, .f32⟩
  | .hbm, ⟨35, _⟩ => ⟨S2x2x8, .f32⟩
  | .hbm, ⟨36, _⟩ => ⟨S2x2x8, .f32⟩
  | _, _ => ⟨S2x2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamGainIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamGainRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRpb.lean ====
abbrev S2x8x15x31 : Shape := ⟨4, ![2, 8, 15, 31]⟩

abbrev nBuf : Space → Nat
  | .hbm => 7
  | .vmem => 7
  | .smem => 0
  | _ => 0

abbrev bufTy : (tb : Table) → Fin (tcTables nBuf tb) → BufTy
  | .hbm, ⟨0, _⟩ => ⟨S2x8x15x31, .f32⟩
  | .hbm, ⟨1, _⟩ => ⟨S2x8x15x31, .f32⟩
  | .hbm, ⟨2, _⟩ => ⟨S2x8x15x31, .f32⟩
  | .hbm, ⟨3, _⟩ => ⟨S2x8x15x31, .f32⟩
  | .hbm, ⟨4, _⟩ => ⟨S2x8x15x31, .f32⟩
  | .hbm, ⟨5, _⟩ => ⟨S2x8x15x31, .f32⟩
  | .hbm, ⟨6, _⟩ => ⟨S2x8x15x31, .f32⟩
  | .local _ .vmem, ⟨0, _⟩ => ⟨S2x8x15x31, .f32⟩
  | .local _ .vmem, ⟨1, _⟩ => ⟨S2x8x15x31, .f32⟩
  | .local _ .vmem, ⟨2, _⟩ => ⟨S2x8x15x31, .f32⟩
  | .local _ .vmem, ⟨3, _⟩ => ⟨S2x8x15x31, .f32⟩
  | .local _ .vmem, ⟨4, _⟩ => ⟨S2x8x15x31, .f32⟩
  | .local _ .vmem, ⟨5, _⟩ => ⟨S2x8x15x31, .f32⟩
  | .local _ .vmem, ⟨6, _⟩ => ⟨S2x8x15x31, .f32⟩
  | _, _ => ⟨S2x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x8x15x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8x15x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8x15x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x15x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x15x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x15x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x8x15x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamRpbIdeal.lean ====
abbrev S2x8x15x31 : Shape := ⟨4, ![2, 8, 15, 31]⟩

abbrev nBuf : Space → Nat
  | .hbm => 7
  | .vmem => 7
  | .smem => 0
  | _ => 0

abbrev bufTy : (tb : Table) → Fin (tcTables nBuf tb) → BufTy
  | .hbm, ⟨0, _⟩ => ⟨S2x8x15x31, .f32⟩
  | .hbm, ⟨1, _⟩ => ⟨S2x8x15x31, .f32⟩
  | .hbm, ⟨2, _⟩ => ⟨S2x8x15x31, .f32⟩
  | .hbm, ⟨3, _⟩ => ⟨S2x8x15x31, .f32⟩
  | .hbm, ⟨4, _⟩ => ⟨S2x8x15x31, .f32⟩
  | .hbm, ⟨5, _⟩ => ⟨S2x8x15x31, .f32⟩
  | .hbm, ⟨6, _⟩ => ⟨S2x8x15x31, .f32⟩
  | .local _ .vmem, ⟨0, _⟩ => ⟨S2x8x15x31, .f32⟩
  | .local _ .vmem, ⟨1, _⟩ => ⟨S2x8x15x31, .f32⟩
  | .local _ .vmem, ⟨2, _⟩ => ⟨S2x8x15x31, .f32⟩
  | .local _ .vmem, ⟨3, _⟩ => ⟨S2x8x15x31, .f32⟩
  | .local _ .vmem, ⟨4, _⟩ => ⟨S2x8x15x31, .f32⟩
  | .local _ .vmem, ⟨5, _⟩ => ⟨S2x8x15x31, .f32⟩
  | .local _ .vmem, ⟨6, _⟩ => ⟨S2x8x15x31, .f32⟩
  | _, _ => ⟨S2x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x8x15x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x8x15x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8x15x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x15x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x15x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x15x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x8x15x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamRpbRefIdeal.lean ====
abbrev S2x8x15x31 : Shape := ⟨4, ![2, 8, 15, 31]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8x15x31, .f32⟩
  | .hbm, ⟨1, _⟩ => ⟨S2x8x15x31, .f32⟩
  | .hbm, ⟨2, _⟩ => ⟨S2x8x15x31, .f32⟩
  | .hbm, ⟨3, _⟩ => ⟨S2x8x15x31, .f32⟩
  | .hbm, ⟨4, _⟩ => ⟨S_, .f32⟩
  | .hbm, ⟨5, _⟩ => ⟨S2x8x15x31, .f32⟩
  | .hbm, ⟨6, _⟩ => ⟨S2x8x15x31, .f32⟩
  | .hbm, ⟨7, _⟩ => ⟨S_, .f32⟩
  | .hbm, ⟨8, _⟩ => ⟨S2x8x15x31, .f32⟩
  | .hbm, ⟨9, _⟩ => ⟨S2x8x15x31, .f32⟩
  | .hbm, ⟨10, _⟩ => ⟨S2x8x15x31, .f32⟩
  | .hbm, ⟨11, _⟩ => ⟨S_, .f32⟩
  | .hbm, ⟨12, _⟩ => ⟨S2x8x15x31, .f32⟩
  | .hbm, ⟨13, _⟩ => ⟨S2x8x15x31, .f32⟩
  | .hbm, ⟨14, _⟩ => ⟨S2x8x15x31, .f32⟩
  | .hbm, ⟨15, _⟩ => ⟨S_, .f32⟩
  | .hbm, ⟨16, _⟩ => ⟨S2x8x15x31, .f32⟩
  | .hbm, ⟨17, _⟩ => ⟨S2x8x15x31, .f32⟩
  | .hbm, ⟨18, _⟩ => ⟨S2x8x15x31, .f32⟩
  | .hbm, ⟨19, _⟩ => ⟨S_, .f32⟩
  | .hbm, ⟨20, _⟩ => ⟨S2x8x15x31, .f32⟩
  | .hbm, ⟨21, _⟩ => ⟨S2x8x15x31, .f32⟩
  | .hbm, ⟨22, _⟩ => ⟨S_, .f32⟩
  | .hbm, ⟨23, _⟩ => ⟨S2x8x15x31, .f32⟩
  | .hbm, ⟨24, _⟩ => ⟨S2x8x15x31, .f32⟩
  | .hbm, ⟨25, _⟩ => ⟨S2x8x15x31, .f32⟩
  | .hbm, ⟨26, _⟩ => ⟨S_, .f32⟩
  | .hbm, ⟨27, _⟩ => ⟨S2x8x15x31, .f32⟩
  | .hbm, ⟨28, _⟩ => ⟨S2x8x15x31, .f32⟩
  | .hbm, ⟨29, _⟩ => ⟨S2x8x15x31, .f32⟩
  | .hbm, ⟨30, _⟩ => ⟨S_, .f32⟩
  | .hbm, ⟨31, _⟩ => ⟨S2x8x15x31, .f32⟩
  | .hbm, ⟨32, _⟩ => ⟨S2x8x15x31, .f32⟩
  | .hbm, ⟨33, _⟩ => ⟨S2x8x15x31, .f32⟩
  | .hbm, ⟨34, _⟩ => ⟨S_, .f32⟩
  | .hbm, ⟨35, _⟩ => ⟨S2x8x15x31, .f32⟩
  | .hbm, ⟨36, _⟩ => ⟨S2x8x15x31, .f32⟩
  | _, _ => ⟨S2x8x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAbOut.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAbOutIdeal.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAbOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCIn.lean ====
abbrev S2x1024x1296 : Shape := ⟨3, ![2, 1024, 1296]⟩
abbrev S1x128x1296 : Shape := ⟨3, ![1, 128, 1296]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1296, .f32⟩
  | .hbm, ⟨1, _⟩ => ⟨S2x1024x1296, .f32⟩
  | .hbm, ⟨2, _⟩ => ⟨S2x1024x1296, .f32⟩
  | .hbm, ⟨3, _⟩ => ⟨S2x1024x1296, .f32⟩
  | .hbm, ⟨4, _⟩ => ⟨S2x1024x1296, .f32⟩
  | .hbm, ⟨5, _⟩ => ⟨S2x1024x1296, .f32⟩
  | .hbm, ⟨6, _⟩ => ⟨S2x1024x1296, .f32⟩
  | .local _ .vmem, ⟨0, _⟩ => ⟨S1x128x1296, .f32⟩
  | .local _ .vmem, ⟨1, _⟩ => ⟨S1x128x1296, .f32⟩
  | .local _ .vmem, ⟨2, _⟩ => ⟨S1x128x1296, .f32⟩
  | .local _ .vmem, ⟨3, _⟩ => ⟨S1x128x1296, .f32⟩
  | .local _ .vmem, ⟨4, _⟩ => ⟨S1x128x1296, .f32⟩
  | .local _ .vmem, ⟨5, _⟩ => ⟨S1x128x1296, .f32⟩
  | .local _ .vmem, ⟨6, _⟩ => ⟨S1x128x1296, .f32⟩
  | .local _ .vmem, ⟨7, _⟩ => ⟨S1x128x1296, .f32⟩
  | .local _ .vmem, ⟨8, _⟩ => ⟨S1x128x1296, .f32⟩
  | .local _ .vmem, ⟨9, _⟩ => ⟨S1x128x1296, .f32⟩
  | .local _ .vmem, ⟨10, _⟩ => ⟨S1x128x1296, .f32⟩
  | .local _ .vmem, ⟨11, _⟩ => ⟨S1x128x1296, .f32⟩
  | .local _ .vmem, ⟨12, _⟩ => ⟨S1x128x1296, .f32⟩
  | .local _ .vmem, ⟨13, _⟩ => ⟨S1x128x1296, .f32⟩
  | _, _ => ⟨S2x1024x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1296 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1296 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1296 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1296 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamCInIdeal.lean ====
abbrev S2x1024x1296 : Shape := ⟨3, ![2, 1024, 1296]⟩
abbrev S1x128x1296 : Shape := ⟨3, ![1, 128, 1296]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1296, .f32⟩
  | .hbm, ⟨1, _⟩ => ⟨S2x1024x1296, .f32⟩
  | .hbm, ⟨2, _⟩ => ⟨S2x1024x1296, .f32⟩
  | .hbm, ⟨3, _⟩ => ⟨S2x1024x1296, .f32⟩
  | .hbm, ⟨4, _⟩ => ⟨S2x1024x1296, .f32⟩
  | .hbm, ⟨5, _⟩ => ⟨S2x1024x1296, .f32⟩
  | .hbm, ⟨6, _⟩ => ⟨S2x1024x1296, .f32⟩
  | .local _ .vmem, ⟨0, _⟩ => ⟨S1x128x1296, .f32⟩
  | .local _ .vmem, ⟨1, _⟩ => ⟨S1x128x1296, .f32⟩
  | .local _ .vmem, ⟨2, _⟩ => ⟨S1x128x1296, .f32⟩
  | .local _ .vmem, ⟨3, _⟩ => ⟨S1x128x1296, .f32⟩
  | .local _ .vmem, ⟨4, _⟩ => ⟨S1x128x1296, .f32⟩
  | .local _ .vmem, ⟨5, _⟩ => ⟨S1x128x1296, .f32⟩
  | .local _ .vmem, ⟨6, _⟩ => ⟨S1x128x1296, .f32⟩
  | .local _ .vmem, ⟨7, _⟩ => ⟨S1x128x1296, .f32⟩
  | .local _ .vmem, ⟨8, _⟩ => ⟨S1x128x1296, .f32⟩
  | .local _ .vmem, ⟨9, _⟩ => ⟨S1x128x1296, .f32⟩
  | .local _ .vmem, ⟨10, _⟩ => ⟨S1x128x1296, .f32⟩
  | .local _ .vmem, ⟨11, _⟩ => ⟨S1x128x1296, .f32⟩
  | .local _ .vmem, ⟨12, _⟩ => ⟨S1x128x1296, .f32⟩
  | .local _ .vmem, ⟨13, _⟩ => ⟨S1x128x1296, .f32⟩
  | _, _ => ⟨S2x1024x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1296 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1296 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1296 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1296 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1296 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1296 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamCInRefIdeal.lean ====
abbrev S2x1024x1296 : Shape := ⟨3, ![2, 1024, 1296]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1296, .f32⟩
  | .hbm, ⟨1, _⟩ => ⟨S2x1024x1296, .f32⟩
  | .hbm, ⟨2, _⟩ => ⟨S2x1024x1296, .f32⟩
  | .hbm, ⟨3, _⟩ => ⟨S2x1024x1296, .f32⟩
  | .hbm, ⟨4, _⟩ => ⟨S_, .f32⟩
  | .hbm, ⟨5, _⟩ => ⟨S2x1024x1296, .f32⟩
  | .hbm, ⟨6, _⟩ => ⟨S2x1024x1296, .f32⟩
  | .hbm, ⟨7, _⟩ => ⟨S_, .f32⟩
  | .hbm, ⟨8, _⟩ => ⟨S2x1024x1296, .f32⟩
  | .hbm, ⟨9, _⟩ => ⟨S2x1024x1296, .f32⟩
  | .hbm, ⟨10, _⟩ => ⟨S2x1024x1296, .f32⟩
  | .hbm, ⟨11, _⟩ => ⟨S_, .f32⟩
  | .hbm, ⟨12, _⟩ => ⟨S2x1024x1296, .f32⟩
  | .hbm, ⟨13, _⟩ => ⟨S2x1024x1296, .f32⟩
  | .hbm, ⟨14, _⟩ => ⟨S2x1024x1296, .f32⟩
  | .hbm, ⟨15, _⟩ => ⟨S_, .f32⟩
  | .hbm, ⟨16, _⟩ => ⟨S2x1024x1296, .f32⟩
  | .hbm, ⟨17, _⟩ => ⟨S2x1024x1296, .f32⟩
  | .hbm, ⟨18, _⟩ => ⟨S2x1024x1296, .f32⟩
  | .hbm, ⟨19, _⟩ => ⟨S_, .f32⟩
  | .hbm, ⟨20, _⟩ => ⟨S2x1024x1296, .f32⟩
  | .hbm, ⟨21, _⟩ => ⟨S2x1024x1296, .f32⟩
  | .hbm, ⟨22, _⟩ => ⟨S_, .f32⟩
  | .hbm, ⟨23, _⟩ => ⟨S2x1024x1296, .f32⟩
  | .hbm, ⟨24, _⟩ => ⟨S2x1024x1296, .f32⟩
  | .hbm, ⟨25, _⟩ => ⟨S2x1024x1296, .f32⟩
  | .hbm, ⟨26, _⟩ => ⟨S_, .f32⟩
  | .hbm, ⟨27, _⟩ => ⟨S2x1024x1296, .f32⟩
  | .hbm, ⟨28, _⟩ => ⟨S2x1024x1296, .f32⟩
  | .hbm, ⟨29, _⟩ => ⟨S2x1024x1296, .f32⟩
  | .hbm, ⟨30, _⟩ => ⟨S_, .f32⟩
  | .hbm, ⟨31, _⟩ => ⟨S2x1024x1296, .f32⟩
  | .hbm, ⟨32, _⟩ => ⟨S2x1024x1296, .f32⟩
  | .hbm, ⟨33, _⟩ => ⟨S2x1024x1296, .f32⟩
  | .hbm, ⟨34, _⟩ => ⟨S_, .f32⟩
  | .hbm, ⟨35, _⟩ => ⟨S2x1024x1296, .f32⟩
  | .hbm, ⟨36, _⟩ => ⟨S2x1024x1296, .f32⟩
  | _, _ => ⟨S2x1024x1296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCConv.lean ====
abbrev S2x5x768 : Shape := ⟨3, ![2, 5, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x5x768, .f32⟩
  | .hbm, ⟨1, _⟩ => ⟨S2x5x768, .f32⟩
  | .hbm, ⟨2, _⟩ => ⟨S2x5x768, .f32⟩
  | .hbm, ⟨3, _⟩ => ⟨S2x5x768, .f32⟩
  | .hbm, ⟨4, _⟩ => ⟨S2x5x768, .f32⟩
  | .hbm, ⟨5, _⟩ => ⟨S2x5x768, .f32⟩
  | .hbm, ⟨6, _⟩ => ⟨S2x5x768, .f32⟩
  | .local _ .vmem, ⟨0, _⟩ => ⟨S2x5x768, .f32⟩
  | .local _ .vmem, ⟨1, _⟩ => ⟨S2x5x768, .f32⟩
  | .local _ .vmem, ⟨2, _⟩ => ⟨S2x5x768, .f32⟩
  | .local _ .vmem, ⟨3, _⟩ => ⟨S2x5x768, .f32⟩
  | .local _ .vmem, ⟨4, _⟩ => ⟨S2x5x768, .f32⟩
  | .local _ .vmem, ⟨5, _⟩ => ⟨S2x5x768, .f32⟩
  | .local _ .vmem, ⟨6, _⟩ => ⟨S2x5x768, .f32⟩
  | _, _ => ⟨S2x5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x5x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x5x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x5x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamCConvIdeal.lean ====
abbrev S2x5x768 : Shape := ⟨3, ![2, 5, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x5x768, .f32⟩
  | .hbm, ⟨1, _⟩ => ⟨S2x5x768, .f32⟩
  | .hbm, ⟨2, _⟩ => ⟨S2x5x768, .f32⟩
  | .hbm, ⟨3, _⟩ => ⟨S2x5x768, .f32⟩
  | .hbm, ⟨4, _⟩ => ⟨S2x5x768, .f32⟩
  | .hbm, ⟨5, _⟩ => ⟨S2x5x768, .f32⟩
  | .hbm, ⟨6, _⟩ => ⟨S2x5x768, .f32⟩
  | .local _ .vmem, ⟨0, _⟩ => ⟨S2x5x768, .f32⟩
  | .local _ .vmem, ⟨1, _⟩ => ⟨S2x5x768, .f32⟩
  | .local _ .vmem, ⟨2, _⟩ => ⟨S2x5x768, .f32⟩
  | .local _ .vmem, ⟨3, _⟩ => ⟨S2x5x768, .f32⟩
  | .local _ .vmem, ⟨4, _⟩ => ⟨S2x5x768, .f32⟩
  | .local _ .vmem, ⟨5, _⟩ => ⟨S2x5x768, .f32⟩
  | .local _ .vmem, ⟨6, _⟩ => ⟨S2x5x768, .f32⟩
  | _, _ => ⟨S2x5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x5x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x5x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x5x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamCConvRefIdeal.lean ====
abbrev S2x5x768 : Shape := ⟨3, ![2, 5, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5x768, .f32⟩
  | .hbm, ⟨1, _⟩ => ⟨S2x5x768, .f32⟩
  | .hbm, ⟨2, _⟩ => ⟨S2x5x768, .f32⟩
  | .hbm, ⟨3, _⟩ => ⟨S2x5x768, .f32⟩
  | .hbm, ⟨4, _⟩ => ⟨S_, .f32⟩
  | .hbm, ⟨5, _⟩ => ⟨S2x5x768, .f32⟩
  | .hbm, ⟨6, _⟩ => ⟨S2x5x768, .f32⟩
  | .hbm, ⟨7, _⟩ => ⟨S_, .f32⟩
  | .hbm, ⟨8, _⟩ => ⟨S2x5x768, .f32⟩
  | .hbm, ⟨9, _⟩ => ⟨S2x5x768, .f32⟩
  | .hbm, ⟨10, _⟩ => ⟨S2x5x768, .f32⟩
  | .hbm, ⟨11, _⟩ => ⟨S_, .f32⟩
  | .hbm, ⟨12, _⟩ => ⟨S2x5x768, .f32⟩
  | .hbm, ⟨13, _⟩ => ⟨S2x5x768, .f32⟩
  | .hbm, ⟨14, _⟩ => ⟨S2x5x768, .f32⟩
  | .hbm, ⟨15, _⟩ => ⟨S_, .f32⟩
  | .hbm, ⟨16, _⟩ => ⟨S2x5x768, .f32⟩
  | .hbm, ⟨17, _⟩ => ⟨S2x5x768, .f32⟩
  | .hbm, ⟨18, _⟩ => ⟨S2x5x768, .f32⟩
  | .hbm, ⟨19, _⟩ => ⟨S_, .f32⟩
  | .hbm, ⟨20, _⟩ => ⟨S2x5x768, .f32⟩
  | .hbm, ⟨21, _⟩ => ⟨S2x5x768, .f32⟩
  | .hbm, ⟨22, _⟩ => ⟨S_, .f32⟩
  | .hbm, ⟨23, _⟩ => ⟨S2x5x768, .f32⟩
  | .hbm, ⟨24, _⟩ => ⟨S2x5x768, .f32⟩
  | .hbm, ⟨25, _⟩ => ⟨S2x5x768, .f32⟩
  | .hbm, ⟨26, _⟩ => ⟨S_, .f32⟩
  | .hbm, ⟨27, _⟩ => ⟨S2x5x768, .f32⟩
  | .hbm, ⟨28, _⟩ => ⟨S2x5x768, .f32⟩
  | .hbm, ⟨29, _⟩ => ⟨S2x5x768, .f32⟩
  | .hbm, ⟨30, _⟩ => ⟨S_, .f32⟩
  | .hbm, ⟨31, _⟩ => ⟨S2x5x768, .f32⟩
  | .hbm, ⟨32, _⟩ => ⟨S2x5x768, .f32⟩
  | .hbm, ⟨33, _⟩ => ⟨S2x5x768, .f32⟩
  | .hbm, ⟨34, _⟩ => ⟨S_, .f32⟩
  | .hbm, ⟨35, _⟩ => ⟨S2x5x768, .f32⟩
  | .hbm, ⟨36, _⟩ => ⟨S2x5x768, .f32⟩
  | _, _ => ⟨S2x5x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCBias.lean ====
abbrev S2x768 : Shape := ⟨2, ![2, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamCBiasIdeal.lean ====
abbrev S2x768 : Shape := ⟨2, ![2, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamCBiasRefIdeal.lean ====
abbrev S2x768 : Shape := ⟨2, ![2, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .f32⟩
  | .hbm, ⟨8, _⟩ => ⟨S2x768, .f32⟩
  | .hbm, ⟨9, _⟩ => ⟨S2x768, .f32⟩
  | .hbm, ⟨10, _⟩ => ⟨S2x768, .f32⟩
  | .hbm, ⟨11, _⟩ => ⟨S_, .f32⟩
  | .hbm, ⟨12, _⟩ => ⟨S2x768, .f32⟩
  | .hbm, ⟨13, _⟩ => ⟨S2x768, .f32⟩
  | .hbm, ⟨14, _⟩ => ⟨S2x768, .f32⟩
  | .hbm, ⟨15, _⟩ => ⟨S_, .f32⟩
  | .hbm, ⟨16, _⟩ => ⟨S2x768, .f32⟩
  | .hbm, ⟨17, _⟩ => ⟨S2x768, .f32⟩
  | .hbm, ⟨18, _⟩ => ⟨S2x768, .f32⟩
  | .hbm, ⟨19, _⟩ => ⟨S_, .f32⟩
  | .hbm, ⟨20, _⟩ => ⟨S2x768, .f32⟩
  | .hbm, ⟨21, _⟩ => ⟨S2x768, .f32⟩
  | .hbm, ⟨22, _⟩ => ⟨S_, .f32⟩
  | .hbm, ⟨23, _⟩ => ⟨S2x768, .f32⟩
  | .hbm, ⟨24, _⟩ => ⟨S2x768, .f32⟩
  | .hbm, ⟨25, _⟩ => ⟨S2x768, .f32⟩
  | .hbm, ⟨26, _⟩ => ⟨S_, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S2x768, .f32⟩
  | .hbm, ⟨34, _⟩ => ⟨S_, .f32⟩
  | .hbm, ⟨35, _⟩ => ⟨S2x768, .f32⟩
  | .hbm, ⟨36, _⟩ => ⟨S2x768, .f32⟩
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDt.lean ====
abbrev S2x2x32 : Shape := ⟨3, ![2, 2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32, .f32⟩
  | .hbm, ⟨1, _⟩ => ⟨S2x2x32, .f32⟩
  | .hbm, ⟨2, _⟩ => ⟨S2x2x32, .f32⟩
  | .hbm, ⟨3, _⟩ => ⟨S2x2x32, .f32⟩
  | .hbm, ⟨4, _⟩ => ⟨S2x2x32, .f32⟩
  | .hbm, ⟨5, _⟩ => ⟨S2x2x32, .f32⟩
  | .hbm, ⟨6, _⟩ => ⟨S2x2x32, .f32⟩
  | .local _ .vmem, ⟨0, _⟩ => ⟨S2x2x32, .f32⟩
  | .local _ .vmem, ⟨1, _⟩ => ⟨S2x2x32, .f32⟩
  | .local _ .vmem, ⟨2, _⟩ => ⟨S2x2x32, .f32⟩
  | .local _ .vmem, ⟨3, _⟩ => ⟨S2x2x32, .f32⟩
  | .local _ .vmem, ⟨4, _⟩ => ⟨S2x2x32, .f32⟩
  | .local _ .vmem, ⟨5, _⟩ => ⟨S2x2x32, .f32⟩
  | .local _ .vmem, ⟨6, _⟩ => ⟨S2x2x32, .f32⟩
  | _, _ => ⟨S2x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamDtIdeal.lean ====
abbrev S2x2x32 : Shape := ⟨3, ![2, 2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x2x32, .f32⟩
  | .hbm, ⟨1, _⟩ => ⟨S2x2x32, .f32⟩
  | .hbm, ⟨2, _⟩ => ⟨S2x2x32, .f32⟩
  | .hbm, ⟨3, _⟩ => ⟨S2x2x32, .f32⟩
  | .hbm, ⟨4, _⟩ => ⟨S2x2x32, .f32⟩
  | .hbm, ⟨5, _⟩ => ⟨S2x2x32, .f32⟩
  | .hbm, ⟨6, _⟩ => ⟨S2x2x32, .f32⟩
  | .local _ .vmem, ⟨0, _⟩ => ⟨S2x2x32, .f32⟩
  | .local _ .vmem, ⟨1, _⟩ => ⟨S2x2x32, .f32⟩
  | .local _ .vmem, ⟨2, _⟩ => ⟨S2x2x32, .f32⟩
  | .local _ .vmem, ⟨3, _⟩ => ⟨S2x2x32, .f32⟩
  | .local _ .vmem, ⟨4, _⟩ => ⟨S2x2x32, .f32⟩
  | .local _ .vmem, ⟨5, _⟩ => ⟨S2x2x32, .f32⟩
  | .local _ .vmem, ⟨6, _⟩ => ⟨S2x2x32, .f32⟩
  | _, _ => ⟨S2x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamDtRefIdeal.lean ====
abbrev S2x2x32 : Shape := ⟨3, ![2, 2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x32, .f32⟩
  | .hbm, ⟨1, _⟩ => ⟨S2x2x32, .f32⟩
  | .hbm, ⟨2, _⟩ => ⟨S2x2x32, .f32⟩
  | .hbm, ⟨3, _⟩ => ⟨S2x2x32, .f32⟩
  | .hbm, ⟨4, _⟩ => ⟨S_, .f32⟩
  | .hbm, ⟨5, _⟩ => ⟨S2x2x32, .f32⟩
  | .hbm, ⟨6, _⟩ => ⟨S2x2x32, .f32⟩
  | .hbm, ⟨7, _⟩ => ⟨S_, .f32⟩
  | .hbm, ⟨8, _⟩ => ⟨S2x2x32, .f32⟩
  | .hbm, ⟨9, _⟩ => ⟨S2x2x32, .f32⟩
  | .hbm, ⟨10, _⟩ => ⟨S2x2x32, .f32⟩
  | .hbm, ⟨11, _⟩ => ⟨S_, .f32⟩
  | .hbm, ⟨12, _⟩ => ⟨S2x2x32, .f32⟩
  | .hbm, ⟨13, _⟩ => ⟨S2x2x32, .f32⟩
  | .hbm, ⟨14, _⟩ => ⟨S2x2x32, .f32⟩
  | .hbm, ⟨15, _⟩ => ⟨S_, .f32⟩
  | .hbm, ⟨16, _⟩ => ⟨S2x2x32, .f32⟩
  | .hbm, ⟨17, _⟩ => ⟨S2x2x32, .f32⟩
  | .hbm, ⟨18, _⟩ => ⟨S2x2x32, .f32⟩
  | .hbm, ⟨19, _⟩ => ⟨S_, .f32⟩
  | .hbm, ⟨20, _⟩ => ⟨S2x2x32, .f32⟩
  | .hbm, ⟨21, _⟩ => ⟨S2x2x32, .f32⟩
  | .hbm, ⟨22, _⟩ => ⟨S_, .f32⟩
  | .hbm, ⟨23, _⟩ => ⟨S2x2x32, .f32⟩
  | .hbm, ⟨24, _⟩ => ⟨S2x2x32, .f32⟩
  | .hbm, ⟨25, _⟩ => ⟨S2x2x32, .f32⟩
  | .hbm, ⟨26, _⟩ => ⟨S_, .f32⟩
  | .hbm, ⟨27, _⟩ => ⟨S2x2x32, .f32⟩
  | .hbm, ⟨28, _⟩ => ⟨S2x2x32, .f32⟩
  | .hbm, ⟨29, _⟩ => ⟨S2x2x32, .f32⟩
  | .hbm, ⟨30, _⟩ => ⟨S_, .f32⟩
  | .hbm, ⟨31, _⟩ => ⟨S2x2x32, .f32⟩
  | .hbm, ⟨32, _⟩ => ⟨S2x2x32, .f32⟩
  | .hbm, ⟨33, _⟩ => ⟨S2x2x32, .f32⟩
  | .hbm, ⟨34, _⟩ => ⟨S_, .f32⟩
  | .hbm, ⟨35, _⟩ => ⟨S2x2x32, .f32⟩
  | .hbm, ⟨36, _⟩ => ⟨S2x2x32, .f32⟩
  | _, _ => ⟨S2x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSkip.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSkipIdeal.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSkipRefIdeal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCOut.lean ====
abbrev S2x512x1024 : Shape := ⟨3, ![2, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamCOutIdeal.lean ====
abbrev S2x512x1024 : Shape := ⟨3, ![2, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamCOutRefIdeal.lean ====
abbrev S2x512x1024 : Shape := ⟨3, ![2, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4x1024x1408 : Shape := ⟨3, ![4, 1024, 1408]⟩
abbrev S1x128x1408 : Shape := ⟨3, ![1, 128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpIdeal.lean ====
abbrev S4x1024x1408 : Shape := ⟨3, ![4, 1024, 1408]⟩
abbrev S1x128x1408 : Shape := ⟨3, ![1, 128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpRefIdeal.lean ====
abbrev S4x1024x1408 : Shape := ⟨3, ![4, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFConv.lean ====
abbrev S4x3x1408 : Shape := ⟨3, ![4, 3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S4x3x1408, .f32⟩
  | .hbm, ⟨5, _⟩ => ⟨S4x3x1408, .f32⟩
  | .hbm, ⟨6, _⟩ => ⟨S4x3x1408, .f32⟩
  | .local _ .vmem, ⟨0, _⟩ => ⟨S4x3x1408, .f32⟩
  | .local _ .vmem, ⟨1, _⟩ => ⟨S4x3x1408, .f32⟩
  | .local _ .vmem, ⟨2, _⟩ => ⟨S4x3x1408, .f32⟩
  | .local _ .vmem, ⟨3, _⟩ => ⟨S4x3x1408, .f32⟩
  | .local _ .vmem, ⟨4, _⟩ => ⟨S4x3x1408, .f32⟩
  | .local _ .vmem, ⟨5, _⟩ => ⟨S4x3x1408, .f32⟩
  | .local _ .vmem, ⟨6, _⟩ => ⟨S4x3x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamFConvIdeal.lean ====
abbrev S4x3x1408 : Shape := ⟨3, ![4, 3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S4x3x1408, .f32⟩
  | .hbm, ⟨5, _⟩ => ⟨S4x3x1408, .f32⟩
  | .hbm, ⟨6, _⟩ => ⟨S4x3x1408, .f32⟩
  | .local _ .vmem, ⟨0, _⟩ => ⟨S4x3x1408, .f32⟩
  | .local _ .vmem, ⟨1, _⟩ => ⟨S4x3x1408, .f32⟩
  | .local _ .vmem, ⟨2, _⟩ => ⟨S4x3x1408, .f32⟩
  | .local _ .vmem, ⟨3, _⟩ => ⟨S4x3x1408, .f32⟩
  | .local _ .vmem, ⟨4, _⟩ => ⟨S4x3x1408, .f32⟩
  | .local _ .vmem, ⟨5, _⟩ => ⟨S4x3x1408, .f32⟩
  | .local _ .vmem, ⟨6, _⟩ => ⟨S4x3x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamFConvRefIdeal.lean ====
abbrev S4x3x1408 : Shape := ⟨3, ![4, 3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S_, .f32⟩
  | .hbm, ⟨5, _⟩ => ⟨S4x3x1408, .f32⟩
  | .hbm, ⟨6, _⟩ => ⟨S4x3x1408, .f32⟩
  | .hbm, ⟨7, _⟩ => ⟨S_, .f32⟩
  | .hbm, ⟨8, _⟩ => ⟨S4x3x1408, .f32⟩
  | .hbm, ⟨9, _⟩ => ⟨S4x3x1408, .f32⟩
  | .hbm, ⟨10, _⟩ => ⟨S4x3x1408, .f32⟩
  | .hbm, ⟨11, _⟩ => ⟨S_, .f32⟩
  | .hbm, ⟨12, _⟩ => ⟨S4x3x1408, .f32⟩
  | .hbm, ⟨13, _⟩ => ⟨S4x3x1408, .f32⟩
  | .hbm, ⟨14, _⟩ => ⟨S4x3x1408, .f32⟩
  | .hbm, ⟨15, _⟩ => ⟨S_, .f32⟩
  | .hbm, ⟨16, _⟩ => ⟨S4x3x1408, .f32⟩
  | .hbm, ⟨17, _⟩ => ⟨S4x3x1408, .f32⟩
  | .hbm, ⟨18, _⟩ => ⟨S4x3x1408, .f32⟩
  | .hbm, ⟨19, _⟩ => ⟨S_, .f32⟩
  | .hbm, ⟨20, _⟩ => ⟨S4x3x1408, .f32⟩
  | .hbm, ⟨21, _⟩ => ⟨S4x3x1408, .f32⟩
  | .hbm, ⟨22, _⟩ => ⟨S_, .f32⟩
  | .hbm, ⟨23, _⟩ => ⟨S4x3x1408, .f32⟩
  | .hbm, ⟨24, _⟩ => ⟨S4x3x1408, .f32⟩
  | .hbm, ⟨25, _⟩ => ⟨S4x3x1408, .f32⟩
  | .hbm, ⟨26, _⟩ => ⟨S_, .f32⟩
  | .hbm, ⟨27, _⟩ => ⟨S4x3x1408, .f32⟩
  | .hbm, ⟨28, _⟩ => ⟨S4x3x1408, .f32⟩
  | .hbm, ⟨29, _⟩ => ⟨S4x3x1408, .f32⟩
  | .hbm, ⟨30, _⟩ => ⟨S_, .f32⟩
  | .hbm, ⟨31, _⟩ => ⟨S4x3x1408, .f32⟩
  | .hbm, ⟨32, _⟩ => ⟨S4x3x1408, .f32⟩
  | .hbm, ⟨33, _⟩ => ⟨S4x3x1408, .f32⟩
  | .hbm, ⟨34, _⟩ => ⟨S_, .f32⟩
  | .hbm, ⟨35, _⟩ => ⟨S4x3x1408, .f32⟩
  | .hbm, ⟨36, _⟩ => ⟨S4x3x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFBias.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamFBiasIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamFBiasRefIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S4x704x1024 : Shape := ⟨3, ![4, 704, 1024]⟩
abbrev S1x176x1024 : Shape := ⟨3, ![1, 176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Step.lean ====
abbrev S8192x1024 : Shape := ⟨2, ![8192, 1024]⟩
abbrev S1024x64 : Shape := ⟨2, ![1024, 64]⟩
abbrev S8192x64 : Shape := ⟨2, ![8192, 64]⟩
abbrev S2048x1024 : Shape := ⟨2, ![2048, 1024]⟩
abbrev S2048x64 : Shape := ⟨2, ![2048, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S2048x1024, .bf16⟩
  | .local _ .vmem, ⟨1, _⟩ => ⟨S2048x1024, .bf16⟩
  | .local _ .vmem, ⟨2, _⟩ => ⟨S1024x64, .bf16⟩
  | .local _ .vmem, ⟨3, _⟩ => ⟨S2048x64, .f32⟩
  | .local _ .vmem, ⟨4, _⟩ => ⟨S2048x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepIdeal.lean ====
abbrev S8192x1024 : Shape := ⟨2, ![8192, 1024]⟩
abbrev S1024x64 : Shape := ⟨2, ![1024, 64]⟩
abbrev S8192x64 : Shape := ⟨2, ![8192, 64]⟩
abbrev S2048x1024 : Shape := ⟨2, ![2048, 1024]⟩
abbrev S2048x64 : Shape := ⟨2, ![2048, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S2048x1024, .bf16⟩
  | .local _ .vmem, ⟨1, _⟩ => ⟨S2048x1024, .bf16⟩
  | .local _ .vmem, ⟨2, _⟩ => ⟨S1024x64, .bf16⟩
  | .local _ .vmem, ⟨3, _⟩ => ⟨S2048x64, .f32⟩
  | .local _ .vmem, ⟨4, _⟩ => ⟨S2048x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepRefIdeal.lean ====
abbrev S8192x1024 : Shape := ⟨2, ![8192, 1024]⟩
abbrev S1024x64 : Shape := ⟨2, ![1024, 64]⟩
abbrev S8192x64 : Shape := ⟨2, ![8192, 64]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .hbm, ⟨3, _⟩ => ⟨S8192x64, .bf16⟩
  | .hbm, ⟨4, _⟩ => ⟨S8192x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepDa.lean ====
abbrev S8192x64 : Shape := ⟨2, ![8192, 64]⟩
abbrev S1024x64 : Shape := ⟨2, ![1024, 64]⟩
abbrev S8192x1024 : Shape := ⟨2, ![8192, 1024]⟩
abbrev S2048x64 : Shape := ⟨2, ![2048, 64]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S1024x64, .bf16⟩
  | .hbm, ⟨2, _⟩ => ⟨S8192x1024, .bf16⟩
  | .local _ .vmem, ⟨0, _⟩ => ⟨S2048x64, .f32⟩
  | .local _ .vmem, ⟨1, _⟩ => ⟨S2048x64, .f32⟩
  | .local _ .vmem, ⟨2, _⟩ => ⟨S1024x64, .bf16⟩
  | .local _ .vmem, ⟨3, _⟩ => ⟨S2048x1024, .bf16⟩
  | .local _ .vmem, ⟨4, _⟩ => ⟨S2048x1024, .bf16⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepDaIdeal.lean ====
abbrev S8192x64 : Shape := ⟨2, ![8192, 64]⟩
abbrev S1024x64 : Shape := ⟨2, ![1024, 64]⟩
abbrev S8192x1024 : Shape := ⟨2, ![8192, 1024]⟩
abbrev S2048x64 : Shape := ⟨2, ![2048, 64]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S1024x64, .bf16⟩
  | .hbm, ⟨2, _⟩ => ⟨S8192x1024, .bf16⟩
  | .local _ .vmem, ⟨0, _⟩ => ⟨S2048x64, .f32⟩
  | .local _ .vmem, ⟨1, _⟩ => ⟨S2048x64, .f32⟩
  | .local _ .vmem, ⟨2, _⟩ => ⟨S1024x64, .bf16⟩
  | .local _ .vmem, ⟨3, _⟩ => ⟨S2048x1024, .bf16⟩
  | .local _ .vmem, ⟨4, _⟩ => ⟨S2048x1024, .bf16⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepDaRefIdeal.lean ====
abbrev S8192x64 : Shape := ⟨2, ![8192, 64]⟩
abbrev S1024x64 : Shape := ⟨2, ![1024, 64]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S1024x64, .bf16⟩
  | .hbm, ⟨2, _⟩ => ⟨S8192x64, .bf16⟩
  | .hbm, ⟨3, _⟩ => ⟨S8192x64, .f32⟩
  | .hbm, ⟨4, _⟩ => ⟨S8192x1024, .f32⟩
  | .hbm, ⟨5, _⟩ => ⟨S8192x1024, .bf16⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== StepDw.lean ====
abbrev S8192x1024 : Shape := ⟨2, ![8192, 1024]⟩
abbrev S8192x64 : Shape := ⟨2, ![8192, 64]⟩
abbrev S1024x64 : Shape := ⟨2, ![1024, 64]⟩
abbrev S2048x1024 : Shape := ⟨2, ![2048, 1024]⟩
abbrev S2048x64 : Shape := ⟨2, ![2048, 64]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x64, .f32⟩
  | .hbm, ⟨2, _⟩ => ⟨S1024x64, .bf16⟩
  | .local _ .vmem, ⟨0, _⟩ => ⟨S2048x1024, .bf16⟩
  | .local _ .vmem, ⟨1, _⟩ => ⟨S2048x1024, .bf16⟩
  | .local _ .vmem, ⟨2, _⟩ => ⟨S2048x64, .f32⟩
  | .local _ .vmem, ⟨3, _⟩ => ⟨S2048x64, .f32⟩
  | .local _ .vmem, ⟨4, _⟩ => ⟨S1024x64, .bf16⟩
  | .local _ .vmem, ⟨5, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StepDwIdeal.lean ====
abbrev S8192x1024 : Shape := ⟨2, ![8192, 1024]⟩
abbrev S8192x64 : Shape := ⟨2, ![8192, 64]⟩
abbrev S1024x64 : Shape := ⟨2, ![1024, 64]⟩
abbrev S2048x1024 : Shape := ⟨2, ![2048, 1024]⟩
abbrev S2048x64 : Shape := ⟨2, ![2048, 64]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x64, .f32⟩
  | .hbm, ⟨2, _⟩ => ⟨S1024x64, .bf16⟩
  | .local _ .vmem, ⟨0, _⟩ => ⟨S2048x1024, .bf16⟩
  | .local _ .vmem, ⟨1, _⟩ => ⟨S2048x1024, .bf16⟩
  | .local _ .vmem, ⟨2, _⟩ => ⟨S2048x64, .f32⟩
  | .local _ .vmem, ⟨3, _⟩ => ⟨S2048x64, .f32⟩
  | .local _ .vmem, ⟨4, _⟩ => ⟨S1024x64, .bf16⟩
  | .local _ .vmem, ⟨5, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StepDwRefIdeal.lean ====
abbrev S8192x1024 : Shape := ⟨2, ![8192, 1024]⟩
abbrev S8192x64 : Shape := ⟨2, ![8192, 64]⟩
abbrev S64x1024 : Shape := ⟨2, ![64, 1024]⟩
abbrev S1024x64 : Shape := ⟨2, ![1024, 64]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x64, .f32⟩
  | .hbm, ⟨2, _⟩ => ⟨S8192x64, .bf16⟩
  | .hbm, ⟨3, _⟩ => ⟨S8192x64, .f32⟩
  | .hbm, ⟨4, _⟩ => ⟨S64x1024, .f32⟩
  | .hbm, ⟨5, _⟩ => ⟨S1024x64, .f32⟩
  | .hbm, ⟨6, _⟩ => ⟨S1024x64, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Pair.lean ====
abbrev S8192x512 : Shape := ⟨2, ![8192, 512]⟩
abbrev S1024x1024 : Shape := ⟨2, ![1024, 1024]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S512x1024, .bf16⟩
  | .hbm, ⟨4, _⟩ => ⟨S512x1024, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PairRefIdeal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== LossDy.lean ====
abbrev S8192x1024 : Shape := ⟨2, ![8192, 1024]⟩
abbrev S_ : Shape := ⟨0, ![]⟩
abbrev S1x1 : Shape := ⟨2, ![1, 1]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1x1, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossDyRefIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Rms.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Residual.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResidualRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Joined.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== JoinedRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== RmsDx.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== RmsDxRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ResidualDx.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ResidualDxRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== JoinedDx.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== JoinedDxRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S1x1024, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Proof.Prod.lean ====
/- Products of matrices over the extended reals: the three the step's products need, read entry by entry, and a long sum
   cut into equal runs. -/
module

public import Idealize.ShloMosaic.Lib.Pointwise
public import Idealize.ShloMosaic.Lib.Pipeline.Value
public import Idealize.ShloMosaic.Lib.WritesUnit

@[expose] public section

noncomputable section

namespace Cert.Prod

open Idealize.ShloMosaic

/-- Matrices of `n` rows and `m` columns. -/
abbrev Mat (n m : ℕ) := (⟨2, ![n, m]⟩ : Shape).Idx → EReal

/-- A matrix from its entries. -/
def mat {n m : ℕ} (f : Fin n → Fin m → EReal) : Mat n m := fun i => f ⟨(i 0).val, (i 0).isLt⟩ ⟨(i 1).val, (i 1).isLt⟩

/-- `a · b`. -/
def nn {n k m : ℕ} (a : Mat n k) (b : Mat k m) : Mat n m := mat fun p l => ∑ q : Fin k, a (ix2 p q) * b (ix2 q l)
/-- `a · bᵀ`. -/
def nt {n k m : ℕ} (a : Mat n k) (b : Mat m k) : Mat n m := mat fun p l => ∑ q : Fin k, a (ix2 p q) * b (ix2 l q)
/-- `aᵀ · b`. -/
def tn {n k m : ℕ} (a : Mat k n) (b : Mat k m) : Mat n m := mat fun p l => ∑ q : Fin k, a (ix2 q p) * b (ix2 q l)

theorem mat_ix2 {n m : ℕ} (f : Fin n → Fin m → EReal) (p : Fin n) (l : Fin m) : mat f (ix2 p l) = f p l := rfl
theorem nn_ix2 {n k m : ℕ} (a : Mat n k) (b : Mat k m) (p : Fin n) (l : Fin m) :
    nn a b (ix2 p l) = ∑ q : Fin k, a (ix2 p q) * b (ix2 q l) := rfl
theorem nt_ix2 {n k m : ℕ} (a : Mat n k) (b : Mat m k) (p : Fin n) (l : Fin m) :
    nt a b (ix2 p l) = ∑ q : Fin k, a (ix2 p q) * b (ix2 l q) := rfl
theorem tn_ix2 {n k m : ℕ} (a : Mat k n) (b : Mat k m) (p : Fin n) (l : Fin m) :
    tn a b (ix2 p l) = ∑ q : Fin k, a (ix2 q p) * b (ix2 q l) := rfl

/-- Two matrices with equal entries are equal. -/
theorem ext {n m : ℕ} {x y : Mat n m} (h : ∀ p l, x (ix2 p l) = y (ix2 p l)) : x = y := by
  funext i
  rw [ValueIdx.eq_ix2 i]
  exact h _ _

/-- A sum over `s` runs of `w` terms, run by run. -/
theorem sum_runs (w : ℕ) (f : ℕ → EReal) : ∀ s : ℕ, (∑ j ∈ Finset.range s, ∑ q : Fin w, f (w * j + q.val)) = ∑ q ∈ Finset.range (w * s), f q
  | 0 => by simp
  | s + 1 => by
    rw [Finset.sum_range_succ, sum_runs w f s, Nat.mul_succ, Finset.sum_range_add, Finset.sum_range (fun x => f (w * s + x))]

/-- A sum over `K` terms, in `s` runs of `w` terms, where the terms of run `j` are named `g j`. -/
theorem sum_cut {K : ℕ} (w s : ℕ) (hK : w * s = K) (f : Fin K → EReal) (g : ℕ → Fin w → EReal)
    (h : ∀ j (hj : j < s) (q : Fin w) (hq : w * j + q.val < K), g j q = f ⟨w * j + q.val, hq⟩) :
    (∑ j ∈ Finset.range s, ∑ q : Fin w, g j q) = ∑ q : Fin K, f q := by
  subst hK
  let f' : ℕ → EReal := fun x => if hx : x < w * s then f ⟨x, hx⟩ else 0
  have hlt : ∀ j, j < s → ∀ q : Fin w, w * j + q.val < w * s := fun j hj q =>
    calc w * j + q.val < w * j + w := Nat.add_lt_add_left q.isLt _
      _ = w * (j + 1) := (Nat.mul_succ w j).symm
      _ ≤ w * s := Nat.mul_le_mul_left w hj
  have e : (∑ j ∈ Finset.range s, ∑ q : Fin w, g j q) = ∑ j ∈ Finset.range s, ∑ q : Fin w, f' (w * j + q.val) := by
    refine Finset.sum_congr rfl fun j hj => Finset.sum_congr rfl fun q _ => ?_
    have hj' := Finset.mem_range.mp hj
    rw [h j hj' q (hlt j hj' q)]
    exact (dif_pos (c := w * j + q.val < w * s) (t := fun hx => f ⟨_, hx⟩) (e := fun _ => 0) (hlt j hj' q)).symm
  rw [e, sum_runs, Finset.sum_range]
  refine Finset.sum_congr rfl fun q _ => ?_
  exact dif_pos q.isLt

/-- A row of one of `s` blocks of `w` rows is a row of the whole. -/
theorem cut_lt {K w s : ℕ} (hK : w * s = K) {j : ℕ} (hj : j < s) (q : Fin w) : w * j + q.val < K :=
  calc w * j + q.val < w * j + w := Nat.add_lt_add_left q.isLt _
    _ = w * (j + 1) := (Nat.mul_succ w j).symm
    _ ≤ w * s := Nat.mul_le_mul_left w hj
    _ = K := hK

/-- Terms that are sums over the blocks add up to the sum over the whole. -/
theorem sum_pieces {K : ℕ} (w s : ℕ) (hK : w * s = K) (f : Fin K → EReal) (g : ℕ → EReal)
    (h : ∀ j (hj : j < s), g j = ∑ q : Fin w, f ⟨w * j + q.val, cut_lt hK hj q⟩) : ∑ j ∈ Finset.range s, g j = ∑ q : Fin K, f q := by
  refine Eq.trans (Finset.sum_congr rfl fun j hj => ?_) (sum_cut w s hK f (fun j q => if h : w * j + q.val < K then f ⟨w * j + q.val, h⟩ else 0) fun j hj q hq => dif_pos hq)
  refine (h j (Finset.mem_range.mp hj)).trans (Finset.sum_congr rfl fun q _ => ?_)
  exact (dif_pos (c := w * j + q.val < K) (t := fun h => f ⟨w * j + q.val, h⟩) (e := fun _ => 0) (cut_lt hK (Finset.mem_range.mp hj) q)).symm

/-- What starts from zero and adds a term at every point is the sum of the terms so far. -/
theorem sum_upto {N : ℕ} (o : ∀ n, n < N → EReal) (g : ℕ → EReal) (h0 : ∀ h : 0 < N, o 0 h = 0 + g 0)
    (hs : ∀ n (h : n + 1 < N), o (n + 1) h = o n (Nat.lt_of_succ_lt h) + g (n + 1)) : ∀ n (h : n < N), o n h = ∑ j ∈ Finset.range (n + 1), g j
  | 0, h => by
    rw [Finset.sum_range_one]
    exact (h0 h).trans (zero_add _)
  | n + 1, h => by
    rw [Finset.sum_range_succ, hs n h, sum_upto o g h0 hs n]

/-- Entry `p`, `q` of the block at `u`, `v` of a matrix cut into blocks of `bn` rows and `bm` columns. -/
theorem at_block {n m : ℕ} {i : (⟨2, ![n, m]⟩ : Shape).Idx} {P : Fin n} {Q : Fin m} {w : Fin 2 → ℕ} {u v : ℕ} (hw : w = ![u, v]) (bn bm p q : ℕ)
    (h0 : (i 0).val = w 0 * bn + 1 * p) (h1 : (i 1).val = w 1 * bm + 1 * q) (e0 : P.val = bn * u + p) (e1 : Q.val = bm * v + q) : i = ix2 P Q := by
  subst hw
  funext a
  refine Fin.cases ?_ (fun b => Fin.cases ?_ (fun z => z.elim0) b) a
  · refine Fin.ext (h0.trans ?_)
    show u * bn + 1 * p = P.val
    rw [e0, Nat.one_mul, Nat.mul_comm]
  · refine Fin.ext (h1.trans ?_)
    show v * bm + 1 * q = Q.val
    rw [e1, Nat.one_mul, Nat.mul_comm]

/-- What lies in the block at `u`, `v`. -/
theorem inside {lo x sz : Fin 2 → ℕ} {w : Fin 2 → ℕ} {u v : ℕ} (hw : w = ![u, v]) (bn bm : ℕ) (l0 : lo 0 = w 0 * bn) (l1 : lo 1 = w 1 * bm) (s0 : sz 0 = bn) (s1 : sz 1 = bm)
    (h0 : u * bn ≤ x 0 ∧ x 0 < u * bn + bn) (h1 : v * bm ≤ x 1 ∧ x 1 < v * bm + bm) : ∀ a, lo a ≤ x a ∧ x a < lo a + sz a := by
  subst hw
  refine Fin.cases ?_ (fun b => Fin.cases ?_ (fun z => z.elim0) b)
  · rw [l0, s0]
    exact h0
  · show lo 1 ≤ x 1 ∧ x 1 < lo 1 + sz 1
    rw [l1, s1]
    exact h1

/-- What one write over a whole block leaves is what it wrote. -/
theorem canon_whole {n m : ℕ} {e : EltTy} (inb) (x : Vec Ideal ⟨2, ![n, m]⟩ e) (L : List (View.Piece (Elt Ideal) ⟨2, ![n, m]⟩ e)) (p : Fin n) (l : Fin m) :
    View.canon (⟨Rect.unit (s := ⟨2, ![n, m]⟩) ![0, 0] (⟨2, ![n, m]⟩ : Shape).size inb, x⟩ :: L) (ix2 p l) = x (ix2 p l) := by
  have h : (Rect.unit (s := ⟨2, ![n, m]⟩) ![0, 0] (⟨2, ![n, m]⟩ : Shape).size inb).emb (ix2 p l) = ix2 p l := by
    funext a
    refine Fin.cases ?_ (fun b => Fin.cases ?_ (fun z => z.elim0) b) a
    · apply Fin.ext; show 0 + 1 * p.val = p.val; omega
    · apply Fin.ext; show 0 + 1 * l.val = l.val; omega
  have e := View.canon_cons_emb (Val := Elt Ideal) (Rect.unit (s := ⟨2, ![n, m]⟩) ![0, 0] (⟨2, ![n, m]⟩ : Shape).size inb) x L (ix2 p l)
  rwa [h] at e

/-- A load of a whole block is the block. -/
theorem load_whole {n m : ℕ} {e : EltTy} (inb) (x : Vec Ideal ⟨2, ![n, m]⟩ e) :
    View.ld x (Rect.unit (s := ⟨2, ![n, m]⟩) ![0, 0] (⟨2, ![n, m]⟩ : Shape).size inb) = x := by
  funext y
  show x _ = x _
  congr 1
  funext a
  refine Fin.cases ?_ (fun b => Fin.cases ?_ (fun z => z.elim0) b) a
  · apply Fin.ext; show 0 + 1 * (y 0).val = (y 0).val; omega
  · apply Fin.ext; show 0 + 1 * (y 1).val = (y 1).val; omega

/-- A load of a whole buffer of known contents. -/
theorem load_buffer {sig : RefSig} {n m : ℕ} {e : EltTy} (arg : Memref sig .tc .vmem ⟨2, ![n, m]⟩ e) (harg : arg.IsWhole) (inb) (x : Vec Ideal ⟨2, ![n, m]⟩ e) :
    View.readAt (Elt Ideal) arg.view (Rect.unit (s := ⟨2, ![n, m]⟩) ![0, 0] (⟨2, ![n, m]⟩ : Shape).size inb).toLoadRect (harg.unread x) = x := by
  rw [View.readAt_eq_ld, harg.read_unread]
  exact load_whole inb x

/-- A load of a whole buffer reads what the writes before it left. -/
theorem load_written {sig : RefSig} {n m : ℕ} {e : EltTy} (v : View sig .tc .vmem ⟨2, ![n, m]⟩ e) (L : List (View.Piece (Elt Ideal) ⟨2, ![n, m]⟩ e)) (inb) (p : Fin n) (l : Fin m) :
    v.readCov L (Rect.unit (s := ⟨2, ![n, m]⟩) ![0, 0] (⟨2, ![n, m]⟩ : Shape).size inb).toLoadRect (ix2 p l) = View.canon L (ix2 p l) := by
  rw [View.readCov_eq_canon']
  exact congrFun (load_whole inb (View.canon L)) (ix2 p l)

end Cert.Prod

end
-- ==== Proof.UpEq.lean ====
/- The product `Up`: the kernel's result and the reference's are the same matrix product. -/
module

public import proofs.«01_k».proof.Proof.Prod
public import proofs.«01_k».proof.Proof.Gen.Up.Frame
public import proofs.«01_k».proof.Proof.Gen.UpIdeal.Value
public import proofs.«01_k».proof.Proof.Gen.UpRefIdeal.Read
public import proofs.«01_k».proof.Defs

@[expose] public section

set_option maxRecDepth 16384

noncomputable section

namespace Cert.UpIdeal.Mine

open Cert.UpIdeal Cert.UpIdeal.Gen Idealize.ShloMosaic Idealize.ShloMosaic.TcCoe Idealize.SL.Sem
open Cert.Prod

/-- What the body writes, entry by entry. -/
theorem pay (x0 : Vec Ideal S512x1024 .bf16) (x1 : Vec Ideal S1024x2816 .bf16) (p : Fin 512) (l : Fin 2816) :
    k0_pay1 (F := Ideal) x0 x1 (ix2 p l) = ∑ q : Fin 1024, x0 (ix2 p q) * x1 (ix2 q l) := by
  pointwise [k0_pay1]

variable (m : (ℓ : Loc nD τ sig) → Buf (Elt Ideal) ℓ) (c : Dev nD)

abbrev a0 : FVec Ideal S8192x1024 .bf16 := m (c.tc.loc main_arg0)
abbrev a1 : FVec Ideal S1024x2816 .bf16 := m (c.tc.loc main_arg1)

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 512) : Fin 8192 := ⟨512 * t.val + p.val, by have := lt_points t; omega⟩

theorem block0 (t : Fin cfg0.N) (p : Fin 512) (q : Fin 1024) : iblk m c 0 t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (q : Fin 1024) (l : Fin 2816) : iblk m c 1 t (ix2 q l) = a1 m c (ix2 q l) := by
  show V m c main_arg1 _ = _
  rw [V_main_arg1]
  exact congrArg (a1 m c) (at_block (index1 t) 1024 2816 q.val l.val rfl rfl (by omega) (by omega))

theorem block2 (t : Fin cfg0.N) (X : FVec Ideal S8192x2816 .f32) (p : Fin 512) (l : Fin 2816) :
    ((cfg0.win 2).blk t).view.read (Elt Ideal) X (ix2 p l) = X (ix2 (row t p) l) := by
  exact congrArg X (at_block (index2 t) 512 2816 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 512) (m := 2816) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 2816 := (i 1).isLt
  let t : Fin cfg0.N := ⟨(i 0).val / 512, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 512 2816 rfl rfl rfl rfl (by show (i 0).val / 512 * 512 ≤ (i 0).val ∧ (i 0).val < (i 0).val / 512 * 512 + 512; omega) (by show 0 * 2816 ≤ (i 1).val ∧ (i 1).val < 0 * 2816 + 2816; omega)

end Cert.UpIdeal.Mine

namespace Cert.UpRefIdeal.Mine

open Cert.UpRefIdeal Cert.UpRefIdeal.Gen Idealize.ShloMosaic Idealize.ShloMosaic.TcCoe Idealize.SL.Sem
open Cert.Prod

/-- The reference's result is the product of its arguments. -/
theorem result (x0 : FVec Ideal S8192x1024 .bf16) (x1 : FVec Ideal S1024x2816 .bf16) : Read.val_main_v2 (F := Ideal) x0 x1 = nn x0 x1 := by
  refine Prod.ext (n := 8192) (m := 2816) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.UpRefIdeal.Mine

namespace Cert.Up.Mine

open Idealize.ShloMosaic Idealize.ShloMosaic.TcCoe Idealize.SL.Sem

/-- From the same arguments, both programs end with the same product. -/
theorem equal : Cert.algebraic_UpIdeal_UpRefIdeal (hUpIdeal := Cert.UpIdeal.Gen.facts) (hUpRefIdeal := Cert.UpRefIdeal.Gen.facts) := by
  intro m ρ m' ρ' _ ha
  refine ⟨fun c => Cert.Prod.nn (Cert.UpIdeal.Mine.a0 m c) (Cert.UpIdeal.Mine.a1 m c), ?_, ?_⟩
  · exact (θ_run _ _ _).mono (fun r h c => ⟨(h c).1.trans (Cert.UpIdeal.Mine.result m c), (h c).2⟩) (Cert.UpIdeal.Value.run_blocks (F := Ideal) m ρ)
  · refine (θ_run _ _ _).mono (fun r h c => ⟨(h c).1.trans ?_, (h c).2⟩) (Cert.UpRefIdeal.Mine.run m' ρ')
    rw [(ha c).1, (ha c).2]

end Cert.Up.Mine

end
-- ==== Proof.DownEq.lean ====
/- The product `Down`: the kernel's result and the reference's are the same matrix product. -/
module

public import proofs.«01_k».proof.Proof.Prod
public import proofs.«01_k».proof.Proof.Gen.Down.Frame
public import proofs.«01_k».proof.Proof.Gen.DownIdeal.Value
public import proofs.«01_k».proof.Proof.Gen.DownRefIdeal.Read
public import proofs.«01_k».proof.Defs

@[expose] public section

set_option maxRecDepth 16384

noncomputable section

namespace Cert.DownIdeal.Mine

open Cert.DownIdeal Cert.DownIdeal.Gen Idealize.ShloMosaic Idealize.ShloMosaic.TcCoe Idealize.SL.Sem
open Cert.Prod

/-- What the body writes, entry by entry. -/
theorem pay (x0 : Vec Ideal S1024x2816 .bf16) (x1 : Vec Ideal S2816x1024 .bf16) (p : Fin 1024) (l : Fin 1024) :
    k0_pay1 (F := Ideal) x0 x1 (ix2 p l) = ∑ q : Fin 2816, x0 (ix2 p q) * x1 (ix2 q l) := by
  pointwise [k0_pay1]

variable (m : (ℓ : Loc nD τ sig) → Buf (Elt Ideal) ℓ) (c : Dev nD)

abbrev a0 : FVec Ideal S8192x2816 .bf16 := m (c.tc.loc main_arg0)
abbrev a1 : FVec Ideal S2816x1024 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 2816) : iblk m c 0 t (ix2 p q) = a0 m c (ix2 (row t p) q) := by
  show V m c main_arg0 _ = _
  rw [V_main_arg0]
  exact congrArg (a0 m c) (at_block (index0 t) 1024 2816 p.val q.val rfl rfl rfl (by omega))

theorem block1 (t : Fin cfg0.N) (q : Fin 2816) (l : Fin 1024) : iblk m c 1 t (ix2 q l) = a1 m c (ix2 q l) := by
  show V m c main_arg1 _ = _
  rw [V_main_arg1]
  exact congrArg (a1 m c) (at_block (index1 t) 2816 1024 q.val l.val rfl rfl (by omega) (by omega))

theorem block2 (t : Fin cfg0.N) (X : FVec Ideal S8192x1024 .f32) (p : Fin 1024) (l : Fin 1024) :
    ((cfg0.win 2).blk t).view.read (Elt Ideal) X (ix2 p l) = X (ix2 (row t p) l) := by
  exact congrArg X (at_block (index2 t) 1024 1024 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 1024) (m := 1024) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.DownIdeal.Mine

namespace Cert.DownRefIdeal.Mine

open Cert.DownRefIdeal Cert.DownRefIdeal.Gen Idealize.ShloMosaic Idealize.ShloMosaic.TcCoe Idealize.SL.Sem
open Cert.Prod

/-- The reference's result is the product of its arguments. -/
theorem result (x0 : FVec Ideal S8192x2816 .bf16) (x1 : FVec Ideal S2816x1024 .bf16) : Read.val_main_v2 (F := Ideal) x0 x1 = nn x0 x1 := by
  refine Prod.ext (n := 8192) (m := 1024) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.DownRefIdeal.Mine

namespace Cert.Down.Mine

open Idealize.ShloMosaic Idealize.ShloMosaic.TcCoe Idealize.SL.Sem

/-- From the same arguments, both programs end with the same product. -/
theorem equal : Cert.algebraic_DownIdeal_DownRefIdeal (hDownIdeal := Cert.DownIdeal.Gen.facts) (hDownRefIdeal := Cert.DownRefIdeal.Gen.facts) := by
  intro m ρ m' ρ' _ ha
  refine ⟨fun c => Cert.Prod.nn (Cert.DownIdeal.Mine.a0 m c) (Cert.DownIdeal.Mine.a1 m c), ?_, ?_⟩
  · exact (θ_run _ _ _).mono (fun r h c => ⟨(h c).1.trans (Cert.DownIdeal.Mine.result m c), (h c).2⟩) (Cert.DownIdeal.Value.run_blocks (F := Ideal) m ρ)
  · refine (θ_run _ _ _).mono (fun r h c => ⟨(h c).1.trans ?_, (h c).2⟩) (Cert.DownRefIdeal.Mine.run m' ρ')
    rw [(ha c).1, (ha c).2]

end Cert.Down.Mine

end
-- ==== Proof.DownDaEq.lean ====
/- The product `DownDa`: the kernel's result and the reference's are the same matrix product. -/
module

public import proofs.«01_k».proof.Proof.Prod
public import proofs.«01_k».proof.Proof.Gen.DownDa.Frame
public import proofs.«01_k».proof.Proof.Gen.DownDaIdeal.Value
public import proofs.«01_k».proof.Proof.Gen.DownDaRefIdeal.Read
public import proofs.«01_k».proof.Defs

@[expose] public section

set_option maxRecDepth 16384

noncomputable section

namespace Cert.DownDaIdeal.Mine

open Cert.DownDaIdeal Cert.DownDaIdeal.Gen Idealize.ShloMosaic Idealize.ShloMosaic.TcCoe Idealize.SL.Sem
open Cert.Prod

/-- What the body writes, entry by entry. -/
theorem pay (x0 : Vec Ideal S1024x1024 .f32) (x1 : Vec Ideal S2816x1024 .bf16) (p : Fin 1024) (l : Fin 2816) :
    k0_pay1 (F := Ideal) x0 x1 (ix2 p l) = ∑ q : Fin 1024, x0 (ix2 p q) * x1 (ix2 l q) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S2816x1024 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 1024) : iblk m c 0 t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (q : Fin 1024) (l : Fin 2816) : iblk m c 1 t (ix2 l q) = a1 m c (ix2 l q) := by
  show V m c main_arg1 _ = _
  rw [V_main_arg1]
  exact congrArg (a1 m c) (at_block (index1 t) 2816 1024 l.val q.val rfl rfl (by omega) (by omega))

theorem block2 (t : Fin cfg0.N) (X : FVec Ideal S8192x2816 .bf16) (p : Fin 1024) (l : Fin 2816) :
    ((cfg0.win 2).blk t).view.read (Elt Ideal) X (ix2 p l) = X (ix2 (row t p) l) := by
  exact congrArg X (at_block (index2 t) 1024 2816 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 1024) (m := 2816) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 2816 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 2816 rfl rfl rfl rfl (by show (i 0).val / 1024 * 1024 ≤ (i 0).val ∧ (i 0).val < (i 0).val / 1024 * 1024 + 1024; omega) (by show 0 * 2816 ≤ (i 1).val ∧ (i 1).val < 0 * 2816 + 2816; omega)

end Cert.DownDaIdeal.Mine

namespace Cert.DownDaRefIdeal.Mine

open Cert.DownDaRefIdeal Cert.DownDaRefIdeal.Gen Idealize.ShloMosaic Idealize.ShloMosaic.TcCoe Idealize.SL.Sem
open Cert.Prod

/-- The reference's result is the product of its arguments. -/
theorem result (x0 : FVec Ideal S8192x1024 .f32) (x1 : FVec Ideal S2816x1024 .bf16) : Read.val_main_v3 (F := Ideal) x0 x1 = nt x0 x1 := by
  refine Prod.ext (n := 8192) (m := 2816) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.DownDaRefIdeal.Mine

namespace Cert.DownDa.Mine

open Idealize.ShloMosaic Idealize.ShloMosaic.TcCoe Idealize.SL.Sem

/-- From the same arguments, both programs end with the same product. -/
theorem equal : Cert.algebraic_DownDaIdeal_DownDaRefIdeal (hDownDaIdeal := Cert.DownDaIdeal.Gen.facts) (hDownDaRefIdeal := Cert.DownDaRefIdeal.Gen.facts) := by
  intro m ρ m' ρ' _ ha
  refine ⟨fun c => Cert.Prod.nt (Cert.DownDaIdeal.Mine.a0 m c) (Cert.DownDaIdeal.Mine.a1 m c), ?_, ?_⟩
  · exact (θ_run _ _ _).mono (fun r h c => ⟨(h c).1.trans (Cert.DownDaIdeal.Mine.result m c), (h c).2⟩) (Cert.DownDaIdeal.Value.run_blocks (F := Ideal) m ρ)
  · refine (θ_run _ _ _).mono (fun r h c => ⟨(h c).1.trans ?_, (h c).2⟩) (Cert.DownDaRefIdeal.Mine.run m' ρ')
    rw [(ha c).1, (ha c).2]

end Cert.DownDa.Mine

end
-- ==== Proof.DownDwEq.lean ====
/- The product `DownDw`: the kernel's accumulated result and the reference's are the same matrix product. -/
module

public import proofs.«01_k».proof.Proof.Prod
public import proofs.«01_k».proof.Proof.Gen.DownDw.Frame
public import proofs.«01_k».proof.Proof.Gen.DownDwIdeal.Value
public import proofs.«01_k».proof.Proof.Gen.DownDwRefIdeal.Read
public import proofs.«01_k».proof.Defs

@[expose] public section

set_option maxRecDepth 16384

noncomputable section

namespace Cert.DownDwIdeal.Mine

open Cert.DownDwIdeal Cert.DownDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1408) (l : Fin 1024) : k0_pay1 (F := Ideal) (ix2 p l) = (0 : EReal) := by
  pointwise [k0_pay1]
theorem pay2 (s : Vec Ideal S1408x1024 .f32) (x0 : Vec Ideal S1024x1408 .bf16) (x1 : Vec Ideal S1024x1024 .f32) (p : Fin 1408) (l : Fin 1024) :
    k0_pay2 (F := Ideal) s x0 x1 (ix2 p l) = s (ix2 p l) + ∑ q : Fin 1024, x0 (ix2 q p) * x1 (ix2 q l) := by
  pointwise [k0_pay2]
theorem pay3 (s : Vec Ideal S1408x1024 .f32) (p : Fin 1408) (l : Fin 1024) : k0_pay3 (F := Ideal) s (ix2 p l) = s (ix2 p l) := by
  pointwise [k0_pay3]

section Cases

variable (c : Dev nD) (i : grid0.Coords) (arg3 : Memref sig .tc .vmem S1024x1408 .bf16) (harg3 : arg3.IsWhole) (arg4 : Memref sig .tc .vmem S1024x1024 .f32) (harg4 : arg4.IsWhole)
  (arg5 : Memref sig .tc .vmem S1408x1024 .bf16) (harg5 : arg5.IsWhole) (arg6 : Memref sig .tc .vmem S1408x1024 .f32) (harg6 : arg6.IsWhole)
  (x0 : Vec Ideal S1024x1408 .bf16) (x1 : Vec Ideal S1024x1024 .f32) (s : Vec Ideal S1408x1024 .f32) (p : Fin 1408) (l : Fin 1024)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 1024, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x2816 .bf16 := m (c.tc.loc main_arg0)
abbrev a1 : FVec Ideal S8192x1024 .f32 := m (c.tc.loc main_arg1)

theorem lt_points (t : Fin cfg0.N) : t.val < 16 := Nat.lt_of_lt_of_eq t.isLt N_0
theorem index0 : ∀ t : Fin cfg0.N, win0_0.index t = ![t.val % 8, t.val / 8] := by decide +kernel
theorem index1 : ∀ t : Fin cfg0.N, win0_1.index t = ![t.val % 8, 0] := by decide +kernel
theorem index2 : ∀ t : Fin cfg0.N, win0_2.index t = ![t.val / 8, 0] := by decide +kernel

/-- Row `q` of the arguments' block at point `t`; row `p` and column `l` of the result's. -/
def term (t : Fin cfg0.N) (q : Fin 1024) : Fin 8192 := ⟨1024 * (t.val % 8) + q.val, by omega⟩
def row (t : Fin cfg0.N) (p : Fin 1408) : Fin 2816 := ⟨1408 * (t.val / 8) + p.val, by have := lt_points t; omega⟩
def col (t : Fin cfg0.N) (l : Fin 1024) : Fin 1024 := ⟨1024 * (0) + l.val, by have := lt_points t; omega⟩

abbrev b0 (t : Fin cfg0.N) : Vec Ideal S1024x1408 .bf16 := iblk m c 0 t
abbrev b1 (t : Fin cfg0.N) : Vec Ideal S1024x1024 .f32 := iblk m c 1 t

theorem block0 (t : Fin cfg0.N) (q : Fin 1024) (p : Fin 1408) : b0 m c t (ix2 q p) = a0 m c (ix2 (term t q) (row t p)) := by
  show V m c main_arg0 _ = _
  rw [V_main_arg0]
  exact congrArg (a0 m c) (at_block (index0 t) 1024 1408 q.val p.val rfl rfl rfl rfl)

theorem block1 (t : Fin cfg0.N) (q : Fin 1024) (l : Fin 1024) : b1 m c t (ix2 q l) = a1 m c (ix2 (term t q) (col t l)) := by
  show V m c main_arg1 _ = _
  rw [V_main_arg1]
  exact congrArg (a1 m c) (at_block (index1 t) 1024 1024 q.val l.val rfl rfl rfl rfl)

theorem block2 (t : Fin cfg0.N) (X : FVec Ideal S2816x1024 .bf16) (p : Fin 1408) (l : Fin 1024) :
    ((cfg0.win 2).blk t).view.read (Elt Ideal) X (ix2 p l) = X (ix2 (row t p) (col t l)) := by
  exact congrArg X (at_block (index2 t) 1408 1024 p.val l.val rfl rfl rfl rfl)

/-- What point `n` adds to the scratch. -/
def added (n : ℕ) : Mat 1408 1024 := mat fun p l =>
  if h : n < cfg0.N then ∑ q : Fin 1024, a0 m c (ix2 (term ⟨n, h⟩ q) (row ⟨n, h⟩ p)) * a1 m c (ix2 (term ⟨n, h⟩ q) (col ⟨n, h⟩ l)) else 0

theorem added_of_blocks (t : Fin cfg0.N) (p : Fin 1408) (l : Fin 1024) :
    (∑ q : Fin 1024, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 8 = 0) (acc : Vec Ideal S1408x1024 .f32) (p : Fin 1408) (l : Fin 1024) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 8 ≠ 0) (acc : Vec Ideal S1408x1024 .f32) (p : Fin 1408) (l : Fin 1024) :
    Value.scAt0_0 m c n h acc (ix2 p l) = acc (ix2 p l) + added m c n (ix2 p l) := by
  unfold Value.scAt0_0
  rw [dif_neg hn]
  by_cases h1 : n % 8 = 7
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 8 = 7) (p : Fin 1408) (l : Fin 1024) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (8 * (t.val / 8)) 7 (fun h y => ?_) (fun n h acc y h1 h2 => ?_) (t.val % 8) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 1024 8 rfl _ _ fun j hj' => ?_
    have hn : 8 * (t.val / 8) + j < cfg0.N := Nat.lt_of_lt_of_eq (by omega) N_0.symm
    refine (dif_pos hn).trans (Finset.sum_congr rfl fun q _ => ?_)
    have e1 : term ⟨8 * (t.val / 8) + j, hn⟩ q = ⟨1024 * j + q.val, by omega⟩ := Fin.ext (by show 1024 * ((8 * (t.val / 8) + j) % 8) + q.val = 1024 * j + q.val; omega)
    have e2 : ∀ p : Fin 1408, row ⟨8 * (t.val / 8) + j, hn⟩ p = row t p := fun p => Fin.ext (by show 1408 * ((8 * (t.val / 8) + j) / 8) + p.val = 1408 * (t.val / 8) + p.val; omega)
    have e3 : ∀ l : Fin 1024, col ⟨8 * (t.val / 8) + j, hn⟩ l = col t l := fun l => Fin.ext (by show 1024 * (0) + l.val = 1024 * (0) + l.val; omega)
    rw [← e1, ← e2, ← e3]
    rfl

theorem cut_apply (t : Fin cfg0.N) (X : Vec Ideal S1408x1024 .bf16) (p : Fin 1408) (l : Fin 1024) : (cfg0.win 2).cut (grid0.coords t) X (ix2 p l) = X (ix2 p l) := rfl

/-- The last point of a run copies the scratch out. -/
theorem copied (t : Fin cfg0.N) (ht : t.val % 8 = 7) (p : Fin 1408) (l : Fin 1024) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 8 = 7 := (flush0_2 t).mp hf
  rw [Value.flushed2]
  refine Prod.ext (n := 1408) (m := 1024) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 2816 := (i 0).isLt
  have h1 : (i 1).val < 1024 := (i 1).isLt
  let t : Fin cfg0.N := ⟨8 * ((i 0).val / 1408) + 7, Nat.lt_of_lt_of_eq (by omega) N_0.symm⟩
  refine ⟨t, (flush0_2 t).mpr (by show (8 * ((i 0).val / 1408) + 7) % 8 = 7; omega), ?_⟩
  have e : t.val / 8 = (i 0).val / 1408 := by show (8 * ((i 0).val / 1408) + 7) / 8 = _; omega
  show i ∈ ((View.whole main_v0).slice (win0_2.rect t)).set
  rw [View.set_slice_whole, Rect.mem_set_unit]
  exact inside (index2 t) 1408 1024 rfl rfl rfl rfl (by show t.val / 8 * 1408 ≤ (i 0).val ∧ (i 0).val < t.val / 8 * 1408 + 1408; omega) (by show 0 * 1024 ≤ (i 1).val ∧ (i 1).val < 0 * 1024 + 1024; omega)

end Cert.DownDwIdeal.Mine

namespace Cert.DownDwRefIdeal.Mine

open Cert.DownDwRefIdeal Cert.DownDwRefIdeal.Gen Idealize.ShloMosaic Idealize.ShloMosaic.TcCoe Idealize.SL.Sem
open Cert.Prod

/-- The reference's result is the product of its arguments. -/
theorem result (x0 : FVec Ideal S8192x2816 .bf16) (x1 : FVec Ideal S8192x1024 .f32) : Read.val_main_v4 (F := Ideal) x0 x1 = tn x0 x1 := by
  refine Prod.ext (n := 2816) (m := 1024) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.DownDwRefIdeal.Mine

namespace Cert.DownDw.Mine

open Idealize.ShloMosaic Idealize.ShloMosaic.TcCoe Idealize.SL.Sem

/-- From the same arguments, both programs end with the same product. -/
theorem equal : Cert.algebraic_DownDwIdeal_DownDwRefIdeal (hDownDwIdeal := Cert.DownDwIdeal.Gen.facts) (hDownDwRefIdeal := Cert.DownDwRefIdeal.Gen.facts) := by
  intro m ρ m' ρ' _ ha
  refine ⟨fun c => Cert.Prod.tn (Cert.DownDwIdeal.Mine.a0 m c) (Cert.DownDwIdeal.Mine.a1 m c), ?_, ?_⟩
  · exact (θ_run _ _ _).mono (fun r h c => ⟨(h c).1.trans (Cert.DownDwIdeal.Mine.result m c), (h c).2⟩) (Cert.DownDwIdeal.Value.run_blocks (F := Ideal) m ρ)
  · refine (θ_run _ _ _).mono (fun r h c => ⟨(h c).1.trans ?_, (h c).2⟩) (Cert.DownDwRefIdeal.Mine.run m' ρ')
    rw [(ha c).1, (ha c).2]

end Cert.DownDw.Mine

end
-- ==== Proof.UpDaEq.lean ====
/- The product `UpDa`: the kernel's result and the reference's are the same matrix product. -/
module

public import proofs.«01_k».proof.Proof.Prod
public import proofs.«01_k».proof.Proof.Gen.UpDa.Frame
public import proofs.«01_k».proof.Proof.Gen.UpDaIdeal.Value
public import proofs.«01_k».proof.Proof.Gen.UpDaRefIdeal.Read
public import proofs.«01_k».proof.Defs

@[expose] public section

set_option maxRecDepth 16384

noncomputable section

namespace Cert.UpDaIdeal.Mine

open Cert.UpDaIdeal Cert.UpDaIdeal.Gen Idealize.ShloMosaic Idealize.ShloMosaic.TcCoe Idealize.SL.Sem
open Cert.Prod

/-- What the body writes, entry by entry. -/
theorem pay (x0 : Vec Ideal S1024x2816 .bf16) (x1 : Vec Ideal S1024x2816 .bf16) (p : Fin 1024) (l : Fin 1024) :
    k0_pay1 (F := Ideal) x0 x1 (ix2 p l) = ∑ q : Fin 2816, x0 (ix2 p q) * x1 (ix2 l q) := by
  pointwise [k0_pay1]

variable (m : (ℓ : Loc nD τ sig) → Buf (Elt Ideal) ℓ) (c : Dev nD)

abbrev a0 : FVec Ideal S8192x2816 .bf16 := m (c.tc.loc main_arg0)
abbrev a1 : FVec Ideal S1024x2816 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 2816) : iblk m c 0 t (ix2 p q) = a0 m c (ix2 (row t p) q) := by
  show V m c main_arg0 _ = _
  rw [V_main_arg0]
  exact congrArg (a0 m c) (at_block (index0 t) 1024 2816 p.val q.val rfl rfl rfl (by omega))

theorem block1 (t : Fin cfg0.N) (q : Fin 2816) (l : Fin 1024) : iblk m c 1 t (ix2 l q) = a1 m c (ix2 l q) := by
  show V m c main_arg1 _ = _
  rw [V_main_arg1]
  exact congrArg (a1 m c) (at_block (index1 t) 1024 2816 l.val q.val rfl rfl (by omega) (by omega))

theorem block2 (t : Fin cfg0.N) (X : FVec Ideal S8192x1024 .bf16) (p : Fin 1024) (l : Fin 1024) :
    ((cfg0.win 2).blk t).view.read (Elt Ideal) X (ix2 p l) = X (ix2 (row t p) l) := by
  exact congrArg X (at_block (index2 t) 1024 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 1024) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.UpDaIdeal.Mine

namespace Cert.UpDaRefIdeal.Mine

open Cert.UpDaRefIdeal Cert.UpDaRefIdeal.Gen Idealize.ShloMosaic Idealize.ShloMosaic.TcCoe Idealize.SL.Sem
open Cert.Prod

/-- The reference's result is the product of its arguments. -/
theorem result (x0 : FVec Ideal S8192x2816 .bf16) (x1 : FVec Ideal S1024x2816 .bf16) : Read.val_main_v2 (F := Ideal) x0 x1 = nt x0 x1 := by
  refine Prod.ext (n := 8192) (m := 1024) fun p l => ?_
  rw [nt_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.UpDaRefIdeal.Mine

namespace Cert.UpDa.Mine

open Idealize.ShloMosaic Idealize.ShloMosaic.TcCoe Idealize.SL.Sem

/-- From the same arguments, both programs end with the same product. -/
theorem equal : Cert.algebraic_UpDaIdeal_UpDaRefIdeal (hUpDaIdeal := Cert.UpDaIdeal.Gen.facts) (hUpDaRefIdeal := Cert.UpDaRefIdeal.Gen.facts) := by
  intro m ρ m' ρ' _ ha
  refine ⟨fun c => Cert.Prod.nt (Cert.UpDaIdeal.Mine.a0 m c) (Cert.UpDaIdeal.Mine.a1 m c), ?_, ?_⟩
  · exact (θ_run _ _ _).mono (fun r h c => ⟨(h c).1.trans (Cert.UpDaIdeal.Mine.result m c), (h c).2⟩) (Cert.UpDaIdeal.Value.run_blocks (F := Ideal) m ρ)
  · refine (θ_run _ _ _).mono (fun r h c => ⟨(h c).1.trans ?_, (h c).2⟩) (Cert.UpDaRefIdeal.Mine.run m' ρ')
    rw [(ha c).1, (ha c).2]

end Cert.UpDa.Mine

end
-- ==== Proof.UpDwEq.lean ====
/- The product `UpDw`: the kernel's accumulated result and the reference's are the same matrix product. -/
module

public import proofs.«01_k».proof.Proof.Prod
public import proofs.«01_k».proof.Proof.Gen.UpDw.Frame
public import proofs.«01_k».proof.Proof.Gen.UpDwIdeal.Value
public import proofs.«01_k».proof.Proof.Gen.UpDwRefIdeal.Read
public import proofs.«01_k».proof.Defs

@[expose] public section

set_option maxRecDepth 16384

noncomputable section

namespace Cert.UpDwIdeal.Mine

open Cert.UpDwIdeal Cert.UpDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 1408) : k0_pay1 (F := Ideal) (ix2 p l) = (0 : EReal) := by
  pointwise [k0_pay1]
theorem pay2 (s : Vec Ideal S1024x1408 .f32) (x0 : Vec Ideal S2048x1024 .bf16) (x1 : Vec Ideal S2048x1408 .bf16) (p : Fin 1024) (l : Fin 1408) :
    k0_pay2 (F := Ideal) s x0 x1 (ix2 p l) = s (ix2 p l) + ∑ q : Fin 2048, x0 (ix2 q p) * x1 (ix2 q l) := by
  pointwise [k0_pay2]
theorem pay3 (s : Vec Ideal S1024x1408 .f32) (p : Fin 1024) (l : Fin 1408) : k0_pay3 (F := Ideal) s (ix2 p l) = s (ix2 p l) := by
  pointwise [k0_pay3]

section Cases

variable (c : Dev nD) (i : grid0.Coords) (arg3 : Memref sig .tc .vmem S2048x1024 .bf16) (harg3 : arg3.IsWhole) (arg4 : Memref sig .tc .vmem S2048x1408 .bf16) (harg4 : arg4.IsWhole)
  (arg5 : Memref sig .tc .vmem S1024x1408 .bf16) (harg5 : arg5.IsWhole) (arg6 : Memref sig .tc .vmem S1024x1408 .f32) (harg6 : arg6.IsWhole)
  (x0 : Vec Ideal S2048x1024 .bf16) (x1 : Vec Ideal S2048x1408 .bf16) (s : Vec Ideal S1024x1408 .f32) (p : Fin 1024) (l : Fin 1408)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 2048, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v14
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x2816 .bf16 := m (c.tc.loc main_arg1)

theorem lt_points (t : Fin cfg0.N) : t.val < 8 := Nat.lt_of_lt_of_eq t.isLt N_0
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel

/-- Row `q` of the arguments' block at point `t`; row `p` and column `l` of the result's. -/
def term (t : Fin cfg0.N) (q : Fin 2048) : Fin 8192 := ⟨2048 * (t.val % 4) + q.val, by omega⟩
def row (t : Fin cfg0.N) (p : Fin 1024) : Fin 1024 := ⟨1024 * (0) + p.val, by have := lt_points t; omega⟩
def col (t : Fin cfg0.N) (l : Fin 1408) : Fin 2816 := ⟨1408 * (t.val / 4) + l.val, by have := lt_points t; omega⟩

abbrev b0 (t : Fin cfg0.N) : Vec Ideal S2048x1024 .bf16 := iblk m c 0 t
abbrev b1 (t : Fin cfg0.N) : Vec Ideal S2048x1408 .bf16 := iblk m c 1 t

theorem block0 (t : Fin cfg0.N) (q : Fin 2048) (p : Fin 1024) : b0 m c t (ix2 q p) = a0 m c (ix2 (term t q) (row t p)) := by
  show V m c main_arg0 _ = _
  rw [V_main_arg0]
  exact congrArg (a0 m c) (at_block (index0 t) 2048 1024 q.val p.val rfl rfl rfl rfl)

theorem block1 (t : Fin cfg0.N) (q : Fin 2048) (l : Fin 1408) : b1 m c t (ix2 q l) = a1 m c (ix2 (term t q) (col t l)) := by
  show V m c main_arg1 _ = _
  rw [V_main_arg1]
  exact congrArg (a1 m c) (at_block (index1 t) 2048 1408 q.val l.val rfl rfl rfl rfl)

theorem block2 (t : Fin cfg0.N) (X : FVec Ideal S1024x2816 .bf16) (p : Fin 1024) (l : Fin 1408) :
    ((cfg0.win 2).blk t).view.read (Elt Ideal) X (ix2 p l) = X (ix2 (row t p) (col t l)) := by
  exact congrArg X (at_block (index2 t) 1024 1408 p.val l.val rfl rfl rfl rfl)

/-- What point `n` adds to the scratch. -/
def added (n : ℕ) : Mat 1024 1408 := mat fun p l =>
  if h : n < cfg0.N then ∑ q : Fin 2048, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 1408) :
    (∑ q : Fin 2048, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 4 = 0) (acc : Vec Ideal S1024x1408 .f32) (p : Fin 1024) (l : Fin 1408) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 4 ≠ 0) (acc : Vec Ideal S1024x1408 .f32) (p : Fin 1024) (l : Fin 1408) :
    Value.scAt0_0 m c n h acc (ix2 p l) = acc (ix2 p l) + added m c n (ix2 p l) := by
  unfold Value.scAt0_0
  rw [dif_neg hn]
  by_cases h1 : n % 4 = 3
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 4 = 3) (p : Fin 1024) (l : Fin 1408) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (4 * (t.val / 4)) 3 (fun h y => ?_) (fun n h acc y h1 h2 => ?_) (t.val % 4) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 2048 4 rfl _ _ fun j hj' => ?_
    have hn : 4 * (t.val / 4) + j < cfg0.N := Nat.lt_of_lt_of_eq (by omega) N_0.symm
    refine (dif_pos hn).trans (Finset.sum_congr rfl fun q _ => ?_)
    have e1 : term ⟨4 * (t.val / 4) + j, hn⟩ q = ⟨2048 * j + q.val, by omega⟩ := Fin.ext (by show 2048 * ((4 * (t.val / 4) + j) % 4) + q.val = 2048 * j + q.val; omega)
    have e2 : ∀ p : Fin 1024, row ⟨4 * (t.val / 4) + j, hn⟩ p = row t p := fun p => Fin.ext (by show 1024 * (0) + p.val = 1024 * (0) + p.val; omega)
    have e3 : ∀ l : Fin 1408, col ⟨4 * (t.val / 4) + j, hn⟩ l = col t l := fun l => Fin.ext (by show 1408 * ((4 * (t.val / 4) + j) / 4) + l.val = 1408 * (t.val / 4) + l.val; omega)
    rw [← e1, ← e2, ← e3]
    rfl

theorem cut_apply (t : Fin cfg0.N) (X : Vec Ideal S1024x1408 .bf16) (p : Fin 1024) (l : Fin 1408) : (cfg0.win 2).cut (grid0.coords t) X (ix2 p l) = X (ix2 p l) := rfl

/-- The last point of a run copies the scratch out. -/
theorem copied (t : Fin cfg0.N) (ht : t.val % 4 = 3) (p : Fin 1024) (l : Fin 1408) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 4 = 3 := (flush0_2 t).mp hf
  rw [Value.flushed2]
  refine Prod.ext (n := 1024) (m := 1408) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 2816 := (i 1).isLt
  let t : Fin cfg0.N := ⟨4 * ((i 1).val / 1408) + 3, Nat.lt_of_lt_of_eq (by omega) N_0.symm⟩
  refine ⟨t, (flush0_2 t).mpr (by show (4 * ((i 1).val / 1408) + 3) % 4 = 3; omega), ?_⟩
  have e : t.val / 4 = (i 1).val / 1408 := by show (4 * ((i 1).val / 1408) + 3) / 4 = _; omega
  show i ∈ ((View.whole main_v0).slice (win0_2.rect t)).set
  rw [View.set_slice_whole, Rect.mem_set_unit]
  exact inside (index2 t) 1024 1408 rfl rfl rfl rfl (by show 0 * 1024 ≤ (i 0).val ∧ (i 0).val < 0 * 1024 + 1024; omega) (by show t.val / 4 * 1408 ≤ (i 1).val ∧ (i 1).val < t.val / 4 * 1408 + 1408; omega)

end Cert.UpDwIdeal.Mine

namespace Cert.UpDwRefIdeal.Mine

open Cert.UpDwRefIdeal Cert.UpDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x2816 .bf16) : Read.val_main_v3 (F := Ideal) x0 x1 = tn x0 x1 := by
  refine Prod.ext (n := 1024) (m := 2816) fun p l => ?_
  rw [tn_ix2]
  pointwise [Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.UpDwRefIdeal.Mine

namespace Cert.UpDw.Mine

open Idealize.ShloMosaic Idealize.ShloMosaic.TcCoe Idealize.SL.Sem

/-- From the same arguments, both programs end with the same product. -/
theorem equal : Cert.algebraic_UpDwIdeal_UpDwRefIdeal (hUpDwIdeal := Cert.UpDwIdeal.Gen.facts) (hUpDwRefIdeal := Cert.UpDwRefIdeal.Gen.facts) := by
  intro m ρ m' ρ' _ ha
  refine ⟨fun c => Cert.Prod.tn (Cert.UpDwIdeal.Mine.a0 m c) (Cert.UpDwIdeal.Mine.a1 m c), ?_, ?_⟩
  · exact (θ_run _ _ _).mono (fun r h c => ⟨(h c).1.trans (Cert.UpDwIdeal.Mine.result m c), (h c).2⟩) (Cert.UpDwIdeal.Value.run_blocks (F := Ideal) m ρ)
  · refine (θ_run _ _ _).mono (fun r h c => ⟨(h c).1.trans ?_, (h c).2⟩) (Cert.UpDwRefIdeal.Mine.run m' ρ')
    rw [(ha c).1, (ha c).2]

end Cert.UpDw.Mine

end
-- ==== Proof.InnerEq.lean ====
/- The product `Inner`: the kernel's result and the reference's are the same matrix product. -/
module

public import proofs.«01_k».proof.Proof.Prod
public import proofs.«01_k».proof.Proof.Gen.Inner.Frame
public import proofs.«01_k».proof.Proof.Gen.InnerIdeal.Value
public import proofs.«01_k».proof.Proof.Gen.InnerRefIdeal.Read
public import proofs.«01_k».proof.Defs

@[expose] public section

set_option maxRecDepth 16384

noncomputable section

namespace Cert.InnerIdeal.Mine

open Cert.InnerIdeal Cert.InnerIdeal.Gen Idealize.ShloMosaic Idealize.ShloMosaic.TcCoe Idealize.SL.Sem
open Cert.Prod

/-- What the body writes, entry by entry. -/
theorem pay (x0 : Vec Ideal S512x1024 .bf16) (x1 : Vec Ideal S1024x2048 .bf16) (p : Fin 512) (l : Fin 2048) :
    k0_pay1 (F := Ideal) x0 x1 (ix2 p l) = ∑ q : Fin 1024, x0 (ix2 p q) * x1 (ix2 q l) := by
  pointwise [k0_pay1]

variable (m : (ℓ : Loc nD τ sig) → Buf (Elt Ideal) ℓ) (c : Dev nD)

abbrev a0 : FVec Ideal S8192x1024 .bf16 := m (c.tc.loc main_arg0)
abbrev a1 : FVec Ideal S1024x2048 .bf16 := m (c.tc.loc main_arg1)

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 512) : Fin 8192 := ⟨512 * t.val + p.val, by have := lt_points t; omega⟩

theorem block0 (t : Fin cfg0.N) (p : Fin 512) (q : Fin 1024) : iblk m c 0 t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (q : Fin 1024) (l : Fin 2048) : iblk m c 1 t (ix2 q l) = a1 m c (ix2 q l) := by
  show V m c main_arg1 _ = _
  rw [V_main_arg1]
  exact congrArg (a1 m c) (at_block (index1 t) 1024 2048 q.val l.val rfl rfl (by omega) (by omega))

theorem block2 (t : Fin cfg0.N) (X : FVec Ideal S8192x2048 .f32) (p : Fin 512) (l : Fin 2048) :
    ((cfg0.win 2).blk t).view.read (Elt Ideal) X (ix2 p l) = X (ix2 (row t p) l) := by
  exact congrArg X (at_block (index2 t) 512 2048 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 512) (m := 2048) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 2048 := (i 1).isLt
  let t : Fin cfg0.N := ⟨(i 0).val / 512, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 512 2048 rfl rfl rfl rfl (by show (i 0).val / 512 * 512 ≤ (i 0).val ∧ (i 0).val < (i 0).val / 512 * 512 + 512; omega) (by show 0 * 2048 ≤ (i 1).val ∧ (i 1).val < 0 * 2048 + 2048; omega)

end Cert.InnerIdeal.Mine

namespace Cert.InnerRefIdeal.Mine

open Cert.InnerRefIdeal Cert.InnerRefIdeal.Gen Idealize.ShloMosaic Idealize.ShloMosaic.TcCoe Idealize.SL.Sem
open Cert.Prod

/-- The reference's result is the product of its arguments. -/
theorem result (x0 : FVec Ideal S8192x1024 .bf16) (x1 : FVec Ideal S1024x2048 .bf16) : Read.val_main_v2 (F := Ideal) x0 x1 = nn x0 x1 := by
  refine Prod.ext (n := 8192) (m := 2048) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.InnerRefIdeal.Mine

namespace Cert.Inner.Mine

open Idealize.ShloMosaic Idealize.ShloMosaic.TcCoe Idealize.SL.Sem

/-- From the same arguments, both programs end with the same product. -/
theorem equal : Cert.algebraic_InnerIdeal_InnerRefIdeal (hInnerIdeal := Cert.InnerIdeal.Gen.facts) (hInnerRefIdeal := Cert.InnerRefIdeal.Gen.facts) := by
  intro m ρ m' ρ' _ ha
  refine ⟨fun c => Cert.Prod.nn (Cert.InnerIdeal.Mine.a0 m c) (Cert.InnerIdeal.Mine.a1 m c), ?_, ?_⟩
  · exact (θ_run _ _ _).mono (fun r h c => ⟨(h c).1.trans (Cert.InnerIdeal.Mine.result m c), (h c).2⟩) (Cert.InnerIdeal.Value.run_blocks (F := Ideal) m ρ)
  · refine (θ_run _ _ _).mono (fun r h c => ⟨(h c).1.trans ?_, (h c).2⟩) (Cert.InnerRefIdeal.Mine.run m' ρ')
    rw [(ha c).1, (ha c).2]

end Cert.Inner.Mine

end
-- ==== Proof.OuterEq.lean ====
/- The product `Outer`: the kernel's result and the reference's are the same matrix product. -/
module

public import proofs.«01_k».proof.Proof.Prod
public import proofs.«01_k».proof.Proof.Gen.Outer.Frame
public import proofs.«01_k».proof.Proof.Gen.OuterIdeal.Value
public import proofs.«01_k».proof.Proof.Gen.OuterRefIdeal.Read
public import proofs.«01_k».proof.Defs

@[expose] public section

set_option maxRecDepth 16384

noncomputable section

namespace Cert.OuterIdeal.Mine

open Cert.OuterIdeal Cert.OuterIdeal.Gen Idealize.ShloMosaic Idealize.ShloMosaic.TcCoe Idealize.SL.Sem
open Cert.Prod

/-- What the body writes, entry by entry. -/
theorem pay (x0 : Vec Ideal S1024x2048 .bf16) (x1 : Vec Ideal S2048x1024 .bf16) (p : Fin 1024) (l : Fin 1024) :
    k0_pay1 (F := Ideal) x0 x1 (ix2 p l) = ∑ q : Fin 2048, x0 (ix2 p q) * x1 (ix2 q l) := by
  pointwise [k0_pay1]

variable (m : (ℓ : Loc nD τ sig) → Buf (Elt Ideal) ℓ) (c : Dev nD)

abbrev a0 : FVec Ideal S8192x2048 .bf16 := m (c.tc.loc main_arg0)
abbrev a1 : FVec Ideal S2048x1024 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 2048) : iblk m c 0 t (ix2 p q) = a0 m c (ix2 (row t p) q) := by
  show V m c main_arg0 _ = _
  rw [V_main_arg0]
  exact congrArg (a0 m c) (at_block (index0 t) 1024 2048 p.val q.val rfl rfl rfl (by omega))

theorem block1 (t : Fin cfg0.N) (q : Fin 2048) (l : Fin 1024) : iblk m c 1 t (ix2 q l) = a1 m c (ix2 q l) := by
  show V m c main_arg1 _ = _
  rw [V_main_arg1]
  exact congrArg (a1 m c) (at_block (index1 t) 2048 1024 q.val l.val rfl rfl (by omega) (by omega))

theorem block2 (t : Fin cfg0.N) (X : FVec Ideal S8192x1024 .f32) (p : Fin 1024) (l : Fin 1024) :
    ((cfg0.win 2).blk t).view.read (Elt Ideal) X (ix2 p l) = X (ix2 (row t p) l) := by
  exact congrArg X (at_block (index2 t) 1024 1024 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 1024) (m := 1024) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.OuterIdeal.Mine

namespace Cert.OuterRefIdeal.Mine

open Cert.OuterRefIdeal Cert.OuterRefIdeal.Gen Idealize.ShloMosaic Idealize.ShloMosaic.TcCoe Idealize.SL.Sem
open Cert.Prod

/-- The reference's result is the product of its arguments. -/
theorem result (x0 : FVec Ideal S8192x2048 .bf16) (x1 : FVec Ideal S2048x1024 .bf16) : Read.val_main_v2 (F := Ideal) x0 x1 = nn x0 x1 := by
  refine Prod.ext (n := 8192) (m := 1024) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.OuterRefIdeal.Mine

namespace Cert.Outer.Mine

open Idealize.ShloMosaic Idealize.ShloMosaic.TcCoe Idealize.SL.Sem

/-- From the same arguments, both programs end with the same product. -/
theorem equal : Cert.algebraic_OuterIdeal_OuterRefIdeal (hOuterIdeal := Cert.OuterIdeal.Gen.facts) (hOuterRefIdeal := Cert.OuterRefIdeal.Gen.facts) := by
  intro m ρ m' ρ' _ ha
  refine ⟨fun c => Cert.Prod.nn (Cert.OuterIdeal.Mine.a0 m c) (Cert.OuterIdeal.Mine.a1 m c), ?_, ?_⟩
  · exact (θ_run _ _ _).mono (fun r h c => ⟨(h c).1.trans (Cert.OuterIdeal.Mine.result m c), (h c).2⟩) (Cert.OuterIdeal.Value.run_blocks (F := Ideal) m ρ)
  · refine (θ_run _ _ _).mono (fun r h c => ⟨(h c).1.trans ?_, (h c).2⟩) (Cert.OuterRefIdeal.Mine.run m' ρ')
    rw [(ha c).1, (ha c).2]

end Cert.Outer.Mine

end
-- ==== Proof.OuterDaEq.lean ====
/- The product `OuterDa`: the kernel's result and the reference's are the same matrix product. -/
module

public import proofs.«01_k».proof.Proof.Prod
public import proofs.«01_k».proof.Proof.Gen.OuterDa.Frame
public import proofs.«01_k».proof.Proof.Gen.OuterDaIdeal.Value
public import proofs.«01_k».proof.Proof.Gen.OuterDaRefIdeal.Read
public import proofs.«01_k».proof.Defs

@[expose] public section

set_option maxRecDepth 16384

noncomputable section

namespace Cert.OuterDaIdeal.Mine

open Cert.OuterDaIdeal Cert.OuterDaIdeal.Gen Idealize.ShloMosaic Idealize.ShloMosaic.TcCoe Idealize.SL.Sem
open Cert.Prod

/-- What the body writes, entry by entry. -/
theorem pay (x0 : Vec Ideal S1024x1024 .f32) (x1 : Vec Ideal S2048x1024 .bf16) (p : Fin 1024) (l : Fin 2048) :
    k0_pay1 (F := Ideal) x0 x1 (ix2 p l) = ∑ q : Fin 1024, x0 (ix2 p q) * x1 (ix2 l q) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S2048x1024 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 1024) : iblk m c 0 t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (q : Fin 1024) (l : Fin 2048) : iblk m c 1 t (ix2 l q) = a1 m c (ix2 l q) := by
  show V m c main_arg1 _ = _
  rw [V_main_arg1]
  exact congrArg (a1 m c) (at_block (index1 t) 2048 1024 l.val q.val rfl rfl (by omega) (by omega))

theorem block2 (t : Fin cfg0.N) (X : FVec Ideal S8192x2048 .bf16) (p : Fin 1024) (l : Fin 2048) :
    ((cfg0.win 2).blk t).view.read (Elt Ideal) X (ix2 p l) = X (ix2 (row t p) l) := by
  exact congrArg X (at_block (index2 t) 1024 2048 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 1024) (m := 2048) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 2048 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 2048 rfl rfl rfl rfl (by show (i 0).val / 1024 * 1024 ≤ (i 0).val ∧ (i 0).val < (i 0).val / 1024 * 1024 + 1024; omega) (by show 0 * 2048 ≤ (i 1).val ∧ (i 1).val < 0 * 2048 + 2048; omega)

end Cert.OuterDaIdeal.Mine

namespace Cert.OuterDaRefIdeal.Mine

open Cert.OuterDaRefIdeal Cert.OuterDaRefIdeal.Gen Idealize.ShloMosaic Idealize.ShloMosaic.TcCoe Idealize.SL.Sem
open Cert.Prod

/-- The reference's result is the product of its arguments. -/
theorem result (x0 : FVec Ideal S8192x1024 .f32) (x1 : FVec Ideal S2048x1024 .bf16) : Read.val_main_v3 (F := Ideal) x0 x1 = nt x0 x1 := by
  refine Prod.ext (n := 8192) (m := 2048) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.OuterDaRefIdeal.Mine

namespace Cert.OuterDa.Mine

open Idealize.ShloMosaic Idealize.ShloMosaic.TcCoe Idealize.SL.Sem

/-- From the same arguments, both programs end with the same product. -/
theorem equal : Cert.algebraic_OuterDaIdeal_OuterDaRefIdeal (hOuterDaIdeal := Cert.OuterDaIdeal.Gen.facts) (hOuterDaRefIdeal := Cert.OuterDaRefIdeal.Gen.facts) := by
  intro m ρ m' ρ' _ ha
  refine ⟨fun c => Cert.Prod.nt (Cert.OuterDaIdeal.Mine.a0 m c) (Cert.OuterDaIdeal.Mine.a1 m c), ?_, ?_⟩
  · exact (θ_run _ _ _).mono (fun r h c => ⟨(h c).1.trans (Cert.OuterDaIdeal.Mine.result m c), (h c).2⟩) (Cert.OuterDaIdeal.Value.run_blocks (F := Ideal) m ρ)
  · refine (θ_run _ _ _).mono (fun r h c => ⟨(h c).1.trans ?_, (h c).2⟩) (Cert.OuterDaRefIdeal.Mine.run m' ρ')
    rw [(ha c).1, (ha c).2]

end Cert.OuterDa.Mine

end
-- ==== Proof.OuterDwEq.lean ====
/- The product `OuterDw`: the kernel's accumulated result and the reference's are the same matrix product. -/
module

public import proofs.«01_k».proof.Proof.Prod
public import proofs.«01_k».proof.Proof.Gen.OuterDw.Frame
public import proofs.«01_k».proof.Proof.Gen.OuterDwIdeal.Value
public import proofs.«01_k».proof.Proof.Gen.OuterDwRefIdeal.Read
public import proofs.«01_k».proof.Defs

@[expose] public section

set_option maxRecDepth 16384

noncomputable section

namespace Cert.OuterDwIdeal.Mine

open Cert.OuterDwIdeal Cert.OuterDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 1024) : k0_pay1 (F := Ideal) (ix2 p l) = (0 : EReal) := by
  pointwise [k0_pay1]
theorem pay2 (s : Vec Ideal S1024x1024 .f32) (x0 : Vec Ideal S1024x1024 .bf16) (x1 : Vec Ideal S1024x1024 .f32) (p : Fin 1024) (l : Fin 1024) :
    k0_pay2 (F := Ideal) s x0 x1 (ix2 p l) = s (ix2 p l) + ∑ q : Fin 1024, x0 (ix2 q p) * x1 (ix2 q l) := by
  pointwise [k0_pay2]
theorem pay3 (s : Vec Ideal S1024x1024 .f32) (p : Fin 1024) (l : Fin 1024) : k0_pay3 (F := Ideal) s (ix2 p l) = s (ix2 p l) := by
  pointwise [k0_pay3]

section Cases

variable (c : Dev nD) (i : grid0.Coords) (arg3 : Memref sig .tc .vmem S1024x1024 .bf16) (harg3 : arg3.IsWhole) (arg4 : Memref sig .tc .vmem S1024x1024 .f32) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .f32) (s : Vec Ideal S1024x1024 .f32) (p : Fin 1024) (l : Fin 1024)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 1024, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x2048 .bf16 := m (c.tc.loc main_arg0)
abbrev a1 : FVec Ideal S8192x1024 .f32 := m (c.tc.loc main_arg1)

theorem lt_points (t : Fin cfg0.N) : t.val < 16 := Nat.lt_of_lt_of_eq t.isLt N_0
theorem index0 : ∀ t : Fin cfg0.N, win0_0.index t = ![t.val % 8, t.val / 8] := by decide +kernel
theorem index1 : ∀ t : Fin cfg0.N, win0_1.index t = ![t.val % 8, 0] := by decide +kernel
theorem index2 : ∀ t : Fin cfg0.N, win0_2.index t = ![t.val / 8, 0] := by decide +kernel

/-- Row `q` of the arguments' block at point `t`; row `p` and column `l` of the result's. -/
def term (t : Fin cfg0.N) (q : Fin 1024) : Fin 8192 := ⟨1024 * (t.val % 8) + q.val, by omega⟩
def row (t : Fin cfg0.N) (p : Fin 1024) : Fin 2048 := ⟨1024 * (t.val / 8) + p.val, by have := lt_points t; omega⟩
def col (t : Fin cfg0.N) (l : Fin 1024) : Fin 1024 := ⟨1024 * (0) + l.val, by have := lt_points t; omega⟩

abbrev b0 (t : Fin cfg0.N) : Vec Ideal S1024x1024 .bf16 := iblk m c 0 t
abbrev b1 (t : Fin cfg0.N) : Vec Ideal S1024x1024 .f32 := iblk m c 1 t

theorem block0 (t : Fin cfg0.N) (q : Fin 1024) (p : Fin 1024) : b0 m c t (ix2 q p) = a0 m c (ix2 (term t q) (row t p)) := by
  show V m c main_arg0 _ = _
  rw [V_main_arg0]
  exact congrArg (a0 m c) (at_block (index0 t) 1024 1024 q.val p.val rfl rfl rfl rfl)

theorem block1 (t : Fin cfg0.N) (q : Fin 1024) (l : Fin 1024) : b1 m c t (ix2 q l) = a1 m c (ix2 (term t q) (col t l)) := by
  show V m c main_arg1 _ = _
  rw [V_main_arg1]
  exact congrArg (a1 m c) (at_block (index1 t) 1024 1024 q.val l.val rfl rfl rfl rfl)

theorem block2 (t : Fin cfg0.N) (X : FVec Ideal S2048x1024 .bf16) (p : Fin 1024) (l : Fin 1024) :
    ((cfg0.win 2).blk t).view.read (Elt Ideal) X (ix2 p l) = X (ix2 (row t p) (col t l)) := by
  exact congrArg X (at_block (index2 t) 1024 1024 p.val l.val rfl rfl rfl rfl)

/-- What point `n` adds to the scratch. -/
def added (n : ℕ) : Mat 1024 1024 := mat fun p l =>
  if h : n < cfg0.N then ∑ q : Fin 1024, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 1024) :
    (∑ q : Fin 1024, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 8 = 0) (acc : Vec Ideal S1024x1024 .f32) (p : Fin 1024) (l : Fin 1024) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 8 ≠ 0) (acc : Vec Ideal S1024x1024 .f32) (p : Fin 1024) (l : Fin 1024) :
    Value.scAt0_0 m c n h acc (ix2 p l) = acc (ix2 p l) + added m c n (ix2 p l) := by
  unfold Value.scAt0_0
  rw [dif_neg hn]
  by_cases h1 : n % 8 = 7
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 8 = 7) (p : Fin 1024) (l : Fin 1024) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (8 * (t.val / 8)) 7 (fun h y => ?_) (fun n h acc y h1 h2 => ?_) (t.val % 8) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 1024 8 rfl _ _ fun j hj' => ?_
    have hn : 8 * (t.val / 8) + j < cfg0.N := Nat.lt_of_lt_of_eq (by omega) N_0.symm
    refine (dif_pos hn).trans (Finset.sum_congr rfl fun q _ => ?_)
    have e1 : term ⟨8 * (t.val / 8) + j, hn⟩ q = ⟨1024 * j + q.val, by omega⟩ := Fin.ext (by show 1024 * ((8 * (t.val / 8) + j) % 8) + q.val = 1024 * j + q.val; omega)
    have e2 : ∀ p : Fin 1024, row ⟨8 * (t.val / 8) + j, hn⟩ p = row t p := fun p => Fin.ext (by show 1024 * ((8 * (t.val / 8) + j) / 8) + p.val = 1024 * (t.val / 8) + p.val; omega)
    have e3 : ∀ l : Fin 1024, col ⟨8 * (t.val / 8) + j, hn⟩ l = col t l := fun l => Fin.ext (by show 1024 * (0) + l.val = 1024 * (0) + l.val; omega)
    rw [← e1, ← e2, ← e3]
    rfl

theorem cut_apply (t : Fin cfg0.N) (X : Vec Ideal S1024x1024 .bf16) (p : Fin 1024) (l : Fin 1024) : (cfg0.win 2).cut (grid0.coords t) X (ix2 p l) = X (ix2 p l) := rfl

/-- The last point of a run copies the scratch out. -/
theorem copied (t : Fin cfg0.N) (ht : t.val % 8 = 7) (p : Fin 1024) (l : Fin 1024) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 8 = 7 := (flush0_2 t).mp hf
  rw [Value.flushed2]
  refine Prod.ext (n := 1024) (m := 1024) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 2048 := (i 0).isLt
  have h1 : (i 1).val < 1024 := (i 1).isLt
  let t : Fin cfg0.N := ⟨8 * ((i 0).val / 1024) + 7, Nat.lt_of_lt_of_eq (by omega) N_0.symm⟩
  refine ⟨t, (flush0_2 t).mpr (by show (8 * ((i 0).val / 1024) + 7) % 8 = 7; omega), ?_⟩
  have e : t.val / 8 = (i 0).val / 1024 := by show (8 * ((i 0).val / 1024) + 7) / 8 = _; omega
  show i ∈ ((View.whole main_v0).slice (win0_2.rect t)).set
  rw [View.set_slice_whole, Rect.mem_set_unit]
  exact inside (index2 t) 1024 1024 rfl rfl rfl rfl (by show t.val / 8 * 1024 ≤ (i 0).val ∧ (i 0).val < t.val / 8 * 1024 + 1024; omega) (by show 0 * 1024 ≤ (i 1).val ∧ (i 1).val < 0 * 1024 + 1024; omega)

end Cert.OuterDwIdeal.Mine

namespace Cert.OuterDwRefIdeal.Mine

open Cert.OuterDwRefIdeal Cert.OuterDwRefIdeal.Gen Idealize.ShloMosaic Idealize.ShloMosaic.TcCoe Idealize.SL.Sem
open Cert.Prod

/-- The reference's result is the product of its arguments. -/
theorem result (x0 : FVec Ideal S8192x2048 .bf16) (x1 : FVec Ideal S8192x1024 .f32) : Read.val_main_v4 (F := Ideal) x0 x1 = tn x0 x1 := by
  refine Prod.ext (n := 2048) (m := 1024) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.OuterDwRefIdeal.Mine

namespace Cert.OuterDw.Mine

open Idealize.ShloMosaic Idealize.ShloMosaic.TcCoe Idealize.SL.Sem

/-- From the same arguments, both programs end with the same product. -/
theorem equal : Cert.algebraic_OuterDwIdeal_OuterDwRefIdeal (hOuterDwIdeal := Cert.OuterDwIdeal.Gen.facts) (hOuterDwRefIdeal := Cert.OuterDwRefIdeal.Gen.facts) := by
  intro m ρ m' ρ' _ ha
  refine ⟨fun c => Cert.Prod.tn (Cert.OuterDwIdeal.Mine.a0 m c) (Cert.OuterDwIdeal.Mine.a1 m c), ?_, ?_⟩
  · exact (θ_run _ _ _).mono (fun r h c => ⟨(h c).1.trans (Cert.OuterDwIdeal.Mine.result m c), (h c).2⟩) (Cert.OuterDwIdeal.Value.run_blocks (F := Ideal) m ρ)
  · refine (θ_run _ _ _).mono (fun r h c => ⟨(h c).1.trans ?_, (h c).2⟩) (Cert.OuterDwRefIdeal.Mine.run m' ρ')
    rw [(ha c).1, (ha c).2]

end Cert.OuterDw.Mine

end
-- ==== Proof.InnerDaEq.lean ====
/- The product `InnerDa`: the kernel's result and the reference's are the same matrix product. -/
module

public import proofs.«01_k».proof.Proof.Prod
public import proofs.«01_k».proof.Proof.Gen.InnerDa.Frame
public import proofs.«01_k».proof.Proof.Gen.InnerDaIdeal.Value
public import proofs.«01_k».proof.Proof.Gen.InnerDaRefIdeal.Read
public import proofs.«01_k».proof.Defs

@[expose] public section

set_option maxRecDepth 16384

noncomputable section

namespace Cert.InnerDaIdeal.Mine

open Cert.InnerDaIdeal Cert.InnerDaIdeal.Gen Idealize.ShloMosaic Idealize.ShloMosaic.TcCoe Idealize.SL.Sem
open Cert.Prod

/-- What the body writes, entry by entry. -/
theorem pay (x0 : Vec Ideal S1024x2048 .bf16) (x1 : Vec Ideal S1024x2048 .bf16) (p : Fin 1024) (l : Fin 1024) :
    k0_pay1 (F := Ideal) x0 x1 (ix2 p l) = ∑ q : Fin 2048, x0 (ix2 p q) * x1 (ix2 l q) := by
  pointwise [k0_pay1]

variable (m : (ℓ : Loc nD τ sig) → Buf (Elt Ideal) ℓ) (c : Dev nD)

abbrev a0 : FVec Ideal S8192x2048 .bf16 := m (c.tc.loc main_arg0)
abbrev a1 : FVec Ideal S1024x2048 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 2048) : iblk m c 0 t (ix2 p q) = a0 m c (ix2 (row t p) q) := by
  show V m c main_arg0 _ = _
  rw [V_main_arg0]
  exact congrArg (a0 m c) (at_block (index0 t) 1024 2048 p.val q.val rfl rfl rfl (by omega))

theorem block1 (t : Fin cfg0.N) (q : Fin 2048) (l : Fin 1024) : iblk m c 1 t (ix2 l q) = a1 m c (ix2 l q) := by
  show V m c main_arg1 _ = _
  rw [V_main_arg1]
  exact congrArg (a1 m c) (at_block (index1 t) 1024 2048 l.val q.val rfl rfl (by omega) (by omega))

theorem block2 (t : Fin cfg0.N) (X : FVec Ideal S8192x1024 .bf16) (p : Fin 1024) (l : Fin 1024) :
    ((cfg0.win 2).blk t).view.read (Elt Ideal) X (ix2 p l) = X (ix2 (row t p) l) := by
  exact congrArg X (at_block (index2 t) 1024 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 1024) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.InnerDaIdeal.Mine

namespace Cert.InnerDaRefIdeal.Mine

open Cert.InnerDaRefIdeal Cert.InnerDaRefIdeal.Gen Idealize.ShloMosaic Idealize.ShloMosaic.TcCoe Idealize.SL.Sem
open Cert.Prod

/-- The reference's result is the product of its arguments. -/
theorem result (x0 : FVec Ideal S8192x2048 .bf16) (x1 : FVec Ideal S1024x2048 .bf16) : Read.val_main_v2 (F := Ideal) x0 x1 = nt x0 x1 := by
  refine Prod.ext (n := 8192) (m := 1024) fun p l => ?_
  rw [nt_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.InnerDaRefIdeal.Mine

namespace Cert.InnerDa.Mine

open Idealize.ShloMosaic Idealize.ShloMosaic.TcCoe Idealize.SL.Sem

/-- From the same arguments, both programs end with the same product. -/
theorem equal : Cert.algebraic_InnerDaIdeal_InnerDaRefIdeal (hInnerDaIdeal := Cert.InnerDaIdeal.Gen.facts) (hInnerDaRefIdeal := Cert.InnerDaRefIdeal.Gen.facts) := by
  intro m ρ m' ρ' _ ha
  refine ⟨fun c => Cert.Prod.nt (Cert.InnerDaIdeal.Mine.a0 m c) (Cert.InnerDaIdeal.Mine.a1 m c), ?_, ?_⟩
  · exact (θ_run _ _ _).mono (fun r h c => ⟨(h c).1.trans (Cert.InnerDaIdeal.Mine.result m c), (h c).2⟩) (Cert.InnerDaIdeal.Value.run_blocks (F := Ideal) m ρ)
  · refine (θ_run _ _ _).mono (fun r h c => ⟨(h c).1.trans ?_, (h c).2⟩) (Cert.InnerDaRefIdeal.Mine.run m' ρ')
    rw [(ha c).1, (ha c).2]

end Cert.InnerDa.Mine

end
-- ==== Proof.InnerDwEq.lean ====
/- The product `InnerDw`: the kernel's accumulated result and the reference's are the same matrix product. -/
module

public import proofs.«01_k».proof.Proof.Prod
public import proofs.«01_k».proof.Proof.Gen.InnerDw.Frame
public import proofs.«01_k».proof.Proof.Gen.InnerDwIdeal.Value
public import proofs.«01_k».proof.Proof.Gen.InnerDwRefIdeal.Read
public import proofs.«01_k».proof.Defs

@[expose] public section

set_option maxRecDepth 16384

noncomputable section

namespace Cert.InnerDwIdeal.Mine

open Cert.InnerDwIdeal Cert.InnerDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 1024) : k0_pay1 (F := Ideal) (ix2 p l) = (0 : EReal) := by
  pointwise [k0_pay1]
theorem pay2 (s : Vec Ideal S1024x1024 .f32) (x0 : Vec Ideal S2048x1024 .bf16) (x1 : Vec Ideal S2048x1024 .bf16) (p : Fin 1024) (l : Fin 1024) :
    k0_pay2 (F := Ideal) s x0 x1 (ix2 p l) = s (ix2 p l) + ∑ q : Fin 2048, x0 (ix2 q p) * x1 (ix2 q l) := by
  pointwise [k0_pay2]
theorem pay3 (s : Vec Ideal S1024x1024 .f32) (p : Fin 1024) (l : Fin 1024) : k0_pay3 (F := Ideal) s (ix2 p l) = s (ix2 p l) := by
  pointwise [k0_pay3]

section Cases

variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (s : Vec Ideal S1024x1024 .f32) (p : Fin 1024) (l : Fin 1024)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 2048, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v14
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x2048 .bf16 := m (c.tc.loc main_arg1)

theorem lt_points (t : Fin cfg0.N) : t.val < 8 := Nat.lt_of_lt_of_eq t.isLt N_0
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel

/-- Row `q` of the arguments' block at point `t`; row `p` and column `l` of the result's. -/
def term (t : Fin cfg0.N) (q : Fin 2048) : Fin 8192 := ⟨2048 * (t.val % 4) + q.val, by omega⟩
def row (t : Fin cfg0.N) (p : Fin 1024) : Fin 1024 := ⟨1024 * (0) + p.val, by have := lt_points t; omega⟩
def col (t : Fin cfg0.N) (l : Fin 1024) : Fin 2048 := ⟨1024 * (t.val / 4) + l.val, by have := lt_points t; omega⟩

abbrev b0 (t : Fin cfg0.N) : Vec Ideal S2048x1024 .bf16 := iblk m c 0 t
abbrev b1 (t : Fin cfg0.N) : Vec Ideal S2048x1024 .bf16 := iblk m c 1 t

theorem block0 (t : Fin cfg0.N) (q : Fin 2048) (p : Fin 1024) : b0 m c t (ix2 q p) = a0 m c (ix2 (term t q) (row t p)) := by
  show V m c main_arg0 _ = _
  rw [V_main_arg0]
  exact congrArg (a0 m c) (at_block (index0 t) 2048 1024 q.val p.val rfl rfl rfl rfl)

theorem block1 (t : Fin cfg0.N) (q : Fin 2048) (l : Fin 1024) : b1 m c t (ix2 q l) = a1 m c (ix2 (term t q) (col t l)) := by
  show V m c main_arg1 _ = _
  rw [V_main_arg1]
  exact congrArg (a1 m c) (at_block (index1 t) 2048 1024 q.val l.val rfl rfl rfl rfl)

theorem block2 (t : Fin cfg0.N) (X : FVec Ideal S1024x2048 .bf16) (p : Fin 1024) (l : Fin 1024) :
    ((cfg0.win 2).blk t).view.read (Elt Ideal) X (ix2 p l) = X (ix2 (row t p) (col t l)) := by
  exact congrArg X (at_block (index2 t) 1024 1024 p.val l.val rfl rfl rfl rfl)

/-- What point `n` adds to the scratch. -/
def added (n : ℕ) : Mat 1024 1024 := mat fun p l =>
  if h : n < cfg0.N then ∑ q : Fin 2048, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 1024) :
    (∑ q : Fin 2048, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 4 = 0) (acc : Vec Ideal S1024x1024 .f32) (p : Fin 1024) (l : Fin 1024) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 4 ≠ 0) (acc : Vec Ideal S1024x1024 .f32) (p : Fin 1024) (l : Fin 1024) :
    Value.scAt0_0 m c n h acc (ix2 p l) = acc (ix2 p l) + added m c n (ix2 p l) := by
  unfold Value.scAt0_0
  rw [dif_neg hn]
  by_cases h1 : n % 4 = 3
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 4 = 3) (p : Fin 1024) (l : Fin 1024) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (4 * (t.val / 4)) 3 (fun h y => ?_) (fun n h acc y h1 h2 => ?_) (t.val % 4) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 2048 4 rfl _ _ fun j hj' => ?_
    have hn : 4 * (t.val / 4) + j < cfg0.N := Nat.lt_of_lt_of_eq (by omega) N_0.symm
    refine (dif_pos hn).trans (Finset.sum_congr rfl fun q _ => ?_)
    have e1 : term ⟨4 * (t.val / 4) + j, hn⟩ q = ⟨2048 * j + q.val, by omega⟩ := Fin.ext (by show 2048 * ((4 * (t.val / 4) + j) % 4) + q.val = 2048 * j + q.val; omega)
    have e2 : ∀ p : Fin 1024, row ⟨4 * (t.val / 4) + j, hn⟩ p = row t p := fun p => Fin.ext (by show 1024 * (0) + p.val = 1024 * (0) + p.val; omega)
    have e3 : ∀ l : Fin 1024, col ⟨4 * (t.val / 4) + j, hn⟩ l = col t l := fun l => Fin.ext (by show 1024 * ((4 * (t.val / 4) + j) / 4) + l.val = 1024 * (t.val / 4) + l.val; omega)
    rw [← e1, ← e2, ← e3]
    rfl

theorem cut_apply (t : Fin cfg0.N) (X : Vec Ideal S1024x1024 .bf16) (p : Fin 1024) (l : Fin 1024) : (cfg0.win 2).cut (grid0.coords t) X (ix2 p l) = X (ix2 p l) := rfl

/-- The last point of a run copies the scratch out. -/
theorem copied (t : Fin cfg0.N) (ht : t.val % 4 = 3) (p : Fin 1024) (l : Fin 1024) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 4 = 3 := (flush0_2 t).mp hf
  rw [Value.flushed2]
  refine Prod.ext (n := 1024) (m := 1024) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 2048 := (i 1).isLt
  let t : Fin cfg0.N := ⟨4 * ((i 1).val / 1024) + 3, Nat.lt_of_lt_of_eq (by omega) N_0.symm⟩
  refine ⟨t, (flush0_2 t).mpr (by show (4 * ((i 1).val / 1024) + 3) % 4 = 3; omega), ?_⟩
  have e : t.val / 4 = (i 1).val / 1024 := by show (4 * ((i 1).val / 1024) + 3) / 4 = _; omega
  show i ∈ ((View.whole main_v0).slice (win0_2.rect t)).set
  rw [View.set_slice_whole, Rect.mem_set_unit]
  exact inside (index2 t) 1024 1024 rfl rfl rfl rfl (by show 0 * 1024 ≤ (i 0).val ∧ (i 0).val < 0 * 1024 + 1024; omega) (by show t.val / 4 * 1024 ≤ (i 1).val ∧ (i 1).val < t.val / 4 * 1024 + 1024; omega)

end Cert.InnerDwIdeal.Mine

namespace Cert.InnerDwRefIdeal.Mine

open Cert.InnerDwRefIdeal Cert.InnerDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x2048 .bf16) : Read.val_main_v3 (F := Ideal) x0 x1 = tn x0 x1 := by
  refine Prod.ext (n := 1024) (m := 2048) fun p l => ?_
  rw [tn_ix2]
  pointwise [Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.InnerDwRefIdeal.Mine

namespace Cert.InnerDw.Mine

open Idealize.ShloMosaic Idealize.ShloMosaic.TcCoe Idealize.SL.Sem

/-- From the same arguments, both programs end with the same product. -/
theorem equal : Cert.algebraic_InnerDwIdeal_InnerDwRefIdeal (hInnerDwIdeal := Cert.InnerDwIdeal.Gen.facts) (hInnerDwRefIdeal := Cert.InnerDwRefIdeal.Gen.facts) := by
  intro m ρ m' ρ' _ ha
  refine ⟨fun c => Cert.Prod.tn (Cert.InnerDwIdeal.Mine.a0 m c) (Cert.InnerDwIdeal.Mine.a1 m c), ?_, ?_⟩
  · exact (θ_run _ _ _).mono (fun r h c => ⟨(h c).1.trans (Cert.InnerDwIdeal.Mine.result m c), (h c).2⟩) (Cert.InnerDwIdeal.Value.run_blocks (F := Ideal) m ρ)
  · refine (θ_run _ _ _).mono (fun r h c => ⟨(h c).1.trans ?_, (h c).2⟩) (Cert.InnerDwRefIdeal.Mine.run m' ρ')
    rw [(ha c).1, (ha c).2]

end Cert.InnerDw.Mine

end
-- ==== Proof.GateDaEq.lean ====
/- The product `GateDa`: the kernel's result and the reference's are the same matrix product. -/
module

public import proofs.«01_k».proof.Proof.Prod
public import proofs.«01_k».proof.Proof.Gen.GateDa.Frame
public import proofs.«01_k».proof.Proof.Gen.GateDaIdeal.Value
public import proofs.«01_k».proof.Proof.Gen.GateDaRefIdeal.Read
public import proofs.«01_k».proof.Defs

@[expose] public section

set_option maxRecDepth 16384

noncomputable section

namespace Cert.GateDaIdeal.Mine

open Cert.GateDaIdeal Cert.GateDaIdeal.Gen Idealize.ShloMosaic Idealize.ShloMosaic.TcCoe Idealize.SL.Sem
open Cert.Prod

/-- What the body writes, entry by entry. -/
theorem pay (x0 : Vec Ideal S512x2048 .f32) (x1 : Vec Ideal S1024x2048 .bf16) (p : Fin 512) (l : Fin 1024) :
    k0_pay1 (F := Ideal) x0 x1 (ix2 p l) = ∑ q : Fin 2048, x0 (ix2 p q) * x1 (ix2 l q) := by
  pointwise [k0_pay1]

variable (m : (ℓ : Loc nD τ sig) → Buf (Elt Ideal) ℓ) (c : Dev nD)

abbrev a0 : FVec Ideal S8192x2048 .f32 := m (c.tc.loc main_arg0)
abbrev a1 : FVec Ideal S1024x2048 .bf16 := m (c.tc.loc main_arg1)

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 512) : Fin 8192 := ⟨512 * t.val + p.val, by have := lt_points t; omega⟩

theorem block0 (t : Fin cfg0.N) (p : Fin 512) (q : Fin 2048) : iblk m c 0 t (ix2 p q) = a0 m c (ix2 (row t p) q) := by
  show V m c main_arg0 _ = _
  rw [V_main_arg0]
  exact congrArg (a0 m c) (at_block (index0 t) 512 2048 p.val q.val rfl rfl rfl (by omega))

theorem block1 (t : Fin cfg0.N) (q : Fin 2048) (l : Fin 1024) : iblk m c 1 t (ix2 l q) = a1 m c (ix2 l q) := by
  show V m c main_arg1 _ = _
  rw [V_main_arg1]
  exact congrArg (a1 m c) (at_block (index1 t) 1024 2048 l.val q.val rfl rfl (by omega) (by omega))

theorem block2 (t : Fin cfg0.N) (X : FVec Ideal S8192x1024 .bf16) (p : Fin 512) (l : Fin 1024) :
    ((cfg0.win 2).blk t).view.read (Elt Ideal) X (ix2 p l) = X (ix2 (row t p) l) := by
  exact congrArg X (at_block (index2 t) 512 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 512) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

end Cert.GateDaIdeal.Mine

namespace Cert.GateDaRefIdeal.Mine

open Cert.GateDaRefIdeal Cert.GateDaRefIdeal.Gen Idealize.ShloMosaic Idealize.ShloMosaic.TcCoe Idealize.SL.Sem
open Cert.Prod

/-- The reference's result is the product of its arguments. -/
theorem result (x0 : FVec Ideal S8192x2048 .f32) (x1 : FVec Ideal S1024x2048 .bf16) : Read.val_main_v3 (F := Ideal) x0 x1 = nt x0 x1 := by
  refine Prod.ext (n := 8192) (m := 1024) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.GateDaRefIdeal.Mine

namespace Cert.GateDa.Mine

open Idealize.ShloMosaic Idealize.ShloMosaic.TcCoe Idealize.SL.Sem

/-- From the same arguments, both programs end with the same product. -/
theorem equal : Cert.algebraic_GateDaIdeal_GateDaRefIdeal (hGateDaIdeal := Cert.GateDaIdeal.Gen.facts) (hGateDaRefIdeal := Cert.GateDaRefIdeal.Gen.facts) := by
  intro m ρ m' ρ' _ ha
  refine ⟨fun c => Cert.Prod.nt (Cert.GateDaIdeal.Mine.a0 m c) (Cert.GateDaIdeal.Mine.a1 m c), ?_, ?_⟩
  · exact (θ_run _ _ _).mono (fun r h c => ⟨(h c).1.trans (Cert.GateDaIdeal.Mine.result m c), (h c).2⟩) (Cert.GateDaIdeal.Value.run_blocks (F := Ideal) m ρ)
  · refine (θ_run _ _ _).mono (fun r h c => ⟨(h c).1.trans ?_, (h c).2⟩) (Cert.GateDaRefIdeal.Mine.run m' ρ')
    rw [(ha c).1, (ha c).2]

end Cert.GateDa.Mine

end
-- ==== Proof.GateDwEq.lean ====
/- The product `GateDw`: the kernel's accumulated result and the reference's are the same matrix product. -/
module

public import proofs.«01_k».proof.Proof.Prod
public import proofs.«01_k».proof.Proof.Gen.GateDw.Frame
public import proofs.«01_k».proof.Proof.Gen.GateDwIdeal.Value
public import proofs.«01_k».proof.Proof.Gen.GateDwRefIdeal.Read
public import proofs.«01_k».proof.Defs

@[expose] public section

set_option maxRecDepth 16384

noncomputable section

namespace Cert.GateDwIdeal.Mine

open Cert.GateDwIdeal Cert.GateDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 1024) : k0_pay1 (F := Ideal) (ix2 p l) = (0 : EReal) := by
  pointwise [k0_pay1]
theorem pay2 (s : Vec Ideal S1024x1024 .f32) (x0 : Vec Ideal S1024x1024 .bf16) (x1 : Vec Ideal S1024x1024 .f32) (p : Fin 1024) (l : Fin 1024) :
    k0_pay2 (F := Ideal) s x0 x1 (ix2 p l) = s (ix2 p l) + ∑ q : Fin 1024, x0 (ix2 q p) * x1 (ix2 q l) := by
  pointwise [k0_pay2]
theorem pay3 (s : Vec Ideal S1024x1024 .f32) (p : Fin 1024) (l : Fin 1024) : k0_pay3 (F := Ideal) s (ix2 p l) = s (ix2 p l) := by
  pointwise [k0_pay3]

section Cases

variable (c : Dev nD) (i : grid0.Coords) (arg3 : Memref sig .tc .vmem S1024x1024 .bf16) (harg3 : arg3.IsWhole) (arg4 : Memref sig .tc .vmem S1024x1024 .f32) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .f32) (s : Vec Ideal S1024x1024 .f32) (p : Fin 1024) (l : Fin 1024)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 1024, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x2048 .f32 := m (c.tc.loc main_arg1)

theorem lt_points (t : Fin cfg0.N) : t.val < 16 := Nat.lt_of_lt_of_eq t.isLt N_0
theorem index0 : ∀ t : Fin cfg0.N, win0_0.index t = ![t.val % 8, 0] := by decide +kernel
theorem index1 : ∀ t : Fin cfg0.N, win0_1.index t = ![t.val % 8, t.val / 8] := by decide +kernel
theorem index2 : ∀ t : Fin cfg0.N, win0_2.index t = ![0, t.val / 8] := by decide +kernel

/-- Row `q` of the arguments' block at point `t`; row `p` and column `l` of the result's. -/
def term (t : Fin cfg0.N) (q : Fin 1024) : Fin 8192 := ⟨1024 * (t.val % 8) + q.val, by omega⟩
def row (t : Fin cfg0.N) (p : Fin 1024) : Fin 1024 := ⟨1024 * (0) + p.val, by have := lt_points t; omega⟩
def col (t : Fin cfg0.N) (l : Fin 1024) : Fin 2048 := ⟨1024 * (t.val / 8) + l.val, by have := lt_points t; omega⟩

abbrev b0 (t : Fin cfg0.N) : Vec Ideal S1024x1024 .bf16 := iblk m c 0 t
abbrev b1 (t : Fin cfg0.N) : Vec Ideal S1024x1024 .f32 := iblk m c 1 t

theorem block0 (t : Fin cfg0.N) (q : Fin 1024) (p : Fin 1024) : b0 m c t (ix2 q p) = a0 m c (ix2 (term t q) (row t p)) := by
  show V m c main_arg0 _ = _
  rw [V_main_arg0]
  exact congrArg (a0 m c) (at_block (index0 t) 1024 1024 q.val p.val rfl rfl rfl rfl)

theorem block1 (t : Fin cfg0.N) (q : Fin 1024) (l : Fin 1024) : b1 m c t (ix2 q l) = a1 m c (ix2 (term t q) (col t l)) := by
  show V m c main_arg1 _ = _
  rw [V_main_arg1]
  exact congrArg (a1 m c) (at_block (index1 t) 1024 1024 q.val l.val rfl rfl rfl rfl)

theorem block2 (t : Fin cfg0.N) (X : FVec Ideal S1024x2048 .bf16) (p : Fin 1024) (l : Fin 1024) :
    ((cfg0.win 2).blk t).view.read (Elt Ideal) X (ix2 p l) = X (ix2 (row t p) (col t l)) := by
  exact congrArg X (at_block (index2 t) 1024 1024 p.val l.val rfl rfl rfl rfl)

/-- What point `n` adds to the scratch. -/
def added (n : ℕ) : Mat 1024 1024 := mat fun p l =>
  if h : n < cfg0.N then ∑ q : Fin 1024, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 1024) :
    (∑ q : Fin 1024, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 8 = 0) (acc : Vec Ideal S1024x1024 .f32) (p : Fin 1024) (l : Fin 1024) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 8 ≠ 0) (acc : Vec Ideal S1024x1024 .f32) (p : Fin 1024) (l : Fin 1024) :
    Value.scAt0_0 m c n h acc (ix2 p l) = acc (ix2 p l) + added m c n (ix2 p l) := by
  unfold Value.scAt0_0
  rw [dif_neg hn]
  by_cases h1 : n % 8 = 7
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 8 = 7) (p : Fin 1024) (l : Fin 1024) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (8 * (t.val / 8)) 7 (fun h y => ?_) (fun n h acc y h1 h2 => ?_) (t.val % 8) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 1024 8 rfl _ _ fun j hj' => ?_
    have hn : 8 * (t.val / 8) + j < cfg0.N := Nat.lt_of_lt_of_eq (by omega) N_0.symm
    refine (dif_pos hn).trans (Finset.sum_congr rfl fun q _ => ?_)
    have e1 : term ⟨8 * (t.val / 8) + j, hn⟩ q = ⟨1024 * j + q.val, by omega⟩ := Fin.ext (by show 1024 * ((8 * (t.val / 8) + j) % 8) + q.val = 1024 * j + q.val; omega)
    have e2 : ∀ p : Fin 1024, row ⟨8 * (t.val / 8) + j, hn⟩ p = row t p := fun p => Fin.ext (by show 1024 * (0) + p.val = 1024 * (0) + p.val; omega)
    have e3 : ∀ l : Fin 1024, col ⟨8 * (t.val / 8) + j, hn⟩ l = col t l := fun l => Fin.ext (by show 1024 * ((8 * (t.val / 8) + j) / 8) + l.val = 1024 * (t.val / 8) + l.val; omega)
    rw [← e1, ← e2, ← e3]
    rfl

theorem cut_apply (t : Fin cfg0.N) (X : Vec Ideal S1024x1024 .bf16) (p : Fin 1024) (l : Fin 1024) : (cfg0.win 2).cut (grid0.coords t) X (ix2 p l) = X (ix2 p l) := rfl

/-- The last point of a run copies the scratch out. -/
theorem copied (t : Fin cfg0.N) (ht : t.val % 8 = 7) (p : Fin 1024) (l : Fin 1024) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 8 = 7 := (flush0_2 t).mp hf
  rw [Value.flushed2]
  refine Prod.ext (n := 1024) (m := 1024) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 2048 := (i 1).isLt
  let t : Fin cfg0.N := ⟨8 * ((i 1).val / 1024) + 7, Nat.lt_of_lt_of_eq (by omega) N_0.symm⟩
  refine ⟨t, (flush0_2 t).mpr (by show (8 * ((i 1).val / 1024) + 7) % 8 = 7; omega), ?_⟩
  have e : t.val / 8 = (i 1).val / 1024 := by show (8 * ((i 1).val / 1024) + 7) / 8 = _; omega
  show i ∈ ((View.whole main_v0).slice (win0_2.rect t)).set
  rw [View.set_slice_whole, Rect.mem_set_unit]
  exact inside (index2 t) 1024 1024 rfl rfl rfl rfl (by show 0 * 1024 ≤ (i 0).val ∧ (i 0).val < 0 * 1024 + 1024; omega) (by show t.val / 8 * 1024 ≤ (i 1).val ∧ (i 1).val < t.val / 8 * 1024 + 1024; omega)

end Cert.GateDwIdeal.Mine

namespace Cert.GateDwRefIdeal.Mine

open Cert.GateDwRefIdeal Cert.GateDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x2048 .f32) : Read.val_main_v4 (F := Ideal) x0 x1 = tn x0 x1 := by
  refine Prod.ext (n := 1024) (m := 2048) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.GateDwRefIdeal.Mine

namespace Cert.GateDw.Mine

open Idealize.ShloMosaic Idealize.ShloMosaic.TcCoe Idealize.SL.Sem

/-- From the same arguments, both programs end with the same product. -/
theorem equal : Cert.algebraic_GateDwIdeal_GateDwRefIdeal (hGateDwIdeal := Cert.GateDwIdeal.Gen.facts) (hGateDwRefIdeal := Cert.GateDwRefIdeal.Gen.facts) := by
  intro m ρ m' ρ' _ ha
  refine ⟨fun c => Cert.Prod.tn (Cert.GateDwIdeal.Mine.a0 m c) (Cert.GateDwIdeal.Mine.a1 m c), ?_, ?_⟩
  · exact (θ_run _ _ _).mono (fun r h c => ⟨(h c).1.trans (Cert.GateDwIdeal.Mine.result m c), (h c).2⟩) (Cert.GateDwIdeal.Value.run_blocks (F := Ideal) m ρ)
  · refine (θ_run _ _ _).mono (fun r h c => ⟨(h c).1.trans ?_, (h c).2⟩) (Cert.GateDwRefIdeal.Mine.run m' ρ')
    rw [(ha c).1, (ha c).2]

end Cert.GateDw.Mine

end
-- ==== Proof.StateEq.lean ====
/- The product `State`: the kernel's result and the reference's are the same matrix product. -/
module

public import proofs.«01_k».proof.Proof.Prod
public import proofs.«01_k».proof.Proof.Gen.State.Frame
public import proofs.«01_k».proof.Proof.Gen.StateIdeal.Value
public import proofs.«01_k».proof.Proof.Gen.StateRefIdeal.Read
public import proofs.«01_k».proof.Defs

@[expose] public section

set_option maxRecDepth 16384

noncomputable section

namespace Cert.StateIdeal.Mine

open Cert.StateIdeal Cert.StateIdeal.Gen Idealize.ShloMosaic Idealize.ShloMosaic.TcCoe Idealize.SL.Sem
open Cert.Prod

/-- What the body writes, entry by entry. -/
theorem pay (x0 : Vec Ideal S2048x1024 .bf16) (x1 : Vec Ideal S1024x512 .bf16) (p : Fin 2048) (l : Fin 512) :
    k0_pay1 (F := Ideal) x0 x1 (ix2 p l) = ∑ q : Fin 1024, x0 (ix2 p q) * x1 (ix2 q l) := by
  pointwise [k0_pay1]

variable (m : (ℓ : Loc nD τ sig) → Buf (Elt Ideal) ℓ) (c : Dev nD)

abbrev a0 : FVec Ideal S8192x1024 .bf16 := m (c.tc.loc main_arg0)
abbrev a1 : FVec Ideal S1024x512 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 1024) : iblk m c 0 t (ix2 p q) = a0 m c (ix2 (row t p) q) := by
  show V m c main_arg0 _ = _
  rw [V_main_arg0]
  exact congrArg (a0 m c) (at_block (index0 t) 2048 1024 p.val q.val rfl rfl rfl (by omega))

theorem block1 (t : Fin cfg0.N) (q : Fin 1024) (l : Fin 512) : iblk m c 1 t (ix2 q l) = a1 m c (ix2 q l) := by
  show V m c main_arg1 _ = _
  rw [V_main_arg1]
  exact congrArg (a1 m c) (at_block (index1 t) 1024 512 q.val l.val rfl rfl (by omega) (by omega))

theorem block2 (t : Fin cfg0.N) (X : FVec Ideal S8192x512 .f32) (p : Fin 2048) (l : Fin 512) :
    ((cfg0.win 2).blk t).view.read (Elt Ideal) X (ix2 p l) = X (ix2 (row t p) l) := by
  exact congrArg X (at_block (index2 t) 2048 512 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 2048) (m := 512) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 512 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 512 rfl rfl rfl rfl (by show (i 0).val / 2048 * 2048 ≤ (i 0).val ∧ (i 0).val < (i 0).val / 2048 * 2048 + 2048; omega) (by show 0 * 512 ≤ (i 1).val ∧ (i 1).val < 0 * 512 + 512; omega)

end Cert.StateIdeal.Mine

namespace Cert.StateRefIdeal.Mine

open Cert.StateRefIdeal Cert.StateRefIdeal.Gen Idealize.ShloMosaic Idealize.ShloMosaic.TcCoe Idealize.SL.Sem
open Cert.Prod

/-- The reference's result is the product of its arguments. -/
theorem result (x0 : FVec Ideal S8192x1024 .bf16) (x1 : FVec Ideal S1024x512 .bf16) : Read.val_main_v2 (F := Ideal) x0 x1 = nn x0 x1 := by
  refine Prod.ext (n := 8192) (m := 512) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.StateRefIdeal.Mine

namespace Cert.State.Mine

open Idealize.ShloMosaic Idealize.ShloMosaic.TcCoe Idealize.SL.Sem

/-- From the same arguments, both programs end with the same product. -/
theorem equal : Cert.algebraic_StateIdeal_StateRefIdeal (hStateIdeal := Cert.StateIdeal.Gen.facts) (hStateRefIdeal := Cert.StateRefIdeal.Gen.facts) := by
  intro m ρ m' ρ' _ ha
  refine ⟨fun c => Cert.Prod.nn (Cert.StateIdeal.Mine.a0 m c) (Cert.StateIdeal.Mine.a1 m c), ?_, ?_⟩
  · exact (θ_run _ _ _).mono (fun r h c => ⟨(h c).1.trans (Cert.StateIdeal.Mine.result m c), (h c).2⟩) (Cert.StateIdeal.Value.run_blocks (F := Ideal) m ρ)
  · refine (θ_run _ _ _).mono (fun r h c => ⟨(h c).1.trans ?_, (h c).2⟩) (Cert.StateRefIdeal.Mine.run m' ρ')
    rw [(ha c).1, (ha c).2]

end Cert.State.Mine

end
-- ==== Proof.StateDaEq.lean ====
/- The product `StateDa`: the kernel's result and the reference's are the same matrix product. -/
module

public import proofs.«01_k».proof.Proof.Prod
public import proofs.«01_k».proof.Proof.Gen.StateDa.Frame
public import proofs.«01_k».proof.Proof.Gen.StateDaIdeal.Value
public import proofs.«01_k».proof.Proof.Gen.StateDaRefIdeal.Read
public import proofs.«01_k».proof.Defs

@[expose] public section

set_option maxRecDepth 16384

noncomputable section

namespace Cert.StateDaIdeal.Mine

open Cert.StateDaIdeal Cert.StateDaIdeal.Gen Idealize.ShloMosaic Idealize.ShloMosaic.TcCoe Idealize.SL.Sem
open Cert.Prod

/-- What the body writes, entry by entry. -/
theorem pay (x0 : Vec Ideal S2048x512 .bf16) (x1 : Vec Ideal S1024x512 .bf16) (p : Fin 2048) (l : Fin 1024) :
    k0_pay1 (F := Ideal) x0 x1 (ix2 p l) = ∑ q : Fin 512, x0 (ix2 p q) * x1 (ix2 l q) := by
  pointwise [k0_pay1]

variable (m : (ℓ : Loc nD τ sig) → Buf (Elt Ideal) ℓ) (c : Dev nD)

abbrev a0 : FVec Ideal S8192x512 .bf16 := m (c.tc.loc main_arg0)
abbrev a1 : FVec Ideal S1024x512 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 512) : iblk m c 0 t (ix2 p q) = a0 m c (ix2 (row t p) q) := by
  show V m c main_arg0 _ = _
  rw [V_main_arg0]
  exact congrArg (a0 m c) (at_block (index0 t) 2048 512 p.val q.val rfl rfl rfl (by omega))

theorem block1 (t : Fin cfg0.N) (q : Fin 512) (l : Fin 1024) : iblk m c 1 t (ix2 l q) = a1 m c (ix2 l q) := by
  show V m c main_arg1 _ = _
  rw [V_main_arg1]
  exact congrArg (a1 m c) (at_block (index1 t) 1024 512 l.val q.val rfl rfl (by omega) (by omega))

theorem block2 (t : Fin cfg0.N) (X : FVec Ideal S8192x1024 .bf16) (p : Fin 2048) (l : Fin 1024) :
    ((cfg0.win 2).blk t).view.read (Elt Ideal) X (ix2 p l) = X (ix2 (row t p) l) := by
  exact congrArg X (at_block (index2 t) 2048 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 2048) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 1024 rfl rfl rfl rfl (by show (i 0).val / 2048 * 2048 ≤ (i 0).val ∧ (i 0).val < (i 0).val / 2048 * 2048 + 2048; omega) (by show 0 * 1024 ≤ (i 1).val ∧ (i 1).val < 0 * 1024 + 1024; omega)

end Cert.StateDaIdeal.Mine

namespace Cert.StateDaRefIdeal.Mine

open Cert.StateDaRefIdeal Cert.StateDaRefIdeal.Gen Idealize.ShloMosaic Idealize.ShloMosaic.TcCoe Idealize.SL.Sem
open Cert.Prod

/-- The reference's result is the product of its arguments. -/
theorem result (x0 : FVec Ideal S8192x512 .bf16) (x1 : FVec Ideal S1024x512 .bf16) : Read.val_main_v2 (F := Ideal) x0 x1 = nt x0 x1 := by
  refine Prod.ext (n := 8192) (m := 1024) fun p l => ?_
  rw [nt_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.StateDaRefIdeal.Mine

namespace Cert.StateDa.Mine

open Idealize.ShloMosaic Idealize.ShloMosaic.TcCoe Idealize.SL.Sem

/-- From the same arguments, both programs end with the same product. -/
theorem equal : Cert.algebraic_StateDaIdeal_StateDaRefIdeal (hStateDaIdeal := Cert.StateDaIdeal.Gen.facts) (hStateDaRefIdeal := Cert.StateDaRefIdeal.Gen.facts) := by
  intro m ρ m' ρ' _ ha
  refine ⟨fun c => Cert.Prod.nt (Cert.StateDaIdeal.Mine.a0 m c) (Cert.StateDaIdeal.Mine.a1 m c), ?_, ?_⟩
  · exact (θ_run _ _ _).mono (fun r h c => ⟨(h c).1.trans (Cert.StateDaIdeal.Mine.result m c), (h c).2⟩) (Cert.StateDaIdeal.Value.run_blocks (F := Ideal) m ρ)
  · refine (θ_run _ _ _).mono (fun r h c => ⟨(h c).1.trans ?_, (h c).2⟩) (Cert.StateDaRefIdeal.Mine.run m' ρ')
    rw [(ha c).1, (ha c).2]

end Cert.StateDa.Mine

end
-- ==== Proof.StateDwEq.lean ====
/- The product `StateDw`: the kernel's accumulated result and the reference's are the same matrix product. -/
module

public import proofs.«01_k».proof.Proof.Prod
public import proofs.«01_k».proof.Proof.Gen.StateDw.Frame
public import proofs.«01_k».proof.Proof.Gen.StateDwIdeal.Value
public import proofs.«01_k».proof.Proof.Gen.StateDwRefIdeal.Read
public import proofs.«01_k».proof.Defs

@[expose] public section

set_option maxRecDepth 16384

noncomputable section

namespace Cert.StateDwIdeal.Mine

open Cert.StateDwIdeal Cert.StateDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 512) : k0_pay1 (F := Ideal) (ix2 p l) = (0 : EReal) := by
  pointwise [k0_pay1]
theorem pay2 (s : Vec Ideal S1024x512 .f32) (x0 : Vec Ideal S2048x1024 .bf16) (x1 : Vec Ideal S2048x512 .bf16) (p : Fin 1024) (l : Fin 512) :
    k0_pay2 (F := Ideal) s x0 x1 (ix2 p l) = s (ix2 p l) + ∑ q : Fin 2048, x0 (ix2 q p) * x1 (ix2 q l) := by
  pointwise [k0_pay2]
theorem pay3 (s : Vec Ideal S1024x512 .f32) (p : Fin 1024) (l : Fin 512) : k0_pay3 (F := Ideal) s (ix2 p l) = s (ix2 p l) := by
  pointwise [k0_pay3]

section Cases

variable (c : Dev nD) (i : grid0.Coords) (arg3 : Memref sig .tc .vmem S2048x1024 .bf16) (harg3 : arg3.IsWhole) (arg4 : Memref sig .tc .vmem S2048x512 .bf16) (harg4 : arg4.IsWhole)
  (arg5 : Memref sig .tc .vmem S1024x512 .bf16) (harg5 : arg5.IsWhole) (arg6 : Memref sig .tc .vmem S1024x512 .f32) (harg6 : arg6.IsWhole)
  (x0 : Vec Ideal S2048x1024 .bf16) (x1 : Vec Ideal S2048x512 .bf16) (s : Vec Ideal S1024x512 .f32) (p : Fin 1024) (l : Fin 512)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 2048, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v14
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x512 .bf16 := m (c.tc.loc main_arg1)

theorem lt_points (t : Fin cfg0.N) : t.val < 4 := Nat.lt_of_lt_of_eq t.isLt N_0
theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![t.val / 4, 0] := by decide +kernel

/-- Row `q` of the arguments' block at point `t`; row `p` and column `l` of the result's. -/
def term (t : Fin cfg0.N) (q : Fin 2048) : Fin 8192 := ⟨2048 * (t.val % 4) + q.val, by omega⟩
def row (t : Fin cfg0.N) (p : Fin 1024) : Fin 1024 := ⟨1024 * (t.val / 4) + p.val, by have := lt_points t; omega⟩
def col (t : Fin cfg0.N) (l : Fin 512) : Fin 512 := ⟨512 * (0) + l.val, by have := lt_points t; omega⟩

abbrev b0 (t : Fin cfg0.N) : Vec Ideal S2048x1024 .bf16 := iblk m c 0 t
abbrev b1 (t : Fin cfg0.N) : Vec Ideal S2048x512 .bf16 := iblk m c 1 t

theorem block0 (t : Fin cfg0.N) (q : Fin 2048) (p : Fin 1024) : b0 m c t (ix2 q p) = a0 m c (ix2 (term t q) (row t p)) := by
  show V m c main_arg0 _ = _
  rw [V_main_arg0]
  exact congrArg (a0 m c) (at_block (index0 t) 2048 1024 q.val p.val rfl rfl rfl rfl)

theorem block1 (t : Fin cfg0.N) (q : Fin 2048) (l : Fin 512) : b1 m c t (ix2 q l) = a1 m c (ix2 (term t q) (col t l)) := by
  show V m c main_arg1 _ = _
  rw [V_main_arg1]
  exact congrArg (a1 m c) (at_block (index1 t) 2048 512 q.val l.val rfl rfl rfl rfl)

theorem block2 (t : Fin cfg0.N) (X : FVec Ideal S1024x512 .bf16) (p : Fin 1024) (l : Fin 512) :
    ((cfg0.win 2).blk t).view.read (Elt Ideal) X (ix2 p l) = X (ix2 (row t p) (col t l)) := by
  exact congrArg X (at_block (index2 t) 1024 512 p.val l.val rfl rfl rfl rfl)

/-- What point `n` adds to the scratch. -/
def added (n : ℕ) : Mat 1024 512 := mat fun p l =>
  if h : n < cfg0.N then ∑ q : Fin 2048, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 512) :
    (∑ q : Fin 2048, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 4 = 0) (acc : Vec Ideal S1024x512 .f32) (p : Fin 1024) (l : Fin 512) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 4 ≠ 0) (acc : Vec Ideal S1024x512 .f32) (p : Fin 1024) (l : Fin 512) :
    Value.scAt0_0 m c n h acc (ix2 p l) = acc (ix2 p l) + added m c n (ix2 p l) := by
  unfold Value.scAt0_0
  rw [dif_neg hn]
  by_cases h1 : n % 4 = 3
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 4 = 3) (p : Fin 1024) (l : Fin 512) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (4 * (t.val / 4)) 3 (fun h y => ?_) (fun n h acc y h1 h2 => ?_) (t.val % 4) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 2048 4 rfl _ _ fun j hj' => ?_
    have hn : 4 * (t.val / 4) + j < cfg0.N := Nat.lt_of_lt_of_eq (by omega) N_0.symm
    refine (dif_pos hn).trans (Finset.sum_congr rfl fun q _ => ?_)
    have e1 : term ⟨4 * (t.val / 4) + j, hn⟩ q = ⟨2048 * j + q.val, by omega⟩ := Fin.ext (by show 2048 * ((4 * (t.val / 4) + j) % 4) + q.val = 2048 * j + q.val; omega)
    have e2 : ∀ p : Fin 1024, row ⟨4 * (t.val / 4) + j, hn⟩ p = row t p := fun p => Fin.ext (by show 1024 * ((4 * (t.val / 4) + j) / 4) + p.val = 1024 * (t.val / 4) + p.val; omega)
    have e3 : ∀ l : Fin 512, col ⟨4 * (t.val / 4) + j, hn⟩ l = col t l := fun l => Fin.ext (by show 512 * (0) + l.val = 512 * (0) + l.val; omega)
    rw [← e1, ← e2, ← e3]
    rfl

theorem cut_apply (t : Fin cfg0.N) (X : Vec Ideal S1024x512 .bf16) (p : Fin 1024) (l : Fin 512) : (cfg0.win 2).cut (grid0.coords t) X (ix2 p l) = X (ix2 p l) := rfl

/-- The last point of a run copies the scratch out. -/
theorem copied (t : Fin cfg0.N) (ht : t.val % 4 = 3) (p : Fin 1024) (l : Fin 512) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 4 = 3 := (flush0_2 t).mp hf
  rw [Value.flushed2]
  refine Prod.ext (n := 1024) (m := 512) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 512 := (i 1).isLt
  let t : Fin cfg0.N := ⟨4 * ((i 0).val / 1024) + 3, Nat.lt_of_lt_of_eq (by omega) N_0.symm⟩
  refine ⟨t, (flush0_2 t).mpr (by show (4 * ((i 0).val / 1024) + 3) % 4 = 3; omega), ?_⟩
  have e : t.val / 4 = (i 0).val / 1024 := by show (4 * ((i 0).val / 1024) + 3) / 4 = _; omega
  show i ∈ ((View.whole main_v0).slice (win0_2.rect t)).set
  rw [View.set_slice_whole, Rect.mem_set_unit]
  exact inside (index2 t) 1024 512 rfl rfl rfl rfl (by show t.val / 4 * 1024 ≤ (i 0).val ∧ (i 0).val < t.val / 4 * 1024 + 1024; omega) (by show 0 * 512 ≤ (i 1).val ∧ (i 1).val < 0 * 512 + 512; omega)

end Cert.StateDwIdeal.Mine

namespace Cert.StateDwRefIdeal.Mine

open Cert.StateDwRefIdeal Cert.StateDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x512 .bf16) : Read.val_main_v3 (F := Ideal) x0 x1 = tn x0 x1 := by
  refine Prod.ext (n := 1024) (m := 512) fun p l => ?_
  rw [tn_ix2]
  pointwise [Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.StateDwRefIdeal.Mine

namespace Cert.StateDw.Mine

open Idealize.ShloMosaic Idealize.ShloMosaic.TcCoe Idealize.SL.Sem

/-- From the same arguments, both programs end with the same product. -/
theorem equal : Cert.algebraic_StateDwIdeal_StateDwRefIdeal (hStateDwIdeal := Cert.StateDwIdeal.Gen.facts) (hStateDwRefIdeal := Cert.StateDwRefIdeal.Gen.facts) := by
  intro m ρ m' ρ' _ ha
  refine ⟨fun c => Cert.Prod.tn (Cert.StateDwIdeal.Mine.a0 m c) (Cert.StateDwIdeal.Mine.a1 m c), ?_, ?_⟩
  · exact (θ_run _ _ _).mono (fun r h c => ⟨(h c).1.trans (Cert.StateDwIdeal.Mine.result m c), (h c).2⟩) (Cert.StateDwIdeal.Value.run_blocks (F := Ideal) m ρ)
  · refine (θ_run _ _ _).mono (fun r h c => ⟨(h c).1.trans ?_, (h c).2⟩) (Cert.StateDwRefIdeal.Mine.run m' ρ')
    rw [(ha c).1, (ha c).2]

end Cert.StateDw.Mine

end
-- ==== Proof.HeadDaEq.lean ====
/- The product `HeadDa`: the kernel's result and the reference's are the same matrix product. -/
module

public import proofs.«01_k».proof.Proof.Prod
public import proofs.«01_k».proof.Proof.Gen.HeadDa.Frame
public import proofs.«01_k».proof.Proof.Gen.HeadDaIdeal.Value
public import proofs.«01_k».proof.Proof.Gen.HeadDaRefIdeal.Read
public import proofs.«01_k».proof.Defs

@[expose] public section

set_option maxRecDepth 16384

noncomputable section

namespace Cert.HeadDaIdeal.Mine

open Cert.HeadDaIdeal Cert.HeadDaIdeal.Gen Idealize.ShloMosaic Idealize.ShloMosaic.TcCoe Idealize.SL.Sem
open Cert.Prod

/-- What the body writes, entry by entry. -/
theorem pay (x0 : Vec Ideal S2048x512 .f32) (x1 : Vec Ideal S1024x512 .bf16) (p : Fin 2048) (l : Fin 1024) :
    k0_pay1 (F := Ideal) x0 x1 (ix2 p l) = ∑ q : Fin 512, x0 (ix2 p q) * x1 (ix2 l q) := by
  pointwise [k0_pay1]

variable (m : (ℓ : Loc nD τ sig) → Buf (Elt Ideal) ℓ) (c : Dev nD)

abbrev a0 : FVec Ideal S8192x512 .f32 := m (c.tc.loc main_arg0)
abbrev a1 : FVec Ideal S1024x512 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 512) : iblk m c 0 t (ix2 p q) = a0 m c (ix2 (row t p) q) := by
  show V m c main_arg0 _ = _
  rw [V_main_arg0]
  exact congrArg (a0 m c) (at_block (index0 t) 2048 512 p.val q.val rfl rfl rfl (by omega))

theorem block1 (t : Fin cfg0.N) (q : Fin 512) (l : Fin 1024) : iblk m c 1 t (ix2 l q) = a1 m c (ix2 l q) := by
  show V m c main_arg1 _ = _
  rw [V_main_arg1]
  exact congrArg (a1 m c) (at_block (index1 t) 1024 512 l.val q.val rfl rfl (by omega) (by omega))

theorem block2 (t : Fin cfg0.N) (X : FVec Ideal S8192x1024 .bf16) (p : Fin 2048) (l : Fin 1024) :
    ((cfg0.win 2).blk t).view.read (Elt Ideal) X (ix2 p l) = X (ix2 (row t p) l) := by
  exact congrArg X (at_block (index2 t) 2048 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 2048) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 1024 rfl rfl rfl rfl (by show (i 0).val / 2048 * 2048 ≤ (i 0).val ∧ (i 0).val < (i 0).val / 2048 * 2048 + 2048; omega) (by show 0 * 1024 ≤ (i 1).val ∧ (i 1).val < 0 * 1024 + 1024; omega)

end Cert.HeadDaIdeal.Mine

namespace Cert.HeadDaRefIdeal.Mine

open Cert.HeadDaRefIdeal Cert.HeadDaRefIdeal.Gen Idealize.ShloMosaic Idealize.ShloMosaic.TcCoe Idealize.SL.Sem
open Cert.Prod

/-- The reference's result is the product of its arguments. -/
theorem result (x0 : FVec Ideal S8192x512 .f32) (x1 : FVec Ideal S1024x512 .bf16) : Read.val_main_v3 (F := Ideal) x0 x1 = nt x0 x1 := by
  refine Prod.ext (n := 8192) (m := 1024) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.HeadDaRefIdeal.Mine

namespace Cert.HeadDa.Mine

open Idealize.ShloMosaic Idealize.ShloMosaic.TcCoe Idealize.SL.Sem

/-- From the same arguments, both programs end with the same product. -/
theorem equal : Cert.algebraic_HeadDaIdeal_HeadDaRefIdeal (hHeadDaIdeal := Cert.HeadDaIdeal.Gen.facts) (hHeadDaRefIdeal := Cert.HeadDaRefIdeal.Gen.facts) := by
  intro m ρ m' ρ' _ ha
  refine ⟨fun c => Cert.Prod.nt (Cert.HeadDaIdeal.Mine.a0 m c) (Cert.HeadDaIdeal.Mine.a1 m c), ?_, ?_⟩
  · exact (θ_run _ _ _).mono (fun r h c => ⟨(h c).1.trans (Cert.HeadDaIdeal.Mine.result m c), (h c).2⟩) (Cert.HeadDaIdeal.Value.run_blocks (F := Ideal) m ρ)
  · refine (θ_run _ _ _).mono (fun r h c => ⟨(h c).1.trans ?_, (h c).2⟩) (Cert.HeadDaRefIdeal.Mine.run m' ρ')
    rw [(ha c).1, (ha c).2]

end Cert.HeadDa.Mine

end
-- ==== Proof.HeadDwEq.lean ====
/- The product `HeadDw`: the kernel's accumulated result and the reference's are the same matrix product. -/
module

public import proofs.«01_k».proof.Proof.Prod
public import proofs.«01_k».proof.Proof.Gen.HeadDw.Frame
public import proofs.«01_k».proof.Proof.Gen.HeadDwIdeal.Value
public import proofs.«01_k».proof.Proof.Gen.HeadDwRefIdeal.Read
public import proofs.«01_k».proof.Defs

@[expose] public section

set_option maxRecDepth 16384

noncomputable section

namespace Cert.HeadDwIdeal.Mine

open Cert.HeadDwIdeal Cert.HeadDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 512) : k0_pay1 (F := Ideal) (ix2 p l) = (0 : EReal) := by
  pointwise [k0_pay1]
theorem pay2 (s : Vec Ideal S1024x512 .f32) (x0 : Vec Ideal S2048x1024 .bf16) (x1 : Vec Ideal S2048x512 .f32) (p : Fin 1024) (l : Fin 512) :
    k0_pay2 (F := Ideal) s x0 x1 (ix2 p l) = s (ix2 p l) + ∑ q : Fin 2048, x0 (ix2 q p) * x1 (ix2 q l) := by
  pointwise [k0_pay2]
theorem pay3 (s : Vec Ideal S1024x512 .f32) (p : Fin 1024) (l : Fin 512) : k0_pay3 (F := Ideal) s (ix2 p l) = s (ix2 p l) := by
  pointwise [k0_pay3]

section Cases

variable (c : Dev nD) (i : grid0.Coords) (arg3 : Memref sig .tc .vmem S2048x1024 .bf16) (harg3 : arg3.IsWhole) (arg4 : Memref sig .tc .vmem S2048x512 .f32) (harg4 : arg4.IsWhole)
  (arg5 : Memref sig .tc .vmem S1024x512 .bf16) (harg5 : arg5.IsWhole) (arg6 : Memref sig .tc .vmem S1024x512 .f32) (harg6 : arg6.IsWhole)
  (x0 : Vec Ideal S2048x1024 .bf16) (x1 : Vec Ideal S2048x512 .f32) (s : Vec Ideal S1024x512 .f32) (p : Fin 1024) (l : Fin 512)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 2048, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x512 .f32 := m (c.tc.loc main_arg1)

theorem lt_points (t : Fin cfg0.N) : t.val < 4 := Nat.lt_of_lt_of_eq t.isLt N_0
theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![t.val / 4, 0] := by decide +kernel

/-- Row `q` of the arguments' block at point `t`; row `p` and column `l` of the result's. -/
def term (t : Fin cfg0.N) (q : Fin 2048) : Fin 8192 := ⟨2048 * (t.val % 4) + q.val, by omega⟩
def row (t : Fin cfg0.N) (p : Fin 1024) : Fin 1024 := ⟨1024 * (t.val / 4) + p.val, by have := lt_points t; omega⟩
def col (t : Fin cfg0.N) (l : Fin 512) : Fin 512 := ⟨512 * (0) + l.val, by have := lt_points t; omega⟩

abbrev b0 (t : Fin cfg0.N) : Vec Ideal S2048x1024 .bf16 := iblk m c 0 t
abbrev b1 (t : Fin cfg0.N) : Vec Ideal S2048x512 .f32 := iblk m c 1 t

theorem block0 (t : Fin cfg0.N) (q : Fin 2048) (p : Fin 1024) : b0 m c t (ix2 q p) = a0 m c (ix2 (term t q) (row t p)) := by
  show V m c main_arg0 _ = _
  rw [V_main_arg0]
  exact congrArg (a0 m c) (at_block (index0 t) 2048 1024 q.val p.val rfl rfl rfl rfl)

theorem block1 (t : Fin cfg0.N) (q : Fin 2048) (l : Fin 512) : b1 m c t (ix2 q l) = a1 m c (ix2 (term t q) (col t l)) := by
  show V m c main_arg1 _ = _
  rw [V_main_arg1]
  exact congrArg (a1 m c) (at_block (index1 t) 2048 512 q.val l.val rfl rfl rfl rfl)

theorem block2 (t : Fin cfg0.N) (X : FVec Ideal S1024x512 .bf16) (p : Fin 1024) (l : Fin 512) :
    ((cfg0.win 2).blk t).view.read (Elt Ideal) X (ix2 p l) = X (ix2 (row t p) (col t l)) := by
  exact congrArg X (at_block (index2 t) 1024 512 p.val l.val rfl rfl rfl rfl)

/-- What point `n` adds to the scratch. -/
def added (n : ℕ) : Mat 1024 512 := mat fun p l =>
  if h : n < cfg0.N then ∑ q : Fin 2048, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 512) :
    (∑ q : Fin 2048, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 4 = 0) (acc : Vec Ideal S1024x512 .f32) (p : Fin 1024) (l : Fin 512) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 4 ≠ 0) (acc : Vec Ideal S1024x512 .f32) (p : Fin 1024) (l : Fin 512) :
    Value.scAt0_0 m c n h acc (ix2 p l) = acc (ix2 p l) + added m c n (ix2 p l) := by
  unfold Value.scAt0_0
  rw [dif_neg hn]
  by_cases h1 : n % 4 = 3
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 4 = 3) (p : Fin 1024) (l : Fin 512) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (4 * (t.val / 4)) 3 (fun h y => ?_) (fun n h acc y h1 h2 => ?_) (t.val % 4) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 2048 4 rfl _ _ fun j hj' => ?_
    have hn : 4 * (t.val / 4) + j < cfg0.N := Nat.lt_of_lt_of_eq (by omega) N_0.symm
    refine (dif_pos hn).trans (Finset.sum_congr rfl fun q _ => ?_)
    have e1 : term ⟨4 * (t.val / 4) + j, hn⟩ q = ⟨2048 * j + q.val, by omega⟩ := Fin.ext (by show 2048 * ((4 * (t.val / 4) + j) % 4) + q.val = 2048 * j + q.val; omega)
    have e2 : ∀ p : Fin 1024, row ⟨4 * (t.val / 4) + j, hn⟩ p = row t p := fun p => Fin.ext (by show 1024 * ((4 * (t.val / 4) + j) / 4) + p.val = 1024 * (t.val / 4) + p.val; omega)
    have e3 : ∀ l : Fin 512, col ⟨4 * (t.val / 4) + j, hn⟩ l = col t l := fun l => Fin.ext (by show 512 * (0) + l.val = 512 * (0) + l.val; omega)
    rw [← e1, ← e2, ← e3]
    rfl

theorem cut_apply (t : Fin cfg0.N) (X : Vec Ideal S1024x512 .bf16) (p : Fin 1024) (l : Fin 512) : (cfg0.win 2).cut (grid0.coords t) X (ix2 p l) = X (ix2 p l) := rfl

/-- The last point of a run copies the scratch out. -/
theorem copied (t : Fin cfg0.N) (ht : t.val % 4 = 3) (p : Fin 1024) (l : Fin 512) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 4 = 3 := (flush0_2 t).mp hf
  rw [Value.flushed2]
  refine Prod.ext (n := 1024) (m := 512) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 512 := (i 1).isLt
  let t : Fin cfg0.N := ⟨4 * ((i 0).val / 1024) + 3, Nat.lt_of_lt_of_eq (by omega) N_0.symm⟩
  refine ⟨t, (flush0_2 t).mpr (by show (4 * ((i 0).val / 1024) + 3) % 4 = 3; omega), ?_⟩
  have e : t.val / 4 = (i 0).val / 1024 := by show (4 * ((i 0).val / 1024) + 3) / 4 = _; omega
  show i ∈ ((View.whole main_v0).slice (win0_2.rect t)).set
  rw [View.set_slice_whole, Rect.mem_set_unit]
  exact inside (index2 t) 1024 512 rfl rfl rfl rfl (by show t.val / 4 * 1024 ≤ (i 0).val ∧ (i 0).val < t.val / 4 * 1024 + 1024; omega) (by show 0 * 512 ≤ (i 1).val ∧ (i 1).val < 0 * 512 + 512; omega)

end Cert.HeadDwIdeal.Mine

namespace Cert.HeadDwRefIdeal.Mine

open Cert.HeadDwRefIdeal Cert.HeadDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x512 .f32) : Read.val_main_v4 (F := Ideal) x0 x1 = tn x0 x1 := by
  refine Prod.ext (n := 1024) (m := 512) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.HeadDwRefIdeal.Mine

namespace Cert.HeadDw.Mine

open Idealize.ShloMosaic Idealize.ShloMosaic.TcCoe Idealize.SL.Sem

/-- From the same arguments, both programs end with the same product. -/
theorem equal : Cert.algebraic_HeadDwIdeal_HeadDwRefIdeal (hHeadDwIdeal := Cert.HeadDwIdeal.Gen.facts) (hHeadDwRefIdeal := Cert.HeadDwRefIdeal.Gen.facts) := by
  intro m ρ m' ρ' _ ha
  refine ⟨fun c => Cert.Prod.tn (Cert.HeadDwIdeal.Mine.a0 m c) (Cert.HeadDwIdeal.Mine.a1 m c), ?_, ?_⟩
  · exact (θ_run _ _ _).mono (fun r h c => ⟨(h c).1.trans (Cert.HeadDwIdeal.Mine.result m c), (h c).2⟩) (Cert.HeadDwIdeal.Value.run_blocks (F := Ideal) m ρ)
  · refine (θ_run _ _ _).mono (fun r h c => ⟨(h c).1.trans ?_, (h c).2⟩) (Cert.HeadDwRefIdeal.Mine.run m' ρ')
    rw [(ha c).1, (ha c).2]

end Cert.HeadDw.Mine

end
-- ==== Proof.NearEq.lean ====
/- The product `Near`: the kernel's result and the reference's are the same matrix product. -/
module

public import proofs.«01_k».proof.Proof.Prod
public import proofs.«01_k».proof.Proof.Gen.Near.Frame
public import proofs.«01_k».proof.Proof.Gen.NearIdeal.Value
public import proofs.«01_k».proof.Proof.Gen.NearRefIdeal.Read
public import proofs.«01_k».proof.Defs

@[expose] public section

set_option maxRecDepth 16384

noncomputable section

namespace Cert.NearIdeal.Mine

open Cert.NearIdeal Cert.NearIdeal.Gen Idealize.ShloMosaic Idealize.ShloMosaic.TcCoe Idealize.SL.Sem
open Cert.Prod

/-- What the body writes, entry by entry. -/
theorem pay (x0 : Vec Ideal S2048x1024 .bf16) (x1 : Vec Ideal S1024x512 .bf16) (p : Fin 2048) (l : Fin 512) :
    k0_pay1 (F := Ideal) x0 x1 (ix2 p l) = ∑ q : Fin 1024, x0 (ix2 p q) * x1 (ix2 q l) := by
  pointwise [k0_pay1]

variable (m : (ℓ : Loc nD τ sig) → Buf (Elt Ideal) ℓ) (c : Dev nD)

abbrev a0 : FVec Ideal S8192x1024 .bf16 := m (c.tc.loc main_arg0)
abbrev a1 : FVec Ideal S1024x512 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 1024) : iblk m c 0 t (ix2 p q) = a0 m c (ix2 (row t p) q) := by
  show V m c main_arg0 _ = _
  rw [V_main_arg0]
  exact congrArg (a0 m c) (at_block (index0 t) 2048 1024 p.val q.val rfl rfl rfl (by omega))

theorem block1 (t : Fin cfg0.N) (q : Fin 1024) (l : Fin 512) : iblk m c 1 t (ix2 q l) = a1 m c (ix2 q l) := by
  show V m c main_arg1 _ = _
  rw [V_main_arg1]
  exact congrArg (a1 m c) (at_block (index1 t) 1024 512 q.val l.val rfl rfl (by omega) (by omega))

theorem block2 (t : Fin cfg0.N) (X : FVec Ideal S8192x512 .bf16) (p : Fin 2048) (l : Fin 512) :
    ((cfg0.win 2).blk t).view.read (Elt Ideal) X (ix2 p l) = X (ix2 (row t p) l) := by
  exact congrArg X (at_block (index2 t) 2048 512 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 2048) (m := 512) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 512 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 512 rfl rfl rfl rfl (by show (i 0).val / 2048 * 2048 ≤ (i 0).val ∧ (i 0).val < (i 0).val / 2048 * 2048 + 2048; omega) (by show 0 * 512 ≤ (i 1).val ∧ (i 1).val < 0 * 512 + 512; omega)

end Cert.NearIdeal.Mine

namespace Cert.NearRefIdeal.Mine

open Cert.NearRefIdeal Cert.NearRefIdeal.Gen Idealize.ShloMosaic Idealize.ShloMosaic.TcCoe Idealize.SL.Sem
open Cert.Prod

/-- The reference's result is the product of its arguments. -/
theorem result (x0 : FVec Ideal S8192x1024 .bf16) (x1 : FVec Ideal S1024x512 .bf16) : Read.val_main_v1 (F := Ideal) x0 x1 = nn x0 x1 := by
  refine Prod.ext (n := 8192) (m := 512) fun p l => ?_
  rw [nn_ix2]
  pointwise [Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v1_eq ..)).trans (result _ _), (h c).2⟩) (Value.run (F := Ideal) m ρ)

end Cert.NearRefIdeal.Mine

namespace Cert.Near.Mine

open Idealize.ShloMosaic Idealize.ShloMosaic.TcCoe Idealize.SL.Sem

/-- From the same arguments, both programs end with the same product. -/
theorem equal : Cert.algebraic_NearIdeal_NearRefIdeal (hNearIdeal := Cert.NearIdeal.Gen.facts) (hNearRefIdeal := Cert.NearRefIdeal.Gen.facts) := by
  intro m ρ m' ρ' _ ha
  refine ⟨fun c => Cert.Prod.nn (Cert.NearIdeal.Mine.a0 m c) (Cert.NearIdeal.Mine.a1 m c), ?_, ?_⟩
  · exact (θ_run _ _ _).mono (fun r h c => ⟨(h c).1.trans (Cert.NearIdeal.Mine.result m c), (h c).2⟩) (Cert.NearIdeal.Value.run_blocks (F := Ideal) m ρ)
  · refine (θ_run _ _ _).mono (fun r h c => ⟨(h c).1.trans ?_, (h c).2⟩) (Cert.NearRefIdeal.Mine.run m' ρ')
    rw [(ha c).1, (ha c).2]

end Cert.Near.Mine

end
-- ==== Proof.MixDaEq.lean ====
/- The product `MixDa`: the kernel's result and the reference's are the same matrix product. -/
module

public import proofs.«01_k».proof.Proof.Prod
public import proofs.«01_k».proof.Proof.Gen.MixDa.Frame
public import proofs.«01_k».proof.Proof.Gen.MixDaIdeal.Value
public import proofs.«01_k».proof.Proof.Gen.MixDaRefIdeal.Read
public import proofs.«01_k».proof.Defs

@[expose] public section

set_option maxRecDepth 16384

noncomputable section

namespace Cert.MixDaIdeal.Mine

open Cert.MixDaIdeal Cert.MixDaIdeal.Gen Idealize.ShloMosaic Idealize.ShloMosaic.TcCoe Idealize.SL.Sem
open Cert.Prod

/-- What the body writes, entry by entry. -/
theorem pay (x0 : Vec Ideal S1024x1024 .f32) (x1 : Vec Ideal S512x1024 .bf16) (p : Fin 1024) (l : Fin 512) :
    k0_pay1 (F := Ideal) x0 x1 (ix2 p l) = ∑ q : Fin 1024, x0 (ix2 p q) * x1 (ix2 l q) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S512x1024 .bf16 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 1024) : iblk m c 0 t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (q : Fin 1024) (l : Fin 512) : iblk m c 1 t (ix2 l q) = a1 m c (ix2 l q) := by
  show V m c main_arg1 _ = _
  rw [V_main_arg1]
  exact congrArg (a1 m c) (at_block (index1 t) 512 1024 l.val q.val rfl rfl (by omega) (by omega))

theorem block2 (t : Fin cfg0.N) (X : FVec Ideal S8192x512 .bf16) (p : Fin 1024) (l : Fin 512) :
    ((cfg0.win 2).blk t).view.read (Elt Ideal) X (ix2 p l) = X (ix2 (row t p) l) := by
  exact congrArg X (at_block (index2 t) 1024 512 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 1024) (m := 512) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 512 := (i 1).isLt
  let t : Fin cfg0.N := ⟨(i 0).val / 1024, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 1024 512 rfl rfl rfl rfl (by show (i 0).val / 1024 * 1024 ≤ (i 0).val ∧ (i 0).val < (i 0).val / 1024 * 1024 + 1024; omega) (by show 0 * 512 ≤ (i 1).val ∧ (i 1).val < 0 * 512 + 512; omega)

end Cert.MixDaIdeal.Mine

namespace Cert.MixDaRefIdeal.Mine

open Cert.MixDaRefIdeal Cert.MixDaRefIdeal.Gen Idealize.ShloMosaic Idealize.ShloMosaic.TcCoe Idealize.SL.Sem
open Cert.Prod

/-- The reference's result is the product of its arguments. -/
theorem result (x0 : FVec Ideal S8192x1024 .f32) (x1 : FVec Ideal S512x1024 .bf16) : Read.val_main_v3 (F := Ideal) x0 x1 = nt x0 x1 := by
  refine Prod.ext (n := 8192) (m := 512) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.MixDaRefIdeal.Mine

namespace Cert.MixDa.Mine

open Idealize.ShloMosaic Idealize.ShloMosaic.TcCoe Idealize.SL.Sem

/-- From the same arguments, both programs end with the same product. -/
theorem equal : Cert.algebraic_MixDaIdeal_MixDaRefIdeal (hMixDaIdeal := Cert.MixDaIdeal.Gen.facts) (hMixDaRefIdeal := Cert.MixDaRefIdeal.Gen.facts) := by
  intro m ρ m' ρ' _ ha
  refine ⟨fun c => Cert.Prod.nt (Cert.MixDaIdeal.Mine.a0 m c) (Cert.MixDaIdeal.Mine.a1 m c), ?_, ?_⟩
  · exact (θ_run _ _ _).mono (fun r h c => ⟨(h c).1.trans (Cert.MixDaIdeal.Mine.result m c), (h c).2⟩) (Cert.MixDaIdeal.Value.run_blocks (F := Ideal) m ρ)
  · refine (θ_run _ _ _).mono (fun r h c => ⟨(h c).1.trans ?_, (h c).2⟩) (Cert.MixDaRefIdeal.Mine.run m' ρ')
    rw [(ha c).1, (ha c).2]

end Cert.MixDa.Mine

end
-- ==== Proof.Adam.lean ====
/- The optimiser's call on each weight: the kernel leaves the update, the first moment and the second moment that the reference's
   lines give, element by element. -/
module

public import proofs.«01_k».proof.Proof.Gen.AdamNorm.Frame
public import proofs.«01_k».proof.Proof.Gen.AdamNormIdeal.Value
public import proofs.«01_k».proof.Proof.Gen.AdamNormRefIdeal.Read
public import proofs.«01_k».proof.Proof.Gen.AdamAbIn.Frame
public import proofs.«01_k».proof.Proof.Gen.AdamAbInIdeal.Value
public import proofs.«01_k».proof.Proof.Gen.AdamAbInRefIdeal.Read
public import proofs.«01_k».proof.Proof.Gen.AdamDecay.Frame
public import proofs.«01_k».proof.Proof.Gen.AdamDecayIdeal.Value
public import proofs.«01_k».proof.Proof.Gen.AdamDecayRefIdeal.Read
public import proofs.«01_k».proof.Proof.Gen.AdamGain.Frame
public import proofs.«01_k».proof.Proof.Gen.AdamGainIdeal.Value
public import proofs.«01_k».proof.Proof.Gen.AdamGainRefIdeal.Read
public import proofs.«01_k».proof.Proof.Gen.AdamRpb.Frame
public import proofs.«01_k».proof.Proof.Gen.AdamRpbIdeal.Value
public import proofs.«01_k».proof.Proof.Gen.AdamRpbRefIdeal.Read
public import proofs.«01_k».proof.Proof.Gen.AdamAbOut.Frame
public import proofs.«01_k».proof.Proof.Gen.AdamAbOutIdeal.Value
public import proofs.«01_k».proof.Proof.Gen.AdamAbOutRefIdeal.Read
public import proofs.«01_k».proof.Proof.Gen.AdamCIn.Frame
public import proofs.«01_k».proof.Proof.Gen.AdamCInIdeal.Value
public import proofs.«01_k».proof.Proof.Gen.AdamCInRefIdeal.Read
public import proofs.«01_k».proof.Proof.Gen.AdamCConv.Frame
public import proofs.«01_k».proof.Proof.Gen.AdamCConvIdeal.Value
public import proofs.«01_k».proof.Proof.Gen.AdamCConvRefIdeal.Read
public import proofs.«01_k».proof.Proof.Gen.AdamCBias.Frame
public import proofs.«01_k».proof.Proof.Gen.AdamCBiasIdeal.Value
public import proofs.«01_k».proof.Proof.Gen.AdamCBiasRefIdeal.Read
public import proofs.«01_k».proof.Proof.Gen.AdamDt.Frame
public import proofs.«01_k».proof.Proof.Gen.AdamDtIdeal.Value
public import proofs.«01_k».proof.Proof.Gen.AdamDtRefIdeal.Read
public import proofs.«01_k».proof.Proof.Gen.AdamSkip.Frame
public import proofs.«01_k».proof.Proof.Gen.AdamSkipIdeal.Value
public import proofs.«01_k».proof.Proof.Gen.AdamSkipRefIdeal.Read
public import proofs.«01_k».proof.Proof.Gen.AdamCOut.Frame
public import proofs.«01_k».proof.Proof.Gen.AdamCOutIdeal.Value
public import proofs.«01_k».proof.Proof.Gen.AdamCOutRefIdeal.Read
public import proofs.«01_k».proof.Proof.Gen.AdamUp.Frame
public import proofs.«01_k».proof.Proof.Gen.AdamUpIdeal.Value
public import proofs.«01_k».proof.Proof.Gen.AdamUpRefIdeal.Read
public import proofs.«01_k».proof.Proof.Gen.AdamFConv.Frame
public import proofs.«01_k».proof.Proof.Gen.AdamFConvIdeal.Value
public import proofs.«01_k».proof.Proof.Gen.AdamFConvRefIdeal.Read
public import proofs.«01_k».proof.Proof.Gen.AdamFBias.Frame
public import proofs.«01_k».proof.Proof.Gen.AdamFBiasIdeal.Value
public import proofs.«01_k».proof.Proof.Gen.AdamFBiasRefIdeal.Read
public import proofs.«01_k».proof.Proof.Gen.AdamDown.Frame
public import proofs.«01_k».proof.Proof.Gen.AdamDownIdeal.Value
public import proofs.«01_k».proof.Proof.Gen.AdamDownRefIdeal.Read
public import proofs.«01_k».proof.Defs
public import Idealize.ShloMosaic.Lib.Pointwise

@[expose] public section

set_option maxRecDepth 16384

noncomputable section

namespace Cert.Adam

open Idealize.ShloMosaic

/-- A constant of the optimiser, from its word. -/
abbrev word (b : BitVec 32) : EReal := FloatOps.ofBits (F := Ideal) .f32 b

/-- Quotient and square root. -/
abbrev quot (x y : EReal) : EReal := FloatOps.divf (F := Ideal) (φ := .f32) x y
abbrev root (x : EReal) : EReal := FloatOps.sqrt (F := Ideal) (φ := .f32) x

/-- The first moment after the step. -/
def first (g m : EReal) : EReal := word 0x3F666666#32 * m + word 0x3DCCCCCD#32 * g
/-- The second moment after the step. -/
def second (g v : EReal) : EReal := word 0x3F7FBE77#32 * v + word 0x3A83126F#32 * (g * g)
/-- What the step adds to the weight. -/
def change (w g m v : EReal) : EReal :=
  word 0xBA83126F#32 * (quot (quot (first g m) (word 0x3F26BD02#32)) (root (quot (second g v) (word 0x3C231ACC#32)) + word 0x322BCC77#32)
    + word 0x3C23D70A#32 * w)

/-- An array of moments or changes, element by element. -/
def firsts {s : Shape} (g m : s.Idx → EReal) : s.Idx → EReal := fun i => first (g i) (m i)
def seconds {s : Shape} (g v : s.Idx → EReal) : s.Idx → EReal := fun i => second (g i) (v i)
def changes {s : Shape} (w g m v : s.Idx → EReal) : s.Idx → EReal := fun i => change (w i) (g i) (m i) (v i)

end Cert.Adam

/-! ## `AdamNorm`: a weight of shape 4x1024 -/

namespace Cert.AdamNormRefIdeal.Mine

open Cert.AdamNormRefIdeal Cert.AdamNormRefIdeal.Gen Idealize.ShloMosaic

theorem first (g m : FVec Ideal S4x1024 .f32) : Read.val_main_v4 (F := Ideal) g m = Cert.Adam.firsts g m := by
  funext i
  rfl
theorem second (g v : FVec Ideal S4x1024 .f32) : Read.val_main_v10 (F := Ideal) g v = Cert.Adam.seconds g v := by
  funext i
  rfl
theorem change (w g m v : FVec Ideal S4x1024 .f32) : Read.val_main_v23 (F := Ideal) w g m v = Cert.Adam.changes w g m v := by
  funext i
  rfl

end Cert.AdamNormRefIdeal.Mine

namespace Cert.AdamNorm.Mine

open Idealize.ShloMosaic Idealize.ShloMosaic.TcCoe Idealize.SL.Sem

/-- From the same weight, gradient and moments, both programs end with the same change and moments. -/
theorem equal : Cert.algebraic_AdamNormIdeal_AdamNormRefIdeal (hAdamNormIdeal := Cert.AdamNormIdeal.Gen.facts) (hAdamNormRefIdeal := Cert.AdamNormRefIdeal.Gen.facts) := by
  intro m ρ m' ρ' _ ha
  refine ⟨fun c => Cert.Adam.changes (m (c.tc.loc Cert.AdamNormIdeal.main_arg0)) (m (c.tc.loc Cert.AdamNormIdeal.main_arg1)) (m (c.tc.loc Cert.AdamNormIdeal.main_arg2)) (m (c.tc.loc Cert.AdamNormIdeal.main_arg3)),
    fun c => Cert.Adam.firsts (m (c.tc.loc Cert.AdamNormIdeal.main_arg1)) (m (c.tc.loc Cert.AdamNormIdeal.main_arg2)),
    fun c => Cert.Adam.seconds (m (c.tc.loc Cert.AdamNormIdeal.main_arg1)) (m (c.tc.loc Cert.AdamNormIdeal.main_arg3)), ?_, ?_⟩
  · exact (θ_run _ _ _).mono (fun r h c => ⟨(h c).1.trans rfl, (h c).2.1.trans rfl, (h c).2.2.1.trans rfl, (h c).2.2.2⟩)
      (Cert.AdamNormIdeal.Value.run (F := Ideal) m ρ)
  · refine (θ_run _ _ _).mono (fun r h c => ⟨(h c).1.trans ?_, (h c).2.1.trans ?_, (h c).2.2.1.trans ?_, (h c).2.2.2⟩) (Cert.AdamNormRefIdeal.Value.run (F := Ideal) m' ρ')
    · rw [(ha c).1, (ha c).2.1, (ha c).2.2.1, (ha c).2.2.2]
      exact (Cert.AdamNormRefIdeal.Read.val_main_v23_eq ..).trans (Cert.AdamNormRefIdeal.Mine.change ..)
    · rw [(ha c).2.1, (ha c).2.2.1]
      exact (Cert.AdamNormRefIdeal.Read.val_main_v4_eq ..).trans (Cert.AdamNormRefIdeal.Mine.first ..)
    · rw [(ha c).2.1, (ha c).2.2.2]
      exact (Cert.AdamNormRefIdeal.Read.val_main_v10_eq ..).trans (Cert.AdamNormRefIdeal.Mine.second ..)

end Cert.AdamNorm.Mine

/-! ## `AdamAbIn`: a weight of shape 2x1024x896 -/

namespace Cert.AdamAbInRefIdeal.Mine

open Cert.AdamAbInRefIdeal Cert.AdamAbInRefIdeal.Gen Idealize.ShloMosaic

theorem first (g m : FVec Ideal S2x1024x896 .f32) : Read.val_main_v4 (F := Ideal) g m = Cert.Adam.firsts g m := by
  funext i
  rfl
theorem second (g v : FVec Ideal S2x1024x896 .f32) : Read.val_main_v10 (F := Ideal) g v = Cert.Adam.seconds g v := by
  funext i
  rfl
theorem change (w g m v : FVec Ideal S2x1024x896 .f32) : Read.val_main_v23 (F := Ideal) w g m v = Cert.Adam.changes w g m v := by
  funext i
  rfl

end Cert.AdamAbInRefIdeal.Mine

namespace Cert.AdamAbIn.Mine

open Idealize.ShloMosaic Idealize.ShloMosaic.TcCoe Idealize.SL.Sem

/-- From the same weight, gradient and moments, both programs end with the same change and moments. -/
theorem equal : Cert.algebraic_AdamAbInIdeal_AdamAbInRefIdeal (hAdamAbInIdeal := Cert.AdamAbInIdeal.Gen.facts) (hAdamAbInRefIdeal := Cert.AdamAbInRefIdeal.Gen.facts) := by
  intro m ρ m' ρ' _ ha
  refine ⟨fun c => Cert.Adam.changes (m (c.tc.loc Cert.AdamAbInIdeal.main_arg0)) (m (c.tc.loc Cert.AdamAbInIdeal.main_arg1)) (m (c.tc.loc Cert.AdamAbInIdeal.main_arg2)) (m (c.tc.loc Cert.AdamAbInIdeal.main_arg3)),
    fun c => Cert.Adam.firsts (m (c.tc.loc Cert.AdamAbInIdeal.main_arg1)) (m (c.tc.loc Cert.AdamAbInIdeal.main_arg2)),
    fun c => Cert.Adam.seconds (m (c.tc.loc Cert.AdamAbInIdeal.main_arg1)) (m (c.tc.loc Cert.AdamAbInIdeal.main_arg3)), ?_, ?_⟩
  · exact (θ_run _ _ _).mono (fun r h c => ⟨(h c).1.trans rfl, (h c).2.1.trans rfl, (h c).2.2.1.trans rfl, (h c).2.2.2⟩)
      (Cert.AdamAbInIdeal.Value.run (F := Ideal) m ρ)
  · refine (θ_run _ _ _).mono (fun r h c => ⟨(h c).1.trans ?_, (h c).2.1.trans ?_, (h c).2.2.1.trans ?_, (h c).2.2.2⟩) (Cert.AdamAbInRefIdeal.Value.run (F := Ideal) m' ρ')
    · rw [(ha c).1, (ha c).2.1, (ha c).2.2.1, (ha c).2.2.2]
      exact (Cert.AdamAbInRefIdeal.Read.val_main_v23_eq ..).trans (Cert.AdamAbInRefIdeal.Mine.change ..)
    · rw [(ha c).2.1, (ha c).2.2.1]
      exact (Cert.AdamAbInRefIdeal.Read.val_main_v4_eq ..).trans (Cert.AdamAbInRefIdeal.Mine.first ..)
    · rw [(ha c).2.1, (ha c).2.2.2]
      exact (Cert.AdamAbInRefIdeal.Read.val_main_v10_eq ..).trans (Cert.AdamAbInRefIdeal.Mine.second ..)

end Cert.AdamAbIn.Mine

/-! ## `AdamDecay`: a weight of shape 2x2x8 -/

namespace Cert.AdamDecayRefIdeal.Mine

open Cert.AdamDecayRefIdeal Cert.AdamDecayRefIdeal.Gen Idealize.ShloMosaic

theorem first (g m : FVec Ideal S2x2x8 .f32) : Read.val_main_v4 (F := Ideal) g m = Cert.Adam.firsts g m := by
  funext i
  rfl
theorem second (g v : FVec Ideal S2x2x8 .f32) : Read.val_main_v10 (F := Ideal) g v = Cert.Adam.seconds g v := by
  funext i
  rfl
theorem change (w g m v : FVec Ideal S2x2x8 .f32) : Read.val_main_v23 (F := Ideal) w g m v = Cert.Adam.changes w g m v := by
  funext i
  rfl

end Cert.AdamDecayRefIdeal.Mine

namespace Cert.AdamDecay.Mine

open Idealize.ShloMosaic Idealize.ShloMosaic.TcCoe Idealize.SL.Sem

/-- From the same weight, gradient and moments, both programs end with the same change and moments. -/
theorem equal : Cert.algebraic_AdamDecayIdeal_AdamDecayRefIdeal (hAdamDecayIdeal := Cert.AdamDecayIdeal.Gen.facts) (hAdamDecayRefIdeal := Cert.AdamDecayRefIdeal.Gen.facts) := by
  intro m ρ m' ρ' _ ha
  refine ⟨fun c => Cert.Adam.changes (m (c.tc.loc Cert.AdamDecayIdeal.main_arg0)) (m (c.tc.loc Cert.AdamDecayIdeal.main_arg1)) (m (c.tc.loc Cert.AdamDecayIdeal.main_arg2)) (m (c.tc.loc Cert.AdamDecayIdeal.main_arg3)),
    fun c => Cert.Adam.firsts (m (c.tc.loc Cert.AdamDecayIdeal.main_arg1)) (m (c.tc.loc Cert.AdamDecayIdeal.main_arg2)),
    fun c => Cert.Adam.seconds (m (c.tc.loc Cert.AdamDecayIdeal.main_arg1)) (m (c.tc.loc Cert.AdamDecayIdeal.main_arg3)), ?_, ?_⟩
  · exact (θ_run _ _ _).mono (fun r h c => ⟨(h c).1.trans rfl, (h c).2.1.trans rfl, (h c).2.2.1.trans rfl, (h c).2.2.2⟩)
      (Cert.AdamDecayIdeal.Value.run (F := Ideal) m ρ)
  · refine (θ_run _ _ _).mono (fun r h c => ⟨(h c).1.trans ?_, (h c).2.1.trans ?_, (h c).2.2.1.trans ?_, (h c).2.2.2⟩) (Cert.AdamDecayRefIdeal.Value.run (F := Ideal) m' ρ')
    · rw [(ha c).1, (ha c).2.1, (ha c).2.2.1, (ha c).2.2.2]
      exact (Cert.AdamDecayRefIdeal.Read.val_main_v23_eq ..).trans (Cert.AdamDecayRefIdeal.Mine.change ..)
    · rw [(ha c).2.1, (ha c).2.2.1]
      exact (Cert.AdamDecayRefIdeal.Read.val_main_v4_eq ..).trans (Cert.AdamDecayRefIdeal.Mine.first ..)
    · rw [(ha c).2.1, (ha c).2.2.2]
      exact (Cert.AdamDecayRefIdeal.Read.val_main_v10_eq ..).trans (Cert.AdamDecayRefIdeal.Mine.second ..)

end Cert.AdamDecay.Mine

/-! ## `AdamGain`: a weight of shape 2x512 -/

namespace Cert.AdamGainRefIdeal.Mine

open Cert.AdamGainRefIdeal Cert.AdamGainRefIdeal.Gen Idealize.ShloMosaic

theorem first (g m : FVec Ideal S2x512 .f32) : Read.val_main_v4 (F := Ideal) g m = Cert.Adam.firsts g m := by
  funext i
  rfl
theorem second (g v : FVec Ideal S2x512 .f32) : Read.val_main_v10 (F := Ideal) g v = Cert.Adam.seconds g v := by
  funext i
  rfl
theorem change (w g m v : FVec Ideal S2x512 .f32) : Read.val_main_v23 (F := Ideal) w g m v = Cert.Adam.changes w g m v := by
  funext i
  rfl

end Cert.AdamGainRefIdeal.Mine

namespace Cert.AdamGain.Mine

open Idealize.ShloMosaic Idealize.ShloMosaic.TcCoe Idealize.SL.Sem

/-- From the same weight, gradient and moments, both programs end with the same change and moments. -/
theorem equal : Cert.algebraic_AdamGainIdeal_AdamGainRefIdeal (hAdamGainIdeal := Cert.AdamGainIdeal.Gen.facts) (hAdamGainRefIdeal := Cert.AdamGainRefIdeal.Gen.facts) := by
  intro m ρ m' ρ' _ ha
  refine ⟨fun c => Cert.Adam.changes (m (c.tc.loc Cert.AdamGainIdeal.main_arg0)) (m (c.tc.loc Cert.AdamGainIdeal.main_arg1)) (m (c.tc.loc Cert.AdamGainIdeal.main_arg2)) (m (c.tc.loc Cert.AdamGainIdeal.main_arg3)),
    fun c => Cert.Adam.firsts (m (c.tc.loc Cert.AdamGainIdeal.main_arg1)) (m (c.tc.loc Cert.AdamGainIdeal.main_arg2)),
    fun c => Cert.Adam.seconds (m (c.tc.loc Cert.AdamGainIdeal.main_arg1)) (m (c.tc.loc Cert.AdamGainIdeal.main_arg3)), ?_, ?_⟩
  · exact (θ_run _ _ _).mono (fun r h c => ⟨(h c).1.trans rfl, (h c).2.1.trans rfl, (h c).2.2.1.trans rfl, (h c).2.2.2⟩)
      (Cert.AdamGainIdeal.Value.run (F := Ideal) m ρ)
  · refine (θ_run _ _ _).mono (fun r h c => ⟨(h c).1.trans ?_, (h c).2.1.trans ?_, (h c).2.2.1.trans ?_, (h c).2.2.2⟩) (Cert.AdamGainRefIdeal.Value.run (F := Ideal) m' ρ')
    · rw [(ha c).1, (ha c).2.1, (ha c).2.2.1, (ha c).2.2.2]
      exact (Cert.AdamGainRefIdeal.Read.val_main_v23_eq ..).trans (Cert.AdamGainRefIdeal.Mine.change ..)
    · rw [(ha c).2.1, (ha c).2.2.1]
      exact (Cert.AdamGainRefIdeal.Read.val_main_v4_eq ..).trans (Cert.AdamGainRefIdeal.Mine.first ..)
    · rw [(ha c).2.1, (ha c).2.2.2]
      exact (Cert.AdamGainRefIdeal.Read.val_main_v10_eq ..).trans (Cert.AdamGainRefIdeal.Mine.second ..)

end Cert.AdamGain.Mine

/-! ## `AdamRpb`: a weight of shape 2x8x15x31 -/

namespace Cert.AdamRpbRefIdeal.Mine

open Cert.AdamRpbRefIdeal Cert.AdamRpbRefIdeal.Gen Idealize.ShloMosaic

theorem first (g m : FVec Ideal S2x8x15x31 .f32) : Read.val_main_v4 (F := Ideal) g m = Cert.Adam.firsts g m := by
  funext i
  rfl
theorem second (g v : FVec Ideal S2x8x15x31 .f32) : Read.val_main_v10 (F := Ideal) g v = Cert.Adam.seconds g v := by
  funext i
  rfl
theorem change (w g m v : FVec Ideal S2x8x15x31 .f32) : Read.val_main_v23 (F := Ideal) w g m v = Cert.Adam.changes w g m v := by
  funext i
  rfl

end Cert.AdamRpbRefIdeal.Mine

namespace Cert.AdamRpb.Mine

open Idealize.ShloMosaic Idealize.ShloMosaic.TcCoe Idealize.SL.Sem

/-- From the same weight, gradient and moments, both programs end with the same change and moments. -/
theorem equal : Cert.algebraic_AdamRpbIdeal_AdamRpbRefIdeal (hAdamRpbIdeal := Cert.AdamRpbIdeal.Gen.facts) (hAdamRpbRefIdeal := Cert.AdamRpbRefIdeal.Gen.facts) := by
  intro m ρ m' ρ' _ ha
  refine ⟨fun c => Cert.Adam.changes (m (c.tc.loc Cert.AdamRpbIdeal.main_arg0)) (m (c.tc.loc Cert.AdamRpbIdeal.main_arg1)) (m (c.tc.loc Cert.AdamRpbIdeal.main_arg2)) (m (c.tc.loc Cert.AdamRpbIdeal.main_arg3)),
    fun c => Cert.Adam.firsts (m (c.tc.loc Cert.AdamRpbIdeal.main_arg1)) (m (c.tc.loc Cert.AdamRpbIdeal.main_arg2)),
    fun c => Cert.Adam.seconds (m (c.tc.loc Cert.AdamRpbIdeal.main_arg1)) (m (c.tc.loc Cert.AdamRpbIdeal.main_arg3)), ?_, ?_⟩
  · exact (θ_run _ _ _).mono (fun r h c => ⟨(h c).1.trans rfl, (h c).2.1.trans rfl, (h c).2.2.1.trans rfl, (h c).2.2.2⟩)
      (Cert.AdamRpbIdeal.Value.run (F := Ideal) m ρ)
  · refine (θ_run _ _ _).mono (fun r h c => ⟨(h c).1.trans ?_, (h c).2.1.trans ?_, (h c).2.2.1.trans ?_, (h c).2.2.2⟩) (Cert.AdamRpbRefIdeal.Value.run (F := Ideal) m' ρ')
    · rw [(ha c).1, (ha c).2.1, (ha c).2.2.1, (ha c).2.2.2]
      exact (Cert.AdamRpbRefIdeal.Read.val_main_v23_eq ..).trans (Cert.AdamRpbRefIdeal.Mine.change ..)
    · rw [(ha c).2.1, (ha c).2.2.1]
      exact (Cert.AdamRpbRefIdeal.Read.val_main_v4_eq ..).trans (Cert.AdamRpbRefIdeal.Mine.first ..)
    · rw [(ha c).2.1, (ha c).2.2.2]
      exact (Cert.AdamRpbRefIdeal.Read.val_main_v10_eq ..).trans (Cert.AdamRpbRefIdeal.Mine.second ..)

end Cert.AdamRpb.Mine

/-! ## `AdamAbOut`: a weight of shape 2x256x1024 -/

namespace Cert.AdamAbOutRefIdeal.Mine

open Cert.AdamAbOutRefIdeal Cert.AdamAbOutRefIdeal.Gen Idealize.ShloMosaic

theorem first (g m : FVec Ideal S2x256x1024 .f32) : Read.val_main_v4 (F := Ideal) g m = Cert.Adam.firsts g m := by
  funext i
  rfl
theorem second (g v : FVec Ideal S2x256x1024 .f32) : Read.val_main_v10 (F := Ideal) g v = Cert.Adam.seconds g v := by
  funext i
  rfl
theorem change (w g m v : FVec Ideal S2x256x1024 .f32) : Read.val_main_v23 (F := Ideal) w g m v = Cert.Adam.changes w g m v := by
  funext i
  rfl

end Cert.AdamAbOutRefIdeal.Mine

namespace Cert.AdamAbOut.Mine

open Idealize.ShloMosaic Idealize.ShloMosaic.TcCoe Idealize.SL.Sem

/-- From the same weight, gradient and moments, both programs end with the same change and moments. -/
theorem equal : Cert.algebraic_AdamAbOutIdeal_AdamAbOutRefIdeal (hAdamAbOutIdeal := Cert.AdamAbOutIdeal.Gen.facts) (hAdamAbOutRefIdeal := Cert.AdamAbOutRefIdeal.Gen.facts) := by
  intro m ρ m' ρ' _ ha
  refine ⟨fun c => Cert.Adam.changes (m (c.tc.loc Cert.AdamAbOutIdeal.main_arg0)) (m (c.tc.loc Cert.AdamAbOutIdeal.main_arg1)) (m (c.tc.loc Cert.AdamAbOutIdeal.main_arg2)) (m (c.tc.loc Cert.AdamAbOutIdeal.main_arg3)),
    fun c => Cert.Adam.firsts (m (c.tc.loc Cert.AdamAbOutIdeal.main_arg1)) (m (c.tc.loc Cert.AdamAbOutIdeal.main_arg2)),
    fun c => Cert.Adam.seconds (m (c.tc.loc Cert.AdamAbOutIdeal.main_arg1)) (m (c.tc.loc Cert.AdamAbOutIdeal.main_arg3)), ?_, ?_⟩
  · exact (θ_run _ _ _).mono (fun r h c => ⟨(h c).1.trans rfl, (h c).2.1.trans rfl, (h c).2.2.1.trans rfl, (h c).2.2.2⟩)
      (Cert.AdamAbOutIdeal.Value.run (F := Ideal) m ρ)
  · refine (θ_run _ _ _).mono (fun r h c => ⟨(h c).1.trans ?_, (h c).2.1.trans ?_, (h c).2.2.1.trans ?_, (h c).2.2.2⟩) (Cert.AdamAbOutRefIdeal.Value.run (F := Ideal) m' ρ')
    · rw [(ha c).1, (ha c).2.1, (ha c).2.2.1, (ha c).2.2.2]
      exact (Cert.AdamAbOutRefIdeal.Read.val_main_v23_eq ..).trans (Cert.AdamAbOutRefIdeal.Mine.change ..)
    · rw [(ha c).2.1, (ha c).2.2.1]
      exact (Cert.AdamAbOutRefIdeal.Read.val_main_v4_eq ..).trans (Cert.AdamAbOutRefIdeal.Mine.first ..)
    · rw [(ha c).2.1, (ha c).2.2.2]
      exact (Cert.AdamAbOutRefIdeal.Read.val_main_v10_eq ..).trans (Cert.AdamAbOutRefIdeal.Mine.second ..)

end Cert.AdamAbOut.Mine

/-! ## `AdamCIn`: a weight of shape 2x1024x1296 -/

namespace Cert.AdamCInRefIdeal.Mine

open Cert.AdamCInRefIdeal Cert.AdamCInRefIdeal.Gen Idealize.ShloMosaic

theorem first (g m : FVec Ideal S2x1024x1296 .f32) : Read.val_main_v4 (F := Ideal) g m = Cert.Adam.firsts g m := by
  funext i
  rfl
theorem second (g v : FVec Ideal S2x1024x1296 .f32) : Read.val_main_v10 (F := Ideal) g v = Cert.Adam.seconds g v := by
  funext i
  rfl
theorem change (w g m v : FVec Ideal S2x1024x1296 .f32) : Read.val_main_v23 (F := Ideal) w g m v = Cert.Adam.changes w g m v := by
  funext i
  rfl

end Cert.AdamCInRefIdeal.Mine

namespace Cert.AdamCIn.Mine

open Idealize.ShloMosaic Idealize.ShloMosaic.TcCoe Idealize.SL.Sem

/-- From the same weight, gradient and moments, both programs end with the same change and moments. -/
theorem equal : Cert.algebraic_AdamCInIdeal_AdamCInRefIdeal (hAdamCInIdeal := Cert.AdamCInIdeal.Gen.facts) (hAdamCInRefIdeal := Cert.AdamCInRefIdeal.Gen.facts) := by
  intro m ρ m' ρ' _ ha
  refine ⟨fun c => Cert.Adam.changes (m (c.tc.loc Cert.AdamCInIdeal.main_arg0)) (m (c.tc.loc Cert.AdamCInIdeal.main_arg1)) (m (c.tc.loc Cert.AdamCInIdeal.main_arg2)) (m (c.tc.loc Cert.AdamCInIdeal.main_arg3)),
    fun c => Cert.Adam.firsts (m (c.tc.loc Cert.AdamCInIdeal.main_arg1)) (m (c.tc.loc Cert.AdamCInIdeal.main_arg2)),
    fun c => Cert.Adam.seconds (m (c.tc.loc Cert.AdamCInIdeal.main_arg1)) (m (c.tc.loc Cert.AdamCInIdeal.main_arg3)), ?_, ?_⟩
  · exact (θ_run _ _ _).mono (fun r h c => ⟨(h c).1.trans rfl, (h c).2.1.trans rfl, (h c).2.2.1.trans rfl, (h c).2.2.2⟩)
      (Cert.AdamCInIdeal.Value.run (F := Ideal) m ρ)
  · refine (θ_run _ _ _).mono (fun r h c => ⟨(h c).1.trans ?_, (h c).2.1.trans ?_, (h c).2.2.1.trans ?_, (h c).2.2.2⟩) (Cert.AdamCInRefIdeal.Value.run (F := Ideal) m' ρ')
    · rw [(ha c).1, (ha c).2.1, (ha c).2.2.1, (ha c).2.2.2]
      exact (Cert.AdamCInRefIdeal.Read.val_main_v23_eq ..).trans (Cert.AdamCInRefIdeal.Mine.change ..)
    · rw [(ha c).2.1, (ha c).2.2.1]
      exact (Cert.AdamCInRefIdeal.Read.val_main_v4_eq ..).trans (Cert.AdamCInRefIdeal.Mine.first ..)
    · rw [(ha c).2.1, (ha c).2.2.2]
      exact (Cert.AdamCInRefIdeal.Read.val_main_v10_eq ..).trans (Cert.AdamCInRefIdeal.Mine.second ..)

end Cert.AdamCIn.Mine

/-! ## `AdamCConv`: a weight of shape 2x5x768 -/

namespace Cert.AdamCConvRefIdeal.Mine

open Cert.AdamCConvRefIdeal Cert.AdamCConvRefIdeal.Gen Idealize.ShloMosaic

theorem first (g m : FVec Ideal S2x5x768 .f32) : Read.val_main_v4 (F := Ideal) g m = Cert.Adam.firsts g m := by
  funext i
  rfl
theorem second (g v : FVec Ideal S2x5x768 .f32) : Read.val_main_v10 (F := Ideal) g v = Cert.Adam.seconds g v := by
  funext i
  rfl
theorem change (w g m v : FVec Ideal S2x5x768 .f32) : Read.val_main_v23 (F := Ideal) w g m v = Cert.Adam.changes w g m v := by
  funext i
  rfl

end Cert.AdamCConvRefIdeal.Mine

namespace Cert.AdamCConv.Mine

open Idealize.ShloMosaic Idealize.ShloMosaic.TcCoe Idealize.SL.Sem

/-- From the same weight, gradient and moments, both programs end with the same change and moments. -/
theorem equal : Cert.algebraic_AdamCConvIdeal_AdamCConvRefIdeal (hAdamCConvIdeal := Cert.AdamCConvIdeal.Gen.facts) (hAdamCConvRefIdeal := Cert.AdamCConvRefIdeal.Gen.facts) := by
  intro m ρ m' ρ' _ ha
  refine ⟨fun c => Cert.Adam.changes (m (c.tc.loc Cert.AdamCConvIdeal.main_arg0)) (m (c.tc.loc Cert.AdamCConvIdeal.main_arg1)) (m (c.tc.loc Cert.AdamCConvIdeal.main_arg2)) (m (c.tc.loc Cert.AdamCConvIdeal.main_arg3)),
    fun c => Cert.Adam.firsts (m (c.tc.loc Cert.AdamCConvIdeal.main_arg1)) (m (c.tc.loc Cert.AdamCConvIdeal.main_arg2)),
    fun c => Cert.Adam.seconds (m (c.tc.loc Cert.AdamCConvIdeal.main_arg1)) (m (c.tc.loc Cert.AdamCConvIdeal.main_arg3)), ?_, ?_⟩
  · exact (θ_run _ _ _).mono (fun r h c => ⟨(h c).1.trans rfl, (h c).2.1.trans rfl, (h c).2.2.1.trans rfl, (h c).2.2.2⟩)
      (Cert.AdamCConvIdeal.Value.run (F := Ideal) m ρ)
  · refine (θ_run _ _ _).mono (fun r h c => ⟨(h c).1.trans ?_, (h c).2.1.trans ?_, (h c).2.2.1.trans ?_, (h c).2.2.2⟩) (Cert.AdamCConvRefIdeal.Value.run (F := Ideal) m' ρ')
    · rw [(ha c).1, (ha c).2.1, (ha c).2.2.1, (ha c).2.2.2]
      exact (Cert.AdamCConvRefIdeal.Read.val_main_v23_eq ..).trans (Cert.AdamCConvRefIdeal.Mine.change ..)
    · rw [(ha c).2.1, (ha c).2.2.1]
      exact (Cert.AdamCConvRefIdeal.Read.val_main_v4_eq ..).trans (Cert.AdamCConvRefIdeal.Mine.first ..)
    · rw [(ha c).2.1, (ha c).2.2.2]
      exact (Cert.AdamCConvRefIdeal.Read.val_main_v10_eq ..).trans (Cert.AdamCConvRefIdeal.Mine.second ..)

end Cert.AdamCConv.Mine

/-! ## `AdamCBias`: a weight of shape 2x768 -/

namespace Cert.AdamCBiasRefIdeal.Mine

open Cert.AdamCBiasRefIdeal Cert.AdamCBiasRefIdeal.Gen Idealize.ShloMosaic

theorem first (g m : FVec Ideal S2x768 .f32) : Read.val_main_v4 (F := Ideal) g m = Cert.Adam.firsts g m := by
  funext i
  rfl
theorem second (g v : FVec Ideal S2x768 .f32) : Read.val_main_v10 (F := Ideal) g v = Cert.Adam.seconds g v := by
  funext i
  rfl
theorem change (w g m v : FVec Ideal S2x768 .f32) : Read.val_main_v23 (F := Ideal) w g m v = Cert.Adam.changes w g m v := by
  funext i
  rfl

end Cert.AdamCBiasRefIdeal.Mine

namespace Cert.AdamCBias.Mine

open Idealize.ShloMosaic Idealize.ShloMosaic.TcCoe Idealize.SL.Sem

/-- From the same weight, gradient and moments, both programs end with the same change and moments. -/
theorem equal : Cert.algebraic_AdamCBiasIdeal_AdamCBiasRefIdeal (hAdamCBiasIdeal := Cert.AdamCBiasIdeal.Gen.facts) (hAdamCBiasRefIdeal := Cert.AdamCBiasRefIdeal.Gen.facts) := by
  intro m ρ m' ρ' _ ha
  refine ⟨fun c => Cert.Adam.changes (m (c.tc.loc Cert.AdamCBiasIdeal.main_arg0)) (m (c.tc.loc Cert.AdamCBiasIdeal.main_arg1)) (m (c.tc.loc Cert.AdamCBiasIdeal.main_arg2)) (m (c.tc.loc Cert.AdamCBiasIdeal.main_arg3)),
    fun c => Cert.Adam.firsts (m (c.tc.loc Cert.AdamCBiasIdeal.main_arg1)) (m (c.tc.loc Cert.AdamCBiasIdeal.main_arg2)),
    fun c => Cert.Adam.seconds (m (c.tc.loc Cert.AdamCBiasIdeal.main_arg1)) (m (c.tc.loc Cert.AdamCBiasIdeal.main_arg3)), ?_, ?_⟩
  · exact (θ_run _ _ _).mono (fun r h c => ⟨(h c).1.trans rfl, (h c).2.1.trans rfl, (h c).2.2.1.trans rfl, (h c).2.2.2⟩)
      (Cert.AdamCBiasIdeal.Value.run (F := Ideal) m ρ)
  · refine (θ_run _ _ _).mono (fun r h c => ⟨(h c).1.trans ?_, (h c).2.1.trans ?_, (h c).2.2.1.trans ?_, (h c).2.2.2⟩) (Cert.AdamCBiasRefIdeal.Value.run (F := Ideal) m' ρ')
    · rw [(ha c).1, (ha c).2.1, (ha c).2.2.1, (ha c).2.2.2]
      exact (Cert.AdamCBiasRefIdeal.Read.val_main_v23_eq ..).trans (Cert.AdamCBiasRefIdeal.Mine.change ..)
    · rw [(ha c).2.1, (ha c).2.2.1]
      exact (Cert.AdamCBiasRefIdeal.Read.val_main_v4_eq ..).trans (Cert.AdamCBiasRefIdeal.Mine.first ..)
    · rw [(ha c).2.1, (ha c).2.2.2]
      exact (Cert.AdamCBiasRefIdeal.Read.val_main_v10_eq ..).trans (Cert.AdamCBiasRefIdeal.Mine.second ..)

end Cert.AdamCBias.Mine

/-! ## `AdamDt`: a weight of shape 2x2x32 -/

namespace Cert.AdamDtRefIdeal.Mine

open Cert.AdamDtRefIdeal Cert.AdamDtRefIdeal.Gen Idealize.ShloMosaic

theorem first (g m : FVec Ideal S2x2x32 .f32) : Read.val_main_v4 (F := Ideal) g m = Cert.Adam.firsts g m := by
  funext i
  rfl
theorem second (g v : FVec Ideal S2x2x32 .f32) : Read.val_main_v10 (F := Ideal) g v = Cert.Adam.seconds g v := by
  funext i
  rfl
theorem change (w g m v : FVec Ideal S2x2x32 .f32) : Read.val_main_v23 (F := Ideal) w g m v = Cert.Adam.changes w g m v := by
  funext i
  rfl

end Cert.AdamDtRefIdeal.Mine

namespace Cert.AdamDt.Mine

open Idealize.ShloMosaic Idealize.ShloMosaic.TcCoe Idealize.SL.Sem

/-- From the same weight, gradient and moments, both programs end with the same change and moments. -/
theorem equal : Cert.algebraic_AdamDtIdeal_AdamDtRefIdeal (hAdamDtIdeal := Cert.AdamDtIdeal.Gen.facts) (hAdamDtRefIdeal := Cert.AdamDtRefIdeal.Gen.facts) := by
  intro m ρ m' ρ' _ ha
  refine ⟨fun c => Cert.Adam.changes (m (c.tc.loc Cert.AdamDtIdeal.main_arg0)) (m (c.tc.loc Cert.AdamDtIdeal.main_arg1)) (m (c.tc.loc Cert.AdamDtIdeal.main_arg2)) (m (c.tc.loc Cert.AdamDtIdeal.main_arg3)),
    fun c => Cert.Adam.firsts (m (c.tc.loc Cert.AdamDtIdeal.main_arg1)) (m (c.tc.loc Cert.AdamDtIdeal.main_arg2)),
    fun c => Cert.Adam.seconds (m (c.tc.loc Cert.AdamDtIdeal.main_arg1)) (m (c.tc.loc Cert.AdamDtIdeal.main_arg3)), ?_, ?_⟩
  · exact (θ_run _ _ _).mono (fun r h c => ⟨(h c).1.trans rfl, (h c).2.1.trans rfl, (h c).2.2.1.trans rfl, (h c).2.2.2⟩)
      (Cert.AdamDtIdeal.Value.run (F := Ideal) m ρ)
  · refine (θ_run _ _ _).mono (fun r h c => ⟨(h c).1.trans ?_, (h c).2.1.trans ?_, (h c).2.2.1.trans ?_, (h c).2.2.2⟩) (Cert.AdamDtRefIdeal.Value.run (F := Ideal) m' ρ')
    · rw [(ha c).1, (ha c).2.1, (ha c).2.2.1, (ha c).2.2.2]
      exact (Cert.AdamDtRefIdeal.Read.val_main_v23_eq ..).trans (Cert.AdamDtRefIdeal.Mine.change ..)
    · rw [(ha c).2.1, (ha c).2.2.1]
      exact (Cert.AdamDtRefIdeal.Read.val_main_v4_eq ..).trans (Cert.AdamDtRefIdeal.Mine.first ..)
    · rw [(ha c).2.1, (ha c).2.2.2]
      exact (Cert.AdamDtRefIdeal.Read.val_main_v10_eq ..).trans (Cert.AdamDtRefIdeal.Mine.second ..)

end Cert.AdamDt.Mine

/-! ## `AdamSkip`: a weight of shape 2x32 -/

namespace Cert.AdamSkipRefIdeal.Mine

open Cert.AdamSkipRefIdeal Cert.AdamSkipRefIdeal.Gen Idealize.ShloMosaic

theorem first (g m : FVec Ideal S2x32 .f32) : Read.val_main_v4 (F := Ideal) g m = Cert.Adam.firsts g m := by
  funext i
  rfl
theorem second (g v : FVec Ideal S2x32 .f32) : Read.val_main_v10 (F := Ideal) g v = Cert.Adam.seconds g v := by
  funext i
  rfl
theorem change (w g m v : FVec Ideal S2x32 .f32) : Read.val_main_v23 (F := Ideal) w g m v = Cert.Adam.changes w g m v := by
  funext i
  rfl

end Cert.AdamSkipRefIdeal.Mine

namespace Cert.AdamSkip.Mine

open Idealize.ShloMosaic Idealize.ShloMosaic.TcCoe Idealize.SL.Sem

/-- From the same weight, gradient and moments, both programs end with the same change and moments. -/
theorem equal : Cert.algebraic_AdamSkipIdeal_AdamSkipRefIdeal (hAdamSkipIdeal := Cert.AdamSkipIdeal.Gen.facts) (hAdamSkipRefIdeal := Cert.AdamSkipRefIdeal.Gen.facts) := by
  intro m ρ m' ρ' _ ha
  refine ⟨fun c => Cert.Adam.changes (m (c.tc.loc Cert.AdamSkipIdeal.main_arg0)) (m (c.tc.loc Cert.AdamSkipIdeal.main_arg1)) (m (c.tc.loc Cert.AdamSkipIdeal.main_arg2)) (m (c.tc.loc Cert.AdamSkipIdeal.main_arg3)),
    fun c => Cert.Adam.firsts (m (c.tc.loc Cert.AdamSkipIdeal.main_arg1)) (m (c.tc.loc Cert.AdamSkipIdeal.main_arg2)),
    fun c => Cert.Adam.seconds (m (c.tc.loc Cert.AdamSkipIdeal.main_arg1)) (m (c.tc.loc Cert.AdamSkipIdeal.main_arg3)), ?_, ?_⟩
  · exact (θ_run _ _ _).mono (fun r h c => ⟨(h c).1.trans rfl, (h c).2.1.trans rfl, (h c).2.2.1.trans rfl, (h c).2.2.2⟩)
      (Cert.AdamSkipIdeal.Value.run (F := Ideal) m ρ)
  · refine (θ_run _ _ _).mono (fun r h c => ⟨(h c).1.trans ?_, (h c).2.1.trans ?_, (h c).2.2.1.trans ?_, (h c).2.2.2⟩) (Cert.AdamSkipRefIdeal.Value.run (F := Ideal) m' ρ')
    · rw [(ha c).1, (ha c).2.1, (ha c).2.2.1, (ha c).2.2.2]
      exact (Cert.AdamSkipRefIdeal.Read.val_main_v23_eq ..).trans (Cert.AdamSkipRefIdeal.Mine.change ..)
    · rw [(ha c).2.1, (ha c).2.2.1]
      exact (Cert.AdamSkipRefIdeal.Read.val_main_v4_eq ..).trans (Cert.AdamSkipRefIdeal.Mine.first ..)
    · rw [(ha c).2.1, (ha c).2.2.2]
      exact (Cert.AdamSkipRefIdeal.Read.val_main_v10_eq ..).trans (Cert.AdamSkipRefIdeal.Mine.second ..)

end Cert.AdamSkip.Mine

/-! ## `AdamCOut`: a weight of shape 2x512x1024 -/

namespace Cert.AdamCOutRefIdeal.Mine

open Cert.AdamCOutRefIdeal Cert.AdamCOutRefIdeal.Gen Idealize.ShloMosaic

theorem first (g m : FVec Ideal S2x512x1024 .f32) : Read.val_main_v4 (F := Ideal) g m = Cert.Adam.firsts g m := by
  funext i
  rfl
theorem second (g v : FVec Ideal S2x512x1024 .f32) : Read.val_main_v10 (F := Ideal) g v = Cert.Adam.seconds g v := by
  funext i
  rfl
theorem change (w g m v : FVec Ideal S2x512x1024 .f32) : Read.val_main_v23 (F := Ideal) w g m v = Cert.Adam.changes w g m v := by
  funext i
  rfl

end Cert.AdamCOutRefIdeal.Mine

namespace Cert.AdamCOut.Mine

open Idealize.ShloMosaic Idealize.ShloMosaic.TcCoe Idealize.SL.Sem

/-- From the same weight, gradient and moments, both programs end with the same change and moments. -/
theorem equal : Cert.algebraic_AdamCOutIdeal_AdamCOutRefIdeal (hAdamCOutIdeal := Cert.AdamCOutIdeal.Gen.facts) (hAdamCOutRefIdeal := Cert.AdamCOutRefIdeal.Gen.facts) := by
  intro m ρ m' ρ' _ ha
  refine ⟨fun c => Cert.Adam.changes (m (c.tc.loc Cert.AdamCOutIdeal.main_arg0)) (m (c.tc.loc Cert.AdamCOutIdeal.main_arg1)) (m (c.tc.loc Cert.AdamCOutIdeal.main_arg2)) (m (c.tc.loc Cert.AdamCOutIdeal.main_arg3)),
    fun c => Cert.Adam.firsts (m (c.tc.loc Cert.AdamCOutIdeal.main_arg1)) (m (c.tc.loc Cert.AdamCOutIdeal.main_arg2)),
    fun c => Cert.Adam.seconds (m (c.tc.loc Cert.AdamCOutIdeal.main_arg1)) (m (c.tc.loc Cert.AdamCOutIdeal.main_arg3)), ?_, ?_⟩
  · exact (θ_run _ _ _).mono (fun r h c => ⟨(h c).1.trans rfl, (h c).2.1.trans rfl, (h c).2.2.1.trans rfl, (h c).2.2.2⟩)
      (Cert.AdamCOutIdeal.Value.run (F := Ideal) m ρ)
  · refine (θ_run _ _ _).mono (fun r h c => ⟨(h c).1.trans ?_, (h c).2.1.trans ?_, (h c).2.2.1.trans ?_, (h c).2.2.2⟩) (Cert.AdamCOutRefIdeal.Value.run (F := Ideal) m' ρ')
    · rw [(ha c).1, (ha c).2.1, (ha c).2.2.1, (ha c).2.2.2]
      exact (Cert.AdamCOutRefIdeal.Read.val_main_v23_eq ..).trans (Cert.AdamCOutRefIdeal.Mine.change ..)
    · rw [(ha c).2.1, (ha c).2.2.1]
      exact (Cert.AdamCOutRefIdeal.Read.val_main_v4_eq ..).trans (Cert.AdamCOutRefIdeal.Mine.first ..)
    · rw [(ha c).2.1, (ha c).2.2.2]
      exact (Cert.AdamCOutRefIdeal.Read.val_main_v10_eq ..).trans (Cert.AdamCOutRefIdeal.Mine.second ..)

end Cert.AdamCOut.Mine

/-! ## `AdamUp`: a weight of shape 4x1024x1408 -/

namespace Cert.AdamUpRefIdeal.Mine

open Cert.AdamUpRefIdeal Cert.AdamUpRefIdeal.Gen Idealize.ShloMosaic

theorem first (g m : FVec Ideal S4x1024x1408 .f32) : Read.val_main_v4 (F := Ideal) g m = Cert.Adam.firsts g m := by
  funext i
  rfl
theorem second (g v : FVec Ideal S4x1024x1408 .f32) : Read.val_main_v10 (F := Ideal) g v = Cert.Adam.seconds g v := by
  funext i
  rfl
theorem change (w g m v : FVec Ideal S4x1024x1408 .f32) : Read.val_main_v23 (F := Ideal) w g m v = Cert.Adam.changes w g m v := by
  funext i
  rfl

end Cert.AdamUpRefIdeal.Mine

namespace Cert.AdamUp.Mine

open Idealize.ShloMosaic Idealize.ShloMosaic.TcCoe Idealize.SL.Sem

/-- From the same weight, gradient and moments, both programs end with the same change and moments. -/
theorem equal : Cert.algebraic_AdamUpIdeal_AdamUpRefIdeal (hAdamUpIdeal := Cert.AdamUpIdeal.Gen.facts) (hAdamUpRefIdeal := Cert.AdamUpRefIdeal.Gen.facts) := by
  intro m ρ m' ρ' _ ha
  refine ⟨fun c => Cert.Adam.changes (m (c.tc.loc Cert.AdamUpIdeal.main_arg0)) (m (c.tc.loc Cert.AdamUpIdeal.main_arg1)) (m (c.tc.loc Cert.AdamUpIdeal.main_arg2)) (m (c.tc.loc Cert.AdamUpIdeal.main_arg3)),
    fun c => Cert.Adam.firsts (m (c.tc.loc Cert.AdamUpIdeal.main_arg1)) (m (c.tc.loc Cert.AdamUpIdeal.main_arg2)),
    fun c => Cert.Adam.seconds (m (c.tc.loc Cert.AdamUpIdeal.main_arg1)) (m (c.tc.loc Cert.AdamUpIdeal.main_arg3)), ?_, ?_⟩
  · exact (θ_run _ _ _).mono (fun r h c => ⟨(h c).1.trans rfl, (h c).2.1.trans rfl, (h c).2.2.1.trans rfl, (h c).2.2.2⟩)
      (Cert.AdamUpIdeal.Value.run (F := Ideal) m ρ)
  · refine (θ_run _ _ _).mono (fun r h c => ⟨(h c).1.trans ?_, (h c).2.1.trans ?_, (h c).2.2.1.trans ?_, (h c).2.2.2⟩) (Cert.AdamUpRefIdeal.Value.run (F := Ideal) m' ρ')
    · rw [(ha c).1, (ha c).2.1, (ha c).2.2.1, (ha c).2.2.2]
      exact (Cert.AdamUpRefIdeal.Read.val_main_v23_eq ..).trans (Cert.AdamUpRefIdeal.Mine.change ..)
    · rw [(ha c).2.1, (ha c).2.2.1]
      exact (Cert.AdamUpRefIdeal.Read.val_main_v4_eq ..).trans (Cert.AdamUpRefIdeal.Mine.first ..)
    · rw [(ha c).2.1, (ha c).2.2.2]
      exact (Cert.AdamUpRefIdeal.Read.val_main_v10_eq ..).trans (Cert.AdamUpRefIdeal.Mine.second ..)

end Cert.AdamUp.Mine

/-! ## `AdamFConv`: a weight of shape 4x3x1408 -/

namespace Cert.AdamFConvRefIdeal.Mine

open Cert.AdamFConvRefIdeal Cert.AdamFConvRefIdeal.Gen Idealize.ShloMosaic

theorem first (g m : FVec Ideal S4x3x1408 .f32) : Read.val_main_v4 (F := Ideal) g m = Cert.Adam.firsts g m := by
  funext i
  rfl
theorem second (g v : FVec Ideal S4x3x1408 .f32) : Read.val_main_v10 (F := Ideal) g v = Cert.Adam.seconds g v := by
  funext i
  rfl
theorem change (w g m v : FVec Ideal S4x3x1408 .f32) : Read.val_main_v23 (F := Ideal) w g m v = Cert.Adam.changes w g m v := by
  funext i
  rfl

end Cert.AdamFConvRefIdeal.Mine

namespace Cert.AdamFConv.Mine

open Idealize.ShloMosaic Idealize.ShloMosaic.TcCoe Idealize.SL.Sem

/-- From the same weight, gradient and moments, both programs end with the same change and moments. -/
theorem equal : Cert.algebraic_AdamFConvIdeal_AdamFConvRefIdeal (hAdamFConvIdeal := Cert.AdamFConvIdeal.Gen.facts) (hAdamFConvRefIdeal := Cert.AdamFConvRefIdeal.Gen.facts) := by
  intro m ρ m' ρ' _ ha
  refine ⟨fun c => Cert.Adam.changes (m (c.tc.loc Cert.AdamFConvIdeal.main_arg0)) (m (c.tc.loc Cert.AdamFConvIdeal.main_arg1)) (m (c.tc.loc Cert.AdamFConvIdeal.main_arg2)) (m (c.tc.loc Cert.AdamFConvIdeal.main_arg3)),
    fun c => Cert.Adam.firsts (m (c.tc.loc Cert.AdamFConvIdeal.main_arg1)) (m (c.tc.loc Cert.AdamFConvIdeal.main_arg2)),
    fun c => Cert.Adam.seconds (m (c.tc.loc Cert.AdamFConvIdeal.main_arg1)) (m (c.tc.loc Cert.AdamFConvIdeal.main_arg3)), ?_, ?_⟩
  · exact (θ_run _ _ _).mono (fun r h c => ⟨(h c).1.trans rfl, (h c).2.1.trans rfl, (h c).2.2.1.trans rfl, (h c).2.2.2⟩)
      (Cert.AdamFConvIdeal.Value.run (F := Ideal) m ρ)
  · refine (θ_run _ _ _).mono (fun r h c => ⟨(h c).1.trans ?_, (h c).2.1.trans ?_, (h c).2.2.1.trans ?_, (h c).2.2.2⟩) (Cert.AdamFConvRefIdeal.Value.run (F := Ideal) m' ρ')
    · rw [(ha c).1, (ha c).2.1, (ha c).2.2.1, (ha c).2.2.2]
      exact (Cert.AdamFConvRefIdeal.Read.val_main_v23_eq ..).trans (Cert.AdamFConvRefIdeal.Mine.change ..)
    · rw [(ha c).2.1, (ha c).2.2.1]
      exact (Cert.AdamFConvRefIdeal.Read.val_main_v4_eq ..).trans (Cert.AdamFConvRefIdeal.Mine.first ..)
    · rw [(ha c).2.1, (ha c).2.2.2]
      exact (Cert.AdamFConvRefIdeal.Read.val_main_v10_eq ..).trans (Cert.AdamFConvRefIdeal.Mine.second ..)

end Cert.AdamFConv.Mine

/-! ## `AdamFBias`: a weight of shape 4x5632 -/

namespace Cert.AdamFBiasRefIdeal.Mine

open Cert.AdamFBiasRefIdeal Cert.AdamFBiasRefIdeal.Gen Idealize.ShloMosaic

theorem first (g m : FVec Ideal S4x5632 .f32) : Read.val_main_v4 (F := Ideal) g m = Cert.Adam.firsts g m := by
  funext i
  rfl
theorem second (g v : FVec Ideal S4x5632 .f32) : Read.val_main_v10 (F := Ideal) g v = Cert.Adam.seconds g v := by
  funext i
  rfl
theorem change (w g m v : FVec Ideal S4x5632 .f32) : Read.val_main_v23 (F := Ideal) w g m v = Cert.Adam.changes w g m v := by
  funext i
  rfl

end Cert.AdamFBiasRefIdeal.Mine

namespace Cert.AdamFBias.Mine

open Idealize.ShloMosaic Idealize.ShloMosaic.TcCoe Idealize.SL.Sem

/-- From the same weight, gradient and moments, both programs end with the same change and moments. -/
theorem equal : Cert.algebraic_AdamFBiasIdeal_AdamFBiasRefIdeal (hAdamFBiasIdeal := Cert.AdamFBiasIdeal.Gen.facts) (hAdamFBiasRefIdeal := Cert.AdamFBiasRefIdeal.Gen.facts) := by
  intro m ρ m' ρ' _ ha
  refine ⟨fun c => Cert.Adam.changes (m (c.tc.loc Cert.AdamFBiasIdeal.main_arg0)) (m (c.tc.loc Cert.AdamFBiasIdeal.main_arg1)) (m (c.tc.loc Cert.AdamFBiasIdeal.main_arg2)) (m (c.tc.loc Cert.AdamFBiasIdeal.main_arg3)),
    fun c => Cert.Adam.firsts (m (c.tc.loc Cert.AdamFBiasIdeal.main_arg1)) (m (c.tc.loc Cert.AdamFBiasIdeal.main_arg2)),
    fun c => Cert.Adam.seconds (m (c.tc.loc Cert.AdamFBiasIdeal.main_arg1)) (m (c.tc.loc Cert.AdamFBiasIdeal.main_arg3)), ?_, ?_⟩
  · exact (θ_run _ _ _).mono (fun r h c => ⟨(h c).1.trans rfl, (h c).2.1.trans rfl, (h c).2.2.1.trans rfl, (h c).2.2.2⟩)
      (Cert.AdamFBiasIdeal.Value.run (F := Ideal) m ρ)
  · refine (θ_run _ _ _).mono (fun r h c => ⟨(h c).1.trans ?_, (h c).2.1.trans ?_, (h c).2.2.1.trans ?_, (h c).2.2.2⟩) (Cert.AdamFBiasRefIdeal.Value.run (F := Ideal) m' ρ')
    · rw [(ha c).1, (ha c).2.1, (ha c).2.2.1, (ha c).2.2.2]
      exact (Cert.AdamFBiasRefIdeal.Read.val_main_v23_eq ..).trans (Cert.AdamFBiasRefIdeal.Mine.change ..)
    · rw [(ha c).2.1, (ha c).2.2.1]
      exact (Cert.AdamFBiasRefIdeal.Read.val_main_v4_eq ..).trans (Cert.AdamFBiasRefIdeal.Mine.first ..)
    · rw [(ha c).2.1, (ha c).2.2.2]
      exact (Cert.AdamFBiasRefIdeal.Read.val_main_v10_eq ..).trans (Cert.AdamFBiasRefIdeal.Mine.second ..)

end Cert.AdamFBias.Mine

/-! ## `AdamDown`: a weight of shape 4x704x1024 -/

namespace Cert.AdamDownRefIdeal.Mine

open Cert.AdamDownRefIdeal Cert.AdamDownRefIdeal.Gen Idealize.ShloMosaic

theorem first (g m : FVec Ideal S4x704x1024 .f32) : Read.val_main_v4 (F := Ideal) g m = Cert.Adam.firsts g m := by
  funext i
  rfl
theorem second (g v : FVec Ideal S4x704x1024 .f32) : Read.val_main_v10 (F := Ideal) g v = Cert.Adam.seconds g v := by
  funext i
  rfl
theorem change (w g m v : FVec Ideal S4x704x1024 .f32) : Read.val_main_v23 (F := Ideal) w g m v = Cert.Adam.changes w g m v := by
  funext i
  rfl

end Cert.AdamDownRefIdeal.Mine

namespace Cert.AdamDown.Mine

open Idealize.ShloMosaic Idealize.ShloMosaic.TcCoe Idealize.SL.Sem

/-- From the same weight, gradient and moments, both programs end with the same change and moments. -/
theorem equal : Cert.algebraic_AdamDownIdeal_AdamDownRefIdeal (hAdamDownIdeal := Cert.AdamDownIdeal.Gen.facts) (hAdamDownRefIdeal := Cert.AdamDownRefIdeal.Gen.facts) := by
  intro m ρ m' ρ' _ ha
  refine ⟨fun c => Cert.Adam.changes (m (c.tc.loc Cert.AdamDownIdeal.main_arg0)) (m (c.tc.loc Cert.AdamDownIdeal.main_arg1)) (m (c.tc.loc Cert.AdamDownIdeal.main_arg2)) (m (c.tc.loc Cert.AdamDownIdeal.main_arg3)),
    fun c => Cert.Adam.firsts (m (c.tc.loc Cert.AdamDownIdeal.main_arg1)) (m (c.tc.loc Cert.AdamDownIdeal.main_arg2)),
    fun c => Cert.Adam.seconds (m (c.tc.loc Cert.AdamDownIdeal.main_arg1)) (m (c.tc.loc Cert.AdamDownIdeal.main_arg3)), ?_, ?_⟩
  · exact (θ_run _ _ _).mono (fun r h c => ⟨(h c).1.trans rfl, (h c).2.1.trans rfl, (h c).2.2.1.trans rfl, (h c).2.2.2⟩)
      (Cert.AdamDownIdeal.Value.run (F := Ideal) m ρ)
  · refine (θ_run _ _ _).mono (fun r h c => ⟨(h c).1.trans ?_, (h c).2.1.trans ?_, (h c).2.2.1.trans ?_, (h c).2.2.2⟩) (Cert.AdamDownRefIdeal.Value.run (F := Ideal) m' ρ')
    · rw [(ha c).1, (ha c).2.1, (ha c).2.2.1, (ha c).2.2.2]
      exact (Cert.AdamDownRefIdeal.Read.val_main_v23_eq ..).trans (Cert.AdamDownRefIdeal.Mine.change ..)
    · rw [(ha c).2.1, (ha c).2.2.1]
      exact (Cert.AdamDownRefIdeal.Read.val_main_v4_eq ..).trans (Cert.AdamDownRefIdeal.Mine.first ..)
    · rw [(ha c).2.1, (ha c).2.2.2]
      exact (Cert.AdamDownRefIdeal.Read.val_main_v10_eq ..).trans (Cert.AdamDownRefIdeal.Mine.second ..)

end Cert.AdamDown.Mine

end
-- ==== Proof.MixDwEq.lean ====
/- The product `MixDw`: the kernel's accumulated result and the reference's are the same matrix product. -/
module

public import proofs.«01_k».proof.Proof.Prod
public import proofs.«01_k».proof.Proof.Gen.MixDw.Frame
public import proofs.«01_k».proof.Proof.Gen.MixDwIdeal.Value
public import proofs.«01_k».proof.Proof.Gen.MixDwRefIdeal.Read
public import proofs.«01_k».proof.Defs

@[expose] public section

set_option maxRecDepth 16384

noncomputable section

namespace Cert.MixDwIdeal.Mine

open Cert.MixDwIdeal Cert.MixDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 512) (l : Fin 1024) : k0_pay1 (F := Ideal) (ix2 p l) = (0 : EReal) := by
  pointwise [k0_pay1]
theorem pay2 (s : Vec Ideal S512x1024 .f32) (x0 : Vec Ideal S1024x512 .bf16) (x1 : Vec Ideal S1024x1024 .f32) (p : Fin 512) (l : Fin 1024) :
    k0_pay2 (F := Ideal) s x0 x1 (ix2 p l) = s (ix2 p l) + ∑ q : Fin 1024, x0 (ix2 q p) * x1 (ix2 q l) := by
  pointwise [k0_pay2]
theorem pay3 (s : Vec Ideal S512x1024 .f32) (p : Fin 512) (l : Fin 1024) : k0_pay3 (F := Ideal) s (ix2 p l) = s (ix2 p l) := by
  pointwise [k0_pay3]

section Cases

variable (c : Dev nD) (i : grid0.Coords) (arg3 : Memref sig .tc .vmem S1024x512 .bf16) (harg3 : arg3.IsWhole) (arg4 : Memref sig .tc .vmem S1024x1024 .f32) (harg4 : arg4.IsWhole)
  (arg5 : Memref sig .tc .vmem S512x1024 .bf16) (harg5 : arg5.IsWhole) (arg6 : Memref sig .tc .vmem S512x1024 .f32) (harg6 : arg6.IsWhole)
  (x0 : Vec Ideal S1024x512 .bf16) (x1 : Vec Ideal S1024x1024 .f32) (s : Vec Ideal S512x1024 .f32) (p : Fin 512) (l : Fin 1024)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 1024, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 1024, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x512 .bf16 := m (c.tc.loc main_arg0)
abbrev a1 : FVec Ideal S8192x1024 .f32 := m (c.tc.loc main_arg1)

theorem lt_points (t : Fin cfg0.N) : t.val < 8 := Nat.lt_of_lt_of_eq t.isLt N_0
theorem index0 : ∀ t : Fin cfg0.N, win0_0.index t = ![t.val % 8, t.val / 8] := by decide +kernel
theorem index1 : ∀ t : Fin cfg0.N, win0_1.index t = ![t.val % 8, 0] := by decide +kernel
theorem index2 : ∀ t : Fin cfg0.N, win0_2.index t = ![t.val / 8, 0] := by decide +kernel

/-- Row `q` of the arguments' block at point `t`; row `p` and column `l` of the result's. -/
def term (t : Fin cfg0.N) (q : Fin 1024) : Fin 8192 := ⟨1024 * (t.val % 8) + q.val, by omega⟩
def row (t : Fin cfg0.N) (p : Fin 512) : Fin 512 := ⟨512 * (t.val / 8) + p.val, by have := lt_points t; omega⟩
def col (t : Fin cfg0.N) (l : Fin 1024) : Fin 1024 := ⟨1024 * (0) + l.val, by have := lt_points t; omega⟩

abbrev b0 (t : Fin cfg0.N) : Vec Ideal S1024x512 .bf16 := iblk m c 0 t
abbrev b1 (t : Fin cfg0.N) : Vec Ideal S1024x1024 .f32 := iblk m c 1 t

theorem block0 (t : Fin cfg0.N) (q : Fin 1024) (p : Fin 512) : b0 m c t (ix2 q p) = a0 m c (ix2 (term t q) (row t p)) := by
  show V m c main_arg0 _ = _
  rw [V_main_arg0]
  exact congrArg (a0 m c) (at_block (index0 t) 1024 512 q.val p.val rfl rfl rfl rfl)

theorem block1 (t : Fin cfg0.N) (q : Fin 1024) (l : Fin 1024) : b1 m c t (ix2 q l) = a1 m c (ix2 (term t q) (col t l)) := by
  show V m c main_arg1 _ = _
  rw [V_main_arg1]
  exact congrArg (a1 m c) (at_block (index1 t) 1024 1024 q.val l.val rfl rfl rfl rfl)

theorem block2 (t : Fin cfg0.N) (X : FVec Ideal S512x1024 .bf16) (p : Fin 512) (l : Fin 1024) :
    ((cfg0.win 2).blk t).view.read (Elt Ideal) X (ix2 p l) = X (ix2 (row t p) (col t l)) := by
  exact congrArg X (at_block (index2 t) 512 1024 p.val l.val rfl rfl rfl rfl)

/-- What point `n` adds to the scratch. -/
def added (n : ℕ) : Mat 512 1024 := mat fun p l =>
  if h : n < cfg0.N then ∑ q : Fin 1024, a0 m c (ix2 (term ⟨n, h⟩ q) (row ⟨n, h⟩ p)) * a1 m c (ix2 (term ⟨n, h⟩ q) (col ⟨n, h⟩ l)) else 0

theorem added_of_blocks (t : Fin cfg0.N) (p : Fin 512) (l : Fin 1024) :
    (∑ q : Fin 1024, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 8 = 0) (acc : Vec Ideal S512x1024 .f32) (p : Fin 512) (l : Fin 1024) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 8 ≠ 0) (acc : Vec Ideal S512x1024 .f32) (p : Fin 512) (l : Fin 1024) :
    Value.scAt0_0 m c n h acc (ix2 p l) = acc (ix2 p l) + added m c n (ix2 p l) := by
  unfold Value.scAt0_0
  rw [dif_neg hn]
  by_cases h1 : n % 8 = 7
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 8 = 7) (p : Fin 512) (l : Fin 1024) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (8 * (t.val / 8)) 7 (fun h y => ?_) (fun n h acc y h1 h2 => ?_) (t.val % 8) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 1024 8 rfl _ _ fun j hj' => ?_
    have hn : 8 * (t.val / 8) + j < cfg0.N := Nat.lt_of_lt_of_eq (by omega) N_0.symm
    refine (dif_pos hn).trans (Finset.sum_congr rfl fun q _ => ?_)
    have e1 : term ⟨8 * (t.val / 8) + j, hn⟩ q = ⟨1024 * j + q.val, by omega⟩ := Fin.ext (by show 1024 * ((8 * (t.val / 8) + j) % 8) + q.val = 1024 * j + q.val; omega)
    have e2 : ∀ p : Fin 512, row ⟨8 * (t.val / 8) + j, hn⟩ p = row t p := fun p => Fin.ext (by show 512 * ((8 * (t.val / 8) + j) / 8) + p.val = 512 * (t.val / 8) + p.val; omega)
    have e3 : ∀ l : Fin 1024, col ⟨8 * (t.val / 8) + j, hn⟩ l = col t l := fun l => Fin.ext (by show 1024 * (0) + l.val = 1024 * (0) + l.val; omega)
    rw [← e1, ← e2, ← e3]
    rfl

theorem cut_apply (t : Fin cfg0.N) (X : Vec Ideal S512x1024 .bf16) (p : Fin 512) (l : Fin 1024) : (cfg0.win 2).cut (grid0.coords t) X (ix2 p l) = X (ix2 p l) := rfl

/-- The last point of a run copies the scratch out. -/
theorem copied (t : Fin cfg0.N) (ht : t.val % 8 = 7) (p : Fin 512) (l : Fin 1024) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 8 = 7 := (flush0_2 t).mp hf
  rw [Value.flushed2]
  refine Prod.ext (n := 512) (m := 1024) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 512 := (i 0).isLt
  have h1 : (i 1).val < 1024 := (i 1).isLt
  let t : Fin cfg0.N := ⟨8 * ((i 0).val / 512) + 7, Nat.lt_of_lt_of_eq (by omega) N_0.symm⟩
  refine ⟨t, (flush0_2 t).mpr (by show (8 * ((i 0).val / 512) + 7) % 8 = 7; omega), ?_⟩
  have e : t.val / 8 = (i 0).val / 512 := by show (8 * ((i 0).val / 512) + 7) / 8 = _; omega
  show i ∈ ((View.whole main_v0).slice (win0_2.rect t)).set
  rw [View.set_slice_whole, Rect.mem_set_unit]
  exact inside (index2 t) 512 1024 rfl rfl rfl rfl (by show t.val / 8 * 512 ≤ (i 0).val ∧ (i 0).val < t.val / 8 * 512 + 512; omega) (by show 0 * 1024 ≤ (i 1).val ∧ (i 1).val < 0 * 1024 + 1024; omega)

end Cert.MixDwIdeal.Mine

namespace Cert.MixDwRefIdeal.Mine

open Cert.MixDwRefIdeal Cert.MixDwRefIdeal.Gen Idealize.ShloMosaic Idealize.ShloMosaic.TcCoe Idealize.SL.Sem
open Cert.Prod

/-- The reference's result is the product of its arguments. -/
theorem result (x0 : FVec Ideal S8192x512 .bf16) (x1 : FVec Ideal S8192x1024 .f32) : Read.val_main_v4 (F := Ideal) x0 x1 = tn x0 x1 := by
  refine Prod.ext (n := 512) (m := 1024) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.MixDwRefIdeal.Mine

namespace Cert.MixDw.Mine

open Idealize.ShloMosaic Idealize.ShloMosaic.TcCoe Idealize.SL.Sem

/-- From the same arguments, both programs end with the same product. -/
theorem equal : Cert.algebraic_MixDwIdeal_MixDwRefIdeal (hMixDwIdeal := Cert.MixDwIdeal.Gen.facts) (hMixDwRefIdeal := Cert.MixDwRefIdeal.Gen.facts) := by
  intro m ρ m' ρ' _ ha
  refine ⟨fun c => Cert.Prod.tn (Cert.MixDwIdeal.Mine.a0 m c) (Cert.MixDwIdeal.Mine.a1 m c), ?_, ?_⟩
  · exact (θ_run _ _ _).mono (fun r h c => ⟨(h c).1.trans (Cert.MixDwIdeal.Mine.result m c), (h c).2⟩) (Cert.MixDwIdeal.Value.run_blocks (F := Ideal) m ρ)
  · refine (θ_run _ _ _).mono (fun r h c => ⟨(h c).1.trans ?_, (h c).2⟩) (Cert.MixDwRefIdeal.Mine.run m' ρ')
    rw [(ha c).1, (ha c).2]

end Cert.MixDw.Mine

end
-- ==== Proof.StepEq.lean ====
/- The product `Step`: the kernel's result and the reference's are the same matrix product. -/
module

public import proofs.«01_k».proof.Proof.Prod
public import proofs.«01_k».proof.Proof.Gen.Step.Frame
public import proofs.«01_k».proof.Proof.Gen.StepIdeal.Value
public import proofs.«01_k».proof.Proof.Gen.StepRefIdeal.Read
public import proofs.«01_k».proof.Defs

@[expose] public section

set_option maxRecDepth 16384

noncomputable section

namespace Cert.StepIdeal.Mine

open Cert.StepIdeal Cert.StepIdeal.Gen Idealize.ShloMosaic Idealize.ShloMosaic.TcCoe Idealize.SL.Sem
open Cert.Prod

/-- What the body writes, entry by entry. -/
theorem pay (x0 : Vec Ideal S2048x1024 .bf16) (x1 : Vec Ideal S1024x64 .bf16) (p : Fin 2048) (l : Fin 64) :
    k0_pay1 (F := Ideal) x0 x1 (ix2 p l) = ∑ q : Fin 1024, x0 (ix2 p q) * x1 (ix2 q l) := by
  pointwise [k0_pay1]

variable (m : (ℓ : Loc nD τ sig) → Buf (Elt Ideal) ℓ) (c : Dev nD)

abbrev a0 : FVec Ideal S8192x1024 .bf16 := m (c.tc.loc main_arg0)
abbrev a1 : FVec Ideal S1024x64 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 1024) : iblk m c 0 t (ix2 p q) = a0 m c (ix2 (row t p) q) := by
  show V m c main_arg0 _ = _
  rw [V_main_arg0]
  exact congrArg (a0 m c) (at_block (index0 t) 2048 1024 p.val q.val rfl rfl rfl (by omega))

theorem block1 (t : Fin cfg0.N) (q : Fin 1024) (l : Fin 64) : iblk m c 1 t (ix2 q l) = a1 m c (ix2 q l) := by
  show V m c main_arg1 _ = _
  rw [V_main_arg1]
  exact congrArg (a1 m c) (at_block (index1 t) 1024 64 q.val l.val rfl rfl (by omega) (by omega))

theorem block2 (t : Fin cfg0.N) (X : FVec Ideal S8192x64 .f32) (p : Fin 2048) (l : Fin 64) :
    ((cfg0.win 2).blk t).view.read (Elt Ideal) X (ix2 p l) = X (ix2 (row t p) l) := by
  exact congrArg X (at_block (index2 t) 2048 64 p.val l.val rfl rfl rfl (by omega))

/-- What point `t` writes back is its block of the product. -/
theorem written (t : Fin cfg0.N) : (dats m 0 c).flushed 2 t = ((cfg0.win 2).blk t).view.read (Elt Ideal) (nn (a0 m c) (a1 m c)) := by
  rw [Value.flushed2]
  refine Prod.ext (n := 2048) (m := 64) fun p l => ?_
  refine Eq.trans (b := out0_2 (F := Ideal) (iblk m c 0 t) (iblk m c 1 t) (ix2 p l)) rfl ?_
  refine Eq.trans ?_ (block2 t (nn (a0 m c) (a1 m c)) p l).symm
  unfold out0_2
  refine (canon_whole _ _ _ p l).trans ?_
  rw [load_whole, load_whole, nn_ix2, pay]
  exact Finset.sum_congr rfl fun q _ => by rw [block0, block1]

/-- The result array is the product of the arguments. -/
theorem result : (dats m 0 c).arrAt 2 cfg0.N = nn (a0 m c) (a1 m c) := by
  refine (dats m 0 c).arrAt_eq_of_cover 2 _ (fun t _ => written m c t) fun i => ?_
  have h0 : (i 0).val < 8192 := (i 0).isLt
  have h1 : (i 1).val < 64 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 64 rfl rfl rfl rfl (by show (i 0).val / 2048 * 2048 ≤ (i 0).val ∧ (i 0).val < (i 0).val / 2048 * 2048 + 2048; omega) (by show 0 * 64 ≤ (i 1).val ∧ (i 1).val < 0 * 64 + 64; omega)

end Cert.StepIdeal.Mine

namespace Cert.StepRefIdeal.Mine

open Cert.StepRefIdeal Cert.StepRefIdeal.Gen Idealize.ShloMosaic Idealize.ShloMosaic.TcCoe Idealize.SL.Sem
open Cert.Prod

/-- The reference's result is the product of its arguments. -/
theorem result (x0 : FVec Ideal S8192x1024 .bf16) (x1 : FVec Ideal S1024x64 .bf16) : Read.val_main_v2 (F := Ideal) x0 x1 = nn x0 x1 := by
  refine Prod.ext (n := 8192) (m := 64) fun p l => ?_
  rw [nn_ix2]
  pointwise [Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = nn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v2_eq ..)).trans (result _ _), (h c).2⟩) (Value.run (F := Ideal) m ρ)

end Cert.StepRefIdeal.Mine

namespace Cert.Step.Mine

open Idealize.ShloMosaic Idealize.ShloMosaic.TcCoe Idealize.SL.Sem

/-- From the same arguments, both programs end with the same product. -/
theorem equal : Cert.algebraic_StepIdeal_StepRefIdeal (hStepIdeal := Cert.StepIdeal.Gen.facts) (hStepRefIdeal := Cert.StepRefIdeal.Gen.facts) := by
  intro m ρ m' ρ' _ ha
  refine ⟨fun c => Cert.Prod.nn (Cert.StepIdeal.Mine.a0 m c) (Cert.StepIdeal.Mine.a1 m c), ?_, ?_⟩
  · exact (θ_run _ _ _).mono (fun r h c => ⟨(h c).1.trans (Cert.StepIdeal.Mine.result m c), (h c).2⟩) (Cert.StepIdeal.Value.run_blocks (F := Ideal) m ρ)
  · refine (θ_run _ _ _).mono (fun r h c => ⟨(h c).1.trans ?_, (h c).2⟩) (Cert.StepRefIdeal.Mine.run m' ρ')
    rw [(ha c).1, (ha c).2]

end Cert.Step.Mine

end
-- ==== Proof.StepDaEq.lean ====
/- The product `StepDa`: the kernel's result and the reference's are the same matrix product. -/
module

public import proofs.«01_k».proof.Proof.Prod
public import proofs.«01_k».proof.Proof.Gen.StepDa.Frame
public import proofs.«01_k».proof.Proof.Gen.StepDaIdeal.Value
public import proofs.«01_k».proof.Proof.Gen.StepDaRefIdeal.Read
public import proofs.«01_k».proof.Defs

@[expose] public section

set_option maxRecDepth 16384

noncomputable section

namespace Cert.StepDaIdeal.Mine

open Cert.StepDaIdeal Cert.StepDaIdeal.Gen Idealize.ShloMosaic Idealize.ShloMosaic.TcCoe Idealize.SL.Sem
open Cert.Prod

/-- What the body writes, entry by entry. -/
theorem pay (x0 : Vec Ideal S2048x64 .f32) (x1 : Vec Ideal S1024x64 .bf16) (p : Fin 2048) (l : Fin 1024) :
    k0_pay1 (F := Ideal) x0 x1 (ix2 p l) = ∑ q : Fin 64, x0 (ix2 p q) * x1 (ix2 l q) := by
  pointwise [k0_pay1]

variable (m : (ℓ : Loc nD τ sig) → Buf (Elt Ideal) ℓ) (c : Dev nD)

abbrev a0 : FVec Ideal S8192x64 .f32 := m (c.tc.loc main_arg0)
abbrev a1 : FVec Ideal S1024x64 .bf16 := m (c.tc.loc main_arg1)

theorem lt_points (t : Fin cfg0.N) : t.val < 4 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 2048) : Fin 8192 := ⟨2048 * t.val + p.val, by have := lt_points t; omega⟩

theorem block0 (t : Fin cfg0.N) (p : Fin 2048) (q : Fin 64) : iblk m c 0 t (ix2 p q) = a0 m c (ix2 (row t p) q) := by
  show V m c main_arg0 _ = _
  rw [V_main_arg0]
  exact congrArg (a0 m c) (at_block (index0 t) 2048 64 p.val q.val rfl rfl rfl (by omega))

theorem block1 (t : Fin cfg0.N) (q : Fin 64) (l : Fin 1024) : iblk m c 1 t (ix2 l q) = a1 m c (ix2 l q) := by
  show V m c main_arg1 _ = _
  rw [V_main_arg1]
  exact congrArg (a1 m c) (at_block (index1 t) 1024 64 l.val q.val rfl rfl (by omega) (by omega))

theorem block2 (t : Fin cfg0.N) (X : FVec Ideal S8192x1024 .bf16) (p : Fin 2048) (l : Fin 1024) :
    ((cfg0.win 2).blk t).view.read (Elt Ideal) X (ix2 p l) = X (ix2 (row t p) l) := by
  exact congrArg X (at_block (index2 t) 2048 1024 p.val l.val rfl rfl rfl (by omega))

/-- What point `t` writes back is its block of the product. -/
theorem written (t : Fin cfg0.N) : (dats m 0 c).flushed 2 t = ((cfg0.win 2).blk t).view.read (Elt Ideal) (nt (a0 m c) (a1 m c)) := by
  rw [Value.flushed2]
  refine Prod.ext (n := 2048) (m := 1024) fun p l => ?_
  refine Eq.trans (b := out0_2 (F := Ideal) (iblk m c 0 t) (iblk m c 1 t) (ix2 p l)) rfl ?_
  refine Eq.trans ?_ (block2 t (nt (a0 m c) (a1 m c)) p l).symm
  unfold out0_2
  refine (canon_whole _ _ _ p l).trans ?_
  rw [load_whole, load_whole, nt_ix2, pay]
  exact Finset.sum_congr rfl fun q _ => by rw [block0, block1]

/-- The result array is the product of the arguments. -/
theorem result : (dats m 0 c).arrAt 2 cfg0.N = nt (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 2048, Nat.lt_of_lt_of_eq (by omega) N_0.symm⟩
  refine ⟨t, flush0_2 t, ?_⟩
  show i ∈ ((View.whole main_v0).slice (win0_2.rect t)).set
  rw [View.set_slice_whole, Rect.mem_set_unit]
  exact inside (index2 t) 2048 1024 rfl rfl rfl rfl (by show (i 0).val / 2048 * 2048 ≤ (i 0).val ∧ (i 0).val < (i 0).val / 2048 * 2048 + 2048; omega) (by show 0 * 1024 ≤ (i 1).val ∧ (i 1).val < 0 * 1024 + 1024; omega)

end Cert.StepDaIdeal.Mine

namespace Cert.StepDaRefIdeal.Mine

open Cert.StepDaRefIdeal Cert.StepDaRefIdeal.Gen Idealize.ShloMosaic Idealize.ShloMosaic.TcCoe Idealize.SL.Sem
open Cert.Prod

/-- The reference's result is the product of its arguments. -/
theorem result (x0 : FVec Ideal S8192x64 .f32) (x1 : FVec Ideal S1024x64 .bf16) : Read.val_main_v3 (F := Ideal) x0 x1 = nt x0 x1 := by
  refine Prod.ext (n := 8192) (m := 1024) fun p l => ?_
  rw [nt_ix2]
  pointwise [Read.val_main_v3, Read.val_main_v2, Read.val_main_v1, Read.val_main_v0]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = nt (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v3_eq ..)).trans (result _ _), (h c).2⟩) (Value.run (F := Ideal) m ρ)

end Cert.StepDaRefIdeal.Mine

namespace Cert.StepDa.Mine

open Idealize.ShloMosaic Idealize.ShloMosaic.TcCoe Idealize.SL.Sem

/-- From the same arguments, both programs end with the same product. -/
theorem equal : Cert.algebraic_StepDaIdeal_StepDaRefIdeal (hStepDaIdeal := Cert.StepDaIdeal.Gen.facts) (hStepDaRefIdeal := Cert.StepDaRefIdeal.Gen.facts) := by
  intro m ρ m' ρ' _ ha
  refine ⟨fun c => Cert.Prod.nt (Cert.StepDaIdeal.Mine.a0 m c) (Cert.StepDaIdeal.Mine.a1 m c), ?_, ?_⟩
  · exact (θ_run _ _ _).mono (fun r h c => ⟨(h c).1.trans (Cert.StepDaIdeal.Mine.result m c), (h c).2⟩) (Cert.StepDaIdeal.Value.run_blocks (F := Ideal) m ρ)
  · refine (θ_run _ _ _).mono (fun r h c => ⟨(h c).1.trans ?_, (h c).2⟩) (Cert.StepDaRefIdeal.Mine.run m' ρ')
    rw [(ha c).1, (ha c).2]

end Cert.StepDa.Mine

end
-- ==== Proof.StepDwEq.lean ====
/- The product `StepDw`: the kernel's accumulated result and the reference's are the same matrix product. -/
module

public import proofs.«01_k».proof.Proof.Prod
public import proofs.«01_k».proof.Proof.Gen.StepDw.Frame
public import proofs.«01_k».proof.Proof.Gen.StepDwIdeal.Value
public import proofs.«01_k».proof.Proof.Gen.StepDwRefIdeal.Read
public import proofs.«01_k».proof.Defs

@[expose] public section

set_option maxRecDepth 16384

noncomputable section

namespace Cert.StepDwIdeal.Mine

open Cert.StepDwIdeal Cert.StepDwIdeal.Gen Idealize.ShloMosaic Idealize.ShloMosaic.TcCoe Idealize.SL.Sem
open Cert.Prod

/-- What the body writes into the scratch, entry by entry: zero at the first point of a run, then a block's product added;
    and what it copies out at the last. -/
theorem pay1 (p : Fin 1024) (l : Fin 64) : k0_pay1 (F := Ideal) (ix2 p l) = (0 : EReal) := by
  pointwise [k0_pay1]
theorem pay2 (s : Vec Ideal S1024x64 .f32) (x0 : Vec Ideal S2048x1024 .bf16) (x1 : Vec Ideal S2048x64 .f32) (p : Fin 1024) (l : Fin 64) :
    k0_pay2 (F := Ideal) s x0 x1 (ix2 p l) = s (ix2 p l) + ∑ q : Fin 2048, x0 (ix2 q p) * x1 (ix2 q l) := by
  pointwise [k0_pay2]
theorem pay3 (s : Vec Ideal S1024x64 .f32) (p : Fin 1024) (l : Fin 64) : k0_pay3 (F := Ideal) s (ix2 p l) = s (ix2 p l) := by
  pointwise [k0_pay3]

section Cases

variable (c : Dev nD) (i : grid0.Coords) (arg3 : Memref sig .tc .vmem S2048x1024 .bf16) (harg3 : arg3.IsWhole) (arg4 : Memref sig .tc .vmem S2048x64 .f32) (harg4 : arg4.IsWhole)
  (arg5 : Memref sig .tc .vmem S1024x64 .bf16) (harg5 : arg5.IsWhole) (arg6 : Memref sig .tc .vmem S1024x64 .f32) (harg6 : arg6.IsWhole)
  (x0 : Vec Ideal S2048x1024 .bf16) (x1 : Vec Ideal S2048x64 .f32) (s : Vec Ideal S1024x64 .f32) (p : Fin 1024) (l : Fin 64)

theorem caseA (hc0 : cond0_0 i) (hc1 : ¬cond0_1 i) :
    sout0_A_0 (F := Ideal) c i arg3 harg3 arg4 harg4 arg5 harg5 arg6 harg6 hc0 hc1 x0 x1 (ix2 p l) = 0 + ∑ q : Fin 2048, x0 (ix2 q p) * x1 (ix2 q l) := by
  unfold sout0_A_0
  rw [View.read_writes_junk_eq_canon]
  unfold kernelRun0_A
  refine (canon_whole _ _ _ p l).trans ?_
  rw [pay2, load_buffer, load_buffer]
  unfold kernelRun0_A.sl.v3
  rw [load_written]
  unfold kernelRun0_A.sl.HS0_1
  rw [canon_whole, pay1]

theorem caseB (hc0 : ¬cond0_0 i) (hc1 : ¬cond0_1 i) :
    sout0_B_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_B_0
  rw [View.read_writes_junk_eq_canon]
  unfold kernelRun0_B
  refine (canon_whole _ _ _ p l).trans ?_
  rw [pay2, load_buffer, load_buffer, load_buffer]

theorem caseC (hc0 : ¬cond0_0 i) (hc1 : cond0_1 i) :
    sout0_C_0 (F := Ideal) c i arg3 harg3 arg4 harg4 arg5 harg5 arg6 harg6 hc0 hc1 x0 x1 s (ix2 p l) = s (ix2 p l) + ∑ q : Fin 2048, x0 (ix2 q p) * x1 (ix2 q l) := by
  unfold sout0_C_0
  rw [View.read_writes_junk_eq_canon]
  unfold kernelRun0_C
  refine (canon_whole _ _ _ p l).trans ?_
  rw [pay2, load_buffer, load_buffer, load_buffer]

theorem caseC_out (hc0 : ¬cond0_0 i) (hc1 : cond0_1 i) :
    out0_C_2 (F := Ideal) c i arg3 harg3 arg4 harg4 arg5 harg5 arg6 harg6 hc0 hc1 x0 x1 s (ix2 p l) = sout0_C_0 (F := Ideal) c i arg3 harg3 arg4 harg4 arg5 harg5 arg6 harg6 hc0 hc1 x0 x1 s (ix2 p l) := by
  rw [caseC]
  unfold out0_C_2
  rw [View.read_writes_junk_eq_canon]
  unfold kernelRun0_C
  refine (canon_whole _ _ _ p l).trans ?_
  rw [pay3]
  unfold kernelRun0_C.sl.v15
  rw [load_written]
  unfold kernelRun0_C.sl.HS0_1
  rw [canon_whole, pay2, load_buffer, load_buffer, load_buffer]

end Cases

variable (m : (ℓ : Loc nD τ sig) → Buf (Elt Ideal) ℓ) (c : Dev nD)

abbrev a0 : FVec Ideal S8192x1024 .bf16 := m (c.tc.loc main_arg0)
abbrev a1 : FVec Ideal S8192x64 .f32 := m (c.tc.loc main_arg1)

theorem lt_points (t : Fin cfg0.N) : t.val < 4 := Nat.lt_of_lt_of_eq t.isLt N_0
theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![t.val / 4, 0] := by decide +kernel

/-- Row `q` of the arguments' block at point `t`; row `p` and column `l` of the result's. -/
def term (t : Fin cfg0.N) (q : Fin 2048) : Fin 8192 := ⟨2048 * (t.val % 4) + q.val, by omega⟩
def row (t : Fin cfg0.N) (p : Fin 1024) : Fin 1024 := ⟨1024 * (t.val / 4) + p.val, by have := lt_points t; omega⟩
def col (t : Fin cfg0.N) (l : Fin 64) : Fin 64 := ⟨64 * (0) + l.val, by have := lt_points t; omega⟩

abbrev b0 (t : Fin cfg0.N) : Vec Ideal S2048x1024 .bf16 := iblk m c 0 t
abbrev b1 (t : Fin cfg0.N) : Vec Ideal S2048x64 .f32 := iblk m c 1 t

theorem block0 (t : Fin cfg0.N) (q : Fin 2048) (p : Fin 1024) : b0 m c t (ix2 q p) = a0 m c (ix2 (term t q) (row t p)) := by
  show V m c main_arg0 _ = _
  rw [V_main_arg0]
  exact congrArg (a0 m c) (at_block (index0 t) 2048 1024 q.val p.val rfl rfl rfl rfl)

theorem block1 (t : Fin cfg0.N) (q : Fin 2048) (l : Fin 64) : b1 m c t (ix2 q l) = a1 m c (ix2 (term t q) (col t l)) := by
  show V m c main_arg1 _ = _
  rw [V_main_arg1]
  exact congrArg (a1 m c) (at_block (index1 t) 2048 64 q.val l.val rfl rfl rfl rfl)

theorem block2 (t : Fin cfg0.N) (X : FVec Ideal S1024x64 .bf16) (p : Fin 1024) (l : Fin 64) :
    ((cfg0.win 2).blk t).view.read (Elt Ideal) X (ix2 p l) = X (ix2 (row t p) (col t l)) := by
  exact congrArg X (at_block (index2 t) 1024 64 p.val l.val rfl rfl rfl rfl)

/-- What point `n` adds to the scratch. -/
def added (n : ℕ) : Mat 1024 64 := mat fun p l =>
  if h : n < cfg0.N then ∑ q : Fin 2048, a0 m c (ix2 (term ⟨n, h⟩ q) (row ⟨n, h⟩ p)) * a1 m c (ix2 (term ⟨n, h⟩ q) (col ⟨n, h⟩ l)) else 0

theorem added_of_blocks (t : Fin cfg0.N) (p : Fin 1024) (l : Fin 64) :
    (∑ q : Fin 2048, b0 m c t (ix2 q p) * b1 m c t (ix2 q l) : EReal) = added m c t.val (ix2 p l) := by
  refine Eq.trans ?_ (dif_pos t.isLt).symm
  exact Finset.sum_congr rfl fun q _ => by rw [block0, block1]; rfl

/-- The first point of a run starts from zero. -/
theorem first (n : ℕ) (h : n < cfg0.N) (hn : n % 4 = 0) (acc : Vec Ideal S1024x64 .f32) (p : Fin 1024) (l : Fin 64) :
    Value.scAt0_0 m c n h acc (ix2 p l) = 0 + added m c n (ix2 p l) := by
  unfold Value.scAt0_0
  rw [dif_pos hn, dif_neg (by omega), caseA]
  exact congrArg (fun z : EReal => 0 + z) (added_of_blocks m c ⟨n, h⟩ p l)

/-- Every later point adds to what the point before left. -/
theorem later (n : ℕ) (h : n < cfg0.N) (hn : n % 4 ≠ 0) (acc : Vec Ideal S1024x64 .f32) (p : Fin 1024) (l : Fin 64) :
    Value.scAt0_0 m c n h acc (ix2 p l) = acc (ix2 p l) + added m c n (ix2 p l) := by
  unfold Value.scAt0_0
  rw [dif_neg hn]
  by_cases h1 : n % 4 = 3
  · rw [dif_pos h1, caseC]
    exact congrArg (fun z : EReal => acc (ix2 p l) + z) (added_of_blocks m c ⟨n, h⟩ p l)
  · rw [dif_neg h1, caseB]
    exact congrArg (fun z : EReal => acc (ix2 p l) + z) (added_of_blocks m c ⟨n, h⟩ p l)

/-- The scratch after the last point of a run: the sum over the whole contracted axis. -/
theorem scratch (t : Fin cfg0.N) (ht : t.val % 4 = 3) (p : Fin 1024) (l : Fin 64) :
    (outsAt0 m c t.val t.isLt).2 (ix2 p l) = ∑ q : Fin 8192, a0 m c (ix2 q (row t p)) * a1 m c (ix2 q (col t l)) := by
  have hl := lt_points t
  rw [Value.soutsAt0_0_eq]
  refine (Pipeline.accAt_add_apply (N := cfg0.N) _ _ (fun _ => (0 : EReal)) (added m c) (4 * (t.val / 4)) 3 (fun h y => ?_) (fun n h acc y h1 h2 => ?_) (t.val % 4) (by omega) _ (ix2 p l)).trans ?_
  · rw [ValueIdx.eq_ix2 y]
    exact first m c _ h (by omega) _ _ _
  · rw [ValueIdx.eq_ix2 y]
    exact later m c _ h (by omega) _ _ _
  · rw [zero_add, ht]
    refine sum_pieces 2048 4 rfl _ _ fun j hj' => ?_
    have hn : 4 * (t.val / 4) + j < cfg0.N := Nat.lt_of_lt_of_eq (by omega) N_0.symm
    refine (dif_pos hn).trans (Finset.sum_congr rfl fun q _ => ?_)
    have e1 : term ⟨4 * (t.val / 4) + j, hn⟩ q = ⟨2048 * j + q.val, by omega⟩ := Fin.ext (by show 2048 * ((4 * (t.val / 4) + j) % 4) + q.val = 2048 * j + q.val; omega)
    have e2 : ∀ p : Fin 1024, row ⟨4 * (t.val / 4) + j, hn⟩ p = row t p := fun p => Fin.ext (by show 1024 * ((4 * (t.val / 4) + j) / 4) + p.val = 1024 * (t.val / 4) + p.val; omega)
    have e3 : ∀ l : Fin 64, col ⟨4 * (t.val / 4) + j, hn⟩ l = col t l := fun l => Fin.ext (by show 64 * (0) + l.val = 64 * (0) + l.val; omega)
    rw [← e1, ← e2, ← e3]
    rfl

theorem cut_apply (t : Fin cfg0.N) (X : Vec Ideal S1024x64 .bf16) (p : Fin 1024) (l : Fin 64) : (cfg0.win 2).cut (grid0.coords t) X (ix2 p l) = X (ix2 p l) := rfl

/-- The last point of a run copies the scratch out. -/
theorem copied (t : Fin cfg0.N) (ht : t.val % 4 = 3) (p : Fin 1024) (l : Fin 64) :
    (outsAt0 m c t.val t.isLt).1 (ix2 p l) = (outsAt0 m c t.val t.isLt).2 (ix2 p l) := by
  rw [outsAt0_C m c t (by omega) ht]
  dsimp only
  exact caseC_out c (grid0.coords t) (ms0_0 t) (hs0_0 t) (ms0_1 t) (hs0_1 t) (ms0_2 t) (hs0_2 t) scM0_0 (Memref.isWhole_whole _) (b0 m c t) (b1 m c t) _ p l _ _

/-- What a run's last point writes back is its block of the product. -/
theorem written (t : Fin cfg0.N) (hf : (cfg0.win 2).flush t = true) : (dats m 0 c).flushed 2 t = ((cfg0.win 2).blk t).view.read (Elt Ideal) (tn (a0 m c) (a1 m c)) := by
  have ht : t.val % 4 = 3 := (flush0_2 t).mp hf
  rw [Value.flushed2]
  refine Prod.ext (n := 1024) (m := 64) fun p l => ?_
  refine (cut_apply t _ p l).trans (Eq.trans ?_ (block2 t (tn (a0 m c) (a1 m c)) p l).symm)
  rw [tn_ix2, copied m c t ht, scratch m c t ht]

/-- The result array is the product of the arguments. -/
theorem result : (dats m 0 c).arrAt 2 cfg0.N = tn (a0 m c) (a1 m c) := by
  refine (dats m 0 c).arrAt_eq_of_cover 2 _ (fun t hf => written m c t hf) fun i => ?_
  have h0 : (i 0).val < 1024 := (i 0).isLt
  have h1 : (i 1).val < 64 := (i 1).isLt
  let t : Fin cfg0.N := ⟨4 * ((i 0).val / 1024) + 3, Nat.lt_of_lt_of_eq (by omega) N_0.symm⟩
  refine ⟨t, (flush0_2 t).mpr (by show (4 * ((i 0).val / 1024) + 3) % 4 = 3; omega), ?_⟩
  have e : t.val / 4 = (i 0).val / 1024 := by show (4 * ((i 0).val / 1024) + 3) / 4 = _; omega
  show i ∈ ((View.whole main_v0).slice (win0_2.rect t)).set
  rw [View.set_slice_whole, Rect.mem_set_unit]
  exact inside (index2 t) 1024 64 rfl rfl rfl rfl (by show t.val / 4 * 1024 ≤ (i 0).val ∧ (i 0).val < t.val / 4 * 1024 + 1024; omega) (by show 0 * 64 ≤ (i 1).val ∧ (i 1).val < 0 * 64 + 64; omega)

end Cert.StepDwIdeal.Mine

namespace Cert.StepDwRefIdeal.Mine

open Cert.StepDwRefIdeal Cert.StepDwRefIdeal.Gen Idealize.ShloMosaic Idealize.ShloMosaic.TcCoe Idealize.SL.Sem
open Cert.Prod

/-- The reference's result is the product of its arguments. -/
theorem result (x0 : FVec Ideal S8192x1024 .bf16) (x1 : FVec Ideal S8192x64 .f32) : Read.val_main_v4 (F := Ideal) x0 x1 = tn x0 x1 := by
  refine Prod.ext (n := 1024) (m := 64) fun p l => ?_
  rw [tn_ix2]
  pointwise [Read.val_main_v4, Read.val_main_v3, Read.val_main_v2, Read.val_main_v1, Read.val_main_v0]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = tn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v4_eq ..)).trans (result _ _), (h c).2⟩) (Value.run (F := Ideal) m ρ)

end Cert.StepDwRefIdeal.Mine

namespace Cert.StepDw.Mine

open Idealize.ShloMosaic Idealize.ShloMosaic.TcCoe Idealize.SL.Sem

/-- From the same arguments, both programs end with the same product. -/
theorem equal : Cert.algebraic_StepDwIdeal_StepDwRefIdeal (hStepDwIdeal := Cert.StepDwIdeal.Gen.facts) (hStepDwRefIdeal := Cert.StepDwRefIdeal.Gen.facts) := by
  intro m ρ m' ρ' _ ha
  refine ⟨fun c => Cert.Prod.tn (Cert.StepDwIdeal.Mine.a0 m c) (Cert.StepDwIdeal.Mine.a1 m c), ?_, ?_⟩
  · exact (θ_run _ _ _).mono (fun r h c => ⟨(h c).1.trans (Cert.StepDwIdeal.Mine.result m c), (h c).2⟩) (Cert.StepDwIdeal.Value.run_blocks (F := Ideal) m ρ)
  · refine (θ_run _ _ _).mono (fun r h c => ⟨(h c).1.trans ?_, (h c).2⟩) (Cert.StepDwRefIdeal.Mine.run m' ρ')
    rw [(ha c).1, (ha c).2]

end Cert.StepDw.Mine

end
-- ==== Proof.PairEq.lean ====
/- The call `Pair`: the product of the two halves side by side with the whole weight, by the kernel and by the reference. -/
module

public import proofs.«01_k».proof.Proof.Prod
public import proofs.«01_k».proof.Proof.Gen.Pair.Frame
public import proofs.«01_k».proof.Proof.Gen.PairIdeal.Value
public import proofs.«01_k».proof.Proof.Gen.PairRefIdeal.Read
public import proofs.«01_k».proof.Defs

@[expose] public section

set_option maxRecDepth 16384

noncomputable section

namespace Cert.PairIdeal.Mine

open Cert.PairIdeal Cert.PairIdeal.Gen Idealize.ShloMosaic Idealize.ShloMosaic.TcCoe Idealize.SL.Sem
open Cert.Prod

/-- Row `q` of the weight's upper and of its lower half. -/
def upper (q : Fin 512) : Fin 1024 := ⟨q.val, by omega⟩
def lower (q : Fin 512) : Fin 1024 := ⟨512 + q.val, by omega⟩

/-- The result: the product of the two halves side by side with the whole weight. -/
def paired (a b : Mat 8192 512) (w : Mat 1024 1024) : Mat 8192 1024 := mat fun p l => ∑ q : Fin 512, a (ix2 p q) * w (ix2 (upper q) l) + ∑ q : Fin 512, b (ix2 p q) * w (ix2 (lower q) l)

/-- What the body writes, entry by entry. -/
theorem pay (x0 : Vec Ideal S1024x512 .bf16) (x1 : Vec Ideal S512x1024 .bf16) (x2 : Vec Ideal S1024x512 .bf16) (x3 : Vec Ideal S512x1024 .bf16) (p : Fin 1024) (l : Fin 1024) :
    k0_pay1 (F := Ideal) x0 x1 x2 x3 (ix2 p l) = ∑ q : Fin 512, x0 (ix2 p q) * x1 (ix2 q l) + ∑ q : Fin 512, x2 (ix2 p q) * x3 (ix2 q l) := by
  pointwise [k0_pay1]

variable (m : (ℓ : Loc nD τ sig) → Buf (Elt Ideal) ℓ) (c : Dev nD)

abbrev a0 : FVec Ideal S8192x512 .bf16 := m (c.tc.loc main_arg0)
abbrev a1 : FVec Ideal S8192x512 .bf16 := m (c.tc.loc main_arg1)
abbrev a2 : FVec Ideal S1024x1024 .bf16 := m (c.tc.loc main_arg2)

theorem at_main_v0 : V m c main_v0 = extractStridedSlice S512x1024 ![0, 0] (a2 m c) slices_S1024x1024_S512x1024_0_0 := by
  show StableHlo.after hostOps0 _ (Proc.devRef .tc main_v0) = _
  after_results
theorem at_main_v1 : V m c main_v1 = extractStridedSlice S512x1024 ![512, 0] (a2 m c) slices_S1024x1024_S512x1024_512_0 := by
  show StableHlo.after hostOps0 _ (Proc.devRef .tc main_v1) = _
  after_results

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 512) : iblk m c 0 t (ix2 p q) = a0 m c (ix2 (row t p) q) := by
  show V m c main_arg0 _ = _
  rw [V_main_arg0]
  exact congrArg (a0 m c) (at_block (index0 t) 1024 512 p.val q.val rfl rfl rfl (by omega))

theorem block1 (t : Fin cfg0.N) (q : Fin 512) (l : Fin 1024) : iblk m c 1 t (ix2 q l) = a2 m c (ix2 (upper q) l) := by
  show V m c main_v0 _ = _
  rw [at_main_v0]
  refine Eq.trans (b := (extractStridedSlice S512x1024 ![0, 0] (a2 m c) slices_S1024x1024_S512x1024_0_0 : FVec Ideal S512x1024 .bf16) (ix2 q l)) ?_ ?_
  · show (extractStridedSlice S512x1024 ![0, 0] (a2 m c) slices_S1024x1024_S512x1024_0_0 : FVec Ideal S512x1024 .bf16) _ = (extractStridedSlice S512x1024 ![0, 0] (a2 m c) slices_S1024x1024_S512x1024_0_0 : FVec Ideal S512x1024 .bf16) _
    congr 1
    exact at_block (index1 t) 512 1024 q.val l.val rfl rfl (by omega) (by omega)
  · pointwise []
    rfl

theorem block2 (t : Fin cfg0.N) (p : Fin 1024) (q : Fin 512) : iblk m c 2 t (ix2 p q) = a1 m c (ix2 (row t p) q) := by
  show V m c main_arg1 _ = _
  rw [V_main_arg1]
  exact congrArg (a1 m c) (at_block (index2 t) 1024 512 p.val q.val rfl rfl rfl (by omega))

theorem block3 (t : Fin cfg0.N) (q : Fin 512) (l : Fin 1024) : iblk m c 3 t (ix2 q l) = a2 m c (ix2 (lower q) l) := by
  show V m c main_v1 _ = _
  rw [at_main_v1]
  refine Eq.trans (b := (extractStridedSlice S512x1024 ![512, 0] (a2 m c) slices_S1024x1024_S512x1024_512_0 : FVec Ideal S512x1024 .bf16) (ix2 q l)) ?_ ?_
  · show (extractStridedSlice S512x1024 ![512, 0] (a2 m c) slices_S1024x1024_S512x1024_512_0 : FVec Ideal S512x1024 .bf16) _ = (extractStridedSlice S512x1024 ![512, 0] (a2 m c) slices_S1024x1024_S512x1024_512_0 : FVec Ideal S512x1024 .bf16) _
    congr 1
    exact at_block (index3 t) 512 1024 q.val l.val rfl rfl (by omega) (by omega)
  · pointwise []
    rfl

theorem block4 (t : Fin cfg0.N) (X : FVec Ideal S8192x1024 .f32) (p : Fin 1024) (l : Fin 1024) :
    ((cfg0.win 4).blk t).view.read (Elt Ideal) X (ix2 p l) = X (ix2 (row t p) l) := by
  exact congrArg X (at_block (index4 t) 1024 1024 p.val l.val rfl rfl rfl (by omega))

/-- What point `t` writes back is its rows of the result. -/
theorem written (t : Fin cfg0.N) : (dats m 0 c).flushed 4 t = ((cfg0.win 4).blk t).view.read (Elt Ideal) (paired (a0 m c) (a1 m c) (a2 m c)) := by
  rw [Value.flushed4]
  refine Prod.ext (n := 1024) (m := 1024) fun p l => ?_
  refine Eq.trans (b := out0_4 (F := Ideal) (iblk m c 0 t) (iblk m c 1 t) (iblk m c 2 t) (iblk m c 3 t) (ix2 p l)) rfl ?_
  refine Eq.trans ?_ (block4 t (paired (a0 m c) (a1 m c) (a2 m c)) p l).symm
  unfold out0_4
  refine (canon_whole _ _ _ p l).trans ?_
  rw [load_whole, load_whole, load_whole, load_whole]
  rw [pay]
  simp only [block0, block1, block2, block3]
  rfl

/-- The result array. -/
theorem result : (dats m 0 c).arrAt 4 cfg0.N = paired (a0 m c) (a1 m c) (a2 m c) := by
  refine (dats m 0 c).arrAt_eq_of_cover 4 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_4 t, ?_⟩
  show i ∈ ((View.whole main_v2).slice (win0_4.rect t)).set
  rw [View.set_slice_whole, Rect.mem_set_unit]
  exact inside (index4 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.PairIdeal.Mine

namespace Cert.PairRefIdeal.Mine

open Cert.PairRefIdeal Cert.PairRefIdeal.Gen Idealize.ShloMosaic Idealize.ShloMosaic.TcCoe Idealize.SL.Sem
open Cert.Prod

/-- The reference's result is the same function of its arguments. -/
theorem result (x0 : FVec Ideal S8192x512 .bf16) (x1 : FVec Ideal S8192x512 .bf16) (x2 : FVec Ideal S1024x1024 .bf16) : Read.val_main_v3 (F := Ideal) x0 x1 x2 = Cert.PairIdeal.Mine.paired x0 x1 x2 := by
  refine Prod.ext (n := 8192) (m := 1024) fun p l => ?_
  refine Eq.trans ?_ (mat_ix2 _ p l).symm
  pointwise [Read.val_main_v3, Read.val_main_v2, Read.val_main_v1, Read.val_main_v0]
  rfl

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.PairIdeal.Mine.paired (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h c).1.trans (Read.val_main_v3_eq ..)).trans (result _ _ _), (h c).2⟩) (Value.run (F := Ideal) m ρ)

end Cert.PairRefIdeal.Mine

namespace Cert.Pair.Mine

open Idealize.ShloMosaic Idealize.ShloMosaic.TcCoe Idealize.SL.Sem

/-- From the same arguments, both programs end with the same result. -/
theorem equal : Cert.algebraic_PairIdeal_PairRefIdeal (hPairIdeal := Cert.PairIdeal.Gen.facts) (hPairRefIdeal := Cert.PairRefIdeal.Gen.facts) := by
  intro m ρ m' ρ' _ ha
  refine ⟨fun c => Cert.PairIdeal.Mine.paired (Cert.PairIdeal.Mine.a0 m c) (Cert.PairIdeal.Mine.a1 m c) (Cert.PairIdeal.Mine.a2 m c), ?_, ?_⟩
  · exact (θ_run _ _ _).mono (fun r h c => ⟨(h c).1.trans (Cert.PairIdeal.Mine.result m c), (h c).2⟩) (Cert.PairIdeal.Value.run_blocks (F := Ideal) m ρ)
  · refine (θ_run _ _ _).mono (fun r h c => ⟨(h c).1.trans ?_, (h c).2⟩) (Cert.PairRefIdeal.Mine.run m' ρ')
    rw [(ha c).1, (ha c).2.1, (ha c).2.2]

end Cert.Pair.Mine

end
-- ==== Proof.LossEq.lean ====
/- The call `Loss`: half the sum of the rows' mean squares, by the kernel, which adds one block of rows a grid point and reads the
   sum off the accumulated block after the run, and by the reference. -/
module

public import proofs.«01_k».proof.Proof.Prod
public import proofs.«01_k».proof.Proof.Gen.Loss.Frame
public import proofs.«01_k».proof.Proof.Gen.LossIdeal.Frame
public import proofs.«01_k».proof.Proof.Gen.LossRefIdeal.Read
public import proofs.«01_k».proof.Defs

@[expose] public section

set_option maxRecDepth 16384

noncomputable section

namespace Cert.LossIdeal.Mine

open Cert.LossIdeal Cert.LossIdeal.Gen Idealize.ShloMosaic Idealize.ShloMosaic.TcCoe Idealize.SL.Sem
open Cert.Prod

/-- A row's mean square. -/
def mean (y t : Mat 8192 1024) (p : Fin 8192) : EReal :=
  Ideal.div (∑ q : Fin 1024, (y (ix2 p q) - t (ix2 p q)) * (y (ix2 p q) - t (ix2 p q))) (Ideal.ofBits FTy.f32 0x44800000#32)

/-- The result: half the sum of the rows' mean squares. -/
def loss (y t : Mat 8192 1024) : EReal := Ideal.ofBits FTy.f32 0x3F000000#32 * ∑ p : Fin 8192, mean y t p

theorem half_real : Ideal.ofBits FTy.f32 0x3F000000#32 = ((1 / 2 : ℝ) : EReal) := by
  simp [Ideal.ofBits, Ideal.ieee, -EReal.coe_mul]; norm_num

/-- Halving distributes over a sum of extended reals. -/
theorem half_sum {ι : Type} (s : Finset ι) (f : ι → EReal) :
    (∑ j ∈ s, Ideal.ofBits FTy.f32 0x3F000000#32 * f j) = Ideal.ofBits FTy.f32 0x3F000000#32 * ∑ j ∈ s, f j := by
  classical
  rw [half_real]
  induction s using Finset.induction_on with
  | empty => simp
  | insert a s ha ih =>
    rw [Finset.sum_insert ha, Finset.sum_insert ha, ih]
    exact (EReal.left_distrib_of_nonneg_of_ne_top (by exact_mod_cast (by norm_num : (0 : ℝ) ≤ 1 / 2)) (EReal.coe_ne_top _) _ _).symm

/-- What the body writes, entry by entry: zero at the first point, then half a block's sum added. -/
theorem pay1 (p : Fin 8) (l : Fin 128) : k0_pay1 (F := Ideal) (ix2 p l) = (0 : EReal) := by
  pointwise [k0_pay1]
theorem pay2 (x0 x1 : Vec Ideal S1024x1024 .f32) (s : Vec Ideal S8x128 .f32) (p : Fin 8) (l : Fin 128) :
    k0_pay2 (F := Ideal) x0 x1 s (ix2 p l) = s (ix2 p l) + Ideal.ofBits FTy.f32 0x3F000000#32 * ∑ r : Fin 1024,
      Ideal.div (∑ q : Fin 1024, (x0 (ix2 r q) - x1 (ix2 r q)) * (x0 (ix2 r q) - x1 (ix2 r q))) (Ideal.ofBits FTy.f32 0x44800000#32) := by
  pointwise [k0_pay2]
  simp

section Cases

variable (c : Dev nD) (i : grid0.Coords) (arg1 : Memref sig .tc .vmem S1024x1024 .f32) (harg1 : arg1.IsWhole) (arg2 : Memref sig .tc .vmem S1024x1024 .f32) (harg2 : arg2.IsWhole)
  (arg3 : Memref sig .tc .vmem S8x128 .f32) (harg3 : arg3.IsWhole) (x0 x1 : Vec Ideal S1024x1024 .f32) (s : Vec Ideal S8x128 .f32) (p : Fin 8) (l : Fin 128)

theorem caseA (hc0 : cond0_0 i) :
    out0_A_2 (F := Ideal) c i arg1 harg1 arg2 harg2 arg3 harg3 hc0 x0 x1 (ix2 p l) = 0 + Ideal.ofBits FTy.f32 0x3F000000#32 * ∑ r : Fin 1024,
      Ideal.div (∑ q : Fin 1024, (x0 (ix2 r q) - x1 (ix2 r q)) * (x0 (ix2 r q) - x1 (ix2 r q))) (Ideal.ofBits FTy.f32 0x44800000#32) := by
  unfold out0_A_2
  rw [View.read_writes_junk_eq_canon]
  unfold kernelRun0_A
  refine (canon_whole _ _ _ p l).trans ?_
  rw [pay2, load_buffer, load_buffer]
  unfold kernelRun0_A.sl.v6
  rw [load_written]
  unfold kernelRun0_A.sl.H2_1
  rw [canon_whole, pay1]

theorem caseB (hc0 : ¬cond0_0 i) :
    out0_B_2 (F := Ideal) c i arg1 harg1 arg2 harg2 arg3 harg3 hc0 x0 x1 s (ix2 p l) = s (ix2 p l) + Ideal.ofBits FTy.f32 0x3F000000#32 * ∑ r : Fin 1024,
      Ideal.div (∑ q : Fin 1024, (x0 (ix2 r q) - x1 (ix2 r q)) * (x0 (ix2 r q) - x1 (ix2 r q))) (Ideal.ofBits FTy.f32 0x44800000#32) := by
  unfold out0_B_2
  rw [View.read_writes_junk_eq_canon]
  unfold kernelRun0_B
  refine (canon_whole _ _ _ p l).trans ?_
  rw [pay2, load_buffer, load_buffer, load_buffer]

end Cases

variable (m : (ℓ : Loc nD τ sig) → Buf (Elt Ideal) ℓ) (c : Dev nD)

abbrev a0 : FVec Ideal S8192x1024 .f32 := m (c.tc.loc main_arg0)
abbrev a1 : FVec Ideal S8192x1024 .f32 := m (c.tc.loc main_arg1)

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel

/-- Row `p` of block `t`. -/
def row (t : Fin cfg0.N) (p : Fin 1024) : Fin 8192 := ⟨1024 * t.val + p.val, by have := lt_points t; omega⟩

abbrev b0 (t : Fin cfg0.N) : Vec Ideal S1024x1024 .f32 := iblk m c 0 t
abbrev b1 (t : Fin cfg0.N) : Vec Ideal S1024x1024 .f32 := iblk m c 1 t

theorem block0 (t : Fin cfg0.N) (p : Fin 1024) (q : Fin 1024) : b0 m c t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (p : Fin 1024) (q : Fin 1024) : b1 m c t (ix2 p q) = a1 m c (ix2 (row t p) q) := by
  show V m c main_arg1 _ = _
  rw [V_main_arg1]
  exact congrArg (a1 m c) (at_block (index1 t) 1024 1024 p.val q.val rfl rfl rfl (by omega))

theorem block2 (t : Fin cfg0.N) (X : FVec Ideal S8x128 .f32) (p : Fin 8) (l : Fin 128) :
    ((cfg0.win 2).blk t).view.read (Elt Ideal) X (ix2 p l) = X (ix2 p l) := by
  exact congrArg X (at_block (index2 t) 8 128 p.val l.val rfl rfl (by omega) (by omega))

/-- What point `n` adds, before halving. -/
def added (n : ℕ) : EReal := if h : n < cfg0.N then ∑ r : Fin 1024, mean (a0 m c) (a1 m c) (row ⟨n, h⟩ r) else 0

theorem added_of_blocks (t : Fin cfg0.N) :
    (∑ r : Fin 1024, Ideal.div (∑ q : Fin 1024, (b0 m c t (ix2 r q) - b1 m c t (ix2 r q)) * (b0 m c t (ix2 r q) - b1 m c t (ix2 r q))) (Ideal.ofBits FTy.f32 0x44800000#32) : EReal)
      = added m c t.val := by
  refine Eq.trans ?_ (dif_pos (c := t.val < cfg0.N) (t := fun h => ∑ r : Fin 1024, mean (a0 m c) (a1 m c) (row ⟨t.val, h⟩ r)) (e := fun _ => 0) t.isLt).symm
  refine Finset.sum_congr rfl fun r _ => ?_
  simp only [block0, block1]
  rfl

/-- The accumulated block after point `n`: half the sum of what the points up to it add. -/
theorem upto : ∀ (n : ℕ) (h : n < cfg0.N) (p : Fin 8) (l : Fin 128),
    outsAt0 m c n h (ix2 p l) = ∑ j ∈ Finset.range (n + 1), Ideal.ofBits FTy.f32 0x3F000000#32 * added m c j
  | 0, h, p, l => by
    rw [Finset.sum_range_one]
    refine (congrFun (outsAt0_A m c ⟨0, h⟩ rfl) (ix2 p l)).trans ?_
    refine (caseA c _ _ _ _ _ _ _ (b0 m c ⟨0, h⟩) (b1 m c ⟨0, h⟩) p l _).trans ?_
    rw [added_of_blocks, zero_add]
  | n + 1, h, p, l => by
    have hn : n + 1 < 8 := Nat.lt_of_lt_of_eq h N_0
    rw [Finset.sum_range_succ]
    refine (congrFun (outsAt0_B m c ⟨n + 1, h⟩ (by show ¬(n + 1) % 8 = 0; omega)) (ix2 p l)).trans ?_
    refine (caseB c _ _ _ _ _ _ _ (b0 m c ⟨n + 1, h⟩) (b1 m c ⟨n + 1, h⟩) _ p l _).trans ?_
    rw [added_of_blocks]
    exact congrArg (fun z : EReal => z + Ideal.ofBits FTy.f32 0x3F000000#32 * added m c (n + 1)) (upto n (Nat.lt_of_succ_lt h) p l)

/-- After the last point every entry of the accumulated block is the loss. -/
theorem last (h : 7 < cfg0.N) (p : Fin 8) (l : Fin 128) : outsAt0 m c 7 h (ix2 p l) = loss (a0 m c) (a1 m c) := by
  rw [upto, half_sum]
  unfold loss
  refine congrArg (fun z : EReal => Ideal.ofBits FTy.f32 0x3F000000#32 * z) ?_
  refine Eq.trans (Finset.sum_congr rfl fun j hj => ?_) (sum_cut 1024 8 rfl (mean (a0 m c) (a1 m c))
    (fun j q => if h : 1024 * j + q.val < 8192 then mean (a0 m c) (a1 m c) ⟨1024 * j + q.val, h⟩ else 0) fun j hj q hq => dif_pos hq)
  have hj' : j < 8 := Finset.mem_range.mp hj
  have hn : j < cfg0.N := Nat.lt_of_lt_of_eq hj' N_0.symm
  refine (dif_pos hn).trans (Finset.sum_congr rfl fun q _ => ?_)
  exact (dif_pos (c := 1024 * j + q.val < 8192) (t := fun h => mean (a0 m c) (a1 m c) ⟨1024 * j + q.val, h⟩) (e := fun _ => 0) (by omega)).symm

theorem cut_apply (t : Fin cfg0.N) (X : Vec Ideal S8x128 .f32) (p : Fin 8) (l : Fin 128) : (cfg0.win 2).cut (grid0.coords t) X (ix2 p l) = X (ix2 p l) := rfl

/-- The array that the run leaves: the loss in every entry. -/
theorem array : (dats m 0 c).arrAt 2 cfg0.N = mat (n := 8) (m := 128) fun _ _ => loss (a0 m c) (a1 m c) := by
  refine (dats m 0 c).arrAt_eq_of_cover 2 _ (fun t hf => ?_) fun i => ?_
  · have ht : t.val % 8 = 7 := (flush0_2 t).mp hf
    have hl := lt_points t
    have e : t.val = 7 := by omega
    show (cfg0.win 2).cut (grid0.coords t) ((dats m 0 c).after 2 t) = _
    rw [after0_2]
    refine Prod.ext (n := 8) (m := 128) fun p l => ?_
    refine (cut_apply t _ p l).trans (Eq.trans ?_ (block2 t (mat (n := 8) (m := 128) fun _ _ => loss (a0 m c) (a1 m c)) p l).symm)
    obtain ⟨n, hn⟩ := t
    dsimp only at e
    subst e
    exact last m c hn p l
  · have h0 : (i 0).val < 8 := (i 0).isLt
    have h1 : (i 1).val < 128 := (i 1).isLt
    let t : Fin cfg0.N := ⟨7, Nat.lt_of_lt_of_eq (by omega) N_0.symm⟩
    refine ⟨t, (flush0_2 t).mpr rfl, ?_⟩
    show i ∈ ((View.whole main_v0).slice (win0_2.rect t)).set
    rw [View.set_slice_whole, Rect.mem_set_unit]
    exact inside (index2 t) 8 128 rfl rfl rfl rfl (by show 0 * 8 ≤ (i 0).val ∧ (i 0).val < 0 * 8 + 8; omega) (by show 0 * 128 ≤ (i 1).val ∧ (i 1).val < 0 * 128 + 128; omega)

/-- The two lines after the region read one entry of that array. -/
theorem tail : Pipeline.afterTail₀ cfgs (dats m) 0 (V0 m) [hostOps1] c main_v2 = fun _ => loss (a0 m c) (a1 m c) := by
  have e : Pipeline.withArrays cfg0.spec c (V0 m c) (fun w => (dats m 0 c).arrAt w cfg0.N) (Proc.devRef .tc main_v0) = mat (n := 8) (m := 128) fun _ _ => loss (a0 m c) (a1 m c) :=
    ((dats m 0 c).withArrays_arrAt (by unfold Pipeline.SharedIn; decide) _ (A_eq m c) 2).trans (array m c)
  show StableHlo.after hostOps1 (Pipeline.withArrays cfg0.spec c (V0 m c) fun w => (dats m 0 c).arrAt w cfg0.N) (Proc.devRef .tc main_v2) = _
  after_results
  rw [e]
  funext i
  rfl

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v2) = (fun _ => loss (a0 m c) (a1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (Pipeline.mem_restRefs_of main_v2 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.LossIdeal.Mine

namespace Cert.LossRefIdeal.Mine

open Cert.LossRefIdeal Cert.LossRefIdeal.Gen Idealize.ShloMosaic Idealize.ShloMosaic.TcCoe Idealize.SL.Sem
open Cert.Prod

/-- The reference's result is the same function of its arguments. -/
theorem result (x0 x1 : FVec Ideal S8192x1024 .f32) : Read.val_main_v6 (F := Ideal) x0 x1 = fun _ => Cert.LossIdeal.Mine.loss x0 x1 := by
  funext i
  unfold Cert.LossIdeal.Mine.loss Cert.LossIdeal.Mine.mean
  pointwise [Read.val_main_v6, Read.val_main_v5, Read.val_main_v4, Read.val_main_v3, Read.val_main_v2, Read.val_main_v1, Read.val_main_v0, Read.val_main_cst, Read.val_main_cst_0, Read.val_main_cst_1, Read.val_main_cst_2]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (fun _ => Cert.LossIdeal.Mine.loss (m (c.tc.loc main_arg0)) (m (c.tc.loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v6_eq ..)).trans (result _ _), (h c).2⟩) (Value.run (F := Ideal) m ρ)

end Cert.LossRefIdeal.Mine

namespace Cert.Loss.Mine

open Idealize.ShloMosaic Idealize.ShloMosaic.TcCoe Idealize.SL.Sem

/-- From the same arguments, both programs end with the same loss. -/
theorem equal : Cert.algebraic_LossIdeal_LossRefIdeal (hLossIdeal := Cert.LossIdeal.Gen.facts) (hLossRefIdeal := Cert.LossRefIdeal.Gen.facts) := by
  intro m ρ m' ρ' _ ha
  refine ⟨fun c => fun _ => Cert.LossIdeal.Mine.loss (Cert.LossIdeal.Mine.a0 m c) (Cert.LossIdeal.Mine.a1 m c), ?_, ?_⟩
  · exact Cert.LossIdeal.Mine.run m ρ
  · refine (θ_run _ _ _).mono (fun r h c => ⟨(h c).1.trans ?_, (h c).2⟩) (Cert.LossRefIdeal.Mine.run m' ρ')
    rw [(ha c).1, (ha c).2]
    rfl

end Cert.Loss.Mine

end
-- ==== Proof.LossDyEq.lean ====
/- The call `LossDy`: the difference times a 1024th of the cotangent, by the kernel and by the reference. -/
module

public import proofs.«01_k».proof.Proof.Prod
public import proofs.«01_k».proof.Proof.Gen.LossDy.Frame
public import proofs.«01_k».proof.Proof.Gen.LossDyIdeal.Value
public import proofs.«01_k».proof.Proof.Gen.LossDyRefIdeal.Read
public import proofs.«01_k».proof.Defs

@[expose] public section

set_option maxRecDepth 16384

noncomputable section

namespace Cert.LossDyIdeal.Mine

open Cert.LossDyIdeal Cert.LossDyIdeal.Gen Idealize.ShloMosaic Idealize.ShloMosaic.TcCoe Idealize.SL.Sem
open Cert.Prod

/-- The four literals, and the two ways to scale: halved, divided by 1024 and doubled is a 1024th. -/
theorem half_real : Ideal.ofBits FTy.f32 0x3F000000#32 = ((1 / 2 : ℝ) : EReal) := by
  simp [Ideal.ofBits, Ideal.ieee, -EReal.coe_mul]; norm_num
theorem two_real : Ideal.ofBits FTy.f32 0x40000000#32 = ((2 : ℝ) : EReal) := by
  simp [Ideal.ofBits, Ideal.ieee, -EReal.coe_mul]; norm_num
theorem wide_real : Ideal.ofBits FTy.f32 0x44800000#32 = ((1024 : ℝ) : EReal) := by
  simp [Ideal.ofBits, Ideal.ieee, -EReal.coe_mul]; norm_num
theorem part_real : Ideal.ofBits FTy.f32 0x3A800000#32 = ((1 / 1024 : ℝ) : EReal) := by
  simp [Ideal.ofBits, Ideal.ieee, -EReal.coe_mul]; norm_num
theorem scale (d g : EReal) :
    Ideal.div (Ideal.ofBits FTy.f32 0x3F000000#32 * g) (Ideal.ofBits FTy.f32 0x44800000#32) * (Ideal.ofBits FTy.f32 0x40000000#32 * d)
      = d * (g * Ideal.ofBits FTy.f32 0x3A800000#32) := by
  rw [← Idealize.ShloMosaic.Ideal.mul_one_div (by rw [wide_real]; exact_mod_cast (by norm_num : (1024 : ℝ) ≠ 0)), half_real, two_real, wide_real, part_real]
  have e : Ideal.div 1 ((1024 : ℝ) : EReal) = ((1 / 1024 : ℝ) : EReal) := by
    have h : ((1024 : ℝ) : EReal) ≠ 0 := by exact_mod_cast (by norm_num : (1024 : ℝ) ≠ 0)
    simp [Ideal.div, h, EReal.coe_inv]
  rw [e]
  have f : ((1 / 2 : ℝ) : EReal) * ((1 / 1024 : ℝ) : EReal) * ((2 : ℝ) : EReal) = ((1 / 1024 : ℝ) : EReal) := by
    rw [← EReal.coe_mul, ← EReal.coe_mul]; norm_num
  calc _ = (((1 / 2 : ℝ) : EReal) * ((1 / 1024 : ℝ) : EReal) * ((2 : ℝ) : EReal)) * (d * g) := by ac_rfl
    _ = _ := by rw [f]; ac_rfl

/-- The result: the difference times a 1024th of the cotangent. -/
def scaled (y t : Mat 8192 1024) (g : (⟨0, ![]⟩ : Shape).Idx → EReal) : Mat 8192 1024 := mat fun p l => (y (ix2 p l) - t (ix2 p l)) * (g ix0 * Ideal.ofBits FTy.f32 0x3A800000#32)

/-- What the body writes, entry by entry. -/
theorem pay (x0 : Vec Ideal S1024x1024 .f32) (x1 : Vec Ideal S1024x1024 .f32) (x2 : Vec Ideal S1x1 .f32) (p : Fin 1024) (l : Fin 1024) :
    k0_pay1 (F := Ideal) x0 x1 x2 (ix2 p l) = (x0 (ix2 p l) - x1 (ix2 p l)) * (x2 (ix2 0 0) * Ideal.ofBits FTy.f32 0x3A800000#32) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S8192x1024 .f32 := m (c.tc.loc main_arg1)
abbrev a2 : FVec Ideal S_ .f32 := m (c.tc.loc main_arg2)

theorem at_main_v0 : V m c main_v0 = shapeCast S1x1 (a2 m c) shapeCasts_S_S1x1 := by
  show StableHlo.after hostOps0 _ (Proc.devRef .tc main_v0) = _
  after_results
  rfl

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 1024) : iblk m c 0 t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (p : Fin 1024) (q : Fin 1024) : iblk m c 1 t (ix2 p q) = a1 m c (ix2 (row t p) q) := by
  show V m c main_arg1 _ = _
  rw [V_main_arg1]
  exact congrArg (a1 m c) (at_block (index1 t) 1024 1024 p.val q.val rfl rfl rfl (by omega))

theorem block2 (t : Fin cfg0.N)  : iblk m c 2 t (ix2 (0 : Fin 1) (0 : Fin 1)) = a2 m c ix0 := by
  show V m c main_v0 _ = _
  rw [at_main_v0]
  refine Eq.trans (b := (shapeCast S1x1 (a2 m c) shapeCasts_S_S1x1 : FVec Ideal S1x1 .f32) (ix2 (0 : Fin 1) (0 : Fin 1))) ?_ ?_
  · exact congrArg ((shapeCast S1x1 (a2 m c) shapeCasts_S_S1x1 : FVec Ideal S1x1 .f32)) (at_block (index2 t) 1 1 (0 : Fin 1).val (0 : Fin 1).val rfl rfl rfl rfl)
  · pointwise []

theorem block3 (t : Fin cfg0.N) (X : FVec Ideal S8192x1024 .f32) (p : Fin 1024) (l : Fin 1024) :
    ((cfg0.win 3).blk t).view.read (Elt Ideal) X (ix2 p l) = X (ix2 (row t p) l) := by
  exact congrArg X (at_block (index3 t) 1024 1024 p.val l.val rfl rfl rfl (by omega))

/-- What point `t` writes back is its rows of the result. -/
theorem written (t : Fin cfg0.N) : (dats m 0 c).flushed 3 t = ((cfg0.win 3).blk t).view.read (Elt Ideal) (scaled (a0 m c) (a1 m c) (a2 m c)) := by
  rw [Value.flushed3]
  refine Prod.ext (n := 1024) (m := 1024) fun p l => ?_
  refine Eq.trans (b := out0_3 (F := Ideal) (iblk m c 0 t) (iblk m c 1 t) (iblk m c 2 t) (ix2 p l)) rfl ?_
  refine Eq.trans ?_ (block3 t (scaled (a0 m c) (a1 m c) (a2 m c)) p l).symm
  unfold out0_3
  refine (canon_whole _ _ _ p l).trans ?_
  rw [load_whole, load_whole, load_whole]
  rw [pay, block0, block1, block2]
  rfl

/-- The result array. -/
theorem result : (dats m 0 c).arrAt 3 cfg0.N = scaled (a0 m c) (a1 m c) (a2 m c) := by
  refine (dats m 0 c).arrAt_eq_of_cover 3 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_3 t, ?_⟩
  show i ∈ ((View.whole main_v1).slice (win0_3.rect t)).set
  rw [View.set_slice_whole, Rect.mem_set_unit]
  exact inside (index3 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.LossDyIdeal.Mine

namespace Cert.LossDyRefIdeal.Mine

open Cert.LossDyRefIdeal Cert.LossDyRefIdeal.Gen Idealize.ShloMosaic Idealize.ShloMosaic.TcCoe Idealize.SL.Sem
open Cert.Prod

/-- The reference's result is the same function of its arguments. -/
theorem result (x0 : FVec Ideal S8192x1024 .f32) (x1 : FVec Ideal S8192x1024 .f32) (x2 : FVec Ideal S_ .f32) : Read.val_main_v14 (F := Ideal) x0 x1 x2 = Cert.LossDyIdeal.Mine.scaled x0 x1 x2 := by
  refine Prod.ext (n := 8192) (m := 1024) fun p l => ?_
  refine Eq.trans ?_ (mat_ix2 _ p l).symm
  pointwise [Read.val_main_v14, Read.val_main_v13, Read.val_main_v12, Read.val_main_v11, Read.val_main_v10, Read.val_main_v9, Read.val_main_v3, Read.val_main_v2, Read.val_main_v0, Read.val_main_cst, Read.val_main_cst_4, Read.val_main_cst_5]
  exact Cert.LossDyIdeal.Mine.scale _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.LossDyIdeal.Mine.scaled (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h c).1.trans (Read.val_main_v14_eq ..)).trans (result _ _ _), (h c).2⟩) (Value.run (F := Ideal) m ρ)

end Cert.LossDyRefIdeal.Mine

namespace Cert.LossDy.Mine

open Idealize.ShloMosaic Idealize.ShloMosaic.TcCoe Idealize.SL.Sem

/-- From the same arguments, both programs end with the same result. -/
theorem equal : Cert.algebraic_LossDyIdeal_LossDyRefIdeal (hLossDyIdeal := Cert.LossDyIdeal.Gen.facts) (hLossDyRefIdeal := Cert.LossDyRefIdeal.Gen.facts) := by
  intro m ρ m' ρ' _ ha
  refine ⟨fun c => Cert.LossDyIdeal.Mine.scaled (Cert.LossDyIdeal.Mine.a0 m c) (Cert.LossDyIdeal.Mine.a1 m c) (Cert.LossDyIdeal.Mine.a2 m c), ?_, ?_⟩
  · exact (θ_run _ _ _).mono (fun r h c => ⟨(h c).1.trans (Cert.LossDyIdeal.Mine.result m c), (h c).2⟩) (Cert.LossDyIdeal.Value.run_blocks (F := Ideal) m ρ)
  · refine (θ_run _ _ _).mono (fun r h c => ⟨(h c).1.trans ?_, (h c).2⟩) (Cert.LossDyRefIdeal.Mine.run m' ρ')
    rw [(ha c).1, (ha c).2.1, (ha c).2.2]

end Cert.LossDy.Mine

end
-- ==== Proof.RmsEq.lean ====
/- The call `Rms`: the rows divided by their root mean square, times the gain, by the kernel and by the reference. -/
module

public import proofs.«01_k».proof.Proof.Prod
public import proofs.«01_k».proof.Proof.Gen.Rms.Frame
public import proofs.«01_k».proof.Proof.Gen.RmsIdeal.Value
public import proofs.«01_k».proof.Proof.Gen.RmsRefIdeal.Read
public import proofs.«01_k».proof.Defs

@[expose] public section

set_option maxRecDepth 16384

noncomputable section

namespace Cert.RmsIdeal.Mine

open Cert.RmsIdeal Cert.RmsIdeal.Gen Idealize.ShloMosaic Idealize.ShloMosaic.TcCoe Idealize.SL.Sem
open Cert.Prod

/-- The result: the rows divided by their root mean square, times the gain. -/
def normed (x : Mat 8192 1024) (g : (⟨1, ![1024]⟩ : Shape).Idx → EReal) : Mat 8192 1024 := mat fun p l => x (ix2 p l) * Ideal.rsqrt (Ideal.div (∑ q : Fin 1024, x (ix2 p q) * x (ix2 p q)) (Ideal.ofBits FTy.f32 0x44800000#32) + Ideal.ofBits FTy.f32 0x358637BD#32) * g (ix1 l)

/-- What the body writes, entry by entry. -/
theorem pay (x0 : Vec Ideal S1024x1024 .f32) (x1 : Vec Ideal S1x1024 .f32) (p : Fin 1024) (l : Fin 1024) :
    k0_pay1 (F := Ideal) x0 x1 (ix2 p l) = x0 (ix2 p l) * Ideal.rsqrt (Ideal.div (∑ q : Fin 1024, x0 (ix2 p q) * x0 (ix2 p q)) (Ideal.ofBits FTy.f32 0x44800000#32) + Ideal.ofBits FTy.f32 0x358637BD#32) * x1 (ix2 0 l) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)

theorem at_main_v0 : V m c main_v0 = shapeCast S1x1024 (a1 m c) shapeCasts_S1024_S1x1024 := by
  show StableHlo.after hostOps0 _ (Proc.devRef .tc main_v0) = _
  after_results
  rfl

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- Row `p` of block `t`. -/
def row (t : Fin cfg0.N) (p : Fin 1024) : Fin 8192 := ⟨1024 * t.val + p.val, by have := lt_points t; omega⟩

theorem block0 (t : Fin cfg0.N) (p : Fin 1024) (q : Fin 1024) : iblk m c 0 t (ix2 p q) = a0 m c (ix2 (row t p) q) := by
  show V m c main_arg0 _ = _
  rw [V_main_arg0]
  exact congrArg (a0 m c) (at_block (index0 t) 1024 1024 p.val q.val rfl rfl rfl (by omega))

theorem block1 (t : Fin cfg0.N) (l : Fin 1024) : iblk m c 1 t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index1 t) 1 1024 (0 : Fin 1).val l.val rfl rfl rfl (by omega))
  · pointwise []

theorem block2 (t : Fin cfg0.N) (X : FVec Ideal S8192x1024 .bf16) (p : Fin 1024) (l : Fin 1024) :
    ((cfg0.win 2).blk t).view.read (Elt Ideal) X (ix2 p l) = X (ix2 (row t p) l) := by
  exact congrArg X (at_block (index2 t) 1024 1024 p.val l.val rfl rfl rfl (by omega))

/-- What point `t` writes back is its rows of the result. -/
theorem written (t : Fin cfg0.N) : (dats m 0 c).flushed 2 t = ((cfg0.win 2).blk t).view.read (Elt Ideal) (normed (a0 m c) (a1 m c)) := by
  rw [Value.flushed2]
  refine Prod.ext (n := 1024) (m := 1024) fun p l => ?_
  refine Eq.trans (b := out0_2 (F := Ideal) (iblk m c 0 t) (iblk m c 1 t) (ix2 p l)) rfl ?_
  refine Eq.trans ?_ (block2 t (normed (a0 m c) (a1 m c)) p l).symm
  unfold out0_2
  refine (canon_whole _ _ _ p l).trans ?_
  rw [load_whole, load_whole]
  rw [pay, block0, block1]
  simp only [block0]
  rfl

/-- The result array. -/
theorem result : (dats m 0 c).arrAt 2 cfg0.N = normed (a0 m c) (a1 m c) := by
  refine (dats m 0 c).arrAt_eq_of_cover 2 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_2 t, ?_⟩
  show i ∈ ((View.whole main_v1).slice (win0_2.rect t)).set
  rw [View.set_slice_whole, Rect.mem_set_unit]
  exact inside (index2 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

end Cert.RmsIdeal.Mine

namespace Cert.RmsRefIdeal.Mine

open Cert.RmsRefIdeal Cert.RmsRefIdeal.Gen Idealize.ShloMosaic Idealize.ShloMosaic.TcCoe Idealize.SL.Sem
open Cert.Prod

/-- The reference's result is the same function of its arguments. -/
theorem result (x0 : FVec Ideal S8192x1024 .f32) (x1 : FVec Ideal S1024 .f32) : Read.val_main_v13 (F := Ideal) x0 x1 = Cert.RmsIdeal.Mine.normed x0 x1 := by
  refine Prod.ext (n := 8192) (m := 1024) fun p l => ?_
  refine Eq.trans ?_ (mat_ix2 _ p l).symm
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.RmsIdeal.Mine.normed (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (Read.val_main_v13_eq ..)).trans (result _ _), (h c).2⟩) (Value.run (F := Ideal) m ρ)

end Cert.RmsRefIdeal.Mine

namespace Cert.Rms.Mine

open Idealize.ShloMosaic Idealize.ShloMosaic.TcCoe Idealize.SL.Sem

/-- From the same arguments, both programs end with the same result. -/
theorem equal : Cert.algebraic_RmsIdeal_RmsRefIdeal (hRmsIdeal := Cert.RmsIdeal.Gen.facts) (hRmsRefIdeal := Cert.RmsRefIdeal.Gen.facts) := by
  intro m ρ m' ρ' _ ha
  refine ⟨fun c => Cert.RmsIdeal.Mine.normed (Cert.RmsIdeal.Mine.a0 m c) (Cert.RmsIdeal.Mine.a1 m c), ?_, ?_⟩
  · exact (θ_run _ _ _).mono (fun r h c => ⟨(h c).1.trans (Cert.RmsIdeal.Mine.result m c), (h c).2⟩) (Cert.RmsIdeal.Value.run_blocks (F := Ideal) m ρ)
  · refine (θ_run _ _ _).mono (fun r h c => ⟨(h c).1.trans ?_, (h c).2⟩) (Cert.RmsRefIdeal.Mine.run m' ρ')
    rw [(ha c).1, (ha c).2]

end Cert.Rms.Mine

end
-- ==== Proof.ResidualEq.lean ====
/- The call `Residual`: the residual plus the normed rows, by the kernel and by the reference. -/
module

public import proofs.«01_k».proof.Proof.Prod
public import proofs.«01_k».proof.Proof.Gen.Residual.Frame
public import proofs.«01_k».proof.Proof.Gen.ResidualIdeal.Value
public import proofs.«01_k».proof.Proof.Gen.ResidualRefIdeal.Read
public import proofs.«01_k».proof.Defs

@[expose] public section

set_option maxRecDepth 16384

noncomputable section

namespace Cert.ResidualIdeal.Mine

open Cert.ResidualIdeal Cert.ResidualIdeal.Gen Idealize.ShloMosaic Idealize.ShloMosaic.TcCoe Idealize.SL.Sem
open Cert.Prod

/-- The result: the residual plus the normed rows. -/
def normed (x : Mat 8192 1024) (g : (⟨1, ![1024]⟩ : Shape).Idx → EReal) (r : Mat 8192 1024) : Mat 8192 1024 := mat fun p l => r (ix2 p l) + x (ix2 p l) * Ideal.rsqrt (Ideal.div (∑ q : Fin 1024, x (ix2 p q) * x (ix2 p q)) (Ideal.ofBits FTy.f32 0x44800000#32) + Ideal.ofBits FTy.f32 0x358637BD#32) * g (ix1 l)

/-- What the body writes, entry by entry. -/
theorem pay (x0 : Vec Ideal S512x1024 .f32) (x1 : Vec Ideal S512x1024 .f32) (x2 : Vec Ideal S1x1024 .f32) (p : Fin 512) (l : Fin 1024) :
    k0_pay1 (F := Ideal) x0 x1 x2 (ix2 p l) = x1 (ix2 p l) + x0 (ix2 p l) * Ideal.rsqrt (Ideal.div (∑ q : Fin 1024, x0 (ix2 p q) * x0 (ix2 p q)) (Ideal.ofBits FTy.f32 0x44800000#32) + Ideal.ofBits FTy.f32 0x358637BD#32) * x2 (ix2 0 l) := by
  pointwise [k0_pay1]

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)
abbrev a2 : FVec Ideal S8192x1024 .f32 := m (c.tc.loc main_arg2)

theorem at_main_v0 : V m c main_v0 = shapeCast S1x1024 (a1 m c) shapeCasts_S1024_S1x1024 := by
  show StableHlo.after hostOps0 _ (Proc.devRef .tc main_v0) = _
  after_results
  rfl

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel

/-- Row `p` of block `t`. -/
def row (t : Fin cfg0.N) (p : Fin 512) : Fin 8192 := ⟨512 * t.val + p.val, by have := lt_points t; omega⟩

theorem block0 (t : Fin cfg0.N) (p : Fin 512) (q : Fin 1024) : iblk m c 0 t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (p : Fin 512) (q : Fin 1024) : iblk m c 1 t (ix2 p q) = a2 m c (ix2 (row t p) q) := by
  show V m c main_arg2 _ = _
  rw [V_main_arg2]
  exact congrArg (a2 m c) (at_block (index1 t) 512 1024 p.val q.val rfl rfl rfl (by omega))

theorem block2 (t : Fin cfg0.N) (l : Fin 1024) : iblk m c 2 t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index2 t) 1 1024 (0 : Fin 1).val l.val rfl rfl rfl (by omega))
  · pointwise []

theorem block3 (t : Fin cfg0.N) (X : FVec Ideal S8192x1024 .f32) (p : Fin 512) (l : Fin 1024) :
    ((cfg0.win 3).blk t).view.read (Elt Ideal) X (ix2 p l) = X (ix2 (row t p) l) := by
  exact congrArg X (at_block (index3 t) 512 1024 p.val l.val rfl rfl rfl (by omega))

/-- What point `t` writes back is its rows of the result. -/
theorem written (t : Fin cfg0.N) : (dats m 0 c).flushed 3 t = ((cfg0.win 3).blk t).view.read (Elt Ideal) (normed (a0 m c) (a1 m c) (a2 m c)) := by
  rw [Value.flushed3]
  refine Prod.ext (n := 512) (m := 1024) fun p l => ?_
  refine Eq.trans (b := out0_3 (F := Ideal) (iblk m c 0 t) (iblk m c 1 t) (iblk m c 2 t) (ix2 p l)) rfl ?_
  refine Eq.trans ?_ (block3 t (normed (a0 m c) (a1 m c) (a2 m c)) p l).symm
  unfold out0_3
  refine (canon_whole _ _ _ p l).trans ?_
  rw [load_whole, load_whole, load_whole]
  rw [pay, block0, block1, block2]
  simp only [block0]
  rfl

/-- The result array. -/
theorem result : (dats m 0 c).arrAt 3 cfg0.N = normed (a0 m c) (a1 m c) (a2 m c) := by
  refine (dats m 0 c).arrAt_eq_of_cover 3 _ (fun t _ => written m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_3 t, ?_⟩
  show i ∈ ((View.whole main_v1).slice (win0_3.rect t)).set
  rw [View.set_slice_whole, Rect.mem_set_unit]
  exact inside (index3 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

end Cert.ResidualIdeal.Mine

namespace Cert.ResidualRefIdeal.Mine

open Cert.ResidualRefIdeal Cert.ResidualRefIdeal.Gen Idealize.ShloMosaic Idealize.ShloMosaic.TcCoe Idealize.SL.Sem
open Cert.Prod

/-- The reference's result is the same function of its arguments. -/
theorem result (x0 : FVec Ideal S8192x1024 .f32) (x1 : FVec Ideal S1024 .f32) (x2 : FVec Ideal S8192x1024 .f32) : Read.val_main_v13 (F := Ideal) x0 x1 x2 = Cert.ResidualIdeal.Mine.normed x0 x1 x2 := by
  refine Prod.ext (n := 8192) (m := 1024) fun p l => ?_
  refine Eq.trans ?_ (mat_ix2 _ p l).symm
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.ResidualIdeal.Mine.normed (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h c).1.trans (Read.val_main_v13_eq ..)).trans (result _ _ _), (h c).2⟩) (Value.run (F := Ideal) m ρ)

end Cert.ResidualRefIdeal.Mine

namespace Cert.Residual.Mine

open Idealize.ShloMosaic Idealize.ShloMosaic.TcCoe Idealize.SL.Sem

/-- From the same arguments, both programs end with the same result. -/
theorem equal : Cert.algebraic_ResidualIdeal_ResidualRefIdeal (hResidualIdeal := Cert.ResidualIdeal.Gen.facts) (hResidualRefIdeal := Cert.ResidualRefIdeal.Gen.facts) := by
  intro m ρ m' ρ' _ ha
  refine ⟨fun c => Cert.ResidualIdeal.Mine.normed (Cert.ResidualIdeal.Mine.a0 m c) (Cert.ResidualIdeal.Mine.a1 m c) (Cert.ResidualIdeal.Mine.a2 m c), ?_, ?_⟩
  · exact (θ_run _ _ _).mono (fun r h c => ⟨(h c).1.trans (Cert.ResidualIdeal.Mine.result m c), (h c).2⟩) (Cert.ResidualIdeal.Value.run_blocks (F := Ideal) m ρ)
  · refine (θ_run _ _ _).mono (fun r h c => ⟨(h c).1.trans ?_, (h c).2⟩) (Cert.ResidualRefIdeal.Mine.run m' ρ')
    rw [(ha c).1, (ha c).2.1, (ha c).2.2]

end Cert.Residual.Mine

end
-- ==== Proof.JoinedEq.lean ====
/- The call `Joined`: the residual plus the normed rows, and those rows normed again, by the kernel and by the reference. -/
module

public import proofs.«01_k».proof.Proof.Prod
public import proofs.«01_k».proof.Proof.Gen.Joined.Frame
public import proofs.«01_k».proof.Proof.Gen.JoinedIdeal.Value
public import proofs.«01_k».proof.Proof.Gen.JoinedRefIdeal.Read
public import proofs.«01_k».proof.Defs

@[expose] public section

set_option maxRecDepth 16384

noncomputable section

namespace Cert.JoinedIdeal.Mine

open Cert.JoinedIdeal Cert.JoinedIdeal.Gen Idealize.ShloMosaic Idealize.ShloMosaic.TcCoe Idealize.SL.Sem
open Cert.Prod

/-- The first result: the residual plus the normed rows. -/
def normed (x : Mat 8192 1024) (g : (⟨1, ![1024]⟩ : Shape).Idx → EReal) (r : Mat 8192 1024) : Mat 8192 1024 := mat fun p l => (r (ix2 p l) + x (ix2 p l) * Ideal.rsqrt (Ideal.div (∑ k : Fin 1024, x (ix2 p k) * x (ix2 p k)) (Ideal.ofBits FTy.f32 0x44800000#32) + Ideal.ofBits FTy.f32 0x358637BD#32) * g (ix1 l))

/-- The second result: the first one's rows, normed. -/
def again (x : Mat 8192 1024) (g : (⟨1, ![1024]⟩ : Shape).Idx → EReal) (r : Mat 8192 1024) (h : (⟨1, ![1024]⟩ : Shape).Idx → EReal) : Mat 8192 1024 := mat fun p l =>
  (r (ix2 p l) + x (ix2 p l) * Ideal.rsqrt (Ideal.div (∑ k : Fin 1024, x (ix2 p k) * x (ix2 p k)) (Ideal.ofBits FTy.f32 0x44800000#32) + Ideal.ofBits FTy.f32 0x358637BD#32) * g (ix1 l))
    * Ideal.rsqrt (Ideal.div (∑ q : Fin 1024, (r (ix2 p q) + x (ix2 p q) * Ideal.rsqrt (Ideal.div (∑ k : Fin 1024, x (ix2 p k) * x (ix2 p k)) (Ideal.ofBits FTy.f32 0x44800000#32) + Ideal.ofBits FTy.f32 0x358637BD#32) * g (ix1 q)) * (r (ix2 p q) + x (ix2 p q) * Ideal.rsqrt (Ideal.div (∑ k : Fin 1024, x (ix2 p k) * x (ix2 p k)) (Ideal.ofBits FTy.f32 0x44800000#32) + Ideal.ofBits FTy.f32 0x358637BD#32) * g (ix1 q))) (Ideal.ofBits FTy.f32 0x44800000#32) + Ideal.ofBits FTy.f32 0x358637BD#32) * h (ix1 l)

/-- What the body writes, entry by entry. -/
theorem pay1 (x0 : Vec Ideal S512x1024 .f32) (x1 : Vec Ideal S512x1024 .f32) (x2 : Vec Ideal S1x1024 .f32) (p : Fin 512) (l : Fin 1024) :
    k0_pay1 (F := Ideal) x0 x1 x2 (ix2 p l) = (x1 (ix2 p l) + x0 (ix2 p l) * Ideal.rsqrt (Ideal.div (∑ k : Fin 1024, x0 (ix2 p k) * x0 (ix2 p k)) (Ideal.ofBits FTy.f32 0x44800000#32) + Ideal.ofBits FTy.f32 0x358637BD#32) * x2 (ix2 0 l)) := by
  pointwise [k0_pay1]
theorem pay2 (x0 : Vec Ideal S512x1024 .f32) (x1 : Vec Ideal S512x1024 .f32) (x2 x3 : Vec Ideal S1x1024 .f32) (p : Fin 512) (l : Fin 1024) :
    k0_pay2 (F := Ideal) x0 x1 x2 x3 (ix2 p l) = (x1 (ix2 p l) + x0 (ix2 p l) * Ideal.rsqrt (Ideal.div (∑ k : Fin 1024, x0 (ix2 p k) * x0 (ix2 p k)) (Ideal.ofBits FTy.f32 0x44800000#32) + Ideal.ofBits FTy.f32 0x358637BD#32) * x2 (ix2 0 l))
    * Ideal.rsqrt (Ideal.div (∑ q : Fin 1024, (x1 (ix2 p q) + x0 (ix2 p q) * Ideal.rsqrt (Ideal.div (∑ k : Fin 1024, x0 (ix2 p k) * x0 (ix2 p k)) (Ideal.ofBits FTy.f32 0x44800000#32) + Ideal.ofBits FTy.f32 0x358637BD#32) * x2 (ix2 0 q)) * (x1 (ix2 p q) + x0 (ix2 p q) * Ideal.rsqrt (Ideal.div (∑ k : Fin 1024, x0 (ix2 p k) * x0 (ix2 p k)) (Ideal.ofBits FTy.f32 0x44800000#32) + Ideal.ofBits FTy.f32 0x358637BD#32) * x2 (ix2 0 q))) (Ideal.ofBits FTy.f32 0x44800000#32) + Ideal.ofBits FTy.f32 0x358637BD#32) * x3 (ix2 0 l) := by
  pointwise [k0_pay2, k0_pay1]

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)
abbrev a2 : FVec Ideal S8192x1024 .f32 := m (c.tc.loc main_arg2)
abbrev a3 : FVec Ideal S1024 .f32 := m (c.tc.loc main_arg3)

theorem at_main_v0 : V m c main_v0 = shapeCast S1x1024 (a1 m c) shapeCasts_S1024_S1x1024 := by
  show StableHlo.after hostOps0 _ (Proc.devRef .tc main_v0) = _
  after_results
  rfl

theorem at_main_v1 : V m c main_v1 = shapeCast S1x1024 (a3 m c) shapeCasts_S1024_S1x1024 := by
  show StableHlo.after hostOps0 _ (Proc.devRef .tc main_v1) = _
  after_results
  rfl

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel

/-- Row `p` of block `t`. -/
def row (t : Fin cfg0.N) (p : Fin 512) : Fin 8192 := ⟨512 * t.val + p.val, by have := lt_points t; omega⟩

theorem block0 (t : Fin cfg0.N) (p : Fin 512) (q : Fin 1024) : iblk m c 0 t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (p : Fin 512) (q : Fin 1024) : iblk m c 1 t (ix2 p q) = a2 m c (ix2 (row t p) q) := by
  show V m c main_arg2 _ = _
  rw [V_main_arg2]
  exact congrArg (a2 m c) (at_block (index1 t) 512 1024 p.val q.val rfl rfl rfl (by omega))

theorem block2 (t : Fin cfg0.N) (l : Fin 1024) : iblk m c 2 t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index2 t) 1 1024 (0 : Fin 1).val l.val rfl rfl rfl (by omega))
  · pointwise []

theorem block3 (t : Fin cfg0.N) (l : Fin 1024) : iblk m c 3 t (ix2 (0 : Fin 1) l) = a3 m c (ix1 l) := by
  show V m c main_v1 _ = _
  rw [at_main_v1]
  refine Eq.trans (b := (shapeCast S1x1024 (a3 m c) shapeCasts_S1024_S1x1024 : FVec Ideal S1x1024 .f32) (ix2 (0 : Fin 1) l)) ?_ ?_
  · exact congrArg ((shapeCast S1x1024 (a3 m c) shapeCasts_S1024_S1x1024 : FVec Ideal S1x1024 .f32)) (at_block (index3 t) 1 1024 (0 : Fin 1).val l.val rfl rfl rfl (by omega))
  · pointwise []

theorem block4 (t : Fin cfg0.N) (X : FVec Ideal S8192x1024 .f32) (p : Fin 512) (l : Fin 1024) :
    ((cfg0.win 4).blk t).view.read (Elt Ideal) X (ix2 p l) = X (ix2 (row t p) l) := by
  exact congrArg X (at_block (index4 t) 512 1024 p.val l.val rfl rfl rfl (by omega))

theorem block5 (t : Fin cfg0.N) (X : FVec Ideal S8192x1024 .bf16) (p : Fin 512) (l : Fin 1024) :
    ((cfg0.win 5).blk t).view.read (Elt Ideal) X (ix2 p l) = X (ix2 (row t p) l) := by
  exact congrArg X (at_block (index5 t) 512 1024 p.val l.val rfl rfl rfl (by omega))

/-- What point `t` writes back is its rows of the first result. -/
theorem written4 (t : Fin cfg0.N) : (dats m 0 c).flushed 4 t = ((cfg0.win 4).blk t).view.read (Elt Ideal) (normed (a0 m c) (a1 m c) (a2 m c)) := by
  rw [Value.flushed4]
  refine Prod.ext (n := 512) (m := 1024) fun p l => ?_
  refine Eq.trans (b := out0_4 (F := Ideal) (iblk m c 0 t) (iblk m c 1 t) (iblk m c 2 t) (iblk m c 3 t) (ix2 p l)) rfl ?_
  refine Eq.trans ?_ (block4 t (normed (a0 m c) (a1 m c) (a2 m c)) p l).symm
  unfold out0_4
  refine (canon_whole _ _ _ p l).trans ?_
  rw [load_whole, load_whole, load_whole]
  rw [pay1]
  simp only [block0, block1, block2]
  rfl

/-- What point `t` writes back is its rows of the second result. -/
theorem written5 (t : Fin cfg0.N) : (dats m 0 c).flushed 5 t = ((cfg0.win 5).blk t).view.read (Elt Ideal) (again (a0 m c) (a1 m c) (a2 m c) (a3 m c)) := by
  rw [Value.flushed5]
  refine Prod.ext (n := 512) (m := 1024) fun p l => ?_
  refine Eq.trans (b := out0_5 (F := Ideal) (iblk m c 0 t) (iblk m c 1 t) (iblk m c 2 t) (iblk m c 3 t) (ix2 p l)) rfl ?_
  refine Eq.trans ?_ (block5 t (again (a0 m c) (a1 m c) (a2 m c) (a3 m c)) p l).symm
  unfold out0_5
  refine (canon_whole _ _ _ p l).trans ?_
  rw [load_whole, load_whole, load_whole, load_whole]
  rw [pay2]
  simp only [block0, block1, block2, block3]
  rfl

/-- The first result array. -/
theorem result4 : (dats m 0 c).arrAt 4 cfg0.N = normed (a0 m c) (a1 m c) (a2 m c) := by
  refine (dats m 0 c).arrAt_eq_of_cover 4 _ (fun t _ => written4 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_4 t, ?_⟩
  show i ∈ ((View.whole main_v2_0).slice (win0_4.rect t)).set
  rw [View.set_slice_whole, Rect.mem_set_unit]
  exact inside (index4 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

/-- The second result array. -/
theorem result5 : (dats m 0 c).arrAt 5 cfg0.N = again (a0 m c) (a1 m c) (a2 m c) (a3 m c) := by
  refine (dats m 0 c).arrAt_eq_of_cover 5 _ (fun t _ => written5 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_5 t, ?_⟩
  show i ∈ ((View.whole main_v2_1).slice (win0_5.rect t)).set
  rw [View.set_slice_whole, Rect.mem_set_unit]
  exact inside (index5 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

end Cert.JoinedIdeal.Mine

namespace Cert.JoinedRefIdeal.Mine

open Cert.JoinedRefIdeal Cert.JoinedRefIdeal.Gen Idealize.ShloMosaic Idealize.ShloMosaic.TcCoe Idealize.SL.Sem
open Cert.Prod

/-- The reference's results are the same functions of its arguments. -/
theorem result1 (x0 : FVec Ideal S8192x1024 .f32) (x1 : FVec Ideal S1024 .f32) (x2 : FVec Ideal S8192x1024 .f32) : Read.val_main_v13 (F := Ideal) x0 x1 x2 = Cert.JoinedIdeal.Mine.normed x0 x1 x2 := by
  refine Prod.ext (n := 8192) (m := 1024) fun p l => ?_
  refine Eq.trans ?_ (mat_ix2 _ p l).symm
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

theorem result2 (x0 : FVec Ideal S8192x1024 .f32) (x1 : FVec Ideal S1024 .f32) (x2 : FVec Ideal S8192x1024 .f32) (x3 : FVec Ideal S1024 .f32) : Read.val_main_v27 (F := Ideal) x0 x1 x2 x3 = Cert.JoinedIdeal.Mine.again x0 x1 x2 x3 := by
  refine Prod.ext (n := 8192) (m := 1024) fun p l => ?_
  refine Eq.trans ?_ (mat_ix2 _ p l).symm
  pointwise [Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.JoinedIdeal.Mine.normed (m (c.tc.loc main_arg0)) (m (c.tc.loc main_arg1)) (m (c.tc.loc main_arg2))
      ∧ r.2.mem ((c.tc : Thread nD τ).loc main_v27) = Cert.JoinedIdeal.Mine.again (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h c).1.trans (Read.val_main_v13_eq ..)).trans (result1 _ _ _), ((h c).2.1.trans (Read.val_main_v27_eq ..)).trans (result2 _ _ _ _), (h c).2.2⟩)
    (Value.run (F := Ideal) m ρ)

end Cert.JoinedRefIdeal.Mine

namespace Cert.Joined.Mine

open Idealize.ShloMosaic Idealize.ShloMosaic.TcCoe Idealize.SL.Sem

/-- From the same arguments, both programs end with the same results. -/
theorem equal : Cert.algebraic_JoinedIdeal_JoinedRefIdeal (hJoinedIdeal := Cert.JoinedIdeal.Gen.facts) (hJoinedRefIdeal := Cert.JoinedRefIdeal.Gen.facts) := by
  intro m ρ m' ρ' _ ha
  refine ⟨fun c => Cert.JoinedIdeal.Mine.normed (Cert.JoinedIdeal.Mine.a0 m c) (Cert.JoinedIdeal.Mine.a1 m c) (Cert.JoinedIdeal.Mine.a2 m c), fun c => Cert.JoinedIdeal.Mine.again (Cert.JoinedIdeal.Mine.a0 m c) (Cert.JoinedIdeal.Mine.a1 m c) (Cert.JoinedIdeal.Mine.a2 m c) (Cert.JoinedIdeal.Mine.a3 m c), ?_, ?_⟩
  · exact (θ_run _ _ _).mono (fun r h c => ⟨(h c).1.trans (Cert.JoinedIdeal.Mine.result4 m c), (h c).2.1.trans (Cert.JoinedIdeal.Mine.result5 m c), (h c).2.2⟩)
      (Cert.JoinedIdeal.Value.run_blocks (F := Ideal) m ρ)
  · refine (θ_run _ _ _).mono (fun r h c => ⟨(h c).1.trans ?_, (h c).2.1.trans ?_, (h c).2.2⟩) (Cert.JoinedRefIdeal.Mine.run m' ρ')
    · rw [(ha c).1, (ha c).2.1, (ha c).2.2.1]
    · rw [(ha c).1, (ha c).2.1, (ha c).2.2.1, (ha c).2.2.2]

end Cert.Joined.Mine

end
-- ==== Proof.Turn.lean ====
/- The derivative of dividing a row by its root mean square: folded, as the kernel takes it, and by the chain rule, as the reference
   takes it, are equal at every extended real row. -/
module

public import proofs.«01_k».proof.Proof.Prod

@[expose] public section

noncomputable section

namespace Cert.Turn

open Idealize.ShloMosaic

theorem wide_real : Ideal.ofBits FTy.f32 0x44800000#32 = ((1024 : ℝ) : EReal) := by
  simp [Ideal.ofBits, Ideal.ieee, -EReal.coe_mul]; norm_num
theorem half_real : Ideal.ofBits FTy.f32 0xBF000000#32 = ((-(1 / 2) : ℝ) : EReal) := by
  simp [Ideal.ofBits, Ideal.ieee, -EReal.coe_mul]; norm_num
theorem small_pos : (0 : EReal) < Ideal.ofBits FTy.f32 0x358637BD#32 := by
  have e : Ideal.ofBits FTy.f32 0x358637BD#32 = ((8796093 * (2 : ℝ) ^ (-43 : ℤ) : ℝ) : EReal) := by
    simp [Ideal.ofBits, Ideal.ieee, -EReal.coe_mul]
  rw [e]
  exact_mod_cast (by positivity : (0 : ℝ) < 8796093 * (2 : ℝ) ^ (-43 : ℤ))

/-- Division by the row's length. -/
theorem div_wide (a : EReal) : Ideal.div a (Ideal.ofBits FTy.f32 0x44800000#32) = a * ((1 / 1024 : ℝ) : EReal) := by
  rw [wide_real]
  have h : ((1024 : ℝ) : EReal) ≠ 0 := by exact_mod_cast (by norm_num : (1024 : ℝ) ≠ 0)
  simp [Ideal.div, h, EReal.coe_inv]

/-- A square is not negative. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- A row's mean square, raised, is positive. -/
theorem positive (x : Fin 1024 → EReal) :
    0 < Ideal.div (∑ q, x q * x q) (Ideal.ofBits FTy.f32 0x44800000#32) + Ideal.ofBits FTy.f32 0x358637BD#32 := by
  rw [div_wide]
  have h : (0 : EReal) ≤ (∑ q, x q * x q) * ((1 / 1024 : ℝ) : EReal) :=
    mul_nonneg (Finset.sum_nonneg fun q _ => square_nonneg (x q)) (by exact_mod_cast (by norm_num : (0 : ℝ) ≤ 1 / 1024))
  exact lt_of_lt_of_le small_pos (by simpa using add_le_add_left h (Ideal.ofBits FTy.f32 0x358637BD#32))

/-- A real factor that is not negative comes out of a sum. -/
theorem sum_factor {ι : Type} (s : Finset ι) (f : ι → EReal) (r : ℝ) (hr : 0 ≤ r) : (∑ j ∈ s, f j * (r : EReal)) = (∑ j ∈ s, f j) * (r : EReal) := by
  classical
  induction s using Finset.induction_on with
  | empty => simp
  | insert a s ha ih =>
    rw [Finset.sum_insert ha, Finset.sum_insert ha, ih, mul_comm (f a), mul_comm (∑ j ∈ s, f j), mul_comm (f a + ∑ j ∈ s, f j)]
    exact (EReal.left_distrib_of_nonneg_of_ne_top (by exact_mod_cast hr) (EReal.coe_ne_top _) _ _).symm

/-- Twice half a negative multiple. -/
theorem twice (y : EReal) (k : ℝ) (hk : 0 < k) : y * ((-(1 / 2) * k : ℝ) : EReal) + y * ((-(1 / 2) * k : ℝ) : EReal) = -(y * (k : EReal)) := by
  have hn : -(1 / 2) * k < 0 := by linarith
  induction y with
  | bot => rw [EReal.bot_mul_coe_of_neg hn, EReal.bot_mul_coe_of_pos hk]; rfl
  | top => rw [EReal.top_mul_coe_of_neg hn, EReal.top_mul_coe_of_pos hk]; rfl
  | coe y => rw [← EReal.coe_mul, ← EReal.coe_mul, ← EReal.coe_add, ← EReal.coe_neg]; congr 1; ring

/-- The folded derivative is the chain rule's. -/
theorem turn (x d : Fin 1024 → EReal) (l : Fin 1024) (v : EReal) (hv : 0 < v) :
    Ideal.rsqrt v * (d l - x l * Ideal.rsqrt v * Ideal.div (∑ q, d q * (x q * Ideal.rsqrt v)) (Ideal.ofBits FTy.f32 0x44800000#32))
      = d l * Ideal.rsqrt v
        + x l * Ideal.div ((∑ q, x q * d q) * (Ideal.ofBits FTy.f32 0xBF000000#32 * Ideal.div (Ideal.rsqrt v) v)) (Ideal.ofBits FTy.f32 0x44800000#32)
        + Ideal.div ((∑ q, x q * d q) * (Ideal.ofBits FTy.f32 0xBF000000#32 * Ideal.div (Ideal.rsqrt v) v)) (Ideal.ofBits FTy.f32 0x44800000#32) * x l := by
  simp only [div_wide, half_real]
  induction v with
  | bot => exact absurd hv (by simp)
  | top => simp [Ideal.div]
  | coe v =>
    have hv' : 0 < v := by exact_mod_cast hv
    have hs : 0 < (Real.sqrt v)⁻¹ := inv_pos.mpr (Real.sqrt_pos.mpr hv')
    have er : Ideal.rsqrt (v : EReal) = (((Real.sqrt v)⁻¹ : ℝ) : EReal) := by
      rw [Ideal.rsqrt_coe, if_neg (not_lt.mpr hv'.le), if_neg hv'.ne']
    have ed : Ideal.div (((Real.sqrt v)⁻¹ : ℝ) : EReal) (v : EReal) = (((Real.sqrt v)⁻¹ * v⁻¹ : ℝ) : EReal) := by
      have h : (v : EReal) ≠ 0 := by exact_mod_cast hv'.ne'
      rw [Ideal.div, if_neg h, EReal.coe_mul, EReal.coe_inv v]
    rw [er, ed]
    generalize hρ : (Real.sqrt v)⁻¹ = ρ at hs
    have hvρ : v⁻¹ = ρ * ρ := by rw [← hρ, ← mul_inv, Real.mul_self_sqrt hv'.le]
    rw [hvρ]
    have hk : 0 < ρ * (ρ * ρ) * (1 / 1024) := by positivity
    have e1 : (∑ q, d q * (x q * (ρ : EReal))) = (∑ q, x q * d q) * (ρ : EReal) := by
      rw [← sum_factor _ _ _ hs.le]
      exact Finset.sum_congr rfl fun q _ => by ac_rfl
    rw [e1]
    generalize (∑ q, x q * d q) = S
    have e2 : (ρ : EReal) * (d l - x l * (ρ : EReal) * (S * (ρ : EReal) * ((1 / 1024 : ℝ) : EReal)))
        = d l * (ρ : EReal) + -(x l * S * ((ρ * (ρ * ρ) * (1 / 1024) : ℝ) : EReal)) := by
      rw [sub_eq_add_neg, EReal.left_distrib_of_nonneg_of_ne_top (by exact_mod_cast hs.le) (EReal.coe_ne_top _), mul_neg, mul_comm (ρ : EReal) (d l)]
      congr 2
      rw [EReal.coe_mul, EReal.coe_mul, EReal.coe_mul]
      ac_rfl
    have e3 : S * (((-(1 / 2) : ℝ) : EReal) * ((ρ * (ρ * ρ) : ℝ) : EReal)) * ((1 / 1024 : ℝ) : EReal) = S * ((-(1 / 2) * (ρ * (ρ * ρ) * (1 / 1024)) : ℝ) : EReal) := by
      rw [mul_assoc, ← EReal.coe_mul, ← EReal.coe_mul]
      congr 2
      ring
    rw [e2, e3, add_assoc, mul_comm (S * _) (x l), ← mul_assoc (x l) S, twice _ _ hk]

end Cert.Turn

end
-- ==== Proof.RmsDxEq.lean ====
/- The call `RmsDx`: the gradients of the norm in its rows and in its gain, by the kernel, which folds the derivative and adds the
   gain's gradient block by block, and by the reference, which takes the chain rule step by step. -/
module

public import proofs.«01_k».proof.Proof.Turn
public import proofs.«01_k».proof.Proof.Gen.RmsDx.Frame
public import proofs.«01_k».proof.Proof.Gen.RmsDxIdeal.Value
public import proofs.«01_k».proof.Proof.Gen.RmsDxRefIdeal.Read
public import proofs.«01_k».proof.Defs

@[expose] public section

set_option maxRecDepth 16384

noncomputable section

namespace Cert.RmsDxIdeal.Mine

open Cert.RmsDxIdeal Cert.RmsDxIdeal.Gen Idealize.ShloMosaic Idealize.ShloMosaic.TcCoe Idealize.SL.Sem
open Cert.Prod

/-- The gradient in the rows. -/
def rows (x : Mat 8192 1024) (g : (⟨1, ![1024]⟩ : Shape).Idx → EReal) (d : Mat 8192 1024) : Mat 8192 1024 := mat fun p l => Ideal.rsqrt (Ideal.div (∑ q : Fin 1024, x (ix2 p q) * x (ix2 p q)) (Ideal.ofBits FTy.f32 0x44800000#32) + Ideal.ofBits FTy.f32 0x358637BD#32) * (d (ix2 p l) * g (ix1 l) - x (ix2 p l) * Ideal.rsqrt (Ideal.div (∑ q : Fin 1024, x (ix2 p q) * x (ix2 p q)) (Ideal.ofBits FTy.f32 0x44800000#32) + Ideal.ofBits FTy.f32 0x358637BD#32) * Ideal.div (∑ q : Fin 1024, d (ix2 p q) * g (ix1 q) * (x (ix2 p q) * Ideal.rsqrt (Ideal.div (∑ q : Fin 1024, x (ix2 p q) * x (ix2 p q)) (Ideal.ofBits FTy.f32 0x44800000#32) + Ideal.ofBits FTy.f32 0x358637BD#32))) (Ideal.ofBits FTy.f32 0x44800000#32))

/-- What row `p` adds to entry `l` of the gain's gradient. -/
def term (x d : Mat 8192 1024) (l : Fin 1024) (p : Fin 8192) : EReal := d (ix2 p l) * (x (ix2 p l) * Ideal.rsqrt (Ideal.div (∑ q : Fin 1024, x (ix2 p q) * x (ix2 p q)) (Ideal.ofBits FTy.f32 0x44800000#32) + Ideal.ofBits FTy.f32 0x358637BD#32))

/-- The gradient in the gain, as a row. -/
def gain (x d : Mat 8192 1024) : Mat 1 1024 := mat fun _ l => ∑ p : Fin 8192, term x d l p

/-- What the body writes, entry by entry. -/
theorem pay4 (x0 : Vec Ideal S1024x1024 .f32) (x1 : Vec Ideal S1x1024 .f32) (x2 : Vec Ideal S1024x1024 .bf16) (p : Fin 1024) (l : Fin 1024) :
    k0_pay4 (F := Ideal) x0 x1 x2 (ix2 p l) = Ideal.rsqrt (Ideal.div (∑ q : Fin 1024, x0 (ix2 p q) * x0 (ix2 p q)) (Ideal.ofBits FTy.f32 0x44800000#32) + Ideal.ofBits FTy.f32 0x358637BD#32) * (x2 (ix2 p l) * x1 (ix2 0 l) - x0 (ix2 p l) * Ideal.rsqrt (Ideal.div (∑ q : Fin 1024, x0 (ix2 p q) * x0 (ix2 p q)) (Ideal.ofBits FTy.f32 0x44800000#32) + Ideal.ofBits FTy.f32 0x358637BD#32) * Ideal.div (∑ q : Fin 1024, x2 (ix2 p q) * x1 (ix2 0 q) * (x0 (ix2 p q) * Ideal.rsqrt (Ideal.div (∑ q : Fin 1024, x0 (ix2 p q) * x0 (ix2 p q)) (Ideal.ofBits FTy.f32 0x44800000#32) + Ideal.ofBits FTy.f32 0x358637BD#32))) (Ideal.ofBits FTy.f32 0x44800000#32)) := by
  pointwise [k0_pay4, k0_pay3, k0_pay2, k0_pay1]
theorem pay5 (l : Fin 1024) : k0_pay5 (F := Ideal) (ix2 (0 : Fin 1) l) = (0 : EReal) := by
  pointwise [k0_pay5]
theorem pay6 (x0 : Vec Ideal S1024x1024 .f32) (x2 : Vec Ideal S1024x1024 .bf16) (s : Vec Ideal S1x1024 .f32) (l : Fin 1024) :
    k0_pay6 (F := Ideal) x0 x2 s (ix2 (0 : Fin 1) l) = s (ix2 0 l) + ∑ p : Fin 1024, x2 (ix2 p l) * (x0 (ix2 p l) * Ideal.rsqrt (Ideal.div (∑ q : Fin 1024, x0 (ix2 p q) * x0 (ix2 p q)) (Ideal.ofBits FTy.f32 0x44800000#32) + Ideal.ofBits FTy.f32 0x358637BD#32)) := by
  pointwise [k0_pay6, k0_pay3, k0_pay2, k0_pay1]

section Cases

variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole)
  (x0 : Vec Ideal S1024x1024 .f32) (x1 : Vec Ideal S1x1024 .f32) (x2 : Vec Ideal S1024x1024 .bf16)

theorem rowsA (hc0 : cond0_0 i) (p l : Fin 1024) : out0_A_3 (F := Ideal) c i arg2 harg2 arg3 harg3 arg4 harg4 arg5 harg5 arg6 harg6 hc0 x0 x1 x2 (ix2 p l) = k0_pay4 (F := Ideal) x0 x1 x2 (ix2 p l) := by
  unfold out0_A_3
  rw [View.read_writes_junk_eq_canon]
  unfold kernelRun0_A
  refine (canon_whole _ _ _ p l).trans ?_
  rw [load_buffer, load_buffer, load_buffer]

theorem rowsB (s : Vec Ideal S1x1024 .f32) (hc0 : ¬cond0_0 i) (p l : Fin 1024) : out0_B_3 (F := Ideal) c i arg2 harg2 arg3 harg3 arg4 harg4 arg5 harg5 arg6 harg6 hc0 x0 x1 x2 s (ix2 p l) = k0_pay4 (F := Ideal) x0 x1 x2 (ix2 p l) := by
  unfold out0_B_3
  rw [View.read_writes_junk_eq_canon]
  unfold kernelRun0_B
  refine (canon_whole _ _ _ p l).trans ?_
  rw [load_buffer, load_buffer, load_buffer]

theorem gainA (hc0 : cond0_0 i) (l : Fin 1024) : out0_A_4 (F := Ideal) c i arg2 harg2 arg3 harg3 arg4 harg4 arg5 harg5 arg6 harg6 hc0 x0 x1 x2 (ix2 (0 : Fin 1) l) = 0 + ∑ p : Fin 1024, x2 (ix2 p l) * (x0 (ix2 p l) * Ideal.rsqrt (Ideal.div (∑ q : Fin 1024, x0 (ix2 p q) * x0 (ix2 p q)) (Ideal.ofBits FTy.f32 0x44800000#32) + Ideal.ofBits FTy.f32 0x358637BD#32)) := by
  unfold out0_A_4
  rw [View.read_writes_junk_eq_canon]
  unfold kernelRun0_A
  refine (canon_whole _ _ _ (0 : Fin 1) l).trans ?_
  unfold kernelRun0_A.sl.r
  rw [pay6, load_buffer, load_buffer]
  unfold kernelRun0_A.sl.v34
  rw [load_written]
  unfold kernelRun0_A.sl.H4_1
  rw [canon_whole, pay5]

theorem gainB (s : Vec Ideal S1x1024 .f32) (hc0 : ¬cond0_0 i) (l : Fin 1024) : out0_B_4 (F := Ideal) c i arg2 harg2 arg3 harg3 arg4 harg4 arg5 harg5 arg6 harg6 hc0 x0 x1 x2 s (ix2 (0 : Fin 1) l) = s (ix2 0 l) + ∑ p : Fin 1024, x2 (ix2 p l) * (x0 (ix2 p l) * Ideal.rsqrt (Ideal.div (∑ q : Fin 1024, x0 (ix2 p q) * x0 (ix2 p q)) (Ideal.ofBits FTy.f32 0x44800000#32) + Ideal.ofBits FTy.f32 0x358637BD#32)) := by
  unfold out0_B_4
  rw [View.read_writes_junk_eq_canon]
  unfold kernelRun0_B
  refine (canon_whole _ _ _ (0 : Fin 1) l).trans ?_
  unfold kernelRun0_B.sl.r
  rw [pay6, load_buffer, load_buffer, load_buffer]

end Cases

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)
abbrev a2 : FVec Ideal S8192x1024 .bf16 := m (c.tc.loc main_arg2)

theorem at_main_v0 : V m c main_v0 = shapeCast S1x1024 (a1 m c) shapeCasts_S1024_S1x1024 := by
  show StableHlo.after hostOps0 _ (Proc.devRef .tc main_v0) = _
  after_results
  rfl

theorem lt_points (t : Fin cfg0.N) : t.val < 8 := Nat.lt_of_lt_of_eq t.isLt N_0
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel

/-- Row `p` of block `t`. -/
def row (t : Fin cfg0.N) (p : Fin 1024) : Fin 8192 := ⟨1024 * t.val + p.val, by have := lt_points t; omega⟩

abbrev b0 (t : Fin cfg0.N) : Vec Ideal S1024x1024 .f32 := iblk m c 0 t
abbrev b1 (t : Fin cfg0.N) : Vec Ideal S1x1024 .f32 := iblk m c 1 t
abbrev b2 (t : Fin cfg0.N) : Vec Ideal S1024x1024 .bf16 := iblk m c 2 t

theorem block0 (t : Fin cfg0.N) (p : Fin 1024) (q : Fin 1024) : b0 m c t (ix2 p q) = a0 m c (ix2 (row t p) q) := by
  show V m c main_arg0 _ = _
  rw [V_main_arg0]
  exact congrArg (a0 m c) (at_block (index0 t) 1024 1024 p.val q.val rfl rfl rfl (by omega))

theorem block2 (t : Fin cfg0.N) (p : Fin 1024) (q : Fin 1024) : b2 m c t (ix2 p q) = a2 m c (ix2 (row t p) q) := by
  show V m c main_arg2 _ = _
  rw [V_main_arg2]
  exact congrArg (a2 m c) (at_block (index2 t) 1024 1024 p.val q.val rfl rfl rfl (by omega))

theorem block1 (t : Fin cfg0.N) (l : Fin 1024) : b1 m c t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index1 t) 1 1024 (0 : Fin 1).val l.val rfl rfl rfl (by omega))
  · pointwise []

theorem block3 (t : Fin cfg0.N) (X : FVec Ideal S8192x1024 .f32) (p : Fin 1024) (l : Fin 1024) :
    ((cfg0.win 3).blk t).view.read (Elt Ideal) X (ix2 p l) = X (ix2 (row t p) l) := by
  exact congrArg X (at_block (index3 t) 1024 1024 p.val l.val rfl rfl rfl (by omega))

theorem block4 (t : Fin cfg0.N) (X : FVec Ideal S1x1024 .f32) (p : Fin 1) (l : Fin 1024) :
    ((cfg0.win 4).blk t).view.read (Elt Ideal) X (ix2 p l) = X (ix2 p l) := by
  exact congrArg X (at_block (index4 t) 1 1024 p.val l.val rfl rfl (by omega) (by omega))

theorem cut3 (t : Fin cfg0.N) (X : Vec Ideal S1024x1024 .f32) (p : Fin 1024) (l : Fin 1024) : (cfg0.win 3).cut (grid0.coords t) X (ix2 p l) = X (ix2 p l) := rfl
theorem cut4 (t : Fin cfg0.N) (X : Vec Ideal S1x1024 .f32) (p : Fin 1) (l : Fin 1024) : (cfg0.win 4).cut (grid0.coords t) X (ix2 p l) = X (ix2 p l) := rfl

/-- The rows that point `t` leaves. -/
theorem left (t : Fin cfg0.N) (p l : Fin 1024) : (outsAt0 m c t.val t.isLt).1 (ix2 p l) = k0_pay4 (F := Ideal) (b0 m c t) (b1 m c t) (b2 m c t) (ix2 p l) := by
  by_cases h : t.val % 8 = 0
  · rw [outsAt0_A m c t h]
    dsimp only
    exact rowsA c (grid0.coords t) (ms0_0 t) (hs0_0 t) (ms0_1 t) (hs0_1 t) (ms0_2 t) (hs0_2 t) (ms0_3 t) (hs0_3 t) (ms0_4 t) (hs0_4 t) (b0 m c t) (b1 m c t) (b2 m c t) ((hcond0_0 t).mpr h) p l
  · rw [outsAt0_B m c t h]
    dsimp only
    exact rowsB c (grid0.coords t) (ms0_0 t) (hs0_0 t) (ms0_1 t) (hs0_1 t) (ms0_2 t) (hs0_2 t) (ms0_3 t) (hs0_3 t) (ms0_4 t) (hs0_4 t) (b0 m c t) (b1 m c t) (b2 m c t) _ (fun h' => h ((hcond0_0 t).mp h')) p l

/-- What point `t` writes back is its rows of the gradient. -/
theorem written (t : Fin cfg0.N) : (dats m 0 c).flushed 3 t = ((cfg0.win 3).blk t).view.read (Elt Ideal) (rows (a0 m c) (a1 m c) (a2 m c)) := by
  rw [Value.flushed3]
  refine Prod.ext (n := 1024) (m := 1024) fun p l => ?_
  refine (cut3 t _ p l).trans (Eq.trans ?_ (block3 t (rows (a0 m c) (a1 m c) (a2 m c)) p l).symm)
  rw [left, pay4]
  simp only [block0, block1, block2]
  rfl

/-- What point `n` adds to entry `l` of the gain's gradient. -/
def added (l : Fin 1024) (n : ℕ) : EReal := if h : n < cfg0.N then ∑ r : Fin 1024, term (a0 m c) (a2 m c) l (row ⟨n, h⟩ r) else 0

theorem added_of_blocks (t : Fin cfg0.N) (l : Fin 1024) :
    ((∑ p : Fin 1024, b2 m c t (ix2 p l) * (b0 m c t (ix2 p l) * Ideal.rsqrt (Ideal.div (∑ q : Fin 1024, b0 m c t (ix2 p q) * b0 m c t (ix2 p q)) (Ideal.ofBits FTy.f32 0x44800000#32) + Ideal.ofBits FTy.f32 0x358637BD#32))) : EReal) = added m c l t.val := by
  refine Eq.trans ?_ (dif_pos (c := t.val < cfg0.N) (t := fun h => ∑ r : Fin 1024, term (a0 m c) (a2 m c) l (row ⟨t.val, h⟩ r)) (e := fun _ => 0) t.isLt).symm
  refine Finset.sum_congr rfl fun r _ => ?_
  simp only [block0, block2]
  rfl

/-- The first point starts from zero. -/
theorem first (t : Fin cfg0.N) (h : t.val % 8 = 0) (l : Fin 1024) : (outsAt0 m c t.val t.isLt).2 (ix2 (0 : Fin 1) l) = 0 + added m c l t.val := by
  rw [outsAt0_A m c t h]
  dsimp only
  refine (gainA c (grid0.coords t) (ms0_0 t) (hs0_0 t) (ms0_1 t) (hs0_1 t) (ms0_2 t) (hs0_2 t) (ms0_3 t) (hs0_3 t) (ms0_4 t) (hs0_4 t) (b0 m c t) (b1 m c t) (b2 m c t) ((hcond0_0 t).mpr h) l).trans ?_
  exact congrArg (fun z : EReal => 0 + z) (added_of_blocks m c t l)

/-- Every later point adds to what the point before left. -/
theorem later (t : Fin cfg0.N) (h : ¬t.val % 8 = 0) (l : Fin 1024) :
    (outsAt0 m c t.val t.isLt).2 (ix2 (0 : Fin 1) l) = (outsAt0 m c (t.val - 1) (Nat.lt_of_le_of_lt (Nat.sub_le _ _) t.isLt)).2 (ix2 (0 : Fin 1) l) + added m c l t.val := by
  rw [outsAt0_B m c t h]
  dsimp only
  refine (gainB c (grid0.coords t) (ms0_0 t) (hs0_0 t) (ms0_1 t) (hs0_1 t) (ms0_2 t) (hs0_2 t) (ms0_3 t) (hs0_3 t) (ms0_4 t) (hs0_4 t) (b0 m c t) (b1 m c t) (b2 m c t) _ (fun h' => h ((hcond0_0 t).mp h')) l).trans ?_
  exact congrArg (fun z : EReal => _ + z) (added_of_blocks m c t l)

/-- After the last point the accumulated row is the gain's gradient. -/
theorem last (h : 7 < cfg0.N) (l : Fin 1024) : (outsAt0 m c 7 h).2 (ix2 (0 : Fin 1) l) = ∑ p : Fin 8192, term (a0 m c) (a2 m c) l p := by
  refine (sum_upto (fun n h => (outsAt0 m c n h).2 (ix2 (0 : Fin 1) l)) (added m c l) (fun h => first m c ⟨0, h⟩ rfl l)
    (fun n h => later m c ⟨n + 1, h⟩ (by have := Nat.lt_of_lt_of_eq h N_0; show ¬(n + 1) % 8 = 0; omega) l) 7 h).trans ?_
  exact sum_pieces 1024 8 rfl (term (a0 m c) (a2 m c) l) (added m c l) fun j hj => dif_pos (Nat.lt_of_lt_of_eq hj N_0.symm)

/-- The two result arrays. -/
theorem result_rows : (dats m 0 c).arrAt 3 cfg0.N = rows (a0 m c) (a1 m c) (a2 m c) := by
  refine (dats m 0 c).arrAt_eq_of_cover 3 _ (fun t _ => written m c t) fun i => ?_
  have h0 : (i 0).val < 8192 := (i 0).isLt
  have h1 : (i 1).val < 1024 := (i 1).isLt
  let t : Fin cfg0.N := ⟨(i 0).val / 1024, Nat.lt_of_lt_of_eq (by omega) N_0.symm⟩
  refine ⟨t, flush0_3 t, ?_⟩
  show i ∈ ((View.whole main_v1_0).slice (win0_3.rect t)).set
  rw [View.set_slice_whole, Rect.mem_set_unit]
  exact inside (index3 t) 1024 1024 rfl rfl rfl rfl (by show (i 0).val / 1024 * 1024 ≤ (i 0).val ∧ (i 0).val < (i 0).val / 1024 * 1024 + 1024; omega) (by show 0 * 1024 ≤ (i 1).val ∧ (i 1).val < 0 * 1024 + 1024; omega)

theorem result_gain : (dats m 0 c).arrAt 4 cfg0.N = gain (a0 m c) (a2 m c) := by
  refine (dats m 0 c).arrAt_eq_of_cover 4 _ (fun t hf => ?_) fun i => ?_
  · have ht : t.val % 8 = 7 := (flush0_4 t).mp hf
    have hl := lt_points t
    have e : t.val = 7 := by omega
    rw [Value.flushed4]
    refine Prod.ext (n := 1) (m := 1024) fun p l => ?_
    refine (cut4 t _ p l).trans (Eq.trans ?_ (block4 t (gain (a0 m c) (a2 m c)) p l).symm)
    obtain ⟨n, hn⟩ := t
    dsimp only at e
    subst e
    obtain rfl : p = 0 := Subsingleton.elim _ _
    exact last m c hn l
  · have h0 : (i 0).val < 1 := (i 0).isLt
    have h1 : (i 1).val < 1024 := (i 1).isLt
    let t : Fin cfg0.N := ⟨7, Nat.lt_of_lt_of_eq (by omega) N_0.symm⟩
    refine ⟨t, (flush0_4 t).mpr rfl, ?_⟩
    show i ∈ ((View.whole main_v1_1).slice (win0_4.rect t)).set
    rw [View.set_slice_whole, Rect.mem_set_unit]
    exact inside (index4 t) 1 1024 rfl rfl rfl rfl (by show 0 * 1 ≤ (i 0).val ∧ (i 0).val < 0 * 1 + 1; omega) (by show 0 * 1024 ≤ (i 1).val ∧ (i 1).val < 0 * 1024 + 1024; omega)

end Cert.RmsDxIdeal.Mine

namespace Cert.RmsDxRefIdeal.Mine

open Cert.RmsDxRefIdeal Cert.RmsDxRefIdeal.Gen Idealize.ShloMosaic Idealize.ShloMosaic.TcCoe Idealize.SL.Sem
open Cert.Prod

/-- The reference's results are the same functions of its arguments. -/
theorem result_rows (x0 : FVec Ideal S8192x1024 .f32) (x1 : FVec Ideal S1024 .f32) (x2 : FVec Ideal S8192x1024 .bf16) :
    Read.val_main_v36 (F := Ideal) x0 x1 x2 = Cert.RmsDxIdeal.Mine.rows x0 x1 x2 := by
  refine Prod.ext (n := 8192) (m := 1024) fun p l => ?_
  refine Eq.trans ?_ (mat_ix2 _ p l).symm
  refine Eq.trans ?_ (Cert.Turn.turn (fun q => x0 (ix2 p q)) (fun q => x2 (ix2 p q) * x1 (ix1 q)) l _ (Cert.Turn.positive fun q => x0 (ix2 p q))).symm
  pointwise [Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v21, Read.val_main_v20, Read.val_main_v16, Read.val_main_v13, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_5, Read.val_main_cst_6, Read.val_main_cst_7]
  simp only [Finset.univ_unique, Finset.sum_singleton]

theorem result_gain (x0 : FVec Ideal S8192x1024 .f32) (x2 : FVec Ideal S8192x1024 .bf16) :
    Read.val_main_v37 (F := Ideal) x0 x2 = Cert.RmsDxIdeal.Mine.gain x0 x2 := by
  refine Prod.ext (n := 1) (m := 1024) fun p l => ?_
  refine Eq.trans ?_ (mat_ix2 _ p l).symm
  unfold Cert.RmsDxIdeal.Mine.term
  pointwise [Read.val_main_v37, Read.val_main_v22, Read.val_main_v19, Read.val_main_v18, Read.val_main_v17, Read.val_main_v16, Read.val_main_v12, Read.val_main_v11, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_3, Read.val_main_cst_4]
  simp only [Finset.univ_unique, Finset.sum_singleton]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = Cert.RmsDxIdeal.Mine.rows (m (c.tc.loc main_arg0)) (m (c.tc.loc main_arg1)) (m (c.tc.loc main_arg2))
      ∧ r.2.mem ((c.tc : Thread nD τ).loc main_v37) = Cert.RmsDxIdeal.Mine.gain (m (c.tc.loc main_arg0)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h c).1.trans (Read.val_main_v36_eq ..)).trans (result_rows _ _ _), ((h c).2.1.trans (Read.val_main_v37_eq ..)).trans (result_gain _ _), (h c).2.2⟩)
    (Value.run (F := Ideal) m ρ)

end Cert.RmsDxRefIdeal.Mine

namespace Cert.RmsDx.Mine

open Idealize.ShloMosaic Idealize.ShloMosaic.TcCoe Idealize.SL.Sem

/-- From the same arguments, both programs end with the same gradients. -/
theorem equal : Cert.algebraic_RmsDxIdeal_RmsDxRefIdeal (hRmsDxIdeal := Cert.RmsDxIdeal.Gen.facts) (hRmsDxRefIdeal := Cert.RmsDxRefIdeal.Gen.facts) := by
  intro m ρ m' ρ' _ ha
  refine ⟨fun c => Cert.RmsDxIdeal.Mine.rows (Cert.RmsDxIdeal.Mine.a0 m c) (Cert.RmsDxIdeal.Mine.a1 m c) (Cert.RmsDxIdeal.Mine.a2 m c),
    fun c => Cert.RmsDxIdeal.Mine.gain (Cert.RmsDxIdeal.Mine.a0 m c) (Cert.RmsDxIdeal.Mine.a2 m c), ?_, ?_⟩
  · exact (θ_run _ _ _).mono (fun r h c => ⟨(h c).1.trans (Cert.RmsDxIdeal.Mine.result_rows m c), (h c).2.1.trans (Cert.RmsDxIdeal.Mine.result_gain m c), (h c).2.2⟩)
      (Cert.RmsDxIdeal.Value.run_blocks (F := Ideal) m ρ)
  · refine (θ_run _ _ _).mono (fun r h c => ⟨(h c).1.trans ?_, (h c).2.1.trans ?_, (h c).2.2⟩) (Cert.RmsDxRefIdeal.Mine.run m' ρ')
    · rw [(ha c).1, (ha c).2.1, (ha c).2.2]
    · rw [(ha c).1, (ha c).2.2]

end Cert.RmsDx.Mine

end
-- ==== Proof.Chain.lean ====
/- The derivative of dividing a row by its root mean square, in its two forms, named. -/
module

public import proofs.«01_k».proof.Proof.Turn

@[expose] public section

noncomputable section

namespace Cert.Turn

open Idealize.ShloMosaic

/-- One over a row's root mean square. -/
def recip (x : Fin 1024 → EReal) : EReal :=
  Ideal.rsqrt (Ideal.div (∑ q : Fin 1024, x q * x q) (Ideal.ofBits FTy.f32 0x44800000#32) + Ideal.ofBits FTy.f32 0x358637BD#32)

/-- The derivative, folded. -/
def folded (x d : Fin 1024 → EReal) (l : Fin 1024) : EReal :=
  recip x * (d l - x l * recip x * Ideal.div (∑ q : Fin 1024, d q * (x q * recip x)) (Ideal.ofBits FTy.f32 0x44800000#32))

/-- What the mean square's part of the derivative gives each entry. -/
def steep (x d : Fin 1024 → EReal) : EReal :=
  Ideal.div ((∑ q : Fin 1024, x q * d q) * (Ideal.ofBits FTy.f32 0xBF000000#32 * Ideal.div (recip x) (Ideal.div (∑ q : Fin 1024, x q * x q) (Ideal.ofBits FTy.f32 0x44800000#32) + Ideal.ofBits FTy.f32 0x358637BD#32))) (Ideal.ofBits FTy.f32 0x44800000#32)

/-- The derivative, by the chain rule. -/
def chained (x d : Fin 1024 → EReal) (l : Fin 1024) : EReal := d l * recip x + x l * steep x d + steep x d * x l

theorem folded_eq (x d : Fin 1024 → EReal) (l : Fin 1024) : folded x d l = chained x d l := turn x d l _ (positive x)

end Cert.Turn

end
-- ==== Proof.ResidualDxEq.lean ====
/- The call `ResidualDx`: the gradients of the residual plus the normed rows, by the kernel, which folds the derivative and adds the
   gain's gradient block by block, and by the reference, which takes the chain rule step by step. -/
module

public import proofs.«01_k».proof.Proof.Chain
public import proofs.«01_k».proof.Proof.Gen.ResidualDx.Frame
public import proofs.«01_k».proof.Proof.Gen.ResidualDxIdeal.Value
public import proofs.«01_k».proof.Proof.Gen.ResidualDxRefIdeal.Read
public import proofs.«01_k».proof.Defs

@[expose] public section

set_option maxRecDepth 16384

noncomputable section

namespace Cert.ResidualDxIdeal.Mine

open Cert.ResidualDxIdeal Cert.ResidualDxIdeal.Gen Idealize.ShloMosaic Idealize.ShloMosaic.TcCoe Idealize.SL.Sem
open Cert.Prod Cert.Turn

/-- The gradient in the normed rows. -/
def F0 (y : Mat 8192 1024) (g : ((⟨1, ![1024]⟩ : Shape).Idx → EReal)) (d : Mat 8192 1024) : Mat 8192 1024 := mat fun p l =>
  folded (fun q => y (ix2 p q)) (fun q => d (ix2 p q) * g (ix1 q)) l

/-- The gradient in the residual is the one that came in. -/
def F1 (y : Mat 8192 1024) (g : ((⟨1, ![1024]⟩ : Shape).Idx → EReal)) (d : Mat 8192 1024) : Mat 8192 1024 := d

/-- What row `p` adds to entry `l` of the gain's gradient. -/
def term2 (y : Mat 8192 1024) (g : ((⟨1, ![1024]⟩ : Shape).Idx → EReal)) (d : Mat 8192 1024) (l : Fin 1024) (p : Fin 8192) : EReal :=
  d (ix2 p l) * (y (ix2 p l) * recip (fun q => y (ix2 p q)))

/-- The gain's gradient, as a row. -/
def F2 (y : Mat 8192 1024) (g : ((⟨1, ![1024]⟩ : Shape).Idx → EReal)) (d : Mat 8192 1024) : Mat 1 1024 := mat fun _ l => ∑ p : Fin 8192, term2 y g d l p

/-- What the body writes, entry by entry. -/
theorem pay4 (x0 : Vec Ideal S512x1024 .f32) (x2 : Vec Ideal S1x1024 .f32) (x3 : Vec Ideal S512x1024 .f32) (p : Fin 512) (l : Fin 1024) :
    k0_pay4 (F := Ideal) x3 x0 x2 (ix2 p l) = folded (fun q => x0 (ix2 p q)) (fun q => x3 (ix2 p q) * x2 (ix2 0 q)) l := by
  unfold folded recip
  pointwise [k0_pay4, k0_pay3, k0_pay2]
theorem pay5 (x0 x3 : Vec Ideal S512x1024 .f32) (l : Fin 1024) :
    k0_pay5 (F := Ideal) x3 x0 (ix2 (0 : Fin 1) l) = ∑ p : Fin 512, x3 (ix2 p l) * (x0 (ix2 p l) * recip (fun q => x0 (ix2 p q))) := by
  unfold recip
  pointwise [k0_pay5, k0_pay3, k0_pay2]
theorem pay6 (l : Fin 1024) : k0_pay6 (F := Ideal) (ix2 (0 : Fin 1) l) = (0 : EReal) := by
  pointwise [k0_pay6]
theorem pay1 (s t : Vec Ideal S1x1024 .f32) (l : Fin 1024) : k0_pay1 (F := Ideal) s t (ix2 (0 : Fin 1) l) = t (ix2 0 l) + s (ix2 0 l) := by
  pointwise [k0_pay1]

section Cases

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (x0 : Vec Ideal S512x1024 .f32) (x1 : Vec Ideal S512x1024 .f32) (x2 : Vec Ideal S1x1024 .f32) (x3 : Vec Ideal S512x1024 .f32)

theorem caseA4 (hc0 : cond0_0 i) (p : Fin 512) (l : Fin 1024) : out0_A_4 (F := Ideal) c i arg2 harg2 arg3 harg3 arg4 harg4 arg5 harg5 arg6 harg6 arg7 harg7 arg8 harg8 hc0 x0 x1 x2 x3 (ix2 p l) = folded (fun q => x0 (ix2 p q)) (fun q => x3 (ix2 p q) * x2 (ix2 0 q)) l := by
  unfold out0_A_4
  rw [View.read_writes_junk_eq_canon]
  unfold kernelRun0_A
  refine (canon_whole _ _ _ p l).trans ?_
  rw [pay4, load_buffer, load_buffer, load_buffer]

theorem caseB4 (s6 : Vec Ideal S1x1024 .f32) (hc0 : ¬cond0_0 i) (p : Fin 512) (l : Fin 1024) : out0_B_4 (F := Ideal) c i arg2 harg2 arg3 harg3 arg4 harg4 arg5 harg5 arg6 harg6 arg7 harg7 arg8 harg8 hc0 x0 x1 x2 x3 s6 (ix2 p l) = folded (fun q => x0 (ix2 p q)) (fun q => x3 (ix2 p q) * x2 (ix2 0 q)) l := by
  unfold out0_B_4
  rw [View.read_writes_junk_eq_canon]
  unfold kernelRun0_B
  refine (canon_whole _ _ _ p l).trans ?_
  rw [pay4, load_buffer, load_buffer, load_buffer]

theorem caseA5 (hc0 : cond0_0 i) (p : Fin 512) (l : Fin 1024) : out0_A_5 (F := Ideal) c i arg2 harg2 arg3 harg3 arg4 harg4 arg5 harg5 arg6 harg6 arg7 harg7 arg8 harg8 hc0 x0 x1 x2 x3 (ix2 p l) = x3 (ix2 p l) := by
  unfold out0_A_5
  rw [View.read_writes_junk_eq_canon]
  unfold kernelRun0_A
  refine (canon_whole _ _ _ p l).trans ?_
  rw [load_buffer]

theorem caseB5 (s6 : Vec Ideal S1x1024 .f32) (hc0 : ¬cond0_0 i) (p : Fin 512) (l : Fin 1024) : out0_B_5 (F := Ideal) c i arg2 harg2 arg3 harg3 arg4 harg4 arg5 harg5 arg6 harg6 arg7 harg7 arg8 harg8 hc0 x0 x1 x2 x3 s6 (ix2 p l) = x3 (ix2 p l) := by
  unfold out0_B_5
  rw [View.read_writes_junk_eq_canon]
  unfold kernelRun0_B
  refine (canon_whole _ _ _ p l).trans ?_
  rw [load_buffer]

theorem caseA6 (hc0 : cond0_0 i) (l : Fin 1024) : out0_A_6 (F := Ideal) c i arg2 harg2 arg3 harg3 arg4 harg4 arg5 harg5 arg6 harg6 arg7 harg7 arg8 harg8 hc0 x0 x1 x2 x3 (ix2 (0 : Fin 1) l) = 0 + (∑ p : Fin 512, x3 (ix2 p l) * (x0 (ix2 p l) * recip (fun q => x0 (ix2 p q)))) := by
  unfold out0_A_6
  rw [View.read_writes_junk_eq_canon]
  unfold kernelRun0_A
  refine (canon_whole _ _ _ (0 : Fin 1) l).trans ?_
  unfold kernelRun0_A.sl.r
  rw [pay1, pay5, load_buffer, load_buffer]
  unfold kernelRun0_A.sl.v34
  rw [load_written]
  unfold kernelRun0_A.sl.H6_1
  rw [canon_whole, pay6]

theorem caseB6 (s6 : Vec Ideal S1x1024 .f32) (hc0 : ¬cond0_0 i) (l : Fin 1024) : out0_B_6 (F := Ideal) c i arg2 harg2 arg3 harg3 arg4 harg4 arg5 harg5 arg6 harg6 arg7 harg7 arg8 harg8 hc0 x0 x1 x2 x3 s6 (ix2 (0 : Fin 1) l) = s6 (ix2 0 l) + (∑ p : Fin 512, x3 (ix2 p l) * (x0 (ix2 p l) * recip (fun q => x0 (ix2 p q)))) := by
  unfold out0_B_6
  rw [View.read_writes_junk_eq_canon]
  unfold kernelRun0_B
  refine (canon_whole _ _ _ (0 : Fin 1) l).trans ?_
  unfold kernelRun0_B.sl.r kernelRun0_B.sl.r_1
  rw [pay1, pay5, load_buffer, load_buffer, load_buffer]

end Cases

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)
abbrev a2 : FVec Ideal S8192x1024 .f32 := m (c.tc.loc main_arg2)
abbrev a3 : FVec Ideal S8192x1024 .f32 := m (c.tc.loc main_arg3)

theorem at_main_v0 : V m c main_v0 = shapeCast S1x1024 (a1 m c) shapeCasts_S1024_S1x1024 := by
  show StableHlo.after hostOps0 _ (Proc.devRef .tc main_v0) = _
  after_results
  rfl

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![0, 0] := by decide +kernel

/-- Row `p` of block `t`. -/
def row (t : Fin cfg0.N) (p : Fin 512) : Fin 8192 := ⟨512 * t.val + p.val, by have := lt_points t; omega⟩

/-- What point `n` adds to a sum of `f` over the rows. -/
def added (f : Fin 8192 → EReal) (n : ℕ) : EReal := if h : n < cfg0.N then ∑ r : Fin 512, f (row ⟨n, h⟩ r) else 0

theorem added_lt (f : Fin 8192 → EReal) (t : Fin cfg0.N) : added f t.val = ∑ r : Fin 512, f (row t r) :=
  dif_pos (c := t.val < cfg0.N) (t := fun h => ∑ r : Fin 512, f (row ⟨t.val, h⟩ r)) (e := fun _ => 0) t.isLt

/-- The points together add the whole sum. -/
theorem total (f : Fin 8192 → EReal) : ∑ j ∈ Finset.range (15 + 1), added f j = ∑ p : Fin 8192, f p :=
  sum_pieces 512 16 rfl f (added f) fun j hj => added_lt f ⟨j, Nat.lt_of_lt_of_eq hj N_0.symm⟩

/-- The results in the arguments, and the terms of the accumulated rows. -/
abbrev R0 : Mat 8192 1024 := F0 (a0 m c) (a1 m c) (a3 m c)
abbrev R1 : Mat 8192 1024 := F1 (a0 m c) (a1 m c) (a3 m c)
abbrev R2 : Mat 1 1024 := F2 (a0 m c) (a1 m c) (a3 m c)
abbrev T2 (l : Fin 1024) : Fin 8192 → EReal := term2 (a0 m c) (a1 m c) (a3 m c) l

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S512x1024 .f32 := iblk m c 3 t

theorem block0 (t : Fin cfg0.N) (p : Fin 512) (q : Fin 1024) : b0 m c t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (p : Fin 512) (q : Fin 1024) : b1 m c t (ix2 p q) = a2 m c (ix2 (row t p) q) := by
  show V m c main_arg2 _ = _
  rw [V_main_arg2]
  exact congrArg (a2 m c) (at_block (index1 t) 512 1024 p.val q.val rfl rfl rfl (by omega))

theorem block2 (t : Fin cfg0.N) (l : Fin 1024) : b2 m c t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index2 t) 1 1024 (0 : Fin 1).val l.val rfl rfl rfl (by omega))
  · pointwise []

theorem block3 (t : Fin cfg0.N) (p : Fin 512) (q : Fin 1024) : b3 m c t (ix2 p q) = a3 m c (ix2 (row t p) q) := by
  show V m c main_arg3 _ = _
  rw [V_main_arg3]
  exact congrArg (a3 m c) (at_block (index3 t) 512 1024 p.val q.val rfl rfl rfl (by omega))

theorem block4 (t : Fin cfg0.N) (X : FVec Ideal S8192x1024 .f32) (p : Fin 512) (l : Fin 1024) :
    ((cfg0.win 4).blk t).view.read (Elt Ideal) X (ix2 p l) = X (ix2 (row t p) l) := by
  exact congrArg X (at_block (index4 t) 512 1024 p.val l.val rfl rfl rfl (by omega))

theorem cut4 (t : Fin cfg0.N) (X : Vec Ideal S512x1024 .f32) (p : Fin 512) (l : Fin 1024) : (cfg0.win 4).cut (grid0.coords t) X (ix2 p l) = X (ix2 p l) := rfl

theorem block5 (t : Fin cfg0.N) (X : FVec Ideal S8192x1024 .f32) (p : Fin 512) (l : Fin 1024) :
    ((cfg0.win 5).blk t).view.read (Elt Ideal) X (ix2 p l) = X (ix2 (row t p) l) := by
  exact congrArg X (at_block (index5 t) 512 1024 p.val l.val rfl rfl rfl (by omega))

theorem cut5 (t : Fin cfg0.N) (X : Vec Ideal S512x1024 .f32) (p : Fin 512) (l : Fin 1024) : (cfg0.win 5).cut (grid0.coords t) X (ix2 p l) = X (ix2 p l) := rfl

theorem block6 (t : Fin cfg0.N) (X : FVec Ideal S1x1024 .f32) (p : Fin 1) (l : Fin 1024) :
    ((cfg0.win 6).blk t).view.read (Elt Ideal) X (ix2 p l) = X (ix2 p l) := by
  exact congrArg X (at_block (index6 t) 1 1024 p.val l.val rfl rfl (by omega) (by omega))

theorem cut6 (t : Fin cfg0.N) (X : Vec Ideal S1x1024 .f32) (p : Fin 1) (l : Fin 1024) : (cfg0.win 6).cut (grid0.coords t) X (ix2 p l) = X (ix2 p l) := rfl

/-- The rows of result 0 that point `t` leaves. -/
theorem left4 (t : Fin cfg0.N) (p : Fin 512) (l : Fin 1024) : (outsAt0 m c t.val t.isLt).1 (ix2 p l) = folded (fun q => (b0 m c t) (ix2 p q)) (fun q => (b3 m c t) (ix2 p q) * (b2 m c t) (ix2 0 q)) l := by
  by_cases h : t.val % 16 = 0
  · rw [outsAt0_A m c t h]
    dsimp only
    exact caseA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) ((hcond0_0 t).mpr h) p l
  · rw [outsAt0_B m c t h]
    dsimp only
    exact caseB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) _ (fun h' => h ((hcond0_0 t).mp h')) p l

/-- What point `t` writes back is its rows of the result. -/
theorem written4 (t : Fin cfg0.N) : (dats m 0 c).flushed 4 t = ((cfg0.win 4).blk t).view.read (Elt Ideal) (R0 m c) := by
  rw [Value.flushed4]
  refine Prod.ext (n := 512) (m := 1024) fun p l => ?_
  refine (cut4 t _ p l).trans (Eq.trans ?_ (block4 t (R0 m c) p l).symm)
  rw [left4]
  simp only [block0, block1, block2, block3]
  rfl

/-- The result array. -/
theorem result4 : (dats m 0 c).arrAt 4 cfg0.N = R0 m c := by
  refine (dats m 0 c).arrAt_eq_of_cover 4 _ (fun t _ => written4 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_4 t, ?_⟩
  show i ∈ ((View.whole main_v1_0).slice (win0_4.rect t)).set
  rw [View.set_slice_whole, Rect.mem_set_unit]
  exact inside (index4 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

/-- The rows of result 1 that point `t` leaves. -/
theorem left5 (t : Fin cfg0.N) (p : Fin 512) (l : Fin 1024) : (outsAt0 m c t.val t.isLt).2.1 (ix2 p l) = (b3 m c t) (ix2 p l) := by
  by_cases h : t.val % 16 = 0
  · rw [outsAt0_A m c t h]
    dsimp only
    exact caseA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) ((hcond0_0 t).mpr h) p l
  · rw [outsAt0_B m c t h]
    dsimp only
    exact caseB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) _ (fun h' => h ((hcond0_0 t).mp h')) p l

/-- What point `t` writes back is its rows of the result. -/
theorem written5 (t : Fin cfg0.N) : (dats m 0 c).flushed 5 t = ((cfg0.win 5).blk t).view.read (Elt Ideal) (R1 m c) := by
  rw [Value.flushed5]
  refine Prod.ext (n := 512) (m := 1024) fun p l => ?_
  refine (cut5 t _ p l).trans (Eq.trans ?_ (block5 t (R1 m c) p l).symm)
  rw [left5]
  simp only [block0, block1, block2, block3]
  rfl

/-- The result array. -/
theorem result5 : (dats m 0 c).arrAt 5 cfg0.N = R1 m c := by
  refine (dats m 0 c).arrAt_eq_of_cover 5 _ (fun t _ => written5 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_5 t, ?_⟩
  show i ∈ ((View.whole main_v1_1).slice (win0_5.rect t)).set
  rw [View.set_slice_whole, Rect.mem_set_unit]
  exact inside (index5 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

theorem added6_of_blocks (t : Fin cfg0.N) (l : Fin 1024) :
    ((∑ p : Fin 512, (b3 m c t) (ix2 p l) * ((b0 m c t) (ix2 p l) * recip (fun q => (b0 m c t) (ix2 p q)))) : EReal) = added (T2 m c l) t.val := by
  refine Eq.trans ?_ (added_lt (T2 m c l) t).symm
  refine Finset.sum_congr rfl fun r _ => ?_
  simp only [block0, block1, block2, block3]
  rfl

/-- The first point starts from zero. -/
theorem first6 (t : Fin cfg0.N) (h : t.val % 16 = 0) (l : Fin 1024) : (outsAt0 m c t.val t.isLt).2.2 (ix2 (0 : Fin 1) l) = 0 + added (T2 m c l) t.val := by
  rw [outsAt0_A m c t h]
  dsimp only
  refine (caseA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) ((hcond0_0 t).mpr h) l).trans ?_
  exact congrArg (fun z : EReal => 0 + z) (added6_of_blocks m c t l)

/-- Every later point adds to what the point before left. -/
theorem later6 (t : Fin cfg0.N) (h : ¬t.val % 16 = 0) (l : Fin 1024) :
    (outsAt0 m c t.val t.isLt).2.2 (ix2 (0 : Fin 1) l) = (outsAt0 m c (t.val - 1) (Nat.lt_of_le_of_lt (Nat.sub_le _ _) t.isLt)).2.2 (ix2 (0 : Fin 1) l) + added (T2 m c l) t.val := by
  rw [outsAt0_B m c t h]
  dsimp only
  refine (caseB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (b0 m c t) (b1 m c t) (b2 m c t) (b3 m c t) _ (fun h' => h ((hcond0_0 t).mp h')) l).trans ?_
  exact congrArg (fun z : EReal => _ + z) (added6_of_blocks m c t l)

/-- After the last point the accumulated row is the gain's gradient. -/
theorem last6 (t : Fin cfg0.N) (e : t.val = 15) (l : Fin 1024) : (outsAt0 m c t.val t.isLt).2.2 (ix2 (0 : Fin 1) l) = ∑ p : Fin 8192, T2 m c l p := by
  refine (sum_upto (fun n h => (outsAt0 m c n h).2.2 (ix2 (0 : Fin 1) l)) (added (T2 m c l)) (fun h => first6 m c ⟨0, h⟩ rfl l)
    (fun n h => later6 m c ⟨n + 1, h⟩ (by have := Nat.lt_of_lt_of_eq h N_0; show ¬(n + 1) % 16 = 0; omega) l) t.val t.isLt).trans ?_
  rw [e]
  exact total (T2 m c l)

theorem result6 : (dats m 0 c).arrAt 6 cfg0.N = R2 m c := by
  refine (dats m 0 c).arrAt_eq_of_cover 6 _ (fun t hf => ?_) fun i => ?_
  · have ht : t.val % 16 = 15 := (flush0_6 t).mp hf
    have hl := lt_points t
    have e : t.val = 15 := by omega
    rw [Value.flushed6]
    refine Prod.ext (n := 1) (m := 1024) fun p l => ?_
    refine (cut6 t _ p l).trans (Eq.trans ?_ (block6 t (R2 m c) p l).symm)
    obtain rfl : p = 0 := Subsingleton.elim _ _
    rw [last6 m c t e l]
    rfl
  · have h0 : (i 0).val < 1 := (i 0).isLt
    have h1 : (i 1).val < 1024 := (i 1).isLt
    let t : Fin cfg0.N := ⟨15, Nat.lt_of_lt_of_eq (by omega) N_0.symm⟩
    refine ⟨t, (flush0_6 t).mpr rfl, ?_⟩
    show i ∈ ((View.whole main_v1_2).slice (win0_6.rect t)).set
    rw [View.set_slice_whole, Rect.mem_set_unit]
    exact inside (index6 t) 1 1024 rfl rfl rfl rfl (by show 0 * 1 ≤ (i 0).val ∧ (i 0).val < 0 * 1 + 1; omega) (by show 0 * 1024 ≤ (i 1).val ∧ (i 1).val < 0 * 1024 + 1024; omega)

end Cert.ResidualDxIdeal.Mine

namespace Cert.ResidualDxRefIdeal.Mine

open Cert.ResidualDxRefIdeal Cert.ResidualDxRefIdeal.Gen Idealize.ShloMosaic Idealize.ShloMosaic.TcCoe Idealize.SL.Sem
open Cert.Prod Cert.Turn

/-- The reference's results are the same functions of its arguments. -/
theorem result0 (x0 : FVec Ideal S8192x1024 .f32) (x1 : FVec Ideal S1024 .f32) (x3 : FVec Ideal S8192x1024 .f32) : Read.val_main_v37 (F := Ideal) x0 x1 x3 = Cert.ResidualDxIdeal.Mine.F0 x0 x1 x3 := by
  refine Prod.ext (n := 8192) (m := 1024) fun p l => ?_
  refine Eq.trans ?_ (mat_ix2 _ p l).symm
  rw [folded_eq]
  unfold chained steep recip
  pointwise [Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v22, Read.val_main_v21, Read.val_main_v17, Read.val_main_v13, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7]
  simp only [Finset.univ_unique, Finset.sum_singleton]

theorem result2 (x0 : FVec Ideal S8192x1024 .f32) (x1 : FVec Ideal S1024 .f32) (x3 : FVec Ideal S8192x1024 .f32) : Read.val_main_v38 (F := Ideal) x0 x3 = Cert.ResidualDxIdeal.Mine.F2 x0 x1 x3 := by
  refine Prod.ext (n := 1) (m := 1024) fun p l => ?_
  refine Eq.trans ?_ (mat_ix2 _ p l).symm
  unfold Cert.ResidualDxIdeal.Mine.term2 recip
  pointwise [Read.val_main_v38, Read.val_main_v23, Read.val_main_v20, Read.val_main_v19, Read.val_main_v18, Read.val_main_v17, Read.val_main_v12, Read.val_main_v11, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7]
  simp only [Finset.univ_unique, Finset.sum_singleton]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = Cert.ResidualDxIdeal.Mine.F0 (m (c.tc.loc main_arg0)) (m (c.tc.loc main_arg1)) (m (c.tc.loc main_arg3))
      ∧ r.2.mem ((c.tc : Thread nD τ).loc main_arg3) = Cert.ResidualDxIdeal.Mine.F1 (m (c.tc.loc main_arg0)) (m (c.tc.loc main_arg1)) (m (c.tc.loc main_arg3))
      ∧ r.2.mem ((c.tc : Thread nD τ).loc main_v38) = Cert.ResidualDxIdeal.Mine.F2 (m (c.tc.loc main_arg0)) (m (c.tc.loc main_arg1)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h c).1.trans (Read.val_main_v37_eq ..)).trans (result0 _ _ _), (h c).2.1, ((h c).2.2.1.trans (Read.val_main_v38_eq ..)).trans (result2 _ _ _), (h c).2.2.2⟩)
    (Value.run (F := Ideal) m ρ)

end Cert.ResidualDxRefIdeal.Mine

namespace Cert.ResidualDx.Mine

open Idealize.ShloMosaic Idealize.ShloMosaic.TcCoe Idealize.SL.Sem

/-- From the same arguments, both programs end with the same gradients. -/
theorem equal : Cert.algebraic_ResidualDxIdeal_ResidualDxRefIdeal (hResidualDxIdeal := Cert.ResidualDxIdeal.Gen.facts) (hResidualDxRefIdeal := Cert.ResidualDxRefIdeal.Gen.facts) := by
  intro m ρ m' ρ' _ ha
  refine ⟨fun c => Cert.ResidualDxIdeal.Mine.F0 (Cert.ResidualDxIdeal.Mine.a0 m c) (Cert.ResidualDxIdeal.Mine.a1 m c) (Cert.ResidualDxIdeal.Mine.a3 m c), fun c => Cert.ResidualDxIdeal.Mine.F1 (Cert.ResidualDxIdeal.Mine.a0 m c) (Cert.ResidualDxIdeal.Mine.a1 m c) (Cert.ResidualDxIdeal.Mine.a3 m c), fun c => Cert.ResidualDxIdeal.Mine.F2 (Cert.ResidualDxIdeal.Mine.a0 m c) (Cert.ResidualDxIdeal.Mine.a1 m c) (Cert.ResidualDxIdeal.Mine.a3 m c), ?_, ?_⟩
  · exact (θ_run _ _ _).mono (fun r h c => ⟨(h c).1.trans (Cert.ResidualDxIdeal.Mine.result4 m c), (h c).2.1.trans (Cert.ResidualDxIdeal.Mine.result5 m c), (h c).2.2.1.trans (Cert.ResidualDxIdeal.Mine.result6 m c), (h c).2.2.2⟩)
      (Cert.ResidualDxIdeal.Value.run_blocks (F := Ideal) m ρ)
  · refine (θ_run _ _ _).mono (fun r h c => ⟨(h c).1.trans ?_, (h c).2.1.trans ?_, (h c).2.2.1.trans ?_, (h c).2.2.2⟩) (Cert.ResidualDxRefIdeal.Mine.run m' ρ')
    · rw [(ha c).1, (ha c).2.1, (ha c).2.2.2]
    · exact (ha c).2.2.2
    · rw [(ha c).1, (ha c).2.1, (ha c).2.2.2]

end Cert.ResidualDx.Mine

end
-- ==== Proof.JoinedDxEq.lean ====
/- The call `JoinedDx`: the gradients of the residual plus the normed rows and of those rows normed again, by the kernel, which folds
   both derivatives and adds the gains' gradients block by block, and by the reference, which takes the chain rule step by step. -/
module

public import proofs.«01_k».proof.Proof.Chain
public import proofs.«01_k».proof.Proof.Gen.JoinedDx.Frame
public import proofs.«01_k».proof.Proof.Gen.JoinedDxIdeal.Value
public import proofs.«01_k».proof.Proof.Gen.JoinedDxRefIdeal.Read
public import proofs.«01_k».proof.Defs

@[expose] public section

set_option maxRecDepth 16384

noncomputable section

namespace Cert.JoinedDxIdeal.Mine

open Cert.JoinedDxIdeal Cert.JoinedDxIdeal.Gen Idealize.ShloMosaic Idealize.ShloMosaic.TcCoe Idealize.SL.Sem
open Cert.Prod Cert.Turn

/-- The joined rows: the residual plus the normed rows. -/
def joined (y : Mat 8192 1024) (g : ((⟨1, ![1024]⟩ : Shape).Idx → EReal)) (x : Mat 8192 1024) (p : Fin 8192) (l : Fin 1024) : EReal :=
  x (ix2 p l) + y (ix2 p l) * recip (fun q => y (ix2 p q)) * g (ix1 l)

/-- The gradient in the joined rows: the one that came in and the one of the second norm. -/
def whole (y : Mat 8192 1024) (g : ((⟨1, ![1024]⟩ : Shape).Idx → EReal)) (x : Mat 8192 1024) (h : ((⟨1, ![1024]⟩ : Shape).Idx → EReal)) (d e : Mat 8192 1024) (p : Fin 8192) (l : Fin 1024) : EReal :=
  d (ix2 p l) + folded (joined y g x p) (fun q => e (ix2 p q) * h (ix1 q)) l

/-- The gradient in the normed rows. -/
def F0 (y : Mat 8192 1024) (g : ((⟨1, ![1024]⟩ : Shape).Idx → EReal)) (x : Mat 8192 1024) (h : ((⟨1, ![1024]⟩ : Shape).Idx → EReal)) (d e : Mat 8192 1024) : Mat 8192 1024 := mat fun p l =>
  folded (fun q => y (ix2 p q)) (fun q => whole y g x h d e p q * g (ix1 q)) l

/-- The gradient in the residual. -/
def F1 (y : Mat 8192 1024) (g : ((⟨1, ![1024]⟩ : Shape).Idx → EReal)) (x : Mat 8192 1024) (h : ((⟨1, ![1024]⟩ : Shape).Idx → EReal)) (d e : Mat 8192 1024) : Mat 8192 1024 := mat fun p l => whole y g x h d e p l

/-- What row `p` adds to entry `l` of the first gain's gradient. -/
def term2 (y : Mat 8192 1024) (g : ((⟨1, ![1024]⟩ : Shape).Idx → EReal)) (x : Mat 8192 1024) (h : ((⟨1, ![1024]⟩ : Shape).Idx → EReal)) (d e : Mat 8192 1024) (l : Fin 1024) (p : Fin 8192) : EReal :=
  whole y g x h d e p l * (y (ix2 p l) * recip (fun q => y (ix2 p q)))

/-- What row `p` adds to entry `l` of the second gain's gradient. -/
def term3 (y : Mat 8192 1024) (g : ((⟨1, ![1024]⟩ : Shape).Idx → EReal)) (x : Mat 8192 1024) (h : ((⟨1, ![1024]⟩ : Shape).Idx → EReal)) (d e : Mat 8192 1024) (l : Fin 1024) (p : Fin 8192) : EReal :=
  e (ix2 p l) * (joined y g x p l * recip (joined y g x p))

/-- The first gain's gradient, as a row. -/
def F2 (y : Mat 8192 1024) (g : ((⟨1, ![1024]⟩ : Shape).Idx → EReal)) (x : Mat 8192 1024) (h : ((⟨1, ![1024]⟩ : Shape).Idx → EReal)) (d e : Mat 8192 1024) : Mat 1 1024 := mat fun _ l => ∑ p : Fin 8192, term2 y g x h d e l p

/-- The second gain's gradient, as a row. -/
def F3 (y : Mat 8192 1024) (g : ((⟨1, ![1024]⟩ : Shape).Idx → EReal)) (x : Mat 8192 1024) (h : ((⟨1, ![1024]⟩ : Shape).Idx → EReal)) (d e : Mat 8192 1024) : Mat 1 1024 := mat fun _ l => ∑ p : Fin 8192, term3 y g x h d e l p

section Payloads

variable (x0 x1 : Vec Ideal S512x1024 .f32) (x2 x3 : Vec Ideal S1x1024 .f32) (x4 : Vec Ideal S512x1024 .f32) (x5 : Vec Ideal S512x1024 .bf16)

/-- A block's joined rows. -/
def blockJoined (p : Fin 512) (l : Fin 1024) : EReal := x1 (ix2 p l) + x0 (ix2 p l) * recip (fun q => x0 (ix2 p q)) * x2 (ix2 0 l)

/-- The gradient in a block's joined rows. -/
def blockWhole (p : Fin 512) (l : Fin 1024) : EReal :=
  x4 (ix2 p l) + folded (blockJoined x0 x1 x2 p) (fun q => x5 (ix2 p q) * x3 (ix2 0 q)) l

/-- What the body writes, entry by entry. -/
theorem pay5 (p : Fin 512) (l : Fin 1024) : k0_pay5 (F := Ideal) x0 x1 x2 (ix2 p l) = blockJoined x0 x1 x2 p l := by
  unfold blockJoined recip
  pointwise [k0_pay5, k0_pay3]
theorem pay6 (p : Fin 512) : k0_pay6 (F := Ideal) x0 x1 x2 (ix2 p (0 : Fin 1)) = recip (blockJoined x0 x1 x2 p) := by
  unfold recip
  pointwise [k0_pay6]
  simp only [pay5]
theorem pay7 (p : Fin 512) (l : Fin 1024) : k0_pay7 (F := Ideal) x0 x1 x2 (ix2 p l) = blockJoined x0 x1 x2 p l * recip (blockJoined x0 x1 x2 p) := by
  pointwise [k0_pay7]
  simp only [pay5, pay6]
theorem pay8 (p : Fin 512) (l : Fin 1024) : k0_pay8 (F := Ideal) x3 x5 (ix2 p l) = x5 (ix2 p l) * x3 (ix2 0 l) := by
  pointwise [k0_pay8, k0_pay4]
theorem pay9 (p : Fin 512) : k0_pay9 (F := Ideal) x0 x1 x2 x3 x5 (ix2 p (0 : Fin 1)) = ∑ q : Fin 1024, x5 (ix2 p q) * x3 (ix2 0 q) * (blockJoined x0 x1 x2 p q * recip (blockJoined x0 x1 x2 p)) := by
  pointwise [k0_pay9]
  simp only [pay7, pay8]
theorem pay12 (p : Fin 512) (l : Fin 1024) : k0_pay12 (F := Ideal) x4 (k0_pay6 x0 x1 x2) (k0_pay7 x0 x1 x2) (k0_pay8 x3 x5) (k0_pay9 x0 x1 x2 x3 x5) (k0_pay10 (F := Ideal)) (ix2 p l) = blockWhole x0 x1 x2 x3 x4 x5 p l := by
  unfold blockWhole folded
  pointwise [k0_pay12, k0_pay10]
  simp only [pay6, pay7, pay8, pay9]
theorem pay13 (p : Fin 512) : k0_pay13 (F := Ideal) x0 (ix2 p (0 : Fin 1)) = recip (fun q => x0 (ix2 p q)) := by
  unfold recip
  pointwise [k0_pay13]
theorem pay14 (p : Fin 512) (l : Fin 1024) : k0_pay14 (F := Ideal) x0 (ix2 p l) = x0 (ix2 p l) * recip (fun q => x0 (ix2 p q)) := by
  pointwise [k0_pay14]
  simp only [pay13]
theorem pay15 (p : Fin 512) (l : Fin 1024) : k0_pay15 (F := Ideal) x0 (k0_pay3 x2) x4 (k0_pay6 x0 x1 x2) (k0_pay7 x0 x1 x2) (k0_pay8 x3 x5) (k0_pay9 x0 x1 x2 x3 x5) (k0_pay10 (F := Ideal)) (ix2 p l)
    = folded (fun q => x0 (ix2 p q)) (fun q => blockWhole x0 x1 x2 x3 x4 x5 p q * x2 (ix2 0 q)) l := by
  unfold folded
  pointwise [k0_pay15, k0_pay3]
  simp only [pay12, pay13, pay14]
theorem pay11 (l : Fin 1024) : k0_pay11 (F := Ideal) (k0_pay4 x5) (k0_pay7 x0 x1 x2) (ix2 (0 : Fin 1) l) = ∑ p : Fin 512, x5 (ix2 p l) * (blockJoined x0 x1 x2 p l * recip (blockJoined x0 x1 x2 p)) := by
  pointwise [k0_pay11, k0_pay4]
  simp only [pay7]
theorem pay16 (l : Fin 1024) : k0_pay16 (F := Ideal) x0 x4 (k0_pay6 x0 x1 x2) (k0_pay7 x0 x1 x2) (k0_pay8 x3 x5) (k0_pay9 x0 x1 x2 x3 x5) (k0_pay10 (F := Ideal)) (ix2 (0 : Fin 1) l)
    = ∑ p : Fin 512, blockWhole x0 x1 x2 x3 x4 x5 p l * (x0 (ix2 p l) * recip (fun q => x0 (ix2 p q))) := by
  pointwise [k0_pay16]
  simp only [pay12, pay14]
theorem pay17 (l : Fin 1024) : k0_pay17 (F := Ideal) (ix2 (0 : Fin 1) l) = (0 : EReal) := by
  pointwise [k0_pay17]
theorem pay18 (l : Fin 1024) : k0_pay18 (F := Ideal) (ix2 (0 : Fin 1) l) = (0 : EReal) := by
  pointwise [k0_pay18]
theorem pay19 (s : Vec Ideal S1x1024 .f32) (l : Fin 1024) : k0_pay19 (F := Ideal) s (ix2 (0 : Fin 1) l) = s (ix2 0 l) := by
  pointwise [k0_pay19]
theorem pay1 (s t : Vec Ideal S1x1024 .f32) (l : Fin 1024) : k0_pay1 (F := Ideal) s t (ix2 (0 : Fin 1) l) = t (ix2 0 l) + s (ix2 0 l) := by
  pointwise [k0_pay1]
theorem pay2 (s t : Vec Ideal S1x1024 .f32) (l : Fin 1024) : k0_pay2 (F := Ideal) s t (ix2 (0 : Fin 1) l) = t (ix2 0 l) + s (ix2 0 l) := by
  pointwise [k0_pay2]

end Payloads

section Cases

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .bf16) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S1x1024 .f32) (harg11 : arg11.IsWhole)
  (x0 : Vec Ideal S512x1024 .f32) (x1 : Vec Ideal S512x1024 .f32) (x2 : Vec Ideal S1x1024 .f32) (x3 : Vec Ideal S1x1024 .f32) (x4 : Vec Ideal S512x1024 .f32) (x5 : Vec Ideal S512x1024 .bf16)

theorem caseA6 (hc0 : cond0_0 i) (p : Fin 512) (l : Fin 1024) : out0_A_6 (F := Ideal) c i arg2 harg2 arg3 harg3 arg4 harg4 arg5 harg5 arg6 harg6 arg7 harg7 arg8 harg8 arg9 harg9 arg10 harg10 arg11 harg11 hc0 x0 x1 x2 x3 x4 x5 (ix2 p l) = folded (fun q => x0 (ix2 p q)) (fun q => blockWhole x0 x1 x2 x3 x4 x5 p q * x2 (ix2 0 q)) l := by
  unfold out0_A_6
  rw [View.read_writes_junk_eq_canon]
  unfold kernelRun0_A
  refine (canon_whole _ _ _ p l).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7]
  rw [load_buffer, load_buffer, load_buffer, load_buffer, load_buffer, load_buffer]
  exact pay15 x0 x1 x2 x3 x4 x5 p l

theorem caseB6 (s8 s9 : Vec Ideal S1x1024 .f32) (hc0 : ¬cond0_0 i) (p : Fin 512) (l : Fin 1024) : out0_B_6 (F := Ideal) c i arg2 harg2 arg3 harg3 arg4 harg4 arg5 harg5 arg6 harg6 arg7 harg7 arg8 harg8 arg9 harg9 arg10 harg10 arg11 harg11 hc0 x0 x1 x2 x3 x4 x5 s8 s9 (ix2 p l) = folded (fun q => x0 (ix2 p q)) (fun q => blockWhole x0 x1 x2 x3 x4 x5 p q * x2 (ix2 0 q)) l := by
  unfold out0_B_6
  rw [View.read_writes_junk_eq_canon]
  unfold kernelRun0_B
  refine (canon_whole _ _ _ p l).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7]
  rw [load_buffer, load_buffer, load_buffer, load_buffer, load_buffer, load_buffer]
  exact pay15 x0 x1 x2 x3 x4 x5 p l

theorem caseA7 (hc0 : cond0_0 i) (p : Fin 512) (l : Fin 1024) : out0_A_7 (F := Ideal) c i arg2 harg2 arg3 harg3 arg4 harg4 arg5 harg5 arg6 harg6 arg7 harg7 arg8 harg8 arg9 harg9 arg10 harg10 arg11 harg11 hc0 x0 x1 x2 x3 x4 x5 (ix2 p l) = blockWhole x0 x1 x2 x3 x4 x5 p l := by
  unfold out0_A_7
  rw [View.read_writes_junk_eq_canon]
  unfold kernelRun0_A
  refine (canon_whole _ _ _ p l).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7]
  rw [load_buffer, load_buffer, load_buffer, load_buffer, load_buffer, load_buffer]
  exact pay12 x0 x1 x2 x3 x4 x5 p l

theorem caseB7 (s8 s9 : Vec Ideal S1x1024 .f32) (hc0 : ¬cond0_0 i) (p : Fin 512) (l : Fin 1024) : out0_B_7 (F := Ideal) c i arg2 harg2 arg3 harg3 arg4 harg4 arg5 harg5 arg6 harg6 arg7 harg7 arg8 harg8 arg9 harg9 arg10 harg10 arg11 harg11 hc0 x0 x1 x2 x3 x4 x5 s8 s9 (ix2 p l) = blockWhole x0 x1 x2 x3 x4 x5 p l := by
  unfold out0_B_7
  rw [View.read_writes_junk_eq_canon]
  unfold kernelRun0_B
  refine (canon_whole _ _ _ p l).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7]
  rw [load_buffer, load_buffer, load_buffer, load_buffer, load_buffer, load_buffer]
  exact pay12 x0 x1 x2 x3 x4 x5 p l

theorem caseA8 (hc0 : cond0_0 i) (l : Fin 1024) : out0_A_8 (F := Ideal) c i arg2 harg2 arg3 harg3 arg4 harg4 arg5 harg5 arg6 harg6 arg7 harg7 arg8 harg8 arg9 harg9 arg10 harg10 arg11 harg11 hc0 x0 x1 x2 x3 x4 x5 (ix2 (0 : Fin 1) l) = 0 + (∑ p : Fin 512, blockWhole x0 x1 x2 x3 x4 x5 p l * (x0 (ix2 p l) * recip (fun q => x0 (ix2 p q)))) := by
  unfold out0_A_8
  rw [View.read_writes_junk_eq_canon]
  unfold kernelRun0_A
  refine (canon_whole _ _ _ (0 : Fin 1) l).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_9, kernelRun0_A.sl.r_10]
  rw [pay1, pay19, load_buffer, load_buffer, load_buffer, load_buffer, load_buffer, load_buffer, pay16]
  unfold kernelRun0_A.sl.v78
  rw [load_written]
  unfold kernelRun0_A.sl.H8_1
  rw [canon_whole, pay17]

theorem caseB8 (s8 s9 : Vec Ideal S1x1024 .f32) (hc0 : ¬cond0_0 i) (l : Fin 1024) : out0_B_8 (F := Ideal) c i arg2 harg2 arg3 harg3 arg4 harg4 arg5 harg5 arg6 harg6 arg7 harg7 arg8 harg8 arg9 harg9 arg10 harg10 arg11 harg11 hc0 x0 x1 x2 x3 x4 x5 s8 s9 (ix2 (0 : Fin 1) l) = s8 (ix2 0 l) + (∑ p : Fin 512, blockWhole x0 x1 x2 x3 x4 x5 p l * (x0 (ix2 p l) * recip (fun q => x0 (ix2 p q)))) := by
  unfold out0_B_8
  rw [View.read_writes_junk_eq_canon]
  unfold kernelRun0_B
  refine (canon_whole _ _ _ (0 : Fin 1) l).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_9, kernelRun0_B.sl.r_10]
  rw [pay1, pay19, load_buffer, load_buffer, load_buffer, load_buffer, load_buffer, load_buffer, pay16]
  rw [load_buffer]

theorem caseA9 (hc0 : cond0_0 i) (l : Fin 1024) : out0_A_9 (F := Ideal) c i arg2 harg2 arg3 harg3 arg4 harg4 arg5 harg5 arg6 harg6 arg7 harg7 arg8 harg8 arg9 harg9 arg10 harg10 arg11 harg11 hc0 x0 x1 x2 x3 x4 x5 (ix2 (0 : Fin 1) l) = 0 + (∑ p : Fin 512, x5 (ix2 p l) * (blockJoined x0 x1 x2 p l * recip (blockJoined x0 x1 x2 p))) := by
  unfold out0_A_9
  rw [View.read_writes_junk_eq_canon]
  unfold kernelRun0_A
  refine (canon_whole _ _ _ (0 : Fin 1) l).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  rw [pay2, load_buffer, load_buffer, load_buffer, load_buffer, pay11]
  unfold kernelRun0_A.sl.v82
  rw [load_written]
  unfold kernelRun0_A.sl.H9_1
  rw [canon_whole, pay18]

theorem caseB9 (s8 s9 : Vec Ideal S1x1024 .f32) (hc0 : ¬cond0_0 i) (l : Fin 1024) : out0_B_9 (F := Ideal) c i arg2 harg2 arg3 harg3 arg4 harg4 arg5 harg5 arg6 harg6 arg7 harg7 arg8 harg8 arg9 harg9 arg10 harg10 arg11 harg11 hc0 x0 x1 x2 x3 x4 x5 s8 s9 (ix2 (0 : Fin 1) l) = s9 (ix2 0 l) + (∑ p : Fin 512, x5 (ix2 p l) * (blockJoined x0 x1 x2 p l * recip (blockJoined x0 x1 x2 p))) := by
  unfold out0_B_9
  rw [View.read_writes_junk_eq_canon]
  unfold kernelRun0_B
  refine (canon_whole _ _ _ (0 : Fin 1) l).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  rw [pay2, load_buffer, load_buffer, load_buffer, load_buffer, pay11]
  rw [load_buffer]

end Cases

variable (m : (ℓ : Loc nD τ sig) → Buf (Elt Ideal) ℓ) (c : Dev nD)

abbrev a0 : FVec Ideal S8192x1024 .f32 := m (c.tc.loc main_arg0)
abbrev a1 : FVec Ideal S1024 .f32 := m (c.tc.loc main_arg1)
abbrev a2 : FVec Ideal S8192x1024 .f32 := m (c.tc.loc main_arg2)
abbrev a3 : FVec Ideal S1024 .f32 := m (c.tc.loc main_arg3)
abbrev a4 : FVec Ideal S8192x1024 .f32 := m (c.tc.loc main_arg4)
abbrev a5 : FVec Ideal S8192x1024 .bf16 := m (c.tc.loc main_arg5)

theorem at_main_v0 : V m c main_v0 = shapeCast S1x1024 (a1 m c) shapeCasts_S1024_S1x1024 := by
  show StableHlo.after hostOps0 _ (Proc.devRef .tc main_v0) = _
  after_results
  rfl

theorem at_main_v1 : V m c main_v1 = shapeCast S1x1024 (a3 m c) shapeCasts_S1024_S1x1024 := by
  show StableHlo.after hostOps0 _ (Proc.devRef .tc main_v1) = _
  after_results
  rfl

theorem lt_points (t : Fin cfg0.N) : t.val < 16 := Nat.lt_of_lt_of_eq t.isLt N_0
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![0, 0] := by decide +kernel
theorem index9 : ∀ t : Fin cfg0.N, win0_9.index t = ![0, 0] := by decide +kernel

/-- Row `p` of block `t`. -/
def row (t : Fin cfg0.N) (p : Fin 512) : Fin 8192 := ⟨512 * t.val + p.val, by have := lt_points t; omega⟩

/-- What point `n` adds to a sum of `f` over the rows. -/
def added (f : Fin 8192 → EReal) (n : ℕ) : EReal := if h : n < cfg0.N then ∑ r : Fin 512, f (row ⟨n, h⟩ r) else 0

theorem added_lt (f : Fin 8192 → EReal) (t : Fin cfg0.N) : added f t.val = ∑ r : Fin 512, f (row t r) :=
  dif_pos (c := t.val < cfg0.N) (t := fun h => ∑ r : Fin 512, f (row ⟨t.val, h⟩ r)) (e := fun _ => 0) t.isLt

/-- The points together add the whole sum. -/
theorem total (f : Fin 8192 → EReal) : ∑ j ∈ Finset.range (15 + 1), added f j = ∑ p : Fin 8192, f p :=
  sum_pieces 512 16 rfl f (added f) fun j hj => added_lt f ⟨j, Nat.lt_of_lt_of_eq hj N_0.symm⟩

/-- The results in the arguments, and the terms of the accumulated rows. -/
abbrev R0 : Mat 8192 1024 := F0 (a0 m c) (a1 m c) (a2 m c) (a3 m c) (a4 m c) (a5 m c)
abbrev R1 : Mat 8192 1024 := F1 (a0 m c) (a1 m c) (a2 m c) (a3 m c) (a4 m c) (a5 m c)
abbrev R2 : Mat 1 1024 := F2 (a0 m c) (a1 m c) (a2 m c) (a3 m c) (a4 m c) (a5 m c)
abbrev T2 (l : Fin 1024) : Fin 8192 → EReal := term2 (a0 m c) (a1 m c) (a2 m c) (a3 m c) (a4 m c) (a5 m c) l
abbrev R3 : Mat 1 1024 := F3 (a0 m c) (a1 m c) (a2 m c) (a3 m c) (a4 m c) (a5 m c)
abbrev T3 (l : Fin 1024) : Fin 8192 → EReal := term3 (a0 m c) (a1 m c) (a2 m c) (a3 m c) (a4 m c) (a5 m c) l

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S1x1024 .f32 := iblk m c 3 t
abbrev b4 (t : Fin cfg0.N) : Vec Ideal S512x1024 .f32 := iblk m c 4 t
abbrev b5 (t : Fin cfg0.N) : Vec Ideal S512x1024 .bf16 := iblk m c 5 t

theorem block0 (t : Fin cfg0.N) (p : Fin 512) (q : Fin 1024) : b0 m c t (ix2 p q) = a0 m c (ix2 (row t p) q) := by
  show V m c main_arg0 _ = _
  rw [V_main_arg0]
  exact congrArg (a0 m c) (at_block (index0 t) 512 1024 p.val q.val rfl rfl rfl (by omega))

theorem block1 (t : Fin cfg0.N) (p : Fin 512) (q : Fin 1024) : b1 m c t (ix2 p q) = a2 m c (ix2 (row t p) q) := by
  show V m c main_arg2 _ = _
  rw [V_main_arg2]
  exact congrArg (a2 m c) (at_block (index1 t) 512 1024 p.val q.val rfl rfl rfl (by omega))

theorem block2 (t : Fin cfg0.N) (l : Fin 1024) : b2 m c t (ix2 (0 : Fin 1) l) = a1 m c (ix1 l) := by
  show V m c main_v0 _ = _
  rw [at_main_v0]
  refine Eq.trans (b := (shapeCast S1x1024 (a1 m c) shapeCasts_S1024_S1x1024 : FVec Ideal S1x1024 .f32) (ix2 (0 : Fin 1) l)) ?_ ?_
  · exact congrArg ((shapeCast S1x1024 (a1 m c) shapeCasts_S1024_S1x1024 : FVec Ideal S1x1024 .f32)) (at_block (index2 t) 1 1024 (0 : Fin 1).val l.val rfl rfl rfl (by omega))
  · pointwise []

theorem block3 (t : Fin cfg0.N) (l : Fin 1024) : b3 m c t (ix2 (0 : Fin 1) l) = a3 m c (ix1 l) := by
  show V m c main_v1 _ = _
  rw [at_main_v1]
  refine Eq.trans (b := (shapeCast S1x1024 (a3 m c) shapeCasts_S1024_S1x1024 : FVec Ideal S1x1024 .f32) (ix2 (0 : Fin 1) l)) ?_ ?_
  · exact congrArg ((shapeCast S1x1024 (a3 m c) shapeCasts_S1024_S1x1024 : FVec Ideal S1x1024 .f32)) (at_block (index3 t) 1 1024 (0 : Fin 1).val l.val rfl rfl rfl (by omega))
  · pointwise []

theorem block4 (t : Fin cfg0.N) (p : Fin 512) (q : Fin 1024) : b4 m c t (ix2 p q) = a4 m c (ix2 (row t p) q) := by
  show V m c main_arg4 _ = _
  rw [V_main_arg4]
  exact congrArg (a4 m c) (at_block (index4 t) 512 1024 p.val q.val rfl rfl rfl (by omega))

theorem block5 (t : Fin cfg0.N) (p : Fin 512) (q : Fin 1024) : b5 m c t (ix2 p q) = a5 m c (ix2 (row t p) q) := by
  show V m c main_arg5 _ = _
  rw [V_main_arg5]
  exact congrArg (a5 m c) (at_block (index5 t) 512 1024 p.val q.val rfl rfl rfl (by omega))

theorem block6 (t : Fin cfg0.N) (X : FVec Ideal S8192x1024 .f32) (p : Fin 512) (l : Fin 1024) :
    ((cfg0.win 6).blk t).view.read (Elt Ideal) X (ix2 p l) = X (ix2 (row t p) l) := by
  exact congrArg X (at_block (index6 t) 512 1024 p.val l.val rfl rfl rfl (by omega))

theorem cut6 (t : Fin cfg0.N) (X : Vec Ideal S512x1024 .f32) (p : Fin 512) (l : Fin 1024) : (cfg0.win 6).cut (grid0.coords t) X (ix2 p l) = X (ix2 p l) := rfl

theorem block7 (t : Fin cfg0.N) (X : FVec Ideal S8192x1024 .f32) (p : Fin 512) (l : Fin 1024) :
    ((cfg0.win 7).blk t).view.read (Elt Ideal) X (ix2 p l) = X (ix2 (row t p) l) := by
  exact congrArg X (at_block (index7 t) 512 1024 p.val l.val rfl rfl rfl (by omega))

theorem cut7 (t : Fin cfg0.N) (X : Vec Ideal S512x1024 .f32) (p : Fin 512) (l : Fin 1024) : (cfg0.win 7).cut (grid0.coords t) X (ix2 p l) = X (ix2 p l) := rfl

theorem block8 (t : Fin cfg0.N) (X : FVec Ideal S1x1024 .f32) (p : Fin 1) (l : Fin 1024) :
    ((cfg0.win 8).blk t).view.read (Elt Ideal) X (ix2 p l) = X (ix2 p l) := by
  exact congrArg X (at_block (index8 t) 1 1024 p.val l.val rfl rfl (by omega) (by omega))

theorem cut8 (t : Fin cfg0.N) (X : Vec Ideal S1x1024 .f32) (p : Fin 1) (l : Fin 1024) : (cfg0.win 8).cut (grid0.coords t) X (ix2 p l) = X (ix2 p l) := rfl

theorem block9 (t : Fin cfg0.N) (X : FVec Ideal S1x1024 .f32) (p : Fin 1) (l : Fin 1024) :
    ((cfg0.win 9).blk t).view.read (Elt Ideal) X (ix2 p l) = X (ix2 p l) := by
  exact congrArg X (at_block (index9 t) 1 1024 p.val l.val rfl rfl (by omega) (by omega))

theorem cut9 (t : Fin cfg0.N) (X : Vec Ideal S1x1024 .f32) (p : Fin 1) (l : Fin 1024) : (cfg0.win 9).cut (grid0.coords t) X (ix2 p l) = X (ix2 p l) := rfl

/-- The rows of result 0 that point `t` leaves. -/
theorem left6 (t : Fin cfg0.N) (p : Fin 512) (l : Fin 1024) : (outsAt0 m c t.val t.isLt).1 (ix2 p l) = folded (fun q => (b0 m c t) (ix2 p q)) (fun q => blockWhole (b0 m c t) (b1 m c t) (b2 m c t) (b3 m c t) (b4 m c t) (b5 m c t) p q * (b2 m c t) (ix2 0 q)) l := by
  by_cases h : t.val % 16 = 0
  · rw [outsAt0_A m c t h]
    dsimp only
    exact caseA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) ((hcond0_0 t).mpr h) p l
  · rw [outsAt0_B m c t h]
    dsimp only
    exact caseB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) _ _ (fun h' => h ((hcond0_0 t).mp h')) p l

/-- What point `t` writes back is its rows of the result. -/
theorem written6 (t : Fin cfg0.N) : (dats m 0 c).flushed 6 t = ((cfg0.win 6).blk t).view.read (Elt Ideal) (R0 m c) := by
  rw [Value.flushed6]
  refine Prod.ext (n := 512) (m := 1024) fun p l => ?_
  refine (cut6 t _ p l).trans (Eq.trans ?_ (block6 t (R0 m c) p l).symm)
  rw [left6]
  unfold blockWhole blockJoined
  simp only [block0, block1, block2, block3, block4, block5]
  rfl

/-- The result array. -/
theorem result6 : (dats m 0 c).arrAt 6 cfg0.N = R0 m c := by
  refine (dats m 0 c).arrAt_eq_of_cover 6 _ (fun t _ => written6 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_6 t, ?_⟩
  show i ∈ ((View.whole main_v2_0).slice (win0_6.rect t)).set
  rw [View.set_slice_whole, Rect.mem_set_unit]
  exact inside (index6 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

/-- The rows of result 1 that point `t` leaves. -/
theorem left7 (t : Fin cfg0.N) (p : Fin 512) (l : Fin 1024) : (outsAt0 m c t.val t.isLt).2.1 (ix2 p l) = blockWhole (b0 m c t) (b1 m c t) (b2 m c t) (b3 m c t) (b4 m c t) (b5 m c t) p l := by
  by_cases h : t.val % 16 = 0
  · rw [outsAt0_A m c t h]
    dsimp only
    exact caseA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) ((hcond0_0 t).mpr h) p l
  · rw [outsAt0_B m c t h]
    dsimp only
    exact caseB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) _ _ (fun h' => h ((hcond0_0 t).mp h')) p l

/-- What point `t` writes back is its rows of the result. -/
theorem written7 (t : Fin cfg0.N) : (dats m 0 c).flushed 7 t = ((cfg0.win 7).blk t).view.read (Elt Ideal) (R1 m c) := by
  rw [Value.flushed7]
  refine Prod.ext (n := 512) (m := 1024) fun p l => ?_
  refine (cut7 t _ p l).trans (Eq.trans ?_ (block7 t (R1 m c) p l).symm)
  rw [left7]
  unfold blockWhole blockJoined
  simp only [block0, block1, block2, block3, block4, block5]
  rfl

/-- The result array. -/
theorem result7 : (dats m 0 c).arrAt 7 cfg0.N = R1 m c := by
  refine (dats m 0 c).arrAt_eq_of_cover 7 _ (fun t _ => written7 m c t) fun i => ?_
  have h0 : (i 0).val < 8192 := (i 0).isLt
  have h1 : (i 1).val < 1024 := (i 1).isLt
  let t : Fin cfg0.N := ⟨(i 0).val / 512, Nat.lt_of_lt_of_eq (by omega) N_0.symm⟩
  refine ⟨t, flush0_7 t, ?_⟩
  show i ∈ ((View.whole main_v2_1).slice (win0_7.rect t)).set
  rw [View.set_slice_whole, Rect.mem_set_unit]
  exact inside (index7 t) 512 1024 rfl rfl rfl rfl (by show (i 0).val / 512 * 512 ≤ (i 0).val ∧ (i 0).val < (i 0).val / 512 * 512 + 512; omega) (by show 0 * 1024 ≤ (i 1).val ∧ (i 1).val < 0 * 1024 + 1024; omega)

theorem added8_of_blocks (t : Fin cfg0.N) (l : Fin 1024) :
    ((∑ p : Fin 512, blockWhole (b0 m c t) (b1 m c t) (b2 m c t) (b3 m c t) (b4 m c t) (b5 m c t) p l * ((b0 m c t) (ix2 p l) * recip (fun q => (b0 m c t) (ix2 p q)))) : EReal) = added (T2 m c l) t.val := by
  refine Eq.trans ?_ (added_lt (T2 m c l) t).symm
  refine Finset.sum_congr rfl fun r _ => ?_
  unfold blockWhole blockJoined
  simp only [block0, block1, block2, block3, block4, block5]
  rfl

/-- The first point starts from zero. -/
theorem first8 (t : Fin cfg0.N) (h : t.val % 16 = 0) (l : Fin 1024) : (outsAt0 m c t.val t.isLt).2.2.1 (ix2 (0 : Fin 1) l) = 0 + added (T2 m c l) t.val := by
  rw [outsAt0_A m c t h]
  dsimp only
  refine (caseA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) ((hcond0_0 t).mpr h) l).trans ?_
  exact congrArg (fun z : EReal => 0 + z) (added8_of_blocks m c t l)

/-- Every later point adds to what the point before left. -/
theorem later8 (t : Fin cfg0.N) (h : ¬t.val % 16 = 0) (l : Fin 1024) :
    (outsAt0 m c t.val t.isLt).2.2.1 (ix2 (0 : Fin 1) l) = (outsAt0 m c (t.val - 1) (Nat.lt_of_le_of_lt (Nat.sub_le _ _) t.isLt)).2.2.1 (ix2 (0 : Fin 1) l) + added (T2 m c l) t.val := by
  rw [outsAt0_B m c t h]
  dsimp only
  refine (caseB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) _ _ (fun h' => h ((hcond0_0 t).mp h')) l).trans ?_
  exact congrArg (fun z : EReal => _ + z) (added8_of_blocks m c t l)

/-- After the last point the accumulated row is the gain's gradient. -/
theorem last8 (t : Fin cfg0.N) (e : t.val = 15) (l : Fin 1024) : (outsAt0 m c t.val t.isLt).2.2.1 (ix2 (0 : Fin 1) l) = ∑ p : Fin 8192, T2 m c l p := by
  refine (sum_upto (fun n h => (outsAt0 m c n h).2.2.1 (ix2 (0 : Fin 1) l)) (added (T2 m c l)) (fun h => first8 m c ⟨0, h⟩ rfl l)
    (fun n h => later8 m c ⟨n + 1, h⟩ (by have := Nat.lt_of_lt_of_eq h N_0; show ¬(n + 1) % 16 = 0; omega) l) t.val t.isLt).trans ?_
  rw [e]
  exact total (T2 m c l)

theorem result8 : (dats m 0 c).arrAt 8 cfg0.N = R2 m c := by
  refine (dats m 0 c).arrAt_eq_of_cover 8 _ (fun t hf => ?_) fun i => ?_
  · have ht : t.val % 16 = 15 := (flush0_8 t).mp hf
    have hl := lt_points t
    have e : t.val = 15 := by omega
    rw [Value.flushed8]
    refine Prod.ext (n := 1) (m := 1024) fun p l => ?_
    refine (cut8 t _ p l).trans (Eq.trans ?_ (block8 t (R2 m c) p l).symm)
    obtain rfl : p = 0 := Subsingleton.elim _ _
    rw [last8 m c t e l]
    rfl
  · have h0 : (i 0).val < 1 := (i 0).isLt
    have h1 : (i 1).val < 1024 := (i 1).isLt
    let t : Fin cfg0.N := ⟨15, Nat.lt_of_lt_of_eq (by omega) N_0.symm⟩
    refine ⟨t, (flush0_8 t).mpr rfl, ?_⟩
    show i ∈ ((View.whole main_v2_2).slice (win0_8.rect t)).set
    rw [View.set_slice_whole, Rect.mem_set_unit]
    exact inside (index8 t) 1 1024 rfl rfl rfl rfl (by show 0 * 1 ≤ (i 0).val ∧ (i 0).val < 0 * 1 + 1; omega) (by show 0 * 1024 ≤ (i 1).val ∧ (i 1).val < 0 * 1024 + 1024; omega)

theorem added9_of_blocks (t : Fin cfg0.N) (l : Fin 1024) :
    ((∑ p : Fin 512, (b5 m c t) (ix2 p l) * (blockJoined (b0 m c t) (b1 m c t) (b2 m c t) p l * recip (blockJoined (b0 m c t) (b1 m c t) (b2 m c t) p))) : EReal) = added (T3 m c l) t.val := by
  refine Eq.trans ?_ (added_lt (T3 m c l) t).symm
  refine Finset.sum_congr rfl fun r _ => ?_
  unfold blockJoined
  simp only [block0, block1, block2, block3, block4, block5]
  rfl

/-- The first point starts from zero. -/
theorem first9 (t : Fin cfg0.N) (h : t.val % 16 = 0) (l : Fin 1024) : (outsAt0 m c t.val t.isLt).2.2.2 (ix2 (0 : Fin 1) l) = 0 + added (T3 m c l) t.val := by
  rw [outsAt0_A m c t h]
  dsimp only
  refine (caseA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) ((hcond0_0 t).mpr h) l).trans ?_
  exact congrArg (fun z : EReal => 0 + z) (added9_of_blocks m c t l)

/-- Every later point adds to what the point before left. -/
theorem later9 (t : Fin cfg0.N) (h : ¬t.val % 16 = 0) (l : Fin 1024) :
    (outsAt0 m c t.val t.isLt).2.2.2 (ix2 (0 : Fin 1) l) = (outsAt0 m c (t.val - 1) (Nat.lt_of_le_of_lt (Nat.sub_le _ _) t.isLt)).2.2.2 (ix2 (0 : Fin 1) l) + added (T3 m c l) t.val := by
  rw [outsAt0_B m c t h]
  dsimp only
  refine (caseB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b0 m c t) (b1 m c t) (b2 m c t) (b3 m c t) (b4 m c t) (b5 m c t) _ _ (fun h' => h ((hcond0_0 t).mp h')) l).trans ?_
  exact congrArg (fun z : EReal => _ + z) (added9_of_blocks m c t l)

/-- After the last point the accumulated row is the gain's gradient. -/
theorem last9 (t : Fin cfg0.N) (e : t.val = 15) (l : Fin 1024) : (outsAt0 m c t.val t.isLt).2.2.2 (ix2 (0 : Fin 1) l) = ∑ p : Fin 8192, T3 m c l p := by
  refine (sum_upto (fun n h => (outsAt0 m c n h).2.2.2 (ix2 (0 : Fin 1) l)) (added (T3 m c l)) (fun h => first9 m c ⟨0, h⟩ rfl l)
    (fun n h => later9 m c ⟨n + 1, h⟩ (by have := Nat.lt_of_lt_of_eq h N_0; show ¬(n + 1) % 16 = 0; omega) l) t.val t.isLt).trans ?_
  rw [e]
  exact total (T3 m c l)

theorem result9 : (dats m 0 c).arrAt 9 cfg0.N = R3 m c := by
  refine (dats m 0 c).arrAt_eq_of_cover 9 _ (fun t hf => ?_) fun i => ?_
  · have ht : t.val % 16 = 15 := (flush0_9 t).mp hf
    have hl := lt_points t
    have e : t.val = 15 := by omega
    rw [Value.flushed9]
    refine Prod.ext (n := 1) (m := 1024) fun p l => ?_
    refine (cut9 t _ p l).trans (Eq.trans ?_ (block9 t (R3 m c) p l).symm)
    obtain rfl : p = 0 := Subsingleton.elim _ _
    rw [last9 m c t e l]
    rfl
  · have h0 : (i 0).val < 1 := (i 0).isLt
    have h1 : (i 1).val < 1024 := (i 1).isLt
    let t : Fin cfg0.N := ⟨15, Nat.lt_of_lt_of_eq (by omega) N_0.symm⟩
    refine ⟨t, (flush0_9 t).mpr rfl, ?_⟩
    show i ∈ ((View.whole main_v2_3).slice (win0_9.rect t)).set
    rw [View.set_slice_whole, Rect.mem_set_unit]
    exact inside (index9 t) 1 1024 rfl rfl rfl rfl (by show 0 * 1 ≤ (i 0).val ∧ (i 0).val < 0 * 1 + 1; omega) (by show 0 * 1024 ≤ (i 1).val ∧ (i 1).val < 0 * 1024 + 1024; omega)

end Cert.JoinedDxIdeal.Mine

namespace Cert.JoinedDxRefIdeal.Mine

open Cert.JoinedDxRefIdeal Cert.JoinedDxRefIdeal.Gen Idealize.ShloMosaic Idealize.ShloMosaic.TcCoe Idealize.SL.Sem
open Cert.Prod Cert.Turn

/-- The reference's joined rows. -/
theorem joined_at (x0 : FVec Ideal S8192x1024 .f32) (x1 : FVec Ideal S1024 .f32) (x2 : FVec Ideal S8192x1024 .f32) (p : Fin 8192) (l : Fin 1024) : Read.val_main_v16 (F := Ideal) x0 x1 x2 (ix2 p l) = Cert.JoinedDxIdeal.Mine.joined x0 x1 x2 p l := by
  unfold Cert.JoinedDxIdeal.Mine.joined recip
  pointwise [Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15, Read.val_main_cst_16]

/-- The gradient in the joined rows. -/
theorem whole_at (x0 : FVec Ideal S8192x1024 .f32) (x1 : FVec Ideal S1024 .f32) (x2 : FVec Ideal S8192x1024 .f32) (x3 : FVec Ideal S1024 .f32) (x4 : FVec Ideal S8192x1024 .f32) (x5 : FVec Ideal S8192x1024 .bf16) (p : Fin 8192) (l : Fin 1024) : Read.val_main_v55 (F := Ideal) x0 x1 x2 x3 x4 x5 (ix2 p l) = Cert.JoinedDxIdeal.Mine.whole x0 x1 x2 x3 x4 x5 p l := by
  unfold Cert.JoinedDxIdeal.Mine.whole
  rw [folded_eq]
  unfold chained steep recip
  pointwise [Read.val_main_v55, Read.val_main_v54, Read.val_main_v53, Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v39, Read.val_main_v38, Read.val_main_v34, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15, Read.val_main_cst_16]
  simp only [joined_at, Finset.univ_unique, Finset.sum_singleton, add_assoc]

/-- The reference's results are the same functions of its arguments. -/
theorem result0 (x0 : FVec Ideal S8192x1024 .f32) (x1 : FVec Ideal S1024 .f32) (x2 : FVec Ideal S8192x1024 .f32) (x3 : FVec Ideal S1024 .f32) (x4 : FVec Ideal S8192x1024 .f32) (x5 : FVec Ideal S8192x1024 .bf16) : Read.val_main_v76 (F := Ideal) x0 x1 x2 x3 x4 x5 = Cert.JoinedDxIdeal.Mine.F0 x0 x1 x2 x3 x4 x5 := by
  refine Prod.ext (n := 8192) (m := 1024) fun p l => ?_
  refine Eq.trans ?_ (mat_ix2 _ p l).symm
  rw [folded_eq]
  unfold chained steep recip
  pointwise [Read.val_main_v76, Read.val_main_v75, Read.val_main_v74, Read.val_main_v73, Read.val_main_v72, Read.val_main_v71, Read.val_main_v70, Read.val_main_v69, Read.val_main_v68, Read.val_main_v67, Read.val_main_v66, Read.val_main_v65, Read.val_main_v64, Read.val_main_v63, Read.val_main_v61, Read.val_main_v60, Read.val_main_v56, Read.val_main_v13, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15, Read.val_main_cst_16]
  simp only [whole_at, Finset.univ_unique, Finset.sum_singleton]

theorem result1 (x0 : FVec Ideal S8192x1024 .f32) (x1 : FVec Ideal S1024 .f32) (x2 : FVec Ideal S8192x1024 .f32) (x3 : FVec Ideal S1024 .f32) (x4 : FVec Ideal S8192x1024 .f32) (x5 : FVec Ideal S8192x1024 .bf16) : Read.val_main_v55 (F := Ideal) x0 x1 x2 x3 x4 x5 = Cert.JoinedDxIdeal.Mine.F1 x0 x1 x2 x3 x4 x5 := by
  refine Prod.ext (n := 8192) (m := 1024) fun p l => ?_
  exact (whole_at x0 x1 x2 x3 x4 x5 p l).trans (mat_ix2 _ p l).symm

theorem result2 (x0 : FVec Ideal S8192x1024 .f32) (x1 : FVec Ideal S1024 .f32) (x2 : FVec Ideal S8192x1024 .f32) (x3 : FVec Ideal S1024 .f32) (x4 : FVec Ideal S8192x1024 .f32) (x5 : FVec Ideal S8192x1024 .bf16) : Read.val_main_v77 (F := Ideal) x0 x1 x2 x3 x4 x5 = Cert.JoinedDxIdeal.Mine.F2 x0 x1 x2 x3 x4 x5 := by
  refine Prod.ext (n := 1) (m := 1024) fun p l => ?_
  refine Eq.trans ?_ (mat_ix2 _ p l).symm
  unfold Cert.JoinedDxIdeal.Mine.term2 recip
  pointwise [Read.val_main_v77, Read.val_main_v62, Read.val_main_v59, Read.val_main_v58, Read.val_main_v57, Read.val_main_v56, Read.val_main_v12, Read.val_main_v11, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15, Read.val_main_cst_16]
  simp only [whole_at, Finset.univ_unique, Finset.sum_singleton]
  exact Finset.sum_congr rfl fun q _ => mul_comm _ _

theorem result3 (x0 : FVec Ideal S8192x1024 .f32) (x1 : FVec Ideal S1024 .f32) (x2 : FVec Ideal S8192x1024 .f32) (x3 : FVec Ideal S1024 .f32) (x4 : FVec Ideal S8192x1024 .f32) (x5 : FVec Ideal S8192x1024 .bf16) : Read.val_main_v78 (F := Ideal) x0 x1 x2 x5 = Cert.JoinedDxIdeal.Mine.F3 x0 x1 x2 x3 x4 x5 := by
  refine Prod.ext (n := 1) (m := 1024) fun p l => ?_
  refine Eq.trans ?_ (mat_ix2 _ p l).symm
  unfold Cert.JoinedDxIdeal.Mine.term3 recip
  pointwise [Read.val_main_v78, Read.val_main_v40, Read.val_main_v37, Read.val_main_v36, Read.val_main_v35, Read.val_main_v34, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15, Read.val_main_cst_16]
  simp only [joined_at, Finset.univ_unique, Finset.sum_singleton]
  exact Finset.sum_congr rfl fun q _ => mul_comm _ _

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Cert.JoinedDxIdeal.Mine.F0 (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v55) = Cert.JoinedDxIdeal.Mine.F1 (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v77) = Cert.JoinedDxIdeal.Mine.F2 (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_v78) = Cert.JoinedDxIdeal.Mine.F3 (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h c).1.trans (Read.val_main_v76_eq ..)).trans (result0 _ _ _ _ _ _), ((h c).2.1.trans (Read.val_main_v55_eq ..)).trans (result1 _ _ _ _ _ _), ((h c).2.2.1.trans (Read.val_main_v77_eq ..)).trans (result2 _ _ _ _ _ _), ((h c).2.2.2.1.trans (Read.val_main_v78_eq ..)).trans (result3 _ _ _ _ _ _), (h c).2.2.2.2⟩)
    (Value.run (F := Ideal) m ρ)

end Cert.JoinedDxRefIdeal.Mine

namespace Cert.JoinedDx.Mine

open Idealize.ShloMosaic Idealize.ShloMosaic.TcCoe Idealize.SL.Sem

/-- From the same arguments, both programs end with the same gradients. -/
theorem equal : Cert.algebraic_JoinedDxIdeal_JoinedDxRefIdeal (hJoinedDxIdeal := Cert.JoinedDxIdeal.Gen.facts) (hJoinedDxRefIdeal := Cert.JoinedDxRefIdeal.Gen.facts) := by
  intro m ρ m' ρ' _ ha
  refine ⟨fun c => Cert.JoinedDxIdeal.Mine.F0 (Cert.JoinedDxIdeal.Mine.a0 m c) (Cert.JoinedDxIdeal.Mine.a1 m c) (Cert.JoinedDxIdeal.Mine.a2 m c) (Cert.JoinedDxIdeal.Mine.a3 m c) (Cert.JoinedDxIdeal.Mine.a4 m c) (Cert.JoinedDxIdeal.Mine.a5 m c), fun c => Cert.JoinedDxIdeal.Mine.F1 (Cert.JoinedDxIdeal.Mine.a0 m c) (Cert.JoinedDxIdeal.Mine.a1 m c) (Cert.JoinedDxIdeal.Mine.a2 m c) (Cert.JoinedDxIdeal.Mine.a3 m c) (Cert.JoinedDxIdeal.Mine.a4 m c) (Cert.JoinedDxIdeal.Mine.a5 m c), fun c => Cert.JoinedDxIdeal.Mine.F2 (Cert.JoinedDxIdeal.Mine.a0 m c) (Cert.JoinedDxIdeal.Mine.a1 m c) (Cert.JoinedDxIdeal.Mine.a2 m c) (Cert.JoinedDxIdeal.Mine.a3 m c) (Cert.JoinedDxIdeal.Mine.a4 m c) (Cert.JoinedDxIdeal.Mine.a5 m c), fun c => Cert.JoinedDxIdeal.Mine.F3 (Cert.JoinedDxIdeal.Mine.a0 m c) (Cert.JoinedDxIdeal.Mine.a1 m c) (Cert.JoinedDxIdeal.Mine.a2 m c) (Cert.JoinedDxIdeal.Mine.a3 m c) (Cert.JoinedDxIdeal.Mine.a4 m c) (Cert.JoinedDxIdeal.Mine.a5 m c), ?_, ?_⟩
  · exact (θ_run _ _ _).mono (fun r h c => ⟨(h c).1.trans (Cert.JoinedDxIdeal.Mine.result6 m c), (h c).2.1.trans (Cert.JoinedDxIdeal.Mine.result7 m c), (h c).2.2.1.trans (Cert.JoinedDxIdeal.Mine.result8 m c), (h c).2.2.2.1.trans (Cert.JoinedDxIdeal.Mine.result9 m c), (h c).2.2.2.2⟩)
      (Cert.JoinedDxIdeal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩) (Cert.JoinedDxRefIdeal.Mine.run m' ρ')
    · rw [(ha c).1, (ha c).2.1, (ha c).2.2.1, (ha c).2.2.2.1, (ha c).2.2.2.2.1, (ha c).2.2.2.2.2]
    · rw [(ha c).1, (ha c).2.1, (ha c).2.2.1, (ha c).2.2.2.1, (ha c).2.2.2.2.1, (ha c).2.2.2.2.2]
    · rw [(ha c).1, (ha c).2.1, (ha c).2.2.1, (ha c).2.2.2.1, (ha c).2.2.2.2.1, (ha c).2.2.2.2.2]
    · rw [(ha c).1, (ha c).2.1, (ha c).2.2.1, (ha c).2.2.2.1, (ha c).2.2.2.2.1, (ha c).2.2.2.2.2]

end Cert.JoinedDx.Mine

end
-- ==== Proof.Mm.lean ====
/- The calls of the step beside the convolution's gradient. -/
module

public import proofs.«01_k».proof.Proof.UpEq
public import proofs.«01_k».proof.Proof.DownEq
public import proofs.«01_k».proof.Proof.DownDaEq
public import proofs.«01_k».proof.Proof.DownDwEq
public import proofs.«01_k».proof.Proof.UpDaEq
public import proofs.«01_k».proof.Proof.UpDwEq
public import proofs.«01_k».proof.Proof.InnerEq
public import proofs.«01_k».proof.Proof.OuterEq
public import proofs.«01_k».proof.Proof.OuterDaEq
public import proofs.«01_k».proof.Proof.OuterDwEq
public import proofs.«01_k».proof.Proof.InnerDaEq
public import proofs.«01_k».proof.Proof.InnerDwEq
public import proofs.«01_k».proof.Proof.GateDaEq
public import proofs.«01_k».proof.Proof.GateDwEq
public import proofs.«01_k».proof.Proof.StateEq
public import proofs.«01_k».proof.Proof.StateDaEq
public import proofs.«01_k».proof.Proof.StateDwEq
public import proofs.«01_k».proof.Proof.HeadDaEq
public import proofs.«01_k».proof.Proof.HeadDwEq
public import proofs.«01_k».proof.Proof.NearEq
public import proofs.«01_k».proof.Proof.MixDaEq
public import proofs.«01_k».proof.Proof.Adam
public import proofs.«01_k».proof.Proof.MixDwEq
public import proofs.«01_k».proof.Proof.StepEq
public import proofs.«01_k».proof.Proof.StepDaEq
public import proofs.«01_k».proof.Proof.StepDwEq
public import proofs.«01_k».proof.Proof.PairEq
public import proofs.«01_k».proof.Proof.LossEq
public import proofs.«01_k».proof.Proof.LossDyEq
public import proofs.«01_k».proof.Proof.RmsEq
public import proofs.«01_k».proof.Proof.ResidualEq
public import proofs.«01_k».proof.Proof.JoinedEq
public import proofs.«01_k».proof.Proof.RmsDxEq
public import proofs.«01_k».proof.Proof.ResidualDxEq
public import proofs.«01_k».proof.Proof.JoinedDxEq
-- ==== Proof.Exit.lean ====
/- What the first loop hands to the second: the two scratch arrays, every row of them written, so that their contents
   are values of the loop's inputs and of nothing that was there before. -/
module

public import proofs.«01_k».proof.Proof.Gen.KernelIdeal.Frame.Runs

@[expose] public section

set_option maxRecDepth 16384

noncomputable section

namespace Cert.KernelIdeal.Mine

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole) (v0 : Vec F S1x128 .f32) (v2 : Vec F S1x128 .f32) (v4 : Vec F S1x128 .f32) (v6 : Vec F S1x128 .f32) (v8 : Vec F S1x128 .f32) (v10 : Vec F S1x128 .f32) (v12 : Vec F S1x128 .f32) (v14 : Vec F S1x128 .f32) (X_arg1 : BufTy.Contents (Elt F) arg1.view.ty) (X_arg2 : BufTy.Contents (Elt F) arg2.view.ty) (X_arg7 : BufTy.Contents (Elt F) arg7.view.ty) (init : FVec F S1x128 .f32 × FVec F S1x128 .f32)

/-- The pieces the first loop writes into the first scratch array, and into the second. -/
abbrev pieces14 : List (View.Piece (Elt F) S8192x128 .f32) :=
  (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init (Scf.trips k0_t1_loop.lb k0_t1_loop.ub k0_t1_loop.st)).2.1
abbrev pieces15 : List (View.Piece (Elt F) S8192x128 .f32) :=
  (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init (Scf.trips k0_t1_loop.lb k0_t1_loop.ub k0_t1_loop.st)).2.2

theorem cover14 (y : S8192x128.Idx) : ∃ p ∈ pieces14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init, y ∈ p.1.set :=
  View.cover_of_tiledL (pieces14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init) S256x128.size (by sl_kernel_rfl) y
theorem cover15 (y : S8192x128.Idx) : ∃ p ∈ pieces15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init, y ∈ p.1.set :=
  View.cover_of_tiledL (pieces15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init) S256x128.size (by sl_kernel_rfl) y

/-- What the two scratch arrays hold after the first loop. -/
def scr14 : Vec F S8192x128 .f32 := arg14.view.read (Elt F) (arg14.view.writes (Elt F) arg14.view.junk (pieces14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init))
def scr15 : Vec F S8192x128 .f32 := arg15.view.read (Elt F) (arg15.view.writes (Elt F) arg15.view.junk (pieces15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init))

/-- The first loop's exit, with the scratch arrays' contents stated outright. -/
instance exit1 (E : Set ℕ) (G14 : BufTy.Contents (Elt F) arg14.view.ty) (G15 : BufTy.Contents (Elt F) arg15.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 G14 G15 init) where
  post acc := iprop((arg1.view.loc (c : Thread nD τ) ↦[arg1.view.set]{fullShare} X_arg1) ∗ (arg2.view.loc (c : Thread nD τ) ↦[arg2.view.set]{fullShare} X_arg2) ∗ (arg7.view.loc (c : Thread nD τ) ↦[arg7.view.set]{fullShare} X_arg7) ∗ (arg14.view.loc (c : Thread nD τ) ↦[arg14.view.set]{fullShare} harg14.unread (scr14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init)) ∗ (arg15.view.loc (c : Thread nD τ) ↦[arg15.view.set]{fullShare} harg15.unread (scr15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init)) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init (Scf.trips k0_t1_loop.lb k0_t1_loop.ub k0_t1_loop.st)).1⌝)
  exit acc := by
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 G14 G15 init _ acc ⊢ _
    iintro ⟨H1, H2, H7, ⟨%f14, H14, %h14⟩, ⟨%f15, H15, %h15⟩, %hacc⟩
    have e14 : f14 = harg14.unread (scr14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init) :=
      harg14.eq_unread (h14 ▸ View.read_writes_of_cover _ _ _ _ _ (cover14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init))
    have e15 : f15 = harg15.unread (scr15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init) :=
      harg15.eq_unread (h15 ▸ View.read_writes_of_cover _ _ _ _ _ (cover15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init))
    clear h14 h15
    subst e14 e15
    isplitl [H1]; · iexact H1
    isplitl [H2]; · iexact H2
    isplitl [H7]; · iexact H7
    isplitl [H14]; · iexact H14
    isplitl [H15]; · iexact H15
    ipureintro; exact hacc

end Cert.KernelIdeal.Mine

end
-- ==== Proof.Run.lean ====
/- The kernel's body run once over any values: what it leaves in each output's block, as the list of its stores. -/
module

public import proofs.«01_k».proof.Proof.Exit

@[expose] public section

set_option maxRecDepth 16384

noncomputable section

namespace Cert.KernelIdeal.Mine

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a grid point: from the inputs' blocks at their contents and the outputs' and the scratch arrays at
    anything, it ends with the inputs as they were and each output's block written by the listed stores. The second
    loop starts from the scratch arrays as `exit1` states them, so no list mentions what they held before. -/
def bodyRun (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole)
    (x0 : Vec F S8192x128 .f32) (x1 : Vec F S8192x128 .f32) (x2 : Vec F S3x128 .f32) (x3 : Vec F S3x128 .f32) (x4 : Vec F S1x128 .f32) (x5 : Vec F S1x128 .f32) (x6 : Vec F S8192x128 .bf16) :
    Σ' (L7 : List (View.Piece (Elt F) S8192x128 .bf16)), Σ' (L8 : List (View.Piece (Elt F) S8192x128 .bf16)), Σ' (L9 : List (View.Piece (Elt F) S8x128 .f32)), Σ' (L10 : List (View.Piece (Elt F) S8x128 .f32)), Σ' (L11 : List (View.Piece (Elt F) S1x128 .f32)), { L12 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d)) -∗ K ⟨⟩))
          ⊢ wp frame (wpE (defs₀ (F := F)) Variants.none c none) E (cc0_conv_geglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_conv_geglu_bwd_eq_skeleton]; unfold cc0_conv_geglu_bwd_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [HL0]
    · iexists _; isplitr; · ipureintro; exact harg1.read_unread _
      iexact HL0
    isplitl [HL1]
    · iexists _; isplitr; · ipureintro; exact harg2.read_unread _
      iexact HL1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HL2]
    · iexists _; isplitr; · ipureintro; exact harg7.read_unread _
      iexact HL2
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HL3]
    · iexists _, _; isplitr; swap; · iexact HL3
      ipureintro; rfl
    iexists _, _; isplitr; swap; · iexact HL4
    ipureintro; rfl

end Cert.KernelIdeal.Mine

end
-- ==== Proof.Frame.lean ====
/- What each output's block holds after the body, the pipeline's proof data, and the run of the whole program over any
   values: every output array is what the library computes from those blocks, and no argument changes. -/
module

public import proofs.«01_k».proof.Proof.Run
public import Idealize.ShloMosaic.Lib.Claim
public import Idealize.ShloMosaic.Lib.Pipeline.Value

@[expose] public section

set_option maxRecDepth 16384

noncomputable section

namespace Cert.KernelIdeal.Mine

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Outputs

variable (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole)
  (x0 : Vec F S8192x128 .f32) (x1 : Vec F S8192x128 .f32) (x2 : Vec F S3x128 .f32) (x3 : Vec F S3x128 .f32) (x4 : Vec F S1x128 .f32) (x5 : Vec F S1x128 .f32) (x6 : Vec F S8192x128 .bf16)

/-- Output 7: its stores cover its block, and what they leave there. -/
theorem cover7 (y : S8192x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1, y ∈ pc.1.set :=
  View.cover_of_tiledL ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1) S256x128.size (by sl_kernel_rfl) y
def out7 : Vec F S8192x128 .bf16 := VO0_7.read (Elt F) (VO0_7.writes (Elt F) VO0_7.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1)

/-- Output 8: its stores cover its block, and what they leave there. -/
theorem cover8 (y : S8192x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.1, y ∈ pc.1.set :=
  View.cover_of_tiledL ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.1) S256x128.size (by sl_kernel_rfl) y
def out8 : Vec F S8192x128 .bf16 := VO0_8.read (Elt F) (VO0_8.writes (Elt F) VO0_8.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.1)

/-- Output 9: its stores cover its block, and what they leave there. -/
theorem cover9 (y : S8x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.1, y ∈ pc.1.set :=
  View.cover_of_tiledBy ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.1) ![1, 128] (by sl_kernel_rfl) y
def out9 : Vec F S8x128 .f32 := VO0_9.read (Elt F) (VO0_9.writes (Elt F) VO0_9.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.1)

/-- Output 10: its stores cover its block, and what they leave there. -/
theorem cover10 (y : S8x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.1, y ∈ pc.1.set :=
  View.cover_of_tiledBy ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.1) ![1, 128] (by sl_kernel_rfl) y
def out10 : Vec F S8x128 .f32 := VO0_10.read (Elt F) (VO0_10.writes (Elt F) VO0_10.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.1)

/-- Output 11: its stores cover its block, and what they leave there. -/
theorem cover11 (y : S1x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.1, y ∈ pc.1.set :=
  View.cover_of_tiledL ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.1) S1x128.size (by sl_kernel_rfl) y
def out11 : Vec F S1x128 .f32 := VO0_11.read (Elt F) (VO0_11.writes (Elt F) VO0_11.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.1)

/-- Output 12: its stores cover its block, and what they leave there. -/
theorem cover12 (y : S1x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.1, y ∈ pc.1.set :=
  View.cover_of_tiledL ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.1) S1x128.size (by sl_kernel_rfl) y
def out12 : Vec F S1x128 .f32 := VO0_12.read (Elt F) (VO0_12.writes (Elt F) VO0_12.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.1)

end Outputs

variable (m : (ℓ : Loc nD τ sig) → Buf (Elt F) ℓ) (ρ : Dev nD → PrngReg)

/-- What the outputs' staging buffers hold after the body at point `t` (as a tuple, in window order): the run's contents at
    the point's memrefs and input blocks. -/
def outsAt0 (c : Dev nD) (t : Fin cfg0.N) : Vec F S8192x128 .bf16 × Vec F S8192x128 .bf16 × Vec F S8x128 .f32 × Vec F S8x128 .f32 × Vec F S1x128 .f32 × Vec F S1x128 .f32 :=
  (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t), out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t), out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t), out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t), out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t), out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2.1
    | ⟨10, _⟩ => (outsAt0 m c t).2.2.2.1
    | ⟨11, _⟩ => (outsAt0 m c t).2.2.2.2.1
    | ⟨12, _⟩ => (outsAt0 m c t).2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2.1 := by dsimp only [dats]
theorem after0_10 (c : Dev nD) (t : Fin cfg0.N) : (dats m 0 c).after 10 t = (outsAt0 m c t).2.2.2.1 := by dsimp only [dats]
theorem after0_11 (c : Dev nD) (t : Fin cfg0.N) : (dats m 0 c).after 11 t = (outsAt0 m c t).2.2.2.2.1 := by dsimp only [dats]
theorem after0_12 (c : Dev nD) (t : Fin cfg0.N) : (dats m 0 c).after 12 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outsAt0
  unfold out7 out8 out9 out10 out11 out12; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, ⟨%e12, H12⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover9 c _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover11 c _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover12 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- Output 7's array after the run, block by block. -/
theorem blocks7 (c : Dev nD) (t : Fin cfg0.N) :
    ((cfg0.win 7).blk t).view.read (Elt F) ((dats m 0 c).arrAt 7 cfg0.N) = (cfg0.win 7).cut (grid0.coords t) (outsAt0 m c t).1 := by
  have inj : ∀ t t' : Fin cfg0.N, win0_7.index t = win0_7.index t' → t = t' :=
    (by decide +kernel : ∀ t t' : Fin grid0.N, win0_7.index t = win0_7.index t' → t = t')
  refine ((dats m 0 c).read_blk_arrAt_eq_flushed 7 (fun t t' _ _ hne => (cfg0.win 7).disjoint_blk fun h => hne (inj t t' h)) cfg0.N t t.isLt (by revert t; decide +kernel)).trans ?_
  show (cfg0.win 7).cut (grid0.coords t) ((dats m 0 c).after 7 t) = _
  rw [after0_7]

/-- Output 8's array after the run, block by block. -/
theorem blocks8 (c : Dev nD) (t : Fin cfg0.N) :
    ((cfg0.win 8).blk t).view.read (Elt F) ((dats m 0 c).arrAt 8 cfg0.N) = (cfg0.win 8).cut (grid0.coords t) (outsAt0 m c t).2.1 := by
  have inj : ∀ t t' : Fin cfg0.N, win0_8.index t = win0_8.index t' → t = t' :=
    (by decide +kernel : ∀ t t' : Fin grid0.N, win0_8.index t = win0_8.index t' → t = t')
  refine ((dats m 0 c).read_blk_arrAt_eq_flushed 8 (fun t t' _ _ hne => (cfg0.win 8).disjoint_blk fun h => hne (inj t t' h)) cfg0.N t t.isLt (by revert t; decide +kernel)).trans ?_
  show (cfg0.win 8).cut (grid0.coords t) ((dats m 0 c).after 8 t) = _
  rw [after0_8]

/-- Output 9's array after the run, block by block. -/
theorem blocks9 (c : Dev nD) (t : Fin cfg0.N) :
    ((cfg0.win 9).blk t).view.read (Elt F) ((dats m 0 c).arrAt 9 cfg0.N) = (cfg0.win 9).cut (grid0.coords t) (outsAt0 m c t).2.2.1 := by
  have inj : ∀ t t' : Fin cfg0.N, win0_9.index t = win0_9.index t' → t = t' :=
    (by decide +kernel : ∀ t t' : Fin grid0.N, win0_9.index t = win0_9.index t' → t = t')
  refine ((dats m 0 c).read_blk_arrAt_eq_flushed 9 (fun t t' _ _ hne => (cfg0.win 9).disjoint_blk fun h => hne (inj t t' h)) cfg0.N t t.isLt (by revert t; decide +kernel)).trans ?_
  show (cfg0.win 9).cut (grid0.coords t) ((dats m 0 c).after 9 t) = _
  rw [after0_9]

/-- Output 10's array after the run, block by block. -/
theorem blocks10 (c : Dev nD) (t : Fin cfg0.N) :
    ((cfg0.win 10).blk t).view.read (Elt F) ((dats m 0 c).arrAt 10 cfg0.N) = (cfg0.win 10).cut (grid0.coords t) (outsAt0 m c t).2.2.2.1 := by
  have inj : ∀ t t' : Fin cfg0.N, win0_10.index t = win0_10.index t' → t = t' :=
    (by decide +kernel : ∀ t t' : Fin grid0.N, win0_10.index t = win0_10.index t' → t = t')
  refine ((dats m 0 c).read_blk_arrAt_eq_flushed 10 (fun t t' _ _ hne => (cfg0.win 10).disjoint_blk fun h => hne (inj t t' h)) cfg0.N t t.isLt (by revert t; decide +kernel)).trans ?_
  show (cfg0.win 10).cut (grid0.coords t) ((dats m 0 c).after 10 t) = _
  rw [after0_10]

/-- Output 11's array after the run, block by block. -/
theorem blocks11 (c : Dev nD) (t : Fin cfg0.N) :
    ((cfg0.win 11).blk t).view.read (Elt F) ((dats m 0 c).arrAt 11 cfg0.N) = (cfg0.win 11).cut (grid0.coords t) (outsAt0 m c t).2.2.2.2.1 := by
  have inj : ∀ t t' : Fin cfg0.N, win0_11.index t = win0_11.index t' → t = t' :=
    (by decide +kernel : ∀ t t' : Fin grid0.N, win0_11.index t = win0_11.index t' → t = t')
  refine ((dats m 0 c).read_blk_arrAt_eq_flushed 11 (fun t t' _ _ hne => (cfg0.win 11).disjoint_blk fun h => hne (inj t t' h)) cfg0.N t t.isLt (by revert t; decide +kernel)).trans ?_
  show (cfg0.win 11).cut (grid0.coords t) ((dats m 0 c).after 11 t) = _
  rw [after0_11]

/-- Output 12's array after the run, block by block. -/
theorem blocks12 (c : Dev nD) (t : Fin cfg0.N) :
    ((cfg0.win 12).blk t).view.read (Elt F) ((dats m 0 c).arrAt 12 cfg0.N) = (cfg0.win 12).cut (grid0.coords t) (outsAt0 m c t).2.2.2.2.2 := by
  have inj : ∀ t t' : Fin cfg0.N, win0_12.index t = win0_12.index t' → t = t' :=
    (by decide +kernel : ∀ t t' : Fin grid0.N, win0_12.index t = win0_12.index t' → t = t')
  refine ((dats m 0 c).read_blk_arrAt_eq_flushed 12 (fun t t' _ _ hne => (cfg0.win 12).disjoint_blk fun h => hne (inj t t' h)) cfg0.N t t.isLt (by revert t; decide +kernel)).trans ?_
  show (cfg0.win 12).cut (grid0.coords t) ((dats m 0 c).after 12 t) = _
  rw [after0_12]

/-- The run with the counters at zero, the outputs named and the arguments unchanged. -/
theorem run_all : θ_run defs (onTc (τ := τ) (main (F := F))) ⟨m, fun _ => 0, ρ⟩ fun r => (∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_v6_2) = (dats m 0 c).arrAt 9 cfg0.N
      ∧ r.2.mem ((c : Thread nD τ).loc main_v6_3) = (dats m 0 c).arrAt 10 cfg0.N
      ∧ r.2.mem ((c : Thread nD τ).loc main_v6_4) = (dats m 0 c).arrAt 11 cfg0.N
      ∧ r.2.mem ((c : Thread nD τ).loc main_v6_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0 :=
  (θ_run defs _ _).mono (fun r h => ⟨fun c => ⟨(h.1 c).1 7, (h.1 c).1 8, (h.1 c).1 9, (h.1 c).1 10, (h.1 c).1 11, (h.1 c).1 12,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 6).trans (((dats m 0 c).arrAt_in 6 rfl _).trans ((A_eq m c 6).trans (V_main_arg4 m c)))⟩, h.2⟩)
    (run_main_quiescent m ρ)

end Cert.KernelIdeal.Mine

end
-- ==== Proof.FrameK.lean ====
/- The compiled kernel's frame out of the named-constant kernel's run: at bits the two programs are the same text. -/
module

public import proofs.«01_k».proof.Defs
public import proofs.«01_k».proof.Proof.Gen.Kernel
public import proofs.«01_k».proof.Proof.Frame

@[expose] public section

noncomputable section

namespace Cert.Proof

open Idealize.ShloMosaic Idealize.SL.Sem

/-- At bits a named constant reads as the word it was printed with. -/
@[reducible] def wordNamed : Named Bits where
  named _ _ {_} w := w

attribute [local instance] wordNamed

/-- At bits the two bodies are the same program. -/
theorem same_body (i) (a1 h1 a2 h2 a3 h3 a4 h4 a5 h5 a6 h6 a7 h7 a8 h8 a9 h9 a10 h10 a11 h11 a12 h12 a13 h13 a14 h14 a15 h15) : Cert.Kernel.cc0_conv_geglu_bwd (F := Bits) i a1 h1 a2 h2 a3 h3 a4 h4 a5 h5 a6 h6 a7 h7 a8 h8 a9 h9 a10 h10 a11 h11 a12 h12 a13 h13 a14 h14 a15 h15 = Cert.KernelIdeal.cc0_conv_geglu_bwd (F := Bits) i a1 h1 a2 h2 a3 h3 a4 h4 a5 h5 a6 h6 a7 h7 a8 h8 a9 h9 a10 h10 a11 h11 a12 h12 a13 h13 a14 h14 a15 h15 := rfl
theorem same_defs₀ : Cert.Kernel.defs₀ (F := Bits) = Cert.KernelIdeal.defs₀ (F := Bits) := by
  refine congrArg Defs.onTc (funext fun l => ?_)
  match l with
  | 0 => exact funext fun a => same_body ..
theorem same_defs : Cert.Kernel.defs (F := Bits) = Cert.KernelIdeal.defs (F := Bits) :=
  congrArg (Pipeline.defs Cert.KernelIdeal.pcfgs) same_defs₀

/-- The compiled kernel's frame. -/
theorem frame_kernel : Cert.quiescent_Kernel (hKernel := Cert.Kernel.Gen.facts) := fun m ρ _ => by
  rw [same_defs]
  have h : θ_run (Cert.KernelIdeal.defs (F := Bits)) (onTc Cert.KernelIdeal.main) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)) ∧ r.2.sem = fun _ => 0 :=
    (θ_run _ _ _).mono (fun _ h => ⟨fun c => (h.1 c).2.2.2.2.2.2, h.2⟩) (Cert.KernelIdeal.Mine.run_all (F := Bits) m ρ)
  exact h

end Cert.Proof

end
-- ==== Proof.Spec.lean ====
/- The mathematics of the gated convolution's gradient, naming no program: one column (one channel) of a sequence of 8192
   positions is a function `Fin 8192 → EReal`; the centred convolution of width 3, its transpose, and the derivative of the
   gate (the tanh form of GELU) times the value, position by position. -/
module

public import Idealize.ShloMosaic.Lib.Pointwise

@[expose] public section

noncomputable section

namespace Cert.Spec

open Idealize.ShloMosaic

/-- One channel over the positions. -/
abbrev Col := Fin 8192 → EReal

/-- The channel padded by zeros on either side: position `m` of the padded channel is position `m - 8` of the channel. -/
def ext (x : Col) (m : ℕ) : EReal := if h : 8 ≤ m ∧ m < 8200 then x ⟨m - 8, by omega⟩ else 0

/-- The position before, zero before the first. -/
def prev (x : Col) (r : Fin 8192) : EReal := ext x (r.val + 7)

/-- The position after, zero after the last. -/
def next (x : Col) (r : Fin 8192) : EReal := ext x (r.val + 9)

theorem ext_self (x : Col) (r : Fin 8192) : ext x (r.val + 8) = x r := by
  have := r.isLt
  unfold ext; rw [dif_pos (by omega)]; congr 1

/-- The centred convolution of width 3 with its bias. -/
def conv (w0 w1 w2 b : EReal) (x : Col) : Col := fun r => b + w1 * x r + w0 * prev x r + w2 * next x r

/-- The gradient of the convolution with respect to its input. -/
def convT (w0 w1 w2 : EReal) (d : Col) : Col := fun r => w0 * next d r + w1 * d r + w2 * prev d r

/-- √(2/π) as a float word. -/
def cR : EReal := Ideal.ofBits FTy.f32 0x3F4C422A#32
/-- One half. -/
def half : EReal := Ideal.ofBits FTy.f32 0x3F000000#32
/-- 0.044715. -/
def aR : EReal := ((8943 / 200000 : ℝ) : EReal)
/-- 3 · 0.044715. -/
def a3R : EReal := ((26829 / 200000 : ℝ) : EReal)

/-- tanh of the gate's argument. -/
def th (g : EReal) : EReal := Ideal.tanh (cR * (g + aR * (g * g * g)))

/-- The gradient that reaches the gate, of `gelu(g) · v` at incoming gradient `d`. -/
def dgate (g v d : EReal) : EReal :=
  d * v * (half * (1 + th g) + half * g * (1 - th g * th g) * (cR * (1 + a3R * (g * g))))

/-- The gradient that reaches the value. -/
def dvalue (g d : EReal) : EReal := d * (g * (half * (1 + th g)))

/-- A tile of 256 positions with eight positions before and eight after, each of the two replaced by zeros where its
    condition fails, at position `n` of the 272. -/
def lad (s1 s2 : BitVec 1) (a : Fin 256 → EReal) (b c : Fin 8 → EReal) (n : Fin 272) : EReal :=
  if h : n.val < 8 then Scalar.select s1 (b ⟨n.val, h⟩) 0
  else if h2 : n.val - 8 < 256 then a ⟨n.val - 8, h2⟩
  else Scalar.select s2 (c ⟨n.val - 8 - 256, by have := n.isLt; omega⟩) 0

theorem lad_apply (x : Col) (t : ℕ) (ht : t < 32) (s1 s2 : BitVec 1) (hs1 : s1 = if 0 < t then 1#1 else 0#1)
    (hs2 : s2 = if t < 31 then 1#1 else 0#1) (a : Fin 256 → EReal) (b c : Fin 8 → EReal)
    (ha : ∀ p : Fin 256, a p = x ⟨256 * t + p.val, by omega⟩)
    (hb : ∀ (h : 0 < t) (q : Fin 8), b q = x ⟨256 * t - 8 + q.val, by omega⟩)
    (hc : ∀ (h : t < 31) (q : Fin 8), c q = x ⟨256 * t + 256 + q.val, by omega⟩) (n : Fin 272) :
    lad s1 s2 a b c n = ext x (256 * t + n.val) := by
  have hn := n.isLt
  unfold lad ext
  subst hs1 hs2
  by_cases h1 : n.val < 8
  · rw [dif_pos h1]
    by_cases h0 : 0 < t
    · rw [if_pos h0, dif_pos (by omega), hb h0]
      show x _ = x _
      congr 1; apply Fin.ext; show 256 * t - 8 + n.val = 256 * t + n.val - 8; omega
    · rw [if_neg h0, dif_neg (by omega)]; rfl
  · rw [dif_neg h1]
    by_cases h2 : n.val - 8 < 256
    · rw [dif_pos h2, dif_pos (by omega), ha]
      congr 1; apply Fin.ext; show 256 * t + (n.val - 8) = 256 * t + n.val - 8; omega
    · rw [dif_neg h2]
      by_cases h3 : t < 31
      · rw [if_pos h3, dif_pos (by omega), hc h3]
        show x _ = x _
        congr 1; apply Fin.ext; show 256 * t + 256 + (n.val - 8 - 256) = 256 * t + n.val - 8; omega
      · rw [if_neg h3, dif_neg (by omega)]; rfl

end Cert.Spec

end
-- ==== Proof.Trip1.lean ====
/- One trip of the kernel's first loop, read at an index: the tile's rows of the two gradients that reach the convolution
   (`Spec.dgate`, `Spec.dvalue` of the convolved channels), and their sums down the tile. -/
module

public import proofs.«01_k».proof.Proof.Gen.KernelIdeal.Loops
public import proofs.«01_k».proof.Proof.Spec

@[expose] public section

set_option maxRecDepth 16384

noncomputable section

namespace Cert.KernelIdeal.Mine

open Cert.KernelIdeal Cert.KernelIdeal.Gen Idealize.ShloMosaic Idealize.ShloMosaic.TcCoe Idealize.SL.Sem

open Cert.Spec

/-- Channel `l` of a block. -/
def col (x : S8192x128.Idx → EReal) (l : Fin 128) : Col := fun r => x (ix2 r l)

/-- The sign test of a trip's first row. -/
theorem cond_lo (k : Fin k0_t1_loop.trips) :
    Scalar.cmpi CmpIPredicate.sgt (Scalar.muli (Scf.iv 0#32 1#32 k.val) 256#32) 0#32 = if 0 < k.val then 1#1 else 0#1 := by
  revert k; decide +kernel

/-- The test that a trip is not the last. -/
theorem cond_hi (k : Fin k0_t1_loop.trips) :
    Scalar.cmpi CmpIPredicate.slt (Scalar.addi (Scalar.muli (Scf.iv 0#32 1#32 k.val) 256#32) 256#32) 8192#32
      = if k.val < 31 then 1#1 else 0#1 := by
  revert k; decide +kernel

theorem off2_eq (k : Fin k0_t1_loop.trips) : k0_off2 k = ![256 * k.val - 8, 0] := by revert k; decide +kernel

theorem trip_lt (k : Fin k0_t1_loop.trips) : k.val < 32 := Nat.lt_of_lt_of_le k.isLt k0_t1_abs.2.1

/-- A load of `n` rows at row `o` of a block whose contents read `x`. -/
theorem load_rows {e : EltTy} {n : ℕ} (arg : Memref sig .tc .vmem S8192x128 e) (X : BufTy.Contents (Elt Ideal) arg.view.ty)
    (x : Vec Ideal S8192x128 e) (hx : arg.view.read (Elt Ideal) X = x) (off : Fin 2 → ℕ) (o : ℕ) (ho : off = ![o, 0])
    (inb : ∀ a, off a + (![n, 128] : Fin 2 → ℕ) a ≤ S8192x128.size a) (p : Fin n) (l : Fin 128) (hp : o + p.val < 8192) :
    View.readAt (Elt Ideal) arg.view (Rect.unit (s := S8192x128) off ![n, 128] inb).toLoadRect X (ix2 p l) = x (ix2 ⟨o + p.val, hp⟩ l) := by
  subst ho hx
  rw [View.readAt_eq_ld]
  show _ = _
  unfold View.ld
  congr 1
  funext a
  refine Fin.cases ?_ (fun b => Fin.cases ?_ (fun z => z.elim0) b) a
  · apply Fin.ext; show o + 1 * p.val = o + p.val; omega
  · apply Fin.ext; show 0 + 1 * l.val = l.val; omega

theorem tile_row {k : ℕ} (hk : k < 32) (p : Fin 256) : 256 * k + p.val < 8192 := by omega

/-- The ladder of a tile's halos, at any of its 272 positions. -/
theorem lad_rows (arg : Memref sig .tc .vmem S8192x128 .f32) (X : BufTy.Contents (Elt Ideal) arg.view.ty)
    (x : Vec Ideal S8192x128 .f32) (hx : arg.view.read (Elt Ideal) X = x) (k : Fin k0_t1_loop.trips) (i1 i2 i3) (l : Fin 128) (n : Fin 272) :
    lad (Scalar.cmpi CmpIPredicate.sgt (Scalar.muli (Scf.iv 0#32 1#32 k.val) 256#32) 0#32)
      (Scalar.cmpi CmpIPredicate.slt (Scalar.addi (Scalar.muli (Scf.iv 0#32 1#32 k.val) 256#32) 256#32) 8192#32)
      (fun p => View.readAt (Elt Ideal) arg.view (Rect.unit (s := S8192x128) (k0_off1 k) ![256, 128] i1).toLoadRect X (ix2 p l))
      (fun q => View.readAt (Elt Ideal) arg.view (Rect.unit (s := S8192x128) (k0_off2 k) ![8, 128] i2).toLoadRect X (ix2 q l))
      (fun q => View.readAt (Elt Ideal) arg.view (Rect.unit (s := S8192x128) (k0_off3 k) ![8, 128] i3).toLoadRect X (ix2 q l)) n
      = ext (col x l) (256 * k.val + n.val) := by
  have hk := trip_lt k
  refine lad_apply _ k.val hk _ _ (cond_lo k) (cond_hi k) _ _ _ (fun p => ?_) (fun h q => ?_) (fun h q => ?_) n
  · exact load_rows arg X x hx _ _ (k0_off1_eq k) _ p l _
  · exact load_rows arg X x hx _ _ (off2_eq k) _ q l (by omega)
  · refine load_rows arg X x hx _ (256 * k.val + 256) ?_ _ q l (by omega)
    rw [k0_off3_eq, min_eq_left (by omega)]

theorem pay2_apply (arg : Memref sig .tc .vmem S8192x128 .f32) (X : BufTy.Contents (Elt Ideal) arg.view.ty)
    (x : Vec Ideal S8192x128 .f32) (hx : arg.view.read (Elt Ideal) X = x) (k : Fin k0_t1_loop.trips) (i1 i2 i3)
    (v1 v3 v5 v13 : FVec Ideal S1x128 .f32) (p : Fin 256) (l : Fin 128) :
    k0_pay2 v1 v3 v5 v13 0#32 1#32 k
      (View.readAt (Elt Ideal) arg.view (Rect.unit (s := S8192x128) (k0_off1 k) ![256, 128] i1).toLoadRect X)
      (View.readAt (Elt Ideal) arg.view (Rect.unit (s := S8192x128) (k0_off2 k) ![8, 128] i2).toLoadRect X)
      (View.readAt (Elt Ideal) arg.view (Rect.unit (s := S8192x128) (k0_off3 k) ![8, 128] i3).toLoadRect X) (ix2 p l)
      = conv (v1 (ix2 0 l)) (v3 (ix2 0 l)) (v5 (ix2 0 l)) (v13 (ix2 0 l)) (col x l) ⟨256 * k.val + p.val, tile_row (trip_lt k) p⟩ := by
  have H := lad_rows arg X x hx k i1 i2 i3 l
  have h0 := load_rows arg X x hx _ _ (k0_off1_eq k) i1 p l (tile_row (trip_lt k) p)
  have hp := p.isLt
  pointwise [k0_pay2]
  unfold conv prev next
  refine congrArg₂ (· + ·) (congrArg₂ (· + ·) (congrArg₂ (· + ·) rfl (congrArg (v3 (ix2 0 l) * ·) h0)) (congrArg (v1 (ix2 0 l) * ·) ?_)) (congrArg (v5 (ix2 0 l) * ·) ?_)
  · refine (H ⟨(8 + p.val + 272 - 1) % 272, Nat.mod_lt _ (by decide)⟩).trans ?_
    congr 1; show 256 * k.val + (8 + p.val + 272 - 1) % 272 = 256 * k.val + p.val + 7; omega
  · refine (H ⟨(8 + p.val + 272 - 271) % 272, Nat.mod_lt _ (by decide)⟩).trans ?_
    congr 1; show 256 * k.val + (8 + p.val + 272 - 271) % 272 = 256 * k.val + p.val + 9; omega

theorem pay3_apply (arg : Memref sig .tc .vmem S8192x128 .f32) (X : BufTy.Contents (Elt Ideal) arg.view.ty)
    (x : Vec Ideal S8192x128 .f32) (hx : arg.view.read (Elt Ideal) X = x) (k : Fin k0_t1_loop.trips) (i1 i2 i3)
    (v1 v3 v5 v13 : FVec Ideal S1x128 .f32) (p : Fin 256) (l : Fin 128) :
    k0_pay3 v1 v3 v5 v13 (Scalar.muli (Scf.iv 0#32 1#32 k.val) 256#32)
      (View.readAt (Elt Ideal) arg.view (Rect.unit (s := S8192x128) (k0_off1 k) ![256, 128] i1).toLoadRect X)
      (View.readAt (Elt Ideal) arg.view (Rect.unit (s := S8192x128) (k0_off2 k) ![8, 128] i2).toLoadRect X)
      (View.readAt (Elt Ideal) arg.view (Rect.unit (s := S8192x128) (k0_off3 k) ![8, 128] i3).toLoadRect X) (ix2 p l)
      = conv (v1 (ix2 0 l)) (v3 (ix2 0 l)) (v5 (ix2 0 l)) (v13 (ix2 0 l)) (col x l) ⟨256 * k.val + p.val, tile_row (trip_lt k) p⟩ :=
  pay2_apply arg X x hx k i1 i2 i3 v1 v3 v5 v13 p l

theorem named_a : (Named.named (F := Ideal) (φ := .f32) κ "a" 0x3D372713#32 : EReal) = aR :=
  IdealRules.named_const.ideal_named_scalar _ _ _ _ rfl

theorem named_three_a : (Named.named (F := Ideal) (φ := .f32) κ "three_a" 0x3E095D4F#32 : EReal) = a3R :=
  IdealRules.named_const.ideal_named_scalar _ _ _ _ rfl

theorem pay5_apply (u : FVec Ideal S256x128 .f32) (i : S256x128.Idx) : k0_pay5 (F := Ideal) u i = th (u i) := by
  pointwise [k0_pay5, named_a]
  rfl

theorem pay6_apply (u : FVec Ideal S256x128 .f32) (i : S256x128.Idx) : k0_pay6 (F := Ideal) u i = 1 + th (u i) := by
  pointwise [k0_pay6, named_a]
  rfl

variable (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole) (v0 : Vec Ideal S1x128 .f32) (v2 : Vec Ideal S1x128 .f32) (v4 : Vec Ideal S1x128 .f32) (v6 : Vec Ideal S1x128 .f32) (v8 : Vec Ideal S1x128 .f32) (v10 : Vec Ideal S1x128 .f32) (v12 : Vec Ideal S1x128 .f32) (v14 : Vec Ideal S1x128 .f32) (X_arg1 : BufTy.Contents (Elt Ideal) arg1.view.ty) (X_arg2 : BufTy.Contents (Elt Ideal) arg2.view.ty) (X_arg7 : BufTy.Contents (Elt Ideal) arg7.view.ty)

/-- The gradient that reaches the gate's channel `l`, at a position. -/
def DG (x1 x2 x7 : S8192x128.Idx → EReal) (v0 v2 v4 v6 v8 v10 v12 v14 : S1x128.Idx → EReal) (l : Fin 128) : Col := fun r =>
  dgate (conv (v0 (ix2 0 l)) (v2 (ix2 0 l)) (v4 (ix2 0 l)) (v12 (ix2 0 l)) (col x1 l) r)
    (conv (v6 (ix2 0 l)) (v8 (ix2 0 l)) (v10 (ix2 0 l)) (v14 (ix2 0 l)) (col x2 l) r) (x7 (ix2 r l))

/-- The gradient that reaches the value's channel `l`, at a position. -/
def DV (x1 x7 : S8192x128.Idx → EReal) (v0 v2 v4 v12 : S1x128.Idx → EReal) (l : Fin 128) : Col := fun r =>
  dvalue (conv (v0 (ix2 0 l)) (v2 (ix2 0 l)) (v4 (ix2 0 l)) (v12 (ix2 0 l)) (col x1 l) r) (x7 (ix2 r l))

theorem trip1 (x1 x2 : Vec Ideal S8192x128 .f32) (x7 : Vec Ideal S8192x128 .bf16)
    (h1 : arg1.view.read (Elt Ideal) X_arg1 = x1) (h2 : arg2.view.read (Elt Ideal) X_arg2 = x2) (h7 : arg7.view.read (Elt Ideal) X_arg7 = x7)
    (k : Fin k0_t1_loop.trips) (acc : FVec Ideal S1x128 .f32 × FVec Ideal S1x128 .f32) :
    (∀ l : Fin 128, ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 k).1 acc).1 (ix2 0 l)
      = acc.1 (ix2 0 l) + ∑ p : Fin 256, DG x1 x2 x7 v0 v2 v4 v6 v8 v10 v12 v14 l ⟨256 * k.val + p.val, tile_row (trip_lt k) p⟩)
    ∧ (∀ l : Fin 128, ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 k).1 acc).2 (ix2 0 l)
      = acc.2 (ix2 0 l) + ∑ p : Fin 256, DV x1 x7 v0 v2 v4 v12 l ⟨256 * k.val + p.val, tile_row (trip_lt k) p⟩)
    ∧ (∃ inb, ∃ pay : Vec Ideal S256x128 .f32, (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 k).2.1 acc = [⟨Rect.unit (s := S8192x128) (k0_off1 k) ![256, 128] inb, pay⟩]
        ∧ ∀ (p : Fin 256) (l : Fin 128), pay (ix2 p l) = DG x1 x2 x7 v0 v2 v4 v6 v8 v10 v12 v14 l ⟨256 * k.val + p.val, tile_row (trip_lt k) p⟩)
    ∧ (∃ inb, ∃ pay : Vec Ideal S256x128 .f32, (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 k).2.2.1 acc = [⟨Rect.unit (s := S8192x128) (k0_off1 k) ![256, 128] inb, pay⟩]
        ∧ ∀ (p : Fin 256) (l : Fin 128), pay (ix2 p l) = DV x1 x7 v0 v2 v4 v12 l ⟨256 * k.val + p.val, tile_row (trip_lt k) p⟩) := by
  unfold trip_k0_t1
  dsimp only
  generalize hu : trip_k0_t1.sl.v69 arg1 v0 v2 v4 v12 X_arg1 k = u
  generalize hv : trip_k0_t1.sl.r_1 arg2 v6 v8 v10 v14 X_arg2 k = v
  generalize hd : trip_k0_t1.sl.r_2 arg7 X_arg7 k = d
  have e3 : trip_k0_t1.sl.r_3 arg1 v0 v2 v4 v12 X_arg1 k = k0_pay5 (F := Ideal) u := by subst hu; rfl
  have e4 : trip_k0_t1.sl.r_4 arg1 v0 v2 v4 v12 X_arg1 k = k0_pay6 (F := Ideal) u := by subst hu; rfl
  rw [e3, e4]
  have hu' : ∀ (p : Fin 256) (l : Fin 128), u (ix2 p l) = conv (v0 (ix2 0 l)) (v2 (ix2 0 l)) (v4 (ix2 0 l)) (v12 (ix2 0 l)) (col x1 l) ⟨256 * k.val + p.val, tile_row (trip_lt k) p⟩ := by
    intro p l
    subst hu
    refine (pay2_apply arg1 X_arg1 x1 h1 k _ _ _ (k0_pay18 v0) (k0_pay19 v2) (k0_pay20 v4) (k0_pay24 v12) p l).trans ?_
    pointwise [k0_pay18, k0_pay19, k0_pay20, k0_pay24]
  have hv' : ∀ (p : Fin 256) (l : Fin 128), v (ix2 p l) = conv (v6 (ix2 0 l)) (v8 (ix2 0 l)) (v10 (ix2 0 l)) (v14 (ix2 0 l)) (col x2 l) ⟨256 * k.val + p.val, tile_row (trip_lt k) p⟩ := by
    intro p l
    subst hv
    refine (pay3_apply arg2 X_arg2 x2 h2 k _ _ _ (k0_pay21 v6) (k0_pay22 v8) (k0_pay23 v10) (k0_pay25 v14) p l).trans ?_
    pointwise [k0_pay21, k0_pay22, k0_pay23, k0_pay25]
  have hd' : ∀ (p : Fin 256) (l : Fin 128), d (ix2 p l) = x7 (ix2 ⟨256 * k.val + p.val, tile_row (trip_lt k) p⟩ l) := by
    intro p l
    subst hd
    exact load_rows arg7 X_arg7 x7 h7 _ _ (k0_off1_eq k) _ p l _
  clear hu hv hd e3 e4
  have g : ∀ (p : Fin 256) (l : Fin 128), k0_pay28 u v d (k0_pay5 u) (k0_pay6 u) trip_k0_t1.sl.cst_68 (ix2 p l)
      = DG x1 x2 x7 v0 v2 v4 v6 v8 v10 v12 v14 l ⟨256 * k.val + p.val, tile_row (trip_lt k) p⟩ := by
    intro p l
    unfold DG
    rw [← hu', ← hv', ← hd']
    pointwise [k0_pay28, k0_pay27, pay5_apply, pay6_apply, named_three_a]
    rfl
  have w : ∀ (p : Fin 256) (l : Fin 128), k0_pay29 u d (k0_pay6 u) trip_k0_t1.sl.cst_68 (ix2 p l)
      = DV x1 x7 v0 v2 v4 v12 l ⟨256 * k.val + p.val, tile_row (trip_lt k) p⟩ := by
    intro p l
    unfold DV
    rw [← hu', ← hd']
    pointwise [k0_pay29, k0_pay27, pay6_apply]
    rfl
  refine ⟨fun l => ?_, fun l => ?_, ⟨_, _, rfl, fun p l => ?_⟩, ⟨_, _, rfl, fun p l => ?_⟩⟩
  · rw [← Finset.sum_congr rfl fun p _ => g p l]
    pointwise [k0_pay32]
  · rw [← Finset.sum_congr rfl fun p _ => w p l]
    pointwise [k0_pay33]
  · rw [← g]
    pointwise [k0_pay30]
  · rw [← w]
    pointwise [k0_pay31]

end Cert.KernelIdeal.Mine

end
-- ==== Proof.Trip2.lean ====
/- One trip of the kernel's second loop, read at an index: the tile's rows of the gradient of each half of the
   convolution's input, and the tile's part of the gradient of each of the three weights. -/
module

public import proofs.«01_k».proof.Proof.Trip1

@[expose] public section

set_option maxRecDepth 16384

noncomputable section

namespace Cert.KernelIdeal.Mine

open Cert.KernelIdeal Cert.KernelIdeal.Gen Idealize.ShloMosaic Idealize.ShloMosaic.TcCoe Idealize.SL.Sem
open Cert.Spec

theorem cond_lo2 (k : Fin k0_t2_loop.trips) :
    Scalar.cmpi CmpIPredicate.sgt (Scalar.muli (Scf.iv 0#32 1#32 k.val) 256#32) 0#32 = if 0 < k.val then 1#1 else 0#1 := by
  revert k; decide +kernel

theorem cond_hi2 (k : Fin k0_t2_loop.trips) :
    Scalar.cmpi CmpIPredicate.slt (Scalar.addi (Scalar.muli (Scf.iv 0#32 1#32 k.val) 256#32) 256#32) 8192#32
      = if k.val < 31 then 1#1 else 0#1 := by
  revert k; decide +kernel

theorem off5_eq (k : Fin k0_t2_loop.trips) : k0_off5 k = ![256 * k.val - 8, 0] := by revert k; decide +kernel

theorem trip_lt2 (k : Fin k0_t2_loop.trips) : k.val < 32 := Nat.lt_of_lt_of_le k.isLt k0_t2_abs.2.1

/-- A tile with its halos, as the trip joins them, at any of its 272 positions. -/
theorem pay15_apply (arg : Memref sig .tc .vmem S8192x128 .f32) (X : BufTy.Contents (Elt Ideal) arg.view.ty)
    (x : Vec Ideal S8192x128 .f32) (hx : arg.view.read (Elt Ideal) X = x) (k : Fin k0_t2_loop.trips) (i1 i2 i3) (n : Fin 272) (l : Fin 128) :
    k0_pay15 (Scalar.muli (Scf.iv 0#32 1#32 k.val) 256#32)
      (View.readAt (Elt Ideal) arg.view (Rect.unit (s := S8192x128) (k0_off4 k) ![256, 128] i1).toLoadRect X)
      (View.readAt (Elt Ideal) arg.view (Rect.unit (s := S8192x128) (k0_off5 k) ![8, 128] i2).toLoadRect X)
      (View.readAt (Elt Ideal) arg.view (Rect.unit (s := S8192x128) (k0_off6 k) ![8, 128] i3).toLoadRect X) (ix2 n l)
      = ext (col x l) (256 * k.val + n.val) := by
  have hk := trip_lt2 k
  pointwise [k0_pay15]
  refine lad_apply _ k.val hk _ _ (cond_lo2 k) (cond_hi2 k)
    (fun p => View.readAt (Elt Ideal) arg.view (Rect.unit (s := S8192x128) (k0_off4 k) ![256, 128] i1).toLoadRect X (ix2 p l))
    (fun q => View.readAt (Elt Ideal) arg.view (Rect.unit (s := S8192x128) (k0_off5 k) ![8, 128] i2).toLoadRect X (ix2 q l))
    (fun q => View.readAt (Elt Ideal) arg.view (Rect.unit (s := S8192x128) (k0_off6 k) ![8, 128] i3).toLoadRect X (ix2 q l))
    (fun p => ?_) (fun h q => ?_) (fun h q => ?_) n
  · exact load_rows arg X x hx _ _ (k0_off4_eq k) _ p l _
  · exact load_rows arg X x hx _ _ (off5_eq k) _ q l (by omega)
  · refine load_rows arg X x hx _ (256 * k.val + 256) ?_ _ q l (by omega)
    rw [k0_off6_eq, min_eq_left (by omega)]

section Rows

variable (k : ℕ) (hk : k < 32) (X D : Col) (l : Fin 128) (e d : FVec Ideal S272x128 .f32)
  (he : ∀ n : Fin 272, e (ix2 n l) = ext X (256 * k + n.val)) (hd : ∀ n : Fin 272, d (ix2 n l) = ext D (256 * k + n.val))

include hd

/-- The row of the tile, the row before and the row after, out of the joined tile. -/
theorem row_self (p : Fin 256) (n : Fin 272) (hn : n.val = 8 + p.val) :
    d (ix2 n l) = D ⟨256 * k + p.val, tile_row hk p⟩ := by
  rw [hd, ← ext_self D]; congr 1; show 256 * k + n.val = 256 * k + p.val + 8; omega
theorem row_prev (p : Fin 256) (n : Fin 272) (hn : n.val = 7 + p.val) :
    d (ix2 n l) = prev D ⟨256 * k + p.val, tile_row hk p⟩ := by
  rw [hd]; unfold prev; congr 1; show 256 * k + n.val = 256 * k + p.val + 7; omega
theorem row_next (p : Fin 256) (n : Fin 272) (hn : n.val = 9 + p.val) :
    d (ix2 n l) = next D ⟨256 * k + p.val, tile_row hk p⟩ := by
  rw [hd]; unfold next; congr 1; show 256 * k + n.val = 256 * k + p.val + 9; omega

include he

theorem pay34_apply (a : FVec Ideal S1x128 .f32) :
    k0_pay34 a e (extractStridedSlice S256x128 ![8, 0] d slices_S272x128_o8_0_S256x128) (ix2 0 l)
      = a (ix2 0 l) + ∑ p : Fin 256, D ⟨256 * k + p.val, tile_row hk p⟩ * prev X ⟨256 * k + p.val, tile_row hk p⟩ := by
  pointwise [k0_pay34]
  refine congrArg (a _ + ·) (Finset.sum_congr rfl fun p _ => ?_)
  have := p.isLt
  rw [row_self k hk D l d hd p _ rfl, row_prev k hk X l e he p _ (by show (8 + p.val + 272 - 1) % 272 = 7 + p.val; omega)]

theorem pay35_apply (a : FVec Ideal S1x128 .f32) :
    k0_pay35 a e (extractStridedSlice S256x128 ![8, 0] d slices_S272x128_o8_0_S256x128) (ix2 0 l)
      = a (ix2 0 l) + ∑ p : Fin 256, D ⟨256 * k + p.val, tile_row hk p⟩ * X ⟨256 * k + p.val, tile_row hk p⟩ := by
  pointwise [k0_pay35]
  refine congrArg (a _ + ·) (Finset.sum_congr rfl fun p _ => ?_)
  rw [row_self k hk D l d hd p _ rfl, row_self k hk X l e he p _ rfl]

theorem pay36_apply (a : FVec Ideal S1x128 .f32) :
    k0_pay36 a e (extractStridedSlice S256x128 ![8, 0] d slices_S272x128_o8_0_S256x128) (ix2 0 l)
      = a (ix2 0 l) + ∑ p : Fin 256, D ⟨256 * k + p.val, tile_row hk p⟩ * next X ⟨256 * k + p.val, tile_row hk p⟩ := by
  pointwise [k0_pay36]
  refine congrArg (a _ + ·) (Finset.sum_congr rfl fun p _ => ?_)
  have := p.isLt
  rw [row_self k hk D l d hd p _ rfl, row_next k hk X l e he p _ (by show (8 + p.val + 272 - 271) % 272 = 9 + p.val; omega)]

omit he in
theorem pay37_apply (v6 v8 v10 : Vec Ideal S1x128 .f32) (p : Fin 256) :
    k0_pay37 v6 v8 v10 d (Scalar.ofBits .f32 0x00000000#32) (ix2 p l)
      = convT (v6 (ix2 0 l)) (v8 (ix2 0 l)) (v10 (ix2 0 l)) D ⟨256 * k + p.val, tile_row hk p⟩ := by
  have := p.isLt
  pointwise [k0_pay37, k0_pay21, k0_pay22, k0_pay23]
  unfold convT
  refine congrArg₂ (· + ·) (congrArg₂ (· + ·) (congrArg _ ?_) (congrArg _ ?_)) (congrArg _ ?_)
  · exact row_next k hk D l d hd p _ (by show (8 + p.val + 272 - 271) % 272 = 9 + p.val; omega)
  · exact row_self k hk D l d hd p _ rfl
  · exact row_prev k hk D l d hd p _ (by show (8 + p.val + 272 - 1) % 272 = 7 + p.val; omega)

end Rows

variable (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole) (v0 : Vec Ideal S1x128 .f32) (v2 : Vec Ideal S1x128 .f32) (v4 : Vec Ideal S1x128 .f32) (v6 : Vec Ideal S1x128 .f32) (v8 : Vec Ideal S1x128 .f32) (v10 : Vec Ideal S1x128 .f32) (X_arg1 : BufTy.Contents (Elt Ideal) arg1.view.ty) (X_arg2 : BufTy.Contents (Elt Ideal) arg2.view.ty) (X_arg14 : BufTy.Contents (Elt Ideal) arg14.view.ty) (X_arg15 : BufTy.Contents (Elt Ideal) arg15.view.ty)

theorem trip2 (x1 x2 x14 x15 : Vec Ideal S8192x128 .f32)
    (h1 : arg1.view.read (Elt Ideal) X_arg1 = x1) (h2 : arg2.view.read (Elt Ideal) X_arg2 = x2)
    (h14 : arg14.view.read (Elt Ideal) X_arg14 = x14) (h15 : arg15.view.read (Elt Ideal) X_arg15 = x15)
    (k : Fin k0_t2_loop.trips) (acc : FVec Ideal S1x128 .f32 × FVec Ideal S1x128 .f32 × FVec Ideal S1x128 .f32 × FVec Ideal S1x128 .f32 × FVec Ideal S1x128 .f32 × FVec Ideal S1x128 .f32) :
    (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).1 (ix2 0 l)
      = acc.1 (ix2 0 l) + ∑ p : Fin 256, col x14 l ⟨256 * k.val + p.val, tile_row (trip_lt2 k) p⟩ * prev (col x1 l) ⟨256 * k.val + p.val, tile_row (trip_lt2 k) p⟩)
    ∧ (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).2.1 (ix2 0 l)
      = acc.2.1 (ix2 0 l) + ∑ p : Fin 256, col x14 l ⟨256 * k.val + p.val, tile_row (trip_lt2 k) p⟩ * col x1 l ⟨256 * k.val + p.val, tile_row (trip_lt2 k) p⟩)
    ∧ (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).2.2.1 (ix2 0 l)
      = acc.2.2.1 (ix2 0 l) + ∑ p : Fin 256, col x14 l ⟨256 * k.val + p.val, tile_row (trip_lt2 k) p⟩ * next (col x1 l) ⟨256 * k.val + p.val, tile_row (trip_lt2 k) p⟩)
    ∧ (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).2.2.2.1 (ix2 0 l)
      = acc.2.2.2.1 (ix2 0 l) + ∑ p : Fin 256, col x15 l ⟨256 * k.val + p.val, tile_row (trip_lt2 k) p⟩ * prev (col x2 l) ⟨256 * k.val + p.val, tile_row (trip_lt2 k) p⟩)
    ∧ (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).2.2.2.2.1 (ix2 0 l)
      = acc.2.2.2.2.1 (ix2 0 l) + ∑ p : Fin 256, col x15 l ⟨256 * k.val + p.val, tile_row (trip_lt2 k) p⟩ * col x2 l ⟨256 * k.val + p.val, tile_row (trip_lt2 k) p⟩)
    ∧ (∀ l : Fin 128, ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).1 acc).2.2.2.2.2 (ix2 0 l)
      = acc.2.2.2.2.2 (ix2 0 l) + ∑ p : Fin 256, col x15 l ⟨256 * k.val + p.val, tile_row (trip_lt2 k) p⟩ * next (col x2 l) ⟨256 * k.val + p.val, tile_row (trip_lt2 k) p⟩)
    ∧ (∃ inb, ∃ pay : Vec Ideal S256x128 .bf16, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).2.1 acc = [⟨Rect.unit (s := S8192x128) (k0_off4 k) ![256, 128] inb, pay⟩]
        ∧ ∀ (p : Fin 256) (l : Fin 128), pay (ix2 p l) = convT (v0 (ix2 0 l)) (v2 (ix2 0 l)) (v4 (ix2 0 l)) (col x14 l) ⟨256 * k.val + p.val, tile_row (trip_lt2 k) p⟩)
    ∧ (∃ inb, ∃ pay : Vec Ideal S256x128 .bf16, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 k).2.2.1 acc = [⟨Rect.unit (s := S8192x128) (k0_off4 k) ![256, 128] inb, pay⟩]
        ∧ ∀ (p : Fin 256) (l : Fin 128), pay (ix2 p l) = convT (v6 (ix2 0 l)) (v8 (ix2 0 l)) (v10 (ix2 0 l)) (col x15 l) ⟨256 * k.val + p.val, tile_row (trip_lt2 k) p⟩) := by
  have E1 := fun l n => pay15_apply arg1 X_arg1 x1 h1 k (k0_off4_inb k) (k0_off5_inb k) (k0_off6_inb k) n l
  have E2 := fun l n => pay15_apply arg2 X_arg2 x2 h2 k (k0_off4_inb k) (k0_off5_inb k) (k0_off6_inb k) n l
  have E14 := fun l n => pay15_apply arg14 X_arg14 x14 h14 k (k0_off4_inb k) (k0_off5_inb k) (k0_off6_inb k) n l
  have E15 := fun l n => pay15_apply arg15 X_arg15 x15 h15 k (k0_off4_inb k) (k0_off5_inb k) (k0_off6_inb k) n l
  have hk := trip_lt2 k
  unfold trip_k0_t2
  dsimp only
  refine ⟨fun l => ?_, fun l => ?_, fun l => ?_, fun l => ?_, fun l => ?_, fun l => ?_, ⟨_, _, rfl, fun p l => ?_⟩, ⟨_, _, rfl, fun p l => ?_⟩⟩
  · exact pay34_apply k.val hk (col x1 l) (col x14 l) l _ _ (E1 l) (E14 l) acc.1
  · exact pay35_apply k.val hk (col x1 l) (col x14 l) l _ _ (E1 l) (E14 l) acc.2.1
  · exact pay36_apply k.val hk (col x1 l) (col x14 l) l _ _ (E1 l) (E14 l) acc.2.2.1
  · exact pay34_apply k.val hk (col x2 l) (col x15 l) l _ _ (E2 l) (E15 l) acc.2.2.2.1
  · exact pay35_apply k.val hk (col x2 l) (col x15 l) l _ _ (E2 l) (E15 l) acc.2.2.2.2.1
  · exact pay36_apply k.val hk (col x2 l) (col x15 l) l _ _ (E2 l) (E15 l) acc.2.2.2.2.2
  · exact pay37_apply k.val hk (col x14 l) l _ (E14 l) v0 v2 v4 p
  · exact pay37_apply k.val hk (col x15 l) l _ (E15 l) v6 v8 v10 p

end Cert.KernelIdeal.Mine

end
-- ==== Proof.Loop.lean ====
/- The two loops read whole: what the first leaves in the scratch arrays and in its two sums, and what the second leaves in
   its stores and its six sums, by induction over the trips. -/
module

public import proofs.«01_k».proof.Proof.Trip2
public import proofs.«01_k».proof.Proof.Exit

@[expose] public section

set_option maxRecDepth 16384

noncomputable section

namespace Cert.KernelIdeal.Mine

open Cert.KernelIdeal Cert.KernelIdeal.Gen Idealize.ShloMosaic Idealize.ShloMosaic.TcCoe Idealize.SL.Sem
open Cert.Spec

/-- The sum of a channel over the first `n` tiles. -/
def upto (f : Col) (n : ℕ) : EReal := ∑ j ∈ Finset.range (256 * n), if h : j < 8192 then f ⟨j, h⟩ else 0

theorem upto_zero (f : Col) : upto f 0 = 0 := by simp [upto]

theorem upto_succ (f : Col) (n : ℕ) (hn : n < 32) : upto f (n + 1) = upto f n + ∑ p : Fin 256, f ⟨256 * n + p.val, tile_row hn p⟩ := by
  unfold upto
  rw [Nat.mul_succ, Finset.sum_range_add, Finset.sum_range (n := 256)]
  congr 1
  refine Finset.sum_congr rfl fun p _ => ?_
  rw [dif_pos]

theorem upto_all (f : Col) : upto f 32 = ∑ r : Fin 8192, f r := by
  unfold upto
  rw [show 256 * 32 = 8192 from rfl, Finset.sum_range]
  exact Finset.sum_congr rfl fun r _ => dif_pos r.isLt

/-- The block whose channel `l` is `g l`. -/
def grid (g : Fin 128 → Col) : S8192x128.Idx → EReal := fun y => g ⟨(y 1).val, (y 1).isLt⟩ ⟨(y 0).val, (y 0).isLt⟩

/-- A tile of a block of channels, at its place in the block. -/
theorem piece_grid (g : Fin 128 → Col) {k : ℕ} (hk : k < 32) (off : Fin 2 → ℕ) (ho : off = ![256 * k, 0])
    (inb : ∀ a, off a + (![256, 128] : Fin 2 → ℕ) a ≤ S8192x128.size a) (pay : S256x128.Idx → EReal)
    (h : ∀ (p : Fin 256) (l : Fin 128), pay (ix2 p l) = g l ⟨256 * k + p.val, tile_row hk p⟩)
    (x : (Rect.unit (s := S8192x128) off ![256, 128] inb).shape.Idx) :
    pay x = grid g ((Rect.unit (s := S8192x128) off ![256, 128] inb).emb x) := by
  subst ho
  rw [show (x : S256x128.Idx) = ix2 (x 0) (x 1) from ValueIdx.eq_ix2 x]
  refine (h (x 0) (x 1)).trans ?_
  unfold grid
  have e1 : (⟨(((Rect.unit (s := S8192x128) ![256 * k, 0] ![256, 128] inb).emb (ix2 (x 0) (x 1))) 1).val, Fin.isLt _⟩ : Fin 128) = x 1 := by
    apply Fin.ext; show 0 + 1 * (x 1).val = (x 1).val; omega
  have e0 : (⟨(((Rect.unit (s := S8192x128) ![256 * k, 0] ![256, 128] inb).emb (ix2 (x 0) (x 1))) 0).val, Fin.isLt _⟩ : Fin 8192) = ⟨256 * k + (x 0).val, tile_row hk (x 0)⟩ := by
    apply Fin.ext; show 256 * k + 1 * (x 0).val = 256 * k + (x 0).val; omega
  exact (congr (congrArg g e1) e0).symm

theorem mem_of_eq {α : Type*} {a : α} {L L' : List α} (h : a ∈ L) (e : L = L') : a ∈ L' := e ▸ h

section One

variable (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole) (v0 : Vec Ideal S1x128 .f32) (v2 : Vec Ideal S1x128 .f32) (v4 : Vec Ideal S1x128 .f32) (v6 : Vec Ideal S1x128 .f32) (v8 : Vec Ideal S1x128 .f32) (v10 : Vec Ideal S1x128 .f32) (v12 : Vec Ideal S1x128 .f32) (v14 : Vec Ideal S1x128 .f32) (X_arg1 : BufTy.Contents (Elt Ideal) arg1.view.ty) (X_arg2 : BufTy.Contents (Elt Ideal) arg2.view.ty) (X_arg7 : BufTy.Contents (Elt Ideal) arg7.view.ty)

theorem loop1 (x1 x2 : Vec Ideal S8192x128 .f32) (x7 : Vec Ideal S8192x128 .bf16)
    (h1 : arg1.view.read (Elt Ideal) X_arg1 = x1) (h2 : arg2.view.read (Elt Ideal) X_arg2 = x2) (h7 : arg7.view.read (Elt Ideal) X_arg7 = x7)
    (init : FVec Ideal S1x128 .f32 × FVec Ideal S1x128 .f32) (n : ℕ) (hn : n ≤ k0_t1_loop.trips) :
    (∀ l : Fin 128, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init n).1.1 (ix2 0 l)
      = init.1 (ix2 0 l) + upto (DG x1 x2 x7 v0 v2 v4 v6 v8 v10 v12 v14 l) n)
    ∧ (∀ l : Fin 128, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init n).1.2 (ix2 0 l)
      = init.2 (ix2 0 l) + upto (DV x1 x7 v0 v2 v4 v12 l) n)
    ∧ (∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init n).2.1, ∀ x : p.1.shape.Idx, p.2 x = grid (fun l => DG x1 x2 x7 v0 v2 v4 v6 v8 v10 v12 v14 l) (p.1.emb x))
    ∧ (∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init n).2.2, ∀ x : p.1.shape.Idx, p.2 x = grid (fun l => DV x1 x7 v0 v2 v4 v12 l) (p.1.emb x)) := by
  induction n with
  | zero =>
    refine ⟨fun l => ?_, fun l => ?_, fun p hp => absurd hp List.not_mem_nil, fun p hp => absurd hp List.not_mem_nil⟩
    · rw [upto_zero, add_zero]; rfl
    · rw [upto_zero, add_zero]; rfl
  | succ n ih =>
    obtain ⟨i1, i2, i3, i4⟩ := ih (Nat.le_of_succ_le hn)
    have hk : n < 32 := trip_lt ⟨n, hn⟩
    have E := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init ⟨n, hn⟩
    obtain ⟨t1, t2, ⟨inb3, pay3, l3, t3⟩, ⟨inb4, pay4, l4, t4⟩⟩ := trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 x1 x2 x7 h1 h2 h7 ⟨n, hn⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 v12 v14 X_arg1 X_arg2 X_arg7 init n).1
    rw [E]
    refine ⟨fun l => ?_, fun l => ?_, fun p hp => ?_, fun p hp => ?_⟩
    · rw [upto_succ _ _ hk, ← add_assoc, ← i1]; exact t1 l
    · rw [upto_succ _ _ hk, ← add_assoc, ← i2]; exact t2 l
    · rcases List.mem_append.1 hp with hp | hp
      · replace hp := mem_of_eq hp l3
        rw [List.mem_singleton] at hp; subst hp
        exact piece_grid _ hk _ (k0_off1_eq ⟨n, hn⟩) inb3 pay3 t3
      · exact i3 p hp
    · rcases List.mem_append.1 hp with hp | hp
      · replace hp := mem_of_eq hp l4
        rw [List.mem_singleton] at hp; subst hp
        exact piece_grid _ hk _ (k0_off1_eq ⟨n, hn⟩) inb4 pay4 t4
      · exact i4 p hp

end One

section Two

variable (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole) (v0 : Vec Ideal S1x128 .f32) (v2 : Vec Ideal S1x128 .f32) (v4 : Vec Ideal S1x128 .f32) (v6 : Vec Ideal S1x128 .f32) (v8 : Vec Ideal S1x128 .f32) (v10 : Vec Ideal S1x128 .f32) (X_arg1 : BufTy.Contents (Elt Ideal) arg1.view.ty) (X_arg2 : BufTy.Contents (Elt Ideal) arg2.view.ty) (X_arg14 : BufTy.Contents (Elt Ideal) arg14.view.ty) (X_arg15 : BufTy.Contents (Elt Ideal) arg15.view.ty)

theorem loop2 (x1 x2 x14 x15 : Vec Ideal S8192x128 .f32)
    (h1 : arg1.view.read (Elt Ideal) X_arg1 = x1) (h2 : arg2.view.read (Elt Ideal) X_arg2 = x2)
    (h14 : arg14.view.read (Elt Ideal) X_arg14 = x14) (h15 : arg15.view.read (Elt Ideal) X_arg15 = x15)
    (init : FVec Ideal S1x128 .f32 × FVec Ideal S1x128 .f32 × FVec Ideal S1x128 .f32 × FVec Ideal S1x128 .f32 × FVec Ideal S1x128 .f32 × FVec Ideal S1x128 .f32)
    (n : ℕ) (hn : n ≤ k0_t2_loop.trips) :
    (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.1 (ix2 0 l) = init.1 (ix2 0 l) + upto (fun r => col x14 l r * prev (col x1 l) r) n)
    ∧ (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.2.1 (ix2 0 l) = init.2.1 (ix2 0 l) + upto (fun r => col x14 l r * col x1 l r) n)
    ∧ (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.2.2.1 (ix2 0 l) = init.2.2.1 (ix2 0 l) + upto (fun r => col x14 l r * next (col x1 l) r) n)
    ∧ (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.2.2.2.1 (ix2 0 l) = init.2.2.2.1 (ix2 0 l) + upto (fun r => col x15 l r * prev (col x2 l) r) n)
    ∧ (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.2.2.2.2.1 (ix2 0 l) = init.2.2.2.2.1 (ix2 0 l) + upto (fun r => col x15 l r * col x2 l r) n)
    ∧ (∀ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1.2.2.2.2.2 (ix2 0 l) = init.2.2.2.2.2 (ix2 0 l) + upto (fun r => col x15 l r * next (col x2 l) r) n)
    ∧ (∀ p ∈ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).2.1, ∀ x : p.1.shape.Idx, p.2 x = grid (fun l => convT (v0 (ix2 0 l)) (v2 (ix2 0 l)) (v4 (ix2 0 l)) (col x14 l)) (p.1.emb x))
    ∧ (∀ p ∈ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).2.2, ∀ x : p.1.shape.Idx, p.2 x = grid (fun l => convT (v6 (ix2 0 l)) (v8 (ix2 0 l)) (v10 (ix2 0 l)) (col x15 l)) (p.1.emb x)) := by
  induction n with
  | zero =>
    refine ⟨fun l => ?_, fun l => ?_, fun l => ?_, fun l => ?_, fun l => ?_, fun l => ?_, fun p hp => absurd hp List.not_mem_nil, fun p hp => absurd hp List.not_mem_nil⟩
    all_goals (rw [upto_zero, add_zero]; rfl)
  | succ n ih =>
    obtain ⟨i1, i2, i3, i4, i5, i6, i7, i8⟩ := ih (Nat.le_of_succ_le hn)
    have hk : n < 32 := trip_lt2 ⟨n, hn⟩
    have E := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init ⟨n, hn⟩
    obtain ⟨t1, t2, t3, t4, t5, t6, ⟨inb7, pay7, l7, t7⟩, ⟨inb8, pay8, l8, t8⟩⟩ := trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 x1 x2 x14 x15 h1 h2 h14 h15 ⟨n, hn⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v2 v4 v6 v8 v10 X_arg1 X_arg2 X_arg14 X_arg15 init n).1
    rw [E]
    refine ⟨fun l => ?_, fun l => ?_, fun l => ?_, fun l => ?_, fun l => ?_, fun l => ?_, fun p hp => ?_, fun p hp => ?_⟩
    · rw [upto_succ _ _ hk, ← add_assoc, ← i1]; exact t1 l
    · rw [upto_succ _ _ hk, ← add_assoc, ← i2]; exact t2 l
    · rw [upto_succ _ _ hk, ← add_assoc, ← i3]; exact t3 l
    · rw [upto_succ _ _ hk, ← add_assoc, ← i4]; exact t4 l
    · rw [upto_succ _ _ hk, ← add_assoc, ← i5]; exact t5 l
    · rw [upto_succ _ _ hk, ← add_assoc, ← i6]; exact t6 l
    · rcases List.mem_append.1 hp with hp | hp
      · replace hp := mem_of_eq hp l7
        rw [List.mem_singleton] at hp; subst hp
        exact piece_grid _ hk _ (k0_off4_eq ⟨n, hn⟩) inb7 pay7 t7
      · exact i7 p hp
    · rcases List.mem_append.1 hp with hp | hp
      · replace hp := mem_of_eq hp l8
        rw [List.mem_singleton] at hp; subst hp
        exact piece_grid _ hk _ (k0_off4_eq ⟨n, hn⟩) inb8 pay8 t8
      · exact i8 p hp

end Two

end Cert.KernelIdeal.Mine

end
-- ==== Proof.Outs.lean ====
/- What the body leaves in each of its six outputs' blocks, at the reals: the gradient of each half of the convolution's
   input, of each half of its weights, and of each half of its bias, channel by channel. -/
module

public import proofs.«01_k».proof.Proof.Loop
public import proofs.«01_k».proof.Proof.Frame
public import Idealize.ShloMosaic.Lib.WritesUnit

@[expose] public section

set_option maxRecDepth 16384

noncomputable section

namespace Cert.KernelIdeal.Mine

open Cert.KernelIdeal Cert.KernelIdeal.Gen Idealize.ShloMosaic Idealize.ShloMosaic.TcCoe Idealize.SL.Sem
open Cert.Spec

/-- The gradient that reaches the gate's channel `l` of a block, from the blocks of the inputs. -/
def BG (x0 x1 : S8192x128.Idx → EReal) (x2 x3 : S3x128.Idx → EReal) (x4 x5 : S1x128.Idx → EReal) (x6 : S8192x128.Idx → EReal) (l : Fin 128) : Col := fun r =>
  dgate (conv (x2 (ix2 0 l)) (x2 (ix2 1 l)) (x2 (ix2 2 l)) (x4 (ix2 0 l)) (col x0 l) r)
    (conv (x3 (ix2 0 l)) (x3 (ix2 1 l)) (x3 (ix2 2 l)) (x5 (ix2 0 l)) (col x1 l) r) (x6 (ix2 r l))

/-- The gradient that reaches the value's channel `l` of a block. -/
def BV (x0 : S8192x128.Idx → EReal) (x2 : S3x128.Idx → EReal) (x4 : S1x128.Idx → EReal) (x6 : S8192x128.Idx → EReal) (l : Fin 128) : Col := fun r =>
  dvalue (conv (x2 (ix2 0 l)) (x2 (ix2 1 l)) (x2 (ix2 2 l)) (x4 (ix2 0 l)) (col x0 l) r) (x6 (ix2 r l))

/-- The weights' gradient in a block of eight rows, of which three are the weights'. -/
def rows3 (a b c : Fin 128 → EReal) : S8x128.Idx → EReal := fun y =>
  if (y 0).val = 0 then a ⟨(y 1).val, (y 1).isLt⟩ else if (y 0).val = 1 then b ⟨(y 1).val, (y 1).isLt⟩
  else if (y 0).val = 2 then c ⟨(y 1).val, (y 1).isLt⟩ else 0

/-- A row loaded from a block whose contents are `x`. -/
theorem load_row {n : ℕ} (arg : Memref sig .tc .vmem ⟨2, ![n, 128]⟩ .f32) (harg : arg.IsWhole) (x : Vec Ideal ⟨2, ![n, 128]⟩ .f32)
    (o : Fin n) (inb : ∀ a, (![o.val, 0] : Fin 2 → ℕ) a + S1x128.size a ≤ (⟨2, ![n, 128]⟩ : Shape).size a) (l : Fin 128) :
    View.readAt (Elt Ideal) arg.view (Rect.unit (s := ⟨2, ![n, 128]⟩) ![o.val, 0] S1x128.size inb).toLoadRect (harg.unread x) (ix2 0 l) = x (ix2 o l) := by
  rw [View.readAt_eq_ld, harg.read_unread]
  unfold View.ld
  congr 1
  funext a
  refine Fin.cases ?_ (fun b => Fin.cases ?_ (fun z => z.elim0) b) a
  · apply Fin.ext; show o.val + 1 * 0 = o.val; omega
  · apply Fin.ext; show 0 + 1 * l.val = l.val; omega

/-- Three rows written one by one over a block of zeros. -/
theorem rows_written (v : View sig .tc .vmem S8x128 .f32) (f : v.ty.Contents (Elt Ideal)) (z : Vec Ideal S8x128 .f32) (a b c : Vec Ideal S1x128 .f32)
    (iz i0 i1 i2) (hz : ∀ y, z y = (0 : EReal)) (fa fb fc : Fin 128 → EReal) (ha : ∀ l : Fin 128, a (ix2 0 l) = fa l) (hb : ∀ l : Fin 128, b (ix2 0 l) = fb l)
    (hc : ∀ l : Fin 128, c (ix2 0 l) = fc l) :
    v.read (Elt Ideal) (v.writes (Elt Ideal) f [⟨Rect.unit (s := S8x128) ![2, 0] S1x128.size i2, c⟩, ⟨Rect.unit (s := S8x128) ![1, 0] S1x128.size i1, b⟩,
      ⟨Rect.unit (s := S8x128) ![0, 0] S1x128.size i0, a⟩, ⟨Rect.unit (s := S8x128) ![0, 0] S8x128.size iz, z⟩]) = rows3 fa fb fc := by
  funext y
  have h0 : (y 0).val < 8 := (y 0).isLt
  have h1 : (y 1).val < 128 := (y 1).isLt
  unfold rows3
  by_cases e2 : (y 0).val = 2
  · rw [if_neg (by omega), if_neg (by omega), if_pos e2]
    refine (View.read_writes_cons_rows_of_mem v f i2 c _ y (ix2 (0 : Fin 1) ⟨(y 1).val, h1⟩) rfl e2 rfl).trans (hc _)
  rw [View.read_writes_cons_rows_of_not_mem (o := 2) (W := 1) v f i2 c _ y rfl rfl (by omega)]
  by_cases e1 : (y 0).val = 1
  · rw [if_neg (by omega), if_pos e1]
    refine (View.read_writes_cons_rows_of_mem v f i1 b _ y (ix2 (0 : Fin 1) ⟨(y 1).val, h1⟩) rfl e1 rfl).trans (hb _)
  rw [View.read_writes_cons_rows_of_not_mem (o := 1) (W := 1) v f i1 b _ y rfl rfl (by omega)]
  by_cases e0 : (y 0).val = 0
  · rw [if_pos e0]
    refine (View.read_writes_cons_rows_of_mem v f i0 a _ y (ix2 (0 : Fin 1) ⟨(y 1).val, h1⟩) rfl e0 rfl).trans (ha _)
  rw [View.read_writes_cons_rows_of_not_mem (o := 0) (W := 1) v f i0 a _ y rfl rfl (by omega)]
  rw [if_neg e0, if_neg e1, if_neg e2]
  refine (View.read_writes_cons_rows_of_mem v f iz z _ y (ix2 (⟨(y 0).val, h0⟩ : Fin 8) ⟨(y 1).val, h1⟩) rfl ?_ rfl).trans (hz _)
  show (y 0).val = 0 + (y 0).val; omega

/-- One row written over a block of one row. -/
theorem row_written (v : View sig .tc .vmem S1x128 .f32) (f : v.ty.Contents (Elt Ideal)) (a : Vec Ideal S1x128 .f32) (i0) :
    v.read (Elt Ideal) (v.writes (Elt Ideal) f [⟨Rect.unit (s := S1x128) ![0, 0] S1x128.size i0, a⟩]) = a := by
  funext y
  have h0 : (y 0).val < 1 := (y 0).isLt
  have h1 : (y 1).val < 128 := (y 1).isLt
  refine (View.read_writes_cons_rows_of_mem v f i0 a _ y (ix2 (⟨(y 0).val, h0⟩ : Fin 1) ⟨(y 1).val, h1⟩) rfl ?_ rfl).trans ?_
  · show (y 0).val = 0 + (y 0).val; omega
  · exact congrArg a (ValueIdx.eq_ix2 y).symm

section Outputs

variable (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8x128 .f32) (harg10 : arg10.IsWhole) (arg11 : Memref sig .tc .vmem S8x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S8192x128 .f32) (harg14 : arg14.IsWhole) (arg15 : Memref sig .tc .vmem S8192x128 .f32) (harg15 : arg15.IsWhole)
  (x0 : Vec Ideal S8192x128 .f32) (x1 : Vec Ideal S8192x128 .f32) (x2 : Vec Ideal S3x128 .f32) (x3 : Vec Ideal S3x128 .f32) (x4 : Vec Ideal S1x128 .f32) (x5 : Vec Ideal S1x128 .f32) (x6 : Vec Ideal S8192x128 .bf16)

/-- The rows of the weights and the biases, as the body loads them. -/
abbrev wg (o : Fin 3) : Vec Ideal S1x128 .f32 := View.readAt (Elt Ideal) arg3.view (Rect.unit (s := S3x128) ![o.val, 0] S1x128.size (by decide +revert)).toLoadRect (harg3.unread x2)
abbrev wv (o : Fin 3) : Vec Ideal S1x128 .f32 := View.readAt (Elt Ideal) arg4.view (Rect.unit (s := S3x128) ![o.val, 0] S1x128.size (by decide +revert)).toLoadRect (harg4.unread x3)
abbrev bg : Vec Ideal S1x128 .f32 := View.readAt (Elt Ideal) arg5.view (Rect.unit (s := S1x128) ![0, 0] S1x128.size inb_S1x128_S1x128_0_0).toLoadRect (harg5.unread x4)
abbrev bv : Vec Ideal S1x128 .f32 := View.readAt (Elt Ideal) arg6.view (Rect.unit (s := S1x128) ![0, 0] S1x128.size inb_S1x128_S1x128_0_0).toLoadRect (harg6.unread x5)

/-- The first loop's end, and the scratch arrays it leaves. -/
abbrev end1 := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (bg arg5 harg5 x4) (bv arg6 harg6 x5) (harg1.unread x0) (harg2.unread x1) (harg7.unread x6) (k0_pay26, k0_pay26) k0_t1_loop.trips
abbrev s14 := scr14 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (bg arg5 harg5 x4) (bv arg6 harg6 x5) (harg1.unread x0) (harg2.unread x1) (harg7.unread x6) (k0_pay26, k0_pay26)
abbrev s15 := scr15 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (bg arg5 harg5 x4) (bv arg6 harg6 x5) (harg1.unread x0) (harg2.unread x1) (harg7.unread x6) (k0_pay26, k0_pay26)
/-- The second loop's end. -/
abbrev end2 := st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (harg1.unread x0) (harg2.unread x1) (harg14.unread (s14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (harg15.unread (s15 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (k0_pay26, k0_pay26, k0_pay26, k0_pay26, k0_pay26, k0_pay26) k0_t2_loop.trips

theorem wg_apply (o : Fin 3) (l : Fin 128) : wg arg3 harg3 x2 o (ix2 0 l) = x2 (ix2 o l) := load_row arg3 harg3 x2 o _ l
theorem wv_apply (o : Fin 3) (l : Fin 128) : wv arg4 harg4 x3 o (ix2 0 l) = x3 (ix2 o l) := load_row arg4 harg4 x3 o _ l
theorem bg_apply (l : Fin 128) : bg arg5 harg5 x4 (ix2 0 l) = x4 (ix2 0 l) := load_row arg5 harg5 x4 (0 : Fin 1) inb_S1x128_S1x128_0_0 l
theorem bv_apply (l : Fin 128) : bv arg6 harg6 x5 (ix2 0 l) = x5 (ix2 0 l) := load_row arg6 harg6 x5 (0 : Fin 1) inb_S1x128_S1x128_0_0 l

theorem trips1 : k0_t1_loop.trips = 32 := by decide +kernel
theorem trips2 : k0_t2_loop.trips = 32 := by decide +kernel

theorem DG_eq : DG x0 x1 x6 (wg arg3 harg3 x2 0) (wg arg3 harg3 x2 1) (wg arg3 harg3 x2 2) (wv arg4 harg4 x3 0) (wv arg4 harg4 x3 1) (wv arg4 harg4 x3 2) (bg arg5 harg5 x4) (bv arg6 harg6 x5) = BG x0 x1 x2 x3 x4 x5 x6 := by
  funext l r
  unfold DG BG
  rw [wg_apply, wg_apply, wg_apply, wv_apply, wv_apply, wv_apply, bg_apply, bv_apply]

theorem DV_eq : DV x0 x6 (wg arg3 harg3 x2 0) (wg arg3 harg3 x2 1) (wg arg3 harg3 x2 2) (bg arg5 harg5 x4) = BV x0 x2 x4 x6 := by
  funext l r
  unfold DV BV
  rw [wg_apply, wg_apply, wg_apply, bg_apply]

def loopA := loop1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (bg arg5 harg5 x4) (bv arg6 harg6 x5) (harg1.unread x0) (harg2.unread x1) (harg7.unread x6) x0 x1 x6 (harg1.read_unread _) (harg2.read_unread _) (harg7.read_unread _) (k0_pay26, k0_pay26) k0_t1_loop.trips le_rfl

theorem s14_eq : s14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = grid (BG x0 x1 x2 x3 x4 x5 x6) := by
  funext y
  unfold s14 scr14
  rw [← DG_eq arg3 harg3 arg4 harg4 arg5 harg5 arg6 harg6 x0 x1 x2 x3 x4 x5 x6]
  exact View.read_writes_apply_of_pieces _ _ _ _ (loopA c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.1 y (cover14 ..)

theorem s15_eq : s15 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = grid (BV x0 x2 x4 x6) := by
  funext y
  unfold s15 scr15
  rw [← DV_eq arg3 harg3 arg5 harg5 x0 x2 x4 x6]
  exact View.read_writes_apply_of_pieces _ _ _ _ (loopA c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2 y (cover15 ..)

def loopB := loop2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (wg arg3 harg3 x2 0) (wg arg3 harg3 x2 1) (wg arg3 harg3 x2 2) (wv arg4 harg4 x3 0) (wv arg4 harg4 x3 1) (wv arg4 harg4 x3 2) (harg1.unread x0) (harg2.unread x1) (harg14.unread (s14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (harg15.unread (s15 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) x0 x1 (grid (BG x0 x1 x2 x3 x4 x5 x6)) (grid (BV x0 x2 x4 x6))
  (harg1.read_unread _) (harg2.read_unread _) ((harg14.read_unread _).trans (s14_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) ((harg15.read_unread _).trans (s15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)) (k0_pay26, k0_pay26, k0_pay26, k0_pay26, k0_pay26, k0_pay26) k0_t2_loop.trips le_rfl

theorem pay26_zero (l : Fin 128) : k0_pay26 (F := Ideal) (ix2 0 l) = (0 : EReal) := by
  pointwise [k0_pay26]

theorem out7_eq : out7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = grid (fun l => convT (x2 (ix2 0 l)) (x2 (ix2 1 l)) (x2 (ix2 2 l)) (BG x0 x1 x2 x3 x4 x5 x6 l)) := by
  funext y
  have H := (loopB c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.2.1
  simp only [wg_apply] at H
  exact View.read_writes_apply_of_pieces _ _ _ _ H y (cover7 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)

theorem out8_eq : out8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = grid (fun l => convT (x3 (ix2 0 l)) (x3 (ix2 1 l)) (x3 (ix2 2 l)) (BV x0 x2 x4 x6 l)) := by
  funext y
  have H := (loopB c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.2.2
  simp only [wv_apply] at H
  exact View.read_writes_apply_of_pieces _ _ _ _ H y (cover8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)

theorem out9_eq : out9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = rows3 (fun l => ∑ r, BG x0 x1 x2 x3 x4 x5 x6 l r * prev (col x0 l) r)
    (fun l => ∑ r, BG x0 x1 x2 x3 x4 x5 x6 l r * col x0 l r) (fun l => ∑ r, BG x0 x1 x2 x3 x4 x5 x6 l r * next (col x0 l) r) := by
  obtain ⟨h1, h2, h3, -⟩ := loopB c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6
  refine rows_written VO0_9 VO0_9.junk _ (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.1 (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.1 (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.1 _ _ _ _ ?_ _ _ _ (fun l => (h1 l).trans ?_) (fun l => (h2 l).trans ?_) (fun l => (h3 l).trans ?_)
  · intro y; rw [ValueIdx.eq_ix2 y]; pointwise [k0_pay38]
  all_goals exact (congrArg₂ (· + ·) (pay26_zero l) ((congrArg _ trips2).trans (upto_all _))).trans (zero_add _)

theorem out10_eq : out10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = rows3 (fun l => ∑ r, BV x0 x2 x4 x6 l r * prev (col x1 l) r)
    (fun l => ∑ r, BV x0 x2 x4 x6 l r * col x1 l r) (fun l => ∑ r, BV x0 x2 x4 x6 l r * next (col x1 l) r) := by
  obtain ⟨-, -, -, h1, h2, h3, -⟩ := loopB c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6
  refine rows_written VO0_10 VO0_10.junk _ (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.2.1 (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.2.2.1 (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2.2.2.2.2 _ _ _ _ ?_ _ _ _ (fun l => (h1 l).trans ?_) (fun l => (h2 l).trans ?_) (fun l => (h3 l).trans ?_)
  · intro y; rw [ValueIdx.eq_ix2 y]; pointwise [k0_pay1]
  all_goals exact (congrArg₂ (· + ·) (pay26_zero l) ((congrArg _ trips2).trans (upto_all _))).trans (zero_add _)

theorem out11_eq (l : Fin 128) : out11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix2 0 l) = ∑ r, BG x0 x1 x2 x3 x4 x5 x6 l r := by
  have h1 := (loopA c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1 l
  rw [DG_eq arg3 harg3 arg4 harg4 arg5 harg5 arg6 harg6 x0 x1 x2 x3 x4 x5 x6] at h1
  refine (congrFun (row_written VO0_11 VO0_11.junk (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.1 _) _).trans (h1.trans ?_)
  exact (congrArg₂ (· + ·) (pay26_zero l) ((congrArg _ trips1).trans (upto_all _))).trans (zero_add _)

theorem out12_eq (l : Fin 128) : out12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix2 0 l) = ∑ r, BV x0 x2 x4 x6 l r := by
  have h1 := (loopA c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.1 l
  rw [DV_eq arg3 harg3 arg5 harg5 x0 x2 x4 x6] at h1
  refine (congrFun (row_written VO0_12 VO0_12.junk (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1.2 _) _).trans (h1.trans ?_)
  exact (congrArg₂ (· + ·) (pay26_zero l) ((congrArg _ trips1).trans (upto_all _))).trans (zero_add _)

end Outputs

end Cert.KernelIdeal.Mine

end
-- ==== Proof.Arr.lean ====
/- The gated convolution's gradient over whole arrays: 2816 gates and 2816 values, channel by channel, naming no program. -/
module

public import proofs.«01_k».proof.Proof.Spec

@[expose] public section

noncomputable section

namespace Cert.Spec

open Idealize.ShloMosaic

variable (xg xv : (⟨2, ![8192, 2816]⟩ : Shape).Idx → EReal) (W : (⟨2, ![3, 5632]⟩ : Shape).Idx → EReal) (B : (⟨1, ![5632]⟩ : Shape).Idx → EReal)
  (dy : (⟨2, ![8192, 2816]⟩ : Shape).Idx → EReal)

/-- The gate's channel `j` among the 5632, and the value's. -/
def lo (j : Fin 2816) : Fin 5632 := ⟨j.val, by omega⟩
def hi (j : Fin 2816) : Fin 5632 := ⟨2816 + j.val, by omega⟩

/-- Channel `j` over the positions. -/
def chan (x : (⟨2, ![8192, 2816]⟩ : Shape).Idx → EReal) (j : Fin 2816) : Col := fun r => x (ix2 r j)

/-- The convolution with the weights and the bias of channel `q`. -/
def cv (q : Fin 5632) (x : Col) : Col := conv (W (ix2 0 q)) (W (ix2 1 q)) (W (ix2 2 q)) (B (ix1 q)) x

/-- Its transpose. -/
def cvT (q : Fin 5632) (d : Col) : Col := convT (W (ix2 0 q)) (W (ix2 1 q)) (W (ix2 2 q)) d

/-- The gradients that reach the gate's and the value's channel `j`. -/
def AG (j : Fin 2816) : Col := fun r => dgate (cv W B (lo j) (chan xg j) r) (cv W B (hi j) (chan xv j) r) (dy (ix2 r j))
def AV (j : Fin 2816) : Col := fun r => dvalue (cv W B (lo j) (chan xg j) r) (dy (ix2 r j))

/-- A column index of an array, by its value. -/
abbrev c1 {n k : ℕ} (y : (⟨2, ![n, k]⟩ : Shape).Idx) : Fin k := ⟨(y 1).val, (y 1).isLt⟩
/-- A row index. -/
abbrev c0 {n k : ℕ} (y : (⟨2, ![n, k]⟩ : Shape).Idx) : Fin n := ⟨(y 0).val, (y 0).isLt⟩

/-- Three rows of sums in an array of eight. -/
def three (a b c : Fin 2816 → EReal) : (⟨2, ![8, 2816]⟩ : Shape).Idx → EReal := fun y =>
  if (y 0).val = 0 then a (c1 y) else if (y 0).val = 1 then b (c1 y) else if (y 0).val = 2 then c (c1 y) else 0

/-- The six gradients: of the gate's input and the value's, of the weights' two halves, of the biases' two halves. -/
def o0 : (⟨2, ![8192, 2816]⟩ : Shape).Idx → EReal := fun y => cvT W (lo (c1 y)) (AG xg xv W B dy (c1 y)) (c0 y)
def o1 : (⟨2, ![8192, 2816]⟩ : Shape).Idx → EReal := fun y => cvT W (hi (c1 y)) (AV xg W B dy (c1 y)) (c0 y)
def o2 : (⟨2, ![8, 2816]⟩ : Shape).Idx → EReal := three (fun j => ∑ r, AG xg xv W B dy j r * prev (chan xg j) r)
  (fun j => ∑ r, AG xg xv W B dy j r * chan xg j r) (fun j => ∑ r, AG xg xv W B dy j r * next (chan xg j) r)
def o3 : (⟨2, ![8, 2816]⟩ : Shape).Idx → EReal := three (fun j => ∑ r, AV xg W B dy j r * prev (chan xv j) r)
  (fun j => ∑ r, AV xg W B dy j r * chan xv j r) (fun j => ∑ r, AV xg W B dy j r * next (chan xv j) r)
def o4 : (⟨2, ![1, 2816]⟩ : Shape).Idx → EReal := fun y => ∑ r, AG xg xv W B dy (c1 y) r
def o5 : (⟨2, ![1, 2816]⟩ : Shape).Idx → EReal := fun y => ∑ r, AV xg W B dy (c1 y) r

end Cert.Spec

end
-- ==== Proof.Arrays.lean ====
/- The kernel's six result arrays after the run, at the reals, as functions of its five arguments. -/
module

public import proofs.«01_k».proof.Proof.Outs
public import proofs.«01_k».proof.Proof.Arr

@[expose] public section

set_option maxRecDepth 16384

noncomputable section

namespace Cert.KernelIdeal.Mine

open Cert.KernelIdeal Cert.KernelIdeal.Gen Idealize.ShloMosaic Idealize.ShloMosaic.TcCoe Idealize.SL.Sem
open Cert.Spec

variable (m : (ℓ : Loc nD τ sig) → Buf (Elt Ideal) ℓ) (c : Dev nD)

/-- The five arguments. -/
abbrev a0 : FVec Ideal S8192x2816 .f32 := m (c.tc.loc main_arg0)
abbrev a1 : FVec Ideal S8192x2816 .f32 := m (c.tc.loc main_arg1)
abbrev a2 : FVec Ideal S3x5632 .f32 := m (c.tc.loc main_arg2)
abbrev a3 : FVec Ideal S5632 .f32 := m (c.tc.loc main_arg3)
abbrev a4 : FVec Ideal S8192x2816 .bf16 := m (c.tc.loc main_arg4)

theorem V0 : V m c main_v0 = extractStridedSlice S3x2816 ![0, 0] (a2 m c) slices_S3x5632_S3x2816_0_0 := by
  show StableHlo.after hostOps0 _ (Proc.devRef .tc main_v0) = _
  after_results
theorem V1 : V m c main_v1 = extractStridedSlice S3x2816 ![0, 2816] (a2 m c) slices_S3x5632_S3x2816_0_2816 := by
  show StableHlo.after hostOps0 _ (Proc.devRef .tc main_v1) = _
  after_results
theorem V3 : V m c main_v3 = shapeCast S1x2816 (extractStridedSlice S2816 ![0] (a3 m c) slices_S5632_S2816_0) shapeCasts_S2816_S1x2816 := by
  show StableHlo.after hostOps0 _ (Proc.devRef .tc main_v3) = _
  after_results
  rfl
theorem V5 : V m c main_v5 = shapeCast S1x2816 (extractStridedSlice S2816 ![2816] (a3 m c) slices_S5632_S2816_2816) shapeCasts_S2816_S1x2816 := by
  show StableHlo.after hostOps0 _ (Proc.devRef .tc main_v5) = _
  after_results
  rfl

theorem lt22 (t : Fin cfg0.N) : t.val < 22 := Nat.lt_of_lt_of_eq t.isLt N_0

/-- Channel `l` of block `t`. -/
def ch (t : Fin cfg0.N) (l : Fin 128) : Fin 2816 := ⟨128 * t.val + l.val, by have := lt22 t; omega⟩

theorem index0 : ∀ t : Fin cfg0.N, win0_0.index t = ![0, t.val] :=
  (by decide +kernel : ∀ t : Fin grid0.N, win0_0.index t = ![0, t.val])
theorem read0 (t : Fin cfg0.N) (A : FVec Ideal ⟨2, ![8192, 2816]⟩ .f32) (r : Fin 8192) (l : Fin 128) :
    ((cfg0.win 0).blk t).view.read (Elt Ideal) A (ix2 r l) = A (ix2 r (ch t l)) := by
  show A _ = A _
  congr 1
  funext a
  refine Fin.cases ?_ (fun b => Fin.cases ?_ (fun z => z.elim0) b) a
  · apply Fin.ext; show win0_0.index t 0 * 8192 + 1 * r.val = r.val; rw [index0]; show 0 * 8192 + 1 * r.val = r.val; omega
  · apply Fin.ext; show win0_0.index t 1 * 128 + 1 * l.val = 128 * t.val + l.val; rw [index0]; show t.val * 128 + 1 * l.val = 128 * t.val + l.val; omega

theorem index1 : ∀ t : Fin cfg0.N, win0_1.index t = ![0, t.val] :=
  (by decide +kernel : ∀ t : Fin grid0.N, win0_1.index t = ![0, t.val])
theorem read1 (t : Fin cfg0.N) (A : FVec Ideal ⟨2, ![8192, 2816]⟩ .f32) (r : Fin 8192) (l : Fin 128) :
    ((cfg0.win 1).blk t).view.read (Elt Ideal) A (ix2 r l) = A (ix2 r (ch t l)) := by
  show A _ = A _
  congr 1
  funext a
  refine Fin.cases ?_ (fun b => Fin.cases ?_ (fun z => z.elim0) b) a
  · apply Fin.ext; show win0_1.index t 0 * 8192 + 1 * r.val = r.val; rw [index1]; show 0 * 8192 + 1 * r.val = r.val; omega
  · apply Fin.ext; show win0_1.index t 1 * 128 + 1 * l.val = 128 * t.val + l.val; rw [index1]; show t.val * 128 + 1 * l.val = 128 * t.val + l.val; omega

theorem index2 : ∀ t : Fin cfg0.N, win0_2.index t = ![0, t.val] :=
  (by decide +kernel : ∀ t : Fin grid0.N, win0_2.index t = ![0, t.val])
theorem read2 (t : Fin cfg0.N) (A : FVec Ideal ⟨2, ![3, 2816]⟩ .f32) (r : Fin 3) (l : Fin 128) :
    ((cfg0.win 2).blk t).view.read (Elt Ideal) A (ix2 r l) = A (ix2 r (ch t l)) := by
  show A _ = A _
  congr 1
  funext a
  refine Fin.cases ?_ (fun b => Fin.cases ?_ (fun z => z.elim0) b) a
  · apply Fin.ext; show win0_2.index t 0 * 3 + 1 * r.val = r.val; rw [index2]; show 0 * 3 + 1 * r.val = r.val; omega
  · apply Fin.ext; show win0_2.index t 1 * 128 + 1 * l.val = 128 * t.val + l.val; rw [index2]; show t.val * 128 + 1 * l.val = 128 * t.val + l.val; omega

theorem index3 : ∀ t : Fin cfg0.N, win0_3.index t = ![0, t.val] :=
  (by decide +kernel : ∀ t : Fin grid0.N, win0_3.index t = ![0, t.val])
theorem read3 (t : Fin cfg0.N) (A : FVec Ideal ⟨2, ![3, 2816]⟩ .f32) (r : Fin 3) (l : Fin 128) :
    ((cfg0.win 3).blk t).view.read (Elt Ideal) A (ix2 r l) = A (ix2 r (ch t l)) := by
  show A _ = A _
  congr 1
  funext a
  refine Fin.cases ?_ (fun b => Fin.cases ?_ (fun z => z.elim0) b) a
  · apply Fin.ext; show win0_3.index t 0 * 3 + 1 * r.val = r.val; rw [index3]; show 0 * 3 + 1 * r.val = r.val; omega
  · apply Fin.ext; show win0_3.index t 1 * 128 + 1 * l.val = 128 * t.val + l.val; rw [index3]; show t.val * 128 + 1 * l.val = 128 * t.val + l.val; omega

theorem index4 : ∀ t : Fin cfg0.N, win0_4.index t = ![0, t.val] :=
  (by decide +kernel : ∀ t : Fin grid0.N, win0_4.index t = ![0, t.val])
theorem read4 (t : Fin cfg0.N) (A : FVec Ideal ⟨2, ![1, 2816]⟩ .f32) (r : Fin 1) (l : Fin 128) :
    ((cfg0.win 4).blk t).view.read (Elt Ideal) A (ix2 r l) = A (ix2 r (ch t l)) := by
  show A _ = A _
  congr 1
  funext a
  refine Fin.cases ?_ (fun b => Fin.cases ?_ (fun z => z.elim0) b) a
  · apply Fin.ext; show win0_4.index t 0 * 1 + 1 * r.val = r.val; rw [index4]; show 0 * 1 + 1 * r.val = r.val; omega
  · apply Fin.ext; show win0_4.index t 1 * 128 + 1 * l.val = 128 * t.val + l.val; rw [index4]; show t.val * 128 + 1 * l.val = 128 * t.val + l.val; omega

theorem index5 : ∀ t : Fin cfg0.N, win0_5.index t = ![0, t.val] :=
  (by decide +kernel : ∀ t : Fin grid0.N, win0_5.index t = ![0, t.val])
theorem read5 (t : Fin cfg0.N) (A : FVec Ideal ⟨2, ![1, 2816]⟩ .f32) (r : Fin 1) (l : Fin 128) :
    ((cfg0.win 5).blk t).view.read (Elt Ideal) A (ix2 r l) = A (ix2 r (ch t l)) := by
  show A _ = A _
  congr 1
  funext a
  refine Fin.cases ?_ (fun b => Fin.cases ?_ (fun z => z.elim0) b) a
  · apply Fin.ext; show win0_5.index t 0 * 1 + 1 * r.val = r.val; rw [index5]; show 0 * 1 + 1 * r.val = r.val; omega
  · apply Fin.ext; show win0_5.index t 1 * 128 + 1 * l.val = 128 * t.val + l.val; rw [index5]; show t.val * 128 + 1 * l.val = 128 * t.val + l.val; omega

theorem index6 : ∀ t : Fin cfg0.N, win0_6.index t = ![0, t.val] :=
  (by decide +kernel : ∀ t : Fin grid0.N, win0_6.index t = ![0, t.val])
theorem read6 (t : Fin cfg0.N) (A : FVec Ideal ⟨2, ![8192, 2816]⟩ .bf16) (r : Fin 8192) (l : Fin 128) :
    ((cfg0.win 6).blk t).view.read (Elt Ideal) A (ix2 r l) = A (ix2 r (ch t l)) := by
  show A _ = A _
  congr 1
  funext a
  refine Fin.cases ?_ (fun b => Fin.cases ?_ (fun z => z.elim0) b) a
  · apply Fin.ext; show win0_6.index t 0 * 8192 + 1 * r.val = r.val; rw [index6]; show 0 * 8192 + 1 * r.val = r.val; omega
  · apply Fin.ext; show win0_6.index t 1 * 128 + 1 * l.val = 128 * t.val + l.val; rw [index6]; show t.val * 128 + 1 * l.val = 128 * t.val + l.val; omega

theorem index7 : ∀ t : Fin cfg0.N, win0_7.index t = ![0, t.val] :=
  (by decide +kernel : ∀ t : Fin grid0.N, win0_7.index t = ![0, t.val])
theorem read7 (t : Fin cfg0.N) (A : FVec Ideal ⟨2, ![8192, 2816]⟩ .bf16) (r : Fin 8192) (l : Fin 128) :
    ((cfg0.win 7).blk t).view.read (Elt Ideal) A (ix2 r l) = A (ix2 r (ch t l)) := by
  show A _ = A _
  congr 1
  funext a
  refine Fin.cases ?_ (fun b => Fin.cases ?_ (fun z => z.elim0) b) a
  · apply Fin.ext; show win0_7.index t 0 * 8192 + 1 * r.val = r.val; rw [index7]; show 0 * 8192 + 1 * r.val = r.val; omega
  · apply Fin.ext; show win0_7.index t 1 * 128 + 1 * l.val = 128 * t.val + l.val; rw [index7]; show t.val * 128 + 1 * l.val = 128 * t.val + l.val; omega

theorem index8 : ∀ t : Fin cfg0.N, win0_8.index t = ![0, t.val] :=
  (by decide +kernel : ∀ t : Fin grid0.N, win0_8.index t = ![0, t.val])
theorem read8 (t : Fin cfg0.N) (A : FVec Ideal ⟨2, ![8192, 2816]⟩ .bf16) (r : Fin 8192) (l : Fin 128) :
    ((cfg0.win 8).blk t).view.read (Elt Ideal) A (ix2 r l) = A (ix2 r (ch t l)) := by
  show A _ = A _
  congr 1
  funext a
  refine Fin.cases ?_ (fun b => Fin.cases ?_ (fun z => z.elim0) b) a
  · apply Fin.ext; show win0_8.index t 0 * 8192 + 1 * r.val = r.val; rw [index8]; show 0 * 8192 + 1 * r.val = r.val; omega
  · apply Fin.ext; show win0_8.index t 1 * 128 + 1 * l.val = 128 * t.val + l.val; rw [index8]; show t.val * 128 + 1 * l.val = 128 * t.val + l.val; omega

theorem index9 : ∀ t : Fin cfg0.N, win0_9.index t = ![0, t.val] :=
  (by decide +kernel : ∀ t : Fin grid0.N, win0_9.index t = ![0, t.val])
theorem read9 (t : Fin cfg0.N) (A : FVec Ideal ⟨2, ![8, 2816]⟩ .f32) (r : Fin 8) (l : Fin 128) :
    ((cfg0.win 9).blk t).view.read (Elt Ideal) A (ix2 r l) = A (ix2 r (ch t l)) := by
  show A _ = A _
  congr 1
  funext a
  refine Fin.cases ?_ (fun b => Fin.cases ?_ (fun z => z.elim0) b) a
  · apply Fin.ext; show win0_9.index t 0 * 8 + 1 * r.val = r.val; rw [index9]; show 0 * 8 + 1 * r.val = r.val; omega
  · apply Fin.ext; show win0_9.index t 1 * 128 + 1 * l.val = 128 * t.val + l.val; rw [index9]; show t.val * 128 + 1 * l.val = 128 * t.val + l.val; omega

theorem index10 : ∀ t : Fin cfg0.N, win0_10.index t = ![0, t.val] :=
  (by decide +kernel : ∀ t : Fin grid0.N, win0_10.index t = ![0, t.val])
theorem read10 (t : Fin cfg0.N) (A : FVec Ideal ⟨2, ![8, 2816]⟩ .f32) (r : Fin 8) (l : Fin 128) :
    ((cfg0.win 10).blk t).view.read (Elt Ideal) A (ix2 r l) = A (ix2 r (ch t l)) := by
  show A _ = A _
  congr 1
  funext a
  refine Fin.cases ?_ (fun b => Fin.cases ?_ (fun z => z.elim0) b) a
  · apply Fin.ext; show win0_10.index t 0 * 8 + 1 * r.val = r.val; rw [index10]; show 0 * 8 + 1 * r.val = r.val; omega
  · apply Fin.ext; show win0_10.index t 1 * 128 + 1 * l.val = 128 * t.val + l.val; rw [index10]; show t.val * 128 + 1 * l.val = 128 * t.val + l.val; omega

theorem index11 : ∀ t : Fin cfg0.N, win0_11.index t = ![0, t.val] :=
  (by decide +kernel : ∀ t : Fin grid0.N, win0_11.index t = ![0, t.val])
theorem read11 (t : Fin cfg0.N) (A : FVec Ideal ⟨2, ![1, 2816]⟩ .f32) (r : Fin 1) (l : Fin 128) :
    ((cfg0.win 11).blk t).view.read (Elt Ideal) A (ix2 r l) = A (ix2 r (ch t l)) := by
  show A _ = A _
  congr 1
  funext a
  refine Fin.cases ?_ (fun b => Fin.cases ?_ (fun z => z.elim0) b) a
  · apply Fin.ext; show win0_11.index t 0 * 1 + 1 * r.val = r.val; rw [index11]; show 0 * 1 + 1 * r.val = r.val; omega
  · apply Fin.ext; show win0_11.index t 1 * 128 + 1 * l.val = 128 * t.val + l.val; rw [index11]; show t.val * 128 + 1 * l.val = 128 * t.val + l.val; omega

theorem index12 : ∀ t : Fin cfg0.N, win0_12.index t = ![0, t.val] :=
  (by decide +kernel : ∀ t : Fin grid0.N, win0_12.index t = ![0, t.val])
theorem read12 (t : Fin cfg0.N) (A : FVec Ideal ⟨2, ![1, 2816]⟩ .f32) (r : Fin 1) (l : Fin 128) :
    ((cfg0.win 12).blk t).view.read (Elt Ideal) A (ix2 r l) = A (ix2 r (ch t l)) := by
  show A _ = A _
  congr 1
  funext a
  refine Fin.cases ?_ (fun b => Fin.cases ?_ (fun z => z.elim0) b) a
  · apply Fin.ext; show win0_12.index t 0 * 1 + 1 * r.val = r.val; rw [index12]; show 0 * 1 + 1 * r.val = r.val; omega
  · apply Fin.ext; show win0_12.index t 1 * 128 + 1 * l.val = 128 * t.val + l.val; rw [index12]; show t.val * 128 + 1 * l.val = 128 * t.val + l.val; omega

theorem blk0 (t : Fin cfg0.N) (r : Fin 8192) (l : Fin 128) : iblk m c 0 t (ix2 r l) = a0 m c (ix2 r (ch t l)) :=
  (read0 t (V m c main_arg0) r l).trans (congrFun (V_main_arg0 m c) _)
theorem blk1 (t : Fin cfg0.N) (r : Fin 8192) (l : Fin 128) : iblk m c 1 t (ix2 r l) = a1 m c (ix2 r (ch t l)) :=
  (read1 t (V m c main_arg1) r l).trans (congrFun (V_main_arg1 m c) _)
theorem blk6 (t : Fin cfg0.N) (r : Fin 8192) (l : Fin 128) : iblk m c 6 t (ix2 r l) = a4 m c (ix2 r (ch t l)) :=
  (read6 t (V m c main_arg4) r l).trans (congrFun (V_main_arg4 m c) _)
theorem blk2 (t : Fin cfg0.N) (o : Fin 3) (l : Fin 128) : iblk m c 2 t (ix2 o l) = a2 m c (ix2 o (lo (ch t l))) := by
  refine (read2 t (V m c main_v0) o l).trans ((congrFun (V0 m c) _).trans ?_)
  refine congrArg (a2 m c) (ValueIdx.eq_ix2 _ |>.trans ?_)
  congr 1 <;> apply Fin.ext
  · show 0 + o.val = o.val; omega
  · show 0 + (ch t l).val = (ch t l).val; omega
theorem blk3 (t : Fin cfg0.N) (o : Fin 3) (l : Fin 128) : iblk m c 3 t (ix2 o l) = a2 m c (ix2 o (hi (ch t l))) := by
  refine (read3 t (V m c main_v1) o l).trans ((congrFun (V1 m c) _).trans ?_)
  refine congrArg (a2 m c) (ValueIdx.eq_ix2 _ |>.trans ?_)
  congr 1 <;> apply Fin.ext
  show 0 + o.val = o.val; omega
theorem blk4 (t : Fin cfg0.N) (o : Fin 1) (l : Fin 128) : iblk m c 4 t (ix2 o l) = a3 m c (ix1 (lo (ch t l))) := by
  refine (read4 t (V m c main_v3) o l).trans ((congrFun (V3 m c) _).trans ?_)
  generalize ch t l = j
  obtain rfl : o = 0 := Subsingleton.elim _ _
  generalize a3 m c = x
  revert x
  intro (x : FVec Ideal S5632 .f32)
  have : shapeCast S1x2816 (extractStridedSlice S2816 ![0] x slices_S5632_S2816_0) shapeCasts_S2816_S1x2816 (ix2 0 j) = x (ix1 (lo j)) := by
    pointwise []
    rfl
  exact this
theorem blk5 (t : Fin cfg0.N) (o : Fin 1) (l : Fin 128) : iblk m c 5 t (ix2 o l) = a3 m c (ix1 (hi (ch t l))) := by
  refine (read5 t (V m c main_v5) o l).trans ((congrFun (V5 m c) _).trans ?_)
  generalize ch t l = j
  obtain rfl : o = 0 := Subsingleton.elim _ _
  generalize a3 m c = x
  revert x
  intro (x : FVec Ideal S5632 .f32)
  have : shapeCast S1x2816 (extractStridedSlice S2816 ![2816] x slices_S5632_S2816_2816) shapeCasts_S2816_S1x2816 (ix2 0 j) = x (ix1 (hi j)) := by
    pointwise []
    rfl
  exact this

theorem col0 (t : Fin cfg0.N) (l : Fin 128) : col (iblk m c 0 t) l = chan (a0 m c) (ch t l) := funext fun r => blk0 m c t r l
theorem col1 (t : Fin cfg0.N) (l : Fin 128) : col (iblk m c 1 t) l = chan (a1 m c) (ch t l) := funext fun r => blk1 m c t r l

/-- The gradients of a block's channels are those of the arrays' channels. -/
theorem BG_eq (t : Fin cfg0.N) (l : Fin 128) :
    BG (iblk m c 0 t) (iblk m c 1 t) (iblk m c 2 t) (iblk m c 3 t) (iblk m c 4 t) (iblk m c 5 t) (iblk m c 6 t) l = AG (a0 m c) (a1 m c) (a2 m c) (a3 m c) (a4 m c) (ch t l) := by
  funext r
  unfold BG AG cv
  rw [col0, col1, blk2, blk2, blk2, blk3, blk3, blk3, blk4, blk5, blk6]
theorem BV_eq (t : Fin cfg0.N) (l : Fin 128) :
    BV (iblk m c 0 t) (iblk m c 2 t) (iblk m c 4 t) (iblk m c 6 t) l = AV (a0 m c) (a2 m c) (a3 m c) (a4 m c) (ch t l) := by
  funext r
  unfold BV AV cv
  rw [col0, blk2, blk2, blk2, blk4, blk6]

/-- Every channel is one of a block's. -/
theorem in_block (j : Fin 2816) : ∃ (t : Fin cfg0.N) (l : Fin 128), j = ch t l := by
  have hj := j.isLt
  refine ⟨⟨j.val / 128, Nat.lt_of_lt_of_eq (by omega) N_0.symm⟩, ⟨j.val % 128, Nat.mod_lt _ (by decide)⟩, ?_⟩
  apply Fin.ext; show j.val = 128 * (j.val / 128) + j.val % 128; omega

theorem at_block {n : ℕ} (y : (⟨2, ![n, 2816]⟩ : Shape).Idx) : ∃ (r : Fin n) (t : Fin cfg0.N) (l : Fin 128), y = ix2 r (ch t l) := by
  obtain ⟨t, l, e⟩ := in_block (c1 y)
  exact ⟨c0 y, t, l, (ValueIdx.eq_ix2 y).trans (congrArg (ix2 (c0 y)) e)⟩

theorem arr7 : (dats m 0 c).arrAt 7 cfg0.N = o0 (a0 m c) (a1 m c) (a2 m c) (a3 m c) (a4 m c) := by
  funext y
  obtain ⟨r, t, l, rfl⟩ := at_block (n := 8192) y
  refine (read7 t ((dats m 0 c).arrAt 7 cfg0.N) r l).symm.trans ((congrFun (blocks7 m c t) (ix2 r l)).trans ?_)
  refine (congrFun (out7_eq ..) (ix2 r l)).trans ?_
  show convT _ _ _ _ r = cvT (a2 m c) (lo (ch t l)) (AG (a0 m c) (a1 m c) (a2 m c) (a3 m c) (a4 m c) (ch t l)) r
  unfold cvT
  rw [← blk2, ← blk2, ← blk2, ← BG_eq]
  rfl

theorem arr8 : (dats m 0 c).arrAt 8 cfg0.N = o1 (a0 m c) (a2 m c) (a3 m c) (a4 m c) := by
  funext y
  obtain ⟨r, t, l, rfl⟩ := at_block (n := 8192) y
  refine (read8 t ((dats m 0 c).arrAt 8 cfg0.N) r l).symm.trans ((congrFun (blocks8 m c t) (ix2 r l)).trans ?_)
  refine (congrFun (out8_eq ..) (ix2 r l)).trans ?_
  show convT _ _ _ _ r = cvT (a2 m c) (hi (ch t l)) (AV (a0 m c) (a2 m c) (a3 m c) (a4 m c) (ch t l)) r
  unfold cvT
  rw [← blk3, ← blk3, ← blk3, ← BV_eq]
  rfl

/-- The rows of sums of a block are those of the array. -/
theorem rows3_eq {a b d : Fin 128 → EReal} {a' b' d' : Fin 2816 → EReal} (t : Fin cfg0.N) (ha : ∀ l, a l = a' (ch t l)) (hb : ∀ l, b l = b' (ch t l))
    (hd : ∀ l, d l = d' (ch t l)) (r : Fin 8) (l : Fin 128) : rows3 a b d (ix2 r l) = three a' b' d' (ix2 r (ch t l)) := by
  show (if r.val = 0 then a l else if r.val = 1 then b l else if r.val = 2 then d l else 0) = (if r.val = 0 then a' (ch t l) else if r.val = 1 then b' (ch t l) else if r.val = 2 then d' (ch t l) else 0)
  rw [ha, hb, hd]

theorem arr9 : (dats m 0 c).arrAt 9 cfg0.N = o2 (a0 m c) (a1 m c) (a2 m c) (a3 m c) (a4 m c) := by
  funext y
  obtain ⟨r, t, l, rfl⟩ := at_block (n := 8) y
  refine (read9 t ((dats m 0 c).arrAt 9 cfg0.N) r l).symm.trans ((congrFun (blocks9 m c t) (ix2 r l)).trans ?_)
  refine (congrFun (out9_eq ..) (ix2 r l)).trans (rows3_eq t (fun l => ?_) (fun l => ?_) (fun l => ?_) r l)
  all_goals exact Finset.sum_congr rfl fun r _ => by rw [BG_eq, col0]

theorem arr10 : (dats m 0 c).arrAt 10 cfg0.N = o3 (a0 m c) (a1 m c) (a2 m c) (a3 m c) (a4 m c) := by
  funext y
  obtain ⟨r, t, l, rfl⟩ := at_block (n := 8) y
  refine (read10 t ((dats m 0 c).arrAt 10 cfg0.N) r l).symm.trans ((congrFun (blocks10 m c t) (ix2 r l)).trans ?_)
  refine (congrFun (out10_eq ..) (ix2 r l)).trans (rows3_eq t (fun l => ?_) (fun l => ?_) (fun l => ?_) r l)
  all_goals exact Finset.sum_congr rfl fun r _ => by rw [BV_eq, col1]

theorem arr11 : (dats m 0 c).arrAt 11 cfg0.N = o4 (a0 m c) (a1 m c) (a2 m c) (a3 m c) (a4 m c) := by
  funext y
  obtain ⟨t, l, e⟩ := in_block (c1 (n := 1) (k := 2816) y)
  obtain rfl : y = ix2 0 (ch t l) := (ValueIdx.eq_ix2 y).trans (congrArg₂ ix2 (Subsingleton.elim (α := Fin 1) _ _) e)
  refine (read11 t ((dats m 0 c).arrAt 11 cfg0.N) 0 l).symm.trans ((congrFun (blocks11 m c t) (ix2 0 l)).trans ?_)
  refine (out11_eq ..).trans (Finset.sum_congr rfl fun r _ => ?_)
  rw [BG_eq]; rfl

theorem arr12 : (dats m 0 c).arrAt 12 cfg0.N = o5 (a0 m c) (a2 m c) (a3 m c) (a4 m c) := by
  funext y
  obtain ⟨t, l, e⟩ := in_block (c1 (n := 1) (k := 2816) y)
  obtain rfl : y = ix2 0 (ch t l) := (ValueIdx.eq_ix2 y).trans (congrArg₂ ix2 (Subsingleton.elim (α := Fin 1) _ _) e)
  refine (read12 t ((dats m 0 c).arrAt 12 cfg0.N) 0 l).symm.trans ((congrFun (blocks12 m c t) (ix2 0 l)).trans ?_)
  refine (out12_eq ..).trans (Finset.sum_congr rfl fun r _ => ?_)
  rw [BV_eq]; rfl

end Cert.KernelIdeal.Mine

end
-- ==== Proof.Gate.lean ====
/- The gate's derivative by the chain rule, as differentiation term by term writes it, equals the folded form `dgate` where
   the incoming gradient times the value is a number. -/
module

public import proofs.«01_k».proof.Proof.Spec
public import Idealize.ShloMosaic.Lib.IdealHost

@[expose] public section

noncomputable section

namespace Cert.Spec

open Idealize.ShloMosaic

/-! ## The constants' words as reals -/

theorem cR_real : cR = ((6693141 / 8388608 : ℝ) : EReal) := by
  simp [cR, Ideal.ofBits, Ideal.ieee, -EReal.coe_mul]; norm_num
theorem half_real : half = ((1 / 2 : ℝ) : EReal) := by
  simp [half, Ideal.ofBits, Ideal.ieee, -EReal.coe_mul]; norm_num
theorem three_real : Ideal.ofBits FTy.f32 0x40400000#32 = ((3 : ℝ) : EReal) := by
  simp [Ideal.ofBits, Ideal.ieee, -EReal.coe_mul]; norm_num
theorem num_real : Ideal.ofBits FTy.f32 0x472EAB00#32 = ((44715 : ℝ) : EReal) := by
  simp [Ideal.ofBits, Ideal.ieee, -EReal.coe_mul]; norm_num
theorem den_real : Ideal.ofBits FTy.f32 0x49742400#32 = ((1000000 : ℝ) : EReal) := by
  simp [Ideal.ofBits, Ideal.ieee, -EReal.coe_mul]; norm_num

/-- The coefficient as the quotient of two words. -/
theorem quot_real : Ideal.div (Ideal.ofBits FTy.f32 0x472EAB00#32) (Ideal.ofBits FTy.f32 0x49742400#32) = aR := by
  rw [num_real, den_real, Ideal.div_coe (by norm_num), ← EReal.coe_mul, aR]
  congr 1; norm_num

/-! ## The chain rule -/

/-- One half times one plus the tanh. -/
def sig (g : EReal) : EReal := half * (1 + th g)

/-- The gradient reaching the gate, term by term: through the outer factor, through the cubic's first power and through
    its third power. -/
def chain (g A : EReal) : EReal :=
  A * sig g + cR * (half * (g * A) * ((1 + th g) * (1 - th g)))
    + aR * (cR * (half * (g * A) * ((1 + th g) * (1 - th g)))) * (Ideal.ofBits FTy.f32 0x40400000#32 * (g * g))

theorem th_top : th ⊤ = 1 := by
  have h : cR * (⊤ + aR * (⊤ * ⊤ * ⊤)) = ⊤ := by
    rw [cR_real, aR, EReal.top_mul_top, EReal.top_mul_top, EReal.coe_mul_top_of_pos (by norm_num), EReal.top_add_top,
      EReal.coe_mul_top_of_pos (by norm_num)]
  rw [th, h]; rfl

theorem th_bot : th ⊥ = -1 := by
  have h : cR * (⊥ + aR * (⊥ * ⊥ * ⊥)) = ⊥ := by
    rw [cR_real, aR, EReal.bot_mul_bot, EReal.top_mul_bot, EReal.coe_mul_bot_of_pos (by norm_num), EReal.bot_add,
      EReal.coe_mul_bot_of_pos (by norm_num)]
  rw [th, h]; rfl

theorem one_sub_one : (1 : EReal) - 1 = 0 := by
  rw [← EReal.coe_one, ← EReal.coe_sub, sub_self, EReal.coe_zero]

theorem one_add_neg : (1 : EReal) + -1 = 0 := by
  rw [← sub_eq_add_neg]; exact one_sub_one

/-- Term by term and folded agree, at every gate, where the incoming gradient times the value is a number. -/
theorem chain_eq (g v d : EReal) (A : ℝ) (hA : d * v = (A : EReal)) : chain g (d * v) = dgate g v d := by
  rw [chain, dgate, sig, hA]
  induction g using EReal.rec with
  | bot => simp only [th_bot, one_add_neg, zero_mul, mul_zero, add_zero, neg_mul_neg, one_mul, one_sub_one]
  | top => simp only [th_top, one_sub_one, zero_mul, mul_zero, add_zero, one_mul]
  | coe g =>
    obtain ⟨t, ht⟩ : ∃ t : ℝ, th (g : EReal) = (t : EReal) := by
      refine ⟨Real.tanh (6693141 / 8388608 * (g + 8943 / 200000 * (g * g * g))), ?_⟩
      rw [th, cR_real, aR]; norm_cast
    rw [ht, cR_real, half_real, three_real, aR, a3R, ← EReal.coe_one]
    simp only [← EReal.coe_mul, ← EReal.coe_add, ← EReal.coe_sub]
    congr 1; ring

end Cert.Spec

end

end
-- ==== Proof.RefA.lean ====
/- The reference read, index by index: the two halves side by side, the zero rows before and after, the three shifted products, and the gate. -/
module

public import proofs.«01_k».proof.Proof.Gen.ReferenceIdeal.Read
public import proofs.«01_k».proof.Proof.Arr
public import proofs.«01_k».proof.Proof.Gate
public import Idealize.ShloMosaic.Lib.Pointwise

@[expose] public section

noncomputable section

namespace Cert.ReferenceIdeal.Mine

open Cert.ReferenceIdeal Cert.ReferenceIdeal.Gen Cert.ReferenceIdeal.Read Cert.Spec
open Idealize.ShloMosaic

variable (xg xv : S8192x2816.Idx → EReal) (W : S3x5632.Idx → EReal) (B : S5632.Idx → EReal)
  (dy : S8192x2816.Idx → EReal)

/-- One channel of the two halves side by side. -/
def both (q : Fin 5632) : Col := fun r => val_main_v0 (F := Ideal) xg xv (ix2 r q)

theorem both_lo (j : Fin 2816) : both xg xv (lo j) = chan xg j := by
  funext r
  show val_main_v0 (F := Ideal) xg xv (ix2 r (lo j)) = xg (ix2 r j)
  pointwise [val_main_v0]
  rw [dif_pos (show (lo j).val < 2816 from j.isLt)]
  rfl

theorem both_hi (j : Fin 2816) : both xg xv (hi j) = chan xv j := by
  funext r
  show val_main_v0 (F := Ideal) xg xv (ix2 r (hi j)) = xv (ix2 r j)
  pointwise [val_main_v0]
  have e : (hi j).val = 2816 + j.val := rfl
  rw [dif_neg (by show ¬ (hi j).val < 2816; omega)]
  refine congrArg xv (congrArg₂ ix2 rfl (Fin.ext ?_))
  show (hi j).val - 2816 = j.val
  omega

theorem edged (n : Fin 8194) (q : Fin 5632) :
    val_main_v2 (F := Ideal) xg xv (ix2 n q) = ext (both xg xv q) (n.val + 7) := by
  pointwise [val_main_v2, val_main_v1, val_main_cst]
  unfold ext
  by_cases h0 : n.val < 1
  · rw [dif_pos h0, dif_neg (by omega)]
  · rw [dif_neg h0]
    by_cases h1 : n.val - 1 < 8192
    · rw [dif_pos h1, dif_pos (by omega)]
      show val_main_v0 (F := Ideal) xg xv _ = val_main_v0 (F := Ideal) xg xv _
      refine congrArg _ (congrArg₂ ix2 (Fin.ext ?_) rfl)
      show n.val - 1 = n.val + 7 - 8
      omega
    · rw [dif_neg h1, dif_neg (by omega)]

theorem row_before (r : Fin 8192) (q : Fin 5632) :
    val_main_v7 (F := Ideal) xg xv (ix2 r q) = prev (both xg xv q) r := by
  have h := edged xg xv ⟨r.val, by omega⟩ q
  pointwise [val_main_v7]
  exact h

theorem row_self (r : Fin 8192) (q : Fin 5632) :
    val_main_v15 (F := Ideal) xg xv (ix2 r q) = both xg xv q r := by
  have h := edged xg xv ⟨1 + r.val, by omega⟩ q
  rw [← ext_self (both xg xv q) r]
  pointwise [val_main_v15]
  refine h.trans (congrArg _ ?_)
  show 1 + r.val + 7 = r.val + 8
  omega

theorem row_after (r : Fin 8192) (q : Fin 5632) :
    val_main_v22 (F := Ideal) xg xv (ix2 r q) = next (both xg xv q) r := by
  have h := edged xg xv ⟨2 + r.val, by omega⟩ q
  pointwise [val_main_v22]
  refine h.trans (congrArg _ ?_)
  show 2 + r.val + 7 = r.val + 9
  omega

theorem conv_read (r : Fin 8192) (q : Fin 5632) :
    val_main_v29 (F := Ideal) xg xv W B (ix2 r q) = cv W B q (both xg xv q) r := by
  have h0 := row_before xg xv r q
  have h1 := row_self xg xv r q
  have h2 := row_after xg xv r q
  pointwise [val_main_v29, val_main_v28, val_main_v27, val_main_v26, val_main_v25, val_main_v24, val_main_v23, val_main_v21, val_main_v20, val_main_v19, val_main_v18, val_main_v17, val_main_v16, val_main_v14, val_main_v13, val_main_v12, val_main_v11, val_main_cst_2, val_main_v10, val_main_v9, val_main_v8, val_main_v6, val_main_v5]
  have e : ∀ a b c d : EReal, a + b + c + d = d + b + a + c := by
    intro a b c d; ac_rfl
  refine (congrArg₂ (· + ·) (congrArg₂ (· + ·) (congrArg₂ (· + ·) (congrArg (W (ix2 0 q) * ·) h0) (congrArg (W (ix2 1 q) * ·) h1)) (congrArg (W (ix2 2 q) * ·) h2)) rfl).trans (e _ _ _ _)

theorem gate_read (r : Fin 8192) (j : Fin 2816) :
    val_main_v30 (F := Ideal) xg xv W B (ix2 r j) = cv W B (lo j) (chan xg j) r := by
  have h := conv_read xg xv W B r (lo j)
  rw [both_lo] at h
  pointwise [val_main_v30]
  exact h

theorem value_read (r : Fin 8192) (j : Fin 2816) :
    val_main_v31 (F := Ideal) xg xv W B (ix2 r j) = cv W B (hi j) (chan xv j) r := by
  have h := conv_read xg xv W B r (hi j)
  rw [both_hi] at h
  pointwise [val_main_v31]
  exact h

/-- The gradient reaching the gate, as the chain rule writes it. -/
theorem dgate_read (r : Fin 8192) (j : Fin 2816) :
    val_main_v69 (F := Ideal) xg xv W B dy (ix2 r j)
      = chain (cv W B (lo j) (chan xg j) r) (dy (ix2 r j) * cv W B (hi j) (chan xv j) r) := by
  have h0 := gate_read xg xv W B r j
  have h1 := value_read xg xv W B r j
  rw [← h0, ← h1]
  unfold chain Cert.Spec.sig th
  rw [← quot_real]
  pointwise [val_main_v69, val_main_v68, val_main_v67, val_main_v66, val_main_v65, val_main_v64, val_main_v63, val_main_v62, val_main_v61, val_main_v60, val_main_v59, val_main_v58, val_main_v57, val_main_v56, val_main_v55, val_main_cst_12, val_main_cst_11, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_cst_3, val_main_cst_4, val_main_cst_5, val_main_cst_6, val_main_cst_7, val_main_cst_8, val_main_cst_9, val_main_cst_10]
  rfl

theorem dvalue_read (r : Fin 8192) (j : Fin 2816) :
    val_main_v56 (F := Ideal) xg xv W B dy (ix2 r j) = AV xg W B dy j r := by
  have h0 := gate_read xg xv W B r j
  rw [AV, dvalue, th, ← h0, mul_comm (dy _), ← quot_real]
  pointwise [val_main_v55, val_main_v56, val_main_v53, val_main_v52, val_main_v51, val_main_v50, val_main_v49, val_main_v43, val_main_v42, val_main_v41, val_main_v40, val_main_v39, val_main_v38, val_main_v34, val_main_v33, val_main_v32, val_main_cst_3, val_main_cst_4, val_main_cst_5, val_main_cst_6, val_main_cst_7, val_main_cst_8, val_main_cst_9, val_main_cst_10]
  rfl

end Cert.ReferenceIdeal.Mine

end
-- ==== Proof.RefB.lean ====
/- The reference read, index by index: the sums over the positions, the transposed convolution, and the results. -/
module

public import proofs.«01_k».proof.Proof.RefA

@[expose] public section

noncomputable section

namespace Cert.ReferenceIdeal.Mine

open Cert.ReferenceIdeal Cert.ReferenceIdeal.Gen Cert.ReferenceIdeal.Read Cert.Spec
open Idealize.ShloMosaic

variable (xg xv : S8192x2816.Idx → EReal) (W : S3x5632.Idx → EReal) (B : S5632.Idx → EReal)
  (dy : S8192x2816.Idx → EReal)

/-- One channel of the gradient that reaches the convolution. -/
def back (q : Fin 5632) : Col := fun r => val_main_v70 (F := Ideal) xg xv W B dy (ix2 r q)

theorem back_lo (j : Fin 2816) (r : Fin 8192) :
    back xg xv W B dy (lo j) r = val_main_v69 (F := Ideal) xg xv W B dy (ix2 r j) := by
  show val_main_v70 (F := Ideal) xg xv W B dy (ix2 r (lo j)) = _
  pointwise [val_main_v70]
  rw [dif_pos (show (lo j).val < 2816 from j.isLt)]
  rfl

theorem back_hi (j : Fin 2816) (r : Fin 8192) :
    back xg xv W B dy (hi j) r = val_main_v56 (F := Ideal) xg xv W B dy (ix2 r j) := by
  show val_main_v70 (F := Ideal) xg xv W B dy (ix2 r (hi j)) = _
  pointwise [val_main_v70]
  have e : (hi j).val = 2816 + j.val := rfl
  rw [dif_neg (by show ¬ (hi j).val < 2816; omega)]
  refine congrArg _ (congrArg₂ ix2 rfl (Fin.ext ?_))
  show (hi j).val - 2816 = j.val
  omega

theorem bias_read (q : Fin 5632) :
    val_main_v73 (F := Ideal) xg xv W B dy (ix1 q) = ∑ r, back xg xv W B dy q r := by
  pointwise [val_main_v73, val_main_v72, val_main_v71, val_main_cst_13, val_main_cst_14]
  rw [Fin.sum_univ_one]
  rfl

theorem after_read (q : Fin 5632) :
    val_main_v79 (F := Ideal) xg xv W B dy (ix1 q) = ∑ r, back xg xv W B dy q r * next (both xg xv q) r := by
  pointwise [val_main_v79, val_main_v78, val_main_v77, val_main_v76, val_main_cst_15, val_main_cst_16]
  rw [Fin.sum_univ_one]
  exact Finset.sum_congr rfl fun r _ => congrArg (_ * ·) (row_after xg xv r q)

theorem self_read (q : Fin 5632) :
    val_main_v88 (F := Ideal) xg xv W B dy (ix1 q) = ∑ r, back xg xv W B dy q r * both xg xv q r := by
  pointwise [val_main_v88, val_main_v87, val_main_v86, val_main_v85, val_main_cst_19, val_main_cst_20]
  rw [Fin.sum_univ_one]
  exact Finset.sum_congr rfl fun r _ => congrArg (_ * ·) (row_self xg xv r q)

theorem before_read (q : Fin 5632) :
    val_main_v99 (F := Ideal) xg xv W B dy (ix1 q) = ∑ r, back xg xv W B dy q r * prev (both xg xv q) r := by
  pointwise [val_main_v99, val_main_v98, val_main_v97, val_main_v96, val_main_cst_23, val_main_cst_24]
  rw [Fin.sum_univ_one]
  exact Finset.sum_congr rfl fun r _ => congrArg (_ * ·) (row_before xg xv r q)

theorem taps_read (o : Fin 3) (q : Fin 5632) :
    val_main_v104 (F := Ideal) xg xv W B dy (ix2 o q)
      = if o.val = 0 then ∑ r, back xg xv W B dy q r * prev (both xg xv q) r
        else if o.val = 1 then ∑ r, back xg xv W B dy q r * both xg xv q r
        else ∑ r, back xg xv W B dy q r * next (both xg xv q) r := by
  rw [← after_read, ← self_read, ← before_read]
  pointwise [val_main_v104, val_main_v103, val_main_v102, val_main_v93, val_main_v92, val_main_v91, val_main_v82, val_main_v81, val_main_cst_26, val_main_cst_22, val_main_cst_18]
  have ho := o.isLt
  obtain h | h | h : o.val = 0 ∨ o.val = 1 ∨ o.val = 2 := by omega
  · rw [dif_neg (by omega), dif_neg (by omega), dif_pos (by omega), if_pos h, zero_add, zero_add]
  · rw [dif_neg (by omega), dif_pos (by omega), dif_neg (by omega), if_neg (by omega), if_pos h, zero_add, add_zero]
  · rw [dif_pos (by omega), dif_neg (by omega), dif_neg (by omega), if_neg (by omega), if_neg (by omega), add_zero, add_zero]

theorem turned_read (r : Fin 8192) (q : Fin 5632) :
    val_main_v106 (F := Ideal) xg xv W B dy (ix2 r q) = cvT W q (back xg xv W B dy q) r := by
  pointwise [val_main_v106, val_main_v101, val_main_v100, val_main_v95, val_main_v94, val_main_v90, val_main_v89, val_main_v84, val_main_v83, val_main_v80, val_main_v75, val_main_v74, val_main_cst_25, val_main_cst_21, val_main_cst_17, val_main_v23, val_main_v21, val_main_v20, val_main_v16, val_main_v14, val_main_v13, val_main_v8, val_main_v6, val_main_v5]
  have hr := r.isLt
  have ha : (if h : 2 ≤ 1 + r.val ∧ 1 + r.val - 2 < 8192 then
      W (ix2 2 q) * val_main_v70 (F := Ideal) xg xv W B dy (ix2 ⟨1 + r.val - 2, h.2⟩ q) else 0)
        = W (ix2 2 q) * prev (back xg xv W B dy q) r := by
    unfold prev ext
    by_cases h : 1 ≤ r.val
    · rw [dif_pos (by omega), dif_pos (by omega)]
      refine congrArg (W (ix2 2 q) * ·) (congrArg _ (congrArg₂ ix2 (Fin.ext ?_) rfl))
      show 1 + r.val - 2 = r.val + 7 - 8
      omega
    · rw [dif_neg (by omega), dif_neg (by omega), mul_zero]
  have hb : (if h : 1 + r.val < 8192 then
      W (ix2 0 q) * val_main_v70 (F := Ideal) xg xv W B dy (ix2 ⟨1 + r.val, h⟩ q) else 0)
        = W (ix2 0 q) * next (back xg xv W B dy q) r := by
    unfold next ext
    by_cases h : 1 + r.val < 8192
    · rw [dif_pos h, dif_pos (by omega)]
      refine congrArg (W (ix2 0 q) * ·) (congrArg _ (congrArg₂ ix2 (Fin.ext ?_) rfl))
      show 1 + r.val = r.val + 9 - 8
      omega
    · rw [dif_neg h, dif_neg (by omega), mul_zero]
  refine (congrArg₂ (· + ·) (congrArg₂ (· + ·) ha rfl) hb).trans ?_
  have e : ∀ a b c : EReal, a + b + c = c + b + a := by intro a b c; ac_rfl
  exact e _ _ _

end Cert.ReferenceIdeal.Mine

end
-- ==== Proof.RefC.lean ====
/- The reference's six results, where the incoming gradient times the value is a number everywhere. -/
module

public import proofs.«01_k».proof.Proof.RefB

@[expose] public section

noncomputable section

namespace Cert.ReferenceIdeal.Mine

open Cert.ReferenceIdeal Cert.ReferenceIdeal.Gen Cert.ReferenceIdeal.Read Cert.Spec
open Idealize.ShloMosaic

variable (xg xv : S8192x2816.Idx → EReal) (W : S3x5632.Idx → EReal) (B : S5632.Idx → EReal)
  (dy : S8192x2816.Idx → EReal)

/-- The incoming gradient times the value is a number, everywhere. -/
def Fin' : Prop := ∀ (r : Fin 8192) (j : Fin 2816), ∃ A : ℝ, dy (ix2 r j) * cv W B (hi j) (chan xv j) r = (A : EReal)

variable {xg xv W B dy}

theorem back_gate (h : Fin' xv W B dy) (j : Fin 2816) : back xg xv W B dy (lo j) = AG xg xv W B dy j := by
  funext r
  obtain ⟨A, hA⟩ := h r j
  rw [back_lo, dgate_read, chain_eq _ _ _ A hA, AG]

theorem back_value (j : Fin 2816) : back xg xv W B dy (hi j) = AV xg W B dy j := by
  funext r
  rw [back_hi, dvalue_read]

theorem res0 (h : Fin' xv W B dy) : val_main_v110 (F := Ideal) xg xv W B dy = o0 xg xv W B dy := by
  funext y
  have e := turned_read xg xv W B dy (c0 y) (lo (c1 y))
  rw [back_gate h] at e
  rw [ValueIdx.eq_ix2 y] at *
  pointwise [val_main_v110, val_main_v108]
  exact e

theorem res1 : val_main_v111 (F := Ideal) xg xv W B dy = o1 xg W B dy := by
  funext y
  have e := turned_read xg xv W B dy (c0 y) (hi (c1 y))
  rw [back_value] at e
  rw [ValueIdx.eq_ix2 y] at *
  pointwise [val_main_v111, val_main_v109]
  exact e

/-- The padding word is zero. -/
theorem zero_word : FloatOps.sitofp (F := Ideal) FTy.f32 (0#32) = (0 : EReal) := by
  show (((0#32 : BitVec 32).toInt : ℝ) : EReal) = 0
  simp

/-- Three sums under each other, padded by zeros to eight rows. -/
theorem padded (y : S8x2816.Idx) (f : Fin 3 → EReal) :
    (if h : (y 0).val < 3 then f ⟨(y 0).val, h⟩ else 0)
      = if (y 0).val = 0 then f 0 else if (y 0).val = 1 then f 1 else if (y 0).val = 2 then f 2 else 0 := by
  by_cases h : (y 0).val < 3
  · rw [dif_pos h]
    obtain e | e | e : (y 0).val = 0 ∨ (y 0).val = 1 ∨ (y 0).val = 2 := by omega
    · rw [if_pos e]; exact congrArg f (Fin.ext e)
    · rw [if_neg (by omega), if_pos e]; exact congrArg f (Fin.ext e)
    · rw [if_neg (by omega), if_neg (by omega), if_pos e]; exact congrArg f (Fin.ext e)
  · rw [dif_neg h, if_neg (by omega), if_neg (by omega), if_neg (by omega)]

theorem res2 (h : Fin' xv W B dy) : val_main_v113 (F := Ideal) xg xv W B dy = o2 xg xv W B dy := by
  funext y
  have e := fun o : Fin 3 => taps_read xg xv W B dy o (lo (c1 y))
  rw [back_gate h, both_lo] at e
  have p := padded y (fun o => val_main_v104 (F := Ideal) xg xv W B dy (ix2 o (lo (c1 y))))
  rw [e 0, e 1, e 2] at p
  refine Eq.trans ?_ p
  rw [ValueIdx.eq_ix2 y]
  pointwise [val_main_v113, val_main_v112, val_main_call0_v0, val_main_c]
  rw [zero_word]
  rfl

theorem res3 : val_main_v115 (F := Ideal) xg xv W B dy = o3 xg xv W B dy := by
  funext y
  have e := fun o : Fin 3 => taps_read xg xv W B dy o (hi (c1 y))
  rw [back_value, both_hi] at e
  have p := padded y (fun o => val_main_v104 (F := Ideal) xg xv W B dy (ix2 o (hi (c1 y))))
  rw [e 0, e 1, e 2] at p
  refine Eq.trans ?_ p
  rw [ValueIdx.eq_ix2 y]
  pointwise [val_main_v115, val_main_v114, val_main_call1_v0, val_main_c_27]
  rw [zero_word]
  rfl

theorem res4 (h : Fin' xv W B dy) : val_main_v117 (F := Ideal) xg xv W B dy = o4 xg xv W B dy := by
  funext y
  have e := bias_read xg xv W B dy (lo (c1 y))
  rw [back_gate h] at e
  rw [ValueIdx.eq_ix2 y] at *
  pointwise [val_main_v117, val_main_v116]
  exact e

theorem res5 : val_main_v119 (F := Ideal) xg xv W B dy = o5 xg W B dy := by
  funext y
  have e := bias_read xg xv W B dy (hi (c1 y))
  rw [back_value] at e
  rw [ValueIdx.eq_ix2 y] at *
  pointwise [val_main_v119, val_main_v118]
  exact e

end Cert.ReferenceIdeal.Mine

end
-- ==== Proof.Given.lean ====
/- The precondition read: the value half, the weights, the biases and the incoming gradient are numbers; so is then the
   incoming gradient times the convolved value. -/
module

public import proofs.«01_k».proof.Pre_finite_value_side
public import proofs.«01_k».proof.Proof.RefC

@[expose] public section

noncomputable section

namespace Cert.Pre_finite_value_side.Mine

open Idealize.ShloMosaic Cert.Spec

/-- The predicate's side conditions. -/
theorem facts : Cert.Pre_finite_value_side.Facts where
  bitsLt_bf16_f32 := by decide
  bcast_S_S8192x2816 := by decide
  bcast_S_S3x5632 := by decide
  bcast_S_S5632 := by decide

/-- A number: neither infinity. -/
def Num (x : EReal) : Prop := ∃ a : ℝ, x = (a : EReal)

theorem Num.add {x y : EReal} (hx : Num x) (hy : Num y) : Num (x + y) := by
  obtain ⟨a, rfl⟩ := hx; obtain ⟨b, rfl⟩ := hy; exact ⟨a + b, (EReal.coe_add a b).symm⟩
theorem Num.mul {x y : EReal} (hx : Num x) (hy : Num y) : Num (x * y) := by
  obtain ⟨a, rfl⟩ := hx; obtain ⟨b, rfl⟩ := hy; exact ⟨a * b, (EReal.coe_mul a b).symm⟩
theorem num_ext {x : Col} (h : ∀ r, Num (x r)) (m : ℕ) : Num (ext x m) := by
  unfold ext; split
  · exact h _
  · exact ⟨0, EReal.coe_zero.symm⟩

/-- The convolution of numbers by numbers. -/
theorem num_conv {w0 w1 w2 b : EReal} (h0 : Num w0) (h1 : Num w1) (h2 : Num w2) (hb : Num b) {x : Col} (h : ∀ r, Num (x r))
    (r : Fin 8192) : Num (conv w0 w1 w2 b x r) :=
  ((hb.add (h1.mul (h r))).add (h0.mul (num_ext h _))).add (h2.mul (num_ext h _))

/-- Only a number less itself is zero. -/
theorem num_of (x : EReal) (h : x - x = 0) : Num x := by
  induction x using EReal.rec with
  | bot => exact absurd h (by simp)
  | top => exact absurd h (by simp)
  | coe a => exact ⟨a, rfl⟩

/-- A truth word of one is a truth. -/
theorem of_word {p : Prop} [Decidable p] (h : BitVec.ofBool (decide p) = 1#1) : p := by
  by_contra hp
  rw [decide_eq_false hp] at h
  exact absurd h (by decide)

attribute [local instance] facts

variable {xg xv : S8192x2816.Idx → EReal} {W : S3x5632.Idx → EReal} {B : S5632.Idx → EReal} {dy : S8192x2816.Idx → EReal}

theorem num_value (h : (fn (F := Ideal) xg xv W B dy).1 = fun _ => 1#1) (i : S8192x2816.Idx) : Num (xv i) := by
  have e := congrFun h i
  pointwise [fn] at e
  exact num_of _ (of_word e)

theorem num_weight (h : (fn (F := Ideal) xg xv W B dy).2.1 = fun _ => 1#1) (i : S3x5632.Idx) : Num (W i) := by
  have e := congrFun h i
  pointwise [fn] at e
  exact num_of _ (of_word e)

theorem num_bias (h : (fn (F := Ideal) xg xv W B dy).2.2.1 = fun _ => 1#1) (i : S5632.Idx) : Num (B i) := by
  have e := congrFun h i
  pointwise [fn] at e
  exact num_of _ (of_word e)

theorem num_grad (h : (fn (F := Ideal) xg xv W B dy).2.2.2 = fun _ => 1#1) (i : S8192x2816.Idx) : Num (dy i) := by
  have e := congrFun h i
  pointwise [fn] at e
  exact num_of _ (of_word e)

/-- Under the precondition the incoming gradient times the convolved value is a number everywhere. -/
theorem fin_of (h0 : (fn (F := Ideal) xg xv W B dy).1 = fun _ => 1#1) (h1 : (fn (F := Ideal) xg xv W B dy).2.1 = fun _ => 1#1)
    (h2 : (fn (F := Ideal) xg xv W B dy).2.2.1 = fun _ => 1#1) (h3 : (fn (F := Ideal) xg xv W B dy).2.2.2 = fun _ => 1#1) :
    Cert.ReferenceIdeal.Mine.Fin' xv W B dy := fun r j =>
  (num_grad h3 _).mul (num_conv (num_weight h1 _) (num_weight h1 _) (num_weight h1 _) (num_bias h2 _) (fun r => num_value h0 _) r)

end Cert.Pre_finite_value_side.Mine

end
-- ==== Proof.lean ====
/- The claims: the frames, the two named constants, the products, the optimiser, and the gradient of the gated convolution: the kernel's six results and
   the reference's are the same six functions of the arguments. -/
module

public import proofs.«01_k».proof.Defs
public import proofs.«01_k».proof.Proof.Mm
public import proofs.«01_k».proof.Proof.FrameK
public import proofs.«01_k».proof.Proof.Arrays
public import proofs.«01_k».proof.Proof.Given
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The idealized kernel's frame. -/
theorem frame_ideal : Cert.quiescent_KernelIdeal (hKernelIdeal := Cert.KernelIdeal.Gen.facts) := fun m ρ _ =>
  (θ_run _ _ _).mono (fun _ h => ⟨fun c => (h.1 c).2.2.2.2.2.2, h.2⟩) (Cert.KernelIdeal.Mine.run_all (F := Ideal) m ρ)

/-- The reference's frame: it has no semaphore. -/
theorem frame_reference : Cert.quiescent_ReferenceIdeal (hReferenceIdeal := Cert.ReferenceIdeal.Gen.facts) := fun m ρ _ =>
  (θ_run _ _ _).mono (fun r h => ⟨fun c => (h c).2.2.2.2.2.2, sem_eq_zero_of_no_sems rfl r.2⟩)
    (Cert.ReferenceIdeal.Value.run (F := Ideal) m ρ)

/-- The two named constants. -/
theorem names : Cert.preserves_Kernel_KernelIdeal :=
  ⟨IdealRules.named_const.statement Cert.KernelIdeal.κ "a" .f32 0x3D372713#32 ((8943 / 200000 : ℝ) : EReal) rfl,
    IdealRules.named_const.statement Cert.KernelIdeal.κ "three_a" .f32 0x3E095D4F#32 ((26829 / 200000 : ℝ) : EReal) rfl⟩

open Cert.Spec in
/-- The gradient: both programs end with the same six arrays. -/
theorem gradient : Cert.algebraic_KernelIdeal_ReferenceIdeal_pre_finite_value_side (hKernelIdeal := Cert.KernelIdeal.Gen.facts)
    (hReferenceIdeal := Cert.ReferenceIdeal.Gen.facts) (hPre_finite_value_side := Cert.Pre_finite_value_side.Mine.facts) := by
  intro m ρ m' ρ' hp ha
  let A0 (c) := Cert.KernelIdeal.Mine.a0 m c
  let A1 (c) := Cert.KernelIdeal.Mine.a1 m c
  let A2 (c) := Cert.KernelIdeal.Mine.a2 m c
  let A3 (c) := Cert.KernelIdeal.Mine.a3 m c
  let A4 (c) := Cert.KernelIdeal.Mine.a4 m c
  have hf : ∀ c, Cert.ReferenceIdeal.Mine.Fin' (A1 c) (A2 c) (A3 c) (A4 c) := fun c =>
    Cert.Pre_finite_value_side.Mine.fin_of (hp c).1 (hp c).2.1 (hp c).2.2.1 (hp c).2.2.2
  refine ⟨fun c => o0 (A0 c) (A1 c) (A2 c) (A3 c) (A4 c), fun c => o1 (A0 c) (A2 c) (A3 c) (A4 c),
    fun c => o2 (A0 c) (A1 c) (A2 c) (A3 c) (A4 c), fun c => o3 (A0 c) (A1 c) (A2 c) (A3 c) (A4 c),
    fun c => o4 (A0 c) (A1 c) (A2 c) (A3 c) (A4 c), fun c => o5 (A0 c) (A2 c) (A3 c) (A4 c), ?_, ?_⟩
  · refine (θ_run _ _ _).mono (fun r h c => ?_) (Cert.KernelIdeal.Mine.run_all (F := Ideal) m ρ)
    obtain ⟨h0, h1, h2, h3, h4, h5, hr⟩ := h.1 c
    exact ⟨h0.trans (Cert.KernelIdeal.Mine.arr7 ..), h1.trans (Cert.KernelIdeal.Mine.arr8 ..),
      h2.trans (Cert.KernelIdeal.Mine.arr9 ..), h3.trans (Cert.KernelIdeal.Mine.arr10 ..),
      h4.trans (Cert.KernelIdeal.Mine.arr11 ..), h5.trans (Cert.KernelIdeal.Mine.arr12 ..), hr⟩
  · refine (θ_run _ _ _).mono (fun r h c => ?_) (Cert.ReferenceIdeal.Value.run (F := Ideal) m' ρ')
    obtain ⟨h0, h1, h2, h3, h4, h5, hr⟩ := h c
    obtain ⟨e0, e1, e2, e3, e4⟩ := ha c
    have E : ∀ {α : Sort _} (f : (Cert.ReferenceIdeal.S8192x2816.Idx → EReal) → (Cert.ReferenceIdeal.S8192x2816.Idx → EReal)
        → (Cert.ReferenceIdeal.S3x5632.Idx → EReal) → (Cert.ReferenceIdeal.S5632.Idx → EReal)
        → (Cert.ReferenceIdeal.S8192x2816.Idx → EReal) → α),
        f (m' (c.tc.loc Cert.ReferenceIdeal.main_arg0)) (m' (c.tc.loc Cert.ReferenceIdeal.main_arg1))
          (m' (c.tc.loc Cert.ReferenceIdeal.main_arg2)) (m' (c.tc.loc Cert.ReferenceIdeal.main_arg3))
          (m' (c.tc.loc Cert.ReferenceIdeal.main_arg4)) = f (A0 c) (A1 c) (A2 c) (A3 c) (A4 c) := by
      intro α f
      rw [e0, e1, e2, e3, e4]
    refine ⟨?_, ?_, ?_, ?_, ?_, ?_, hr⟩
    · exact (h0.trans (Cert.ReferenceIdeal.Read.val_main_v110_eq _)).trans ((E (Cert.ReferenceIdeal.Read.val_main_v110 (F := Ideal))).trans (Cert.ReferenceIdeal.Mine.res0 (hf c)))
    · exact (h1.trans (Cert.ReferenceIdeal.Read.val_main_v111_eq _)).trans ((E (Cert.ReferenceIdeal.Read.val_main_v111 (F := Ideal))).trans Cert.ReferenceIdeal.Mine.res1)
    · exact (h2.trans (Cert.ReferenceIdeal.Read.val_main_v113_eq _)).trans ((E (Cert.ReferenceIdeal.Read.val_main_v113 (F := Ideal))).trans (Cert.ReferenceIdeal.Mine.res2 (hf c)))
    · exact (h3.trans (Cert.ReferenceIdeal.Read.val_main_v115_eq _)).trans ((E (Cert.ReferenceIdeal.Read.val_main_v115 (F := Ideal))).trans Cert.ReferenceIdeal.Mine.res3)
    · exact (h4.trans (Cert.ReferenceIdeal.Read.val_main_v117_eq _)).trans ((E (Cert.ReferenceIdeal.Read.val_main_v117 (F := Ideal))).trans (Cert.ReferenceIdeal.Mine.res4 (hf c)))
    · exact (h5.trans (Cert.ReferenceIdeal.Read.val_main_v119_eq _)).trans ((E (Cert.ReferenceIdeal.Read.val_main_v119 (F := Ideal))).trans Cert.ReferenceIdeal.Mine.res5)

/-- Everything. -/
theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.DownDa.Gen.facts, Cert.DownDaIdeal.Gen.facts, Cert.DownDaRefIdeal.Gen.facts,
    Cert.DownDw.Gen.facts, Cert.DownDwIdeal.Gen.facts, Cert.DownDwRefIdeal.Gen.facts,
    Cert.UpDa.Gen.facts, Cert.UpDaIdeal.Gen.facts, Cert.UpDaRefIdeal.Gen.facts,
    Cert.UpDw.Gen.facts, Cert.UpDwIdeal.Gen.facts, Cert.UpDwRefIdeal.Gen.facts,
    Cert.Inner.Gen.facts, Cert.InnerIdeal.Gen.facts, Cert.InnerRefIdeal.Gen.facts,
    Cert.Outer.Gen.facts, Cert.OuterIdeal.Gen.facts, Cert.OuterRefIdeal.Gen.facts,
    Cert.OuterDa.Gen.facts, Cert.OuterDaIdeal.Gen.facts, Cert.OuterDaRefIdeal.Gen.facts,
    Cert.OuterDw.Gen.facts, Cert.OuterDwIdeal.Gen.facts, Cert.OuterDwRefIdeal.Gen.facts,
    Cert.InnerDa.Gen.facts, Cert.InnerDaIdeal.Gen.facts, Cert.InnerDaRefIdeal.Gen.facts,
    Cert.InnerDw.Gen.facts, Cert.InnerDwIdeal.Gen.facts, Cert.InnerDwRefIdeal.Gen.facts,
    Cert.GateDa.Gen.facts, Cert.GateDaIdeal.Gen.facts, Cert.GateDaRefIdeal.Gen.facts,
    Cert.GateDw.Gen.facts, Cert.GateDwIdeal.Gen.facts, Cert.GateDwRefIdeal.Gen.facts,
    Cert.State.Gen.facts, Cert.StateIdeal.Gen.facts, Cert.StateRefIdeal.Gen.facts,
    Cert.StateDa.Gen.facts, Cert.StateDaIdeal.Gen.facts, Cert.StateDaRefIdeal.Gen.facts,
    Cert.StateDw.Gen.facts, Cert.StateDwIdeal.Gen.facts, Cert.StateDwRefIdeal.Gen.facts,
    Cert.HeadDa.Gen.facts, Cert.HeadDaIdeal.Gen.facts, Cert.HeadDaRefIdeal.Gen.facts,
    Cert.HeadDw.Gen.facts, Cert.HeadDwIdeal.Gen.facts, Cert.HeadDwRefIdeal.Gen.facts,
    Cert.Near.Gen.facts, Cert.NearIdeal.Gen.facts, Cert.NearRefIdeal.Gen.facts,
    Cert.MixDa.Gen.facts, Cert.MixDaIdeal.Gen.facts, Cert.MixDaRefIdeal.Gen.facts,
    Cert.MixDw.Gen.facts, Cert.MixDwIdeal.Gen.facts, Cert.MixDwRefIdeal.Gen.facts,
    Cert.AdamNorm.Gen.facts, Cert.AdamNormIdeal.Gen.facts, Cert.AdamNormRefIdeal.Gen.facts,
    Cert.AdamAbIn.Gen.facts, Cert.AdamAbInIdeal.Gen.facts, Cert.AdamAbInRefIdeal.Gen.facts,
    Cert.AdamDecay.Gen.facts, Cert.AdamDecayIdeal.Gen.facts, Cert.AdamDecayRefIdeal.Gen.facts,
    Cert.AdamGain.Gen.facts, Cert.AdamGainIdeal.Gen.facts, Cert.AdamGainRefIdeal.Gen.facts,
    Cert.AdamRpb.Gen.facts, Cert.AdamRpbIdeal.Gen.facts, Cert.AdamRpbRefIdeal.Gen.facts,
    Cert.AdamAbOut.Gen.facts, Cert.AdamAbOutIdeal.Gen.facts, Cert.AdamAbOutRefIdeal.Gen.facts,
    Cert.AdamCIn.Gen.facts, Cert.AdamCInIdeal.Gen.facts, Cert.AdamCInRefIdeal.Gen.facts,
    Cert.AdamCConv.Gen.facts, Cert.AdamCConvIdeal.Gen.facts, Cert.AdamCConvRefIdeal.Gen.facts,
    Cert.AdamCBias.Gen.facts, Cert.AdamCBiasIdeal.Gen.facts, Cert.AdamCBiasRefIdeal.Gen.facts,
    Cert.AdamDt.Gen.facts, Cert.AdamDtIdeal.Gen.facts, Cert.AdamDtRefIdeal.Gen.facts,
    Cert.AdamSkip.Gen.facts, Cert.AdamSkipIdeal.Gen.facts, Cert.AdamSkipRefIdeal.Gen.facts,
    Cert.AdamCOut.Gen.facts, Cert.AdamCOutIdeal.Gen.facts, Cert.AdamCOutRefIdeal.Gen.facts,
    Cert.AdamUp.Gen.facts, Cert.AdamUpIdeal.Gen.facts, Cert.AdamUpRefIdeal.Gen.facts,
    Cert.AdamFConv.Gen.facts, Cert.AdamFConvIdeal.Gen.facts, Cert.AdamFConvRefIdeal.Gen.facts,
    Cert.AdamFBias.Gen.facts, Cert.AdamFBiasIdeal.Gen.facts, Cert.AdamFBiasRefIdeal.Gen.facts,
    Cert.AdamDown.Gen.facts, Cert.AdamDownIdeal.Gen.facts, Cert.AdamDownRefIdeal.Gen.facts,
    Cert.Step.Gen.facts, Cert.StepIdeal.Gen.facts, Cert.StepRefIdeal.Gen.facts,
    Cert.StepDa.Gen.facts, Cert.StepDaIdeal.Gen.facts, Cert.StepDaRefIdeal.Gen.facts,
    Cert.StepDw.Gen.facts, Cert.StepDwIdeal.Gen.facts, Cert.StepDwRefIdeal.Gen.facts,
    Cert.Pair.Gen.facts, Cert.PairIdeal.Gen.facts, Cert.PairRefIdeal.Gen.facts,
    Cert.Loss.Gen.facts, Cert.LossIdeal.Gen.facts, Cert.LossRefIdeal.Gen.facts,
    Cert.LossDy.Gen.facts, Cert.LossDyIdeal.Gen.facts, Cert.LossDyRefIdeal.Gen.facts,
    Cert.Rms.Gen.facts, Cert.RmsIdeal.Gen.facts, Cert.RmsRefIdeal.Gen.facts,
    Cert.Residual.Gen.facts, Cert.ResidualIdeal.Gen.facts, Cert.ResidualRefIdeal.Gen.facts,
    Cert.Joined.Gen.facts, Cert.JoinedIdeal.Gen.facts, Cert.JoinedRefIdeal.Gen.facts,
    Cert.RmsDx.Gen.facts, Cert.RmsDxIdeal.Gen.facts, Cert.RmsDxRefIdeal.Gen.facts,
    Cert.ResidualDx.Gen.facts, Cert.ResidualDxIdeal.Gen.facts, Cert.ResidualDxRefIdeal.Gen.facts,
    Cert.JoinedDx.Gen.facts, Cert.JoinedDxIdeal.Gen.facts, Cert.JoinedDxRefIdeal.Gen.facts,
    Cert.Pre_finite_value_side.Mine.facts,
    frame_kernel, frame_ideal, fun m ρ _ => frame_ideal m ρ trivial,
    frame_reference, fun m ρ _ => frame_reference m ρ trivial, fun m ρ _ => Cert.Up.Gen.frame m ρ,
    fun m ρ _ => Cert.UpIdeal.Gen.frame m ρ, fun m ρ _ => (θ_run _ _ _).mono (fun r h => ⟨fun c => (h c).2, sem_eq_zero_of_no_sems rfl r.2⟩) (Cert.UpRefIdeal.Value.run (F := Ideal) m ρ), fun m ρ _ => Cert.Down.Gen.frame m ρ,
    fun m ρ _ => Cert.DownIdeal.Gen.frame m ρ, fun m ρ _ => (θ_run _ _ _).mono (fun r h => ⟨fun c => (h c).2, sem_eq_zero_of_no_sems rfl r.2⟩) (Cert.DownRefIdeal.Value.run (F := Ideal) m ρ), fun m ρ _ => Cert.DownDa.Gen.frame m ρ,
    fun m ρ _ => Cert.DownDaIdeal.Gen.frame m ρ, fun m ρ _ => (θ_run _ _ _).mono (fun r h => ⟨fun c => (h c).2, sem_eq_zero_of_no_sems rfl r.2⟩) (Cert.DownDaRefIdeal.Value.run (F := Ideal) m ρ), fun m ρ _ => Cert.DownDw.Gen.frame m ρ,
    fun m ρ _ => Cert.DownDwIdeal.Gen.frame m ρ, fun m ρ _ => (θ_run _ _ _).mono (fun r h => ⟨fun c => (h c).2, sem_eq_zero_of_no_sems rfl r.2⟩) (Cert.DownDwRefIdeal.Value.run (F := Ideal) m ρ), fun m ρ _ => Cert.UpDa.Gen.frame m ρ,
    fun m ρ _ => Cert.UpDaIdeal.Gen.frame m ρ, fun m ρ _ => (θ_run _ _ _).mono (fun r h => ⟨fun c => (h c).2, sem_eq_zero_of_no_sems rfl r.2⟩) (Cert.UpDaRefIdeal.Value.run (F := Ideal) m ρ), fun m ρ _ => Cert.UpDw.Gen.frame m ρ,
    fun m ρ _ => Cert.UpDwIdeal.Gen.frame m ρ, fun m ρ _ => (θ_run _ _ _).mono (fun r h => ⟨fun c => (h c).2, sem_eq_zero_of_no_sems rfl r.2⟩) (Cert.UpDwRefIdeal.Value.run (F := Ideal) m ρ), fun m ρ _ => Cert.Inner.Gen.frame m ρ,
    fun m ρ _ => Cert.InnerIdeal.Gen.frame m ρ, fun m ρ _ => (θ_run _ _ _).mono (fun r h => ⟨fun c => (h c).2, sem_eq_zero_of_no_sems rfl r.2⟩) (Cert.InnerRefIdeal.Value.run (F := Ideal) m ρ), fun m ρ _ => Cert.Outer.Gen.frame m ρ,
    fun m ρ _ => Cert.OuterIdeal.Gen.frame m ρ, fun m ρ _ => (θ_run _ _ _).mono (fun r h => ⟨fun c => (h c).2, sem_eq_zero_of_no_sems rfl r.2⟩) (Cert.OuterRefIdeal.Value.run (F := Ideal) m ρ), fun m ρ _ => Cert.OuterDa.Gen.frame m ρ,
    fun m ρ _ => Cert.OuterDaIdeal.Gen.frame m ρ, fun m ρ _ => (θ_run _ _ _).mono (fun r h => ⟨fun c => (h c).2, sem_eq_zero_of_no_sems rfl r.2⟩) (Cert.OuterDaRefIdeal.Value.run (F := Ideal) m ρ), fun m ρ _ => Cert.OuterDw.Gen.frame m ρ,
    fun m ρ _ => Cert.OuterDwIdeal.Gen.frame m ρ, fun m ρ _ => (θ_run _ _ _).mono (fun r h => ⟨fun c => (h c).2, sem_eq_zero_of_no_sems rfl r.2⟩) (Cert.OuterDwRefIdeal.Value.run (F := Ideal) m ρ), fun m ρ _ => Cert.InnerDa.Gen.frame m ρ,
    fun m ρ _ => Cert.InnerDaIdeal.Gen.frame m ρ, fun m ρ _ => (θ_run _ _ _).mono (fun r h => ⟨fun c => (h c).2, sem_eq_zero_of_no_sems rfl r.2⟩) (Cert.InnerDaRefIdeal.Value.run (F := Ideal) m ρ), fun m ρ _ => Cert.InnerDw.Gen.frame m ρ,
    fun m ρ _ => Cert.InnerDwIdeal.Gen.frame m ρ, fun m ρ _ => (θ_run _ _ _).mono (fun r h => ⟨fun c => (h c).2, sem_eq_zero_of_no_sems rfl r.2⟩) (Cert.InnerDwRefIdeal.Value.run (F := Ideal) m ρ), fun m ρ _ => Cert.GateDa.Gen.frame m ρ,
    fun m ρ _ => Cert.GateDaIdeal.Gen.frame m ρ, fun m ρ _ => (θ_run _ _ _).mono (fun r h => ⟨fun c => (h c).2, sem_eq_zero_of_no_sems rfl r.2⟩) (Cert.GateDaRefIdeal.Value.run (F := Ideal) m ρ), fun m ρ _ => Cert.GateDw.Gen.frame m ρ,
    fun m ρ _ => Cert.GateDwIdeal.Gen.frame m ρ, fun m ρ _ => (θ_run _ _ _).mono (fun r h => ⟨fun c => (h c).2, sem_eq_zero_of_no_sems rfl r.2⟩) (Cert.GateDwRefIdeal.Value.run (F := Ideal) m ρ), fun m ρ _ => Cert.State.Gen.frame m ρ,
    fun m ρ _ => Cert.StateIdeal.Gen.frame m ρ, fun m ρ _ => (θ_run _ _ _).mono (fun r h => ⟨fun c => (h c).2, sem_eq_zero_of_no_sems rfl r.2⟩) (Cert.StateRefIdeal.Value.run (F := Ideal) m ρ), fun m ρ _ => Cert.StateDa.Gen.frame m ρ,
    fun m ρ _ => Cert.StateDaIdeal.Gen.frame m ρ, fun m ρ _ => (θ_run _ _ _).mono (fun r h => ⟨fun c => (h c).2, sem_eq_zero_of_no_sems rfl r.2⟩) (Cert.StateDaRefIdeal.Value.run (F := Ideal) m ρ), fun m ρ _ => Cert.StateDw.Gen.frame m ρ,
    fun m ρ _ => Cert.StateDwIdeal.Gen.frame m ρ, fun m ρ _ => (θ_run _ _ _).mono (fun r h => ⟨fun c => (h c).2, sem_eq_zero_of_no_sems rfl r.2⟩) (Cert.StateDwRefIdeal.Value.run (F := Ideal) m ρ), fun m ρ _ => Cert.HeadDa.Gen.frame m ρ,
    fun m ρ _ => Cert.HeadDaIdeal.Gen.frame m ρ, fun m ρ _ => (θ_run _ _ _).mono (fun r h => ⟨fun c => (h c).2, sem_eq_zero_of_no_sems rfl r.2⟩) (Cert.HeadDaRefIdeal.Value.run (F := Ideal) m ρ), fun m ρ _ => Cert.HeadDw.Gen.frame m ρ,
    fun m ρ _ => Cert.HeadDwIdeal.Gen.frame m ρ, fun m ρ _ => (θ_run _ _ _).mono (fun r h => ⟨fun c => (h c).2, sem_eq_zero_of_no_sems rfl r.2⟩) (Cert.HeadDwRefIdeal.Value.run (F := Ideal) m ρ), fun m ρ _ => Cert.Near.Gen.frame m ρ,
    fun m ρ _ => Cert.NearIdeal.Gen.frame m ρ, fun m ρ _ => (θ_run _ _ _).mono (fun r h => ⟨fun c => (h c).2, sem_eq_zero_of_no_sems rfl r.2⟩) (Cert.NearRefIdeal.Value.run (F := Ideal) m ρ), fun m ρ _ => Cert.MixDa.Gen.frame m ρ,
    fun m ρ _ => Cert.MixDaIdeal.Gen.frame m ρ, fun m ρ _ => (θ_run _ _ _).mono (fun r h => ⟨fun c => (h c).2, sem_eq_zero_of_no_sems rfl r.2⟩) (Cert.MixDaRefIdeal.Value.run (F := Ideal) m ρ), fun m ρ _ => Cert.MixDw.Gen.frame m ρ,
    fun m ρ _ => Cert.MixDwIdeal.Gen.frame m ρ, fun m ρ _ => (θ_run _ _ _).mono (fun r h => ⟨fun c => (h c).2, sem_eq_zero_of_no_sems rfl r.2⟩) (Cert.MixDwRefIdeal.Value.run (F := Ideal) m ρ), fun m ρ _ => Cert.AdamNorm.Gen.frame m ρ,
    fun m ρ _ => Cert.AdamNormIdeal.Gen.frame m ρ, fun m ρ _ => (θ_run _ _ _).mono (fun r h => ⟨fun c => (h c).2.2.2, sem_eq_zero_of_no_sems rfl r.2⟩) (Cert.AdamNormRefIdeal.Value.run (F := Ideal) m ρ), fun m ρ _ => Cert.AdamAbIn.Gen.frame m ρ,
    fun m ρ _ => Cert.AdamAbInIdeal.Gen.frame m ρ, fun m ρ _ => (θ_run _ _ _).mono (fun r h => ⟨fun c => (h c).2.2.2, sem_eq_zero_of_no_sems rfl r.2⟩) (Cert.AdamAbInRefIdeal.Value.run (F := Ideal) m ρ), fun m ρ _ => Cert.AdamDecay.Gen.frame m ρ,
    fun m ρ _ => Cert.AdamDecayIdeal.Gen.frame m ρ, fun m ρ _ => (θ_run _ _ _).mono (fun r h => ⟨fun c => (h c).2.2.2, sem_eq_zero_of_no_sems rfl r.2⟩) (Cert.AdamDecayRefIdeal.Value.run (F := Ideal) m ρ), fun m ρ _ => Cert.AdamGain.Gen.frame m ρ,
    fun m ρ _ => Cert.AdamGainIdeal.Gen.frame m ρ, fun m ρ _ => (θ_run _ _ _).mono (fun r h => ⟨fun c => (h c).2.2.2, sem_eq_zero_of_no_sems rfl r.2⟩) (Cert.AdamGainRefIdeal.Value.run (F := Ideal) m ρ), fun m ρ _ => Cert.AdamRpb.Gen.frame m ρ,
    fun m ρ _ => Cert.AdamRpbIdeal.Gen.frame m ρ, fun m ρ _ => (θ_run _ _ _).mono (fun r h => ⟨fun c => (h c).2.2.2, sem_eq_zero_of_no_sems rfl r.2⟩) (Cert.AdamRpbRefIdeal.Value.run (F := Ideal) m ρ), fun m ρ _ => Cert.AdamAbOut.Gen.frame m ρ,
    fun m ρ _ => Cert.AdamAbOutIdeal.Gen.frame m ρ, fun m ρ _ => (θ_run _ _ _).mono (fun r h => ⟨fun c => (h c).2.2.2, sem_eq_zero_of_no_sems rfl r.2⟩) (Cert.AdamAbOutRefIdeal.Value.run (F := Ideal) m ρ), fun m ρ _ => Cert.AdamCIn.Gen.frame m ρ,
    fun m ρ _ => Cert.AdamCInIdeal.Gen.frame m ρ, fun m ρ _ => (θ_run _ _ _).mono (fun r h => ⟨fun c => (h c).2.2.2, sem_eq_zero_of_no_sems rfl r.2⟩) (Cert.AdamCInRefIdeal.Value.run (F := Ideal) m ρ), fun m ρ _ => Cert.AdamCConv.Gen.frame m ρ,
    fun m ρ _ => Cert.AdamCConvIdeal.Gen.frame m ρ, fun m ρ _ => (θ_run _ _ _).mono (fun r h => ⟨fun c => (h c).2.2.2, sem_eq_zero_of_no_sems rfl r.2⟩) (Cert.AdamCConvRefIdeal.Value.run (F := Ideal) m ρ), fun m ρ _ => Cert.AdamCBias.Gen.frame m ρ,
    fun m ρ _ => Cert.AdamCBiasIdeal.Gen.frame m ρ, fun m ρ _ => (θ_run _ _ _).mono (fun r h => ⟨fun c => (h c).2.2.2, sem_eq_zero_of_no_sems rfl r.2⟩) (Cert.AdamCBiasRefIdeal.Value.run (F := Ideal) m ρ), fun m ρ _ => Cert.AdamDt.Gen.frame m ρ,
    fun m ρ _ => Cert.AdamDtIdeal.Gen.frame m ρ, fun m ρ _ => (θ_run _ _ _).mono (fun r h => ⟨fun c => (h c).2.2.2, sem_eq_zero_of_no_sems rfl r.2⟩) (Cert.AdamDtRefIdeal.Value.run (F := Ideal) m ρ), fun m ρ _ => Cert.AdamSkip.Gen.frame m ρ,
    fun m ρ _ => Cert.AdamSkipIdeal.Gen.frame m ρ, fun m ρ _ => (θ_run _ _ _).mono (fun r h => ⟨fun c => (h c).2.2.2, sem_eq_zero_of_no_sems rfl r.2⟩) (Cert.AdamSkipRefIdeal.Value.run (F := Ideal) m ρ), fun m ρ _ => Cert.AdamCOut.Gen.frame m ρ,
    fun m ρ _ => Cert.AdamCOutIdeal.Gen.frame m ρ, fun m ρ _ => (θ_run _ _ _).mono (fun r h => ⟨fun c => (h c).2.2.2, sem_eq_zero_of_no_sems rfl r.2⟩) (Cert.AdamCOutRefIdeal.Value.run (F := Ideal) m ρ), fun m ρ _ => Cert.AdamUp.Gen.frame m ρ,
    fun m ρ _ => Cert.AdamUpIdeal.Gen.frame m ρ, fun m ρ _ => (θ_run _ _ _).mono (fun r h => ⟨fun c => (h c).2.2.2, sem_eq_zero_of_no_sems rfl r.2⟩) (Cert.AdamUpRefIdeal.Value.run (F := Ideal) m ρ), fun m ρ _ => Cert.AdamFConv.Gen.frame m ρ,
    fun m ρ _ => Cert.AdamFConvIdeal.Gen.frame m ρ, fun m ρ _ => (θ_run _ _ _).mono (fun r h => ⟨fun c => (h c).2.2.2, sem_eq_zero_of_no_sems rfl r.2⟩) (Cert.AdamFConvRefIdeal.Value.run (F := Ideal) m ρ), fun m ρ _ => Cert.AdamFBias.Gen.frame m ρ,
    fun m ρ _ => Cert.AdamFBiasIdeal.Gen.frame m ρ, fun m ρ _ => (θ_run _ _ _).mono (fun r h => ⟨fun c => (h c).2.2.2, sem_eq_zero_of_no_sems rfl r.2⟩) (Cert.AdamFBiasRefIdeal.Value.run (F := Ideal) m ρ), fun m ρ _ => Cert.AdamDown.Gen.frame m ρ,
    fun m ρ _ => Cert.AdamDownIdeal.Gen.frame m ρ, fun m ρ _ => (θ_run _ _ _).mono (fun r h => ⟨fun c => (h c).2.2.2, sem_eq_zero_of_no_sems rfl r.2⟩) (Cert.AdamDownRefIdeal.Value.run (F := Ideal) m ρ), fun m ρ _ => Cert.Step.Gen.frame m ρ,
    fun m ρ _ => Cert.StepIdeal.Gen.frame m ρ, fun m ρ _ => (θ_run _ _ _).mono (fun r h => ⟨fun c => (h c).2, sem_eq_zero_of_no_sems rfl r.2⟩) (Cert.StepRefIdeal.Value.run (F := Ideal) m ρ), fun m ρ _ => Cert.StepDa.Gen.frame m ρ,
    fun m ρ _ => Cert.StepDaIdeal.Gen.frame m ρ, fun m ρ _ => (θ_run _ _ _).mono (fun r h => ⟨fun c => (h c).2, sem_eq_zero_of_no_sems rfl r.2⟩) (Cert.StepDaRefIdeal.Value.run (F := Ideal) m ρ), fun m ρ _ => Cert.StepDw.Gen.frame m ρ,
    fun m ρ _ => Cert.StepDwIdeal.Gen.frame m ρ, fun m ρ _ => (θ_run _ _ _).mono (fun r h => ⟨fun c => (h c).2, sem_eq_zero_of_no_sems rfl r.2⟩) (Cert.StepDwRefIdeal.Value.run (F := Ideal) m ρ), fun m ρ _ => Cert.Pair.Gen.frame m ρ,
    fun m ρ _ => Cert.PairIdeal.Gen.frame m ρ, fun m ρ _ => (θ_run _ _ _).mono (fun r h => ⟨fun c => (h c).2, sem_eq_zero_of_no_sems rfl r.2⟩) (Cert.PairRefIdeal.Value.run (F := Ideal) m ρ), fun m ρ _ => Cert.Loss.Gen.frame m ρ,
    fun m ρ _ => Cert.LossIdeal.Gen.frame m ρ, fun m ρ _ => (θ_run _ _ _).mono (fun r h => ⟨fun c => (h c).2, sem_eq_zero_of_no_sems rfl r.2⟩) (Cert.LossRefIdeal.Value.run (F := Ideal) m ρ), fun m ρ _ => Cert.LossDy.Gen.frame m ρ,
    fun m ρ _ => Cert.LossDyIdeal.Gen.frame m ρ, fun m ρ _ => (θ_run _ _ _).mono (fun r h => ⟨fun c => (h c).2, sem_eq_zero_of_no_sems rfl r.2⟩) (Cert.LossDyRefIdeal.Value.run (F := Ideal) m ρ), fun m ρ _ => Cert.Rms.Gen.frame m ρ,
    fun m ρ _ => Cert.RmsIdeal.Gen.frame m ρ, fun m ρ _ => (θ_run _ _ _).mono (fun r h => ⟨fun c => (h c).2, sem_eq_zero_of_no_sems rfl r.2⟩) (Cert.RmsRefIdeal.Value.run (F := Ideal) m ρ), fun m ρ _ => Cert.Residual.Gen.frame m ρ,
    fun m ρ _ => Cert.ResidualIdeal.Gen.frame m ρ, fun m ρ _ => (θ_run _ _ _).mono (fun r h => ⟨fun c => (h c).2, sem_eq_zero_of_no_sems rfl r.2⟩) (Cert.ResidualRefIdeal.Value.run (F := Ideal) m ρ), fun m ρ _ => Cert.Joined.Gen.frame m ρ,
    fun m ρ _ => Cert.JoinedIdeal.Gen.frame m ρ, fun m ρ _ => (θ_run _ _ _).mono (fun r h => ⟨fun c => (h c).2.2, sem_eq_zero_of_no_sems rfl r.2⟩) (Cert.JoinedRefIdeal.Value.run (F := Ideal) m ρ), fun m ρ _ => Cert.RmsDx.Gen.frame m ρ,
    fun m ρ _ => Cert.RmsDxIdeal.Gen.frame m ρ, fun m ρ _ => (θ_run _ _ _).mono (fun r h => ⟨fun c => (h c).2.2, sem_eq_zero_of_no_sems rfl r.2⟩) (Cert.RmsDxRefIdeal.Value.run (F := Ideal) m ρ), fun m ρ _ => Cert.ResidualDx.Gen.frame m ρ,
    fun m ρ _ => Cert.ResidualDxIdeal.Gen.frame m ρ, fun m ρ _ => (θ_run _ _ _).mono (fun r h => ⟨fun c => (h c).2.2.2, sem_eq_zero_of_no_sems rfl r.2⟩) (Cert.ResidualDxRefIdeal.Value.run (F := Ideal) m ρ), fun m ρ _ => Cert.JoinedDx.Gen.frame m ρ,
    fun m ρ _ => Cert.JoinedDxIdeal.Gen.frame m ρ, fun m ρ _ => (θ_run _ _ _).mono (fun r h => ⟨fun c => (h c).2.2.2.2, sem_eq_zero_of_no_sems rfl r.2⟩) (Cert.JoinedDxRefIdeal.Value.run (F := Ideal) m ρ), names,
    gradient, trivial, Cert.Up.Mine.equal,
    trivial, Cert.Down.Mine.equal, trivial,
    Cert.DownDa.Mine.equal, trivial, Cert.DownDw.Mine.equal,
    trivial, Cert.UpDa.Mine.equal, trivial,
    Cert.UpDw.Mine.equal, trivial, Cert.Inner.Mine.equal,
    trivial, Cert.Outer.Mine.equal, trivial,
    Cert.OuterDa.Mine.equal, trivial, Cert.OuterDw.Mine.equal,
    trivial, Cert.InnerDa.Mine.equal, trivial,
    Cert.InnerDw.Mine.equal, trivial, Cert.GateDa.Mine.equal,
    trivial, Cert.GateDw.Mine.equal, trivial,
    Cert.State.Mine.equal, trivial, Cert.StateDa.Mine.equal,
    trivial, Cert.StateDw.Mine.equal, trivial,
    Cert.HeadDa.Mine.equal, trivial, Cert.HeadDw.Mine.equal,
    trivial, Cert.Near.Mine.equal, trivial,
    Cert.MixDa.Mine.equal, trivial, Cert.MixDw.Mine.equal,
    trivial, Cert.AdamNorm.Mine.equal, trivial,
    Cert.AdamAbIn.Mine.equal, trivial, Cert.AdamDecay.Mine.equal,
    trivial, Cert.AdamGain.Mine.equal, trivial,
    Cert.AdamRpb.Mine.equal, trivial, Cert.AdamAbOut.Mine.equal,
    trivial, Cert.AdamCIn.Mine.equal, trivial,
    Cert.AdamCConv.Mine.equal, trivial, Cert.AdamCBias.Mine.equal,
    trivial, Cert.AdamDt.Mine.equal, trivial,
    Cert.AdamSkip.Mine.equal, trivial, Cert.AdamCOut.Mine.equal,
    trivial, Cert.AdamUp.Mine.equal, trivial,
    Cert.AdamFConv.Mine.equal, trivial, Cert.AdamFBias.Mine.equal,
    trivial, Cert.AdamDown.Mine.equal, trivial,
    Cert.Step.Mine.equal, trivial, Cert.StepDa.Mine.equal,
    trivial, Cert.StepDw.Mine.equal, trivial,
    Cert.Pair.Mine.equal, trivial, Cert.Loss.Mine.equal,
    trivial, Cert.LossDy.Mine.equal, trivial,
    Cert.Rms.Mine.equal, trivial, Cert.Residual.Mine.equal,
    trivial, Cert.Joined.Mine.equal, trivial,
    Cert.RmsDx.Mine.equal, trivial, Cert.ResidualDx.Mine.equal,
    trivial, Cert.JoinedDx.Mine.equal⟩

end Cert.Proof

end
